-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_DwWideKernel (m : (ℓ : Loc Cert.DwWideKernel.nD Cert.DwWideKernel.τ Cert.DwWideKernel.sig) → Buf (Elt Bits) ℓ) : Prop :=
  True

def Pre_DwWideKernelIdeal (m : (ℓ : Loc Cert.DwWideKernelIdeal.nD Cert.DwWideKernelIdeal.τ Cert.DwWideKernelIdeal.sig) → Buf (Elt Ideal) ℓ) : Prop :=
  True

def Pre_DwWideReferenceIdeal (m : (ℓ : Loc Cert.DwWideReferenceIdeal.nD Cert.DwWideReferenceIdeal.τ Cert.DwWideReferenceIdeal.sig) → Buf (Elt Ideal) ℓ) : Prop :=
  True

def Pre_YKernel (m : (ℓ : Loc Cert.YKernel.nD Cert.YKernel.τ Cert.YKernel.sig) → Buf (Elt Bits) ℓ) : Prop :=
  True

def Pre_YKernelIdeal (m : (ℓ : Loc Cert.YKernelIdeal.nD Cert.YKernelIdeal.τ Cert.YKernelIdeal.sig) → Buf (Elt Ideal) ℓ) : Prop :=
  True

def Pre_YReferenceIdeal (m : (ℓ : Loc Cert.YReferenceIdeal.nD Cert.YReferenceIdeal.τ Cert.YReferenceIdeal.sig) → Buf (Elt Ideal) ℓ) : Prop :=
  True

def Pre_BigKernel (m : (ℓ : Loc Cert.BigKernel.nD Cert.BigKernel.τ Cert.BigKernel.sig) → Buf (Elt Bits) ℓ) : Prop :=
  True

def Pre_BigKernelIdeal (m : (ℓ : Loc Cert.BigKernelIdeal.nD Cert.BigKernelIdeal.τ Cert.BigKernelIdeal.sig) → Buf (Elt Ideal) ℓ) : Prop :=
  True

def Pre_BigReferenceIdeal (m : (ℓ : Loc Cert.BigReferenceIdeal.nD Cert.BigReferenceIdeal.τ Cert.BigReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_proj [hPre_finite_proj : Cert.Pre_finite_proj.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_proj.fn (F := Ideal) (m ((c.tc : Thread Cert.FwdKernelIdeal.nD Cert.FwdKernelIdeal.τ).loc Cert.FwdKernelIdeal.main_arg0))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_proj [hPre_finite_proj : Cert.Pre_finite_proj.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_proj.fn (F := Ideal) (m ((c.tc : Thread Cert.FwdReferenceIdeal.nD Cert.FwdReferenceIdeal.τ).loc Cert.FwdReferenceIdeal.main_arg0))) = (fun _ => 1#1)

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_AdamAdaKernel (m : (ℓ : Loc Cert.AdamAdaKernel.nD Cert.AdamAdaKernel.τ Cert.AdamAdaKernel.sig) → Buf (Elt Bits) ℓ) : Prop :=
  True

def Pre_AdamAdaKernelIdeal (m : (ℓ : Loc Cert.AdamAdaKernelIdeal.nD Cert.AdamAdaKernelIdeal.τ Cert.AdamAdaKernelIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamConvKernel (m : (ℓ : Loc Cert.AdamConvKernel.nD Cert.AdamConvKernel.τ Cert.AdamConvKernel.sig) → Buf (Elt Bits) ℓ) : Prop :=
  True

def Pre_AdamConvKernelIdeal (m : (ℓ : Loc Cert.AdamConvKernelIdeal.nD Cert.AdamConvKernelIdeal.τ Cert.AdamConvKernelIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamProjKernel (m : (ℓ : Loc Cert.AdamProjKernel.nD Cert.AdamProjKernel.τ Cert.AdamProjKernel.sig) → Buf (Elt Bits) ℓ) : Prop :=
  True

def Pre_AdamProjKernelIdeal (m : (ℓ : Loc Cert.AdamProjKernelIdeal.nD Cert.AdamProjKernelIdeal.τ Cert.AdamProjKernelIdeal.sig) → Buf (Elt Ideal) ℓ) : Prop :=
  True

def Pre_AdamProjReferenceIdeal (m : (ℓ : Loc Cert.AdamProjReferenceIdeal.nD Cert.AdamProjReferenceIdeal.τ Cert.AdamProjReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_DwSmallKernel (m : (ℓ : Loc Cert.DwSmallKernel.nD Cert.DwSmallKernel.τ Cert.DwSmallKernel.sig) → Buf (Elt Bits) ℓ) : Prop :=
  True

def Pre_DwSmallKernelIdeal (m : (ℓ : Loc Cert.DwSmallKernelIdeal.nD Cert.DwSmallKernelIdeal.τ Cert.DwSmallKernelIdeal.sig) → Buf (Elt Ideal) ℓ) : Prop :=
  True

def Pre_DwSmallReferenceIdeal (m : (ℓ : Loc Cert.DwSmallReferenceIdeal.nD Cert.DwSmallReferenceIdeal.τ Cert.DwSmallReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_DwAdaKernel (m : (ℓ : Loc Cert.DwAdaKernel.nD Cert.DwAdaKernel.τ Cert.DwAdaKernel.sig) → Buf (Elt Bits) ℓ) : Prop :=
  True

def Pre_DwAdaKernelIdeal (m : (ℓ : Loc Cert.DwAdaKernelIdeal.nD Cert.DwAdaKernelIdeal.τ Cert.DwAdaKernelIdeal.sig) → Buf (Elt Ideal) ℓ) : Prop :=
  True

def Pre_DwAdaReferenceIdeal (m : (ℓ : Loc Cert.DwAdaReferenceIdeal.nD Cert.DwAdaReferenceIdeal.τ Cert.DwAdaReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeBwdKernel (m : (ℓ : Loc Cert.MergeBwdKernel.nD Cert.MergeBwdKernel.τ Cert.MergeBwdKernel.sig) → Buf (Elt Bits) ℓ) : Prop :=
  True

def Pre_MergeBwdKernelIdeal (m : (ℓ : Loc Cert.MergeBwdKernelIdeal.nD Cert.MergeBwdKernelIdeal.τ Cert.MergeBwdKernelIdeal.sig) → Buf (Elt Ideal) ℓ) : Prop :=
  True

def Pre_MergeBwdKernelIdeal_finite_branches [hPre_finite_branches : Cert.Pre_finite_branches.Facts] (m : (ℓ : Loc Cert.MergeBwdKernelIdeal.nD Cert.MergeBwdKernelIdeal.τ Cert.MergeBwdKernelIdeal.sig) → Buf (Elt Ideal) ℓ) : Prop :=
  ∀ c : Dev Cert.MergeBwdKernelIdeal.nD,
    (Cert.Pre_finite_branches.fn (F := Ideal) (m ((c.tc : Thread Cert.MergeBwdKernelIdeal.nD Cert.MergeBwdKernelIdeal.τ).loc Cert.MergeBwdKernelIdeal.main_arg0)) (m ((c.tc : Thread Cert.MergeBwdKernelIdeal.nD Cert.MergeBwdKernelIdeal.τ).loc Cert.MergeBwdKernelIdeal.main_arg1)) (m ((c.tc : Thread Cert.MergeBwdKernelIdeal.nD Cert.MergeBwdKernelIdeal.τ).loc Cert.MergeBwdKernelIdeal.main_arg2)) (m ((c.tc : Thread Cert.MergeBwdKernelIdeal.nD Cert.MergeBwdKernelIdeal.τ).loc Cert.MergeBwdKernelIdeal.main_arg3))).1 = (fun _ => 1#1)
    ∧ (Cert.Pre_finite_branches.fn (F := Ideal) (m ((c.tc : Thread Cert.MergeBwdKernelIdeal.nD Cert.MergeBwdKernelIdeal.τ).loc Cert.MergeBwdKernelIdeal.main_arg0)) (m ((c.tc : Thread Cert.MergeBwdKernelIdeal.nD Cert.MergeBwdKernelIdeal.τ).loc Cert.MergeBwdKernelIdeal.main_arg1)) (m ((c.tc : Thread Cert.MergeBwdKernelIdeal.nD Cert.MergeBwdKernelIdeal.τ).loc Cert.MergeBwdKernelIdeal.main_arg2)) (m ((c.tc : Thread Cert.MergeBwdKernelIdeal.nD Cert.MergeBwdKernelIdeal.τ).loc Cert.MergeBwdKernelIdeal.main_arg3))).2.1 = (fun _ => 1#1)
    ∧ (Cert.Pre_finite_branches.fn (F := Ideal) (m ((c.tc : Thread Cert.MergeBwdKernelIdeal.nD Cert.MergeBwdKernelIdeal.τ).loc Cert.MergeBwdKernelIdeal.main_arg0)) (m ((c.tc : Thread Cert.MergeBwdKernelIdeal.nD Cert.MergeBwdKernelIdeal.τ).loc Cert.MergeBwdKernelIdeal.main_arg1)) (m ((c.tc : Thread Cert.MergeBwdKernelIdeal.nD Cert.MergeBwdKernelIdeal.τ).loc Cert.MergeBwdKernelIdeal.main_arg2)) (m ((c.tc : Thread Cert.MergeBwdKernelIdeal.nD Cert.MergeBwdKernelIdeal.τ).loc Cert.MergeBwdKernelIdeal.main_arg3))).2.2 = (fun _ => 1#1)

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_MergeBwdReferenceIdeal_finite_branches [hPre_finite_branches : Cert.Pre_finite_branches.Facts] (m : (ℓ : Loc Cert.MergeBwdReferenceIdeal.nD Cert.MergeBwdReferenceIdeal.τ Cert.MergeBwdReferenceIdeal.sig) → Buf (Elt Ideal) ℓ) : Prop :=
  ∀ c : Dev Cert.MergeBwdReferenceIdeal.nD,
    (Cert.Pre_finite_branches.fn (F := Ideal) (m ((c.tc : Thread Cert.MergeBwdReferenceIdeal.nD Cert.MergeBwdReferenceIdeal.τ).loc Cert.MergeBwdReferenceIdeal.main_arg0)) (m ((c.tc : Thread Cert.MergeBwdReferenceIdeal.nD Cert.MergeBwdReferenceIdeal.τ).loc Cert.MergeBwdReferenceIdeal.main_arg1)) (m ((c.tc : Thread Cert.MergeBwdReferenceIdeal.nD Cert.MergeBwdReferenceIdeal.τ).loc Cert.MergeBwdReferenceIdeal.main_arg2)) (m ((c.tc : Thread Cert.MergeBwdReferenceIdeal.nD Cert.MergeBwdReferenceIdeal.τ).loc Cert.MergeBwdReferenceIdeal.main_arg3))).1 = (fun _ => 1#1)
    ∧ (Cert.Pre_finite_branches.fn (F := Ideal) (m ((c.tc : Thread Cert.MergeBwdReferenceIdeal.nD Cert.MergeBwdReferenceIdeal.τ).loc Cert.MergeBwdReferenceIdeal.main_arg0)) (m ((c.tc : Thread Cert.MergeBwdReferenceIdeal.nD Cert.MergeBwdReferenceIdeal.τ).loc Cert.MergeBwdReferenceIdeal.main_arg1)) (m ((c.tc : Thread Cert.MergeBwdReferenceIdeal.nD Cert.MergeBwdReferenceIdeal.τ).loc Cert.MergeBwdReferenceIdeal.main_arg2)) (m ((c.tc : Thread Cert.MergeBwdReferenceIdeal.nD Cert.MergeBwdReferenceIdeal.τ).loc Cert.MergeBwdReferenceIdeal.main_arg3))).2.1 = (fun _ => 1#1)
    ∧ (Cert.Pre_finite_branches.fn (F := Ideal) (m ((c.tc : Thread Cert.MergeBwdReferenceIdeal.nD Cert.MergeBwdReferenceIdeal.τ).loc Cert.MergeBwdReferenceIdeal.main_arg0)) (m ((c.tc : Thread Cert.MergeBwdReferenceIdeal.nD Cert.MergeBwdReferenceIdeal.τ).loc Cert.MergeBwdReferenceIdeal.main_arg1)) (m ((c.tc : Thread Cert.MergeBwdReferenceIdeal.nD Cert.MergeBwdReferenceIdeal.τ).loc Cert.MergeBwdReferenceIdeal.main_arg2)) (m ((c.tc : Thread Cert.MergeBwdReferenceIdeal.nD Cert.MergeBwdReferenceIdeal.τ).loc Cert.MergeBwdReferenceIdeal.main_arg3))).2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4)
      ∧ r.2.mem ((c.tc : Thread Cert.DhKernel.nD Cert.DhKernel.τ).loc Cert.DhKernel.main_arg5) = m ((c.tc : Thread Cert.DhKernel.nD Cert.DhKernel.τ).loc Cert.DhKernel.main_arg5)
      ∧ r.2.mem ((c.tc : Thread Cert.DhKernel.nD Cert.DhKernel.τ).loc Cert.DhKernel.main_arg6) = m ((c.tc : Thread Cert.DhKernel.nD Cert.DhKernel.τ).loc Cert.DhKernel.main_arg6)
      ∧ r.2.mem ((c.tc : Thread Cert.DhKernel.nD Cert.DhKernel.τ).loc Cert.DhKernel.main_arg7) = m ((c.tc : Thread Cert.DhKernel.nD Cert.DhKernel.τ).loc Cert.DhKernel.main_arg7)
      ∧ r.2.mem ((c.tc : Thread Cert.DhKernel.nD Cert.DhKernel.τ).loc Cert.DhKernel.main_arg8) = m ((c.tc : Thread Cert.DhKernel.nD Cert.DhKernel.τ).loc Cert.DhKernel.main_arg8)
      ∧ r.2.mem ((c.tc : Thread Cert.DhKernel.nD Cert.DhKernel.τ).loc Cert.DhKernel.main_arg9) = m ((c.tc : Thread Cert.DhKernel.nD Cert.DhKernel.τ).loc Cert.DhKernel.main_arg9))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6)
      ∧ r.2.mem ((c.tc : Thread Cert.DhKernelIdeal.nD Cert.DhKernelIdeal.τ).loc Cert.DhKernelIdeal.main_arg7) = m ((c.tc : Thread Cert.DhKernelIdeal.nD Cert.DhKernelIdeal.τ).loc Cert.DhKernelIdeal.main_arg7)
      ∧ r.2.mem ((c.tc : Thread Cert.DhKernelIdeal.nD Cert.DhKernelIdeal.τ).loc Cert.DhKernelIdeal.main_arg8) = m ((c.tc : Thread Cert.DhKernelIdeal.nD Cert.DhKernelIdeal.τ).loc Cert.DhKernelIdeal.main_arg8)
      ∧ r.2.mem ((c.tc : Thread Cert.DhKernelIdeal.nD Cert.DhKernelIdeal.τ).loc Cert.DhKernelIdeal.main_arg9) = m ((c.tc : Thread Cert.DhKernelIdeal.nD Cert.DhKernelIdeal.τ).loc Cert.DhKernelIdeal.main_arg9))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6)
      ∧ r.2.mem ((c.tc : Thread Cert.DhReferenceIdeal.nD Cert.DhReferenceIdeal.τ).loc Cert.DhReferenceIdeal.main_arg7) = m ((c.tc : Thread Cert.DhReferenceIdeal.nD Cert.DhReferenceIdeal.τ).loc Cert.DhReferenceIdeal.main_arg7)
      ∧ r.2.mem ((c.tc : Thread Cert.DhReferenceIdeal.nD Cert.DhReferenceIdeal.τ).loc Cert.DhReferenceIdeal.main_arg8) = m ((c.tc : Thread Cert.DhReferenceIdeal.nD Cert.DhReferenceIdeal.τ).loc Cert.DhReferenceIdeal.main_arg8)
      ∧ r.2.mem ((c.tc : Thread Cert.DhReferenceIdeal.nD Cert.DhReferenceIdeal.τ).loc Cert.DhReferenceIdeal.main_arg9) = m ((c.tc : Thread Cert.DhReferenceIdeal.nD Cert.DhReferenceIdeal.τ).loc Cert.DhReferenceIdeal.main_arg9))
      ∧ r.2.sem = fun _ => 0)

def quiescent_DwWideKernel [hDwWideKernel : Cert.DwWideKernel.Facts] : Prop :=
  ∀ (m : (ℓ : Loc Cert.DwWideKernel.nD Cert.DwWideKernel.τ Cert.DwWideKernel.sig) → Buf (Elt Bits) ℓ) (g : Dev Cert.DwWideKernel.nD → PrngReg), Pre_DwWideKernel m →
    θ_run (Cert.DwWideKernel.defs (F := Bits)) (onTc (τ := Cert.DwWideKernel.τ) (Cert.DwWideKernel.main (F := Bits))) ⟨m, fun _ => 0, g⟩ (fun r => (∀ c : Dev Cert.DwWideKernel.nD,
      r.2.mem ((c.tc : Thread Cert.DwWideKernel.nD Cert.DwWideKernel.τ).loc Cert.DwWideKernel.main_arg0) = m ((c.tc : Thread Cert.DwWideKernel.nD Cert.DwWideKernel.τ).loc Cert.DwWideKernel.main_arg0)
      ∧ r.2.mem ((c.tc : Thread Cert.DwWideKernel.nD Cert.DwWideKernel.τ).loc Cert.DwWideKernel.main_arg1) = m ((c.tc : Thread Cert.DwWideKernel.nD Cert.DwWideKernel.τ).loc Cert.DwWideKernel.main_arg1))
      ∧ r.2.sem = fun _ => 0)

def quiescent_DwWideKernelIdeal [hDwWideKernelIdeal : Cert.DwWideKernelIdeal.Facts] : Prop :=
  ∀ (m : (ℓ : Loc Cert.DwWideKernelIdeal.nD Cert.DwWideKernelIdeal.τ Cert.DwWideKernelIdeal.sig) → Buf (Elt Ideal) ℓ) (g : Dev Cert.DwWideKernelIdeal.nD → PrngReg), Pre_DwWideKernelIdeal m →
    θ_run (Cert.DwWideKernelIdeal.defs (F := Ideal)) (onTc (τ := Cert.DwWideKernelIdeal.τ) (Cert.DwWideKernelIdeal.main (F := Ideal))) ⟨m, fun _ => 0, g⟩ (fun r => (∀ c : Dev Cert.DwWideKernelIdeal.nD,
      r.2.mem ((c.tc : Thread Cert.DwWideKernelIdeal.nD Cert.DwWideKernelIdeal.τ).loc Cert.DwWideKernelIdeal.main_arg0) = m ((c.tc : Thread Cert.DwWideKernelIdeal.nD Cert.DwWideKernelIdeal.τ).loc Cert.DwWideKernelIdeal.main_arg0)
      ∧ r.2.mem ((c.tc : Thread Cert.DwWideKernelIdeal.nD Cert.DwWideKernelIdeal.τ).loc Cert.DwWideKernelIdeal.main_arg1) = m ((c.tc : Thread Cert.DwWideKernelIdeal.nD Cert.DwWideKernelIdeal.τ).loc Cert.DwWideKernelIdeal.main_arg1))
      ∧ r.2.sem = fun _ => 0)

def quiescent_DwWideReferenceIdeal [hDwWideReferenceIdeal : Cert.DwWideReferenceIdeal.Facts] : Prop :=
  ∀ (m : (ℓ : Loc Cert.DwWideReferenceIdeal.nD Cert.DwWideReferenceIdeal.τ Cert.DwWideReferenceIdeal.sig) → Buf (Elt Ideal) ℓ) (g : Dev Cert.DwWideReferenceIdeal.nD → PrngReg), Pre_DwWideReferenceIdeal m →
    θ_run (Cert.DwWideReferenceIdeal.defs (F := Ideal)) (onTc (τ := Cert.DwWideReferenceIdeal.τ) (Cert.DwWideReferenceIdeal.main (F := Ideal))) ⟨m, fun _ => 0, g⟩ (fun r => (∀ c : Dev Cert.DwWideReferenceIdeal.nD,
      r.2.mem ((c.tc : Thread Cert.DwWideReferenceIdeal.nD Cert.DwWideReferenceIdeal.τ).loc Cert.DwWideReferenceIdeal.main_arg0) = m ((c.tc : Thread Cert.DwWideReferenceIdeal.nD Cert.DwWideReferenceIdeal.τ).loc Cert.DwWideReferenceIdeal.main_arg0)
      ∧ r.2.mem ((c.tc : Thread Cert.DwWideReferenceIdeal.nD Cert.DwWideReferenceIdeal.τ).loc Cert.DwWideReferenceIdeal.main_arg1) = m ((c.tc : Thread Cert.DwWideReferenceIdeal.nD Cert.DwWideReferenceIdeal.τ).loc Cert.DwWideReferenceIdeal.main_arg1))
      ∧ r.2.sem = fun _ => 0)

def quiescent_YKernel [hYKernel : Cert.YKernel.Facts] : Prop :=
  ∀ (m : (ℓ : Loc Cert.YKernel.nD Cert.YKernel.τ Cert.YKernel.sig) → Buf (Elt Bits) ℓ) (g : Dev Cert.YKernel.nD → PrngReg), Pre_YKernel m →
    θ_run (Cert.YKernel.defs (F := Bits)) (onTc (τ := Cert.YKernel.τ) (Cert.YKernel.main (F := Bits))) ⟨m, fun _ => 0, g⟩ (fun r => (∀ c : Dev Cert.YKernel.nD,
      r.2.mem ((c.tc : Thread Cert.YKernel.nD Cert.YKernel.τ).loc Cert.YKernel.main_arg0) = m ((c.tc : Thread Cert.YKernel.nD Cert.YKernel.τ).loc Cert.YKernel.main_arg0)
      ∧ r.2.mem ((c.tc : Thread Cert.YKernel.nD Cert.YKernel.τ).loc Cert.YKernel.main_arg1) = m ((c.tc : Thread Cert.YKernel.nD Cert.YKernel.τ).loc Cert.YKernel.main_arg1))
      ∧ r.2.sem = fun _ => 0)

def quiescent_YKernelIdeal [hYKernelIdeal : Cert.YKernelIdeal.Facts] : Prop :=
  ∀ (m : (ℓ : Loc Cert.YKernelIdeal.nD Cert.YKernelIdeal.τ Cert.YKernelIdeal.sig) → Buf (Elt Ideal) ℓ) (g : Dev Cert.YKernelIdeal.nD → PrngReg), Pre_YKernelIdeal m →
    θ_run (Cert.YKernelIdeal.defs (F := Ideal)) (onTc (τ := Cert.YKernelIdeal.τ) (Cert.YKernelIdeal.main (F := Ideal))) ⟨m, fun _ => 0, g⟩ (fun r => (∀ c : Dev Cert.YKernelIdeal.nD,
      r.2.mem ((c.tc : Thread Cert.YKernelIdeal.nD Cert.YKernelIdeal.τ).loc Cert.YKernelIdeal.main_arg0) = m ((c.tc : Thread Cert.YKernelIdeal.nD Cert.YKernelIdeal.τ).loc Cert.YKernelIdeal.main_arg0)
      ∧ r.2.mem ((c.tc : Thread Cert.YKernelIdeal.nD Cert.YKernelIdeal.τ).loc Cert.YKernelIdeal.main_arg1) = m ((c.tc : Thread Cert.YKernelIdeal.nD Cert.YKernelIdeal.τ).loc Cert.YKernelIdeal.main_arg1))
      ∧ r.2.sem = fun _ => 0)

def quiescent_YReferenceIdeal [hYReferenceIdeal : Cert.YReferenceIdeal.Facts] : Prop :=
  ∀ (m : (ℓ : Loc Cert.YReferenceIdeal.nD Cert.YReferenceIdeal.τ Cert.YReferenceIdeal.sig) → Buf (Elt Ideal) ℓ) (g : Dev Cert.YReferenceIdeal.nD → PrngReg), Pre_YReferenceIdeal m →
    θ_run (Cert.YReferenceIdeal.defs (F := Ideal)) (onTc (τ := Cert.YReferenceIdeal.τ) (Cert.YReferenceIdeal.main (F := Ideal))) ⟨m, fun _ => 0, g⟩ (fun r => (∀ c : Dev Cert.YReferenceIdeal.nD,
      r.2.mem ((c.tc : Thread Cert.YReferenceIdeal.nD Cert.YReferenceIdeal.τ).loc Cert.YReferenceIdeal.main_arg0) = m ((c.tc : Thread Cert.YReferenceIdeal.nD Cert.YReferenceIdeal.τ).loc Cert.YReferenceIdeal.main_arg0)
      ∧ r.2.mem ((c.tc : Thread Cert.YReferenceIdeal.nD Cert.YReferenceIdeal.τ).loc Cert.YReferenceIdeal.main_arg1) = m ((c.tc : Thread Cert.YReferenceIdeal.nD Cert.YReferenceIdeal.τ).loc Cert.YReferenceIdeal.main_arg1))
      ∧ r.2.sem = fun _ => 0)

def quiescent_BigKernel [hBigKernel : Cert.BigKernel.Facts] : Prop :=
  ∀ (m : (ℓ : Loc Cert.BigKernel.nD Cert.BigKernel.τ Cert.BigKernel.sig) → Buf (Elt Bits) ℓ) (g : Dev Cert.BigKernel.nD → PrngReg), Pre_BigKernel m →
    θ_run (Cert.BigKernel.defs (F := Bits)) (onTc (τ := Cert.BigKernel.τ) (Cert.BigKernel.main (F := Bits))) ⟨m, fun _ => 0, g⟩ (fun r => (∀ c : Dev Cert.BigKernel.nD,
      r.2.mem ((c.tc : Thread Cert.BigKernel.nD Cert.BigKernel.τ).loc Cert.BigKernel.main_arg0) = m ((c.tc : Thread Cert.BigKernel.nD Cert.BigKernel.τ).loc Cert.BigKernel.main_arg0)
      ∧ r.2.mem ((c.tc : Thread Cert.BigKernel.nD Cert.BigKernel.τ).loc Cert.BigKernel.main_arg1) = m ((c.tc : Thread Cert.BigKernel.nD Cert.BigKernel.τ).loc Cert.BigKernel.main_arg1))
      ∧ r.2.sem = fun _ => 0)

def quiescent_BigKernelIdeal [hBigKernelIdeal : Cert.BigKernelIdeal.Facts] : Prop :=
  ∀ (m : (ℓ : Loc Cert.BigKernelIdeal.nD Cert.BigKernelIdeal.τ Cert.BigKernelIdeal.sig) → Buf (Elt Ideal) ℓ) (g : Dev Cert.BigKernelIdeal.nD → PrngReg), Pre_BigKernelIdeal m →
    θ_run (Cert.BigKernelIdeal.defs (F := Ideal)) (onTc (τ := Cert.BigKernelIdeal.τ) (Cert.BigKernelIdeal.main (F := Ideal))) ⟨m, fun _ => 0, g⟩ (fun r => (∀ c : Dev Cert.BigKernelIdeal.nD,
      r.2.mem ((c.tc : Thread Cert.BigKernelIdeal.nD Cert.BigKernelIdeal.τ).loc Cert.BigKernelIdeal.main_arg0) = m ((c.tc : Thread Cert.BigKernelIdeal.nD Cert.BigKernelIdeal.τ).loc Cert.BigKernelIdeal.main_arg0)
      ∧ r.2.mem ((c.tc : Thread Cert.BigKernelIdeal.nD Cert.BigKernelIdeal.τ).loc Cert.BigKernelIdeal.main_arg1) = m ((c.tc : Thread Cert.BigKernelIdeal.nD Cert.BigKernelIdeal.τ).loc Cert.BigKernelIdeal.main_arg1))
      ∧ r.2.sem = fun _ => 0)

def quiescent_BigReferenceIdeal [hBigReferenceIdeal : Cert.BigReferenceIdeal.Facts] : Prop :=
  ∀ (m : (ℓ : Loc Cert.BigReferenceIdeal.nD Cert.BigReferenceIdeal.τ Cert.BigReferenceIdeal.sig) → Buf (Elt Ideal) ℓ) (g : Dev Cert.BigReferenceIdeal.nD → PrngReg), Pre_BigReferenceIdeal m →
    θ_run (Cert.BigReferenceIdeal.defs (F := Ideal)) (onTc (τ := Cert.BigReferenceIdeal.τ) (Cert.BigReferenceIdeal.main (F := Ideal))) ⟨m, fun _ => 0, g⟩ (fun r => (∀ c : Dev Cert.BigReferenceIdeal.nD,
      r.2.mem ((c.tc : Thread Cert.BigReferenceIdeal.nD Cert.BigReferenceIdeal.τ).loc Cert.BigReferenceIdeal.main_arg0) = m ((c.tc : Thread Cert.BigReferenceIdeal.nD Cert.BigReferenceIdeal.τ).loc Cert.BigReferenceIdeal.main_arg0)
      ∧ r.2.mem ((c.tc : Thread Cert.BigReferenceIdeal.nD Cert.BigReferenceIdeal.τ).loc Cert.BigReferenceIdeal.main_arg1) = m ((c.tc : Thread Cert.BigReferenceIdeal.nD Cert.BigReferenceIdeal.τ).loc Cert.BigReferenceIdeal.main_arg1))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0))
      ∧ r.2.sem = fun _ => 0)

def quiescent_FwdKernelIdeal_pre_finite_proj [hFwdKernelIdeal : Cert.FwdKernelIdeal.Facts] [hPre_finite_proj : Cert.Pre_finite_proj.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_proj m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0))
      ∧ r.2.sem = fun _ => 0)

def quiescent_FwdReferenceIdeal_pre_finite_proj [hFwdReferenceIdeal : Cert.FwdReferenceIdeal.Facts] [hPre_finite_proj : Cert.Pre_finite_proj.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_proj m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3)
      ∧ r.2.mem ((c.tc : Thread Cert.AdaKernel.nD Cert.AdaKernel.τ).loc Cert.AdaKernel.main_arg4) = m ((c.tc : Thread Cert.AdaKernel.nD Cert.AdaKernel.τ).loc Cert.AdaKernel.main_arg4)
      ∧ r.2.mem ((c.tc : Thread Cert.AdaKernel.nD Cert.AdaKernel.τ).loc Cert.AdaKernel.main_arg5) = m ((c.tc : Thread Cert.AdaKernel.nD Cert.AdaKernel.τ).loc Cert.AdaKernel.main_arg5))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
      ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4)
      ∧ r.2.mem ((c.tc : Thread Cert.AdaKernelIdeal.nD Cert.AdaKernelIdeal.τ).loc Cert.AdaKernelIdeal.main_arg5) = m ((c.tc : Thread Cert.AdaKernelIdeal.nD Cert.AdaKernelIdeal.τ).loc Cert.AdaKernelIdeal.main_arg5))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4)
      ∧ r.2.mem ((c.tc : Thread Cert.AdaReferenceIdeal.nD Cert.AdaReferenceIdeal.τ).loc Cert.AdaReferenceIdeal.main_arg5) = m ((c.tc : Thread Cert.AdaReferenceIdeal.nD Cert.AdaReferenceIdeal.τ).loc Cert.AdaReferenceIdeal.main_arg5))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_AdamAdaKernel [hAdamAdaKernel : Cert.AdamAdaKernel.Facts] : Prop :=
  ∀ (m : (ℓ : Loc Cert.AdamAdaKernel.nD Cert.AdamAdaKernel.τ Cert.AdamAdaKernel.sig) → Buf (Elt Bits) ℓ) (g : Dev Cert.AdamAdaKernel.nD → PrngReg), Pre_AdamAdaKernel m →
    θ_run (Cert.AdamAdaKernel.defs (F := Bits)) (onTc (τ := Cert.AdamAdaKernel.τ) (Cert.AdamAdaKernel.main (F := Bits))) ⟨m, fun _ => 0, g⟩ (fun r => (∀ c : Dev Cert.AdamAdaKernel.nD,
      r.2.mem ((c.tc : Thread Cert.AdamAdaKernel.nD Cert.AdamAdaKernel.τ).loc Cert.AdamAdaKernel.main_arg0) = m ((c.tc : Thread Cert.AdamAdaKernel.nD Cert.AdamAdaKernel.τ).loc Cert.AdamAdaKernel.main_arg0)
      ∧ r.2.mem ((c.tc : Thread Cert.AdamAdaKernel.nD Cert.AdamAdaKernel.τ).loc Cert.AdamAdaKernel.main_arg1) = m ((c.tc : Thread Cert.AdamAdaKernel.nD Cert.AdamAdaKernel.τ).loc Cert.AdamAdaKernel.main_arg1)
      ∧ r.2.mem ((c.tc : Thread Cert.AdamAdaKernel.nD Cert.AdamAdaKernel.τ).loc Cert.AdamAdaKernel.main_arg2) = m ((c.tc : Thread Cert.AdamAdaKernel.nD Cert.AdamAdaKernel.τ).loc Cert.AdamAdaKernel.main_arg2)
      ∧ r.2.mem ((c.tc : Thread Cert.AdamAdaKernel.nD Cert.AdamAdaKernel.τ).loc Cert.AdamAdaKernel.main_arg3) = m ((c.tc : Thread Cert.AdamAdaKernel.nD Cert.AdamAdaKernel.τ).loc Cert.AdamAdaKernel.main_arg3))
      ∧ r.2.sem = fun _ => 0)

def quiescent_AdamAdaKernelIdeal [hAdamAdaKernelIdeal : Cert.AdamAdaKernelIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg), Pre_AdamAdaKernelIdeal m →
    θ_run (Cert.AdamAdaKernelIdeal.defs (F := Ideal)) (onTc (τ := Cert.AdamAdaKernelIdeal.τ) (Cert.AdamAdaKernelIdeal.main (F := Ideal))) ⟨m, fun _ => 0, g⟩ (fun r => (∀ c : Dev Cert.AdamAdaKernelIdeal.nD,
      r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
      ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
      ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
      ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamConvKernel [hAdamConvKernel : Cert.AdamConvKernel.Facts] : Prop :=
  ∀ (m : (ℓ : Loc Cert.AdamConvKernel.nD Cert.AdamConvKernel.τ Cert.AdamConvKernel.sig) → Buf (Elt Bits) ℓ) (g : Dev Cert.AdamConvKernel.nD → PrngReg), Pre_AdamConvKernel m →
    θ_run (Cert.AdamConvKernel.defs (F := Bits)) (onTc (τ := Cert.AdamConvKernel.τ) (Cert.AdamConvKernel.main (F := Bits))) ⟨m, fun _ => 0, g⟩ (fun r => (∀ c : Dev Cert.AdamConvKernel.nD,
      r.2.mem ((c.tc : Thread Cert.AdamConvKernel.nD Cert.AdamConvKernel.τ).loc Cert.AdamConvKernel.main_arg0) = m ((c.tc : Thread Cert.AdamConvKernel.nD Cert.AdamConvKernel.τ).loc Cert.AdamConvKernel.main_arg0)
      ∧ r.2.mem ((c.tc : Thread Cert.AdamConvKernel.nD Cert.AdamConvKernel.τ).loc Cert.AdamConvKernel.main_arg1) = m ((c.tc : Thread Cert.AdamConvKernel.nD Cert.AdamConvKernel.τ).loc Cert.AdamConvKernel.main_arg1)
      ∧ r.2.mem ((c.tc : Thread Cert.AdamConvKernel.nD Cert.AdamConvKernel.τ).loc Cert.AdamConvKernel.main_arg2) = m ((c.tc : Thread Cert.AdamConvKernel.nD Cert.AdamConvKernel.τ).loc Cert.AdamConvKernel.main_arg2)
      ∧ r.2.mem ((c.tc : Thread Cert.AdamConvKernel.nD Cert.AdamConvKernel.τ).loc Cert.AdamConvKernel.main_arg3) = m ((c.tc : Thread Cert.AdamConvKernel.nD Cert.AdamConvKernel.τ).loc Cert.AdamConvKernel.main_arg3))
      ∧ r.2.sem = fun _ => 0)

def quiescent_AdamConvKernelIdeal [hAdamConvKernelIdeal : Cert.AdamConvKernelIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg), Pre_AdamConvKernelIdeal m →
    θ_run (Cert.AdamConvKernelIdeal.defs (F := Ideal)) (onTc (τ := Cert.AdamConvKernelIdeal.τ) (Cert.AdamConvKernelIdeal.main (F := Ideal))) ⟨m, fun _ => 0, g⟩ (fun r => (∀ c : Dev Cert.AdamConvKernelIdeal.nD,
      r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
      ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
      ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
      ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamProjKernel [hAdamProjKernel : Cert.AdamProjKernel.Facts] : Prop :=
  ∀ (m : (ℓ : Loc Cert.AdamProjKernel.nD Cert.AdamProjKernel.τ Cert.AdamProjKernel.sig) → Buf (Elt Bits) ℓ) (g : Dev Cert.AdamProjKernel.nD → PrngReg), Pre_AdamProjKernel m →
    θ_run (Cert.AdamProjKernel.defs (F := Bits)) (onTc (τ := Cert.AdamProjKernel.τ) (Cert.AdamProjKernel.main (F := Bits))) ⟨m, fun _ => 0, g⟩ (fun r => (∀ c : Dev Cert.AdamProjKernel.nD,
      r.2.mem ((c.tc : Thread Cert.AdamProjKernel.nD Cert.AdamProjKernel.τ).loc Cert.AdamProjKernel.main_arg0) = m ((c.tc : Thread Cert.AdamProjKernel.nD Cert.AdamProjKernel.τ).loc Cert.AdamProjKernel.main_arg0)
      ∧ r.2.mem ((c.tc : Thread Cert.AdamProjKernel.nD Cert.AdamProjKernel.τ).loc Cert.AdamProjKernel.main_arg1) = m ((c.tc : Thread Cert.AdamProjKernel.nD Cert.AdamProjKernel.τ).loc Cert.AdamProjKernel.main_arg1)
      ∧ r.2.mem ((c.tc : Thread Cert.AdamProjKernel.nD Cert.AdamProjKernel.τ).loc Cert.AdamProjKernel.main_arg2) = m ((c.tc : Thread Cert.AdamProjKernel.nD Cert.AdamProjKernel.τ).loc Cert.AdamProjKernel.main_arg2)
      ∧ r.2.mem ((c.tc : Thread Cert.AdamProjKernel.nD Cert.AdamProjKernel.τ).loc Cert.AdamProjKernel.main_arg3) = m ((c.tc : Thread Cert.AdamProjKernel.nD Cert.AdamProjKernel.τ).loc Cert.AdamProjKernel.main_arg3))
      ∧ r.2.sem = fun _ => 0)

def quiescent_AdamProjKernelIdeal [hAdamProjKernelIdeal : Cert.AdamProjKernelIdeal.Facts] : Prop :=
  ∀ (m : (ℓ : Loc Cert.AdamProjKernelIdeal.nD Cert.AdamProjKernelIdeal.τ Cert.AdamProjKernelIdeal.sig) → Buf (Elt Ideal) ℓ) (g : Dev Cert.AdamProjKernelIdeal.nD → PrngReg), Pre_AdamProjKernelIdeal m →
    θ_run (Cert.AdamProjKernelIdeal.defs (F := Ideal)) (onTc (τ := Cert.AdamProjKernelIdeal.τ) (Cert.AdamProjKernelIdeal.main (F := Ideal))) ⟨m, fun _ => 0, g⟩ (fun r => (∀ c : Dev Cert.AdamProjKernelIdeal.nD,
      r.2.mem ((c.tc : Thread Cert.AdamProjKernelIdeal.nD Cert.AdamProjKernelIdeal.τ).loc Cert.AdamProjKernelIdeal.main_arg0) = m ((c.tc : Thread Cert.AdamProjKernelIdeal.nD Cert.AdamProjKernelIdeal.τ).loc Cert.AdamProjKernelIdeal.main_arg0)
      ∧ r.2.mem ((c.tc : Thread Cert.AdamProjKernelIdeal.nD Cert.AdamProjKernelIdeal.τ).loc Cert.AdamProjKernelIdeal.main_arg1) = m ((c.tc : Thread Cert.AdamProjKernelIdeal.nD Cert.AdamProjKernelIdeal.τ).loc Cert.AdamProjKernelIdeal.main_arg1)
      ∧ r.2.mem ((c.tc : Thread Cert.AdamProjKernelIdeal.nD Cert.AdamProjKernelIdeal.τ).loc Cert.AdamProjKernelIdeal.main_arg2) = m ((c.tc : Thread Cert.AdamProjKernelIdeal.nD Cert.AdamProjKernelIdeal.τ).loc Cert.AdamProjKernelIdeal.main_arg2)
      ∧ r.2.mem ((c.tc : Thread Cert.AdamProjKernelIdeal.nD Cert.AdamProjKernelIdeal.τ).loc Cert.AdamProjKernelIdeal.main_arg3) = m ((c.tc : Thread Cert.AdamProjKernelIdeal.nD Cert.AdamProjKernelIdeal.τ).loc Cert.AdamProjKernelIdeal.main_arg3))
      ∧ r.2.sem = fun _ => 0)

def quiescent_AdamProjReferenceIdeal [hAdamProjReferenceIdeal : Cert.AdamProjReferenceIdeal.Facts] : Prop :=
  ∀ (m : (ℓ : Loc Cert.AdamProjReferenceIdeal.nD Cert.AdamProjReferenceIdeal.τ Cert.AdamProjReferenceIdeal.sig) → Buf (Elt Ideal) ℓ) (g : Dev Cert.AdamProjReferenceIdeal.nD → PrngReg), Pre_AdamProjReferenceIdeal m →
    θ_run (Cert.AdamProjReferenceIdeal.defs (F := Ideal)) (onTc (τ := Cert.AdamProjReferenceIdeal.τ) (Cert.AdamProjReferenceIdeal.main (F := Ideal))) ⟨m, fun _ => 0, g⟩ (fun r => (∀ c : Dev Cert.AdamProjReferenceIdeal.nD,
      r.2.mem ((c.tc : Thread Cert.AdamProjReferenceIdeal.nD Cert.AdamProjReferenceIdeal.τ).loc Cert.AdamProjReferenceIdeal.main_arg0) = m ((c.tc : Thread Cert.AdamProjReferenceIdeal.nD Cert.AdamProjReferenceIdeal.τ).loc Cert.AdamProjReferenceIdeal.main_arg0)
      ∧ r.2.mem ((c.tc : Thread Cert.AdamProjReferenceIdeal.nD Cert.AdamProjReferenceIdeal.τ).loc Cert.AdamProjReferenceIdeal.main_arg1) = m ((c.tc : Thread Cert.AdamProjReferenceIdeal.nD Cert.AdamProjReferenceIdeal.τ).loc Cert.AdamProjReferenceIdeal.main_arg1)
      ∧ r.2.mem ((c.tc : Thread Cert.AdamProjReferenceIdeal.nD Cert.AdamProjReferenceIdeal.τ).loc Cert.AdamProjReferenceIdeal.main_arg2) = m ((c.tc : Thread Cert.AdamProjReferenceIdeal.nD Cert.AdamProjReferenceIdeal.τ).loc Cert.AdamProjReferenceIdeal.main_arg2)
      ∧ r.2.mem ((c.tc : Thread Cert.AdamProjReferenceIdeal.nD Cert.AdamProjReferenceIdeal.τ).loc Cert.AdamProjReferenceIdeal.main_arg3) = m ((c.tc : Thread Cert.AdamProjReferenceIdeal.nD Cert.AdamProjReferenceIdeal.τ).loc Cert.AdamProjReferenceIdeal.main_arg3))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1))
      ∧ r.2.sem = fun _ => 0)

def quiescent_DwSmallKernel [hDwSmallKernel : Cert.DwSmallKernel.Facts] : Prop :=
  ∀ (m : (ℓ : Loc Cert.DwSmallKernel.nD Cert.DwSmallKernel.τ Cert.DwSmallKernel.sig) → Buf (Elt Bits) ℓ) (g : Dev Cert.DwSmallKernel.nD → PrngReg), Pre_DwSmallKernel m →
    θ_run (Cert.DwSmallKernel.defs (F := Bits)) (onTc (τ := Cert.DwSmallKernel.τ) (Cert.DwSmallKernel.main (F := Bits))) ⟨m, fun _ => 0, g⟩ (fun r => (∀ c : Dev Cert.DwSmallKernel.nD,
      r.2.mem ((c.tc : Thread Cert.DwSmallKernel.nD Cert.DwSmallKernel.τ).loc Cert.DwSmallKernel.main_arg0) = m ((c.tc : Thread Cert.DwSmallKernel.nD Cert.DwSmallKernel.τ).loc Cert.DwSmallKernel.main_arg0)
      ∧ r.2.mem ((c.tc : Thread Cert.DwSmallKernel.nD Cert.DwSmallKernel.τ).loc Cert.DwSmallKernel.main_arg1) = m ((c.tc : Thread Cert.DwSmallKernel.nD Cert.DwSmallKernel.τ).loc Cert.DwSmallKernel.main_arg1))
      ∧ r.2.sem = fun _ => 0)

def quiescent_DwSmallKernelIdeal [hDwSmallKernelIdeal : Cert.DwSmallKernelIdeal.Facts] : Prop :=
  ∀ (m : (ℓ : Loc Cert.DwSmallKernelIdeal.nD Cert.DwSmallKernelIdeal.τ Cert.DwSmallKernelIdeal.sig) → Buf (Elt Ideal) ℓ) (g : Dev Cert.DwSmallKernelIdeal.nD → PrngReg), Pre_DwSmallKernelIdeal m →
    θ_run (Cert.DwSmallKernelIdeal.defs (F := Ideal)) (onTc (τ := Cert.DwSmallKernelIdeal.τ) (Cert.DwSmallKernelIdeal.main (F := Ideal))) ⟨m, fun _ => 0, g⟩ (fun r => (∀ c : Dev Cert.DwSmallKernelIdeal.nD,
      r.2.mem ((c.tc : Thread Cert.DwSmallKernelIdeal.nD Cert.DwSmallKernelIdeal.τ).loc Cert.DwSmallKernelIdeal.main_arg0) = m ((c.tc : Thread Cert.DwSmallKernelIdeal.nD Cert.DwSmallKernelIdeal.τ).loc Cert.DwSmallKernelIdeal.main_arg0)
      ∧ r.2.mem ((c.tc : Thread Cert.DwSmallKernelIdeal.nD Cert.DwSmallKernelIdeal.τ).loc Cert.DwSmallKernelIdeal.main_arg1) = m ((c.tc : Thread Cert.DwSmallKernelIdeal.nD Cert.DwSmallKernelIdeal.τ).loc Cert.DwSmallKernelIdeal.main_arg1))
      ∧ r.2.sem = fun _ => 0)

def quiescent_DwSmallReferenceIdeal [hDwSmallReferenceIdeal : Cert.DwSmallReferenceIdeal.Facts] : Prop :=
  ∀ (m : (ℓ : Loc Cert.DwSmallReferenceIdeal.nD Cert.DwSmallReferenceIdeal.τ Cert.DwSmallReferenceIdeal.sig) → Buf (Elt Ideal) ℓ) (g : Dev Cert.DwSmallReferenceIdeal.nD → PrngReg), Pre_DwSmallReferenceIdeal m →
    θ_run (Cert.DwSmallReferenceIdeal.defs (F := Ideal)) (onTc (τ := Cert.DwSmallReferenceIdeal.τ) (Cert.DwSmallReferenceIdeal.main (F := Ideal))) ⟨m, fun _ => 0, g⟩ (fun r => (∀ c : Dev Cert.DwSmallReferenceIdeal.nD,
      r.2.mem ((c.tc : Thread Cert.DwSmallReferenceIdeal.nD Cert.DwSmallReferenceIdeal.τ).loc Cert.DwSmallReferenceIdeal.main_arg0) = m ((c.tc : Thread Cert.DwSmallReferenceIdeal.nD Cert.DwSmallReferenceIdeal.τ).loc Cert.DwSmallReferenceIdeal.main_arg0)
      ∧ r.2.mem ((c.tc : Thread Cert.DwSmallReferenceIdeal.nD Cert.DwSmallReferenceIdeal.τ).loc Cert.DwSmallReferenceIdeal.main_arg1) = m ((c.tc : Thread Cert.DwSmallReferenceIdeal.nD Cert.DwSmallReferenceIdeal.τ).loc Cert.DwSmallReferenceIdeal.main_arg1))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_DwAdaKernel [hDwAdaKernel : Cert.DwAdaKernel.Facts] : Prop :=
  ∀ (m : (ℓ : Loc Cert.DwAdaKernel.nD Cert.DwAdaKernel.τ Cert.DwAdaKernel.sig) → Buf (Elt Bits) ℓ) (g : Dev Cert.DwAdaKernel.nD → PrngReg), Pre_DwAdaKernel m →
    θ_run (Cert.DwAdaKernel.defs (F := Bits)) (onTc (τ := Cert.DwAdaKernel.τ) (Cert.DwAdaKernel.main (F := Bits))) ⟨m, fun _ => 0, g⟩ (fun r => (∀ c : Dev Cert.DwAdaKernel.nD,
      r.2.mem ((c.tc : Thread Cert.DwAdaKernel.nD Cert.DwAdaKernel.τ).loc Cert.DwAdaKernel.main_arg0) = m ((c.tc : Thread Cert.DwAdaKernel.nD Cert.DwAdaKernel.τ).loc Cert.DwAdaKernel.main_arg0)
      ∧ r.2.mem ((c.tc : Thread Cert.DwAdaKernel.nD Cert.DwAdaKernel.τ).loc Cert.DwAdaKernel.main_arg1) = m ((c.tc : Thread Cert.DwAdaKernel.nD Cert.DwAdaKernel.τ).loc Cert.DwAdaKernel.main_arg1))
      ∧ r.2.sem = fun _ => 0)

def quiescent_DwAdaKernelIdeal [hDwAdaKernelIdeal : Cert.DwAdaKernelIdeal.Facts] : Prop :=
  ∀ (m : (ℓ : Loc Cert.DwAdaKernelIdeal.nD Cert.DwAdaKernelIdeal.τ Cert.DwAdaKernelIdeal.sig) → Buf (Elt Ideal) ℓ) (g : Dev Cert.DwAdaKernelIdeal.nD → PrngReg), Pre_DwAdaKernelIdeal m →
    θ_run (Cert.DwAdaKernelIdeal.defs (F := Ideal)) (onTc (τ := Cert.DwAdaKernelIdeal.τ) (Cert.DwAdaKernelIdeal.main (F := Ideal))) ⟨m, fun _ => 0, g⟩ (fun r => (∀ c : Dev Cert.DwAdaKernelIdeal.nD,
      r.2.mem ((c.tc : Thread Cert.DwAdaKernelIdeal.nD Cert.DwAdaKernelIdeal.τ).loc Cert.DwAdaKernelIdeal.main_arg0) = m ((c.tc : Thread Cert.DwAdaKernelIdeal.nD Cert.DwAdaKernelIdeal.τ).loc Cert.DwAdaKernelIdeal.main_arg0)
      ∧ r.2.mem ((c.tc : Thread Cert.DwAdaKernelIdeal.nD Cert.DwAdaKernelIdeal.τ).loc Cert.DwAdaKernelIdeal.main_arg1) = m ((c.tc : Thread Cert.DwAdaKernelIdeal.nD Cert.DwAdaKernelIdeal.τ).loc Cert.DwAdaKernelIdeal.main_arg1))
      ∧ r.2.sem = fun _ => 0)

def quiescent_DwAdaReferenceIdeal [hDwAdaReferenceIdeal : Cert.DwAdaReferenceIdeal.Facts] : Prop :=
  ∀ (m : (ℓ : Loc Cert.DwAdaReferenceIdeal.nD Cert.DwAdaReferenceIdeal.τ Cert.DwAdaReferenceIdeal.sig) → Buf (Elt Ideal) ℓ) (g : Dev Cert.DwAdaReferenceIdeal.nD → PrngReg), Pre_DwAdaReferenceIdeal m →
    θ_run (Cert.DwAdaReferenceIdeal.defs (F := Ideal)) (onTc (τ := Cert.DwAdaReferenceIdeal.τ) (Cert.DwAdaReferenceIdeal.main (F := Ideal))) ⟨m, fun _ => 0, g⟩ (fun r => (∀ c : Dev Cert.DwAdaReferenceIdeal.nD,
      r.2.mem ((c.tc : Thread Cert.DwAdaReferenceIdeal.nD Cert.DwAdaReferenceIdeal.τ).loc Cert.DwAdaReferenceIdeal.main_arg0) = m ((c.tc : Thread Cert.DwAdaReferenceIdeal.nD Cert.DwAdaReferenceIdeal.τ).loc Cert.DwAdaReferenceIdeal.main_arg0)
      ∧ r.2.mem ((c.tc : Thread Cert.DwAdaReferenceIdeal.nD Cert.DwAdaReferenceIdeal.τ).loc Cert.DwAdaReferenceIdeal.main_arg1) = m ((c.tc : Thread Cert.DwAdaReferenceIdeal.nD Cert.DwAdaReferenceIdeal.τ).loc Cert.DwAdaReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def quiescent_MergeBwdKernel [hMergeBwdKernel : Cert.MergeBwdKernel.Facts] : Prop :=
  ∀ (m : (ℓ : Loc Cert.MergeBwdKernel.nD Cert.MergeBwdKernel.τ Cert.MergeBwdKernel.sig) → Buf (Elt Bits) ℓ) (g : Dev Cert.MergeBwdKernel.nD → PrngReg), Pre_MergeBwdKernel m →
    θ_run (Cert.MergeBwdKernel.defs (F := Bits)) (onTc (τ := Cert.MergeBwdKernel.τ) (Cert.MergeBwdKernel.main (F := Bits))) ⟨m, fun _ => 0, g⟩ (fun r => (∀ c : Dev Cert.MergeBwdKernel.nD,
      r.2.mem ((c.tc : Thread Cert.MergeBwdKernel.nD Cert.MergeBwdKernel.τ).loc Cert.MergeBwdKernel.main_arg0) = m ((c.tc : Thread Cert.MergeBwdKernel.nD Cert.MergeBwdKernel.τ).loc Cert.MergeBwdKernel.main_arg0)
      ∧ r.2.mem ((c.tc : Thread Cert.MergeBwdKernel.nD Cert.MergeBwdKernel.τ).loc Cert.MergeBwdKernel.main_arg1) = m ((c.tc : Thread Cert.MergeBwdKernel.nD Cert.MergeBwdKernel.τ).loc Cert.MergeBwdKernel.main_arg1)
      ∧ r.2.mem ((c.tc : Thread Cert.MergeBwdKernel.nD Cert.MergeBwdKernel.τ).loc Cert.MergeBwdKernel.main_arg2) = m ((c.tc : Thread Cert.MergeBwdKernel.nD Cert.MergeBwdKernel.τ).loc Cert.MergeBwdKernel.main_arg2)
      ∧ r.2.mem ((c.tc : Thread Cert.MergeBwdKernel.nD Cert.MergeBwdKernel.τ).loc Cert.MergeBwdKernel.main_arg3) = m ((c.tc : Thread Cert.MergeBwdKernel.nD Cert.MergeBwdKernel.τ).loc Cert.MergeBwdKernel.main_arg3))
      ∧ r.2.sem = fun _ => 0)

def quiescent_MergeBwdKernelIdeal [hMergeBwdKernelIdeal : Cert.MergeBwdKernelIdeal.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg), Pre_MergeBwdKernelIdeal m →
    θ_run (Cert.MergeBwdKernelIdeal.defs (F := Ideal)) (onTc (τ := Cert.MergeBwdKernelIdeal.τ) (Cert.MergeBwdKernelIdeal.main (F := Ideal))) ⟨m, fun _ => 0, g⟩ (fun r => (∀ c : Dev Cert.MergeBwdKernelIdeal.nD,
      r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
      ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
      ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
      ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3))
      ∧ r.2.sem = fun _ => 0)

def quiescent_MergeBwdKernelIdeal_pre_finite_branches [hMergeBwdKernelIdeal : Cert.MergeBwdKernelIdeal.Facts] [hPre_finite_branches : Cert.Pre_finite_branches.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg), Pre_MergeBwdKernelIdeal_finite_branches m →
    θ_run (Cert.MergeBwdKernelIdeal.defs (F := Ideal)) (onTc (τ := Cert.MergeBwdKernelIdeal.τ) (Cert.MergeBwdKernelIdeal.main (F := Ideal))) ⟨m, fun _ => 0, g⟩ (fun r => (∀ c : Dev Cert.MergeBwdKernelIdeal.nD,
      r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
      ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
      ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
      ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3))
      ∧ r.2.sem = fun _ => 0)

def quiescent_MergeBwdReferenceIdeal_pre_finite_branches [hMergeBwdReferenceIdeal : Cert.MergeBwdReferenceIdeal.Facts] [hPre_finite_branches : Cert.Pre_finite_branches.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal_finite_branches m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)) →
    ∃ (v0 : (c : Dev Cert.DxKernelIdeal.nD) → Buf (Elt Ideal) ((c.tc : Thread Cert.DxKernelIdeal.nD Cert.DxKernelIdeal.τ).loc Cert.DxKernelIdeal.main_v0)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v0) = v0 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v2) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v3) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)
      ∧ m' ((c.tc : Thread Cert.DhReferenceIdeal.nD Cert.DhReferenceIdeal.τ).loc Cert.DhReferenceIdeal.main_arg5) = m ((c.tc : Thread Cert.DhKernelIdeal.nD Cert.DhKernelIdeal.τ).loc Cert.DhKernelIdeal.main_arg5)
      ∧ m' ((c.tc : Thread Cert.DhReferenceIdeal.nD Cert.DhReferenceIdeal.τ).loc Cert.DhReferenceIdeal.main_arg6) = m ((c.tc : Thread Cert.DhKernelIdeal.nD Cert.DhKernelIdeal.τ).loc Cert.DhKernelIdeal.main_arg6)
      ∧ m' ((c.tc : Thread Cert.DhReferenceIdeal.nD Cert.DhReferenceIdeal.τ).loc Cert.DhReferenceIdeal.main_arg7) = m ((c.tc : Thread Cert.DhKernelIdeal.nD Cert.DhKernelIdeal.τ).loc Cert.DhKernelIdeal.main_arg7)
      ∧ m' ((c.tc : Thread Cert.DhReferenceIdeal.nD Cert.DhReferenceIdeal.τ).loc Cert.DhReferenceIdeal.main_arg8) = m ((c.tc : Thread Cert.DhKernelIdeal.nD Cert.DhKernelIdeal.τ).loc Cert.DhKernelIdeal.main_arg8)
      ∧ m' ((c.tc : Thread Cert.DhReferenceIdeal.nD Cert.DhReferenceIdeal.τ).loc Cert.DhReferenceIdeal.main_arg9) = m ((c.tc : Thread Cert.DhKernelIdeal.nD Cert.DhKernelIdeal.τ).loc Cert.DhKernelIdeal.main_arg9)) →
    ∃ (v0 : (c : Dev Cert.DhKernelIdeal.nD) → Buf (Elt Ideal) ((c.tc : Thread Cert.DhKernelIdeal.nD Cert.DhKernelIdeal.τ).loc Cert.DhKernelIdeal.main_v5)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v5) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
          ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
          ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6)
          ∧ r.2.mem ((c.tc : Thread Cert.DhKernelIdeal.nD Cert.DhKernelIdeal.τ).loc Cert.DhKernelIdeal.main_arg7) = m ((c.tc : Thread Cert.DhKernelIdeal.nD Cert.DhKernelIdeal.τ).loc Cert.DhKernelIdeal.main_arg7)
          ∧ r.2.mem ((c.tc : Thread Cert.DhKernelIdeal.nD Cert.DhKernelIdeal.τ).loc Cert.DhKernelIdeal.main_arg8) = m ((c.tc : Thread Cert.DhKernelIdeal.nD Cert.DhKernelIdeal.τ).loc Cert.DhKernelIdeal.main_arg8)
          ∧ r.2.mem ((c.tc : Thread Cert.DhKernelIdeal.nD Cert.DhKernelIdeal.τ).loc Cert.DhKernelIdeal.main_arg9) = m ((c.tc : Thread Cert.DhKernelIdeal.nD Cert.DhKernelIdeal.τ).loc Cert.DhKernelIdeal.main_arg9))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v11) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6)
          ∧ r.2.mem ((c.tc : Thread Cert.DhReferenceIdeal.nD Cert.DhReferenceIdeal.τ).loc Cert.DhReferenceIdeal.main_arg7) = m' ((c.tc : Thread Cert.DhReferenceIdeal.nD Cert.DhReferenceIdeal.τ).loc Cert.DhReferenceIdeal.main_arg7)
          ∧ r.2.mem ((c.tc : Thread Cert.DhReferenceIdeal.nD Cert.DhReferenceIdeal.τ).loc Cert.DhReferenceIdeal.main_arg8) = m' ((c.tc : Thread Cert.DhReferenceIdeal.nD Cert.DhReferenceIdeal.τ).loc Cert.DhReferenceIdeal.main_arg8)
          ∧ r.2.mem ((c.tc : Thread Cert.DhReferenceIdeal.nD Cert.DhReferenceIdeal.τ).loc Cert.DhReferenceIdeal.main_arg9) = m' ((c.tc : Thread Cert.DhReferenceIdeal.nD Cert.DhReferenceIdeal.τ).loc Cert.DhReferenceIdeal.main_arg9))

def preserves_DwWideKernel_DwWideKernelIdeal : Prop :=
  True

def algebraic_DwWideKernelIdeal_DwWideReferenceIdeal [hDwWideKernelIdeal : Cert.DwWideKernelIdeal.Facts] [hDwWideReferenceIdeal : Cert.DwWideReferenceIdeal.Facts] : Prop :=
  ∀ (m : (ℓ : Loc Cert.DwWideKernelIdeal.nD Cert.DwWideKernelIdeal.τ Cert.DwWideKernelIdeal.sig) → Buf (Elt Ideal) ℓ) (g : Dev Cert.DwWideKernelIdeal.nD → PrngReg)
    (m' : (ℓ : Loc Cert.DwWideReferenceIdeal.nD Cert.DwWideReferenceIdeal.τ Cert.DwWideReferenceIdeal.sig) → Buf (Elt Ideal) ℓ) (g' : Dev Cert.DwWideReferenceIdeal.nD → PrngReg), Pre_DwWideKernelIdeal m →
    (∀ c : Dev Cert.DwWideKernelIdeal.nD,
      m' ((c.tc : Thread Cert.DwWideReferenceIdeal.nD Cert.DwWideReferenceIdeal.τ).loc Cert.DwWideReferenceIdeal.main_arg0) = m ((c.tc : Thread Cert.DwWideKernelIdeal.nD Cert.DwWideKernelIdeal.τ).loc Cert.DwWideKernelIdeal.main_arg0)
      ∧ m' ((c.tc : Thread Cert.DwWideReferenceIdeal.nD Cert.DwWideReferenceIdeal.τ).loc Cert.DwWideReferenceIdeal.main_arg1) = m ((c.tc : Thread Cert.DwWideKernelIdeal.nD Cert.DwWideKernelIdeal.τ).loc Cert.DwWideKernelIdeal.main_arg1)) →
    ∃ (v0 : (c : Dev Cert.DwWideKernelIdeal.nD) → Buf (Elt Ideal) ((c.tc : Thread Cert.DwWideKernelIdeal.nD Cert.DwWideKernelIdeal.τ).loc Cert.DwWideKernelIdeal.main_v0)),
      θ_run (Cert.DwWideKernelIdeal.defs (F := Ideal)) (onTc (τ := Cert.DwWideKernelIdeal.τ) (Cert.DwWideKernelIdeal.main (F := Ideal))) ⟨m, fun _ => 0, g⟩ (fun r => ∀ c : Dev Cert.DwWideKernelIdeal.nD,
          r.2.mem ((c.tc : Thread Cert.DwWideKernelIdeal.nD Cert.DwWideKernelIdeal.τ).loc Cert.DwWideKernelIdeal.main_v0) = v0 c
          ∧ r.2.mem ((c.tc : Thread Cert.DwWideKernelIdeal.nD Cert.DwWideKernelIdeal.τ).loc Cert.DwWideKernelIdeal.main_arg0) = m ((c.tc : Thread Cert.DwWideKernelIdeal.nD Cert.DwWideKernelIdeal.τ).loc Cert.DwWideKernelIdeal.main_arg0)
          ∧ r.2.mem ((c.tc : Thread Cert.DwWideKernelIdeal.nD Cert.DwWideKernelIdeal.τ).loc Cert.DwWideKernelIdeal.main_arg1) = m ((c.tc : Thread Cert.DwWideKernelIdeal.nD Cert.DwWideKernelIdeal.τ).loc Cert.DwWideKernelIdeal.main_arg1))
      ∧ θ_run (Cert.DwWideReferenceIdeal.defs (F := Ideal)) (onTc (τ := Cert.DwWideReferenceIdeal.τ) (Cert.DwWideReferenceIdeal.main (F := Ideal))) ⟨m', fun _ => 0, g'⟩ (fun r => ∀ c : Dev Cert.DwWideReferenceIdeal.nD,
          r.2.mem ((c.tc : Thread Cert.DwWideReferenceIdeal.nD Cert.DwWideReferenceIdeal.τ).loc Cert.DwWideReferenceIdeal.main_v3) = v0 c
          ∧ r.2.mem ((c.tc : Thread Cert.DwWideReferenceIdeal.nD Cert.DwWideReferenceIdeal.τ).loc Cert.DwWideReferenceIdeal.main_arg0) = m' ((c.tc : Thread Cert.DwWideReferenceIdeal.nD Cert.DwWideReferenceIdeal.τ).loc Cert.DwWideReferenceIdeal.main_arg0)
          ∧ r.2.mem ((c.tc : Thread Cert.DwWideReferenceIdeal.nD Cert.DwWideReferenceIdeal.τ).loc Cert.DwWideReferenceIdeal.main_arg1) = m' ((c.tc : Thread Cert.DwWideReferenceIdeal.nD Cert.DwWideReferenceIdeal.τ).loc Cert.DwWideReferenceIdeal.main_arg1))

def preserves_YKernel_YKernelIdeal : Prop :=
  True

def algebraic_YKernelIdeal_YReferenceIdeal [hYKernelIdeal : Cert.YKernelIdeal.Facts] [hYReferenceIdeal : Cert.YReferenceIdeal.Facts] : Prop :=
  ∀ (m : (ℓ : Loc Cert.YKernelIdeal.nD Cert.YKernelIdeal.τ Cert.YKernelIdeal.sig) → Buf (Elt Ideal) ℓ) (g : Dev Cert.YKernelIdeal.nD → PrngReg)
    (m' : (ℓ : Loc Cert.YReferenceIdeal.nD Cert.YReferenceIdeal.τ Cert.YReferenceIdeal.sig) → Buf (Elt Ideal) ℓ) (g' : Dev Cert.YReferenceIdeal.nD → PrngReg), Pre_YKernelIdeal m →
    (∀ c : Dev Cert.YKernelIdeal.nD,
      m' ((c.tc : Thread Cert.YReferenceIdeal.nD Cert.YReferenceIdeal.τ).loc Cert.YReferenceIdeal.main_arg0) = m ((c.tc : Thread Cert.YKernelIdeal.nD Cert.YKernelIdeal.τ).loc Cert.YKernelIdeal.main_arg0)
      ∧ m' ((c.tc : Thread Cert.YReferenceIdeal.nD Cert.YReferenceIdeal.τ).loc Cert.YReferenceIdeal.main_arg1) = m ((c.tc : Thread Cert.YKernelIdeal.nD Cert.YKernelIdeal.τ).loc Cert.YKernelIdeal.main_arg1)) →
    ∃ (v0 : (c : Dev Cert.YKernelIdeal.nD) → Buf (Elt Ideal) ((c.tc : Thread Cert.YKernelIdeal.nD Cert.YKernelIdeal.τ).loc Cert.YKernelIdeal.main_v0)),
      θ_run (Cert.YKernelIdeal.defs (F := Ideal)) (onTc (τ := Cert.YKernelIdeal.τ) (Cert.YKernelIdeal.main (F := Ideal))) ⟨m, fun _ => 0, g⟩ (fun r => ∀ c : Dev Cert.YKernelIdeal.nD,
          r.2.mem ((c.tc : Thread Cert.YKernelIdeal.nD Cert.YKernelIdeal.τ).loc Cert.YKernelIdeal.main_v0) = v0 c
          ∧ r.2.mem ((c.tc : Thread Cert.YKernelIdeal.nD Cert.YKernelIdeal.τ).loc Cert.YKernelIdeal.main_arg0) = m ((c.tc : Thread Cert.YKernelIdeal.nD Cert.YKernelIdeal.τ).loc Cert.YKernelIdeal.main_arg0)
          ∧ r.2.mem ((c.tc : Thread Cert.YKernelIdeal.nD Cert.YKernelIdeal.τ).loc Cert.YKernelIdeal.main_arg1) = m ((c.tc : Thread Cert.YKernelIdeal.nD Cert.YKernelIdeal.τ).loc Cert.YKernelIdeal.main_arg1))
      ∧ θ_run (Cert.YReferenceIdeal.defs (F := Ideal)) (onTc (τ := Cert.YReferenceIdeal.τ) (Cert.YReferenceIdeal.main (F := Ideal))) ⟨m', fun _ => 0, g'⟩ (fun r => ∀ c : Dev Cert.YReferenceIdeal.nD,
          r.2.mem ((c.tc : Thread Cert.YReferenceIdeal.nD Cert.YReferenceIdeal.τ).loc Cert.YReferenceIdeal.main_v2) = v0 c
          ∧ r.2.mem ((c.tc : Thread Cert.YReferenceIdeal.nD Cert.YReferenceIdeal.τ).loc Cert.YReferenceIdeal.main_arg0) = m' ((c.tc : Thread Cert.YReferenceIdeal.nD Cert.YReferenceIdeal.τ).loc Cert.YReferenceIdeal.main_arg0)
          ∧ r.2.mem ((c.tc : Thread Cert.YReferenceIdeal.nD Cert.YReferenceIdeal.τ).loc Cert.YReferenceIdeal.main_arg1) = m' ((c.tc : Thread Cert.YReferenceIdeal.nD Cert.YReferenceIdeal.τ).loc Cert.YReferenceIdeal.main_arg1))

def preserves_BigKernel_BigKernelIdeal : Prop :=
  True

def algebraic_BigKernelIdeal_BigReferenceIdeal [hBigKernelIdeal : Cert.BigKernelIdeal.Facts] [hBigReferenceIdeal : Cert.BigReferenceIdeal.Facts] : Prop :=
  ∀ (m : (ℓ : Loc Cert.BigKernelIdeal.nD Cert.BigKernelIdeal.τ Cert.BigKernelIdeal.sig) → Buf (Elt Ideal) ℓ) (g : Dev Cert.BigKernelIdeal.nD → PrngReg)
    (m' : (ℓ : Loc Cert.BigReferenceIdeal.nD Cert.BigReferenceIdeal.τ Cert.BigReferenceIdeal.sig) → Buf (Elt Ideal) ℓ) (g' : Dev Cert.BigReferenceIdeal.nD → PrngReg), Pre_BigKernelIdeal m →
    (∀ c : Dev Cert.BigKernelIdeal.nD,
      m' ((c.tc : Thread Cert.BigReferenceIdeal.nD Cert.BigReferenceIdeal.τ).loc Cert.BigReferenceIdeal.main_arg0) = m ((c.tc : Thread Cert.BigKernelIdeal.nD Cert.BigKernelIdeal.τ).loc Cert.BigKernelIdeal.main_arg0)
      ∧ m' ((c.tc : Thread Cert.BigReferenceIdeal.nD Cert.BigReferenceIdeal.τ).loc Cert.BigReferenceIdeal.main_arg1) = m ((c.tc : Thread Cert.BigKernelIdeal.nD Cert.BigKernelIdeal.τ).loc Cert.BigKernelIdeal.main_arg1)) →
    ∃ (v0 : (c : Dev Cert.BigKernelIdeal.nD) → Buf (Elt Ideal) ((c.tc : Thread Cert.BigKernelIdeal.nD Cert.BigKernelIdeal.τ).loc Cert.BigKernelIdeal.main_v3)),
      θ_run (Cert.BigKernelIdeal.defs (F := Ideal)) (onTc (τ := Cert.BigKernelIdeal.τ) (Cert.BigKernelIdeal.main (F := Ideal))) ⟨m, fun _ => 0, g⟩ (fun r => ∀ c : Dev Cert.BigKernelIdeal.nD,
          r.2.mem ((c.tc : Thread Cert.BigKernelIdeal.nD Cert.BigKernelIdeal.τ).loc Cert.BigKernelIdeal.main_v3) = v0 c
          ∧ r.2.mem ((c.tc : Thread Cert.BigKernelIdeal.nD Cert.BigKernelIdeal.τ).loc Cert.BigKernelIdeal.main_arg0) = m ((c.tc : Thread Cert.BigKernelIdeal.nD Cert.BigKernelIdeal.τ).loc Cert.BigKernelIdeal.main_arg0)
          ∧ r.2.mem ((c.tc : Thread Cert.BigKernelIdeal.nD Cert.BigKernelIdeal.τ).loc Cert.BigKernelIdeal.main_arg1) = m ((c.tc : Thread Cert.BigKernelIdeal.nD Cert.BigKernelIdeal.τ).loc Cert.BigKernelIdeal.main_arg1))
      ∧ θ_run (Cert.BigReferenceIdeal.defs (F := Ideal)) (onTc (τ := Cert.BigReferenceIdeal.τ) (Cert.BigReferenceIdeal.main (F := Ideal))) ⟨m', fun _ => 0, g'⟩ (fun r => ∀ c : Dev Cert.BigReferenceIdeal.nD,
          r.2.mem ((c.tc : Thread Cert.BigReferenceIdeal.nD Cert.BigReferenceIdeal.τ).loc Cert.BigReferenceIdeal.main_v5) = v0 c
          ∧ r.2.mem ((c.tc : Thread Cert.BigReferenceIdeal.nD Cert.BigReferenceIdeal.τ).loc Cert.BigReferenceIdeal.main_arg0) = m' ((c.tc : Thread Cert.BigReferenceIdeal.nD Cert.BigReferenceIdeal.τ).loc Cert.BigReferenceIdeal.main_arg0)
          ∧ r.2.mem ((c.tc : Thread Cert.BigReferenceIdeal.nD Cert.BigReferenceIdeal.τ).loc Cert.BigReferenceIdeal.main_arg1) = m' ((c.tc : Thread Cert.BigReferenceIdeal.nD Cert.BigReferenceIdeal.τ).loc Cert.BigReferenceIdeal.main_arg1))

def preserves_FwdKernel_FwdKernelIdeal : Prop :=
  True

def algebraic_FwdKernelIdeal_FwdReferenceIdeal_pre_finite_proj [hFwdKernelIdeal : Cert.FwdKernelIdeal.Facts] [hFwdReferenceIdeal : Cert.FwdReferenceIdeal.Facts] [hPre_finite_proj : Cert.Pre_finite_proj.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_proj m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)) →
    ∃ (v0 : (c : Dev Cert.FwdKernelIdeal.nD) → Buf (Elt Ideal) ((c.tc : Thread Cert.FwdKernelIdeal.nD Cert.FwdKernelIdeal.τ).loc Cert.FwdKernelIdeal.main_v0_0)) (v1 : (c : Dev Cert.FwdKernelIdeal.nD) → Buf (Elt Ideal) ((c.tc : Thread Cert.FwdKernelIdeal.nD Cert.FwdKernelIdeal.τ).loc Cert.FwdKernelIdeal.main_v0_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v0_0) = v0 c
          ∧ r.2.mem ((c.tc : Thread Cert.FwdKernelIdeal.nD Cert.FwdKernelIdeal.τ).loc Cert.FwdKernelIdeal.main_v0_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v53) = v0 c
          ∧ r.2.mem ((c.tc : Thread Cert.FwdReferenceIdeal.nD Cert.FwdReferenceIdeal.τ).loc Cert.FwdReferenceIdeal.main_v55) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)
      ∧ m' ((c.tc : Thread Cert.AdaReferenceIdeal.nD Cert.AdaReferenceIdeal.τ).loc Cert.AdaReferenceIdeal.main_arg4) = m ((c.tc : Thread Cert.AdaKernelIdeal.nD Cert.AdaKernelIdeal.τ).loc Cert.AdaKernelIdeal.main_arg4)
      ∧ m' ((c.tc : Thread Cert.AdaReferenceIdeal.nD Cert.AdaReferenceIdeal.τ).loc Cert.AdaReferenceIdeal.main_arg5) = m ((c.tc : Thread Cert.AdaKernelIdeal.nD Cert.AdaKernelIdeal.τ).loc Cert.AdaKernelIdeal.main_arg5)) →
    ∃ (v0 : (c : Dev Cert.AdaKernelIdeal.nD) → Buf (Elt Ideal) ((c.tc : Thread Cert.AdaKernelIdeal.nD Cert.AdaKernelIdeal.τ).loc Cert.AdaKernelIdeal.main_v0_0)) (v1 : (c : Dev Cert.AdaKernelIdeal.nD) → Buf (Elt Ideal) ((c.tc : Thread Cert.AdaKernelIdeal.nD Cert.AdaKernelIdeal.τ).loc Cert.AdaKernelIdeal.main_v0_1)) (v2 : (c : Dev Cert.AdaKernelIdeal.nD) → Buf (Elt Ideal) ((c.tc : Thread Cert.AdaKernelIdeal.nD Cert.AdaKernelIdeal.τ).loc Cert.AdaKernelIdeal.main_v0_2)) (v3 : (c : Dev Cert.AdaKernelIdeal.nD) → Buf (Elt Ideal) ((c.tc : Thread Cert.AdaKernelIdeal.nD Cert.AdaKernelIdeal.τ).loc Cert.AdaKernelIdeal.main_v0_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v0_0) = v0 c
          ∧ r.2.mem ((c.tc : Thread Cert.AdaKernelIdeal.nD Cert.AdaKernelIdeal.τ).loc Cert.AdaKernelIdeal.main_v0_1) = v1 c
          ∧ r.2.mem ((c.tc : Thread Cert.AdaKernelIdeal.nD Cert.AdaKernelIdeal.τ).loc Cert.AdaKernelIdeal.main_v0_2) = v2 c
          ∧ r.2.mem ((c.tc : Thread Cert.AdaKernelIdeal.nD Cert.AdaKernelIdeal.τ).loc Cert.AdaKernelIdeal.main_v0_3) = v3 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
          ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4)
          ∧ r.2.mem ((c.tc : Thread Cert.AdaKernelIdeal.nD Cert.AdaKernelIdeal.τ).loc Cert.AdaKernelIdeal.main_arg5) = m ((c.tc : Thread Cert.AdaKernelIdeal.nD Cert.AdaKernelIdeal.τ).loc Cert.AdaKernelIdeal.main_arg5))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v52) = v0 c
          ∧ r.2.mem ((c.tc : Thread Cert.AdaReferenceIdeal.nD Cert.AdaReferenceIdeal.τ).loc Cert.AdaReferenceIdeal.main_v51) = v1 c
          ∧ r.2.mem ((c.tc : Thread Cert.AdaReferenceIdeal.nD Cert.AdaReferenceIdeal.τ).loc Cert.AdaReferenceIdeal.main_v28) = v2 c
          ∧ r.2.mem ((c.tc : Thread Cert.AdaReferenceIdeal.nD Cert.AdaReferenceIdeal.τ).loc Cert.AdaReferenceIdeal.main_v25) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4)
          ∧ r.2.mem ((c.tc : Thread Cert.AdaReferenceIdeal.nD Cert.AdaReferenceIdeal.τ).loc Cert.AdaReferenceIdeal.main_arg5) = m' ((c.tc : Thread Cert.AdaReferenceIdeal.nD Cert.AdaReferenceIdeal.τ).loc Cert.AdaReferenceIdeal.main_arg5))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v79) = v0 c
          ∧ r.2.mem ((c.tc : Thread Cert.ConvReferenceIdeal.nD Cert.ConvReferenceIdeal.τ).loc Cert.ConvReferenceIdeal.main_v76) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_AdamAdaKernel_AdamAdaKernelIdeal : Prop :=
  True

def algebraic_AdamAdaKernelIdeal_AdamAdaReferenceIdeal [hAdamAdaKernelIdeal : Cert.AdamAdaKernelIdeal.Facts] [hAdamAdaReferenceIdeal : Cert.AdamAdaReferenceIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaKernelIdeal m →
    (∀ c : Dev Cert.AdamAdaKernelIdeal.nD,
      m' ((c.tc : Thread Cert.AdamAdaReferenceIdeal.nD Cert.AdamAdaReferenceIdeal.τ).loc Cert.AdamAdaReferenceIdeal.main_arg0) = m ((c.tc : Thread Cert.AdamAdaKernelIdeal.nD Cert.AdamAdaKernelIdeal.τ).loc Cert.AdamAdaKernelIdeal.main_arg0)
      ∧ m' ((c.tc : Thread Cert.AdamAdaReferenceIdeal.nD Cert.AdamAdaReferenceIdeal.τ).loc Cert.AdamAdaReferenceIdeal.main_arg1) = m ((c.tc : Thread Cert.AdamAdaKernelIdeal.nD Cert.AdamAdaKernelIdeal.τ).loc Cert.AdamAdaKernelIdeal.main_arg1)
      ∧ m' ((c.tc : Thread Cert.AdamAdaReferenceIdeal.nD Cert.AdamAdaReferenceIdeal.τ).loc Cert.AdamAdaReferenceIdeal.main_arg2) = m ((c.tc : Thread Cert.AdamAdaKernelIdeal.nD Cert.AdamAdaKernelIdeal.τ).loc Cert.AdamAdaKernelIdeal.main_arg2)
      ∧ m' ((c.tc : Thread Cert.AdamAdaReferenceIdeal.nD Cert.AdamAdaReferenceIdeal.τ).loc Cert.AdamAdaReferenceIdeal.main_arg3) = m ((c.tc : Thread Cert.AdamAdaKernelIdeal.nD Cert.AdamAdaKernelIdeal.τ).loc Cert.AdamAdaKernelIdeal.main_arg3)) →
    ∃ (v0 : (c : Dev Cert.AdamAdaKernelIdeal.nD) → Buf (Elt Ideal) ((c.tc : Thread Cert.AdamAdaKernelIdeal.nD Cert.AdamAdaKernelIdeal.τ).loc Cert.AdamAdaKernelIdeal.main_v0_0)) (v1 : (c : Dev Cert.AdamAdaKernelIdeal.nD) → Buf (Elt Ideal) ((c.tc : Thread Cert.AdamAdaKernelIdeal.nD Cert.AdamAdaKernelIdeal.τ).loc Cert.AdamAdaKernelIdeal.main_v0_1)) (v2 : (c : Dev Cert.AdamAdaKernelIdeal.nD) → Buf (Elt Ideal) ((c.tc : Thread Cert.AdamAdaKernelIdeal.nD Cert.AdamAdaKernelIdeal.τ).loc Cert.AdamAdaKernelIdeal.main_v0_2)),
      θ_run (Cert.AdamAdaKernelIdeal.defs (F := Ideal)) (onTc (τ := Cert.AdamAdaKernelIdeal.τ) (Cert.AdamAdaKernelIdeal.main (F := Ideal))) ⟨m, fun _ => 0, g⟩ (fun r => ∀ c : Dev Cert.AdamAdaKernelIdeal.nD,
          r.2.mem ((c.tc : Thread Cert.AdamAdaKernelIdeal.nD Cert.AdamAdaKernelIdeal.τ).loc Cert.AdamAdaKernelIdeal.main_v0_0) = v0 c
          ∧ r.2.mem ((c.tc : Thread Cert.AdamAdaKernelIdeal.nD Cert.AdamAdaKernelIdeal.τ).loc Cert.AdamAdaKernelIdeal.main_v0_1) = v1 c
          ∧ r.2.mem ((c.tc : Thread Cert.AdamAdaKernelIdeal.nD Cert.AdamAdaKernelIdeal.τ).loc Cert.AdamAdaKernelIdeal.main_v0_2) = v2 c
          ∧ r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
          ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
          ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
          ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v23) = v0 c
          ∧ r.2.mem ((c.tc : Thread Cert.AdamAdaReferenceIdeal.nD Cert.AdamAdaReferenceIdeal.τ).loc Cert.AdamAdaReferenceIdeal.main_v4) = v1 c
          ∧ r.2.mem ((c.tc : Thread Cert.AdamAdaReferenceIdeal.nD Cert.AdamAdaReferenceIdeal.τ).loc Cert.AdamAdaReferenceIdeal.main_v10) = v2 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamConvKernel_AdamConvKernelIdeal : Prop :=
  True

def algebraic_AdamConvKernelIdeal_AdamConvReferenceIdeal [hAdamConvKernelIdeal : Cert.AdamConvKernelIdeal.Facts] [hAdamConvReferenceIdeal : Cert.AdamConvReferenceIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvKernelIdeal m →
    (∀ c : Dev Cert.AdamConvKernelIdeal.nD,
      m' ((c.tc : Thread Cert.AdamConvReferenceIdeal.nD Cert.AdamConvReferenceIdeal.τ).loc Cert.AdamConvReferenceIdeal.main_arg0) = m ((c.tc : Thread Cert.AdamConvKernelIdeal.nD Cert.AdamConvKernelIdeal.τ).loc Cert.AdamConvKernelIdeal.main_arg0)
      ∧ m' ((c.tc : Thread Cert.AdamConvReferenceIdeal.nD Cert.AdamConvReferenceIdeal.τ).loc Cert.AdamConvReferenceIdeal.main_arg1) = m ((c.tc : Thread Cert.AdamConvKernelIdeal.nD Cert.AdamConvKernelIdeal.τ).loc Cert.AdamConvKernelIdeal.main_arg1)
      ∧ m' ((c.tc : Thread Cert.AdamConvReferenceIdeal.nD Cert.AdamConvReferenceIdeal.τ).loc Cert.AdamConvReferenceIdeal.main_arg2) = m ((c.tc : Thread Cert.AdamConvKernelIdeal.nD Cert.AdamConvKernelIdeal.τ).loc Cert.AdamConvKernelIdeal.main_arg2)
      ∧ m' ((c.tc : Thread Cert.AdamConvReferenceIdeal.nD Cert.AdamConvReferenceIdeal.τ).loc Cert.AdamConvReferenceIdeal.main_arg3) = m ((c.tc : Thread Cert.AdamConvKernelIdeal.nD Cert.AdamConvKernelIdeal.τ).loc Cert.AdamConvKernelIdeal.main_arg3)) →
    ∃ (v0 : (c : Dev Cert.AdamConvKernelIdeal.nD) → Buf (Elt Ideal) ((c.tc : Thread Cert.AdamConvKernelIdeal.nD Cert.AdamConvKernelIdeal.τ).loc Cert.AdamConvKernelIdeal.main_v0_0)) (v1 : (c : Dev Cert.AdamConvKernelIdeal.nD) → Buf (Elt Ideal) ((c.tc : Thread Cert.AdamConvKernelIdeal.nD Cert.AdamConvKernelIdeal.τ).loc Cert.AdamConvKernelIdeal.main_v0_1)) (v2 : (c : Dev Cert.AdamConvKernelIdeal.nD) → Buf (Elt Ideal) ((c.tc : Thread Cert.AdamConvKernelIdeal.nD Cert.AdamConvKernelIdeal.τ).loc Cert.AdamConvKernelIdeal.main_v0_2)),
      θ_run (Cert.AdamConvKernelIdeal.defs (F := Ideal)) (onTc (τ := Cert.AdamConvKernelIdeal.τ) (Cert.AdamConvKernelIdeal.main (F := Ideal))) ⟨m, fun _ => 0, g⟩ (fun r => ∀ c : Dev Cert.AdamConvKernelIdeal.nD,
          r.2.mem ((c.tc : Thread Cert.AdamConvKernelIdeal.nD Cert.AdamConvKernelIdeal.τ).loc Cert.AdamConvKernelIdeal.main_v0_0) = v0 c
          ∧ r.2.mem ((c.tc : Thread Cert.AdamConvKernelIdeal.nD Cert.AdamConvKernelIdeal.τ).loc Cert.AdamConvKernelIdeal.main_v0_1) = v1 c
          ∧ r.2.mem ((c.tc : Thread Cert.AdamConvKernelIdeal.nD Cert.AdamConvKernelIdeal.τ).loc Cert.AdamConvKernelIdeal.main_v0_2) = v2 c
          ∧ r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
          ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
          ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
          ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamProjKernel_AdamProjKernelIdeal : Prop :=
  True

def algebraic_AdamProjKernelIdeal_AdamProjReferenceIdeal [hAdamProjKernelIdeal : Cert.AdamProjKernelIdeal.Facts] [hAdamProjReferenceIdeal : Cert.AdamProjReferenceIdeal.Facts] : Prop :=
  ∀ (m : (ℓ : Loc Cert.AdamProjKernelIdeal.nD Cert.AdamProjKernelIdeal.τ Cert.AdamProjKernelIdeal.sig) → Buf (Elt Ideal) ℓ) (g : Dev Cert.AdamProjKernelIdeal.nD → PrngReg)
    (m' : (ℓ : Loc Cert.AdamProjReferenceIdeal.nD Cert.AdamProjReferenceIdeal.τ Cert.AdamProjReferenceIdeal.sig) → Buf (Elt Ideal) ℓ) (g' : Dev Cert.AdamProjReferenceIdeal.nD → PrngReg), Pre_AdamProjKernelIdeal m →
    (∀ c : Dev Cert.AdamProjKernelIdeal.nD,
      m' ((c.tc : Thread Cert.AdamProjReferenceIdeal.nD Cert.AdamProjReferenceIdeal.τ).loc Cert.AdamProjReferenceIdeal.main_arg0) = m ((c.tc : Thread Cert.AdamProjKernelIdeal.nD Cert.AdamProjKernelIdeal.τ).loc Cert.AdamProjKernelIdeal.main_arg0)
      ∧ m' ((c.tc : Thread Cert.AdamProjReferenceIdeal.nD Cert.AdamProjReferenceIdeal.τ).loc Cert.AdamProjReferenceIdeal.main_arg1) = m ((c.tc : Thread Cert.AdamProjKernelIdeal.nD Cert.AdamProjKernelIdeal.τ).loc Cert.AdamProjKernelIdeal.main_arg1)
      ∧ m' ((c.tc : Thread Cert.AdamProjReferenceIdeal.nD Cert.AdamProjReferenceIdeal.τ).loc Cert.AdamProjReferenceIdeal.main_arg2) = m ((c.tc : Thread Cert.AdamProjKernelIdeal.nD Cert.AdamProjKernelIdeal.τ).loc Cert.AdamProjKernelIdeal.main_arg2)
      ∧ m' ((c.tc : Thread Cert.AdamProjReferenceIdeal.nD Cert.AdamProjReferenceIdeal.τ).loc Cert.AdamProjReferenceIdeal.main_arg3) = m ((c.tc : Thread Cert.AdamProjKernelIdeal.nD Cert.AdamProjKernelIdeal.τ).loc Cert.AdamProjKernelIdeal.main_arg3)) →
    ∃ (v0 : (c : Dev Cert.AdamProjKernelIdeal.nD) → Buf (Elt Ideal) ((c.tc : Thread Cert.AdamProjKernelIdeal.nD Cert.AdamProjKernelIdeal.τ).loc Cert.AdamProjKernelIdeal.main_v0_0)) (v1 : (c : Dev Cert.AdamProjKernelIdeal.nD) → Buf (Elt Ideal) ((c.tc : Thread Cert.AdamProjKernelIdeal.nD Cert.AdamProjKernelIdeal.τ).loc Cert.AdamProjKernelIdeal.main_v0_1)) (v2 : (c : Dev Cert.AdamProjKernelIdeal.nD) → Buf (Elt Ideal) ((c.tc : Thread Cert.AdamProjKernelIdeal.nD Cert.AdamProjKernelIdeal.τ).loc Cert.AdamProjKernelIdeal.main_v0_2)),
      θ_run (Cert.AdamProjKernelIdeal.defs (F := Ideal)) (onTc (τ := Cert.AdamProjKernelIdeal.τ) (Cert.AdamProjKernelIdeal.main (F := Ideal))) ⟨m, fun _ => 0, g⟩ (fun r => ∀ c : Dev Cert.AdamProjKernelIdeal.nD,
          r.2.mem ((c.tc : Thread Cert.AdamProjKernelIdeal.nD Cert.AdamProjKernelIdeal.τ).loc Cert.AdamProjKernelIdeal.main_v0_0) = v0 c
          ∧ r.2.mem ((c.tc : Thread Cert.AdamProjKernelIdeal.nD Cert.AdamProjKernelIdeal.τ).loc Cert.AdamProjKernelIdeal.main_v0_1) = v1 c
          ∧ r.2.mem ((c.tc : Thread Cert.AdamProjKernelIdeal.nD Cert.AdamProjKernelIdeal.τ).loc Cert.AdamProjKernelIdeal.main_v0_2) = v2 c
          ∧ r.2.mem ((c.tc : Thread Cert.AdamProjKernelIdeal.nD Cert.AdamProjKernelIdeal.τ).loc Cert.AdamProjKernelIdeal.main_arg0) = m ((c.tc : Thread Cert.AdamProjKernelIdeal.nD Cert.AdamProjKernelIdeal.τ).loc Cert.AdamProjKernelIdeal.main_arg0)
          ∧ r.2.mem ((c.tc : Thread Cert.AdamProjKernelIdeal.nD Cert.AdamProjKernelIdeal.τ).loc Cert.AdamProjKernelIdeal.main_arg1) = m ((c.tc : Thread Cert.AdamProjKernelIdeal.nD Cert.AdamProjKernelIdeal.τ).loc Cert.AdamProjKernelIdeal.main_arg1)
          ∧ r.2.mem ((c.tc : Thread Cert.AdamProjKernelIdeal.nD Cert.AdamProjKernelIdeal.τ).loc Cert.AdamProjKernelIdeal.main_arg2) = m ((c.tc : Thread Cert.AdamProjKernelIdeal.nD Cert.AdamProjKernelIdeal.τ).loc Cert.AdamProjKernelIdeal.main_arg2)
          ∧ r.2.mem ((c.tc : Thread Cert.AdamProjKernelIdeal.nD Cert.AdamProjKernelIdeal.τ).loc Cert.AdamProjKernelIdeal.main_arg3) = m ((c.tc : Thread Cert.AdamProjKernelIdeal.nD Cert.AdamProjKernelIdeal.τ).loc Cert.AdamProjKernelIdeal.main_arg3))
      ∧ θ_run (Cert.AdamProjReferenceIdeal.defs (F := Ideal)) (onTc (τ := Cert.AdamProjReferenceIdeal.τ) (Cert.AdamProjReferenceIdeal.main (F := Ideal))) ⟨m', fun _ => 0, g'⟩ (fun r => ∀ c : Dev Cert.AdamProjReferenceIdeal.nD,
          r.2.mem ((c.tc : Thread Cert.AdamProjReferenceIdeal.nD Cert.AdamProjReferenceIdeal.τ).loc Cert.AdamProjReferenceIdeal.main_v23) = v0 c
          ∧ r.2.mem ((c.tc : Thread Cert.AdamProjReferenceIdeal.nD Cert.AdamProjReferenceIdeal.τ).loc Cert.AdamProjReferenceIdeal.main_v4) = v1 c
          ∧ r.2.mem ((c.tc : Thread Cert.AdamProjReferenceIdeal.nD Cert.AdamProjReferenceIdeal.τ).loc Cert.AdamProjReferenceIdeal.main_v10) = v2 c
          ∧ r.2.mem ((c.tc : Thread Cert.AdamProjReferenceIdeal.nD Cert.AdamProjReferenceIdeal.τ).loc Cert.AdamProjReferenceIdeal.main_arg0) = m' ((c.tc : Thread Cert.AdamProjReferenceIdeal.nD Cert.AdamProjReferenceIdeal.τ).loc Cert.AdamProjReferenceIdeal.main_arg0)
          ∧ r.2.mem ((c.tc : Thread Cert.AdamProjReferenceIdeal.nD Cert.AdamProjReferenceIdeal.τ).loc Cert.AdamProjReferenceIdeal.main_arg1) = m' ((c.tc : Thread Cert.AdamProjReferenceIdeal.nD Cert.AdamProjReferenceIdeal.τ).loc Cert.AdamProjReferenceIdeal.main_arg1)
          ∧ r.2.mem ((c.tc : Thread Cert.AdamProjReferenceIdeal.nD Cert.AdamProjReferenceIdeal.τ).loc Cert.AdamProjReferenceIdeal.main_arg2) = m' ((c.tc : Thread Cert.AdamProjReferenceIdeal.nD Cert.AdamProjReferenceIdeal.τ).loc Cert.AdamProjReferenceIdeal.main_arg2)
          ∧ r.2.mem ((c.tc : Thread Cert.AdamProjReferenceIdeal.nD Cert.AdamProjReferenceIdeal.τ).loc Cert.AdamProjReferenceIdeal.main_arg3) = m' ((c.tc : Thread Cert.AdamProjReferenceIdeal.nD Cert.AdamProjReferenceIdeal.τ).loc Cert.AdamProjReferenceIdeal.main_arg3))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v0_0)) (v1 : (c : Dev Cert.AdamSmallKernelIdeal.nD) → Buf (Elt Ideal) ((c.tc : Thread Cert.AdamSmallKernelIdeal.nD Cert.AdamSmallKernelIdeal.τ).loc Cert.AdamSmallKernelIdeal.main_v0_1)) (v2 : (c : Dev Cert.AdamSmallKernelIdeal.nD) → Buf (Elt Ideal) ((c.tc : Thread Cert.AdamSmallKernelIdeal.nD Cert.AdamSmallKernelIdeal.τ).loc Cert.AdamSmallKernelIdeal.main_v0_2)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v0_0) = v0 c
          ∧ r.2.mem ((c.tc : Thread Cert.AdamSmallKernelIdeal.nD Cert.AdamSmallKernelIdeal.τ).loc Cert.AdamSmallKernelIdeal.main_v0_1) = v1 c
          ∧ r.2.mem ((c.tc : Thread Cert.AdamSmallKernelIdeal.nD Cert.AdamSmallKernelIdeal.τ).loc Cert.AdamSmallKernelIdeal.main_v0_2) = v2 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)) →
    ∃ (v0 : (c : Dev Cert.SmallKernelIdeal.nD) → Buf (Elt Ideal) ((c.tc : Thread Cert.SmallKernelIdeal.nD Cert.SmallKernelIdeal.τ).loc Cert.SmallKernelIdeal.main_v0)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v0) = v0 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v2) = v0 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1))

def preserves_DwSmallKernel_DwSmallKernelIdeal : Prop :=
  True

def algebraic_DwSmallKernelIdeal_DwSmallReferenceIdeal [hDwSmallKernelIdeal : Cert.DwSmallKernelIdeal.Facts] [hDwSmallReferenceIdeal : Cert.DwSmallReferenceIdeal.Facts] : Prop :=
  ∀ (m : (ℓ : Loc Cert.DwSmallKernelIdeal.nD Cert.DwSmallKernelIdeal.τ Cert.DwSmallKernelIdeal.sig) → Buf (Elt Ideal) ℓ) (g : Dev Cert.DwSmallKernelIdeal.nD → PrngReg)
    (m' : (ℓ : Loc Cert.DwSmallReferenceIdeal.nD Cert.DwSmallReferenceIdeal.τ Cert.DwSmallReferenceIdeal.sig) → Buf (Elt Ideal) ℓ) (g' : Dev Cert.DwSmallReferenceIdeal.nD → PrngReg), Pre_DwSmallKernelIdeal m →
    (∀ c : Dev Cert.DwSmallKernelIdeal.nD,
      m' ((c.tc : Thread Cert.DwSmallReferenceIdeal.nD Cert.DwSmallReferenceIdeal.τ).loc Cert.DwSmallReferenceIdeal.main_arg0) = m ((c.tc : Thread Cert.DwSmallKernelIdeal.nD Cert.DwSmallKernelIdeal.τ).loc Cert.DwSmallKernelIdeal.main_arg0)
      ∧ m' ((c.tc : Thread Cert.DwSmallReferenceIdeal.nD Cert.DwSmallReferenceIdeal.τ).loc Cert.DwSmallReferenceIdeal.main_arg1) = m ((c.tc : Thread Cert.DwSmallKernelIdeal.nD Cert.DwSmallKernelIdeal.τ).loc Cert.DwSmallKernelIdeal.main_arg1)) →
    ∃ (v0 : (c : Dev Cert.DwSmallKernelIdeal.nD) → Buf (Elt Ideal) ((c.tc : Thread Cert.DwSmallKernelIdeal.nD Cert.DwSmallKernelIdeal.τ).loc Cert.DwSmallKernelIdeal.main_v0)),
      θ_run (Cert.DwSmallKernelIdeal.defs (F := Ideal)) (onTc (τ := Cert.DwSmallKernelIdeal.τ) (Cert.DwSmallKernelIdeal.main (F := Ideal))) ⟨m, fun _ => 0, g⟩ (fun r => ∀ c : Dev Cert.DwSmallKernelIdeal.nD,
          r.2.mem ((c.tc : Thread Cert.DwSmallKernelIdeal.nD Cert.DwSmallKernelIdeal.τ).loc Cert.DwSmallKernelIdeal.main_v0) = v0 c
          ∧ r.2.mem ((c.tc : Thread Cert.DwSmallKernelIdeal.nD Cert.DwSmallKernelIdeal.τ).loc Cert.DwSmallKernelIdeal.main_arg0) = m ((c.tc : Thread Cert.DwSmallKernelIdeal.nD Cert.DwSmallKernelIdeal.τ).loc Cert.DwSmallKernelIdeal.main_arg0)
          ∧ r.2.mem ((c.tc : Thread Cert.DwSmallKernelIdeal.nD Cert.DwSmallKernelIdeal.τ).loc Cert.DwSmallKernelIdeal.main_arg1) = m ((c.tc : Thread Cert.DwSmallKernelIdeal.nD Cert.DwSmallKernelIdeal.τ).loc Cert.DwSmallKernelIdeal.main_arg1))
      ∧ θ_run (Cert.DwSmallReferenceIdeal.defs (F := Ideal)) (onTc (τ := Cert.DwSmallReferenceIdeal.τ) (Cert.DwSmallReferenceIdeal.main (F := Ideal))) ⟨m', fun _ => 0, g'⟩ (fun r => ∀ c : Dev Cert.DwSmallReferenceIdeal.nD,
          r.2.mem ((c.tc : Thread Cert.DwSmallReferenceIdeal.nD Cert.DwSmallReferenceIdeal.τ).loc Cert.DwSmallReferenceIdeal.main_v3) = v0 c
          ∧ r.2.mem ((c.tc : Thread Cert.DwSmallReferenceIdeal.nD Cert.DwSmallReferenceIdeal.τ).loc Cert.DwSmallReferenceIdeal.main_arg0) = m' ((c.tc : Thread Cert.DwSmallReferenceIdeal.nD Cert.DwSmallReferenceIdeal.τ).loc Cert.DwSmallReferenceIdeal.main_arg0)
          ∧ r.2.mem ((c.tc : Thread Cert.DwSmallReferenceIdeal.nD Cert.DwSmallReferenceIdeal.τ).loc Cert.DwSmallReferenceIdeal.main_arg1) = m' ((c.tc : Thread Cert.DwSmallReferenceIdeal.nD Cert.DwSmallReferenceIdeal.τ).loc Cert.DwSmallReferenceIdeal.main_arg1))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v1) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_DwAdaKernel_DwAdaKernelIdeal : Prop :=
  True

def algebraic_DwAdaKernelIdeal_DwAdaReferenceIdeal [hDwAdaKernelIdeal : Cert.DwAdaKernelIdeal.Facts] [hDwAdaReferenceIdeal : Cert.DwAdaReferenceIdeal.Facts] : Prop :=
  ∀ (m : (ℓ : Loc Cert.DwAdaKernelIdeal.nD Cert.DwAdaKernelIdeal.τ Cert.DwAdaKernelIdeal.sig) → Buf (Elt Ideal) ℓ) (g : Dev Cert.DwAdaKernelIdeal.nD → PrngReg)
    (m' : (ℓ : Loc Cert.DwAdaReferenceIdeal.nD Cert.DwAdaReferenceIdeal.τ Cert.DwAdaReferenceIdeal.sig) → Buf (Elt Ideal) ℓ) (g' : Dev Cert.DwAdaReferenceIdeal.nD → PrngReg), Pre_DwAdaKernelIdeal m →
    (∀ c : Dev Cert.DwAdaKernelIdeal.nD,
      m' ((c.tc : Thread Cert.DwAdaReferenceIdeal.nD Cert.DwAdaReferenceIdeal.τ).loc Cert.DwAdaReferenceIdeal.main_arg0) = m ((c.tc : Thread Cert.DwAdaKernelIdeal.nD Cert.DwAdaKernelIdeal.τ).loc Cert.DwAdaKernelIdeal.main_arg0)
      ∧ m' ((c.tc : Thread Cert.DwAdaReferenceIdeal.nD Cert.DwAdaReferenceIdeal.τ).loc Cert.DwAdaReferenceIdeal.main_arg1) = m ((c.tc : Thread Cert.DwAdaKernelIdeal.nD Cert.DwAdaKernelIdeal.τ).loc Cert.DwAdaKernelIdeal.main_arg1)) →
    ∃ (v0 : (c : Dev Cert.DwAdaKernelIdeal.nD) → Buf (Elt Ideal) ((c.tc : Thread Cert.DwAdaKernelIdeal.nD Cert.DwAdaKernelIdeal.τ).loc Cert.DwAdaKernelIdeal.main_v0)),
      θ_run (Cert.DwAdaKernelIdeal.defs (F := Ideal)) (onTc (τ := Cert.DwAdaKernelIdeal.τ) (Cert.DwAdaKernelIdeal.main (F := Ideal))) ⟨m, fun _ => 0, g⟩ (fun r => ∀ c : Dev Cert.DwAdaKernelIdeal.nD,
          r.2.mem ((c.tc : Thread Cert.DwAdaKernelIdeal.nD Cert.DwAdaKernelIdeal.τ).loc Cert.DwAdaKernelIdeal.main_v0) = v0 c
          ∧ r.2.mem ((c.tc : Thread Cert.DwAdaKernelIdeal.nD Cert.DwAdaKernelIdeal.τ).loc Cert.DwAdaKernelIdeal.main_arg0) = m ((c.tc : Thread Cert.DwAdaKernelIdeal.nD Cert.DwAdaKernelIdeal.τ).loc Cert.DwAdaKernelIdeal.main_arg0)
          ∧ r.2.mem ((c.tc : Thread Cert.DwAdaKernelIdeal.nD Cert.DwAdaKernelIdeal.τ).loc Cert.DwAdaKernelIdeal.main_arg1) = m ((c.tc : Thread Cert.DwAdaKernelIdeal.nD Cert.DwAdaKernelIdeal.τ).loc Cert.DwAdaKernelIdeal.main_arg1))
      ∧ θ_run (Cert.DwAdaReferenceIdeal.defs (F := Ideal)) (onTc (τ := Cert.DwAdaReferenceIdeal.τ) (Cert.DwAdaReferenceIdeal.main (F := Ideal))) ⟨m', fun _ => 0, g'⟩ (fun r => ∀ c : Dev Cert.DwAdaReferenceIdeal.nD,
          r.2.mem ((c.tc : Thread Cert.DwAdaReferenceIdeal.nD Cert.DwAdaReferenceIdeal.τ).loc Cert.DwAdaReferenceIdeal.main_v2) = v0 c
          ∧ r.2.mem ((c.tc : Thread Cert.DwAdaReferenceIdeal.nD Cert.DwAdaReferenceIdeal.τ).loc Cert.DwAdaReferenceIdeal.main_arg0) = m' ((c.tc : Thread Cert.DwAdaReferenceIdeal.nD Cert.DwAdaReferenceIdeal.τ).loc Cert.DwAdaReferenceIdeal.main_arg0)
          ∧ r.2.mem ((c.tc : Thread Cert.DwAdaReferenceIdeal.nD Cert.DwAdaReferenceIdeal.τ).loc Cert.DwAdaReferenceIdeal.main_arg1) = m' ((c.tc : Thread Cert.DwAdaReferenceIdeal.nD Cert.DwAdaReferenceIdeal.τ).loc Cert.DwAdaReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v20) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_ConvFwdKernel_ConvFwdKernelIdeal : Prop :=
  True

def algebraic_ConvFwdKernelIdeal_ConvFwdReferenceIdeal [hConvFwdKernelIdeal : Cert.ConvFwdKernelIdeal.Facts] [hConvFwdReferenceIdeal : Cert.ConvFwdReferenceIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdKernelIdeal m →
    (∀ c : Dev Cert.ConvFwdKernelIdeal.nD,
      m' ((c.tc : Thread Cert.ConvFwdReferenceIdeal.nD Cert.ConvFwdReferenceIdeal.τ).loc Cert.ConvFwdReferenceIdeal.main_arg0) = m ((c.tc : Thread Cert.ConvFwdKernelIdeal.nD Cert.ConvFwdKernelIdeal.τ).loc Cert.ConvFwdKernelIdeal.main_arg0)
      ∧ m' ((c.tc : Thread Cert.ConvFwdReferenceIdeal.nD Cert.ConvFwdReferenceIdeal.τ).loc Cert.ConvFwdReferenceIdeal.main_arg1) = m ((c.tc : Thread Cert.ConvFwdKernelIdeal.nD Cert.ConvFwdKernelIdeal.τ).loc Cert.ConvFwdKernelIdeal.main_arg1)) →
    ∃ (v0 : (c : Dev Cert.ConvFwdKernelIdeal.nD) → Buf (Elt Ideal) ((c.tc : Thread Cert.ConvFwdKernelIdeal.nD Cert.ConvFwdKernelIdeal.τ).loc Cert.ConvFwdKernelIdeal.main_v0)),
      θ_run (Cert.ConvFwdKernelIdeal.defs (F := Ideal)) (onTc (τ := Cert.ConvFwdKernelIdeal.τ) (Cert.ConvFwdKernelIdeal.main (F := Ideal))) ⟨m, fun _ => 0, g⟩ (fun r => ∀ c : Dev Cert.ConvFwdKernelIdeal.nD,
          r.2.mem ((c.tc : Thread Cert.ConvFwdKernelIdeal.nD Cert.ConvFwdKernelIdeal.τ).loc Cert.ConvFwdKernelIdeal.main_v0) = v0 c
          ∧ r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
          ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v31) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v0)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v0) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v5) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v17) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def preserves_MergeBwdKernel_MergeBwdKernelIdeal : Prop :=
  True

def algebraic_MergeBwdKernelIdeal_MergeBwdReferenceIdeal_pre_finite_branches [hMergeBwdKernelIdeal : Cert.MergeBwdKernelIdeal.Facts] [hMergeBwdReferenceIdeal : Cert.MergeBwdReferenceIdeal.Facts] [hPre_finite_branches : Cert.Pre_finite_branches.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdKernelIdeal_finite_branches m →
    (∀ c : Dev Cert.MergeBwdKernelIdeal.nD,
      m' ((c.tc : Thread Cert.MergeBwdReferenceIdeal.nD Cert.MergeBwdReferenceIdeal.τ).loc Cert.MergeBwdReferenceIdeal.main_arg0) = m ((c.tc : Thread Cert.MergeBwdKernelIdeal.nD Cert.MergeBwdKernelIdeal.τ).loc Cert.MergeBwdKernelIdeal.main_arg0)
      ∧ m' ((c.tc : Thread Cert.MergeBwdReferenceIdeal.nD Cert.MergeBwdReferenceIdeal.τ).loc Cert.MergeBwdReferenceIdeal.main_arg1) = m ((c.tc : Thread Cert.MergeBwdKernelIdeal.nD Cert.MergeBwdKernelIdeal.τ).loc Cert.MergeBwdKernelIdeal.main_arg1)
      ∧ m' ((c.tc : Thread Cert.MergeBwdReferenceIdeal.nD Cert.MergeBwdReferenceIdeal.τ).loc Cert.MergeBwdReferenceIdeal.main_arg2) = m ((c.tc : Thread Cert.MergeBwdKernelIdeal.nD Cert.MergeBwdKernelIdeal.τ).loc Cert.MergeBwdKernelIdeal.main_arg2)
      ∧ m' ((c.tc : Thread Cert.MergeBwdReferenceIdeal.nD Cert.MergeBwdReferenceIdeal.τ).loc Cert.MergeBwdReferenceIdeal.main_arg3) = m ((c.tc : Thread Cert.MergeBwdKernelIdeal.nD Cert.MergeBwdKernelIdeal.τ).loc Cert.MergeBwdKernelIdeal.main_arg3)) →
    ∃ (v0 : (c : Dev Cert.MergeBwdKernelIdeal.nD) → Buf (Elt Ideal) ((c.tc : Thread Cert.MergeBwdKernelIdeal.nD Cert.MergeBwdKernelIdeal.τ).loc Cert.MergeBwdKernelIdeal.main_v0_0)) (v1 : (c : Dev Cert.MergeBwdKernelIdeal.nD) → Buf (Elt Ideal) ((c.tc : Thread Cert.MergeBwdKernelIdeal.nD Cert.MergeBwdKernelIdeal.τ).loc Cert.MergeBwdKernelIdeal.main_v0_1)) (v2 : (c : Dev Cert.MergeBwdKernelIdeal.nD) → Buf (Elt Ideal) ((c.tc : Thread Cert.MergeBwdKernelIdeal.nD Cert.MergeBwdKernelIdeal.τ).loc Cert.MergeBwdKernelIdeal.main_v0_2)) (v3 : (c : Dev Cert.MergeBwdKernelIdeal.nD) → Buf (Elt Ideal) ((c.tc : Thread Cert.MergeBwdKernelIdeal.nD Cert.MergeBwdKernelIdeal.τ).loc Cert.MergeBwdKernelIdeal.main_v0_3)),
      θ_run (Cert.MergeBwdKernelIdeal.defs (F := Ideal)) (onTc (τ := Cert.MergeBwdKernelIdeal.τ) (Cert.MergeBwdKernelIdeal.main (F := Ideal))) ⟨m, fun _ => 0, g⟩ (fun r => ∀ c : Dev Cert.MergeBwdKernelIdeal.nD,
          r.2.mem ((c.tc : Thread Cert.MergeBwdKernelIdeal.nD Cert.MergeBwdKernelIdeal.τ).loc Cert.MergeBwdKernelIdeal.main_v0_0) = v0 c
          ∧ r.2.mem ((c.tc : Thread Cert.MergeBwdKernelIdeal.nD Cert.MergeBwdKernelIdeal.τ).loc Cert.MergeBwdKernelIdeal.main_v0_1) = v1 c
          ∧ r.2.mem ((c.tc : Thread Cert.MergeBwdKernelIdeal.nD Cert.MergeBwdKernelIdeal.τ).loc Cert.MergeBwdKernelIdeal.main_v0_2) = v2 c
          ∧ r.2.mem ((c.tc : Thread Cert.MergeBwdKernelIdeal.nD Cert.MergeBwdKernelIdeal.τ).loc Cert.MergeBwdKernelIdeal.main_v0_3) = v3 c
          ∧ r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
          ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
          ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
          ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v31) = v0 c
          ∧ r.2.mem ((c.tc : Thread Cert.MergeBwdReferenceIdeal.nD Cert.MergeBwdReferenceIdeal.τ).loc Cert.MergeBwdReferenceIdeal.main_v32) = v1 c
          ∧ r.2.mem ((c.tc : Thread Cert.MergeBwdReferenceIdeal.nD Cert.MergeBwdReferenceIdeal.τ).loc Cert.MergeBwdReferenceIdeal.main_v33) = v2 c
          ∧ r.2.mem ((c.tc : Thread Cert.MergeBwdReferenceIdeal.nD Cert.MergeBwdReferenceIdeal.τ).loc Cert.MergeBwdReferenceIdeal.main_v34) = v3 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)) (v3 : (c : Dev Cert.LossKernelIdeal.nD) → Buf (Elt Ideal) ((c.tc : Thread Cert.LossKernelIdeal.nD Cert.LossKernelIdeal.τ).loc Cert.LossKernelIdeal.main_v0_3)) (v4 : (c : Dev Cert.LossKernelIdeal.nD) → Buf (Elt Ideal) ((c.tc : Thread Cert.LossKernelIdeal.nD Cert.LossKernelIdeal.τ).loc Cert.LossKernelIdeal.main_v0_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_v0_3) = v3 c
          ∧ r.2.mem ((c.tc : Thread Cert.LossKernelIdeal.nD Cert.LossKernelIdeal.τ).loc Cert.LossKernelIdeal.main_v0_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v61) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v62) = v2 c
          ∧ r.2.mem ((c.tc : Thread Cert.LossReferenceIdeal.nD Cert.LossReferenceIdeal.τ).loc Cert.LossReferenceIdeal.main_v60) = v3 c
          ∧ r.2.mem ((c.tc : Thread Cert.LossReferenceIdeal.nD Cert.LossReferenceIdeal.τ).loc Cert.LossReferenceIdeal.main_v55) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def Claim : Prop :=
  ∃ (hKernel : Cert.Kernel.Facts) (hKernelIdeal : Cert.KernelIdeal.Facts) (hReferenceIdeal : Cert.ReferenceIdeal.Facts) (hDxKernel : Cert.DxKernel.Facts) (hDxKernelIdeal : Cert.DxKernelIdeal.Facts) (hDxReferenceIdeal : Cert.DxReferenceIdeal.Facts) (hDwKernel : Cert.DwKernel.Facts) (hDwKernelIdeal : Cert.DwKernelIdeal.Facts) (hDwReferenceIdeal : Cert.DwReferenceIdeal.Facts) (hDhKernel : Cert.DhKernel.Facts) (hDhKernelIdeal : Cert.DhKernelIdeal.Facts) (hDhReferenceIdeal : Cert.DhReferenceIdeal.Facts) (hDwWideKernel : Cert.DwWideKernel.Facts) (hDwWideKernelIdeal : Cert.DwWideKernelIdeal.Facts) (hDwWideReferenceIdeal : Cert.DwWideReferenceIdeal.Facts) (hYKernel : Cert.YKernel.Facts) (hYKernelIdeal : Cert.YKernelIdeal.Facts) (hYReferenceIdeal : Cert.YReferenceIdeal.Facts) (hBigKernel : Cert.BigKernel.Facts) (hBigKernelIdeal : Cert.BigKernelIdeal.Facts) (hBigReferenceIdeal : Cert.BigReferenceIdeal.Facts) (hFwdKernel : Cert.FwdKernel.Facts) (hFwdKernelIdeal : Cert.FwdKernelIdeal.Facts) (hFwdReferenceIdeal : Cert.FwdReferenceIdeal.Facts) (hAdaKernel : Cert.AdaKernel.Facts) (hAdaKernelIdeal : Cert.AdaKernelIdeal.Facts) (hAdaReferenceIdeal : Cert.AdaReferenceIdeal.Facts) (hConvKernel : Cert.ConvKernel.Facts) (hConvKernelIdeal : Cert.ConvKernelIdeal.Facts) (hConvReferenceIdeal : Cert.ConvReferenceIdeal.Facts) (hAdamAdaKernel : Cert.AdamAdaKernel.Facts) (hAdamAdaKernelIdeal : Cert.AdamAdaKernelIdeal.Facts) (hAdamAdaReferenceIdeal : Cert.AdamAdaReferenceIdeal.Facts) (hAdamInKernel : Cert.AdamInKernel.Facts) (hAdamInKernelIdeal : Cert.AdamInKernelIdeal.Facts) (hAdamInReferenceIdeal : Cert.AdamInReferenceIdeal.Facts) (hAdamConvKernel : Cert.AdamConvKernel.Facts) (hAdamConvKernelIdeal : Cert.AdamConvKernelIdeal.Facts) (hAdamConvReferenceIdeal : Cert.AdamConvReferenceIdeal.Facts) (hAdamProjKernel : Cert.AdamProjKernel.Facts) (hAdamProjKernelIdeal : Cert.AdamProjKernelIdeal.Facts) (hAdamProjReferenceIdeal : Cert.AdamProjReferenceIdeal.Facts) (hAdamSmallKernel : Cert.AdamSmallKernel.Facts) (hAdamSmallKernelIdeal : Cert.AdamSmallKernelIdeal.Facts) (hAdamSmallReferenceIdeal : Cert.AdamSmallReferenceIdeal.Facts) (hSmallKernel : Cert.SmallKernel.Facts) (hSmallKernelIdeal : Cert.SmallKernelIdeal.Facts) (hSmallReferenceIdeal : Cert.SmallReferenceIdeal.Facts) (hDwSmallKernel : Cert.DwSmallKernel.Facts) (hDwSmallKernelIdeal : Cert.DwSmallKernelIdeal.Facts) (hDwSmallReferenceIdeal : Cert.DwSmallReferenceIdeal.Facts) (hSumKernel : Cert.SumKernel.Facts) (hSumKernelIdeal : Cert.SumKernelIdeal.Facts) (hSumReferenceIdeal : Cert.SumReferenceIdeal.Facts) (hDwAdaKernel : Cert.DwAdaKernel.Facts) (hDwAdaKernelIdeal : Cert.DwAdaKernelIdeal.Facts) (hDwAdaReferenceIdeal : Cert.DwAdaReferenceIdeal.Facts) (hNormKernel : Cert.NormKernel.Facts) (hNormKernelIdeal : Cert.NormKernelIdeal.Facts) (hNormReferenceIdeal : Cert.NormReferenceIdeal.Facts) (hConvFwdKernel : Cert.ConvFwdKernel.Facts) (hConvFwdKernelIdeal : Cert.ConvFwdKernelIdeal.Facts) (hConvFwdReferenceIdeal : Cert.ConvFwdReferenceIdeal.Facts) (hModKernel : Cert.ModKernel.Facts) (hModKernelIdeal : Cert.ModKernelIdeal.Facts) (hModReferenceIdeal : Cert.ModReferenceIdeal.Facts) (hMergeKernel : Cert.MergeKernel.Facts) (hMergeKernelIdeal : Cert.MergeKernelIdeal.Facts) (hMergeReferenceIdeal : Cert.MergeReferenceIdeal.Facts) (hMergeBwdKernel : Cert.MergeBwdKernel.Facts) (hMergeBwdKernelIdeal : Cert.MergeBwdKernelIdeal.Facts) (hMergeBwdReferenceIdeal : Cert.MergeBwdReferenceIdeal.Facts) (hLossKernel : Cert.LossKernel.Facts) (hLossKernelIdeal : Cert.LossKernelIdeal.Facts) (hLossReferenceIdeal : Cert.LossReferenceIdeal.Facts) (hPre_finite : Cert.Pre_finite.Facts) (hPre_finite_proj : Cert.Pre_finite_proj.Facts) (hPre_finite_branches : Cert.Pre_finite_branches.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_DwWideKernel (hDwWideKernel := hDwWideKernel)
    ∧ quiescent_DwWideKernelIdeal (hDwWideKernelIdeal := hDwWideKernelIdeal)
    ∧ quiescent_DwWideReferenceIdeal (hDwWideReferenceIdeal := hDwWideReferenceIdeal)
    ∧ quiescent_YKernel (hYKernel := hYKernel)
    ∧ quiescent_YKernelIdeal (hYKernelIdeal := hYKernelIdeal)
    ∧ quiescent_YReferenceIdeal (hYReferenceIdeal := hYReferenceIdeal)
    ∧ quiescent_BigKernel (hBigKernel := hBigKernel)
    ∧ quiescent_BigKernelIdeal (hBigKernelIdeal := hBigKernelIdeal)
    ∧ quiescent_BigReferenceIdeal (hBigReferenceIdeal := hBigReferenceIdeal)
    ∧ quiescent_FwdKernel (hFwdKernel := hFwdKernel)
    ∧ quiescent_FwdKernelIdeal (hFwdKernelIdeal := hFwdKernelIdeal)
    ∧ quiescent_FwdKernelIdeal_pre_finite_proj (hFwdKernelIdeal := hFwdKernelIdeal) (hPre_finite_proj := hPre_finite_proj)
    ∧ quiescent_FwdReferenceIdeal (hFwdReferenceIdeal := hFwdReferenceIdeal)
    ∧ quiescent_FwdReferenceIdeal_pre_finite_proj (hFwdReferenceIdeal := hFwdReferenceIdeal) (hPre_finite_proj := hPre_finite_proj)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_AdamAdaKernel (hAdamAdaKernel := hAdamAdaKernel)
    ∧ quiescent_AdamAdaKernelIdeal (hAdamAdaKernelIdeal := hAdamAdaKernelIdeal)
    ∧ quiescent_AdamAdaReferenceIdeal (hAdamAdaReferenceIdeal := hAdamAdaReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamConvKernel (hAdamConvKernel := hAdamConvKernel)
    ∧ quiescent_AdamConvKernelIdeal (hAdamConvKernelIdeal := hAdamConvKernelIdeal)
    ∧ quiescent_AdamConvReferenceIdeal (hAdamConvReferenceIdeal := hAdamConvReferenceIdeal)
    ∧ quiescent_AdamProjKernel (hAdamProjKernel := hAdamProjKernel)
    ∧ quiescent_AdamProjKernelIdeal (hAdamProjKernelIdeal := hAdamProjKernelIdeal)
    ∧ quiescent_AdamProjReferenceIdeal (hAdamProjReferenceIdeal := hAdamProjReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_DwSmallKernel (hDwSmallKernel := hDwSmallKernel)
    ∧ quiescent_DwSmallKernelIdeal (hDwSmallKernelIdeal := hDwSmallKernelIdeal)
    ∧ quiescent_DwSmallReferenceIdeal (hDwSmallReferenceIdeal := hDwSmallReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_DwAdaKernel (hDwAdaKernel := hDwAdaKernel)
    ∧ quiescent_DwAdaKernelIdeal (hDwAdaKernelIdeal := hDwAdaKernelIdeal)
    ∧ quiescent_DwAdaReferenceIdeal (hDwAdaReferenceIdeal := hDwAdaReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MergeBwdKernel (hMergeBwdKernel := hMergeBwdKernel)
    ∧ quiescent_MergeBwdKernelIdeal (hMergeBwdKernelIdeal := hMergeBwdKernelIdeal)
    ∧ quiescent_MergeBwdKernelIdeal_pre_finite_branches (hMergeBwdKernelIdeal := hMergeBwdKernelIdeal) (hPre_finite_branches := hPre_finite_branches)
    ∧ quiescent_MergeBwdReferenceIdeal (hMergeBwdReferenceIdeal := hMergeBwdReferenceIdeal)
    ∧ quiescent_MergeBwdReferenceIdeal_pre_finite_branches (hMergeBwdReferenceIdeal := hMergeBwdReferenceIdeal) (hPre_finite_branches := hPre_finite_branches)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DxKernel_DxKernelIdeal
    ∧ algebraic_DxKernelIdeal_DxReferenceIdeal (hDxKernelIdeal := hDxKernelIdeal) (hDxReferenceIdeal := hDxReferenceIdeal)
    ∧ preserves_DwKernel_DwKernelIdeal
    ∧ algebraic_DwKernelIdeal_DwReferenceIdeal (hDwKernelIdeal := hDwKernelIdeal) (hDwReferenceIdeal := hDwReferenceIdeal)
    ∧ preserves_DhKernel_DhKernelIdeal
    ∧ algebraic_DhKernelIdeal_DhReferenceIdeal (hDhKernelIdeal := hDhKernelIdeal) (hDhReferenceIdeal := hDhReferenceIdeal)
    ∧ preserves_DwWideKernel_DwWideKernelIdeal
    ∧ algebraic_DwWideKernelIdeal_DwWideReferenceIdeal (hDwWideKernelIdeal := hDwWideKernelIdeal) (hDwWideReferenceIdeal := hDwWideReferenceIdeal)
    ∧ preserves_YKernel_YKernelIdeal
    ∧ algebraic_YKernelIdeal_YReferenceIdeal (hYKernelIdeal := hYKernelIdeal) (hYReferenceIdeal := hYReferenceIdeal)
    ∧ preserves_BigKernel_BigKernelIdeal
    ∧ algebraic_BigKernelIdeal_BigReferenceIdeal (hBigKernelIdeal := hBigKernelIdeal) (hBigReferenceIdeal := hBigReferenceIdeal)
    ∧ preserves_FwdKernel_FwdKernelIdeal
    ∧ algebraic_FwdKernelIdeal_FwdReferenceIdeal_pre_finite_proj (hFwdKernelIdeal := hFwdKernelIdeal) (hFwdReferenceIdeal := hFwdReferenceIdeal) (hPre_finite_proj := hPre_finite_proj)
    ∧ preserves_AdaKernel_AdaKernelIdeal
    ∧ algebraic_AdaKernelIdeal_AdaReferenceIdeal (hAdaKernelIdeal := hAdaKernelIdeal) (hAdaReferenceIdeal := hAdaReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_AdamAdaKernel_AdamAdaKernelIdeal
    ∧ algebraic_AdamAdaKernelIdeal_AdamAdaReferenceIdeal (hAdamAdaKernelIdeal := hAdamAdaKernelIdeal) (hAdamAdaReferenceIdeal := hAdamAdaReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamConvKernel_AdamConvKernelIdeal
    ∧ algebraic_AdamConvKernelIdeal_AdamConvReferenceIdeal (hAdamConvKernelIdeal := hAdamConvKernelIdeal) (hAdamConvReferenceIdeal := hAdamConvReferenceIdeal)
    ∧ preserves_AdamProjKernel_AdamProjKernelIdeal
    ∧ algebraic_AdamProjKernelIdeal_AdamProjReferenceIdeal (hAdamProjKernelIdeal := hAdamProjKernelIdeal) (hAdamProjReferenceIdeal := hAdamProjReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_DwSmallKernel_DwSmallKernelIdeal
    ∧ algebraic_DwSmallKernelIdeal_DwSmallReferenceIdeal (hDwSmallKernelIdeal := hDwSmallKernelIdeal) (hDwSmallReferenceIdeal := hDwSmallReferenceIdeal)
    ∧ preserves_SumKernel_SumKernelIdeal
    ∧ algebraic_SumKernelIdeal_SumReferenceIdeal (hSumKernelIdeal := hSumKernelIdeal) (hSumReferenceIdeal := hSumReferenceIdeal)
    ∧ preserves_DwAdaKernel_DwAdaKernelIdeal
    ∧ algebraic_DwAdaKernelIdeal_DwAdaReferenceIdeal (hDwAdaKernelIdeal := hDwAdaKernelIdeal) (hDwAdaReferenceIdeal := hDwAdaReferenceIdeal)
    ∧ preserves_NormKernel_NormKernelIdeal
    ∧ algebraic_NormKernelIdeal_NormReferenceIdeal (hNormKernelIdeal := hNormKernelIdeal) (hNormReferenceIdeal := hNormReferenceIdeal)
    ∧ preserves_ConvFwdKernel_ConvFwdKernelIdeal
    ∧ algebraic_ConvFwdKernelIdeal_ConvFwdReferenceIdeal (hConvFwdKernelIdeal := hConvFwdKernelIdeal) (hConvFwdReferenceIdeal := hConvFwdReferenceIdeal)
    ∧ preserves_ModKernel_ModKernelIdeal
    ∧ algebraic_ModKernelIdeal_ModReferenceIdeal (hModKernelIdeal := hModKernelIdeal) (hModReferenceIdeal := hModReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_MergeBwdKernel_MergeBwdKernelIdeal
    ∧ algebraic_MergeBwdKernelIdeal_MergeBwdReferenceIdeal_pre_finite_branches (hMergeBwdKernelIdeal := hMergeBwdKernelIdeal) (hMergeBwdReferenceIdeal := hMergeBwdReferenceIdeal) (hPre_finite_branches := hPre_finite_branches)
    ∧ preserves_LossKernel_LossKernelIdeal
    ∧ algebraic_LossKernelIdeal_LossReferenceIdeal (hLossKernelIdeal := hLossKernelIdeal) (hLossReferenceIdeal := hLossReferenceIdeal)
-- ==== Pre_finite.lean ====
abbrev S8192x20480 : Shape := ⟨2, ![8192, 20480]⟩
abbrev S8192x2048 : Shape := ⟨2, ![8192, 2048]⟩
abbrev S_ : Shape := ⟨0, ![]⟩

class Facts : Prop where
  bcast_S_S8192x20480 : S_.BroadcastsInDim S8192x20480 (![] : Fin 0 → Fin S8192x20480.rank)
  bcast_S_S8192x2048 : S_.BroadcastsInDim S8192x2048 (![] : Fin 0 → Fin S8192x2048.rank)

variable [Facts]

def fn {F : FTy → Type} [FloatOps F] (main_arg0 : FVec F S8192x20480 .f32) (main_arg1 : FVec F S8192x2048 .f32) : IVec S8192x20480 1 × IVec S8192x2048 1 :=
  let main_v0 : FVec F S8192x20480 .f32 := Host.absf main_arg0
  let main_cst : FVec F S_ .f32 := constant S_ .f32 0x7F800000#32
  let main_v1 : FVec F S8192x20480 .f32 := broadcastInDim S8192x20480 ![] bcast_S_S8192x20480 main_cst
  let main_v2 : IVec S8192x20480 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  (main_v2, main_v5)
-- ==== Pre_finite_branches.lean ====
abbrev S8192x20480 : Shape := ⟨2, ![8192, 20480]⟩
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x20480 .f32) (main_arg1 : FVec F S8192x2048 .f32) (main_arg2 : FVec F S8192x2048 .f32) (main_arg3 : FVec F S8192x2048 .f32) : IVec S8192x2048 1 × IVec S8192x2048 1 × IVec S8192x2048 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg2
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg3
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_finite_proj.lean ====
abbrev S8192x20480 : Shape := ⟨2, ![8192, 20480]⟩
abbrev S_ : Shape := ⟨0, ![]⟩

class Facts : Prop where
  bcast_S_S8192x20480 : S_.BroadcastsInDim S8192x20480 (![] : Fin 0 → Fin S8192x20480.rank)

variable [Facts]

def fn {F : FTy → Type} [FloatOps F] (main_arg0 : FVec F S8192x20480 .f32) : IVec S8192x20480 1 :=
  let main_v0 : FVec F S8192x20480 .f32 := Host.absf main_arg0
  let main_cst : FVec F S_ .f32 := constant S_ .f32 0x7F800000#32
  let main_v1 : FVec F S8192x20480 .f32 := broadcastInDim S8192x20480 ![] bcast_S_S8192x20480 main_cst
  let main_v2 : IVec S8192x20480 1 := cmpf .olt main_v0 main_v1
  main_v2
-- ==== Kernel.lean ====
abbrev S8192x20480 : Shape := ⟨2, ![8192, 20480]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192x32 : Shape := ⟨3, ![16, 8192, 32]⟩
abbrev S512x128 : Shape := ⟨2, ![512, 128]⟩
abbrev S8192x128 : Shape := ⟨2, ![8192, 128]⟩
abbrev S256x256 : Shape := ⟨2, ![256, 256]⟩
abbrev S512x256 : Shape := ⟨2, ![512, 256]⟩
abbrev S512x1 : Shape := ⟨2, ![512, 1]⟩
abbrev S512 : Shape := ⟨1, ![512]⟩
abbrev S256x128 : Shape := ⟨2, ![256, 128]⟩
abbrev S512x512 : Shape := ⟨2, ![512, 512]⟩

abbrev nBuf : Space → Nat
  | .hbm => 70
  | .vmem => 20
  | .smem => 0
  | _ => 0

abbrev bufTy : (tb : Table) → Fin (tcTables nBuf tb) → BufTy
  | .hbm, ⟨0, _⟩ => ⟨S8192x20480, .f32⟩
  | .hbm, ⟨1, _⟩ => ⟨S8192x2048, .f32⟩
  | .hbm, ⟨2, _⟩ => ⟨S8192x2048, .f32⟩
  | .hbm, ⟨3, _⟩ => ⟨S8192x16x128, .f32⟩
  | .hbm, ⟨4, _⟩ => ⟨S16x8192x128, .f32⟩
  | .hbm, ⟨5, _⟩ => ⟨S8192x2048, .f32⟩
  | .hbm, ⟨6, _⟩ => ⟨S8192x16x128, .f32⟩
  | .hbm, ⟨7, _⟩ => ⟨S16x8192x128, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S8192x1, .i32⟩
  | .hbm, ⟨14, _⟩ => ⟨S8192, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S16x8192x8192, .f32⟩
  | .hbm, ⟨20, _⟩ => ⟨S_, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S16x8192x8192, .i1⟩
  | .hbm, ⟨43, _⟩ => ⟨S16x8192x8192, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S_, .f32⟩
  | .hbm, ⟨53, _⟩ => ⟨S_, .f32⟩
  | .hbm, ⟨54, _⟩ => ⟨S16x8192x8192, .i1⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S_, .f32⟩
  | .hbm, ⟨59, _⟩ => ⟨S16x8192x8192, .f32⟩
  | .hbm, ⟨60, _⟩ => ⟨S16x8192x8192, .f32⟩
  | .hbm, ⟨61, _⟩ => ⟨S16x8192x32, .f32⟩
  | .hbm, ⟨62, _⟩ => ⟨S_, .i32⟩
  | .hbm, ⟨63, _⟩ => ⟨S_, .f32⟩
  | .hbm, ⟨64, _⟩ => ⟨S16x8192x128, .f32⟩
  | .hbm, ⟨65, _⟩ => ⟨S8192x16x128, .f32⟩
  | .hbm, ⟨66, _⟩ => ⟨S8192x2048, .f32⟩
  | .hbm, ⟨67, _⟩ => ⟨S8192x2048, .bf16⟩
  | .hbm, ⟨68, _⟩ => ⟨S8192x2048, .bf16⟩
  | .hbm, ⟨69, _⟩ => ⟨S8192x2048, .bf16⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .f32⟩
  | .local _ .vmem, ⟨17, _⟩ => ⟨S8192x128, .f32⟩
  | .local _ .vmem, ⟨18, _⟩ => ⟨S8192x128, .bf16⟩
  | .local _ .vmem, ⟨19, _⟩ => ⟨S8192x128, .bf16⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v18 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v19 : Ref sig .tc := ⟨.hbm, 56, rfl⟩
abbrev main_call3_cst : Ref sig .tc := ⟨.hbm, 57, rfl⟩
abbrev main_call3_v0 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_c : Ref sig .tc := ⟨.hbm, 62, rfl⟩
abbrev main_call4_v0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26_0 : Ref sig .tc := ⟨.hbm, 67, rfl⟩
abbrev main_v26_1 : Ref sig .tc := ⟨.hbm, 68, rfl⟩
abbrev main_v26_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_7 : BitVec 32 := 0#32
  let arg1 : BitVec 32 := BitVec.ofNat 32 (i 1).val
  let v25 : BitVec 32 := Scalar.subi arg1 c0_i32_7
  let c1_i32 : BitVec 32 := 1#32
  let v27 : BitVec 32 := Scalar.divsi v25 c1_i32
  let v28 : BitVec 32 := Scalar.muli v27 c1_i32
  let v29 : BitVec 32 := Scalar.addi c0_i32_7 v28
  let c1_i32_8 : BitVec 32 := 1#32
  ⟨c0_i32_7, v29, c1_i32_8⟩
def k0_mult1 (i : grid0.Coords) (k0_t1 : Fin (k0_t1_loop i).trips) : BitVec 32 :=
  let c0_i32_7 : BitVec 32 := 0#32
  let c1_i32_8 : BitVec 32 := 1#32
  let arg14 : BitVec 32 := Scf.iv c0_i32_7 c1_i32_8 k0_t1
  let c2_i32_69 : BitVec 32 := 2#32
  let v214 : BitVec 32 := Scalar.muli arg14 c2_i32_69
  let c0_i32_70 : BitVec 32 := 0#32
  let v215 : BitVec 32 := Scalar.addi v214 c0_i32_70
  let c256_i32_73 : BitVec 32 := 256#32
  let v222 : BitVec 32 := Scalar.muli v215 c256_i32_73
  v222
def k0_off1 (i : grid0.Coords) (k0_t1 : Fin (k0_t1_loop i).trips) (c0_i32_70 : BitVec 32) : Fin 2 → Nat :=
  let c0_i32_7 : BitVec 32 := 0#32
  let c1_i32_8 : BitVec 32 := 1#32
  let arg14 : BitVec 32 := Scf.iv c0_i32_7 c1_i32_8 k0_t1
  let c2_i32_69 : BitVec 32 := 2#32
  let v214 : BitVec 32 := Scalar.muli arg14 c2_i32_69
  let v215 : BitVec 32 := Scalar.addi v214 c0_i32_70
  let c256_i32_73 : BitVec 32 := 256#32
  let v222 : BitVec 32 := Scalar.muli v215 c256_i32_73
  let v223 : BitVec 32 := v222
  let v224 : Index := Scalar.indexCast v223
  let c0_74 : Index := 0#32
  ![v224.toNat, 0]
def k0_mult2 (i : grid0.Coords) (k0_t1 : Fin (k0_t1_loop i).trips) : BitVec 32 :=
  let c0_i32_7 : BitVec 32 := 0#32
  let c1_i32_8 : BitVec 32 := 1#32
  let arg14 : BitVec 32 := Scf.iv c0_i32_7 c1_i32_8 k0_t1
  let c2_i32_94 : BitVec 32 := 2#32
  let v289 : BitVec 32 := Scalar.muli arg14 c2_i32_94
  let c1_i32_95 : BitVec 32 := 1#32
  let v290 : BitVec 32 := Scalar.addi v289 c1_i32_95
  let c256_i32_98 : BitVec 32 := 256#32
  let v297 : BitVec 32 := Scalar.muli v290 c256_i32_98
  v297
@[reducible] def k0_t2_loop (i : grid0.Coords) : Scf.Loop 32 :=
  let c0_i32_7 : BitVec 32 := 0#32
  let arg1 : BitVec 32 := BitVec.ofNat 32 (i 1).val
  let v25 : BitVec 32 := Scalar.subi arg1 c0_i32_7
  let c1_i32 : BitVec 32 := 1#32
  let v27 : BitVec 32 := Scalar.divsi v25 c1_i32
  let v28 : BitVec 32 := Scalar.muli v27 c1_i32
  let v29 : BitVec 32 := Scalar.addi c0_i32_7 v28
  let v26 : BitVec 32 := Scalar.addi c0_i32_7 v25
  let c1_i32_9 : BitVec 32 := 1#32
  ⟨v29, v26, c1_i32_9⟩
def k0_mult3 (i : grid0.Coords) (k0_t2 : Fin (k0_t2_loop i).trips) : BitVec 32 :=
  let c0_i32_7 : BitVec 32 := 0#32
  let arg1 : BitVec 32 := BitVec.ofNat 32 (i 1).val
  let v25 : BitVec 32 := Scalar.subi arg1 c0_i32_7
  let c1_i32 : BitVec 32 := 1#32
  let v27 : BitVec 32 := Scalar.divsi v25 c1_i32
  let v28 : BitVec 32 := Scalar.muli v27 c1_i32
  let v29 : BitVec 32 := Scalar.addi c0_i32_7 v28
  let c1_i32_9 : BitVec 32 := 1#32
  let arg14 : BitVec 32 := Scf.iv v29 c1_i32_9 k0_t2
  let c2_i32_69 : BitVec 32 := 2#32
  let v214 : BitVec 32 := Scalar.muli arg14 c2_i32_69
  let c0_i32_70 : BitVec 32 := 0#32
  let v215 : BitVec 32 := Scalar.addi v214 c0_i32_70
  let c256_i32_73 : BitVec 32 := 256#32
  let v222 : BitVec 32 := Scalar.muli v215 c256_i32_73
  v222
def k0_off2 (i : grid0.Coords) (k0_t2 : Fin (k0_t2_loop i).trips) (c0_i32_70 : BitVec 32) : Fin 2 → Nat :=
  let c0_i32_7 : BitVec 32 := 0#32
  let arg1 : BitVec 32 := BitVec.ofNat 32 (i 1).val
  let v25 : BitVec 32 := Scalar.subi arg1 c0_i32_7
  let c1_i32 : BitVec 32 := 1#32
  let v27 : BitVec 32 := Scalar.divsi v25 c1_i32
  let v28 : BitVec 32 := Scalar.muli v27 c1_i32
  let v29 : BitVec 32 := Scalar.addi c0_i32_7 v28
  let c1_i32_9 : BitVec 32 := 1#32
  let arg14 : BitVec 32 := Scf.iv v29 c1_i32_9 k0_t2
  let c2_i32_69 : BitVec 32 := 2#32
  let v214 : BitVec 32 := Scalar.muli arg14 c2_i32_69
  let v215 : BitVec 32 := Scalar.addi v214 c0_i32_70
  let c256_i32_73 : BitVec 32 := 256#32
  let v222 : BitVec 32 := Scalar.muli v215 c256_i32_73
  let v223 : BitVec 32 := v222
  let v224 : Index := Scalar.indexCast v223
  let c0_74 : Index := 0#32
  ![v224.toNat, 0]
def k0_mult4 (i : grid0.Coords) (k0_t2 : Fin (k0_t2_loop i).trips) : BitVec 32 :=
  let c0_i32_7 : BitVec 32 := 0#32
  let arg1 : BitVec 32 := BitVec.ofNat 32 (i 1).val
  let v25 : BitVec 32 := Scalar.subi arg1 c0_i32_7
  let c1_i32 : BitVec 32 := 1#32
  let v27 : BitVec 32 := Scalar.divsi v25 c1_i32
  let v28 : BitVec 32 := Scalar.muli v27 c1_i32
  let v29 : BitVec 32 := Scalar.addi c0_i32_7 v28
  let c1_i32_9 : BitVec 32 := 1#32
  let arg14 : BitVec 32 := Scf.iv v29 c1_i32_9 k0_t2
  let c2_i32_94 : BitVec 32 := 2#32
  let v289 : BitVec 32 := Scalar.muli arg14 c2_i32_94
  let c1_i32_95 : BitVec 32 := 1#32
  let v290 : BitVec 32 := Scalar.addi v289 c1_i32_95
  let c256_i32_98 : BitVec 32 := 256#32
  let v297 : BitVec 32 := Scalar.muli v290 c256_i32_98
  v297
def k0_mult5 (i : grid0.Coords) : BitVec 32 :=
  let arg1 : BitVec 32 := BitVec.ofNat 32 (i 1).val
  let c2_i32 : BitVec 32 := 2#32
  let v32 : BitVec 32 := Scalar.muli arg1 c2_i32
  let c0_i32_10 : BitVec 32 := 0#32
  let v33 : BitVec 32 := Scalar.addi v32 c0_i32_10
  let c256_i32 : BitVec 32 := 256#32
  let v40 : BitVec 32 := Scalar.muli v33 c256_i32
  v40
def k0_off3 (i : grid0.Coords) (c0_i32_10 : BitVec 32) : Fin 2 → Nat :=
  let arg1 : BitVec 32 := BitVec.ofNat 32 (i 1).val
  let c2_i32 : BitVec 32 := 2#32
  let v32 : BitVec 32 := Scalar.muli arg1 c2_i32
  let v33 : BitVec 32 := Scalar.addi v32 c0_i32_10
  let c256_i32 : BitVec 32 := 256#32
  let v40 : BitVec 32 := Scalar.muli v33 c256_i32
  let v41 : BitVec 32 := v40
  let v42 : Index := Scalar.indexCast v41
  let c0_13 : Index := 0#32
  ![v42.toNat, 0]
def k0_mult6 (i : grid0.Coords) : BitVec 32 :=
  let arg1 : BitVec 32 := BitVec.ofNat 32 (i 1).val
  let c2_i32_37 : BitVec 32 := 2#32
  let v122 : BitVec 32 := Scalar.muli arg1 c2_i32_37
  let c1_i32_38 : BitVec 32 := 1#32
  let v123 : BitVec 32 := Scalar.addi v122 c1_i32_38
  let c256_i32_41 : BitVec 32 := 256#32
  let v130 : BitVec 32 := Scalar.muli v123 c256_i32_41
  v130
def k0_cond2 (i : grid0.Coords) : BitVec 1 :=
  let arg1 : BitVec 32 := BitVec.ofNat 32 (i 1).val
  let c15_i32 : BitVec 32 := 15#32
  let v211 : BitVec 1 := Scalar.cmpi .eq arg1 c15_i32
  let v212 : BitVec 32 := Scalar.extui v211
  let c0_i32_68 : BitVec 32 := 0#32
  let v213 : BitVec 1 := Scalar.cmpi .ne v212 c0_i32_68
  v213

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x20480 : Shape := ⟨2, ![8192, 20480]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩

abbrev nBuf : Space → Nat
  | .hbm => 181
  | .vmem => 0
  | .smem => 0
  | _ => 0

abbrev hbmTy0_0 (i : Nat) : BufTy := match i % 128 with
  | 0 => ⟨S8192x20480, .f32⟩
  | 1 => ⟨S8192x2048, .f32⟩
  | 2 => ⟨S8192x2048, .f32⟩
  | 3 => ⟨S8192x2048, .f32⟩
  | 4 => ⟨S8192x2048, .f32⟩
  | 5 => ⟨S8192x16x128, .f32⟩
  | 6 => ⟨S16x8192x128, .f32⟩
  | 7 => ⟨S8192x16x128, .f32⟩
  | 8 => ⟨S16x8192x128, .f32⟩
  | 9 => ⟨S8192x16x128, .f32⟩
  | 10 => ⟨S16x8192x128, .f32⟩
  | 11 => ⟨S16x8192x8192, .f32⟩
  | 12 => ⟨S_, .f32⟩
  | 13 => ⟨S16x8192x8192, .f32⟩
  | 14 => ⟨S16x8192x8192, .f32⟩
  | 15 => ⟨S8192, .i32⟩
  | 16 => ⟨S8192x1, .i32⟩
  | 17 => ⟨S8192, .i32⟩
  | 18 => ⟨S1x8192, .i32⟩
  | 19 => ⟨S8192x8192, .i32⟩
  | 20 => ⟨S8192x8192, .i32⟩
  | 21 => ⟨S8192x8192, .i1⟩
  | 22 => ⟨S16x8192x8192, .f32⟩
  | 23 => ⟨S_, .f32⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .i1⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S_, .f32⟩
  | 38 => ⟨S16x8192x8192, .f32⟩
  | 39 => ⟨S16x8192x8192, .i1⟩
  | 40 => ⟨S_, .f32⟩
  | 41 => ⟨S16x8192x8192, .f32⟩
  | 42 => ⟨S16x8192x8192, .f32⟩
  | 43 => ⟨S_, .f32⟩
  | 44 => ⟨S16x8192x8192, .f32⟩
  | 45 => ⟨S16x8192x8192, .i1⟩
  | 46 => ⟨S_, .f32⟩
  | 47 => ⟨S16x8192x8192, .f32⟩
  | 48 => ⟨S16x8192x8192, .f32⟩
  | 49 => ⟨S16x8192x8192, .f32⟩
  | 50 => ⟨S16x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x8192x8192, .f32⟩
  | 59 => ⟨S16x8192x8192, .i1⟩
  | 60 => ⟨S_, .f32⟩
  | 61 => ⟨S16x8192x8192, .f32⟩
  | 62 => ⟨S16x8192x8192, .f32⟩
  | 63 => ⟨S16x8192x8192, .f32⟩
  | 64 => ⟨S16x8192x8192, .f32⟩
  | 65 => ⟨S16x8192x8192, .f32⟩
  | 66 => ⟨S_, .f32⟩
  | 67 => ⟨S16x8192x8192, .f32⟩
  | 68 => ⟨S16x8192x8192, .f32⟩
  | 69 => ⟨S16x8192x8192, .f32⟩
  | 70 => ⟨S16x8192x8192, .f32⟩
  | 71 => ⟨S16x8192x8192, .f32⟩
  | 72 => ⟨S_, .f32⟩
  | 73 => ⟨S16x8192x8192, .f32⟩
  | 74 => ⟨S16x8192x8192, .f32⟩
  | 75 => ⟨S16x8192x8192, .f32⟩
  | 76 => ⟨S16x8192x8192, .f32⟩
  | 77 => ⟨S16x8192x8192, .i1⟩
  | 78 => ⟨S16x8192x8192, .f32⟩
  | 79 => ⟨S16x8192x8192, .f32⟩
  | 80 => ⟨S16x8192x8192, .f32⟩
  | 81 => ⟨S16x8192x8192, .f32⟩
  | 82 => ⟨S16x8192x8192, .f32⟩
  | 83 => ⟨S16x8192x8192, .f32⟩
  | 84 => ⟨S16x8192x8192, .f32⟩
  | 85 => ⟨S16x8192x8192, .f32⟩
  | 86 => ⟨S_, .f32⟩
  | 87 => ⟨S16x8192x8192, .f32⟩
  | 88 => ⟨S16x8192x8192, .i1⟩
  | 89 => ⟨S_, .f32⟩
  | 90 => ⟨S16x8192x8192, .f32⟩
  | 91 => ⟨S16x8192x8192, .f32⟩
  | 92 => ⟨S_, .f32⟩
  | 93 => ⟨S16x8192x8192, .f32⟩
  | 94 => ⟨S16x8192x8192, .i1⟩
  | 95 => ⟨S_, .f32⟩
  | 96 => ⟨S16x8192x8192, .f32⟩
  | 97 => ⟨S16x8192x8192, .f32⟩
  | 98 => ⟨S16x8192x8192, .f32⟩
  | 99 => ⟨S16x8192x8192, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S16x8192x8192, .f32⟩
  | 108 => ⟨S16x8192x8192, .i1⟩
  | 109 => ⟨S_, .f32⟩
  | 110 => ⟨S16x8192x8192, .f32⟩
  | 111 => ⟨S16x8192x8192, .f32⟩
  | 112 => ⟨S16x8192x8192, .f32⟩
  | 113 => ⟨S16x8192x8192, .f32⟩
  | 114 => ⟨S16x8192x8192, .f32⟩
  | 115 => ⟨S_, .f32⟩
  | 116 => ⟨S16x8192x8192, .f32⟩
  | 117 => ⟨S16x8192x8192, .f32⟩
  | 118 => ⟨S16x8192x8192, .f32⟩
  | 119 => ⟨S_, .f32⟩
  | 120 => ⟨S_, .f32⟩
  | 121 => ⟨S16x8192x8192, .i1⟩
  | 122 => ⟨S16x8192x8192, .f32⟩
  | 123 => ⟨S16x8192x8192, .f32⟩
  | 124 => ⟨S_, .f32⟩
  | 125 => ⟨S16x8192x8192, .f32⟩
  | 126 => ⟨S_, .f32⟩
  | 127 => ⟨S_, .f32⟩
  | _ => ⟨S8192x20480, .f32⟩

abbrev hbmTy0_1 (i : Nat) : BufTy := match i % 128 with
  | 0 => ⟨S16x8192x8192, .f32⟩
  | 1 => ⟨S16x8192x8192, .f32⟩
  | 2 => ⟨S16x8192x8192, .f32⟩
  | 3 => ⟨S16x8192x8192, .f32⟩
  | 4 => ⟨S_, .f32⟩
  | 5 => ⟨S_, .f32⟩
  | 6 => ⟨S16x8192x8192, .i1⟩
  | 7 => ⟨S16x8192x8192, .f32⟩
  | 8 => ⟨S16x8192x8192, .f32⟩
  | 9 => ⟨S_, .f32⟩
  | 10 => ⟨S16x8192x8192, .f32⟩
  | 11 => ⟨S16x8192x128, .f32⟩
  | 12 => ⟨S8192x16x128, .f32⟩
  | 13 => ⟨S8192x2048, .f32⟩
  | 14 => ⟨S8192x16x128, .f32⟩
  | 15 => ⟨S16x8192x128, .f32⟩
  | 16 => ⟨S16x128x8192, .f32⟩
  | 17 => ⟨S16x8192x128, .f32⟩
  | 18 => ⟨S16x8192x8192, .f32⟩
  | 19 => ⟨S_, .f32⟩
  | 20 => ⟨S16x8192x8192, .f32⟩
  | 21 => ⟨S16x8192x8192, .f32⟩
  | 22 => ⟨S16x8192x8192, .f32⟩
  | 23 => ⟨S16x8192x8192, .f32⟩
  | 24 => ⟨S_, .f32⟩
  | 25 => ⟨S_, .f32⟩
  | 26 => ⟨S16x8192x8192, .f32⟩
  | 27 => ⟨S16x8192x8192, .f32⟩
  | 28 => ⟨S_, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S_, .f32⟩
  | 40 => ⟨S16x8192x8192, .f32⟩
  | 41 => ⟨S16x8192x8192, .f32⟩
  | 42 => ⟨S16x8192x128, .f32⟩
  | 43 => ⟨S16x8192x128, .f32⟩
  | 44 => ⟨S8192x16x128, .f32⟩
  | 45 => ⟨S8192x2048, .f32⟩
  | 46 => ⟨S8192x16x128, .f32⟩
  | 47 => ⟨S8192x2048, .f32⟩
  | 48 => ⟨S8192x16x128, .f32⟩
  | 49 => ⟨S8192x2048, .f32⟩
  | 50 => ⟨S8192x2048, .bf16⟩
  | 51 => ⟨S8192x2048, .bf16⟩
  | 52 => ⟨S8192x2048, .bf16⟩
  | _ => ⟨S8192x20480, .f32⟩

abbrev hbmTy (i : Nat) : BufTy := match i / 128 with
  | 0 => hbmTy0_0 i
  | 1 => hbmTy0_1 i
  | _ => ⟨S8192x20480, .f32⟩

abbrev bufTy : (tb : Table) → Fin (tcTables nBuf tb) → BufTy
  | .hbm, ⟨i, _⟩ => hbmTy i
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call6_cst : Ref sig .tc := ⟨.hbm, 152, rfl⟩
abbrev main_call6_v0 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_call8_v0 : Ref sig .tc := ⟨.hbm, 159, rfl⟩
abbrev main_call8_v1 : Ref sig .tc := ⟨.hbm, 160, rfl⟩
abbrev main_v42 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩

abbrev nD : Nat := 1
abbrev τ : Topo := Topo.v7x

variable {F : FTy → Type} [FloatOps F]
-- ==== DxKernel.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwKernel.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c7_i32 : BitVec 32 := 7#32
  let v2 : BitVec 32 := Scalar.minsi v1 c7_i32
  let c0_i32_1 : BitVec 32 := 0#32
  let v3 : BitVec 32 := Scalar.addi c0_i32_1 v2
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c7_i32 : BitVec 32 := 7#32
  let v2 : BitVec 32 := Scalar.minsi v1 c7_i32
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DhKernel.lean ====
abbrev S8192x2048 : Shape := ⟨2, ![8192, 2048]⟩
abbrev S8192x6144 : Shape := ⟨2, ![8192, 6144]⟩
abbrev S8192x128 : Shape := ⟨2, ![8192, 128]⟩
abbrev S2048x20512 : Shape := ⟨2, ![2048, 20512]⟩
abbrev S2048x16384 : Shape := ⟨2, ![2048, 16384]⟩
abbrev S2048x4096 : Shape := ⟨2, ![2048, 4096]⟩
abbrev S2048x20480 : Shape := ⟨2, ![2048, 20480]⟩
abbrev S2048x32 : Shape := ⟨2, ![2048, 32]⟩
abbrev S_ : Shape := ⟨0, ![]⟩
abbrev S2048x128 : Shape := ⟨2, ![2048, 128]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 18
  | .vmem => 39
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x6144, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x128, .f32⟩
  | .hbm, ⟨9, _⟩ => ⟨S2048x20512, .bf16⟩
  | .hbm, ⟨10, _⟩ => ⟨S2048x16384, .bf16⟩
  | .hbm, ⟨11, _⟩ => ⟨S2048x4096, .bf16⟩
  | .hbm, ⟨12, _⟩ => ⟨S2048x20480, .bf16⟩
  | .hbm, ⟨13, _⟩ => ⟨S2048x32, .bf16⟩
  | .hbm, ⟨14, _⟩ => ⟨S_, .i32⟩
  | .hbm, ⟨15, _⟩ => ⟨S_, .bf16⟩
  | .hbm, ⟨16, _⟩ => ⟨S2048x128, .bf16⟩
  | .hbm, ⟨17, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1024x128, .f32⟩
  | .local _ .vmem, ⟨33, _⟩ => ⟨S1024x128, .f32⟩
  | .local _ .vmem, ⟨34, _⟩ => ⟨S1024x128, .bf16⟩
  | .local _ .vmem, ⟨35, _⟩ => ⟨S1024x128, .bf16⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![8, 2, 41], ![false, false, false]⟩

def k0_cond11 (i : grid0.Coords) : BitVec 1 :=
  let arg2 : BitVec 32 := BitVec.ofNat 32 (i 2).val
  let c40_i32_19 : BitVec 32 := 40#32
  let v48 : BitVec 1 := Scalar.cmpi .eq arg2 c40_i32_19
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c3_i32 : BitVec 32 := 3#32
  let v2 : BitVec 32 := Scalar.minsi v1 c3_i32
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c3_i32 : BitVec 32 := 3#32
  let v2 : BitVec 32 := Scalar.minsi v1 c3_i32
  let c0_i32_1 : BitVec 32 := 0#32
  let v3 : BitVec 32 := Scalar.addi c0_i32_1 v2
  let c0_i32_2 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  let v3 : BitVec 32 := Scalar.addi c0_i32_0 v2
  let c0_i32_1 : BitVec 32 := 0#32
  ![arg0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c3_i32 : BitVec 32 := 3#32
  let v2 : BitVec 32 := Scalar.minsi v1 c3_i32
  let c4_i32_0 : BitVec 32 := 4#32
  let v3 : BitVec 32 := Scalar.addi c4_i32_0 v2
  let c0_i32_1 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  let v3 : BitVec 32 := Scalar.addi c0_i32_0 v2
  let c0_i32_1 : BitVec 32 := 0#32
  ![arg0.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c3_i32 : BitVec 32 := 3#32
  let v2 : BitVec 32 := Scalar.minsi v1 c3_i32
  let c8_i32_0 : BitVec 32 := 8#32
  let v3 : BitVec 32 := Scalar.addi c8_i32_0 v2
  let c0_i32_1 : BitVec 32 := 0#32
  ![arg1.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  let v3 : BitVec 32 := Scalar.addi c0_i32_0 v2
  let c0_i32_1 : BitVec 32 := 0#32
  ![arg0.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let v1 : BitVec 32 := Scalar.maxsi v0 c0_i32
  let c3_i32 : BitVec 32 := 3#32
  let v2 : BitVec 32 := Scalar.minsi v1 c3_i32
  let c12_i32_0 : BitVec 32 := 12#32
  let v3 : BitVec 32 := Scalar.addi c12_i32_0 v2
  let c0_i32_1 : BitVec 32 := 0#32
  ![arg1.toNat, v3.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c11_i32 : BitVec 32 := 11#32
  let v2 : BitVec 32 := Scalar.minsi v1 c11_i32
  let c0_i32_0 : BitVec 32 := 0#32
  let v3 : BitVec 32 := Scalar.addi c0_i32_0 v2
  let c0_i32_1 : BitVec 32 := 0#32
  ![arg0.toNat, v3.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c11_i32 : BitVec 32 := 11#32
  let v2 : BitVec 32 := Scalar.minsi v1 c11_i32
  let c16_i32_0 : BitVec 32 := 16#32
  let v3 : BitVec 32 := Scalar.addi c16_i32_0 v2
  let c0_i32_1 : BitVec 32 := 0#32
  ![arg1.toNat, v3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.subi arg2 c28_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  let v3 : BitVec 32 := Scalar.addi c0_i32_0 v2
  let c0_i32_1 : BitVec 32 := 0#32
  ![arg0.toNat, v3.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.subi arg2 c28_i32
  let c0_i32 : BitVec 32 := 0#32
  let v1 : BitVec 32 := Scalar.maxsi v0 c0_i32
  let c3_i32 : BitVec 32 := 3#32
  let v2 : BitVec 32 := Scalar.minsi v1 c3_i32
  let c28_i32_0 : BitVec 32 := 28#32
  let v3 : BitVec 32 := Scalar.addi c28_i32_0 v2
  let c0_i32_1 : BitVec 32 := 0#32
  ![arg1.toNat, v3.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  let v3 : BitVec 32 := Scalar.addi c0_i32_0 v2
  let c0_i32_1 : BitVec 32 := 0#32
  ![arg0.toNat, v3.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c3_i32 : BitVec 32 := 3#32
  let v2 : BitVec 32 := Scalar.minsi v1 c3_i32
  let c32_i32_0 : BitVec 32 := 32#32
  let v3 : BitVec 32 := Scalar.addi c32_i32_0 v2
  let c0_i32_1 : BitVec 32 := 0#32
  ![arg1.toNat, v3.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.subi arg2 c36_i32
  let c0_i32 : BitVec 32 := 0#32
  let v1 : BitVec 32 := Scalar.maxsi v0 c0_i32
  let c3_i32 : BitVec 32 := 3#32
  let v2 : BitVec 32 := Scalar.minsi v1 c3_i32
  let c0_i32_0 : BitVec 32 := 0#32
  let v3 : BitVec 32 := Scalar.addi c0_i32_0 v2
  let c0_i32_1 : BitVec 32 := 0#32
  ![arg0.toNat, v3.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.subi arg2 c36_i32
  let c0_i32 : BitVec 32 := 0#32
  let v1 : BitVec 32 := Scalar.maxsi v0 c0_i32
  let c3_i32 : BitVec 32 := 3#32
  let v2 : BitVec 32 := Scalar.minsi v1 c3_i32
  let c36_i32_0 : BitVec 32 := 36#32
  let v3 : BitVec 32 := Scalar.addi c36_i32_0 v2
  let c0_i32_1 : BitVec 32 := 0#32
  ![arg1.toNat, v3.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.subi arg2 c40_i32
  let c0_i32 : BitVec 32 := 0#32
  let v1 : BitVec 32 := Scalar.maxsi v0 c0_i32
  let c0_i32_0 : BitVec 32 := 0#32
  let v2 : BitVec 32 := Scalar.minsi v1 c0_i32_0
  let c0_i32_1 : BitVec 32 := 0#32
  let v3 : BitVec 32 := Scalar.addi c0_i32_1 v2
  let c0_i32_2 : BitVec 32 := 0#32
  ![arg0.toNat, v3.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.subi arg2 c40_i32
  let c0_i32 : BitVec 32 := 0#32
  let v1 : BitVec 32 := Scalar.maxsi v0 c0_i32
  let c0_i32_0 : BitVec 32 := 0#32
  let v2 : BitVec 32 := Scalar.minsi v1 c0_i32_0
  let c0_i32_1 : BitVec 32 := 0#32
  let v3 : BitVec 32 := Scalar.addi c0_i32_1 v2
  let c0_i32_2 : BitVec 32 := 0#32
  ![arg1.toNat, v3.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false, true]

abbrev stage0_17 : Fin 2 → Memref sig .tc .vmem S1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, true]

abbrev stage0_18 : Fin 2 → Memref sig .tc .vmem S1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]
-- ==== DhReferenceIdeal.lean ====
abbrev S8192x2048 : Shape := ⟨2, ![8192, 2048]⟩
abbrev S8192x6144 : Shape := ⟨2, ![8192, 6144]⟩
abbrev S8192x128 : Shape := ⟨2, ![8192, 128]⟩
abbrev S2048x20512 : Shape := ⟨2, ![2048, 20512]⟩
abbrev S8192x32 : Shape := ⟨2, ![8192, 32]⟩
abbrev S8192x20512 : Shape := ⟨2, ![8192, 20512]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x6144, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x128, .f32⟩
  | .hbm, ⟨9, _⟩ => ⟨S2048x20512, .bf16⟩
  | .hbm, ⟨10, _⟩ => ⟨S8192x32, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x6144, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x20512, .f32⟩
  | .hbm, ⟨20, _⟩ => ⟨S2048x20512, .f32⟩
  | .hbm, ⟨21, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== DwWideKernel.lean ====
abbrev S8192x2048 : Shape := ⟨2, ![8192, 2048]⟩
abbrev S8192x6144 : Shape := ⟨2, ![8192, 6144]⟩
abbrev S2048x6144 : Shape := ⟨2, ![2048, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c7_i32 : BitVec 32 := 7#32
  let v2 : BitVec 32 := Scalar.minsi v1 c7_i32
  let c0_i32_1 : BitVec 32 := 0#32
  let v3 : BitVec 32 := Scalar.addi c0_i32_1 v2
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c7_i32 : BitVec 32 := 7#32
  let v2 : BitVec 32 := Scalar.minsi v1 c7_i32
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwWideReferenceIdeal.lean ====
abbrev S8192x2048 : Shape := ⟨2, ![8192, 2048]⟩
abbrev S8192x6144 : Shape := ⟨2, ![8192, 6144]⟩
abbrev S6144x2048 : Shape := ⟨2, ![6144, 2048]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S8192x2048, .f32⟩
  | .hbm, ⟨3, _⟩ => ⟨S8192x6144, .f32⟩
  | .hbm, ⟨4, _⟩ => ⟨S6144x2048, .f32⟩
  | .hbm, ⟨5, _⟩ => ⟨S2048x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== YKernel.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BigKernel.lean ====
abbrev S8192x2048 : Shape := ⟨2, ![8192, 2048]⟩
abbrev S2048x20512 : Shape := ⟨2, ![2048, 20512]⟩
abbrev S2048x16384 : Shape := ⟨2, ![2048, 16384]⟩
abbrev S2048x4096 : Shape := ⟨2, ![2048, 4096]⟩
abbrev S2048x20480 : Shape := ⟨2, ![2048, 20480]⟩
abbrev S8192x20480 : Shape := ⟨2, ![8192, 20480]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x20512, .bf16⟩
  | .hbm, ⟨2, _⟩ => ⟨S2048x16384, .bf16⟩
  | .hbm, ⟨3, _⟩ => ⟨S2048x4096, .bf16⟩
  | .hbm, ⟨4, _⟩ => ⟨S2048x20480, .bf16⟩
  | .hbm, ⟨5, _⟩ => ⟨S8192x20480, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 20, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BigReferenceIdeal.lean ====
abbrev S8192x2048 : Shape := ⟨2, ![8192, 2048]⟩
abbrev S2048x20512 : Shape := ⟨2, ![2048, 20512]⟩
abbrev S8192x20512 : Shape := ⟨2, ![8192, 20512]⟩
abbrev S8192x16384 : Shape := ⟨2, ![8192, 16384]⟩
abbrev S8192x4096 : Shape := ⟨2, ![8192, 4096]⟩
abbrev S8192x20480 : Shape := ⟨2, ![8192, 20480]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x20512, .bf16⟩
  | .hbm, ⟨2, _⟩ => ⟨S8192x2048, .f32⟩
  | .hbm, ⟨3, _⟩ => ⟨S2048x20512, .f32⟩
  | .hbm, ⟨4, _⟩ => ⟨S8192x20512, .f32⟩
  | .hbm, ⟨5, _⟩ => ⟨S8192x16384, .f32⟩
  | .hbm, ⟨6, _⟩ => ⟨S8192x4096, .f32⟩
  | .hbm, ⟨7, _⟩ => ⟨S8192x20480, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FwdKernel.lean ====
abbrev S8192x20480 : Shape := ⟨2, ![8192, 20480]⟩
abbrev S8192x2048 : Shape := ⟨2, ![8192, 2048]⟩
abbrev S512x128 : Shape := ⟨2, ![512, 128]⟩
abbrev S8192x128 : Shape := ⟨2, ![8192, 128]⟩
abbrev S256x256 : Shape := ⟨2, ![256, 256]⟩
abbrev S512x256 : Shape := ⟨2, ![512, 256]⟩
abbrev S512x1 : Shape := ⟨2, ![512, 1]⟩
abbrev S256x128 : Shape := ⟨2, ![256, 128]⟩
abbrev S512x512 : Shape := ⟨2, ![512, 512]⟩
abbrev S512 : Shape := ⟨1, ![512]⟩

abbrev nBuf : Space → Nat
  | .hbm => 3
  | .vmem => 12
  | .smem => 0
  | _ => 0

abbrev bufTy : (tb : Table) → Fin (tcTables nBuf tb) → BufTy
  | .hbm, ⟨0, _⟩ => ⟨S8192x20480, .f32⟩
  | .hbm, ⟨1, _⟩ => ⟨S8192x2048, .f32⟩
  | .hbm, ⟨2, _⟩ => ⟨S8192x2048, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S8192x128, .bf16⟩
  | .local _ .vmem, ⟨11, _⟩ => ⟨S8192x128, .bf16⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c2_i32 : BitVec 32 := 2#32
  let v16 : BitVec 32 := Scalar.muli arg1 c2_i32
  let c1_i32 : BitVec 32 := 1#32
  let v17 : BitVec 32 := Scalar.addi v16 c1_i32
  let c256_i32 : BitVec 32 := 256#32
  let v18 : BitVec 32 := Scalar.muli v17 c256_i32
  v18
def k0_off1 (i : grid0.Coords) (c1_i32 : BitVec 32) : Fin 2 → Nat :=
  let arg1 : BitVec 32 := BitVec.ofNat 32 (i 1).val
  let c2_i32 : BitVec 32 := 2#32
  let v16 : BitVec 32 := Scalar.muli arg1 c2_i32
  let v17 : BitVec 32 := Scalar.addi v16 c1_i32
  let c256_i32 : BitVec 32 := 256#32
  let v18 : BitVec 32 := Scalar.muli v17 c256_i32
  let v19 : BitVec 32 := v18
  let v20 : Index := Scalar.indexCast v19
  let c0_4 : Index := 0#32
  ![v20.toNat, 0]
def k0_mult2 (i : grid0.Coords) : BitVec 32 :=
  let arg1 : BitVec 32 := BitVec.ofNat 32 (i 1).val
  let c2_i32_17 : BitVec 32 := 2#32
  let v72 : BitVec 32 := Scalar.muli arg1 c2_i32_17
  let c0_i32_18 : BitVec 32 := 0#32
  let v73 : BitVec 32 := Scalar.addi v72 c0_i32_18
  let c256_i32_19 : BitVec 32 := 256#32
  let v74 : BitVec 32 := Scalar.muli v73 c256_i32_19
  v74
@[reducible] def k0_t1_loop (i : grid0.Coords) : Scf.Loop 32 :=
  let c0_i32_34 : BitVec 32 := 0#32
  let arg1 : BitVec 32 := BitVec.ofNat 32 (i 1).val
  let v128 : BitVec 32 := Scalar.subi arg1 c0_i32_34
  let c1_i32_35 : BitVec 32 := 1#32
  let v130 : BitVec 32 := Scalar.divsi v128 c1_i32_35
  let v131 : BitVec 32 := Scalar.muli v130 c1_i32_35
  let v132 : BitVec 32 := Scalar.addi c0_i32_34 v131
  let c1_i32_36 : BitVec 32 := 1#32
  ⟨c0_i32_34, v132, c1_i32_36⟩
def k0_mult3 (i : grid0.Coords) (k0_t1 : Fin (k0_t1_loop i).trips) : BitVec 32 :=
  let arg1 : BitVec 32 := BitVec.ofNat 32 (i 1).val
  let c1_i32_42 : BitVec 32 := 1#32
  let v137 : BitVec 32 := Scalar.subi arg1 c1_i32_42
  let c0_i32_34 : BitVec 32 := 0#32
  let c1_i32_36 : BitVec 32 := 1#32
  let arg9 : BitVec 32 := Scf.iv c0_i32_34 c1_i32_36 k0_t1
  let v138 : BitVec 32 := Scalar.subi v137 arg9
  let c2_i32_43 : BitVec 32 := 2#32
  let v139 : BitVec 32 := Scalar.muli v138 c2_i32_43
  let c1_i32_44 : BitVec 32 := 1#32
  let v140 : BitVec 32 := Scalar.addi v139 c1_i32_44
  let c256_i32_45 : BitVec 32 := 256#32
  let v141 : BitVec 32 := Scalar.muli v140 c256_i32_45
  v141
def k0_off2 (i : grid0.Coords) (k0_t1 : Fin (k0_t1_loop i).trips) (c1_i32_44 : BitVec 32) : Fin 2 → Nat :=
  let arg1 : BitVec 32 := BitVec.ofNat 32 (i 1).val
  let c1_i32_42 : BitVec 32 := 1#32
  let v137 : BitVec 32 := Scalar.subi arg1 c1_i32_42
  let c0_i32_34 : BitVec 32 := 0#32
  let c1_i32_36 : BitVec 32 := 1#32
  let arg9 : BitVec 32 := Scf.iv c0_i32_34 c1_i32_36 k0_t1
  let v138 : BitVec 32 := Scalar.subi v137 arg9
  let c2_i32_43 : BitVec 32 := 2#32
  let v139 : BitVec 32 := Scalar.muli v138 c2_i32_43
  let v140 : BitVec 32 := Scalar.addi v139 c1_i32_44
  let c256_i32_45 : BitVec 32 := 256#32
  let v141 : BitVec 32 := Scalar.muli v140 c256_i32_45
  let v142 : BitVec 32 := v141
  let v143 : Index := Scalar.indexCast v142
  let c0_46 : Index := 0#32
  ![v143.toNat, 0]
def k0_mult4 (i : grid0.Coords) (k0_t1 : Fin (k0_t1_loop i).trips) : BitVec 32 :=
  let arg1 : BitVec 32 := BitVec.ofNat 32 (i 1).val
  let c1_i32_56 : BitVec 32 := 1#32
  let v182 : BitVec 32 := Scalar.subi arg1 c1_i32_56
  let c0_i32_34 : BitVec 32 := 0#32
  let c1_i32_36 : BitVec 32 := 1#32
  let arg9 : BitVec 32 := Scf.iv c0_i32_34 c1_i32_36 k0_t1
  let v183 : BitVec 32 := Scalar.subi v182 arg9
  let c2_i32_57 : BitVec 32 := 2#32
  let v184 : BitVec 32 := Scalar.muli v183 c2_i32_57
  let c0_i32_58 : BitVec 32 := 0#32
  let v185 : BitVec 32 := Scalar.addi v184 c0_i32_58
  let c256_i32_59 : BitVec 32 := 256#32
  let v186 : BitVec 32 := Scalar.muli v185 c256_i32_59
  v186
@[reducible] def k0_t2_loop (i : grid0.Coords) : Scf.Loop 32 :=
  let c0_i32_34 : BitVec 32 := 0#32
  let arg1 : BitVec 32 := BitVec.ofNat 32 (i 1).val
  let v128 : BitVec 32 := Scalar.subi arg1 c0_i32_34
  let c1_i32_35 : BitVec 32 := 1#32
  let v130 : BitVec 32 := Scalar.divsi v128 c1_i32_35
  let v131 : BitVec 32 := Scalar.muli v130 c1_i32_35
  let v132 : BitVec 32 := Scalar.addi c0_i32_34 v131
  let v129 : BitVec 32 := Scalar.addi c0_i32_34 v128
  let c1_i32_37 : BitVec 32 := 1#32
  ⟨v132, v129, c1_i32_37⟩
def k0_mult5 (i : grid0.Coords) (k0_t2 : Fin (k0_t2_loop i).trips) : BitVec 32 :=
  let arg1 : BitVec 32 := BitVec.ofNat 32 (i 1).val
  let c1_i32_42 : BitVec 32 := 1#32
  let v137 : BitVec 32 := Scalar.subi arg1 c1_i32_42
  let c0_i32_34 : BitVec 32 := 0#32
  let v128 : BitVec 32 := Scalar.subi arg1 c0_i32_34
  let c1_i32_35 : BitVec 32 := 1#32
  let v130 : BitVec 32 := Scalar.divsi v128 c1_i32_35
  let v131 : BitVec 32 := Scalar.muli v130 c1_i32_35
  let v132 : BitVec 32 := Scalar.addi c0_i32_34 v131
  let c1_i32_37 : BitVec 32 := 1#32
  let arg9 : BitVec 32 := Scf.iv v132 c1_i32_37 k0_t2
  let v138 : BitVec 32 := Scalar.subi v137 arg9
  let c2_i32_43 : BitVec 32 := 2#32
  let v139 : BitVec 32 := Scalar.muli v138 c2_i32_43
  let c1_i32_44 : BitVec 32 := 1#32
  let v140 : BitVec 32 := Scalar.addi v139 c1_i32_44
  let c256_i32_45 : BitVec 32 := 256#32
  let v141 : BitVec 32 := Scalar.muli v140 c256_i32_45
  v141
def k0_off3 (i : grid0.Coords) (k0_t2 : Fin (k0_t2_loop i).trips) (c1_i32_44 : BitVec 32) : Fin 2 → Nat :=
  let arg1 : BitVec 32 := BitVec.ofNat 32 (i 1).val
  let c1_i32_42 : BitVec 32 := 1#32
  let v137 : BitVec 32 := Scalar.subi arg1 c1_i32_42
  let c0_i32_34 : BitVec 32 := 0#32
  let v128 : BitVec 32 := Scalar.subi arg1 c0_i32_34
  let c1_i32_35 : BitVec 32 := 1#32
  let v130 : BitVec 32 := Scalar.divsi v128 c1_i32_35
  let v131 : BitVec 32 := Scalar.muli v130 c1_i32_35
  let v132 : BitVec 32 := Scalar.addi c0_i32_34 v131
  let c1_i32_37 : BitVec 32 := 1#32
  let arg9 : BitVec 32 := Scf.iv v132 c1_i32_37 k0_t2
  let v138 : BitVec 32 := Scalar.subi v137 arg9
  let c2_i32_43 : BitVec 32 := 2#32
  let v139 : BitVec 32 := Scalar.muli v138 c2_i32_43
  let v140 : BitVec 32 := Scalar.addi v139 c1_i32_44
  let c256_i32_45 : BitVec 32 := 256#32
  let v141 : BitVec 32 := Scalar.muli v140 c256_i32_45
  let v142 : BitVec 32 := v141
  let v143 : Index := Scalar.indexCast v142
  let c0_46 : Index := 0#32
  ![v143.toNat, 0]
def k0_mult6 (i : grid0.Coords) (k0_t2 : Fin (k0_t2_loop i).trips) : BitVec 32 :=
  let arg1 : BitVec 32 := BitVec.ofNat 32 (i 1).val
  let c1_i32_56 : BitVec 32 := 1#32
  let v182 : BitVec 32 := Scalar.subi arg1 c1_i32_56
  let c0_i32_34 : BitVec 32 := 0#32
  let v128 : BitVec 32 := Scalar.subi arg1 c0_i32_34
  let c1_i32_35 : BitVec 32 := 1#32
  let v130 : BitVec 32 := Scalar.divsi v128 c1_i32_35
  let v131 : BitVec 32 := Scalar.muli v130 c1_i32_35
  let v132 : BitVec 32 := Scalar.addi c0_i32_34 v131
  let c1_i32_37 : BitVec 32 := 1#32
  let arg9 : BitVec 32 := Scf.iv v132 c1_i32_37 k0_t2
  let v183 : BitVec 32 := Scalar.subi v182 arg9
  let c2_i32_57 : BitVec 32 := 2#32
  let v184 : BitVec 32 := Scalar.muli v183 c2_i32_57
  let c0_i32_58 : BitVec 32 := 0#32
  let v185 : BitVec 32 := Scalar.addi v184 c0_i32_58
  let c256_i32_59 : BitVec 32 := 256#32
  let v186 : BitVec 32 := Scalar.muli v185 c256_i32_59
  v186
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdReferenceIdeal.lean ====
abbrev S8192x20480 : Shape := ⟨2, ![8192, 20480]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192x32 : Shape := ⟨3, ![16, 8192, 32]⟩
abbrev S16x8192x96 : Shape := ⟨3, ![16, 8192, 96]⟩

abbrev nBuf : Space → Nat
  | .hbm => 136
  | .vmem => 0
  | .smem => 0
  | _ => 0

abbrev hbmTy0_0 (i : Nat) : BufTy := match i % 128 with
  | 0 => ⟨S8192x20480, .f32⟩
  | 1 => ⟨S8192x2048, .f32⟩
  | 2 => ⟨S8192x2048, .f32⟩
  | 3 => ⟨S8192x2048, .f32⟩
  | 4 => ⟨S8192x16x128, .f32⟩
  | 5 => ⟨S16x8192x128, .f32⟩
  | 6 => ⟨S8192x16x128, .f32⟩
  | 7 => ⟨S16x8192x128, .f32⟩
  | 8 => ⟨S16x8192x8192, .f32⟩
  | 9 => ⟨S_, .f32⟩
  | 10 => ⟨S16x8192x8192, .f32⟩
  | 11 => ⟨S16x8192x8192, .f32⟩
  | 12 => ⟨S8192, .i32⟩
  | 13 => ⟨S8192x1, .i32⟩
  | 14 => ⟨S8192, .i32⟩
  | 15 => ⟨S1x8192, .i32⟩
  | 16 => ⟨S8192x8192, .i32⟩
  | 17 => ⟨S8192x8192, .i32⟩
  | 18 => ⟨S8192x8192, .i1⟩
  | 19 => ⟨S16x8192x8192, .f32⟩
  | 20 => ⟨S_, .f32⟩
  | 21 => ⟨S16x8192x8192, .f32⟩
  | 22 => ⟨S16x8192x8192, .f32⟩
  | 23 => ⟨S16x8192x8192, .f32⟩
  | 24 => ⟨S16x8192x8192, .f32⟩
  | 25 => ⟨S16x8192x8192, .i1⟩
  | 26 => ⟨S16x8192x8192, .f32⟩
  | 27 => ⟨S16x8192x8192, .f32⟩
  | 28 => ⟨S16x8192x8192, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S_, .f32⟩
  | 38 => ⟨S16x8192x8192, .f32⟩
  | 39 => ⟨S16x8192x8192, .f32⟩
  | 40 => ⟨S16x8192x8192, .f32⟩
  | 41 => ⟨S16x8192x8192, .f32⟩
  | 42 => ⟨S16x8192x8192, .i1⟩
  | 43 => ⟨S16x8192x8192, .f32⟩
  | 44 => ⟨S16x8192x8192, .f32⟩
  | 45 => ⟨S16x8192x8192, .f32⟩
  | 46 => ⟨S16x8192x8192, .f32⟩
  | 47 => ⟨S16x8192x8192, .f32⟩
  | 48 => ⟨S16x8192x8192, .f32⟩
  | 49 => ⟨S16x8192x8192, .f32⟩
  | 50 => ⟨S16x8192x8192, .f32⟩
  | 51 => ⟨S16x8192x8192, .f32⟩
  | 52 => ⟨S_, .f32⟩
  | 53 => ⟨S_, .f32⟩
  | 54 => ⟨S16x8192x8192, .i1⟩
  | 55 => ⟨S16x8192x8192, .f32⟩
  | 56 => ⟨S16x8192x8192, .f32⟩
  | 57 => ⟨S_, .f32⟩
  | 58 => ⟨S_, .f32⟩
  | 59 => ⟨S16x8192x8192, .f32⟩
  | 60 => ⟨S16x8192x8192, .f32⟩
  | 61 => ⟨S16x8192x32, .f32⟩
  | 62 => ⟨S_, .f32⟩
  | 63 => ⟨S16x8192x96, .f32⟩
  | 64 => ⟨S16x8192x128, .f32⟩
  | 65 => ⟨S8192x16x128, .f32⟩
  | 66 => ⟨S16x8192x128, .f32⟩
  | 67 => ⟨S8192x16x128, .f32⟩
  | 68 => ⟨S16x8192x128, .f32⟩
  | 69 => ⟨S8192x16x128, .f32⟩
  | 70 => ⟨S16x8192x128, .f32⟩
  | 71 => ⟨S16x8192x8192, .f32⟩
  | 72 => ⟨S_, .f32⟩
  | 73 => ⟨S16x8192x8192, .f32⟩
  | 74 => ⟨S16x8192x8192, .f32⟩
  | 75 => ⟨S8192, .i32⟩
  | 76 => ⟨S8192x1, .i32⟩
  | 77 => ⟨S8192, .i32⟩
  | 78 => ⟨S1x8192, .i32⟩
  | 79 => ⟨S8192x8192, .i32⟩
  | 80 => ⟨S8192x8192, .i32⟩
  | 81 => ⟨S8192x8192, .i1⟩
  | 82 => ⟨S16x8192x8192, .f32⟩
  | 83 => ⟨S_, .f32⟩
  | 84 => ⟨S16x8192x8192, .f32⟩
  | 85 => ⟨S16x8192x8192, .f32⟩
  | 86 => ⟨S16x8192x8192, .f32⟩
  | 87 => ⟨S16x8192x8192, .f32⟩
  | 88 => ⟨S16x8192x8192, .i1⟩
  | 89 => ⟨S16x8192x8192, .f32⟩
  | 90 => ⟨S16x8192x8192, .f32⟩
  | 91 => ⟨S16x8192x8192, .f32⟩
  | 92 => ⟨S16x8192x8192, .f32⟩
  | 93 => ⟨S16x8192x8192, .f32⟩
  | 94 => ⟨S16x8192x8192, .f32⟩
  | 95 => ⟨S16x8192x8192, .f32⟩
  | 96 => ⟨S16x8192x8192, .f32⟩
  | 97 => ⟨S16x8192x8192, .f32⟩
  | 98 => ⟨S16x8192x8192, .f32⟩
  | 99 => ⟨S16x8192x8192, .f32⟩
  | 100 => ⟨S_, .f32⟩
  | 101 => ⟨S16x8192x8192, .f32⟩
  | 102 => ⟨S16x8192x8192, .f32⟩
  | 103 => ⟨S16x8192x8192, .f32⟩
  | 104 => ⟨S16x8192x8192, .f32⟩
  | 105 => ⟨S16x8192x8192, .i1⟩
  | 106 => ⟨S16x8192x8192, .f32⟩
  | 107 => ⟨S16x8192x8192, .f32⟩
  | 108 => ⟨S16x8192x8192, .f32⟩
  | 109 => ⟨S16x8192x8192, .f32⟩
  | 110 => ⟨S16x8192x8192, .f32⟩
  | 111 => ⟨S16x8192x8192, .f32⟩
  | 112 => ⟨S16x8192x8192, .f32⟩
  | 113 => ⟨S16x8192x8192, .f32⟩
  | 114 => ⟨S16x8192x8192, .f32⟩
  | 115 => ⟨S_, .f32⟩
  | 116 => ⟨S_, .f32⟩
  | 117 => ⟨S16x8192x8192, .i1⟩
  | 118 => ⟨S16x8192x8192, .f32⟩
  | 119 => ⟨S16x8192x8192, .f32⟩
  | 120 => ⟨S_, .f32⟩
  | 121 => ⟨S_, .f32⟩
  | 122 => ⟨S16x8192x8192, .f32⟩
  | 123 => ⟨S16x8192x8192, .f32⟩
  | 124 => ⟨S16x8192x8192, .f32⟩
  | 125 => ⟨S16x8192x8192, .f32⟩
  | 126 => ⟨S_, .f32⟩
  | 127 => ⟨S_, .f32⟩
  | _ => ⟨S8192x20480, .f32⟩

abbrev hbmTy0_1 (i : Nat) : BufTy := match i % 128 with
  | 0 => ⟨S16x8192x8192, .i1⟩
  | 1 => ⟨S16x8192x8192, .f32⟩
  | 2 => ⟨S16x8192x8192, .f32⟩
  | 3 => ⟨S16x8192x128, .f32⟩
  | 4 => ⟨S8192x16x128, .f32⟩
  | 5 => ⟨S8192x2048, .f32⟩
  | 6 => ⟨S8192x16x128, .f32⟩
  | 7 => ⟨S8192x2048, .f32⟩
  | _ => ⟨S8192x20480, .f32⟩

abbrev hbmTy (i : Nat) : BufTy := match i / 128 with
  | 0 => hbmTy0_0 i
  | 1 => hbmTy0_1 i
  | _ => ⟨S8192x20480, .f32⟩

abbrev bufTy : (tb : Table) → Fin (tcTables nBuf tb) → BufTy
  | .hbm, ⟨i, _⟩ => hbmTy i
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v19 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v20 : Ref sig .tc := ⟨.hbm, 56, rfl⟩
abbrev main_call3_cst : Ref sig .tc := ⟨.hbm, 57, rfl⟩
abbrev main_call3_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_2 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call4_v0 : Ref sig .tc := ⟨.hbm, 82, rfl⟩
abbrev main_call4_call0_cst : Ref sig .tc := ⟨.hbm, 83, rfl⟩
abbrev main_call4_call0_v0 : Ref sig .tc := ⟨.hbm, 84, rfl⟩
abbrev main_call4_call0_v1 : Ref sig .tc := ⟨.hbm, 85, rfl⟩
abbrev main_call4_call0_v2 : Ref sig .tc := ⟨.hbm, 86, rfl⟩
abbrev main_call4_call0_v3 : Ref sig .tc := ⟨.hbm, 87, rfl⟩
abbrev main_call4_call0_v4 : Ref sig .tc := ⟨.hbm, 88, rfl⟩
abbrev main_call4_call0_v5 : Ref sig .tc := ⟨.hbm, 89, rfl⟩
abbrev main_call4_call0_v6 : Ref sig .tc := ⟨.hbm, 90, rfl⟩
abbrev main_call4_call0_v7 : Ref sig .tc := ⟨.hbm, 91, rfl⟩
abbrev main_call4_call0_v8 : Ref sig .tc := ⟨.hbm, 92, rfl⟩
abbrev main_call4_call0_v9 : Ref sig .tc := ⟨.hbm, 93, rfl⟩
abbrev main_call4_call0_v10 : Ref sig .tc := ⟨.hbm, 94, rfl⟩
abbrev main_call4_call0_v11 : Ref sig .tc := ⟨.hbm, 95, rfl⟩
abbrev main_call4_v1 : Ref sig .tc := ⟨.hbm, 96, rfl⟩
abbrev main_v42 : Ref sig .tc := ⟨.hbm, 97, rfl⟩
abbrev main_v43 : Ref sig .tc := ⟨.hbm, 98, rfl⟩
abbrev main_call5_v0 : Ref sig .tc := ⟨.hbm, 99, rfl⟩
abbrev main_call5_call0_cst : Ref sig .tc := ⟨.hbm, 100, rfl⟩
abbrev main_call5_call0_v0 : Ref sig .tc := ⟨.hbm, 101, rfl⟩
abbrev main_call5_call0_v1 : Ref sig .tc := ⟨.hbm, 102, rfl⟩
abbrev main_call5_call0_v2 : Ref sig .tc := ⟨.hbm, 103, rfl⟩
abbrev main_call5_call0_v3 : Ref sig .tc := ⟨.hbm, 104, rfl⟩
abbrev main_call5_call0_v4 : Ref sig .tc := ⟨.hbm, 105, rfl⟩
abbrev main_call5_call0_v5 : Ref sig .tc := ⟨.hbm, 106, rfl⟩
abbrev main_call5_call0_v6 : Ref sig .tc := ⟨.hbm, 107, rfl⟩
abbrev main_call5_call0_v7 : Ref sig .tc := ⟨.hbm, 108, rfl⟩
abbrev main_call5_call0_v8 : Ref sig .tc := ⟨.hbm, 109, rfl⟩
abbrev main_call5_call0_v9 : Ref sig .tc := ⟨.hbm, 110, rfl⟩
abbrev main_call5_call0_v10 : Ref sig .tc := ⟨.hbm, 111, rfl⟩
abbrev main_call5_call0_v11 : Ref sig .tc := ⟨.hbm, 112, rfl⟩
abbrev main_call5_v1 : Ref sig .tc := ⟨.hbm, 113, rfl⟩
abbrev main_v44 : Ref sig .tc := ⟨.hbm, 114, rfl⟩
abbrev main_cst_3 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_v45 : Ref sig .tc := ⟨.hbm, 119, rfl⟩
abbrev main_call7_cst : Ref sig .tc := ⟨.hbm, 120, rfl⟩
abbrev main_call7_v0 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_cst_4 : Ref sig .tc := ⟨.hbm, 126, rfl⟩
abbrev main_call8_v0 : Ref sig .tc := ⟨.hbm, 127, rfl⟩
abbrev main_call8_v1 : Ref sig .tc := ⟨.hbm, 128, rfl⟩
abbrev main_call8_v2 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩

abbrev nD : Nat := 1
abbrev τ : Topo := Topo.v7x

variable {F : FTy → Type} [FloatOps F]
-- ==== AdaKernel.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v55 : BitVec 1 := Scalar.xori v52 v_true
  let v56 : BitVec 32 := Scalar.extui v55
  let c0_i32_22 : BitVec 32 := 0#32
  let v57 : BitVec 1 := Scalar.cmpi .ne v56 c0_i32_22
  v57

def k0_cond3 (i : grid0.Coords) : BitVec 1 :=
  let arg0 : BitVec 32 := BitVec.ofNat 32 (i 0).val
  let c0_i32_23 : BitVec 32 := 0#32
  let v58 : BitVec 1 := Scalar.cmpi .eq arg0 c0_i32_23
  let v59 : BitVec 32 := Scalar.extui v58
  let c0_i32_24 : BitVec 32 := 0#32
  let v60 : BitVec 1 := Scalar.cmpi .ne v59 c0_i32_24
  v60

def k0_cond4 (i : grid0.Coords) : BitVec 1 :=
  let arg0 : BitVec 32 := BitVec.ofNat 32 (i 0).val
  let c0_i32_23 : BitVec 32 := 0#32
  let v58 : BitVec 1 := Scalar.cmpi .eq arg0 c0_i32_23
  let true_25 : BitVec 1 := 1#1
  let v61 : BitVec 1 := Scalar.xori v58 true_25
  let v62 : BitVec 32 := Scalar.extui v61
  let c0_i32_26 : BitVec 32 := 0#32
  let v63 : BitVec 1 := Scalar.cmpi .ne v62 c0_i32_26
  v63

def k0_cond5 (i : grid0.Coords) : BitVec 1 :=
  let arg0 : BitVec 32 := BitVec.ofNat 32 (i 0).val
  let c0_i32_27 : BitVec 32 := 0#32
  let v64 : BitVec 1 := Scalar.cmpi .eq arg0 c0_i32_27
  let v65 : BitVec 32 := Scalar.extui v64
  let c0_i32_28 : BitVec 32 := 0#32
  let v66 : BitVec 1 := Scalar.cmpi .ne v65 c0_i32_28
  v66

def k0_cond6 (i : grid0.Coords) : BitVec 1 :=
  let arg0 : BitVec 32 := BitVec.ofNat 32 (i 0).val
  let c0_i32_27 : BitVec 32 := 0#32
  let v64 : BitVec 1 := Scalar.cmpi .eq arg0 c0_i32_27
  let true_29 : BitVec 1 := 1#1
  let v67 : BitVec 1 := Scalar.xori v64 true_29
  let v68 : BitVec 32 := Scalar.extui v67
  let c0_i32_30 : BitVec 32 := 0#32
  let v69 : BitVec 1 := Scalar.cmpi .ne v68 c0_i32_30
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdaReferenceIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== ConvKernel.lean ====
abbrev S8192x20480 : Shape := ⟨2, ![8192, 20480]⟩
abbrev S4x6144 : Shape := ⟨2, ![4, 6144]⟩
abbrev S8192x6144 : Shape := ⟨2, ![8192, 6144]⟩
abbrev S512x512 : Shape := ⟨2, ![512, 512]⟩
abbrev S8x512 : Shape := ⟨2, ![8, 512]⟩
abbrev S4x512 : Shape := ⟨2, ![4, 512]⟩
abbrev S520x512 : Shape := ⟨2, ![520, 512]⟩
abbrev S1x512 : Shape := ⟨2, ![1, 512]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S8192x20480, .f32⟩
  | .hbm, ⟨1, _⟩ => ⟨S4x6144, .f32⟩
  | .hbm, ⟨2, _⟩ => ⟨S8192x6144, .f32⟩
  | .hbm, ⟨3, _⟩ => ⟨S8192x6144, .bf16⟩
  | .hbm, ⟨4, _⟩ => ⟨S4x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S512x512, .bf16⟩
  | .local _ .vmem, ⟨11, _⟩ => ⟨S512x512, .bf16⟩
  | .local _ .vmem, ⟨12, _⟩ => ⟨S4x512, .f32⟩
  | .local _ .vmem, ⟨13, _⟩ => ⟨S4x512, .f32⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvReferenceIdeal.lean ====
abbrev S8192x20480 : Shape := ⟨2, ![8192, 20480]⟩
abbrev S4x6144 : Shape := ⟨2, ![4, 6144]⟩
abbrev S8192x6144 : Shape := ⟨2, ![8192, 6144]⟩
abbrev S_ : Shape := ⟨0, ![]⟩
abbrev S3x6144 : Shape := ⟨2, ![3, 6144]⟩
abbrev S8195x6144 : Shape := ⟨2, ![8195, 6144]⟩
abbrev S1x6144 : Shape := ⟨2, ![1, 6144]⟩
abbrev S6144 : Shape := ⟨1, ![6144]⟩

abbrev nBuf : Space → Nat
  | .hbm => 102
  | .vmem => 0
  | .smem => 0
  | _ => 0

abbrev bufTy : (tb : Table) → Fin (tcTables nBuf tb) → BufTy
  | .hbm, ⟨0, _⟩ => ⟨S8192x20480, .f32⟩
  | .hbm, ⟨1, _⟩ => ⟨S4x6144, .f32⟩
  | .hbm, ⟨2, _⟩ => ⟨S8192x6144, .f32⟩
  | .hbm, ⟨3, _⟩ => ⟨S8192x6144, .f32⟩
  | .hbm, ⟨4, _⟩ => ⟨S_, .f32⟩
  | .hbm, ⟨5, _⟩ => ⟨S3x6144, .f32⟩
  | .hbm, ⟨6, _⟩ => ⟨S8195x6144, .f32⟩
  | .hbm, ⟨7, _⟩ => ⟨S_, .f32⟩
  | .hbm, ⟨8, _⟩ => ⟨S3x6144, .f32⟩
  | .hbm, ⟨9, _⟩ => ⟨S1x6144, .f32⟩
  | .hbm, ⟨10, _⟩ => ⟨S6144, .f32⟩
  | .hbm, ⟨11, _⟩ => ⟨S8192x6144, .f32⟩
  | .hbm, ⟨12, _⟩ => ⟨S1x6144, .f32⟩
  | .hbm, ⟨13, _⟩ => ⟨S8192x6144, .f32⟩
  | .hbm, ⟨14, _⟩ => ⟨S8192x6144, .f32⟩
  | .hbm, ⟨15, _⟩ => ⟨S_, .f32⟩
  | .hbm, ⟨16, _⟩ => ⟨S8192x6144, .f32⟩
  | .hbm, ⟨17, _⟩ => ⟨S8192x6144, .f32⟩
  | .hbm, ⟨18, _⟩ => ⟨S1x6144, .f32⟩
  | .hbm, ⟨19, _⟩ => ⟨S6144, .f32⟩
  | .hbm, ⟨20, _⟩ => ⟨S8192x6144, .f32⟩
  | .hbm, ⟨21, _⟩ => ⟨S1x6144, .f32⟩
  | .hbm, ⟨22, _⟩ => ⟨S8192x6144, .f32⟩
  | .hbm, ⟨23, _⟩ => ⟨S8192x6144, .f32⟩
  | .hbm, ⟨24, _⟩ => ⟨S8192x6144, .f32⟩
  | .hbm, ⟨25, _⟩ => ⟨S1x6144, .f32⟩
  | .hbm, ⟨26, _⟩ => ⟨S6144, .f32⟩
  | .hbm, ⟨27, _⟩ => ⟨S8192x6144, .f32⟩
  | .hbm, ⟨28, _⟩ => ⟨S1x6144, .f32⟩
  | .hbm, ⟨29, _⟩ => ⟨S8192x6144, .f32⟩
  | .hbm, ⟨30, _⟩ => ⟨S8192x6144, .f32⟩
  | .hbm, ⟨31, _⟩ => ⟨S8192x6144, .f32⟩
  | .hbm, ⟨32, _⟩ => ⟨S1x6144, .f32⟩
  | .hbm, ⟨33, _⟩ => ⟨S6144, .f32⟩
  | .hbm, ⟨34, _⟩ => ⟨S8192x6144, .f32⟩
  | .hbm, ⟨35, _⟩ => ⟨S1x6144, .f32⟩
  | .hbm, ⟨36, _⟩ => ⟨S8192x6144, .f32⟩
  | .hbm, ⟨37, _⟩ => ⟨S8192x6144, .f32⟩
  | .hbm, ⟨38, _⟩ => ⟨S8192x6144, .f32⟩
  | .hbm, ⟨39, _⟩ => ⟨S8192x6144, .f32⟩
  | .hbm, ⟨40, _⟩ => ⟨S8192x6144, .f32⟩
  | .hbm, ⟨41, _⟩ => ⟨S8192x6144, .f32⟩
  | .hbm, ⟨42, _⟩ => ⟨S8192x6144, .f32⟩
  | .hbm, ⟨43, _⟩ => ⟨S8192x6144, .f32⟩
  | .hbm, ⟨44, _⟩ => ⟨S_, .f32⟩
  | .hbm, ⟨45, _⟩ => ⟨S6144, .f32⟩
  | .hbm, ⟨46, _⟩ => ⟨S1x6144, .f32⟩
  | .hbm, ⟨47, _⟩ => ⟨S_, .f32⟩
  | .hbm, ⟨48, _⟩ => ⟨S6144, .f32⟩
  | .hbm, ⟨49, _⟩ => ⟨S_, .f32⟩
  | .hbm, ⟨50, _⟩ => ⟨S8195x6144, .f32⟩
  | .hbm, ⟨51, _⟩ => ⟨S1x6144, .f32⟩
  | .hbm, ⟨52, _⟩ => ⟨S_, .f32⟩
  | .hbm, ⟨53, _⟩ => ⟨S4x6144, .f32⟩
  | .hbm, ⟨54, _⟩ => ⟨S8192x6144, .f32⟩
  | .hbm, ⟨55, _⟩ => ⟨S8192x6144, .f32⟩
  | .hbm, ⟨56, _⟩ => ⟨S8192x6144, .f32⟩
  | .hbm, ⟨57, _⟩ => ⟨S_, .f32⟩
  | .hbm, ⟨58, _⟩ => ⟨S6144, .f32⟩
  | .hbm, ⟨59, _⟩ => ⟨S1x6144, .f32⟩
  | .hbm, ⟨60, _⟩ => ⟨S_, .f32⟩
  | .hbm, ⟨61, _⟩ => ⟨S6144, .f32⟩
  | .hbm, ⟨62, _⟩ => ⟨S_, .f32⟩
  | .hbm, ⟨63, _⟩ => ⟨S8195x6144, .f32⟩
  | .hbm, ⟨64, _⟩ => ⟨S8195x6144, .f32⟩
  | .hbm, ⟨65, _⟩ => ⟨S1x6144, .f32⟩
  | .hbm, ⟨66, _⟩ => ⟨S_, .f32⟩
  | .hbm, ⟨67, _⟩ => ⟨S4x6144, .f32⟩
  | .hbm, ⟨68, _⟩ => ⟨S4x6144, .f32⟩
  | .hbm, ⟨69, _⟩ => ⟨S8192x6144, .f32⟩
  | .hbm, ⟨70, _⟩ => ⟨S8192x6144, .f32⟩
  | .hbm, ⟨71, _⟩ => ⟨S8192x6144, .f32⟩
  | .hbm, ⟨72, _⟩ => ⟨S_, .f32⟩
  | .hbm, ⟨73, _⟩ => ⟨S6144, .f32⟩
  | .hbm, ⟨74, _⟩ => ⟨S1x6144, .f32⟩
  | .hbm, ⟨75, _⟩ => ⟨S_, .f32⟩
  | .hbm, ⟨76, _⟩ => ⟨S6144, .f32⟩
  | .hbm, ⟨77, _⟩ => ⟨S_, .f32⟩
  | .hbm, ⟨78, _⟩ => ⟨S8195x6144, .f32⟩
  | .hbm, ⟨79, _⟩ => ⟨S8195x6144, .f32⟩
  | .hbm, ⟨80, _⟩ => ⟨S1x6144, .f32⟩
  | .hbm, ⟨81, _⟩ => ⟨S_, .f32⟩
  | .hbm, ⟨82, _⟩ => ⟨S4x6144, .f32⟩
  | .hbm, ⟨83, _⟩ => ⟨S4x6144, .f32⟩
  | .hbm, ⟨84, _⟩ => ⟨S8192x6144, .f32⟩
  | .hbm, ⟨85, _⟩ => ⟨S8192x6144, .f32⟩
  | .hbm, ⟨86, _⟩ => ⟨S8192x6144, .f32⟩
  | .hbm, ⟨87, _⟩ => ⟨S_, .f32⟩
  | .hbm, ⟨88, _⟩ => ⟨S6144, .f32⟩
  | .hbm, ⟨89, _⟩ => ⟨S1x6144, .f32⟩
  | .hbm, ⟨90, _⟩ => ⟨S_, .f32⟩
  | .hbm, ⟨91, _⟩ => ⟨S6144, .f32⟩
  | .hbm, ⟨92, _⟩ => ⟨S_, .f32⟩
  | .hbm, ⟨93, _⟩ => ⟨S8195x6144, .f32⟩
  | .hbm, ⟨94, _⟩ => ⟨S8195x6144, .f32⟩
  | .hbm, ⟨95, _⟩ => ⟨S1x6144, .f32⟩
  | .hbm, ⟨96, _⟩ => ⟨S_, .f32⟩
  | .hbm, ⟨97, _⟩ => ⟨S4x6144, .f32⟩
  | .hbm, ⟨98, _⟩ => ⟨S4x6144, .f32⟩
  | .hbm, ⟨99, _⟩ => ⟨S3x6144, .f32⟩
  | .hbm, ⟨100, _⟩ => ⟨S8192x6144, .f32⟩
  | .hbm, ⟨101, _⟩ => ⟨S8192x6144, .bf16⟩
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== AdamAdaKernel.lean ====
abbrev S2048x1536 : Shape := ⟨2, ![2048, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaKernelIdeal.lean ====
abbrev S2048x1536 : Shape := ⟨2, ![2048, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaReferenceIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInKernel.lean ====
abbrev S2048x5128 : Shape := ⟨2, ![2048, 5128]⟩
abbrev S64x5128 : Shape := ⟨2, ![64, 5128]⟩

abbrev nBuf : Space → Nat
  | .hbm => 7
  | .vmem => 14
  | .smem => 0
  | _ => 0

abbrev bufTy : (tb : Table) → Fin (tcTables nBuf tb) → BufTy
  | .hbm, ⟨0, _⟩ => ⟨S2048x5128, .f32⟩
  | .hbm, ⟨1, _⟩ => ⟨S2048x5128, .f32⟩
  | .hbm, ⟨2, _⟩ => ⟨S2048x5128, .f32⟩
  | .hbm, ⟨3, _⟩ => ⟨S2048x5128, .f32⟩
  | .hbm, ⟨4, _⟩ => ⟨S2048x5128, .f32⟩
  | .hbm, ⟨5, _⟩ => ⟨S2048x5128, .f32⟩
  | .hbm, ⟨6, _⟩ => ⟨S2048x5128, .f32⟩
  | .local _ .vmem, ⟨0, _⟩ => ⟨S64x5128, .f32⟩
  | .local _ .vmem, ⟨1, _⟩ => ⟨S64x5128, .f32⟩
  | .local _ .vmem, ⟨2, _⟩ => ⟨S64x5128, .f32⟩
  | .local _ .vmem, ⟨3, _⟩ => ⟨S64x5128, .f32⟩
  | .local _ .vmem, ⟨4, _⟩ => ⟨S64x5128, .f32⟩
  | .local _ .vmem, ⟨5, _⟩ => ⟨S64x5128, .f32⟩
  | .local _ .vmem, ⟨6, _⟩ => ⟨S64x5128, .f32⟩
  | .local _ .vmem, ⟨7, _⟩ => ⟨S64x5128, .f32⟩
  | .local _ .vmem, ⟨8, _⟩ => ⟨S64x5128, .f32⟩
  | .local _ .vmem, ⟨9, _⟩ => ⟨S64x5128, .f32⟩
  | .local _ .vmem, ⟨10, _⟩ => ⟨S64x5128, .f32⟩
  | .local _ .vmem, ⟨11, _⟩ => ⟨S64x5128, .f32⟩
  | .local _ .vmem, ⟨12, _⟩ => ⟨S64x5128, .f32⟩
  | .local _ .vmem, ⟨13, _⟩ => ⟨S64x5128, .f32⟩
  | _, _ => ⟨S2048x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x5128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInKernelIdeal.lean ====
abbrev S2048x5128 : Shape := ⟨2, ![2048, 5128]⟩
abbrev S64x5128 : Shape := ⟨2, ![64, 5128]⟩

abbrev nBuf : Space → Nat
  | .hbm => 7
  | .vmem => 14
  | .smem => 0
  | _ => 0

abbrev bufTy : (tb : Table) → Fin (tcTables nBuf tb) → BufTy
  | .hbm, ⟨0, _⟩ => ⟨S2048x5128, .f32⟩
  | .hbm, ⟨1, _⟩ => ⟨S2048x5128, .f32⟩
  | .hbm, ⟨2, _⟩ => ⟨S2048x5128, .f32⟩
  | .hbm, ⟨3, _⟩ => ⟨S2048x5128, .f32⟩
  | .hbm, ⟨4, _⟩ => ⟨S2048x5128, .f32⟩
  | .hbm, ⟨5, _⟩ => ⟨S2048x5128, .f32⟩
  | .hbm, ⟨6, _⟩ => ⟨S2048x5128, .f32⟩
  | .local _ .vmem, ⟨0, _⟩ => ⟨S64x5128, .f32⟩
  | .local _ .vmem, ⟨1, _⟩ => ⟨S64x5128, .f32⟩
  | .local _ .vmem, ⟨2, _⟩ => ⟨S64x5128, .f32⟩
  | .local _ .vmem, ⟨3, _⟩ => ⟨S64x5128, .f32⟩
  | .local _ .vmem, ⟨4, _⟩ => ⟨S64x5128, .f32⟩
  | .local _ .vmem, ⟨5, _⟩ => ⟨S64x5128, .f32⟩
  | .local _ .vmem, ⟨6, _⟩ => ⟨S64x5128, .f32⟩
  | .local _ .vmem, ⟨7, _⟩ => ⟨S64x5128, .f32⟩
  | .local _ .vmem, ⟨8, _⟩ => ⟨S64x5128, .f32⟩
  | .local _ .vmem, ⟨9, _⟩ => ⟨S64x5128, .f32⟩
  | .local _ .vmem, ⟨10, _⟩ => ⟨S64x5128, .f32⟩
  | .local _ .vmem, ⟨11, _⟩ => ⟨S64x5128, .f32⟩
  | .local _ .vmem, ⟨12, _⟩ => ⟨S64x5128, .f32⟩
  | .local _ .vmem, ⟨13, _⟩ => ⟨S64x5128, .f32⟩
  | _, _ => ⟨S2048x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x5128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S2048x5128 : Shape := ⟨2, ![2048, 5128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x5128, .f32⟩
  | .hbm, ⟨1, _⟩ => ⟨S2048x5128, .f32⟩
  | .hbm, ⟨2, _⟩ => ⟨S2048x5128, .f32⟩
  | .hbm, ⟨3, _⟩ => ⟨S2048x5128, .f32⟩
  | .hbm, ⟨4, _⟩ => ⟨S_, .f32⟩
  | .hbm, ⟨5, _⟩ => ⟨S2048x5128, .f32⟩
  | .hbm, ⟨6, _⟩ => ⟨S2048x5128, .f32⟩
  | .hbm, ⟨7, _⟩ => ⟨S_, .f32⟩
  | .hbm, ⟨8, _⟩ => ⟨S2048x5128, .f32⟩
  | .hbm, ⟨9, _⟩ => ⟨S2048x5128, .f32⟩
  | .hbm, ⟨10, _⟩ => ⟨S2048x5128, .f32⟩
  | .hbm, ⟨11, _⟩ => ⟨S_, .f32⟩
  | .hbm, ⟨12, _⟩ => ⟨S2048x5128, .f32⟩
  | .hbm, ⟨13, _⟩ => ⟨S2048x5128, .f32⟩
  | .hbm, ⟨14, _⟩ => ⟨S2048x5128, .f32⟩
  | .hbm, ⟨15, _⟩ => ⟨S_, .f32⟩
  | .hbm, ⟨16, _⟩ => ⟨S2048x5128, .f32⟩
  | .hbm, ⟨17, _⟩ => ⟨S2048x5128, .f32⟩
  | .hbm, ⟨18, _⟩ => ⟨S2048x5128, .f32⟩
  | .hbm, ⟨19, _⟩ => ⟨S_, .f32⟩
  | .hbm, ⟨20, _⟩ => ⟨S2048x5128, .f32⟩
  | .hbm, ⟨21, _⟩ => ⟨S2048x5128, .f32⟩
  | .hbm, ⟨22, _⟩ => ⟨S_, .f32⟩
  | .hbm, ⟨23, _⟩ => ⟨S2048x5128, .f32⟩
  | .hbm, ⟨24, _⟩ => ⟨S2048x5128, .f32⟩
  | .hbm, ⟨25, _⟩ => ⟨S2048x5128, .f32⟩
  | .hbm, ⟨26, _⟩ => ⟨S_, .f32⟩
  | .hbm, ⟨27, _⟩ => ⟨S2048x5128, .f32⟩
  | .hbm, ⟨28, _⟩ => ⟨S2048x5128, .f32⟩
  | .hbm, ⟨29, _⟩ => ⟨S2048x5128, .f32⟩
  | .hbm, ⟨30, _⟩ => ⟨S_, .f32⟩
  | .hbm, ⟨31, _⟩ => ⟨S2048x5128, .f32⟩
  | .hbm, ⟨32, _⟩ => ⟨S2048x5128, .f32⟩
  | .hbm, ⟨33, _⟩ => ⟨S2048x5128, .f32⟩
  | .hbm, ⟨34, _⟩ => ⟨S_, .f32⟩
  | .hbm, ⟨35, _⟩ => ⟨S2048x5128, .f32⟩
  | .hbm, ⟨36, _⟩ => ⟨S2048x5128, .f32⟩
  | _, _ => ⟨S2048x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvKernel.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvKernelIdeal.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S4x1536 : Shape := ⟨2, ![4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S_, .f32⟩
  | .hbm, ⟨5, _⟩ => ⟨S4x1536, .f32⟩
  | .hbm, ⟨6, _⟩ => ⟨S4x1536, .f32⟩
  | .hbm, ⟨7, _⟩ => ⟨S_, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S_, .f32⟩
  | .hbm, ⟨23, _⟩ => ⟨S4x1536, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProjKernel.lean ====
abbrev S512x2048 : Shape := ⟨2, ![512, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjKernelIdeal.lean ====
abbrev S512x2048 : Shape := ⟨2, ![512, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjReferenceIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallKernel.lean ====
abbrev S8x6144 : Shape := ⟨2, ![8, 6144]⟩

abbrev nBuf : Space → Nat
  | .hbm => 7
  | .vmem => 7
  | .smem => 0
  | _ => 0

abbrev bufTy : (tb : Table) → Fin (tcTables nBuf tb) → BufTy
  | .hbm, ⟨0, _⟩ => ⟨S8x6144, .f32⟩
  | .hbm, ⟨1, _⟩ => ⟨S8x6144, .f32⟩
  | .hbm, ⟨2, _⟩ => ⟨S8x6144, .f32⟩
  | .hbm, ⟨3, _⟩ => ⟨S8x6144, .f32⟩
  | .hbm, ⟨4, _⟩ => ⟨S8x6144, .f32⟩
  | .hbm, ⟨5, _⟩ => ⟨S8x6144, .f32⟩
  | .hbm, ⟨6, _⟩ => ⟨S8x6144, .f32⟩
  | .local _ .vmem, ⟨0, _⟩ => ⟨S8x6144, .f32⟩
  | .local _ .vmem, ⟨1, _⟩ => ⟨S8x6144, .f32⟩
  | .local _ .vmem, ⟨2, _⟩ => ⟨S8x6144, .f32⟩
  | .local _ .vmem, ⟨3, _⟩ => ⟨S8x6144, .f32⟩
  | .local _ .vmem, ⟨4, _⟩ => ⟨S8x6144, .f32⟩
  | .local _ .vmem, ⟨5, _⟩ => ⟨S8x6144, .f32⟩
  | .local _ .vmem, ⟨6, _⟩ => ⟨S8x6144, .f32⟩
  | _, _ => ⟨S8x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S8x6144 : Shape := ⟨2, ![8, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x6144, .f32⟩
  | .hbm, ⟨1, _⟩ => ⟨S8x6144, .f32⟩
  | .hbm, ⟨2, _⟩ => ⟨S8x6144, .f32⟩
  | .hbm, ⟨3, _⟩ => ⟨S8x6144, .f32⟩
  | .hbm, ⟨4, _⟩ => ⟨S_, .f32⟩
  | .hbm, ⟨5, _⟩ => ⟨S8x6144, .f32⟩
  | .hbm, ⟨6, _⟩ => ⟨S8x6144, .f32⟩
  | .hbm, ⟨7, _⟩ => ⟨S_, .f32⟩
  | .hbm, ⟨8, _⟩ => ⟨S8x6144, .f32⟩
  | .hbm, ⟨9, _⟩ => ⟨S8x6144, .f32⟩
  | .hbm, ⟨10, _⟩ => ⟨S8x6144, .f32⟩
  | .hbm, ⟨11, _⟩ => ⟨S_, .f32⟩
  | .hbm, ⟨12, _⟩ => ⟨S8x6144, .f32⟩
  | .hbm, ⟨13, _⟩ => ⟨S8x6144, .f32⟩
  | .hbm, ⟨14, _⟩ => ⟨S8x6144, .f32⟩
  | .hbm, ⟨15, _⟩ => ⟨S_, .f32⟩
  | .hbm, ⟨16, _⟩ => ⟨S8x6144, .f32⟩
  | .hbm, ⟨17, _⟩ => ⟨S8x6144, .f32⟩
  | .hbm, ⟨18, _⟩ => ⟨S8x6144, .f32⟩
  | .hbm, ⟨19, _⟩ => ⟨S_, .f32⟩
  | .hbm, ⟨20, _⟩ => ⟨S8x6144, .f32⟩
  | .hbm, ⟨21, _⟩ => ⟨S8x6144, .f32⟩
  | .hbm, ⟨22, _⟩ => ⟨S_, .f32⟩
  | .hbm, ⟨23, _⟩ => ⟨S8x6144, .f32⟩
  | .hbm, ⟨24, _⟩ => ⟨S8x6144, .f32⟩
  | .hbm, ⟨25, _⟩ => ⟨S8x6144, .f32⟩
  | .hbm, ⟨26, _⟩ => ⟨S_, .f32⟩
  | .hbm, ⟨27, _⟩ => ⟨S8x6144, .f32⟩
  | .hbm, ⟨28, _⟩ => ⟨S8x6144, .f32⟩
  | .hbm, ⟨29, _⟩ => ⟨S8x6144, .f32⟩
  | .hbm, ⟨30, _⟩ => ⟨S_, .f32⟩
  | .hbm, ⟨31, _⟩ => ⟨S8x6144, .f32⟩
  | .hbm, ⟨32, _⟩ => ⟨S8x6144, .f32⟩
  | .hbm, ⟨33, _⟩ => ⟨S8x6144, .f32⟩
  | .hbm, ⟨34, _⟩ => ⟨S_, .f32⟩
  | .hbm, ⟨35, _⟩ => ⟨S8x6144, .f32⟩
  | .hbm, ⟨36, _⟩ => ⟨S8x6144, .f32⟩
  | _, _ => ⟨S8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SmallKernel.lean ====
abbrev S8192x2048 : Shape := ⟨2, ![8192, 2048]⟩
abbrev S2048x128 : Shape := ⟨2, ![2048, 128]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallReferenceIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwSmallKernel.lean ====
abbrev S8192x2048 : Shape := ⟨2, ![8192, 2048]⟩
abbrev S8192x128 : Shape := ⟨2, ![8192, 128]⟩
abbrev S2048x128 : Shape := ⟨2, ![2048, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c7_i32 : BitVec 32 := 7#32
  let v2 : BitVec 32 := Scalar.minsi v1 c7_i32
  let c0_i32_1 : BitVec 32 := 0#32
  let v3 : BitVec 32 := Scalar.addi c0_i32_1 v2
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c7_i32 : BitVec 32 := 7#32
  let v2 : BitVec 32 := Scalar.minsi v1 c7_i32
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSmallReferenceIdeal.lean ====
abbrev S8192x2048 : Shape := ⟨2, ![8192, 2048]⟩
abbrev S8192x128 : Shape := ⟨2, ![8192, 128]⟩
abbrev S128x2048 : Shape := ⟨2, ![128, 2048]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S8192x2048, .f32⟩
  | .hbm, ⟨3, _⟩ => ⟨S8192x128, .f32⟩
  | .hbm, ⟨4, _⟩ => ⟨S128x2048, .f32⟩
  | .hbm, ⟨5, _⟩ => ⟨S2048x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SumKernel.lean ====
abbrev S64x6144 : Shape := ⟨2, ![64, 6144]⟩
abbrev S8x6144 : Shape := ⟨2, ![8, 6144]⟩

abbrev nBuf : Space → Nat
  | .hbm => 2
  | .vmem => 2
  | .smem => 0
  | _ => 0

abbrev bufTy : (tb : Table) → Fin (tcTables nBuf tb) → BufTy
  | .hbm, ⟨0, _⟩ => ⟨S64x6144, .f32⟩
  | .hbm, ⟨1, _⟩ => ⟨S8x6144, .f32⟩
  | .local _ .vmem, ⟨0, _⟩ => ⟨S64x6144, .f32⟩
  | .local _ .vmem, ⟨1, _⟩ => ⟨S8x6144, .f32⟩
  | _, _ => ⟨S64x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumReferenceIdeal.lean ====
abbrev S64x6144 : Shape := ⟨2, ![64, 6144]⟩
abbrev S8x8x6144 : Shape := ⟨3, ![8, 8, 6144]⟩
abbrev S_ : Shape := ⟨0, ![]⟩
abbrev S8x6144 : Shape := ⟨2, ![8, 6144]⟩

abbrev nBuf : Space → Nat
  | .hbm => 4
  | .vmem => 0
  | .smem => 0
  | _ => 0

abbrev bufTy : (tb : Table) → Fin (tcTables nBuf tb) → BufTy
  | .hbm, ⟨0, _⟩ => ⟨S64x6144, .f32⟩
  | .hbm, ⟨1, _⟩ => ⟨S8x8x6144, .f32⟩
  | .hbm, ⟨2, _⟩ => ⟨S_, .f32⟩
  | .hbm, ⟨3, _⟩ => ⟨S8x6144, .f32⟩
  | _, _ => ⟨S64x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwAdaKernel.lean ====
abbrev S8x2048 : Shape := ⟨2, ![8, 2048]⟩
abbrev S8x1536 : Shape := ⟨2, ![8, 1536]⟩
abbrev S2048x1536 : Shape := ⟨2, ![2048, 1536]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwAdaReferenceIdeal.lean ====
abbrev S8x2048 : Shape := ⟨2, ![8, 2048]⟩
abbrev S8x1536 : Shape := ⟨2, ![8, 1536]⟩
abbrev S_ : Shape := ⟨0, ![]⟩
abbrev S1536x2048 : Shape := ⟨2, ![1536, 2048]⟩
abbrev S2048x1536 : Shape := ⟨2, ![2048, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S1536x2048, .f32⟩
  | .hbm, ⟨12, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== NormKernel.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== ConvFwdKernel.lean ====
abbrev S8192x20480 : Shape := ⟨2, ![8192, 20480]⟩
abbrev S4x6144 : Shape := ⟨2, ![4, 6144]⟩
abbrev S8192x6144 : Shape := ⟨2, ![8192, 6144]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S520x512 : Shape := ⟨2, ![520, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x20480, .f32⟩
  | .hbm, ⟨1, _⟩ => ⟨S4x6144, .f32⟩
  | .hbm, ⟨2, _⟩ => ⟨S8192x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdReferenceIdeal.lean ====
abbrev S8192x20480 : Shape := ⟨2, ![8192, 20480]⟩
abbrev S4x6144 : Shape := ⟨2, ![4, 6144]⟩
abbrev S8192x6144 : Shape := ⟨2, ![8192, 6144]⟩
abbrev S_ : Shape := ⟨0, ![]⟩
abbrev S3x6144 : Shape := ⟨2, ![3, 6144]⟩
abbrev S8195x6144 : Shape := ⟨2, ![8195, 6144]⟩
abbrev S1x6144 : Shape := ⟨2, ![1, 6144]⟩
abbrev S6144 : Shape := ⟨1, ![6144]⟩

abbrev nBuf : Space → Nat
  | .hbm => 36
  | .vmem => 0
  | .smem => 0
  | _ => 0

abbrev bufTy : (tb : Table) → Fin (tcTables nBuf tb) → BufTy
  | .hbm, ⟨0, _⟩ => ⟨S8192x20480, .f32⟩
  | .hbm, ⟨1, _⟩ => ⟨S4x6144, .f32⟩
  | .hbm, ⟨2, _⟩ => ⟨S8192x6144, .f32⟩
  | .hbm, ⟨3, _⟩ => ⟨S_, .f32⟩
  | .hbm, ⟨4, _⟩ => ⟨S3x6144, .f32⟩
  | .hbm, ⟨5, _⟩ => ⟨S8195x6144, .f32⟩
  | .hbm, ⟨6, _⟩ => ⟨S1x6144, .f32⟩
  | .hbm, ⟨7, _⟩ => ⟨S6144, .f32⟩
  | .hbm, ⟨8, _⟩ => ⟨S8192x6144, .f32⟩
  | .hbm, ⟨9, _⟩ => ⟨S1x6144, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S1x6144, .f32⟩
  | .hbm, ⟨16, _⟩ => ⟨S6144, .f32⟩
  | .hbm, ⟨17, _⟩ => ⟨S8192x6144, .f32⟩
  | .hbm, ⟨18, _⟩ => ⟨S1x6144, .f32⟩
  | .hbm, ⟨19, _⟩ => ⟨S8192x6144, .f32⟩
  | .hbm, ⟨20, _⟩ => ⟨S8192x6144, .f32⟩
  | .hbm, ⟨21, _⟩ => ⟨S8192x6144, .f32⟩
  | .hbm, ⟨22, _⟩ => ⟨S1x6144, .f32⟩
  | .hbm, ⟨23, _⟩ => ⟨S6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x6144, .f32⟩
  | .hbm, ⟨29, _⟩ => ⟨S1x6144, .f32⟩
  | .hbm, ⟨30, _⟩ => ⟨S6144, .f32⟩
  | .hbm, ⟨31, _⟩ => ⟨S8192x6144, .f32⟩
  | .hbm, ⟨32, _⟩ => ⟨S1x6144, .f32⟩
  | .hbm, ⟨33, _⟩ => ⟨S8192x6144, .f32⟩
  | .hbm, ⟨34, _⟩ => ⟨S8192x6144, .f32⟩
  | .hbm, ⟨35, _⟩ => ⟨S8192x6144, .f32⟩
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== ModKernel.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩
abbrev S1536 : Shape := ⟨1, ![1536]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S1536, .f32⟩
  | .hbm, ⟨14, _⟩ => ⟨S1x1536, .f32⟩
  | .hbm, ⟨15, _⟩ => ⟨S8x1536, .f32⟩
  | .hbm, ⟨16, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== MergeKernel.lean ====
abbrev S8192x20480 : Shape := ⟨2, ![8192, 20480]⟩
abbrev S8192x2048 : Shape := ⟨2, ![8192, 2048]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x20480, .f32⟩
  | .hbm, ⟨1, _⟩ => ⟨S8192x2048, .f32⟩
  | .hbm, ⟨2, _⟩ => ⟨S8192x2048, .f32⟩
  | .hbm, ⟨3, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeReferenceIdeal.lean ====
abbrev S8192x20480 : Shape := ⟨2, ![8192, 20480]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x20480, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBwdKernel.lean ====
abbrev S8192x20480 : Shape := ⟨2, ![8192, 20480]⟩
abbrev S8192x2048 : Shape := ⟨2, ![8192, 2048]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S8192x20480, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdReferenceIdeal.lean ====
abbrev S8192x20480 : Shape := ⟨2, ![8192, 20480]⟩
abbrev S8192x2048 : Shape := ⟨2, ![8192, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x20480, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | .hbm, ⟨42, _⟩ => ⟨S8192x2048, .bf16⟩
  | .hbm, ⟨43, _⟩ => ⟨S8192x2048, .bf16⟩
  | .hbm, ⟨44, _⟩ => ⟨S8192x2048, .bf16⟩
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== LossKernel.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S1x128, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_25 : BitVec 32 := 0#32
  let v70 : BitVec 1 := Scalar.cmpi .ne v69 c0_i32_25
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_26 : BitVec 32 := 0#32
  let v73 : BitVec 1 := Scalar.cmpi .ne v72 c0_i32_26
  v73

def k0_cond3 (i : grid0.Coords) : BitVec 1 :=
  let arg0 : BitVec 32 := BitVec.ofNat 32 (i 0).val
  let c0_i32_31 : BitVec 32 := 0#32
  let v77 : BitVec 1 := Scalar.cmpi .eq arg0 c0_i32_31
  let v78 : BitVec 32 := Scalar.extui v77
  let c0_i32_32 : BitVec 32 := 0#32
  let v79 : BitVec 1 := Scalar.cmpi .ne v78 c0_i32_32
  v79

def k0_cond4 (i : grid0.Coords) : BitVec 1 :=
  let arg0 : BitVec 32 := BitVec.ofNat 32 (i 0).val
  let c0_i32_31 : BitVec 32 := 0#32
  let v77 : BitVec 1 := Scalar.cmpi .eq arg0 c0_i32_31
  let true_33 : BitVec 1 := 1#1
  let v80 : BitVec 1 := Scalar.xori v77 true_33
  let v81 : BitVec 32 := Scalar.extui v80
  let c0_i32_34 : BitVec 32 := 0#32
  let v82 : BitVec 1 := Scalar.cmpi .ne v81 c0_i32_34
  v82

def k0_cond5 (i : grid0.Coords) : BitVec 1 :=
  let arg0 : BitVec 32 := BitVec.ofNat 32 (i 0).val
  let c0_i32_35 : BitVec 32 := 0#32
  let v83 : BitVec 1 := Scalar.cmpi .eq arg0 c0_i32_35
  let v84 : BitVec 32 := Scalar.extui v83
  let c0_i32_36 : BitVec 32 := 0#32
  let v85 : BitVec 1 := Scalar.cmpi .ne v84 c0_i32_36
  v85

def k0_cond6 (i : grid0.Coords) : BitVec 1 :=
  let arg0 : BitVec 32 := BitVec.ofNat 32 (i 0).val
  let c0_i32_35 : BitVec 32 := 0#32
  let v83 : BitVec 1 := Scalar.cmpi .eq arg0 c0_i32_35
  let true_37 : BitVec 1 := 1#1
  let v86 : BitVec 1 := Scalar.xori v83 true_37
  let v87 : BitVec 32 := Scalar.extui v86
  let c0_i32_38 : BitVec 32 := 0#32
  let v88 : BitVec 1 := Scalar.cmpi .ne v87 c0_i32_38
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S1x128, .f32⟩
  | .hbm, ⟨85, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Proof.Math.lean ====
module

public import Mathlib.Analysis.SpecialFunctions.Log.Basic
public import Mathlib.Algebra.BigOperators.Intervals
public import Mathlib.Tactic.FieldSimp
public import Mathlib.Tactic.Linarith

/-! The gradient of one head of stick-breaking attention, over the reals, indexed by natural numbers: the
    definitions both programs are read as, and the identities that carry a sum over a row from one block of 256
    columns to the next. -/

@[expose] public section

noncomputable section

namespace Stick

open Finset

/-- One head's arrays: queries, keys, values, the gradient coming in, and the scale of the scores. -/
structure In where
  q : ℕ → ℕ → ℝ
  k : ℕ → ℕ → ℝ
  v : ℕ → ℕ → ℝ
  o : ℕ → ℕ → ℝ
  s : ℝ

/-- The logarithm of the logistic function. -/
def lsig (x : ℝ) : ℝ := min x 0 - Real.log (1 + Real.exp (-|x|))

/-- The exponential of `lsig` is the logistic function, whose complement is `exp (lsig x - x)`. -/
theorem exp_lsig_sub (x : ℝ) : Real.exp (lsig x - x) = 1 - Real.exp (lsig x) := by
  have key : Real.exp (lsig x) * (1 + Real.exp (-|x|)) = Real.exp (min x 0) := by
    have h : (0 : ℝ) < 1 + Real.exp (-|x|) := by positivity
    rw [lsig, Real.exp_sub, Real.exp_log h]; field_simp
  have h : (0 : ℝ) < 1 + Real.exp (-|x|) := by positivity
  rw [sub_eq_add_neg, Real.exp_add]
  have : Real.exp (lsig x) = Real.exp (min x 0) / (1 + Real.exp (-|x|)) := by
    rw [← key]; field_simp
  rw [this]
  rcases le_total x 0 with hx | hx
  · rw [min_eq_left hx, abs_of_nonpos hx, neg_neg]
    have : Real.exp x * Real.exp (-x) = 1 := by rw [← Real.exp_add]; simp
    have h' : (0 : ℝ) < 1 + Real.exp x := by positivity
    field_simp
    linarith
  · rw [min_eq_right hx, abs_of_nonneg hx, Real.exp_zero]
    have h' : (0 : ℝ) < 1 + Real.exp (-x) := by positivity
    field_simp
    ring

/-- `lsig` as the negative of a softplus of the opposite argument. -/
theorem lsig_eq_neg_softplus (x : ℝ) :
    lsig x = -(max (-x) 0 + Real.log (1 + Real.exp (-|(-x)|))) := by
  rw [lsig, abs_neg]
  rcases le_total x 0 with hx | hx
  · rw [min_eq_left hx, max_eq_left (by linarith)]; ring
  · rw [min_eq_right hx, max_eq_right (by linarith)]; ring

/-- The score less its softplus is `lsig` of the score. -/
theorem sub_softplus (x : ℝ) : x - (max x 0 + Real.log (1 + Real.exp (-|x|))) = lsig x := by
  rw [lsig]
  rcases le_total x 0 with hx | hx
  · rw [min_eq_left hx, max_eq_right hx]; ring
  · rw [min_eq_right hx, max_eq_left hx]; ring

/-- `lsig` of the opposite score. -/
theorem lsig_neg (x : ℝ) : lsig (-x) = lsig x - x := by
  rw [lsig, lsig, abs_neg]
  rcases le_total x 0 with hx | hx
  · rw [min_eq_left hx, min_eq_right (by linarith)]; ring
  · rw [min_eq_right hx, min_eq_left (by linarith)]; ring

namespace In
variable (I : In)

/-- The score of position `u` as seen from position `t`. -/
def z (t u : ℕ) : ℝ := (∑ d ∈ range 128, I.q t d * I.k u d) * I.s
/-- Log of the share position `u` leaves to the earlier ones, zero outside the causal triangle. -/
def ln (t u : ℕ) : ℝ := if u < t then lsig (I.z t u) - I.z t u else 0
/-- What the positions after `u` leave of the stick, as a logarithm. -/
def later (t u : ℕ) : ℝ := ∑ w ∈ Ico (u + 1) 8192, I.ln t w
/-- The attention weight. -/
def a (t u : ℕ) : ℝ := if u < t then Real.exp (lsig (I.z t u) + I.later t u) else 0
/-- The gradient of the weight. -/
def da (t u : ℕ) : ℝ := ∑ d ∈ range 128, I.o t d * I.v u d
/-- The weight times its gradient. -/
def p (t u : ℕ) : ℝ := I.a t u * I.da t u
/-- The sum of `p` over the positions before `u`. -/
def pre (t u : ℕ) : ℝ := ∑ w ∈ range u, I.p t w
/-- The gradient of the score. -/
def dz (t u : ℕ) : ℝ :=
  if u < t then I.p t u * (1 - Real.exp (lsig (I.z t u))) - I.pre t u * Real.exp (lsig (I.z t u)) else 0
/-- The gradient of the query. -/
def dq (t d : ℕ) : ℝ := ∑ u ∈ range 8192, I.dz t u * I.s * I.k u d
/-- The gradient of the key. -/
def dk (u d : ℕ) : ℝ := ∑ t ∈ range 8192, I.dz t u * I.s * I.q t d
/-- The gradient of the value. -/
def dv (u d : ℕ) : ℝ := ∑ t ∈ range 8192, I.a t u * I.o t d

theorem a_of_le {t u : ℕ} (h : t ≤ u) : I.a t u = 0 := if_neg (by omega)
theorem dz_of_le {t u : ℕ} (h : t ≤ u) : I.dz t u = 0 := if_neg (by omega)

/-- Inside one block of 256 columns, what comes later in the row is what comes later in the block, and what comes
    after the block. -/
theorem later_block (t j : ℕ) (c : Fin 256) (hj : j < 32) :
    I.later t (256 * j + c)
      = (∑ b : Fin 256, if c < b then I.ln t (256 * j + b) else 0) + I.later t (256 * j + 255) := by
  have h1 : Ico (256 * j + c.val + 1) 8192
      = Ico (256 * j + c.val + 1) (256 * j + 255 + 1) ∪ Ico (256 * j + 255 + 1) 8192 :=
    (Ico_union_Ico_eq_Ico (by omega) (by omega)).symm
  rw [later, h1, sum_union (Ico_disjoint_Ico_consecutive _ _ _)]
  congr 1
  rw [← Finset.sum_filter]
  refine (Finset.sum_bij (fun b _ => 256 * j + b.val) ?_ ?_ ?_ ?_).symm
  · intro b hb; simp only [mem_filter, mem_univ, true_and] at hb; simp only [mem_Ico]
    have : c.val < b.val := hb
    omega
  · intro b _ b' _ h; ext; simpa using h
  · intro w hw; simp only [mem_Ico] at hw
    refine ⟨⟨w - 256 * j, by omega⟩, ?_, ?_⟩
    · simp only [mem_filter, mem_univ, true_and]; show c.val < w - 256 * j; omega
    · show 256 * j + (w - 256 * j) = w; omega
  · intro b _; rfl

/-- A sum over the first `256 (j + 1)` columns is one over the first `256 j` and the block's. -/
theorem sum_range_block {M : Type*} [AddCommMonoid M] (f : ℕ → M) (j : ℕ) :
    ∑ u ∈ range (256 * (j + 1)), f u = ∑ u ∈ range (256 * j), f u + ∑ c : Fin 256, f (256 * j + c) := by
  rw [show 256 * (j + 1) = 256 * j + 256 from by ring, sum_range_add]
  congr 1

/-- A sum over the first `512 (i + 1)` rows is one over the first `512 i` and the block's. -/
theorem sum_range_rows {M : Type*} [AddCommMonoid M] (f : ℕ → M) (i : ℕ) :
    ∑ u ∈ range (512 * (i + 1)), f u = ∑ u ∈ range (512 * i), f u + ∑ r : Fin 512, f (512 * i + r) := by
  rw [show 512 * (i + 1) = 512 * i + 512 from by ring, sum_range_add]
  congr 1

/-- Inside one block of 256 columns, what comes before in the row is what comes before the block and before in it. -/
theorem pre_block (t j : ℕ) (c : Fin 256) :
    I.pre t (256 * j + c)
      = (∑ b : Fin 256, if b < c then I.p t (256 * j + b) else 0) + ∑ w ∈ range (256 * j), I.p t w := by
  rw [pre, sum_range_add, add_comm]
  congr 1
  rw [← Finset.sum_filter]
  refine (Finset.sum_bij (fun b _ => b.val) ?_ ?_ ?_ ?_).symm
  · intro b hb; simp only [mem_filter, mem_univ, true_and] at hb; simpa using hb
  · intro b _ b' _ h; ext; simpa using h
  · intro w hw; simp only [mem_range] at hw
    refine ⟨⟨w, by omega⟩, ?_, rfl⟩
    simp only [mem_filter, mem_univ, true_and]; exact hw
  · intro b _; rfl

/-- Columns at or past the row's own contribute nothing to a query's gradient. -/
theorem dq_eq (t d m : ℕ) (hm : t ≤ m) (hm' : m ≤ 8192) :
    I.dq t d = ∑ u ∈ range m, I.dz t u * I.s * I.k u d := by
  rw [dq]
  refine (Finset.sum_subset (by intro x; simp only [mem_range]; omega) ?_).symm
  intro u _ hu
  rw [mem_range, not_lt] at hu
  rw [I.dz_of_le (by omega)]; ring

/-- Rows at or before the column contribute nothing to a key's gradient: a block of rows wholly before it adds zero. -/
theorem dk_block_zero (i u d : ℕ) (hu : 512 * (i + 1) ≤ u + 1) :
    ∑ r : Fin 512, I.dz (512 * i + r) u * I.s * I.q (512 * i + r) d = 0 :=
  Finset.sum_eq_zero fun r _ => by rw [I.dz_of_le (by omega)]; ring

/-- Rows at or before the column contribute nothing to a value's gradient either. -/
theorem dv_block_zero (i u d : ℕ) (hu : 512 * (i + 1) ≤ u + 1) :
    ∑ r : Fin 512, I.a (512 * i + r) u * I.o (512 * i + r) d = 0 :=
  Finset.sum_eq_zero fun r _ => by rw [I.a_of_le (by omega)]; ring

end In

/-- Head `h` of the merged arrays: the first 6144 columns of `X` are the queries, keys and values, 128 columns a head;
    `Y` is the incoming gradient. -/
def head (X Y : ℕ → ℕ → ℝ) (s : ℝ) (h : ℕ) : In where
  q t d := X t (128 * h + d)
  k t d := X t (2048 + 128 * h + d)
  v t d := X t (4096 + 128 * h + d)
  o t d := Y t (128 * h + d)
  s := s

/-- A sum over rows by blocks of 512. -/
theorem sum_range_blocks {M : Type*} [AddCommMonoid M] (f : ℕ → M) (n : ℕ) :
    ∑ u ∈ range (512 * n), f u = ∑ i ∈ range n, ∑ r : Fin 512, f (512 * i + r) := by
  induction n with
  | zero => simp
  | succ n ih => rw [In.sum_range_rows, ih, sum_range_succ]

end Stick
end
end
-- ==== Proof.Reals.lean ====
module

public import proofs.«01_k».proof.Proof.Math
public import Idealize.ShloMosaic.Lib.Pointwise
public import Idealize.ShloMosaic.PureOps.Ideal.Laws

/-! The extended reals' operations at real numbers. -/

@[expose] public section

noncomputable section

namespace Stick

open Idealize.ShloMosaic

/-- A real sum taken in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are real. -/
theorem sum_eq_coe {ι : Type*} {s : Finset ι} {g : ι → EReal} (f : ι → ℝ) (h : ∀ i ∈ s, g i = (f i : EReal)) :
    ∑ i ∈ s, g i = ((∑ i ∈ s, f i : ℝ) : EReal) := by rw [coe_sum]; exact Finset.sum_congr rfl h

theorem exp_coe (r : ℝ) : Ideal.exp (r : EReal) = ((Real.exp r : ℝ) : EReal) := rfl

theorem log_coe {r : ℝ} (h : 0 < r) : Ideal.log (r : EReal) = ((Real.log r : ℝ) : EReal) :=
  if_neg (not_le.mpr h)

theorem min_coe (x y : ℝ) : min (x : EReal) (y : EReal) = ((min x y : ℝ) : EReal) :=
  (EReal.coe_strictMono.monotone.map_min).symm

theorem max_coe (x y : ℝ) : max (x : EReal) (y : EReal) = ((max x y : ℝ) : EReal) :=
  (EReal.coe_strictMono.monotone.map_max).symm

theorem abs_coe (x : ℝ) : max (x : EReal) (-(x : EReal)) = ((|x| : ℝ) : EReal) := by
  rw [← EReal.coe_neg, max_coe]; rfl

theorem log1p_exp_coe (x : ℝ) :
    Ideal.log (1 + Ideal.exp ((x : ℝ) : EReal)) = ((Real.log (1 + Real.exp x) : ℝ) : EReal) := by
  rw [exp_coe, ← EReal.coe_one, ← EReal.coe_add, log_coe (by positivity)]

/-- `lsig` as the kernel computes it. -/
theorem lsig_coe (x : ℝ) :
    min (x : EReal) 0 - Ideal.log (1 + Ideal.exp (0 - max (x : EReal) (-(x : EReal)))) = ((lsig x : ℝ) : EReal) := by
  rw [abs_coe, ← EReal.coe_zero, ← EReal.coe_sub, log1p_exp_coe, min_coe, ← EReal.coe_sub, lsig, zero_sub]

end Stick
end
end
-- ==== Proof.Cumsum.lean ====
module

public import proofs.«01_k».proof.Proof.Reals
public import Idealize.ShloMosaic.Lib.ValueIdx

/-! Running sums along the last axis, as the host writes them: a window as long as the axis, padded after it (the sum
    from an entry on) or before it (the sum up to an entry). -/

@[expose] public section

noncomputable section

namespace Stick

open Idealize.ShloMosaic

/-- A left fold that adds is a sum. -/
theorem foldl_add_eq {n : ℕ} (g : Fin n → EReal) (v : EReal) :
    (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

/-- The positions of a window one row high. -/
def winEquiv (N : ℕ) : Fin N ≃ (⟨3, ![1, 1, N]⟩ : Shape).Idx where
  toFun w := ix3 0 0 w
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

section
variable {A T N : ℕ} (x : (⟨3, ![A, T, N]⟩ : Shape).Idx → EReal) (a : Fin A) (t : Fin T) (f : ℕ → ℝ)
  (hx : ∀ u : Fin N, x (ix3 a t u) = (f u : EReal))
include hx

/-- The window sum at an entry is the sum over the window's positions. -/
theorem window_sum (lo hi : ℕ) (h : (⟨3, ![A, T, N]⟩ : Shape).ReduceWindows ![1, 1, N] ![1, 1, 1] ![0, 0, lo] ![0, 0, hi] ⟨3, ![A, T, N]⟩)
    (u : Fin N) :
    Ideal.hostReduceWindowAdd ![1, 1, N] ![1, 1, 1] ![0, 0, lo] ![0, 0, hi] h x 0 (ix3 a t u)
      = ((∑ w ∈ Finset.range N, if lo ≤ u.val + w ∧ u.val + w - lo < N then f (u.val + w - lo) else 0 : ℝ) : EReal) := by
  unfold Ideal.hostReduceWindowAdd Host.reduceWindow
  rw [foldl_add_eq, zero_add, Finset.sum_range fun w => if lo ≤ u.val + w ∧ u.val + w - lo < N then f (u.val + w - lo) else 0,
    ← Equiv.sum_comp ((winEquiv N).trans (⟨3, ![1, 1, N]⟩ : Shape).rowMajor)]
  refine sum_eq_coe _ fun w _ => ?_
  simp only [Equiv.trans_apply, Equiv.symm_apply_apply]
  by_cases hw : lo ≤ u.val + w.val ∧ u.val + w.val - lo < N
  · rw [if_pos hw, dif_pos, ← hx ⟨_, hw.2⟩]
    · congr 1
      funext b
      match b with
      | ⟨0, _⟩ => exact Fin.ext (show a.val * 1 + 0 - 0 = a.val by omega)
      | ⟨1, _⟩ => exact Fin.ext (show t.val * 1 + 0 - 0 = t.val by omega)
      | ⟨2, _⟩ => exact Fin.ext (show u.val * 1 + w.val - lo = u.val + w.val - lo by omega)
    · intro b
      match b with
      | ⟨0, _⟩ => exact (show 0 ≤ a.val * 1 + 0 ∧ a.val * 1 + 0 - 0 < A by omega)
      | ⟨1, _⟩ => exact (show 0 ≤ t.val * 1 + 0 ∧ t.val * 1 + 0 - 0 < T by omega)
      | ⟨2, _⟩ => exact (show lo ≤ u.val * 1 + w.val ∧ u.val * 1 + w.val - lo < N by omega)
  · rw [if_neg hw, dif_neg]
    · rfl
    · intro hin
      have := hin 2
      change lo ≤ u.val * 1 + w.val ∧ u.val * 1 + w.val - lo < N at this
      omega

/-- Padded after the axis: the sum from the entry on. -/
theorem suffix_sum (hi : ℕ) (h : (⟨3, ![A, T, N]⟩ : Shape).ReduceWindows ![1, 1, N] ![1, 1, 1] ![0, 0, 0] ![0, 0, hi] ⟨3, ![A, T, N]⟩)
    (u : Fin N) :
    Ideal.hostReduceWindowAdd ![1, 1, N] ![1, 1, 1] ![0, 0, 0] ![0, 0, hi] h x 0 (ix3 a t u)
      = ((∑ w ∈ Finset.Ico u.val N, f w : ℝ) : EReal) := by
  rw [window_sum x a t f hx, ← Finset.sum_filter, Finset.sum_Ico_eq_sum_range]
  congr 1
  refine Finset.sum_congr (Finset.ext fun w => ?_) fun w _ => by rw [Nat.sub_zero]
  simp only [Finset.mem_filter, Finset.mem_range]
  omega

/-- Padded before it: the sum up to the entry, which is included. -/
theorem prefix_sum (M hi : ℕ) (hM : M + 1 = N)
    (h : (⟨3, ![A, T, N]⟩ : Shape).ReduceWindows ![1, 1, N] ![1, 1, 1] ![0, 0, M] ![0, 0, hi] ⟨3, ![A, T, N]⟩) (u : Fin N) :
    Ideal.hostReduceWindowAdd ![1, 1, N] ![1, 1, 1] ![0, 0, M] ![0, 0, hi] h x 0 (ix3 a t u)
      = ((∑ w ∈ Finset.range (u.val + 1), f w : ℝ) : EReal) := by
  have hu := u.isLt
  rw [window_sum x a t f hx, ← Finset.sum_filter]
  congr 1
  refine Finset.sum_nbij' (fun w => u.val + w - M) (fun w => w + M - u.val) ?_ ?_ ?_ ?_ ?_ <;>
    simp only [Finset.mem_filter, Finset.mem_range] <;> intro w hw
  · omega
  · omega
  · omega
  · omega
  · trivial
end

end Stick
end
end
-- ==== Proof.RefValue.lean ====
module

public import proofs.«01_k».proof.Proof.Cumsum
public import proofs.«01_k».proof.Proof.Gen.ReferenceIdeal.Read
public import Idealize.ShloMosaic.Lib.WordCmp

/-! The reference over the reals: each of its arrays at an entry, as the same entry of one head's gradient. -/

@[expose] public section

noncomputable section

namespace Cert.ReferenceIdeal.Sb

open Idealize.ShloMosaic Idealize.ShloMosaic.TcCoe Cert.ReferenceIdeal.Gen Cert.ReferenceIdeal Cert.ReferenceIdeal.Read
open Stick

/-- A softplus of a real, as the host's library function spells it. -/
def sp (y : ℝ) : ℝ := max y 0 + Real.log (1 + Real.exp (-|y|))

theorem neg_sp_neg (z : ℝ) : -sp (-z) = lsig z := (lsig_eq_neg_softplus z).symm
theorem neg_sp (z : ℝ) : -sp z = lsig z - z := by rw [← lsig_neg, lsig_eq_neg_softplus, neg_neg]; rfl
theorem sub_sp (z : ℝ) : z - sp z = lsig z := sub_softplus z

/-- The softplus's arithmetic; its branch for a value unequal to itself is never taken. -/
theorem softplus_coe (y : ℝ) (other : EReal) :
    Scalar.select (FloatOps.cmpf (F := Ideal) (φ := .f32) .une (FloatOps.subf (y : EReal) (FloatOps.ofBits .f32 0#32)) (FloatOps.subf (y : EReal) (FloatOps.ofBits .f32 0#32)))
      other
      (FloatOps.addf (F := Ideal) (φ := .f32) (FloatOps.maximumf (y : EReal) (FloatOps.ofBits .f32 0#32))
        (FloatOps.hostUnary .log1p (FloatOps.hostUnary .exp (FloatOps.hostNegf (FloatOps.hostAbsf (FloatOps.subf (y : EReal) (FloatOps.ofBits .f32 0#32)))))))
    = (sp y : EReal) := by
  have hc : FloatOps.cmpf (F := Ideal) (φ := .f32) .une (FloatOps.subf (y : EReal) (FloatOps.ofBits .f32 0#32)) (FloatOps.subf (y : EReal) (FloatOps.ofBits .f32 0#32)) = 0#1 := by
    rw [Ideal.cmpf_def]; simp [Ideal.cmp]
  rw [hc]
  show max (y : EReal) (Ideal.ofBits .f32 0#32) + Ideal.log (1 + Ideal.exp (-(max ((y : EReal) - Ideal.ofBits .f32 0#32) (-((y : EReal) - Ideal.ofBits .f32 0#32))))) = _
  rw [Ideal.ofBits_zero_f32, sub_zero, abs_coe, ← EReal.coe_neg, log1p_exp_coe, ← EReal.coe_zero, max_coe, ← EReal.coe_add]
  rfl

/-- A real is not the positive infinity, so the host's replacement of it is never made. -/
theorem select_inf (y : ℝ) (other : EReal) :
    Scalar.select (FloatOps.cmpf (F := Ideal) (φ := .f32) .oeq (y : EReal) (FloatOps.ofBits .f32 0x7F800000#32)) other (y : EReal) = (y : EReal) := by
  have h : Ideal.ofBits .f32 0x7F800000#32 = ⊤ := by simp [Ideal.ofBits, Ideal.ieee]
  have hc : FloatOps.cmpf (F := Ideal) (φ := .f32) .oeq (y : EReal) (FloatOps.ofBits .f32 0x7F800000#32) = 0#1 := by
    rw [Ideal.cmpf_def, Ideal.ofBits_def, h]; simp [Ideal.cmp]
  rw [hc]; rfl

/-- An entry named by its coordinates' values. -/
theorem at3 {n0 n1 n2 : ℕ} {α : Type} (f : (⟨3, ![n0, n1, n2]⟩ : Shape).Idx → α) (i : (⟨3, ![n0, n1, n2]⟩ : Shape).Idx)
    (a : Fin n0) (b : Fin n1) (c : Fin n2) (h0 : (i 0).val = a.val) (h1 : (i 1).val = b.val) (h2 : (i 2).val = c.val) : f i = f (ix3 a b c) :=
  congrArg f (funext fun x => match x with
    | ⟨0, _⟩ => Fin.ext h0
    | ⟨1, _⟩ => Fin.ext h1
    | ⟨2, _⟩ => Fin.ext h2)

/-- What the reference finds: finite arrays. -/
structure Found (x0 : (⟨S8192x20480, .f32⟩ : BufTy).Contents (Elt Ideal)) (x1 : (⟨S8192x2048, .f32⟩ : BufTy).Contents (Elt Ideal))
    (X Y : ℕ → ℕ → ℝ) (s : ℝ) : Prop where
  hs : Ideal.ofBits .f32 0x3DB504F3#32 = (s : EReal)
  hX : ∀ (t : Fin 8192) (w : Fin 20480), x0 (ix2 t w) = (X t w : EReal)
  hY : ∀ (t : Fin 8192) (w : Fin 2048), x1 (ix2 t w) = (Y t w : EReal)

/-- The causal mask. -/
theorem mask_apply (h : Fin 16) (t u : Fin 8192) {α : Type} (a b : α) :
    Scalar.select (val_main_v22_1 (F := Ideal) (ix3 h t u)) a b = if u.val < t.val then a else b := by
  rw [val_main_v22_1_apply, val_main_v18_apply, val_main_v16_apply, val_main_v15_apply, val_main_v14_apply, val_main_v17_apply,
    val_main_v13_apply, val_main_v12_apply]
  show Scalar.select (IntOp.cmpi .slt (BitVec.ofNat 32 u.val) (BitVec.ofNat 32 t.val)) a b = _
  rw [WordCmp.cmpi_slt_ofNat (by omega) (by omega)]
  by_cases hu : u.val < t.val
  · rw [if_pos hu]; simp [Scalar.select, hu]
  · rw [if_neg hu]; simp [Scalar.select, hu]

section
variable {x0 : (⟨S8192x20480, .f32⟩ : BufTy).Contents (Elt Ideal)} {x1 : (⟨S8192x2048, .f32⟩ : BufTy).Contents (Elt Ideal)}
  {X Y : ℕ → ℕ → ℝ} {s : ℝ}

/-- A head's queries. -/
theorem q_apply (H : Found x0 x1 X Y s) (h : Fin 16) (t : Fin 8192) (d : Fin 128) :
    val_main_v4 (F := Ideal) x0 (ix3 h t d) = ((head X Y s h).q t d : EReal) := by
  rw [val_main_v4_apply, val_main_v3_apply, val_main_v0_apply]
  refine Eq.trans (congrArg x0 (funext fun a => Fin.ext ?_)) (H.hX t ⟨128 * h + d, by omega⟩)
  match a with
  | ⟨0, _⟩ => show ((t.val * 16 + h.val) * 128 + d.val) / 2048 = t.val; omega
  | ⟨1, _⟩ => show ((t.val * 16 + h.val) * 128 + d.val) % 2048 = 128 * h.val + d.val; omega

/-- Its keys. -/
theorem k_apply (H : Found x0 x1 X Y s) (h : Fin 16) (t : Fin 8192) (d : Fin 128) :
    val_main_v6 (F := Ideal) x0 (ix3 h t d) = ((head X Y s h).k t d : EReal) := by
  rw [val_main_v6_apply, val_main_v5_apply, val_main_v1_apply]
  refine Eq.trans (congrArg x0 (funext fun a => Fin.ext ?_)) (H.hX t ⟨2048 + 128 * h + d, by omega⟩)
  match a with
  | ⟨0, _⟩ => show ((t.val * 16 + h.val) * 128 + d.val) / 2048 = t.val; omega
  | ⟨1, _⟩ => show 2048 + ((t.val * 16 + h.val) * 128 + d.val) % 2048 = 2048 + 128 * h.val + d.val; omega

/-- Its values. -/
theorem v_apply (H : Found x0 x1 X Y s) (h : Fin 16) (t : Fin 8192) (d : Fin 128) :
    val_main_v8 (F := Ideal) x0 (ix3 h t d) = ((head X Y s h).v t d : EReal) := by
  rw [val_main_v8_apply, val_main_v7_apply, val_main_v2_apply]
  refine Eq.trans (congrArg x0 (funext fun a => Fin.ext ?_)) (H.hX t ⟨4096 + 128 * h + d, by omega⟩)
  match a with
  | ⟨0, _⟩ => show ((t.val * 16 + h.val) * 128 + d.val) / 2048 = t.val; omega
  | ⟨1, _⟩ => show 4096 + ((t.val * 16 + h.val) * 128 + d.val) % 2048 = 4096 + 128 * h.val + d.val; omega

/-- Its incoming gradient. -/
theorem o_apply (H : Found x0 x1 X Y s) (h : Fin 16) (t : Fin 8192) (d : Fin 128) :
    val_main_v32 (F := Ideal) x1 (ix3 h t d) = ((head X Y s h).o t d : EReal) := by
  rw [val_main_v32_apply, val_main_v31_apply]
  refine Eq.trans (congrArg x1 (funext fun a => Fin.ext ?_)) (H.hY t ⟨128 * h + d, by omega⟩)
  match a with
  | ⟨0, _⟩ => show ((t.val * 16 + h.val) * 128 + d.val) / 2048 = t.val; omega
  | ⟨1, _⟩ => show ((t.val * 16 + h.val) * 128 + d.val) % 2048 = 128 * h.val + d.val; omega

/-- The scores. -/
theorem z_apply (H : Found x0 x1 X Y s) (h : Fin 16) (t u : Fin 8192) :
    val_main_v11 (F := Ideal) x0 (ix3 h t u) = ((head X Y s h).z t u : EReal) := by
  rw [val_main_v11_apply, val_main_v9_apply, val_main_v10_apply, val_main_cst_apply]
  show (∑ k : Fin 128, _) * Ideal.ofBits .f32 0x3DB504F3#32 = _
  rw [H.hs, sum_eq_coe (fun k : Fin 128 => (head X Y s h).q t k * (head X Y s h).k u k), ← EReal.coe_mul, In.z, Finset.sum_range]
  · rfl
  · intro k _
    rw [at3 (val_main_v4 x0) _ h t k rfl rfl rfl, at3 (val_main_v6 x0) _ h u k rfl rfl rfl, q_apply H, k_apply H, ← EReal.coe_mul]

/-- The gradient of the weights. -/
theorem da_apply (H : Found x0 x1 X Y s) (h : Fin 16) (t u : Fin 8192) :
    val_main_v35 (F := Ideal) x0 x1 (ix3 h t u) = ((head X Y s h).da t u : EReal) := by
  rw [val_main_v35_apply, sum_eq_coe (fun k : Fin 128 => (head X Y s h).o t k * (head X Y s h).v u k), In.da, Finset.sum_range]
  intro k _
  rw [at3 (val_main_v32 x1) _ h t k rfl rfl rfl, at3 (val_main_v8 x0) _ h u k rfl rfl rfl, o_apply H, v_apply H, ← EReal.coe_mul]

theorem softplus0 (i : S16x8192x8192.Idx) (y : ℝ) (h : val_main_call0_v0 (F := Ideal) x0 i = (y : EReal)) :
    val_main_call0_v1_0 (F := Ideal) x0 i = (sp y : EReal) := by
  simp only [val_main_call0_v1_0_apply, val_main_call0_call0_v4_apply, val_main_call0_call0_v11_apply, val_main_call0_call0_v10_apply, val_main_call0_call0_v9_apply, val_main_call0_call0_v8_apply, val_main_call0_call0_v7_apply,
    val_main_call0_call0_v3_apply, val_main_call0_call0_v2_apply, val_main_call0_call0_v1_apply, val_main_call0_call0_v0_apply, val_main_call0_call0_cst_apply, h]
  exact softplus_coe y _

theorem expSub0 (i : S16x8192x8192.Idx) (y : ℝ) (h : val_main_call0_v0 (F := Ideal) x0 i = (y : EReal)) :
    val_main_v19_1 (F := Ideal) x0 i = ((Real.exp (y - sp y) : ℝ) : EReal) := by
  simp only [val_main_v19_1_apply, val_main_call0_call0_v21_apply, val_main_call0_call0_v20_apply, val_main_call0_call0_v18_apply, val_main_call0_call0_v17_apply, val_main_call0_call0_cst_2_apply,
    val_main_call0_call0_v16_apply, val_main_call0_call0_v14_apply, val_main_call0_call0_v13_apply, val_main_call0_call0_cst_0_apply, softplus0 i y h, h, select_inf]
  rfl

theorem softplus1 (i : S16x8192x8192.Idx) (y : ℝ) (h : val_main_call1_v0 (F := Ideal) x0 i = (y : EReal)) :
    val_main_call1_v1_0 (F := Ideal) x0 i = (sp y : EReal) := by
  simp only [val_main_call1_v1_0_apply, val_main_call1_call0_v4_apply, val_main_call1_call0_v11_apply, val_main_call1_call0_v10_apply, val_main_call1_call0_v9_apply, val_main_call1_call0_v8_apply, val_main_call1_call0_v7_apply,
    val_main_call1_call0_v3_apply, val_main_call1_call0_v2_apply, val_main_call1_call0_v1_apply, val_main_call1_call0_v0_apply, val_main_call1_call0_cst_apply, h]
  exact softplus_coe y _

theorem expSub1 (i : S16x8192x8192.Idx) (y : ℝ) (h : val_main_call1_v0 (F := Ideal) x0 i = (y : EReal)) :
    val_main_v21_1 (F := Ideal) x0 i = ((Real.exp (y - sp y) : ℝ) : EReal) := by
  simp only [val_main_v21_1_apply, val_main_call1_call0_v21_apply, val_main_call1_call0_v20_apply, val_main_call1_call0_v18_apply, val_main_call1_call0_v17_apply, val_main_call1_call0_cst_2_apply,
    val_main_call1_call0_v16_apply, val_main_call1_call0_v14_apply, val_main_call1_call0_v13_apply, val_main_call1_call0_cst_0_apply, softplus1 i y h, h, select_inf]
  rfl

theorem arg0 (H : Found x0 x1 X Y s) (h : Fin 16) (t u : Fin 8192) :
    val_main_call0_v0 (F := Ideal) x0 (ix3 h t u) = ((-(head X Y s h).z t u : ℝ) : EReal) := by
  rw [val_main_call0_v0_apply, z_apply H, EReal.coe_neg]; rfl

theorem arg1 (H : Found x0 x1 X Y s) (h : Fin 16) (t u : Fin 8192) :
    val_main_call1_v0 (F := Ideal) x0 (ix3 h t u) = (((head X Y s h).z t u : ℝ) : EReal) := by
  rw [val_main_call1_v0_apply, val_main_v20_apply, z_apply H]; exact neg_neg _

/-- The log of the share each position takes. -/
theorem lb_apply (H : Found x0 x1 X Y s) (h : Fin 16) (t u : Fin 8192) :
    val_main_v19_0 (F := Ideal) x0 (ix3 h t u) = (lsig ((head X Y s h).z t u) : EReal) := by
  rw [val_main_v19_0_apply, softplus0 _ _ (arg0 H h t u), ← neg_sp_neg, EReal.coe_neg]; rfl

/-- The log of the share each position leaves, masked. -/
theorem ln_apply (H : Found x0 x1 X Y s) (h : Fin 16) (t u : Fin 8192) :
    val_main_v22_0 (F := Ideal) x0 (ix3 h t u) = ((head X Y s h).ln t u : EReal) := by
  rw [val_main_v22_0_apply, mask_apply, val_main_v21_0_apply, softplus1 _ _ (arg1 H h t u), val_main_call2_v2_apply, val_main_call2_v0_apply,
    val_main_cst_0_apply, In.ln]
  split
  · rw [← neg_sp, EReal.coe_neg]; rfl
  · exact Ideal.ofBits_zero_f32

theorem zero3 : val_main_call3_v0 (F := Ideal) (Shape.Idx.first h_S_) = 0 := by
  rw [val_main_call3_v0_apply, val_main_call3_cst_apply]; exact Ideal.ofBits_zero_f32

theorem zero6 : val_main_call6_v0 (F := Ideal) (Shape.Idx.first h_S_) = 0 := by
  rw [val_main_call6_v0_apply, val_main_call6_cst_apply]; exact Ideal.ofBits_zero_f32

/-- The logs of the shares from a position on. -/
theorem from_apply (H : Found x0 x1 X Y s) (h : Fin 16) (t u : Fin 8192) :
    val_main_v23 (F := Ideal) x0 (ix3 h t u) = ((∑ w ∈ Finset.Ico u.val 8192, (head X Y s h).ln t w : ℝ) : EReal) := by
  unfold val_main_v23
  rw [Host.reduceWindowAdd, Ideal.hostReduceWindowAdd_def]
  rw [zero3]
  exact suffix_sum (A := 16) (T := 8192) (N := 8192) (val_main_v22_0 (F := Ideal) x0) h t ((head X Y s h).ln t) (fun u => ln_apply H h t u) 8191
    reduceWindows_S16x8192x8192_S16x8192x8192_w1s1p0_0_w1s1p0_0_w8192s1p0_8191 u

/-- What the later positions leave. -/
theorem later_apply (H : Found x0 x1 X Y s) (h : Fin 16) (t u : Fin 8192) :
    val_main_v24 (F := Ideal) x0 (ix3 h t u) = ((head X Y s h).later t u : EReal) := by
  rw [val_main_v24_apply, from_apply H, ln_apply H]
  refine (EReal.coe_sub _ _).symm.trans (congrArg _ ?_)
  rw [Finset.sum_eq_sum_Ico_succ_bot (by omega), In.later]; ring

/-- The weight before masking. -/
theorem e_apply (H : Found x0 x1 X Y s) (h : Fin 16) (t u : Fin 8192) :
    val_main_v26 (F := Ideal) x0 (ix3 h t u) = ((Real.exp (lsig ((head X Y s h).z t u) + (head X Y s h).later t u) : ℝ) : EReal) := by
  rw [val_main_v26_apply, val_main_v25_apply, lb_apply H, later_apply H, Ideal.addf_def, ← EReal.coe_add]; rfl

/-- The weight. -/
theorem a_apply (H : Found x0 x1 X Y s) (h : Fin 16) (t u : Fin 8192) :
    val_main_v27_0 (F := Ideal) x0 (ix3 h t u) = ((head X Y s h).a t u : EReal) := by
  rw [val_main_v27_0_apply, show val_main_v27_1 (F := Ideal) = val_main_v22_1 from rfl, mask_apply, e_apply H, val_main_call4_v2_apply,
    val_main_call4_v0_apply, val_main_cst_1_apply, In.a]
  split
  · rfl
  · exact Ideal.ofBits_zero_f32

/-- The weight times its gradient. -/
theorem p_apply (H : Found x0 x1 X Y s) (h : Fin 16) (t u : Fin 8192) :
    val_main_v37 (F := Ideal) x0 x1 (ix3 h t u) = ((head X Y s h).p t u : EReal) := by
  rw [val_main_v37_apply, val_main_v36_apply, show val_main_v27_1 (F := Ideal) = val_main_v22_1 from rfl, mask_apply, da_apply H, e_apply H,
    val_main_call5_v0_apply, val_main_call5_cst_apply, In.p, In.a]
  split
  · rw [mul_comm (Real.exp _), EReal.coe_mul]; rfl
  · rw [Ideal.mulf_def, Ideal.ofBits_def, Ideal.ofBits_zero_f32, zero_mul, zero_mul]; rfl

/-- The sum of those before a position. -/
theorem pre_apply (H : Found x0 x1 X Y s) (h : Fin 16) (t u : Fin 8192) :
    val_main_v40 (F := Ideal) x0 x1 (ix3 h t u) = ((head X Y s h).pre t u : EReal) := by
  have e : val_main_v39 (F := Ideal) x0 x1 (ix3 h t u) = ((∑ w ∈ Finset.range (u.val + 1), (head X Y s h).p t w : ℝ) : EReal) := by
    unfold val_main_v39
    rw [Host.reduceWindowAdd, Ideal.hostReduceWindowAdd_def]
    rw [zero6]
    exact prefix_sum (A := 16) (T := 8192) (N := 8192) (val_main_v37 (F := Ideal) x0 x1) h t ((head X Y s h).p t) (fun u => p_apply H h t u) 8191 0 rfl
      reduceWindows_S16x8192x8192_S16x8192x8192_w1s1p0_0_w1s1p0_0_w8192s1p8191_0 u
  rw [val_main_v40_apply, val_main_v38_apply, p_apply H, e, Finset.sum_range_succ, EReal.coe_add, In.pre]
  show -_ + _ = _
  rw [← EReal.coe_neg, ← EReal.coe_add, ← EReal.coe_add]
  exact congrArg _ (by ring)

/-- The gradient of the scores. -/
theorem dz_apply (H : Found x0 x1 X Y s) (h : Fin 16) (t u : Fin 8192) :
    val_main_v45 (F := Ideal) x0 x1 (ix3 h t u) = ((head X Y s h).dz t u : EReal) := by
  have e41 : val_main_v41 (F := Ideal) x0 x1 (ix3 h t u) = ((if u.val < t.val then (head X Y s h).pre t u else 0 : ℝ) : EReal) := by
    rw [val_main_v41_apply, mask_apply, pre_apply H, val_main_call7_v0_apply, val_main_call7_cst_apply]
    split
    · rfl
    · exact Ideal.ofBits_zero_f32
  rw [val_main_v45_apply, val_main_v43_apply, val_main_v42_apply, val_main_call8_v1_apply, val_main_call8_v0_apply, e41, val_main_v44_apply,
    val_main_call9_v1_apply, val_main_call9_v0_apply, p_apply H, expSub0 _ _ (arg0 H h t u), expSub1 _ _ (arg1 H h t u), sub_sp, sub_sp, lsig_neg,
    exp_lsig_sub]
  show -(-(-_ * _)) + -(-_ * _) = _
  rw [← EReal.coe_neg, ← EReal.coe_neg, ← EReal.coe_mul, ← EReal.coe_mul, ← EReal.coe_neg, ← EReal.coe_neg, ← EReal.coe_neg, ← EReal.coe_add, In.dz]
  refine congrArg _ ?_
  split
  · ring
  · next hu => rw [In.p, In.a_of_le _ (by omega)]; ring

/-- And scaled. -/
theorem dzs_apply (H : Found x0 x1 X Y s) (h : Fin 16) (t u : Fin 8192) :
    val_main_v47 (F := Ideal) x0 x1 (ix3 h t u) = (((head X Y s h).dz t u * (head X Y s h).s : ℝ) : EReal) := by
  rw [val_main_v47_apply, dz_apply H, val_main_v46_apply, val_main_cst_2_apply, EReal.coe_mul, Ideal.ofBits_def, H.hs]; rfl

theorem dq3_apply (H : Found x0 x1 X Y s) (h : Fin 16) (t : Fin 8192) (d : Fin 128) :
    val_main_v49 (F := Ideal) x0 x1 (ix3 h t d) = ((head X Y s h).dq t d : EReal) := by
  rw [val_main_v49_apply, sum_eq_coe (fun u : Fin 8192 => (head X Y s h).dz t u * (head X Y s h).s * (head X Y s h).k u d), In.dq, Finset.sum_range]
  intro u _
  rw [at3 (val_main_v47 x0 x1) _ h t u rfl rfl rfl, at3 (val_main_v6 x0) _ h u d rfl rfl rfl, dzs_apply H, k_apply H, ← EReal.coe_mul]

theorem dk3_apply (H : Found x0 x1 X Y s) (h : Fin 16) (u : Fin 8192) (d : Fin 128) :
    val_main_v48 (F := Ideal) x0 x1 (ix3 h u d) = ((head X Y s h).dk u d : EReal) := by
  rw [val_main_v48_apply, sum_eq_coe (fun t : Fin 8192 => (head X Y s h).dz t u * (head X Y s h).s * (head X Y s h).q t d), In.dk, Finset.sum_range]
  intro t _
  rw [at3 (val_main_v47 x0 x1) _ h t u rfl rfl rfl, at3 (val_main_v4 x0) _ h t d rfl rfl rfl, dzs_apply H, q_apply H, ← EReal.coe_mul]

theorem dv3_apply (H : Found x0 x1 X Y s) (h : Fin 16) (u : Fin 8192) (d : Fin 128) :
    val_main_v34 (F := Ideal) x0 x1 (ix3 h u d) = ((head X Y s h).dv u d : EReal) := by
  rw [val_main_v34_apply, at3 (val_main_v33 x0 x1) _ h d u rfl rfl rfl, val_main_v33_apply,
    sum_eq_coe (fun t : Fin 8192 => (head X Y s h).a t u * (head X Y s h).o t d), In.dv, Finset.sum_range]
  intro t _
  rw [at3 (val_main_v32 x1) _ h t d rfl rfl rfl, at3 (val_main_v27_0 x0) _ h t u rfl rfl rfl, o_apply H, a_apply H, ← EReal.coe_mul, mul_comm]

/-- The reference's first result: the gradient of the queries, heads merged. -/
theorem dq_apply (H : Found x0 x1 X Y s) (t : Fin 8192) (w : Fin 2048) :
    val_main_v56 (F := Ideal) x0 x1 (ix2 t w) = ((head X Y s (w.val / 128)).dq t (w.val % 128) : EReal) := by
  have e : val_main_v56 (F := Ideal) x0 x1 (ix2 t w) = val_main_v54 (F := Ideal) x0 x1 (ix3 t (⟨w.val / 128, by omega⟩ : Fin 16) (⟨w.val % 128, by omega⟩ : Fin 128)) := by
    rw [show val_main_v56 (F := Ideal) x0 x1 (ix2 t w) = val_main_v55 (F := Ideal) x0 x1 (ix2 t w) from rfl, val_main_v55_apply]
    exact at3 (val_main_v54 (F := Ideal) x0 x1) _ _ _ _ (show (t.val * 2048 + w.val) / 2048 = t.val by omega)
      (show (t.val * 2048 + w.val) / 128 % 16 = w.val / 128 by omega) (show (t.val * 2048 + w.val) % 128 = w.val % 128 by omega)
  rw [e, val_main_v54_apply]
  exact (at3 (val_main_v49 (F := Ideal) x0 x1) _ (⟨w.val / 128, by omega⟩ : Fin 16) t (⟨w.val % 128, by omega⟩ : Fin 128) rfl rfl rfl).trans
    (dq3_apply H _ t _)

/-- The second: the gradient of the keys. -/
theorem dk_apply (H : Found x0 x1 X Y s) (t : Fin 8192) (w : Fin 2048) :
    val_main_v57 (F := Ideal) x0 x1 (ix2 t w) = ((head X Y s (w.val / 128)).dk t (w.val % 128) : EReal) := by
  have e : val_main_v57 (F := Ideal) x0 x1 (ix2 t w) = val_main_v52 (F := Ideal) x0 x1 (ix3 t (⟨w.val / 128, by omega⟩ : Fin 16) (⟨w.val % 128, by omega⟩ : Fin 128)) := by
    rw [show val_main_v57 (F := Ideal) x0 x1 (ix2 t w) = val_main_v53 (F := Ideal) x0 x1 (ix2 t w) from rfl, val_main_v53_apply]
    exact at3 (val_main_v52 (F := Ideal) x0 x1) _ _ _ _ (show (t.val * 2048 + w.val) / 2048 = t.val by omega)
      (show (t.val * 2048 + w.val) / 128 % 16 = w.val / 128 by omega) (show (t.val * 2048 + w.val) % 128 = w.val % 128 by omega)
  rw [e, val_main_v52_apply]
  exact (at3 (val_main_v48 (F := Ideal) x0 x1) _ (⟨w.val / 128, by omega⟩ : Fin 16) t (⟨w.val % 128, by omega⟩ : Fin 128) rfl rfl rfl).trans
    (dk3_apply H _ t _)

/-- The third: the gradient of the values. -/
theorem dv_apply (H : Found x0 x1 X Y s) (t : Fin 8192) (w : Fin 2048) :
    val_main_v58 (F := Ideal) x0 x1 (ix2 t w) = ((head X Y s (w.val / 128)).dv t (w.val % 128) : EReal) := by
  have e : val_main_v58 (F := Ideal) x0 x1 (ix2 t w) = val_main_v50 (F := Ideal) x0 x1 (ix3 t (⟨w.val / 128, by omega⟩ : Fin 16) (⟨w.val % 128, by omega⟩ : Fin 128)) := by
    rw [show val_main_v58 (F := Ideal) x0 x1 (ix2 t w) = val_main_v51 (F := Ideal) x0 x1 (ix2 t w) from rfl, val_main_v51_apply]
    exact at3 (val_main_v50 (F := Ideal) x0 x1) _ _ _ _ (show (t.val * 2048 + w.val) / 2048 = t.val by omega)
      (show (t.val * 2048 + w.val) / 128 % 16 = w.val / 128 by omega) (show (t.val * 2048 + w.val) % 128 = w.val % 128 by omega)
  rw [e, val_main_v50_apply]
  exact (at3 (val_main_v34 (F := Ideal) x0 x1) _ (⟨w.val / 128, by omega⟩ : Fin 16) t (⟨w.val % 128, by omega⟩ : Fin 128) rfl rfl rfl).trans
    (dv3_apply H _ t _)

end

end Cert.ReferenceIdeal.Sb
end
end
-- ==== Proof.Block.lean ====
module

public import proofs.«01_k».proof.Proof.Gen.KernelIdeal.Skeleton
public import proofs.«01_k».proof.Proof.Reals
public import Idealize.ShloMosaic.Lib.WordCmp

/-! One block of 512 rows and 256 columns of the attention's gradient, as the kernel computes it: the block's
    quantities as functions of the loaded arrays, and what each holds at a row and a column over the reals. -/

@[expose] public section

noncomputable section

namespace Cert.KernelIdeal.Sb

open Idealize.ShloMosaic Cert.KernelIdeal.Gen

variable {F : FTy → Type} [FloatOps F]

/-- A block of zeros. -/
def zeros : FVec F S512x256 .f32 := broadcast S512x256 (Scalar.ofBits .f32 0x00000000#32)
/-- A block of ones. -/
def ones : FVec F S512x256 .f32 := broadcast S512x256 (Scalar.ofBits .f32 0x3F800000#32)
/-- A block filled with the scale of the scores. -/
def scales : FVec F S512x256 .f32 := broadcast S512x256 (Scalar.ofBits .f32 0x3DB504F3#32)

/-- Products of rows of 512 with rows of 256. -/
def rowDots (x : FVec F S512x128 .bf16) (y : Vec F S256x128 .bf16) : FVec F S512x256 .f32 :=
  matmul dot_S512x128_S256x128_S512x256_1_1_0_0_n_n none x y (constant S512x256 .f32 0x00000000#32)
/-- The scores. -/
def zB (q : FVec F S512x128 .bf16) (k : Vec F S256x128 .bf16) : FVec F S512x256 .f32 := mulf (rowDots q k) scales
/-- Their log-sigmoids. -/
def lbB (z : FVec F S512x256 .f32) : FVec F S512x256 .f32 :=
  subf (minimumf z zeros) (log (addf ones (exp (subf zeros (absf z)))))
/-- A row's saved number of block `n`: the lane `n` of the saved array. -/
def laneB (saved : FVec F S512x128 .f32) (lane : IVec S512x128 32) (n : BitVec 32) : FVec F S512x1 .f32 :=
  shapeCast S512x1 (multiReduction .add [1] S512
    (select (cmpi .eq lane (broadcast S512x128 n)) saved (broadcast S512x128 (Scalar.ofBits .f32 0x00000000#32)))
    0x00000000#32 reduces_S512x128_S512 (.inl rfl) rfl) shapeCasts_S512_S512x1
/-- What is left of the stick after a column: the product with the triangle, in two parts, and the saved number. -/
def laterB (ln : FVec F S512x256 .f32) (UU : FVec F S512x256 .bf16) (accL : FVec F S512x1 .f32) : FVec F S512x256 .f32 :=
  addf (matmul dot_S512x512_S512x256_S512x256_1_0_0_1_n_n none
    (concatenate S512x512 1 [⟨S512x256, truncf .bf16 ln bitsLt_bf16_f32⟩,
      ⟨S512x256, truncf .bf16 (subf ln (extf .f32 (truncf .bf16 ln bitsLt_bf16_f32) bitsLt_bf16_f32)) bitsLt_bf16_f32⟩]
      concatenates_S512x256_S512x256_S512x512_d1) UU (constant S512x256 .f32 0x00000000#32))
    (broadcastTo S512x256 accL broadcasts_S512x1_S512x256)
/-- The weights, `keep` being the identity or the causal mask. -/
def aB (keep : FVec F S512x256 .f32 → FVec F S512x256 .f32) (q : FVec F S512x128 .bf16) (k : Vec F S256x128 .bf16)
    (UU : FVec F S512x256 .bf16) (accL : FVec F S512x1 .f32) : FVec F S512x256 .f32 :=
  keep (exp (addf (lbB (zB q k)) (laterB (keep (subf (lbB (zB q k)) (zB q k))) UU accL)))
/-- The sums of a row's earlier columns: the product with the triangle and the row's sum before the block. -/
def preB (p : FVec F S512x256 .f32) (Ue : FVec F S256x256 .bf16) (accP : FVec F S512x1 .f32) : FVec F S512x256 .f32 :=
  addf (matmul dot_S512x256_S256x256_S512x256_1_0_0_1_n_n none (truncf .bf16 p bitsLt_bf16_f32) Ue
    (constant S512x256 .f32 0x00000000#32)) (broadcastTo S512x256 accP broadcasts_S512x1_S512x256)
/-- The scores' gradients, scaled. -/
def dzB (keep : FVec F S512x256 .f32 → FVec F S512x256 .f32) (lb p pre : FVec F S512x256 .f32) : FVec F S512x256 .bf16 :=
  truncf .bf16 (mulf (keep (subf (mulf p (subf ones (exp lb))) (mulf pre (exp lb)))) scales) bitsLt_bf16_f32
/-- The queries' gradients with the block's share added. -/
def dqB (dq : FVec F S512x128 .f32) (dz : FVec F S512x256 .bf16) (k : Vec F S256x128 .bf16) : FVec F S512x128 .f32 :=
  addf dq (matmul dot_S512x256_S256x128_S512x128_1_0_0_1_n_n none dz k (constant S512x128 .f32 0x00000000#32))
/-- A row sum of products over the block's rows, added to what 256 rows of a scratch array hold. -/
def accB (acc : Vec F S256x128 .f32) (w : FVec F S512x256 .bf16) (x : FVec F S512x128 .bf16) : FVec F S256x128 .f32 :=
  shapeCast S256x128 (addf acc (matmul dot_S512x256_S512x128_S256x128_0_0_1_1_n_n none w x
    (constant S256x128 .f32 0x00000000#32))) shapeCasts_S256x128_S256x128
/-- A row's sum with the block's added. -/
def sumB (accP : FVec F S512x1 .f32) (p : FVec F S512x256 .f32) : FVec F S512x1 .f32 :=
  addf accP (shapeCast S512x1 (multiReduction .add [1] S512 p 0x00000000#32 reduces_S512x256_S512 (.inl rfl) rfl)
    shapeCasts_S512_S512x1)
/-- The causal mask of the block at row block `i` and column block `j`. -/
def maskB (i j : BitVec 32) : IVec S512x256 1 :=
  cmpi .slt (addi (broadcast S512x256 (Scalar.muli j 256#32)) (iota .tc S512x256 32 [1] iota_S512x256_d1_w32))
    (addi (broadcast S512x256 (Scalar.muli i 512#32)) (iota .tc S512x256 32 [0] iota_S512x256_d0_w32))
/-- The block with the columns outside the causal triangle set to zero. -/
def keepB (i j : BitVec 32) (x : FVec F S512x256 .f32) : FVec F S512x256 .f32 := select (maskB i j) x zeros

/-! ## At a row and a column, over the reals -/

section
open Stick
variable (I : In) (i j : ℕ)

/-- The scale of the scores is the kernel's constant. -/
def IsScale (I : In) : Prop := Ideal.ofBits .f32 0x3DB504F3#32 = (I.s : EReal)

theorem rowDots_apply {x : FVec Ideal S512x128 .bf16} {y : Vec Ideal S256x128 .bf16} {X Y : ℕ → ℕ → ℝ}
    (hx : ∀ (r : Fin 512) (d : Fin 128), x (ix2 r d) = (X (512 * i + r) d : EReal))
    (hy : ∀ (c : Fin 256) (d : Fin 128), y (ix2 c d) = (Y (256 * j + c) d : EReal)) (r : Fin 512) (c : Fin 256) :
    rowDots x y (ix2 r c) = ((∑ d ∈ Finset.range 128, X (512 * i + r) d * Y (256 * j + c) d : ℝ) : EReal) := by
  simp only [rowDots]
  pointwise
  rw [Finset.sum_range]
  exact sum_eq_coe _ fun d _ => by rw [hx, hy, EReal.coe_mul]

variable {I i j}
variable {q o : FVec Ideal S512x128 .bf16} {k v : Vec Ideal S256x128 .bf16}

theorem zB_apply (hs : IsScale I) (hq : ∀ (r : Fin 512) (d : Fin 128), q (ix2 r d) = (I.q (512 * i + r) d : EReal))
    (hk : ∀ (c : Fin 256) (d : Fin 128), k (ix2 c d) = (I.k (256 * j + c) d : EReal)) (r : Fin 512) (c : Fin 256) :
    zB q k (ix2 r c) = (I.z (512 * i + r) (256 * j + c) : EReal) := by
  have h := rowDots_apply i j hq hk r c
  show rowDots q k (ix2 r c) * Ideal.ofBits .f32 0x3DB504F3#32 = _
  rw [h, hs, ← EReal.coe_mul]; rfl

theorem lbB_apply {z : FVec Ideal S512x256 .f32} {x : ℝ} (r : Fin 512) (c : Fin 256) (hz : z (ix2 r c) = (x : EReal)) :
    lbB z (ix2 r c) = (lsig x : EReal) := by
  rw [← lsig_coe, ← hz]
  simp only [lbB, zeros, ones]
  pointwise
  rfl

/-- A comparison's bit, widened and read as a number. -/
theorem bit_toInt (b : Bool) : (((BitVec.setWidth 32 (BitVec.ofBool b)).toInt : ℝ) : EReal) = ((if b then 1 else 0 : ℝ) : EReal) := by
  cases b <;> simp

/-- A choice between two values by a comparison's bit. -/
theorem select_ofBool {α : Type} (b : Bool) (x y : α) : Scalar.select (BitVec.ofBool b) x y = if b then x else y := by
  cases b <;> rfl

/-- The triangle the later columns are summed with, twice over. -/
theorem upper_apply (b : Fin 512) (c : Fin 256) :
    k0_pay42 (F := Ideal) (ix2 b c) = ((if c.val < b.val % 256 then 1 else 0 : ℝ) : EReal) := by
  simp only [k0_pay42]
  pointwise
  split
  · rw [WordCmp.cmpi_sgt_ofNat (by omega) (by omega)]
    refine (bit_toInt _).trans ?_
    simp only [decide_eq_true_eq, Nat.mod_eq_of_lt (by assumption : b.val < 256)]
  · rw [WordCmp.cmpi_sgt_ofNat (by omega) (by omega)]
    refine (bit_toInt _).trans ?_
    simp only [decide_eq_true_eq, (by omega : b.val % 256 = b.val - 256)]

/-- The triangle the earlier columns are summed with. -/
theorem lower_apply (b c : Fin 256) :
    k0_pay43 (F := Ideal) (ix2 b c) = ((if b < c then 1 else 0 : ℝ) : EReal) := by
  simp only [k0_pay43]
  pointwise
  rw [WordCmp.cmpi_slt_ofNat (by omega) (by omega)]
  refine (bit_toInt _).trans ?_
  simp only [decide_eq_true_eq, Fin.lt_def]

/-- `keep` leaves a column of the causal triangle as it is and sets the others to zero. -/
def Keeps (i j : ℕ) (keep : FVec Ideal S512x256 .f32 → FVec Ideal S512x256 .f32) : Prop :=
  ∀ (x : FVec Ideal S512x256 .f32) (r : Fin 512) (c : Fin 256),
    keep x (ix2 r c) = if 256 * j + c.val < 512 * i + r.val then x (ix2 r c) else 0

theorem keeps_id (h : 256 * j + 255 < 512 * i) : Keeps i j id := fun x r c => by
  rw [if_pos (by omega)]; rfl

theorem keeps_keepB (hi : i < 16) (hj : j < 32) : Keeps i j (keepB (BitVec.ofNat 32 i) (BitVec.ofNat 32 j)) := by
  intro x r c
  simp only [keepB, maskB, zeros]
  pointwise
  have e1 : IntOp.addi (Scalar.muli (BitVec.ofNat 32 j) 256#32) (BitVec.ofNat 32 c) = BitVec.ofNat 32 (256 * j + c) := by
    show BitVec.ofNat 32 j * BitVec.ofNat 32 256 + BitVec.ofNat 32 c = _
    rw [← BitVec.ofNat_mul, ← BitVec.ofNat_add, mul_comm]
  have e2 : IntOp.addi (Scalar.muli (BitVec.ofNat 32 i) 512#32) (BitVec.ofNat 32 r) = BitVec.ofNat 32 (512 * i + r) := by
    show BitVec.ofNat 32 i * BitVec.ofNat 32 512 + BitVec.ofNat 32 r = _
    rw [← BitVec.ofNat_mul, ← BitVec.ofNat_add, mul_comm]
  rw [e1, e2, WordCmp.cmpi_slt_ofNat (by omega) (by omega), select_ofBool]
  simp only [decide_eq_true_eq]

theorem laneB_apply {saved : FVec Ideal S512x128 .f32} {lane : IVec S512x128 32} (hl : lane = iota .tc S512x128 32 [1] iota_S512x128_d1_w32)
    (n : Fin 128) (r : Fin 512) : laneB saved lane (BitVec.ofNat 32 n) (ix2 r 0) = saved (ix2 r n) := by
  subst hl
  simp only [laneB]
  pointwise
  rw [Finset.sum_eq_single n]
  · rw [show IntOp.cmpi CmpIPredicate.eq (BitVec.ofNat 32 n.val) (BitVec.ofNat 32 n.val) = 1#1 by simp [IntOp.cmpi]]; rfl
  · intro b _ hb
    rw [show IntOp.cmpi CmpIPredicate.eq (BitVec.ofNat 32 b.val) (BitVec.ofNat 32 n.val) = 0#1 from ?_]; · rfl
    have : ¬ (BitVec.ofNat 32 b.val = BitVec.ofNat 32 n.val) := by
      intro h
      have := congrArg BitVec.toNat h
      simp only [BitVec.toNat_ofNat] at this
      exact hb (Fin.ext (by omega))
    show BitVec.ofBool (_ == _) = 0#1
    rw [beq_false_of_ne this]; rfl
  · intro h; exact absurd (Finset.mem_univ _) h

theorem laterB_apply {ln : FVec Ideal S512x256 .f32} {accL : FVec Ideal S512x1 .f32} (hj : j < 32)
    (hln : ∀ (r : Fin 512) (c : Fin 256), ln (ix2 r c) = (I.ln (512 * i + r) (256 * j + c) : EReal))
    (hL : ∀ r : Fin 512, accL (ix2 r 0) = (I.later (512 * i + r) (256 * j + 255) : EReal)) (r : Fin 512) (c : Fin 256) :
    laterB ln (k0_pay42 (F := Ideal)) accL (ix2 r c) = (I.later (512 * i + r) (256 * j + c) : EReal) := by
  simp only [laterB]
  pointwise
  simp only [upper_apply, hln, hL]
  rw [I.later_block _ j c hj, EReal.coe_add]
  congr 1
  rw [sum_eq_coe (fun b : Fin 256 => if c < b then I.ln (512 * i + r) (256 * j + b) else 0),
    sum_eq_coe (fun b : Fin 256 => (0 : ℝ))]
  · simp
  · intro b _; rw [← EReal.coe_sub, ← EReal.coe_mul, sub_self, zero_mul]
  · intro b _; rw [← EReal.coe_mul]; congr 1
    simp only [Nat.mod_eq_of_lt b.isLt];
    by_cases h : c < b <;> simp [h]

theorem aB_apply {keep} {accL : FVec Ideal S512x1 .f32} (hj : j < 32) (hs : IsScale I) (hkeep : Keeps i j keep)
    (hq : ∀ (r : Fin 512) (d : Fin 128), q (ix2 r d) = (I.q (512 * i + r) d : EReal))
    (hk : ∀ (c : Fin 256) (d : Fin 128), k (ix2 c d) = (I.k (256 * j + c) d : EReal))
    (hL : ∀ r : Fin 512, accL (ix2 r 0) = (I.later (512 * i + r) (256 * j + 255) : EReal)) (r : Fin 512) (c : Fin 256) :
    aB keep q k (k0_pay42 (F := Ideal)) accL (ix2 r c) = (I.a (512 * i + r) (256 * j + c) : EReal) := by
  have hz := zB_apply hs hq hk
  have hln : ∀ (r : Fin 512) (c : Fin 256), keep (subf (lbB (zB q k)) (zB q k)) (ix2 r c)
      = (I.ln (512 * i + r) (256 * j + c) : EReal) := by
    intro r c
    rw [hkeep, In.ln]
    split
    · show lbB (zB q k) (ix2 r c) - zB q k (ix2 r c) = _
      rw [lbB_apply r c (hz r c), hz, EReal.coe_sub]
    · rfl
  rw [aB, hkeep, In.a]
  split
  · show Ideal.exp (lbB (zB q k) (ix2 r c) + laterB _ _ accL (ix2 r c)) = _
    rw [lbB_apply r c (hz r c), laterB_apply hj hln hL, ← EReal.coe_add, exp_coe]
  · rfl

theorem pB_apply {a : FVec Ideal S512x256 .f32}
    (ho : ∀ (r : Fin 512) (d : Fin 128), o (ix2 r d) = (I.o (512 * i + r) d : EReal))
    (hv : ∀ (c : Fin 256) (d : Fin 128), v (ix2 c d) = (I.v (256 * j + c) d : EReal))
    (ha : ∀ (r : Fin 512) (c : Fin 256), a (ix2 r c) = (I.a (512 * i + r) (256 * j + c) : EReal)) (r : Fin 512) (c : Fin 256) :
    mulf a (rowDots o v) (ix2 r c) = (I.p (512 * i + r) (256 * j + c) : EReal) := by
  show a (ix2 r c) * rowDots o v (ix2 r c) = _
  rw [ha, rowDots_apply i j ho hv, ← EReal.coe_mul]; rfl

theorem preB_apply {p : FVec Ideal S512x256 .f32} {accP : FVec Ideal S512x1 .f32}
    (hp : ∀ (r : Fin 512) (c : Fin 256), p (ix2 r c) = (I.p (512 * i + r) (256 * j + c) : EReal))
    (hP : ∀ r : Fin 512, accP (ix2 r 0) = ((∑ u ∈ Finset.range (256 * j), I.p (512 * i + r) u : ℝ) : EReal))
    (r : Fin 512) (c : Fin 256) :
    preB p (k0_pay43 (F := Ideal)) accP (ix2 r c) = (I.pre (512 * i + r) (256 * j + c) : EReal) := by
  simp only [preB]
  pointwise
  simp only [lower_apply, hp, hP]
  rw [I.pre_block, EReal.coe_add]
  congr 1
  rw [sum_eq_coe (fun b : Fin 256 => if b < c then I.p (512 * i + r) (256 * j + b) else 0)]
  intro b _; rw [← EReal.coe_mul]; congr 1
  by_cases h : b < c <;> simp [h]

theorem dzB_apply {keep} {lb p pre : FVec Ideal S512x256 .f32} (hs : IsScale I) (hkeep : Keeps i j keep)
    (hlb : ∀ (r : Fin 512) (c : Fin 256), lb (ix2 r c) = (lsig (I.z (512 * i + r) (256 * j + c)) : EReal))
    (hp : ∀ (r : Fin 512) (c : Fin 256), p (ix2 r c) = (I.p (512 * i + r) (256 * j + c) : EReal))
    (hpre : ∀ (r : Fin 512) (c : Fin 256), pre (ix2 r c) = (I.pre (512 * i + r) (256 * j + c) : EReal))
    (r : Fin 512) (c : Fin 256) :
    dzB keep lb p pre (ix2 r c) = ((I.dz (512 * i + r) (256 * j + c) * I.s : ℝ) : EReal) := by
  show keep _ (ix2 r c) * Ideal.ofBits .f32 0x3DB504F3#32 = _
  rw [hkeep, hs, EReal.coe_mul, In.dz]
  congr 1
  split
  · simp only [ones]
    pointwise
    rw [hlb, hp, hpre, exp_coe, ← EReal.coe_one, ← EReal.coe_sub, ← EReal.coe_mul, ← EReal.coe_mul, ← EReal.coe_sub]
  · rfl

theorem dqB_apply {dq : FVec Ideal S512x128 .f32} {dz : FVec Ideal S512x256 .bf16}
    (hdq : ∀ (r : Fin 512) (d : Fin 128), dq (ix2 r d)
      = ((∑ u ∈ Finset.range (256 * j), I.dz (512 * i + r) u * I.s * I.k u d : ℝ) : EReal))
    (hdz : ∀ (r : Fin 512) (c : Fin 256), dz (ix2 r c) = ((I.dz (512 * i + r) (256 * j + c) * I.s : ℝ) : EReal))
    (hk : ∀ (c : Fin 256) (d : Fin 128), k (ix2 c d) = (I.k (256 * j + c) d : EReal)) (r : Fin 512) (d : Fin 128) :
    dqB dq dz k (ix2 r d)
      = ((∑ u ∈ Finset.range (256 * (j + 1)), I.dz (512 * i + r) u * I.s * I.k u d : ℝ) : EReal) := by
  simp only [dqB]
  pointwise
  rw [hdq, In.sum_range_block, EReal.coe_add]
  congr 1
  exact sum_eq_coe _ fun c _ => by rw [hdz, hk, ← EReal.coe_mul]

theorem accB_apply {acc : Vec Ideal S256x128 .f32} {w : FVec Ideal S512x256 .bf16} {x : FVec Ideal S512x128 .bf16}
    {W X : ℕ → ℕ → ℝ} {y : ℝ} (c : Fin 256) (d : Fin 128) (hacc : acc (ix2 c d) = (y : EReal))
    (hw : ∀ (r : Fin 512), w (ix2 r c) = (W (512 * i + r) (256 * j + c) : EReal))
    (hx : ∀ (r : Fin 512), x (ix2 r d) = (X (512 * i + r) d : EReal)) :
    accB acc w x (ix2 c d) = ((y + ∑ r : Fin 512, W (512 * i + r) (256 * j + c) * X (512 * i + r) d : ℝ) : EReal) := by
  simp only [accB]
  pointwise
  rw [hacc, EReal.coe_add]
  congr 1
  exact sum_eq_coe _ fun r _ => by rw [hw, hx, ← EReal.coe_mul]

theorem sumB_apply {accP : FVec Ideal S512x1 .f32} {p : FVec Ideal S512x256 .f32}
    (hp : ∀ (r : Fin 512) (c : Fin 256), p (ix2 r c) = (I.p (512 * i + r) (256 * j + c) : EReal))
    (hP : ∀ r : Fin 512, accP (ix2 r 0) = ((∑ u ∈ Finset.range (256 * j), I.p (512 * i + r) u : ℝ) : EReal)) (r : Fin 512) :
    sumB accP p (ix2 r 0) = ((∑ u ∈ Finset.range (256 * (j + 1)), I.p (512 * i + r) u : ℝ) : EReal) := by
  simp only [sumB]
  pointwise
  rw [hP, In.sum_range_block, EReal.coe_add]
  congr 1
  exact sum_eq_coe _ fun c _ => hp r c

end

end Cert.KernelIdeal.Sb
end
end
-- ==== Proof.Trip.lean ====
module

public import proofs.«01_k».proof.Proof.Block
public import proofs.«01_k».proof.Proof.Gen.KernelIdeal.Loops

/-! One trip of the kernel's loop over the row blocks before its own: what it carries on and what it writes, in the
    quantities of its two blocks of 256 columns. -/

@[expose] public section

noncomputable section

namespace Cert.KernelIdeal.Sb

open Idealize.ShloMosaic Idealize.ShloMosaic.TcCoe Cert.KernelIdeal.Gen
open Idealize.SL Idealize.SL.Sem

variable {F : FTy → Type} [FloatOps F]

/-- A block's weights. -/
def blkA (keep : FVec F S512x256 .f32 → FVec F S512x256 .f32) (q : FVec F S512x128 .bf16) (K : Vec F S256x128 .bf16)
    (accL : FVec F S512x1 .f32) : FVec F S512x256 .f32 := aB keep q K (k0_pay42 (F := F)) accL
/-- A block's weights times their gradients. -/
def blkP (keep : FVec F S512x256 .f32 → FVec F S512x256 .f32) (q o : FVec F S512x128 .bf16) (K V : Vec F S256x128 .bf16)
    (accL : FVec F S512x1 .f32) : FVec F S512x256 .f32 := mulf (blkA keep q K accL) (rowDots o V)
/-- A block's scaled score gradients. -/
def blkD (keep : FVec F S512x256 .f32 → FVec F S512x256 .f32) (q o : FVec F S512x128 .bf16) (K V : Vec F S256x128 .bf16)
    (accL accP : FVec F S512x1 .f32) : FVec F S512x256 .bf16 :=
  dzB keep (lbB (zB q K)) (blkP keep q o K V accL) (preB (blkP keep q o K V accL) (k0_pay43 (F := F)) accP)

variable (𝒱 : Variants) (c : Dev nD) (bd : Option 𝒱.V) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .bf16) (harg7 : arg7.IsWhole)
  (arg8 : Memref sig .tc .vmem S8192x128 .bf16) (harg8 : arg8.IsWhole) (arg9 : Memref sig .tc .vmem S8192x128 .bf16) (harg9 : arg9.IsWhole)
  (arg10 : Memref sig .tc .vmem S8192x128 .f32) (harg10 : arg10.IsWhole) (arg11 : Memref sig .tc .vmem S8192x128 .f32) (harg11 : arg11.IsWhole)
  (arg12 : Memref sig .tc .vmem S8192x128 .bf16) (harg12 : arg12.IsWhole) (arg13 : Memref sig .tc .vmem S8192x128 .bf16) (harg13 : arg13.IsWhole)
  (v3 v5 v7 : Vec F S512x128 .f32) (v9 : IVec S512x128 32)
  (X12 : BufTy.Contents (Elt F) arg12.view.ty) (X13 : BufTy.Contents (Elt F) arg13.view.ty)
  (k : Fin (k0_t1_loop i).trips) (acc : FVec F S512x128 .f32 × FVec F S512x1 .f32)
  (f10 : BufTy.Contents (Elt F) arg10.view.ty) (f11 : BufTy.Contents (Elt F) arg11.view.ty)

/-- The rows of block `e` of trip `k`. -/
abbrev rectT (e : Fin 2) : Rect S8192x128 :=
  Rect.unit (s := S8192x128) (k0_off1 i k (BitVec.ofNat 32 e.val)) S256x128.size (k0_off1_inb i k e)

/-- Block `e` of trip `k`, read in a scratch array. -/
abbrev blkT {φ : EltTy} (b : Memref sig .tc .vmem S8192x128 φ) (X : BufTy.Contents (Elt F) b.view.ty) (e : Fin 2) : Vec F S256x128 φ :=
  View.readAt (Elt F) b.view (rectT i k e).toLoadRect X

/-- The number of block `e` of trip `k`, as a word. -/
abbrev wordT (e : Fin 2) : BitVec 32 := Scalar.addi (Scalar.muli (Scf.iv 0#32 1#32 k) 2#32) (BitVec.ofNat 32 e.val)

/-- The weights of block `e` of trip `k`. -/
abbrev aT (e : Fin 2) : FVec F S512x256 .f32 :=
  blkA id (k0_pay39 v3) (blkT i k arg12 X12 e) (laneB (k0_pay41 v7) v9 (wordT i k e))
/-- The weights times their gradients of block `e` of trip `k`. -/
abbrev pT (e : Fin 2) : FVec F S512x256 .f32 :=
  blkP id (k0_pay39 v3) (k0_pay40 v5) (blkT i k arg12 X12 e) (blkT i k arg13 X13 e) (laneB (k0_pay41 v7) v9 (wordT i k e))
/-- The scaled score gradients of block `e` of trip `k`. -/
abbrev dT (accP : FVec F S512x1 .f32) (e : Fin 2) : FVec F S512x256 .bf16 :=
  blkD id (k0_pay39 v3) (k0_pay40 v5) (blkT i k arg12 X12 e) (blkT i k arg13 X13 e) (laneB (k0_pay41 v7) v9 (wordT i k e)) accP

/-- What a trip carries on: the queries' gradients and the row sums with the two blocks added. -/
theorem tripR_eq : tripR_k0_t1 𝒱 c bd i arg2 harg2 arg3 harg3 arg4 harg4 arg5 harg5 arg6 harg6 arg7 harg7 arg8 harg8 arg9 harg9
    arg10 harg10 arg11 harg11 arg12 harg12 arg13 harg13 v3 v5 v7 v9 X12 X13 k acc f10 f11
    = (dqB (dqB acc.1 (dT i arg12 arg13 v3 v5 v7 v9 X12 X13 k acc.2 0) (blkT i k arg12 X12 0))
         (dT i arg12 arg13 v3 v5 v7 v9 X12 X13 k (sumB acc.2 (pT i arg12 arg13 v3 v5 v7 v9 X12 X13 k 0)) 1) (blkT i k arg12 X12 1),
       sumB (sumB acc.2 (pT i arg12 arg13 v3 v5 v7 v9 X12 X13 k 0)) (pT i arg12 arg13 v3 v5 v7 v9 X12 X13 k 1)) := by
  unfold tripR_k0_t1 trip_k0_t1
  dsimp only
  rfl

/-- What a trip writes: two blocks of 256 rows of either accumulator, each the rows found and the block's share. -/
theorem tripL_eq : tripL_k0_t1 𝒱 c bd i arg2 harg2 arg3 harg3 arg4 harg4 arg5 harg5 arg6 harg6 arg7 harg7 arg8 harg8 arg9 harg9
    arg10 harg10 arg11 harg11 arg12 harg12 arg13 harg13 v3 v5 v7 v9 X12 X13 k acc f10 f11
    = ([⟨rectT i k 1, accB (blkT i k arg10 f10 1)
          (dT i arg12 arg13 v3 v5 v7 v9 X12 X13 k (sumB acc.2 (pT i arg12 arg13 v3 v5 v7 v9 X12 X13 k 0)) 1) (k0_pay39 v3)⟩,
        ⟨rectT i k 0, accB (blkT i k arg10 f10 0) (dT i arg12 arg13 v3 v5 v7 v9 X12 X13 k acc.2 0) (k0_pay39 v3)⟩],
       [⟨rectT i k 1, accB (blkT i k arg11 f11 1)
          (truncf .bf16 (aT i arg12 v3 v7 v9 X12 k 1) bitsLt_bf16_f32) (k0_pay40 v5)⟩,
        ⟨rectT i k 0, accB (blkT i k arg11 f11 0)
          (truncf .bf16 (aT i arg12 v3 v7 v9 X12 k 0) bitsLt_bf16_f32) (k0_pay40 v5)⟩]) := by
  unfold tripL_k0_t1 trip_k0_t1
  dsimp only
  rfl

end Cert.KernelIdeal.Sb
end
end
-- ==== Proof.Loop.lean ====
module

public import proofs.«01_k».proof.Proof.Trip
public import Idealize.ShloMosaic.Lib.VecWindow

/-! The loop over the earlier row blocks, over the reals: what is carried and what the accumulators hold after the
    columns before a block, and how one block of 256 columns carries that on. -/

@[expose] public section

noncomputable section

namespace Cert.KernelIdeal.Sb

open Idealize.ShloMosaic Idealize.ShloMosaic.TcCoe Cert.KernelIdeal.Gen
open Idealize.SL Idealize.SL.Sem
open Stick

/-! ## Where the blocks lie -/

theorem t1_trips (i : grid0.Coords) : (k0_t1_loop i).trips = (i 1).val :=
  (by decide : ∀ n : Fin 16, Scf.trips (0#32) (Scalar.addi 0#32 (Scalar.muli (Scalar.divsi (Scalar.subi (BitVec.ofNat 32 n.val) 0#32) 1#32) 1#32)) 1#32 = n.val) (i 1)

theorem t2_trips (i : grid0.Coords) : (k0_t2_loop i).trips = 0 :=
  (by decide : ∀ n : Fin 16, Scf.trips
    (Scalar.addi 0#32 (Scalar.muli (Scalar.divsi (Scalar.subi (BitVec.ofNat 32 n.val) 0#32) 1#32) 1#32))
    (Scalar.addi 0#32 (Scalar.subi (BitVec.ofNat 32 n.val) 0#32)) 1#32 = 0) (i 1)

theorem off1_eq (i : grid0.Coords) (k : Fin (k0_t1_loop i).trips) (e : Fin 2) :
    k0_off1 i k (BitVec.ofNat 32 e.val) = ![256 * (2 * k.val + e.val), 0] := by
  have hk : k.val < 16 := (k.isLt.trans_eq (t1_trips i)).trans (i 1).isLt
  refine congrArg (fun n : ℕ => (![n, 0] : Fin 2 → ℕ)) ?_
  exact (by decide : ∀ (k : Fin 16) (e : Fin 2), (Scalar.indexCast (Scalar.muli (Scalar.addi (Scalar.muli (Scf.iv 0#32 1#32 k.val) 2#32)
    (BitVec.ofNat 32 e.val)) 256#32) : Index).toNat = 256 * (2 * k.val + e.val)) ⟨k.val, hk⟩ e

theorem wordT_eq (i : grid0.Coords) (k : Fin (k0_t1_loop i).trips) (e : Fin 2) :
    wordT i k e = BitVec.ofNat 32 (2 * k.val + e.val) := by
  have hk : k.val < 16 := (k.isLt.trans_eq (t1_trips i)).trans (i 1).isLt
  exact (by decide : ∀ (k : Fin 16) (e : Fin 2), Scalar.addi (Scalar.muli (Scf.iv 0#32 1#32 k.val) 2#32)
    (BitVec.ofNat 32 e.val) = BitVec.ofNat 32 (2 * k.val + e.val)) ⟨k.val, hk⟩ e

theorem off3_eq (i : grid0.Coords) (e : Fin 2) :
    k0_off3 i (BitVec.ofNat 32 e.val) = ![256 * (2 * (i 1).val + e.val), 0] := by
  refine congrArg (fun n : ℕ => (![n, 0] : Fin 2 → ℕ)) ?_
  exact (by decide : ∀ (k : Fin 16) (e : Fin 2), (Scalar.indexCast (Scalar.muli (Scalar.addi (Scalar.muli (BitVec.ofNat 32 k.val) 2#32)
    (BitVec.ofNat 32 e.val)) 256#32) : Index).toNat = 256 * (2 * k.val + e.val)) (i 1) e

/-! ## One block of columns -/

/-- A block's loaded arrays hold the head's numbers: rows `512 i + r`, columns `256 j + c`. -/
structure Blk (I : In) (i j : ℕ) (keep : FVec Ideal S512x256 .f32 → FVec Ideal S512x256 .f32) (q o : FVec Ideal S512x128 .bf16)
    (K V : Vec Ideal S256x128 .bf16) (accL : FVec Ideal S512x1 .f32) : Prop where
  hs : IsScale I
  hj : j < 32
  hkeep : Keeps i j keep
  hq : ∀ (r : Fin 512) (d : Fin 128), q (ix2 r d) = (I.q (512 * i + r) d : EReal)
  ho : ∀ (r : Fin 512) (d : Fin 128), o (ix2 r d) = (I.o (512 * i + r) d : EReal)
  hK : ∀ (c : Fin 256) (d : Fin 128), K (ix2 c d) = (I.k (256 * j + c) d : EReal)
  hV : ∀ (c : Fin 256) (d : Fin 128), V (ix2 c d) = (I.v (256 * j + c) d : EReal)
  hL : ∀ r : Fin 512, accL (ix2 r 0) = (I.later (512 * i + r) (256 * j + 255) : EReal)

/-- What a row block adds to the gradient of key `R`. -/
def shareK (I : In) (i R d : ℕ) : ℝ := ∑ r : Fin 512, I.dz (512 * i + r) R * I.s * I.q (512 * i + r) d
/-- What a row block adds to the gradient of value `R`. -/
def shareV (I : In) (i R d : ℕ) : ℝ := ∑ r : Fin 512, I.a (512 * i + r) R * I.o (512 * i + r) d

section
variable {I : In} {i j : ℕ} {keep : FVec Ideal S512x256 .f32 → FVec Ideal S512x256 .f32} {q o : FVec Ideal S512x128 .bf16}
  {K V : Vec Ideal S256x128 .bf16} {accL accP : FVec Ideal S512x1 .f32}

theorem Blk.a (h : Blk I i j keep q o K V accL) (r : Fin 512) (c : Fin 256) :
    blkA keep q K accL (ix2 r c) = (I.a (512 * i + r) (256 * j + c) : EReal) :=
  aB_apply h.hj h.hs h.hkeep h.hq h.hK h.hL r c

theorem Blk.p (h : Blk I i j keep q o K V accL) (r : Fin 512) (c : Fin 256) :
    blkP keep q o K V accL (ix2 r c) = (I.p (512 * i + r) (256 * j + c) : EReal) :=
  pB_apply h.ho h.hV h.a r c

theorem Blk.d (h : Blk I i j keep q o K V accL)
    (hP : ∀ r : Fin 512, accP (ix2 r 0) = ((∑ u ∈ Finset.range (256 * j), I.p (512 * i + r) u : ℝ) : EReal))
    (r : Fin 512) (c : Fin 256) :
    blkD keep q o K V accL accP (ix2 r c) = ((I.dz (512 * i + r) (256 * j + c) * I.s : ℝ) : EReal) :=
  dzB_apply h.hs h.hkeep (fun r c => lbB_apply r c (zB_apply h.hs h.hq h.hK r c)) h.p (preB_apply h.p hP) r c

/-- After the columns before block `j`: the carried gradients and sums, and the accumulators with the row block's
    share added in the rows before that block's. -/
structure Inv (I : In) (i j : ℕ) (A10 A11 : ℕ → ℕ → ℝ) (st : FVec Ideal S512x128 .f32 × FVec Ideal S512x1 .f32)
    (w10 w11 : Vec Ideal S8192x128 .f32) : Prop where
  dq : ∀ (r : Fin 512) (d : Fin 128), st.1 (ix2 r d)
    = ((∑ u ∈ Finset.range (256 * j), I.dz (512 * i + r) u * I.s * I.k u d : ℝ) : EReal)
  p : ∀ r : Fin 512, st.2 (ix2 r 0) = ((∑ u ∈ Finset.range (256 * j), I.p (512 * i + r) u : ℝ) : EReal)
  a10 : ∀ (R : Fin 8192) (d : Fin 128), w10 (ix2 R d) = ((A10 R d + if R.val < 256 * j then shareK I i R d else 0 : ℝ) : EReal)
  a11 : ∀ (R : Fin 8192) (d : Fin 128), w11 (ix2 R d) = ((A11 R d + if R.val < 256 * j then shareV I i R d else 0 : ℝ) : EReal)

/-- A load of 256 rows from row `256 j` reads those rows. -/
theorem readAt_rows {φ : EltTy} {κ : Kind} {sp : Space} (v : View sig κ sp S8192x128 φ) (f : BufTy.Contents (Elt Ideal) v.ty) {off : Fin 2 → ℕ} (j : ℕ) (hj : j < 32)
    (hoff : off = ![256 * j, 0]) (inb : ∀ a : Fin 2, off a + S256x128.size a ≤ S8192x128.size a) (c : Fin 256) (d : Fin 128) :
    v.readAt (Elt Ideal) (Rect.unit (s := S8192x128) off S256x128.size inb).toLoadRect f (ix2 c d)
      = v.read (Elt Ideal) f (ix2 (⟨256 * j + c.val, by omega⟩ : Fin 8192) d) := by
  subst hoff
  refine congrArg (v.read (Elt Ideal) f) (funext fun a => Fin.ext ?_)
  revert a
  refine Fin.forall_fin_two.mpr ⟨?_, ?_⟩
  · show 256 * j + 1 * c.val = 256 * j + c.val; omega
  · show 0 + 1 * d.val = d.val; omega

/-- Writing one block of 256 rows carries the row block's share on to the next. -/
theorem rows_step {κ : Kind} {sp : Space} (v : View sig κ sp S8192x128 .f32) (f : BufTy.Contents (Elt Ideal) v.ty) (L : List (View.Piece (Elt Ideal) S8192x128 .f32))
    {off : Fin 2 → ℕ} (j : ℕ) (hoff : off = ![256 * j, 0]) (inb : ∀ a : Fin 2, off a + S256x128.size a ≤ S8192x128.size a)
    (w : Vec Ideal S256x128 .f32) (A S : ℕ → ℕ → ℝ)
    (h : ∀ (R : Fin 8192) (d : Fin 128), v.read (Elt Ideal) (v.writes (Elt Ideal) f L) (ix2 R d)
      = ((A R d + if R.val < 256 * j then S R d else 0 : ℝ) : EReal))
    (hw : ∀ (c : Fin 256) (d : Fin 128), w (ix2 c d) = ((A (256 * j + c) d + S (256 * j + c) d : ℝ) : EReal))
    (R : Fin 8192) (d : Fin 128) :
    v.read (Elt Ideal) (v.writes (Elt Ideal) f (⟨Rect.unit (s := S8192x128) off S256x128.size inb, w⟩ :: L)) (ix2 R d)
      = ((A R d + if R.val < 256 * (j + 1) then S R d else 0 : ℝ) : EReal) := by
  by_cases hR : 256 * j ≤ R.val ∧ R.val < 256 * j + 256
  · rw [View.read_writes_cons_rows_of_mem v f inb w L (ix2 R d) (ix2 (⟨R.val - 256 * j, by omega⟩ : Fin 256) d) hoff
      (show R.val = 256 * j + (R.val - 256 * j) by omega) rfl]
    refine (hw _ d).trans ?_
    rw [if_pos (by omega), show 256 * j + (R.val - 256 * j) = R.val by omega]
  · rw [View.read_writes_cons_rows_of_not_mem v f inb w L (ix2 R d) hoff (W := 256) rfl
      (show R.val < 256 * j ∨ 256 * j + 256 ≤ R.val by omega), h]
    congr 2
    by_cases h1 : R.val < 256 * j
    · rw [if_pos h1, if_pos (by omega)]
    · rw [if_neg h1, if_neg (by omega)]

/-- The rows a block adds to are still the ones found. -/
theorem Inv.acc10 {A10 A11 : ℕ → ℕ → ℝ} {st w10 w11} (h : Inv I i j A10 A11 st w10 w11) {n : ℕ} (hn : j ≤ n)
    (c : Fin 256) (d : Fin 128) (hb : 256 * n + c.val < 8192) :
    w10 (ix2 (⟨256 * n + c.val, hb⟩ : Fin 8192) d) = (A10 (256 * n + c) d : EReal) := by
  rw [h.a10, if_neg (by show ¬ 256 * n + c.val < 256 * j; omega), add_zero]

theorem Inv.acc11 {A10 A11 : ℕ → ℕ → ℝ} {st w10 w11} (h : Inv I i j A10 A11 st w10 w11) {n : ℕ} (hn : j ≤ n)
    (c : Fin 256) (d : Fin 128) (hb : 256 * n + c.val < 8192) :
    w11 (ix2 (⟨256 * n + c.val, hb⟩ : Fin 8192) d) = (A11 (256 * n + c) d : EReal) := by
  rw [h.a11, if_neg (by show ¬ 256 * n + c.val < 256 * j; omega), add_zero]

/-- One block carries the invariant on. -/
theorem Inv.step {A10 A11 : ℕ → ℕ → ℝ} {st} {κ : Kind} {sp : Space} {v10 v11 : View sig κ sp S8192x128 .f32}
    {f10 : BufTy.Contents (Elt Ideal) v10.ty} {f11 : BufTy.Contents (Elt Ideal) v11.ty} {L10 L11 : List (View.Piece (Elt Ideal) S8192x128 .f32)}
    (hB : Blk I i j keep q o K V accL)
    (h : Inv I i j A10 A11 st (v10.read (Elt Ideal) (v10.writes (Elt Ideal) f10 L10)) (v11.read (Elt Ideal) (v11.writes (Elt Ideal) f11 L11)))
    {y10 y11 : Vec Ideal S256x128 .f32}
    (h10 : ∀ (c : Fin 256) (d : Fin 128), y10 (ix2 c d) = (A10 (256 * j + c) d : EReal))
    (h11 : ∀ (c : Fin 256) (d : Fin 128), y11 (ix2 c d) = (A11 (256 * j + c) d : EReal))
    {off : Fin 2 → ℕ} (hoff : off = ![256 * j, 0]) (inb : ∀ a : Fin 2, off a + S256x128.size a ≤ S8192x128.size a) :
    Inv I i (j + 1) A10 A11
      (dqB st.1 (blkD keep q o K V accL st.2) K, sumB st.2 (blkP keep q o K V accL))
      (v10.read (Elt Ideal) (v10.writes (Elt Ideal) f10
        (⟨Rect.unit (s := S8192x128) off S256x128.size inb, accB y10 (blkD keep q o K V accL st.2) q⟩ :: L10)))
      (v11.read (Elt Ideal) (v11.writes (Elt Ideal) f11
        (⟨Rect.unit (s := S8192x128) off S256x128.size inb,
          accB y11 (truncf .bf16 (blkA keep q K accL) bitsLt_bf16_f32) o⟩ :: L11))) where
  dq := dqB_apply h.dq (hB.d h.p) hB.hK
  p := sumB_apply hB.p h.p
  a10 := rows_step v10 f10 L10 j hoff inb _ A10 (shareK I i) h.a10 fun c d =>
    accB_apply (W := fun t u => I.dz t u * I.s) (X := I.q) c d (h10 c d) (fun r => hB.d h.p r c) (fun r => hB.hq r d)
  a11 := rows_step v11 f11 L11 j hoff inb _ A11 (shareV I i) h.a11 fun c d =>
    accB_apply (W := I.a) (X := I.o) c d (h11 c d) (fun r => hB.a r c) (fun r => hB.ho r d)

end

end Cert.KernelIdeal.Sb
end
end
-- ==== Proof.Body.lean ====
module

public import proofs.«01_k».proof.Proof.Loop
public import proofs.«01_k».proof.Proof.Gen.KernelIdeal.Frame

/-! A grid point of the kernel: the loop over the earlier row blocks, then the two blocks of columns of the point's
    own row block, under the causal mask; what is written, in the blocks' quantities. -/

@[expose] public section

noncomputable section

namespace Cert.KernelIdeal.Sb

open Idealize.ShloMosaic Idealize.ShloMosaic.TcCoe Cert.KernelIdeal.Gen
open Idealize.SL Idealize.SL.Sem

variable {F : FTy → Type} [FloatOps F]

section
variable (i : grid0.Coords) (arg10 arg11 : Memref sig .tc .vmem S8192x128 .f32) (arg12 arg13 : Memref sig .tc .vmem S8192x128 .bf16)
  (v3 v5 v7 : Vec F S512x128 .f32)
  (X12 : BufTy.Contents (Elt F) arg12.view.ty) (X13 : BufTy.Contents (Elt F) arg13.view.ty)

/-- The rows of column block `e` of the point's own row block. -/
abbrev rectM (e : Fin 2) : Rect S8192x128 :=
  Rect.unit (s := S8192x128) (k0_off3 i (BitVec.ofNat 32 e.val)) S256x128.size (k0_off3_inb i e)
/-- That block, read in a scratch array. -/
abbrev blkM {φ : EltTy} (b : Memref sig .tc .vmem S8192x128 φ) (X : BufTy.Contents (Elt F) b.view.ty) (e : Fin 2) : Vec F S256x128 φ :=
  View.readAt (Elt F) b.view (rectM i e).toLoadRect X
/-- The block's number, as a word. -/
abbrev wordM (e : Fin 2) : BitVec 32 := Scalar.addi (Scalar.muli (BitVec.ofNat 32 (i 1).val) 2#32) (BitVec.ofNat 32 e.val)
/-- The block's causal mask. -/
abbrev keepM (e : Fin 2) : FVec F S512x256 .f32 → FVec F S512x256 .f32 := keepB (BitVec.ofNat 32 (i 1).val) (wordM i e)
/-- The lanes' numbers. -/
abbrev lanes : IVec S512x128 32 := iota .tc S512x128 32 [1] iota_S512x128_d1_w32
/-- The block's weights. -/
abbrev aM (e : Fin 2) : FVec F S512x256 .f32 :=
  blkA (keepM i e) (k0_pay39 v3) (blkM i arg12 X12 e) (laneB (k0_pay41 v7) lanes (wordM i e))
/-- The block's weights times their gradients. -/
abbrev pM (e : Fin 2) : FVec F S512x256 .f32 :=
  blkP (keepM i e) (k0_pay39 v3) (k0_pay40 v5) (blkM i arg12 X12 e) (blkM i arg13 X13 e) (laneB (k0_pay41 v7) lanes (wordM i e))
/-- The block's scaled score gradients. -/
abbrev dM (accP : FVec F S512x1 .f32) (e : Fin 2) : FVec F S512x256 .bf16 :=
  blkD (keepM i e) (k0_pay39 v3) (k0_pay40 v5) (blkM i arg12 X12 e) (blkM i arg13 X13 e) (laneB (k0_pay41 v7) lanes (wordM i e)) accP
/-- What is carried on with a block added. -/
abbrev stM (st : FVec F S512x128 .f32 × FVec F S512x1 .f32) (e : Fin 2) : FVec F S512x128 .f32 × FVec F S512x1 .f32 :=
  (dqB st.1 (dM i arg12 arg13 v3 v5 v7 X12 X13 st.2 e) (blkM i arg12 X12 e), sumB st.2 (pM i arg12 arg13 v3 v5 v7 X12 X13 e))
/-- The keys' accumulator's writes with a block's added. -/
abbrev LK (f10 : BufTy.Contents (Elt F) arg10.view.ty) (st : FVec F S512x128 .f32 × FVec F S512x1 .f32) (e : Fin 2)
    (L : List (View.Piece (Elt F) S8192x128 .f32)) : List (View.Piece (Elt F) S8192x128 .f32) :=
  ⟨rectM i e, accB (blkM i arg10 (arg10.view.writes (Elt F) f10 L) e) (dM i arg12 arg13 v3 v5 v7 X12 X13 st.2 e) (k0_pay39 v3)⟩ :: L
/-- The values' accumulator's writes with a block's added. -/
abbrev LV (f11 : BufTy.Contents (Elt F) arg11.view.ty) (e : Fin 2)
    (L : List (View.Piece (Elt F) S8192x128 .f32)) : List (View.Piece (Elt F) S8192x128 .f32) :=
  ⟨rectM i e, accB (blkM i arg11 (arg11.view.writes (Elt F) f11 L) e)
    (truncf .bf16 (aM i arg12 v3 v7 X12 e) bitsLt_bf16_f32) (k0_pay40 v5)⟩ :: L
end

section
variable (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .bf16) (harg7 : arg7.IsWhole)
  (arg8 : Memref sig .tc .vmem S8192x128 .bf16) (harg8 : arg8.IsWhole) (arg9 : Memref sig .tc .vmem S8192x128 .bf16) (harg9 : arg9.IsWhole)
  (arg10 : Memref sig .tc .vmem S8192x128 .f32) (harg10 : arg10.IsWhole) (arg11 : Memref sig .tc .vmem S8192x128 .f32) (harg11 : arg11.IsWhole)
  (arg12 : Memref sig .tc .vmem S8192x128 .bf16) (harg12 : arg12.IsWhole) (arg13 : Memref sig .tc .vmem S8192x128 .bf16) (harg13 : arg13.IsWhole)
  (v3 v5 v7 : Vec F S512x128 .f32)
  (X12 : BufTy.Contents (Elt F) arg12.view.ty) (X13 : BufTy.Contents (Elt F) arg13.view.ty)
  (G10 : BufTy.Contents (Elt F) arg10.view.ty) (G11 : BufTy.Contents (Elt F) arg11.view.ty)

/-- What the loop over the earlier row blocks carries on and writes. -/
abbrev loop1 : (FVec F S512x128 .f32 × FVec F S512x1 .f32) × List (View.Piece (Elt F) S8192x128 .f32) × List (View.Piece (Elt F) S8192x128 .f32) :=
  st_k0_t1 Variants.none c none i arg2 harg2 arg3 harg3 arg4 harg4 arg5 harg5 arg6 harg6 arg7 harg7 arg8 harg8 arg9 harg9
        arg10 harg10 arg11 harg11 arg12 harg12 arg13 harg13 v3 v5 v7 lanes X12 X13 G10 G11 (k0_pay44, k0_pay45) (k0_t1_loop i).trips

/-- The remainder loop, of no trip. -/
abbrev loop2 (st : FVec F S512x128 .f32 × FVec F S512x1 .f32) :
    (FVec F S512x128 .f32 × FVec F S512x1 .f32) × List (View.Piece (Elt F) S8192x128 .f32) × List (View.Piece (Elt F) S8192x128 .f32) :=
  st_k0_t2 Variants.none c none i arg2 harg2 arg3 harg3 arg4 harg4 arg5 harg5 arg6 harg6 arg7 harg7 arg8 harg8 arg9 harg9
        arg10 harg10 arg11 harg11 arg12 harg12 arg13 harg13 v3 v5 v7 lanes
    (Scalar.addi 0#32 (Scalar.muli (Scalar.divsi (Scalar.subi (BitVec.ofNat 32 (i 1).val) 0#32) 1#32) 1#32))
    X12 X13 G10 G11 st (k0_t2_loop i).trips

theorem loop2_eq (st : FVec F S512x128 .f32 × FVec F S512x1 .f32) :
    loop2 c i arg2 harg2 arg3 harg3 arg4 harg4 arg5 harg5 arg6 harg6 arg7 harg7 arg8 harg8 arg9 harg9
        arg10 harg10 arg11 harg11 arg12 harg12 arg13 harg13 v3 v5 v7 X12 X13 G10 G11 st = (st, [], []) := by
  unfold loop2
  rw [t2_trips]; rfl

/-- What a point writes — the query gradients, and the accumulators' writes — from what the remainder loop carries on. -/
def ptOut (J10 : BufTy.Contents (Elt F) arg10.view.ty) (J11 : BufTy.Contents (Elt F) arg11.view.ty)
    (st : FVec F S512x128 .f32 × FVec F S512x1 .f32) (L10 L11 : List (View.Piece (Elt F) S8192x128 .f32)) :
    FVec F S512x128 .bf16 × List (View.Piece (Elt F) S8192x128 .f32) × List (View.Piece (Elt F) S8192x128 .f32) :=
  (truncf .bf16 (stM i arg12 arg13 v3 v5 v7 X12 X13 (stM i arg12 arg13 v3 v5 v7 X12 X13 st 0) 1).1 bitsLt_bf16_f32,
    LK i arg10 arg12 arg13 v3 v5 v7 X12 X13 J10 (stM i arg12 arg13 v3 v5 v7 X12 X13 st 0) 1
      (LK i arg10 arg12 arg13 v3 v5 v7 X12 X13 J10 st 0 L10),
    LV i arg11 arg12 v3 v5 v7 X12 J11 1 (LV i arg11 arg12 v3 v5 v7 X12 J11 0 L11))

/-- What a point writes, from the arrays it finds: contents `G10`, `G11` of the accumulators, which are the writes
    `b10 []`, `b11 []` over `J10`, `J11`. -/
def ptAll (J10 : BufTy.Contents (Elt F) arg10.view.ty) (J11 : BufTy.Contents (Elt F) arg11.view.ty)
    (b10 b11 : List (View.Piece (Elt F) S8192x128 .f32) → List (View.Piece (Elt F) S8192x128 .f32)) :
    FVec F S512x128 .bf16 × List (View.Piece (Elt F) S8192x128 .f32) × List (View.Piece (Elt F) S8192x128 .f32) :=
  let S1 := loop1 c i arg2 harg2 arg3 harg3 arg4 harg4 arg5 harg5 arg6 harg6 arg7 harg7 arg8 harg8 arg9 harg9
        arg10 harg10 arg11 harg11 arg12 harg12 arg13 harg13 v3 v5 v7 X12 X13 G10 G11
  let S2 := loop2 c i arg2 harg2 arg3 harg3 arg4 harg4 arg5 harg5 arg6 harg6 arg7 harg7 arg8 harg8 arg9 harg9
        arg10 harg10 arg11 harg11 arg12 harg12 arg13 harg13 v3 v5 v7 X12 X13 (arg10.view.writes (Elt F) J10 (b10 S1.2.1)) (arg11.view.writes (Elt F) J11 (b11 S1.2.2)) S1.1
  ptOut i arg10 arg11 arg12 arg13 v3 v5 v7 X12 X13 J10 J11 S2.1 (S2.2.1 ++ b10 S1.2.1) (S2.2.2 ++ b11 S1.2.2)

theorem ptAll_eq (J10 : BufTy.Contents (Elt F) arg10.view.ty) (J11 : BufTy.Contents (Elt F) arg11.view.ty)
    (b10 b11 : List (View.Piece (Elt F) S8192x128 .f32) → List (View.Piece (Elt F) S8192x128 .f32)) :
    ptAll c i arg2 harg2 arg3 harg3 arg4 harg4 arg5 harg5 arg6 harg6 arg7 harg7 arg8 harg8 arg9 harg9
        arg10 harg10 arg11 harg11 arg12 harg12 arg13 harg13 v3 v5 v7 X12 X13 G10 G11 J10 J11 b10 b11
      = ptOut i arg10 arg11 arg12 arg13 v3 v5 v7 X12 X13 J10 J11 (loop1 c i arg2 harg2 arg3 harg3 arg4 harg4 arg5 harg5 arg6 harg6 arg7 harg7 arg8 harg8 arg9 harg9
        arg10 harg10 arg11 harg11 arg12 harg12 arg13 harg13 v3 v5 v7 X12 X13 G10 G11).1
          (b10 (loop1 c i arg2 harg2 arg3 harg3 arg4 harg4 arg5 harg5 arg6 harg6 arg7 harg7 arg8 harg8 arg9 harg9
        arg10 harg10 arg11 harg11 arg12 harg12 arg13 harg13 v3 v5 v7 X12 X13 G10 G11).2.1) (b11 (loop1 c i arg2 harg2 arg3 harg3 arg4 harg4 arg5 harg5 arg6 harg6 arg7 harg7 arg8 harg8 arg9 harg9
        arg10 harg10 arg11 harg11 arg12 harg12 arg13 harg13 v3 v5 v7 X12 X13 G10 G11).2.2) := by
  unfold ptAll
  dsimp only
  rw [loop2_eq]
  rfl
end

section
variable (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .bf16) (harg7 : arg7.IsWhole)
  (arg8 : Memref sig .tc .vmem S8192x128 .bf16) (harg8 : arg8.IsWhole) (arg9 : Memref sig .tc .vmem S8192x128 .bf16) (harg9 : arg9.IsWhole)
  (arg10 : Memref sig .tc .vmem S8192x128 .f32) (harg10 : arg10.IsWhole) (arg11 : Memref sig .tc .vmem S8192x128 .f32) (harg11 : arg11.IsWhole)
  (arg12 : Memref sig .tc .vmem S8192x128 .bf16) (harg12 : arg12.IsWhole) (arg13 : Memref sig .tc .vmem S8192x128 .bf16) (harg13 : arg13.IsWhole)
  (x0 : Vec F S512x128 .f32) (x1 x2 : Vec F S8192x128 .f32) (x3 x4 : Vec F S512x128 .f32)
  (xs0 xs1 : Vec F S8192x128 .f32) (xs2 xs3 : Vec F S8192x128 .bf16)

/-- The whole of a scratch array. -/
abbrev allR : Rect S8192x128 := Rect.unit ![0, 0] S8192x128.size inb_S8192x128_S8192x128_0_0

/-- A staged block read whole. -/
abbrev wholeR (b : Memref sig .tc .vmem S512x128 .f32) (hb : b.IsWhole) (x : Vec F S512x128 .f32) : Vec F S512x128 .f32 :=
  View.readAt (Elt F) b.view (Rect.unit ![0, 0] S512x128.size inb_S512x128_S512x128_0_0).toLoadRect (hb.unread x)

/-- The writes of a grid point, case B. -/
theorem runB (hc0 : ¬cond0_0 i) (hc1 : ¬cond0_1 i) {r}
    (hr : r = kernelRun0_B c i arg2 harg2 arg3 harg3 arg4 harg4 arg5 harg5 arg6 harg6 arg7 harg7 arg8 harg8 arg9 harg9
        arg10 harg10 arg11 harg11 arg12 harg12 arg13 harg13 hc0 hc1 x0 x1 x2 x3 x4 xs0 xs1 xs2 xs3) :
    ∃ w, w = ptAll c i arg2 harg2 arg3 harg3 arg4 harg4 arg5 harg5 arg6 harg6 arg7 harg7 arg8 harg8 arg9 harg9
        arg10 harg10 arg11 harg11 arg12 harg12 arg13 harg13 (wholeR arg2 harg2 x0) (wholeR arg6 harg6 x4) (wholeR arg5 harg5 x3) (harg12.unread xs2) (harg13.unread xs3) (harg10.unread xs0) (harg11.unread xs1) (harg10.unread xs0) (harg11.unread xs1) id id ∧
    r.1 = [⟨Rect.unit ![0, 0] S512x128.size inb_S512x128_S512x128_0_0, w.1⟩] ∧ r.2.2.2.1 = w.2.1 ∧ r.2.2.2.2.1 = w.2.2 := by
  subst hr
  unfold kernelRun0_B
  dsimp only [ptAll, ptOut]
  exact ⟨_, rfl, rfl, rfl, rfl⟩

/-- The writes of a grid point, case C. -/
theorem runC (hc0 : ¬cond0_0 i) (hc1 : cond0_1 i) {r}
    (hr : r = kernelRun0_C c i arg2 harg2 arg3 harg3 arg4 harg4 arg5 harg5 arg6 harg6 arg7 harg7 arg8 harg8 arg9 harg9
        arg10 harg10 arg11 harg11 arg12 harg12 arg13 harg13 hc0 hc1 x0 x1 x2 x3 x4 xs0 xs1 xs2 xs3) :
    ∃ w, w = ptAll c i arg2 harg2 arg3 harg3 arg4 harg4 arg5 harg5 arg6 harg6 arg7 harg7 arg8 harg8 arg9 harg9
        arg10 harg10 arg11 harg11 arg12 harg12 arg13 harg13 (wholeR arg2 harg2 x0) (wholeR arg6 harg6 x4) (wholeR arg5 harg5 x3) (harg12.unread xs2) (harg13.unread xs3) (harg10.unread xs0) (harg11.unread xs1) (harg10.unread xs0) (harg11.unread xs1) id id ∧
    r.1 = [⟨Rect.unit ![0, 0] S512x128.size inb_S512x128_S512x128_0_0, w.1⟩] ∧ r.2.2.2.1 = w.2.1 ∧ r.2.2.2.2.1 = w.2.2 ∧
    r.2.1 = [⟨allR, k0_pay72 (View.readAt (Elt F) arg10.view allR.toLoadRect (arg10.view.writes (Elt F) (harg10.unread xs0) r.2.2.2.1))⟩] ∧
    r.2.2.1 = [⟨allR, k0_pay73 (View.readAt (Elt F) arg11.view allR.toLoadRect (arg11.view.writes (Elt F) (harg11.unread xs1) r.2.2.2.2.1))⟩] := by
  subst hr
  unfold kernelRun0_C
  dsimp only [ptAll, ptOut]
  exact ⟨_, rfl, rfl, rfl, rfl, rfl, rfl⟩

/-- The writes of a grid point, case A. -/
theorem runA (hc0 : cond0_0 i) (hc1 : ¬cond0_1 i) {r}
    (hr : r = kernelRun0_A c i arg2 harg2 arg3 harg3 arg4 harg4 arg5 harg5 arg6 harg6 arg7 harg7 arg8 harg8 arg9 harg9
        arg10 harg10 arg11 harg11 arg12 harg12 arg13 harg13 hc0 hc1 x0 x1 x2 x3 x4) :
    ∃ w, w = ptAll c i arg2 harg2 arg3 harg3 arg4 harg4 arg5 harg5 arg6 harg6 arg7 harg7 arg8 harg8 arg9 harg9
        arg10 harg10 arg11 harg11 arg12 harg12 arg13 harg13 (wholeR arg2 harg2 x0) (wholeR arg6 harg6 x4) (wholeR arg5 harg5 x3) (arg12.view.writes (Elt F) arg12.view.junk [⟨allR, k0_pay37 (View.readAt (Elt F) arg3.view allR.toLoadRect (harg3.unread x1))⟩]) (arg13.view.writes (Elt F) arg13.view.junk [⟨allR, k0_pay38 (View.readAt (Elt F) arg4.view allR.toLoadRect (harg4.unread x2))⟩]) (arg10.view.writes (Elt F) arg10.view.junk [⟨allR, k0_pay35⟩]) (arg11.view.writes (Elt F) arg11.view.junk [⟨allR, k0_pay35⟩]) arg10.view.junk arg11.view.junk (· ++ [⟨allR, k0_pay35⟩]) (· ++ [⟨allR, k0_pay35⟩]) ∧
    r.1 = [⟨Rect.unit ![0, 0] S512x128.size inb_S512x128_S512x128_0_0, w.1⟩] ∧ r.2.2.2.1 = w.2.1 ∧ r.2.2.2.2.1 = w.2.2 ∧
    r.2.2.2.2.2.1 = [⟨allR, k0_pay37 (View.readAt (Elt F) arg3.view allR.toLoadRect (harg3.unread x1))⟩] ∧
    r.2.2.2.2.2.2.1 = [⟨allR, k0_pay38 (View.readAt (Elt F) arg4.view allR.toLoadRect (harg4.unread x2))⟩] := by
  subst hr
  unfold kernelRun0_A
  dsimp only [ptAll, ptOut]
  exact ⟨_, rfl, rfl, rfl, rfl, rfl, rfl⟩

end

end Cert.KernelIdeal.Sb
end
end
-- ==== Proof.Point.lean ====
module

public import proofs.«01_k».proof.Proof.Body

/-! A grid point over the reals: the loop and the two masked blocks carry the invariant from no column to all the
    columns of the causal triangle, so that the point stores its rows' query gradients, and leaves the accumulators
    with its row block's share added. -/

@[expose] public section

noncomputable section

namespace Cert.KernelIdeal.Sb

open Idealize.ShloMosaic Idealize.ShloMosaic.TcCoe Cert.KernelIdeal.Gen
open Idealize.SL Idealize.SL.Sem
open Stick

/-- What a grid point finds: the queries, the incoming gradient and the saved numbers of its 512 rows, and the head's
    keys and values. -/
structure Pt (I : In) (n : ℕ) (v3 v5 v7 : Vec Ideal S512x128 .f32) (kk vv : Vec Ideal S8192x128 .bf16) : Prop where
  hs : IsScale I
  hq : ∀ (r : Fin 512) (d : Fin 128), v3 (ix2 r d) = (I.q (512 * n + r) d : EReal)
  ho : ∀ (r : Fin 512) (d : Fin 128), v5 (ix2 r d) = (I.o (512 * n + r) d : EReal)
  hL : ∀ (r : Fin 512) (m : Fin 128), m.val < 32 → v7 (ix2 r m) = (I.later (512 * n + r) (256 * m + 255) : EReal)
  hK : ∀ (R : Fin 8192) (d : Fin 128), kk (ix2 R d) = (I.k R d : EReal)
  hV : ∀ (R : Fin 8192) (d : Fin 128), vv (ix2 R d) = (I.v R d : EReal)

theorem pay39_apply (v : Vec Ideal S512x128 .f32) (r : Fin 512) (d : Fin 128) : k0_pay39 v (ix2 r d) = v (ix2 r d) := rfl
theorem pay40_apply (v : Vec Ideal S512x128 .f32) (r : Fin 512) (d : Fin 128) : k0_pay40 v (ix2 r d) = v (ix2 r d) := rfl
theorem pay41_apply (v : Vec Ideal S512x128 .f32) (r : Fin 512) (d : Fin 128) : k0_pay41 v (ix2 r d) = v (ix2 r d) := by
  simp only [k0_pay41]
  pointwise

section
variable {I : In} {i : grid0.Coords} {v3 v5 v7 : Vec Ideal S512x128 .f32}
  {arg12 arg13 : Memref sig .tc .vmem S8192x128 .bf16}
  {X12 : BufTy.Contents (Elt Ideal) arg12.view.ty} {X13 : BufTy.Contents (Elt Ideal) arg13.view.ty}

/-- The saved number a block of columns is given is what comes after its last column. -/
theorem Pt.lane (h : Pt I (i 1).val v3 v5 v7 (arg12.view.read (Elt Ideal) X12) (arg13.view.read (Elt Ideal) X13)) (j : ℕ) (hj : j < 32)
    (r : Fin 512) : laneB (k0_pay41 v7) lanes (BitVec.ofNat 32 j) (ix2 r 0)
      = (I.later (512 * (i 1).val + r) (256 * j + 255) : EReal) := by
  have := laneB_apply (saved := k0_pay41 v7) (lane := lanes) rfl ⟨j, by omega⟩ r
  rw [pay41_apply, h.hL r ⟨j, by omega⟩ hj] at this
  exact this

/-- The blocks of a trip. -/
theorem Pt.blkT (h : Pt I (i 1).val v3 v5 v7 (arg12.view.read (Elt Ideal) X12) (arg13.view.read (Elt Ideal) X13))
    (k : Fin (k0_t1_loop i).trips) (e : Fin 2) :
    Blk I (i 1).val (2 * k.val + e.val) id (k0_pay39 v3) (k0_pay40 v5) (Sb.blkT i k arg12 X12 e) (Sb.blkT i k arg13 X13 e)
      (laneB (k0_pay41 v7) lanes (wordT i k e)) := by
  have hk : k.val < (i 1).val := k.isLt.trans_eq (t1_trips i)
  have hi : (i 1).val < 16 := (i 1).isLt
  exact {
    hs := h.hs
    hj := by omega
    hkeep := keeps_id (by omega)
    hq := h.hq
    ho := h.ho
    hK := fun c d => (readAt_rows arg12.view X12 _ (by omega) (off1_eq i k e) _ c d).trans (h.hK _ d)
    hV := fun c d => (readAt_rows arg13.view X13 _ (by omega) (off1_eq i k e) _ c d).trans (h.hV _ d)
    hL := fun r => by rw [wordT_eq]; exact h.lane _ (by omega) r }

theorem wordM_eq (i : grid0.Coords) (e : Fin 2) : wordM i e = BitVec.ofNat 32 (2 * (i 1).val + e.val) :=
  (by decide : ∀ (k : Fin 16) (e : Fin 2), Scalar.addi (Scalar.muli (BitVec.ofNat 32 k.val) 2#32)
    (BitVec.ofNat 32 e.val) = BitVec.ofNat 32 (2 * k.val + e.val)) (i 1) e

/-- The blocks of the point's own columns. -/
theorem Pt.blkM (h : Pt I (i 1).val v3 v5 v7 (arg12.view.read (Elt Ideal) X12) (arg13.view.read (Elt Ideal) X13)) (e : Fin 2) :
    Blk I (i 1).val (2 * (i 1).val + e.val) (keepM i e) (k0_pay39 v3) (k0_pay40 v5) (Sb.blkM i arg12 X12 e) (Sb.blkM i arg13 X13 e)
      (laneB (k0_pay41 v7) lanes (wordM i e)) := by
  have hi : (i 1).val < 16 := (i 1).isLt
  exact {
    hs := h.hs
    hj := by omega
    hkeep := by rw [keepM, wordM_eq]; exact keeps_keepB hi (by omega)
    hq := h.hq
    ho := h.ho
    hK := fun c d => (readAt_rows arg12.view X12 _ (by omega) (off3_eq i e) _ c d).trans (h.hK _ d)
    hV := fun c d => (readAt_rows arg13.view X13 _ (by omega) (off3_eq i e) _ c d).trans (h.hV _ d)
    hL := fun r => by rw [wordM_eq]; exact h.lane _ (by omega) r }

variable {arg10 arg11 : Memref sig .tc .vmem S8192x128 .f32} {A10 A11 : ℕ → ℕ → ℝ}
  {f10 : BufTy.Contents (Elt Ideal) arg10.view.ty} {f11 : BufTy.Contents (Elt Ideal) arg11.view.ty}

/-- One block of the point's own columns carries the invariant on. -/
theorem Pt.stepM (h : Pt I (i 1).val v3 v5 v7 (arg12.view.read (Elt Ideal) X12) (arg13.view.read (Elt Ideal) X13)) (e : Fin 2)
    {st : FVec Ideal S512x128 .f32 × FVec Ideal S512x1 .f32} {L10 L11 : List (View.Piece (Elt Ideal) S8192x128 .f32)}
    (hI : Inv I (i 1).val (2 * (i 1).val + e.val) A10 A11 st (arg10.view.read (Elt Ideal) (arg10.view.writes (Elt Ideal) f10 L10))
      (arg11.view.read (Elt Ideal) (arg11.view.writes (Elt Ideal) f11 L11))) :
    Inv I (i 1).val (2 * (i 1).val + e.val + 1) A10 A11 (stM i arg12 arg13 v3 v5 v7 X12 X13 st e)
      (arg10.view.read (Elt Ideal) (arg10.view.writes (Elt Ideal) f10 (LK i arg10 arg12 arg13 v3 v5 v7 X12 X13 f10 st e L10)))
      (arg11.view.read (Elt Ideal) (arg11.view.writes (Elt Ideal) f11 (LV i arg11 arg12 v3 v5 v7 X12 f11 e L11))) := by
  have hi : (i 1).val < 16 := (i 1).isLt
  exact Inv.step (h.blkM e) hI
    (fun c d => (readAt_rows arg10.view _ _ (by omega) (off3_eq i e) _ c d).trans (hI.acc10 le_rfl c d (by omega)))
    (fun c d => (readAt_rows arg11.view _ _ (by omega) (off3_eq i e) _ c d).trans (hI.acc11 le_rfl c d (by omega)))
    (off3_eq i e) _

/-- One block of a trip carries the invariant on, the rows it adds to read in contents that hold them as found. -/
theorem Pt.stepT (h : Pt I (i 1).val v3 v5 v7 (arg12.view.read (Elt Ideal) X12) (arg13.view.read (Elt Ideal) X13))
    (k : Fin (k0_t1_loop i).trips) (e : Fin 2)
    {st : FVec Ideal S512x128 .f32 × FVec Ideal S512x1 .f32} {L10 L11 : List (View.Piece (Elt Ideal) S8192x128 .f32)}
    (hI : Inv I (i 1).val (2 * k.val + e.val) A10 A11 st (arg10.view.read (Elt Ideal) (arg10.view.writes (Elt Ideal) f10 L10))
      (arg11.view.read (Elt Ideal) (arg11.view.writes (Elt Ideal) f11 L11)))
    {j : ℕ} (hj : j ≤ 2 * k.val + e.val) {st' : FVec Ideal S512x128 .f32 × FVec Ideal S512x1 .f32}
    {g10 : BufTy.Contents (Elt Ideal) arg10.view.ty} {g11 : BufTy.Contents (Elt Ideal) arg11.view.ty}
    (hg : Inv I (i 1).val j A10 A11 st' (arg10.view.read (Elt Ideal) g10) (arg11.view.read (Elt Ideal) g11)) :
    Inv I (i 1).val (2 * k.val + e.val + 1) A10 A11
      (dqB st.1 (dT i arg12 arg13 v3 v5 v7 lanes X12 X13 k st.2 e) (Sb.blkT i k arg12 X12 e),
        sumB st.2 (pT i arg12 arg13 v3 v5 v7 lanes X12 X13 k e))
      (arg10.view.read (Elt Ideal) (arg10.view.writes (Elt Ideal) f10 (⟨rectT i k e, accB (Sb.blkT i k arg10 g10 e)
        (dT i arg12 arg13 v3 v5 v7 lanes X12 X13 k st.2 e) (k0_pay39 v3)⟩ :: L10)))
      (arg11.view.read (Elt Ideal) (arg11.view.writes (Elt Ideal) f11 (⟨rectT i k e, accB (Sb.blkT i k arg11 g11 e)
        (truncf .bf16 (aT i arg12 v3 v7 lanes X12 k e) bitsLt_bf16_f32) (k0_pay40 v5)⟩ :: L11))) := by
  have hk : k.val < (i 1).val := k.isLt.trans_eq (t1_trips i)
  have hi : (i 1).val < 16 := (i 1).isLt
  exact Inv.step (h.blkT k e) hI
    (fun c d => (readAt_rows arg10.view _ _ (by omega) (off1_eq i k e) _ c d).trans (hg.acc10 hj c d (by omega)))
    (fun c d => (readAt_rows arg11.view _ _ (by omega) (off1_eq i k e) _ c d).trans (hg.acc11 hj c d (by omega)))
    (off1_eq i k e) _

/-- Before any column: nothing carried, the accumulators as found. -/
theorem inv_zero {n : ℕ} {w10 w11 : Vec Ideal S8192x128 .f32} (h10 : ∀ (R : Fin 8192) (d : Fin 128), w10 (ix2 R d) = (A10 R d : EReal))
    (h11 : ∀ (R : Fin 8192) (d : Fin 128), w11 (ix2 R d) = (A11 R d : EReal)) :
    Inv I n 0 A10 A11 (k0_pay44, k0_pay45) w10 w11 where
  dq r d := by
    show Ideal.ofBits .f32 0x00000000#32 = _
    simp
  p r := by
    show Ideal.ofBits .f32 0x00000000#32 = _
    simp
  a10 R d := by rw [if_neg (by omega), add_zero]; exact h10 R d
  a11 R d := by rw [if_neg (by omega), add_zero]; exact h11 R d
end

section
variable {I : In} (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .bf16) (harg7 : arg7.IsWhole)
  (arg8 : Memref sig .tc .vmem S8192x128 .bf16) (harg8 : arg8.IsWhole) (arg9 : Memref sig .tc .vmem S8192x128 .bf16) (harg9 : arg9.IsWhole)
  (arg10 : Memref sig .tc .vmem S8192x128 .f32) (harg10 : arg10.IsWhole) (arg11 : Memref sig .tc .vmem S8192x128 .f32) (harg11 : arg11.IsWhole)
  (arg12 : Memref sig .tc .vmem S8192x128 .bf16) (harg12 : arg12.IsWhole) (arg13 : Memref sig .tc .vmem S8192x128 .bf16) (harg13 : arg13.IsWhole)
  {v3 v5 v7 : Vec Ideal S512x128 .f32}
  {X12 : BufTy.Contents (Elt Ideal) arg12.view.ty} {X13 : BufTy.Contents (Elt Ideal) arg13.view.ty}
  {G10 : BufTy.Contents (Elt Ideal) arg10.view.ty} {G11 : BufTy.Contents (Elt Ideal) arg11.view.ty} {A10 A11 : ℕ → ℕ → ℝ}

/-- The invariant before trip `k`. -/
theorem loop_inv (h : Pt I (i 1).val v3 v5 v7 (arg12.view.read (Elt Ideal) X12) (arg13.view.read (Elt Ideal) X13))
    (h10 : ∀ (R : Fin 8192) (d : Fin 128), arg10.view.read (Elt Ideal) G10 (ix2 R d) = (A10 R d : EReal))
    (h11 : ∀ (R : Fin 8192) (d : Fin 128), arg11.view.read (Elt Ideal) G11 (ix2 R d) = (A11 R d : EReal)) :
    ∀ k : ℕ, k ≤ (k0_t1_loop i).trips →
      let S := st_k0_t1 Variants.none c none i arg2 harg2 arg3 harg3 arg4 harg4 arg5 harg5 arg6 harg6 arg7 harg7 arg8 harg8 arg9 harg9
        arg10 harg10 arg11 harg11 arg12 harg12 arg13 harg13 v3 v5 v7 lanes X12 X13 G10 G11 (k0_pay44, k0_pay45) k
      Inv I (i 1).val (2 * k) A10 A11 S.1 (arg10.view.read (Elt Ideal) (arg10.view.writes (Elt Ideal) G10 S.2.1))
        (arg11.view.read (Elt Ideal) (arg11.view.writes (Elt Ideal) G11 S.2.2))
  | 0, _ => inv_zero h10 h11
  | k + 1, hk => by
    have ih := loop_inv h h10 h11 k (by omega)
    have hk' : k < (i 1).val := by have := t1_trips i; omega
    have hi : (i 1).val < 16 := (i 1).isLt
    dsimp only at ih ⊢
    rw [st_k0_t1_succ Variants.none c none i arg2 harg2 arg3 harg3 arg4 harg4 arg5 harg5 arg6 harg6 arg7 harg7 arg8 harg8 arg9 harg9
        arg10 harg10 arg11 harg11 arg12 harg12 arg13 harg13 v3 v5 v7 lanes X12 X13 G10 G11 (k0_pay44, k0_pay45) ⟨k, hk⟩, tripR_eq, tripL_eq]
    generalize st_k0_t1 Variants.none c none i arg2 harg2 arg3 harg3 arg4 harg4 arg5 harg5 arg6 harg6 arg7 harg7 arg8 harg8 arg9 harg9
        arg10 harg10 arg11 harg11 arg12 harg12 arg13 harg13 v3 v5 v7 lanes X12 X13 G10 G11 (k0_pay44, k0_pay45) k = S at ih ⊢
    have s0 := h.stepT ⟨k, hk⟩ 0 ih le_rfl ih
    exact h.stepT ⟨k, hk⟩ 1 s0 (Nat.le_succ _) ih
end

end Cert.KernelIdeal.Sb
end
end
-- ==== Proof.Whole.lean ====
module

public import proofs.«01_k».proof.Proof.Point

/-! What a grid point leaves, over the reals: its rows' query gradients in the block it stores, and in the two
    accumulators what they held with its row block's share added; at a head's last point, the accumulators stored. -/

@[expose] public section

noncomputable section

namespace Cert.KernelIdeal.Sb

open Idealize.ShloMosaic Idealize.ShloMosaic.TcCoe Cert.KernelIdeal.Gen
open Idealize.SL Idealize.SL.Sem
open Stick

/-- What a point leaves: row block `n`'s query gradients, and the accumulators with its share added. -/
structure Done (I : In) (n : ℕ) (A10 A11 : ℕ → ℕ → ℝ) (w5 : Vec Ideal S512x128 .bf16) (w10 w11 : Vec Ideal S8192x128 .f32) : Prop where
  dq : ∀ (r : Fin 512) (d : Fin 128), w5 (ix2 r d) = (I.dq (512 * n + r) d : EReal)
  a10 : ∀ (R : Fin 8192) (d : Fin 128), w10 (ix2 R d) = ((A10 R d + shareK I n R d : ℝ) : EReal)
  a11 : ∀ (R : Fin 8192) (d : Fin 128), w11 (ix2 R d) = ((A11 R d + shareV I n R d : ℝ) : EReal)

/-- The accumulators' writes may be named otherwise. -/
theorem Done.of_eq {I : In} {n : ℕ} {A10 A11 : ℕ → ℕ → ℝ} {w5} {κ : Kind} {sp : Space} {v10 v11 : View sig κ sp S8192x128 .f32}
    {f10 : BufTy.Contents (Elt Ideal) v10.ty} {f11 : BufTy.Contents (Elt Ideal) v11.ty} {L10 L11 K10 K11 : List (View.Piece (Elt Ideal) S8192x128 .f32)}
    (h : Done I n A10 A11 w5 (v10.read (Elt Ideal) (v10.writes (Elt Ideal) f10 L10)) (v11.read (Elt Ideal) (v11.writes (Elt Ideal) f11 L11)))
    (e10 : K10 = L10) (e11 : K11 = L11) :
    Done I n A10 A11 w5 (v10.read (Elt Ideal) (v10.writes (Elt Ideal) f10 K10)) (v11.read (Elt Ideal) (v11.writes (Elt Ideal) f11 K11)) := by
  subst e10 e11; exact h

/-- Once the columns of the causal triangle are done, nothing is left to add. -/
theorem Inv.done {I : In} {n : ℕ} (hn : n < 16) {A10 A11 : ℕ → ℕ → ℝ} {st} {w10 w11}
    (h : Inv I n (2 * n + 1 + 1) A10 A11 st w10 w11) : Done I n A10 A11 (truncf .bf16 st.1 bitsLt_bf16_f32) w10 w11 where
  dq r d := (h.dq r d).trans (by rw [← I.dq_eq (512 * n + r) d _ (by omega) (by omega)])
  a10 R d := by
    rw [h.a10]
    by_cases hR : R.val < 256 * (2 * n + 1 + 1)
    · rw [if_pos hR]
    · rw [if_neg hR, shareK, I.dk_block_zero n R d (by omega)]
  a11 R d := by
    rw [h.a11]
    by_cases hR : R.val < 256 * (2 * n + 1 + 1)
    · rw [if_pos hR]
    · rw [if_neg hR, shareV, I.dv_block_zero n R d (by omega)]

/-- The contents of a whole-array piece, read back. -/
theorem read_all {φ : EltTy} {κ : Kind} {sp : Space} (v : View sig κ sp S8192x128 φ) (f : BufTy.Contents (Elt Ideal) v.ty)
    (w : Vec Ideal S8192x128 φ) (R : Fin 8192) (d : Fin 128) :
    v.read (Elt Ideal) (v.writes (Elt Ideal) f [⟨allR, w⟩]) (ix2 R d) = w (ix2 R d) :=
  View.read_writes_cons_unit_of_mem v f inb_S8192x128_S8192x128_0_0 w [] (ix2 R d) (ix2 R d) rfl
    (Fin.forall_fin_two.mpr ⟨(Nat.zero_add _).symm, (Nat.zero_add _).symm⟩)

/-- A load of the whole array reads it. -/
theorem readAt_all {φ : EltTy} {κ : Kind} {sp : Space} (v : View sig κ sp S8192x128 φ) (f : BufTy.Contents (Elt Ideal) v.ty)
    (R : Fin 8192) (d : Fin 128) : View.readAt (Elt Ideal) v allR.toLoadRect f (ix2 R d) = v.read (Elt Ideal) f (ix2 R d) :=
  congrFun (View.readAt_full v f inb_S8192x128_S8192x128_0_0) _

theorem pay35_apply (R : Fin 8192) (d : Fin 128) : k0_pay35 (F := Ideal) (ix2 R d) = 0 := by
  simp only [k0_pay35]
  pointwise
theorem pay72_apply (v : Vec Ideal S8192x128 .f32) (R : Fin 8192) (d : Fin 128) : k0_pay72 v (ix2 R d) = v (ix2 R d) := rfl
theorem pay73_apply (v : Vec Ideal S8192x128 .f32) (R : Fin 8192) (d : Fin 128) : k0_pay73 v (ix2 R d) = v (ix2 R d) := rfl
theorem pay37_apply (v : Vec Ideal S8192x128 .f32) (R : Fin 8192) (d : Fin 128) : k0_pay37 v (ix2 R d) = v (ix2 R d) := by
  simp only [k0_pay37]
  pointwise
theorem pay38_apply (v : Vec Ideal S8192x128 .f32) (R : Fin 8192) (d : Fin 128) : k0_pay38 v (ix2 R d) = v (ix2 R d) := by
  simp only [k0_pay38]
  pointwise

section
variable {I : In} (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .bf16) (harg7 : arg7.IsWhole)
  (arg8 : Memref sig .tc .vmem S8192x128 .bf16) (harg8 : arg8.IsWhole) (arg9 : Memref sig .tc .vmem S8192x128 .bf16) (harg9 : arg9.IsWhole)
  (arg10 : Memref sig .tc .vmem S8192x128 .f32) (harg10 : arg10.IsWhole) (arg11 : Memref sig .tc .vmem S8192x128 .f32) (harg11 : arg11.IsWhole)
  (arg12 : Memref sig .tc .vmem S8192x128 .bf16) (harg12 : arg12.IsWhole) (arg13 : Memref sig .tc .vmem S8192x128 .bf16) (harg13 : arg13.IsWhole)
  {v3 v5 v7 : Vec Ideal S512x128 .f32}
  {X12 : BufTy.Contents (Elt Ideal) arg12.view.ty} {X13 : BufTy.Contents (Elt Ideal) arg13.view.ty}
  {G10 : BufTy.Contents (Elt Ideal) arg10.view.ty} {G11 : BufTy.Contents (Elt Ideal) arg11.view.ty} {A10 A11 : ℕ → ℕ → ℝ}

/-- The loop and the two masked blocks, over accumulators given by contents and writes. -/
theorem point_done (h : Pt I (i 1).val v3 v5 v7 (arg12.view.read (Elt Ideal) X12) (arg13.view.read (Elt Ideal) X13))
    (h10 : ∀ (R : Fin 8192) (d : Fin 128), arg10.view.read (Elt Ideal) G10 (ix2 R d) = (A10 R d : EReal))
    (h11 : ∀ (R : Fin 8192) (d : Fin 128), arg11.view.read (Elt Ideal) G11 (ix2 R d) = (A11 R d : EReal))
    (J10 : BufTy.Contents (Elt Ideal) arg10.view.ty) (J11 : BufTy.Contents (Elt Ideal) arg11.view.ty)
    (b10 b11 : List (View.Piece (Elt Ideal) S8192x128 .f32) → List (View.Piece (Elt Ideal) S8192x128 .f32))
    (e10 : ∀ L, arg10.view.writes (Elt Ideal) J10 (b10 L) = arg10.view.writes (Elt Ideal) G10 L)
    (e11 : ∀ L, arg11.view.writes (Elt Ideal) J11 (b11 L) = arg11.view.writes (Elt Ideal) G11 L) {w}
    (hw : w = ptAll c i arg2 harg2 arg3 harg3 arg4 harg4 arg5 harg5 arg6 harg6 arg7 harg7 arg8 harg8 arg9 harg9
        arg10 harg10 arg11 harg11 arg12 harg12 arg13 harg13 v3 v5 v7 X12 X13 G10 G11 J10 J11 b10 b11) :
    Done I (i 1).val A10 A11 w.1 (arg10.view.read (Elt Ideal) (arg10.view.writes (Elt Ideal) J10 w.2.1))
      (arg11.view.read (Elt Ideal) (arg11.view.writes (Elt Ideal) J11 w.2.2)) := by
  subst hw
  have hi := loop_inv c i arg2 harg2 arg3 harg3 arg4 harg4 arg5 harg5 arg6 harg6 arg7 harg7 arg8 harg8 arg9 harg9
        arg10 harg10 arg11 harg11 arg12 harg12 arg13 harg13 h h10 h11 _ le_rfl
  dsimp only at hi
  rw [t1_trips] at hi
  rw [ptAll_eq]
  unfold loop1
  rw [t1_trips]
  generalize st_k0_t1 Variants.none c none i arg2 harg2 arg3 harg3 arg4 harg4 arg5 harg5 arg6 harg6 arg7 harg7 arg8 harg8 arg9 harg9
        arg10 harg10 arg11 harg11 arg12 harg12 arg13 harg13 v3 v5 v7 lanes X12 X13 G10 G11 (k0_pay44, k0_pay45) (i 1).val = S1 at hi ⊢
  rw [← e10, ← e11] at hi
  exact (h.stepM 1 (h.stepM 0 hi)).done (i 1).isLt
end

section
variable {I : In} (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .bf16) (harg7 : arg7.IsWhole)
  (arg8 : Memref sig .tc .vmem S8192x128 .bf16) (harg8 : arg8.IsWhole) (arg9 : Memref sig .tc .vmem S8192x128 .bf16) (harg9 : arg9.IsWhole)
  (arg10 : Memref sig .tc .vmem S8192x128 .f32) (harg10 : arg10.IsWhole) (arg11 : Memref sig .tc .vmem S8192x128 .f32) (harg11 : arg11.IsWhole)
  (arg12 : Memref sig .tc .vmem S8192x128 .bf16) (harg12 : arg12.IsWhole) (arg13 : Memref sig .tc .vmem S8192x128 .bf16) (harg13 : arg13.IsWhole)

  {x0 x3 x4 : Vec Ideal S512x128 .f32} {x1 x2 xs0 xs1 : Vec Ideal S8192x128 .f32} {xs2 xs3 : Vec Ideal S8192x128 .bf16} {A10 A11 : ℕ → ℕ → ℝ}

/-- A staged block read whole is the block. -/
theorem wholeR_eq (b : Memref sig .tc .vmem S512x128 .f32) (hb : b.IsWhole) (x : Vec Ideal S512x128 .f32) : wholeR b hb x = x := by
  unfold wholeR
  exact (View.readAt_full b.view (hb.unread x) inb_S512x128_S512x128_0_0).trans (hb.read_unread x)

/-- A point inside a head. -/
theorem doneB (hc0 : ¬cond0_0 i) (hc1 : ¬cond0_1 i)
    (h : Pt I (i 1).val x0 x4 x3 xs2 xs3)
    (h10 : ∀ (R : Fin 8192) (d : Fin 128), xs0 (ix2 R d) = (A10 R d : EReal))
    (h11 : ∀ (R : Fin 8192) (d : Fin 128), xs1 (ix2 R d) = (A11 R d : EReal)) {r}
    (hr : r = kernelRun0_B c i arg2 harg2 arg3 harg3 arg4 harg4 arg5 harg5 arg6 harg6 arg7 harg7 arg8 harg8 arg9 harg9
        arg10 harg10 arg11 harg11 arg12 harg12 arg13 harg13 hc0 hc1 x0 x1 x2 x3 x4 xs0 xs1 xs2 xs3) :
    ∃ w5 : Vec Ideal S512x128 .bf16, r.1 = [⟨Rect.unit ![0, 0] S512x128.size inb_S512x128_S512x128_0_0, w5⟩] ∧
      Done I (i 1).val A10 A11 w5 (arg10.view.read (Elt Ideal) (arg10.view.writes (Elt Ideal) (harg10.unread xs0) r.2.2.2.1))
        (arg11.view.read (Elt Ideal) (arg11.view.writes (Elt Ideal) (harg11.unread xs1) r.2.2.2.2.1)) := by
  obtain ⟨w, hw, e0, e1, e2⟩ := runB (F := Ideal) c i arg2 harg2 arg3 harg3 arg4 harg4 arg5 harg5 arg6 harg6 arg7 harg7 arg8 harg8 arg9 harg9
        arg10 harg10 arg11 harg11 arg12 harg12 arg13 harg13 x0 x1 x2 x3 x4 xs0 xs1 xs2 xs3 hc0 hc1 hr
  have hp := point_done c i arg2 harg2 arg3 harg3 arg4 harg4 arg5 harg5 arg6 harg6 arg7 harg7 arg8 harg8 arg9 harg9
        arg10 harg10 arg11 harg11 arg12 harg12 arg13 harg13 (I := I) (A10 := A10) (A11 := A11)
    (by rw [wholeR_eq, wholeR_eq, wholeR_eq, harg12.read_unread, harg13.read_unread]; exact h)
    (by rw [harg10.read_unread]; exact h10) (by rw [harg11.read_unread]; exact h11)
    _ _ _ _ (fun _ => rfl) (fun _ => rfl) hw
  replace hp := hp.of_eq e1 e2
  exact ⟨_, e0, hp⟩

/-- A head's last point: the accumulators are stored too. -/
theorem doneC (hc0 : ¬cond0_0 i) (hc1 : cond0_1 i)
    (h : Pt I (i 1).val x0 x4 x3 xs2 xs3)
    (h10 : ∀ (R : Fin 8192) (d : Fin 128), xs0 (ix2 R d) = (A10 R d : EReal))
    (h11 : ∀ (R : Fin 8192) (d : Fin 128), xs1 (ix2 R d) = (A11 R d : EReal)) {r}
    (hr : r = kernelRun0_C c i arg2 harg2 arg3 harg3 arg4 harg4 arg5 harg5 arg6 harg6 arg7 harg7 arg8 harg8 arg9 harg9
        arg10 harg10 arg11 harg11 arg12 harg12 arg13 harg13 hc0 hc1 x0 x1 x2 x3 x4 xs0 xs1 xs2 xs3) :
    ∃ (w5 : Vec Ideal S512x128 .bf16) (w6 w7 : Vec Ideal S8192x128 .bf16), r.1 = [⟨Rect.unit ![0, 0] S512x128.size inb_S512x128_S512x128_0_0, w5⟩] ∧
      r.2.1 = [⟨allR, w6⟩] ∧ r.2.2.1 = [⟨allR, w7⟩] ∧
      (∀ (R : Fin 8192) (d : Fin 128), w6 (ix2 R d) = ((A10 R d + shareK I (i 1).val R d : ℝ) : EReal)) ∧
      (∀ (R : Fin 8192) (d : Fin 128), w7 (ix2 R d) = ((A11 R d + shareV I (i 1).val R d : ℝ) : EReal)) ∧
      Done I (i 1).val A10 A11 w5 (arg10.view.read (Elt Ideal) (arg10.view.writes (Elt Ideal) (harg10.unread xs0) r.2.2.2.1))
        (arg11.view.read (Elt Ideal) (arg11.view.writes (Elt Ideal) (harg11.unread xs1) r.2.2.2.2.1)) := by
  obtain ⟨w, hw, e0, e1, e2, e3, e4⟩ := runC (F := Ideal) c i arg2 harg2 arg3 harg3 arg4 harg4 arg5 harg5 arg6 harg6 arg7 harg7 arg8 harg8 arg9 harg9
        arg10 harg10 arg11 harg11 arg12 harg12 arg13 harg13 x0 x1 x2 x3 x4 xs0 xs1 xs2 xs3 hc0 hc1 hr
  have hp := point_done c i arg2 harg2 arg3 harg3 arg4 harg4 arg5 harg5 arg6 harg6 arg7 harg7 arg8 harg8 arg9 harg9
        arg10 harg10 arg11 harg11 arg12 harg12 arg13 harg13 (I := I) (A10 := A10) (A11 := A11)
    (by rw [wholeR_eq, wholeR_eq, wholeR_eq, harg12.read_unread, harg13.read_unread]; exact h)
    (by rw [harg10.read_unread]; exact h10) (by rw [harg11.read_unread]; exact h11)
    _ _ _ _ (fun _ => rfl) (fun _ => rfl) hw
  replace hp := hp.of_eq e1 e2
  have h6 := fun R d => (pay72_apply _ R d).trans ((readAt_all _ _ R d).trans (hp.a10 R d))
  have h7 := fun R d => (pay73_apply _ R d).trans ((readAt_all _ _ R d).trans (hp.a11 R d))
  exact ⟨_, _, _, e0, e3, e4, h6, h7, hp⟩

/-- A head's first point: the keys and values are kept, and the accumulators start from zero. -/
theorem doneA (hc0 : cond0_0 i) (hc1 : ¬cond0_1 i)
    (h : Pt I (i 1).val x0 x4 x3 x1 x2) {r}
    (hr : r = kernelRun0_A c i arg2 harg2 arg3 harg3 arg4 harg4 arg5 harg5 arg6 harg6 arg7 harg7 arg8 harg8 arg9 harg9
        arg10 harg10 arg11 harg11 arg12 harg12 arg13 harg13 hc0 hc1 x0 x1 x2 x3 x4) :
    ∃ w5 : Vec Ideal S512x128 .bf16, r.1 = [⟨Rect.unit ![0, 0] S512x128.size inb_S512x128_S512x128_0_0, w5⟩] ∧
      Done I (i 1).val (fun _ _ => 0) (fun _ _ => 0) w5 (arg10.view.read (Elt Ideal) (arg10.view.writes (Elt Ideal) arg10.view.junk r.2.2.2.1))
        (arg11.view.read (Elt Ideal) (arg11.view.writes (Elt Ideal) arg11.view.junk r.2.2.2.2.1)) ∧
      (∀ (R : Fin 8192) (d : Fin 128), arg12.view.read (Elt Ideal) (arg12.view.writes (Elt Ideal) arg12.view.junk r.2.2.2.2.2.1) (ix2 R d) = (I.k R d : EReal)) ∧
      (∀ (R : Fin 8192) (d : Fin 128), arg13.view.read (Elt Ideal) (arg13.view.writes (Elt Ideal) arg13.view.junk r.2.2.2.2.2.2.1) (ix2 R d) = (I.v R d : EReal)) := by
  refine (runA (F := Ideal) c i arg2 harg2 arg3 harg3 arg4 harg4 arg5 harg5 arg6 harg6 arg7 harg7 arg8 harg8 arg9 harg9
        arg10 harg10 arg11 harg11 arg12 harg12 arg13 harg13 x0 x1 x2 x3 x4 hc0 hc1 hr).elim fun w hr' => ?_
  have hw := hr'.1
  have e0 := hr'.2.1
  have e1 := hr'.2.2.1
  have e2 := hr'.2.2.2.1
  have e3 := hr'.2.2.2.2.1
  have e4 := hr'.2.2.2.2.2
  have hk (R : Fin 8192) (d : Fin 128) : arg12.view.read (Elt Ideal) (arg12.view.writes (Elt Ideal) arg12.view.junk
      [⟨allR, k0_pay37 (View.readAt (Elt Ideal) arg3.view allR.toLoadRect (harg3.unread x1))⟩]) (ix2 R d) = (I.k R d : EReal) := by
    rw [read_all, pay37_apply, readAt_all, harg3.read_unread]; exact h.hK R d
  have hv (R : Fin 8192) (d : Fin 128) : arg13.view.read (Elt Ideal) (arg13.view.writes (Elt Ideal) arg13.view.junk
      [⟨allR, k0_pay38 (View.readAt (Elt Ideal) arg4.view allR.toLoadRect (harg4.unread x2))⟩]) (ix2 R d) = (I.v R d : EReal) := by
    rw [read_all, pay38_apply, readAt_all, harg4.read_unread]; exact h.hV R d
  have hp := point_done c i arg2 harg2 arg3 harg3 arg4 harg4 arg5 harg5 arg6 harg6 arg7 harg7 arg8 harg8 arg9 harg9
        arg10 harg10 arg11 harg11 arg12 harg12 arg13 harg13 (I := I) (A10 := fun _ _ => 0) (A11 := fun _ _ => 0)
    (by rw [wholeR_eq, wholeR_eq, wholeR_eq]; exact ⟨h.hs, h.hq, h.ho, h.hL, hk, hv⟩)
    (fun R d => by rw [read_all, pay35_apply]; rfl) (fun R d => by rw [read_all, pay35_apply]; rfl)
    _ _ _ _ (fun _ => View.writes_append _ _ _ _) (fun _ => View.writes_append _ _ _ _) hw
  replace hp := hp.of_eq e1 e2
  refine ⟨_, e0, hp, ?_, ?_⟩
  · rw [e3]; exact hk
  · rw [e4]; exact hv

end

end Cert.KernelIdeal.Sb
end
end
-- ==== Proof.Sweep.lean ====
module

public import proofs.«01_k».proof.Proof.Whole
public import proofs.«01_k».proof.Proof.Gen.KernelIdeal.Value

/-! The kernel's whole grid over the reals: point `16 h + n` runs row block `n` of head `h`. By induction on the point,
    the accumulators hold the sums of the head's row blocks so far, and so the three arrays end holding the gradients. -/

@[expose] public section

noncomputable section

namespace Cert.KernelIdeal.Sb

open Idealize.ShloMosaic Idealize.ShloMosaic.TcCoe Cert.KernelIdeal.Gen Cert.KernelIdeal
open Idealize.SL Idealize.SL.Sem
open Stick

theorem coords_1 : ∀ t : Fin cfg0.N, (grid0.coords t 1).val = t.val % 16 :=
  (by decide +kernel : ∀ t : Fin grid0.N, (grid0.coords t 1).val = t.val % 16)

theorem index0 : ∀ t : Fin cfg0.N, win0_0.index t (0 : Fin 2) = t.val % 16 ∧ win0_0.index t (1 : Fin 2) = t.val / 16 :=
  (by decide +kernel : ∀ t : Fin grid0.N, _)
theorem index1 : ∀ t : Fin cfg0.N, win0_1.index t (0 : Fin 2) = 0 ∧ win0_1.index t (1 : Fin 2) = 16 + t.val / 16 :=
  (by decide +kernel : ∀ t : Fin grid0.N, _)
theorem index2 : ∀ t : Fin cfg0.N, win0_2.index t (0 : Fin 2) = 0 ∧ win0_2.index t (1 : Fin 2) = 32 + t.val / 16 :=
  (by decide +kernel : ∀ t : Fin grid0.N, _)
theorem index3 : ∀ t : Fin cfg0.N, win0_3.index t (0 : Fin 2) = t.val % 16 ∧ win0_3.index t (1 : Fin 2) = t.val / 16 :=
  (by decide +kernel : ∀ t : Fin grid0.N, _)
theorem index4 : ∀ t : Fin cfg0.N, win0_4.index t (0 : Fin 2) = t.val % 16 ∧ win0_4.index t (1 : Fin 2) = t.val / 16 :=
  (by decide +kernel : ∀ t : Fin grid0.N, _)

/-- What the kernel finds: finite arrays, and in the saved lanes what comes after each block of 256 columns. -/
structure Found (m : (ℓ : Loc nD τ sig) → Buf (Elt Ideal) ℓ) (c : Dev nD) (X Y : ℕ → ℕ → ℝ) (s : ℝ) : Prop where
  hs : Ideal.ofBits .f32 0x3DB504F3#32 = (s : EReal)
  hX : ∀ (t : Fin 8192) (w : Fin 20480), (V m c main_arg0 : Vec Ideal S8192x20480 .f32) (ix2 t w) = (X t w : EReal)
  hY : ∀ (t : Fin 8192) (w : Fin 2048), (V m c main_arg1 : Vec Ideal S8192x2048 .f32) (ix2 t w) = (Y t w : EReal)
  hL : ∀ (t : Fin 8192) (w : Fin 2048), w.val % 128 < 32 →
    (V m c main_v25 : Vec Ideal S8192x2048 .f32) (ix2 t w) = ((head X Y s (w.val / 128)).later t (256 * (w.val % 128) + 255) : EReal)

section
variable {m : (ℓ : Loc nD τ sig) → Buf (Elt Ideal) ℓ} {c : Dev nD} {X Y : ℕ → ℕ → ℝ} {s : ℝ}

theorem N256 (t : Fin cfg0.N) : t.val < 256 := lt_of_lt_of_eq t.isLt N_0

/-! Entries of a point's input blocks. -/

theorem blk0 (t : Fin cfg0.N) (r : Fin 512) (d : Fin 128) : (iblk m c 0 t : Vec Ideal S512x128 .f32) (ix2 r d) =
    (V m c main_arg0 : Vec Ideal S8192x20480 .f32) (ix2 (⟨512 * (t.val % 16) + r.val, by have := N256 t; omega⟩ : Fin 8192) (⟨128 * (t.val / 16) + d.val, by have := N256 t; omega⟩ : Fin 20480)) := by
  unfold iblk
  rw [View.read_apply]
  show V m c main_arg0 _ = V m c main_arg0 _
  congr 1
  funext a
  apply Fin.ext
  match a with
  | ⟨0, _⟩ => show win0_0.index t 0 * 512 + 1 * r.val = 512 * (t.val % 16) + r.val; rw [(index0 t).1]; omega
  | ⟨1, _⟩ => show win0_0.index t 1 * 128 + 1 * d.val = 128 * (t.val / 16) + d.val; rw [(index0 t).2]; omega

theorem blk1 (t : Fin cfg0.N) (r : Fin 8192) (d : Fin 128) : (iblk m c 1 t : Vec Ideal S8192x128 .f32) (ix2 r d) =
    (V m c main_arg0 : Vec Ideal S8192x20480 .f32) (ix2 (⟨r.val, by have := N256 t; omega⟩ : Fin 8192) (⟨2048 + 128 * (t.val / 16) + d.val, by have := N256 t; omega⟩ : Fin 20480)) := by
  unfold iblk
  rw [View.read_apply]
  show V m c main_arg0 _ = V m c main_arg0 _
  congr 1
  funext a
  apply Fin.ext
  match a with
  | ⟨0, _⟩ => show win0_1.index t 0 * 8192 + 1 * r.val = r.val; rw [(index1 t).1]; omega
  | ⟨1, _⟩ => show win0_1.index t 1 * 128 + 1 * d.val = 2048 + 128 * (t.val / 16) + d.val; rw [(index1 t).2]; omega

theorem blk2 (t : Fin cfg0.N) (r : Fin 8192) (d : Fin 128) : (iblk m c 2 t : Vec Ideal S8192x128 .f32) (ix2 r d) =
    (V m c main_arg0 : Vec Ideal S8192x20480 .f32) (ix2 (⟨r.val, by have := N256 t; omega⟩ : Fin 8192) (⟨4096 + 128 * (t.val / 16) + d.val, by have := N256 t; omega⟩ : Fin 20480)) := by
  unfold iblk
  rw [View.read_apply]
  show V m c main_arg0 _ = V m c main_arg0 _
  congr 1
  funext a
  apply Fin.ext
  match a with
  | ⟨0, _⟩ => show win0_2.index t 0 * 8192 + 1 * r.val = r.val; rw [(index2 t).1]; omega
  | ⟨1, _⟩ => show win0_2.index t 1 * 128 + 1 * d.val = 4096 + 128 * (t.val / 16) + d.val; rw [(index2 t).2]; omega

theorem blk3 (t : Fin cfg0.N) (r : Fin 512) (d : Fin 128) : (iblk m c 3 t : Vec Ideal S512x128 .f32) (ix2 r d) =
    (V m c main_v25 : Vec Ideal S8192x2048 .f32) (ix2 (⟨512 * (t.val % 16) + r.val, by have := N256 t; omega⟩ : Fin 8192) (⟨128 * (t.val / 16) + d.val, by have := N256 t; omega⟩ : Fin 2048)) := by
  unfold iblk
  rw [View.read_apply]
  show V m c main_v25 _ = V m c main_v25 _
  congr 1
  funext a
  apply Fin.ext
  match a with
  | ⟨0, _⟩ => show win0_3.index t 0 * 512 + 1 * r.val = 512 * (t.val % 16) + r.val; rw [(index3 t).1]; omega
  | ⟨1, _⟩ => show win0_3.index t 1 * 128 + 1 * d.val = 128 * (t.val / 16) + d.val; rw [(index3 t).2]; omega

theorem blk4 (t : Fin cfg0.N) (r : Fin 512) (d : Fin 128) : (iblk m c 4 t : Vec Ideal S512x128 .f32) (ix2 r d) =
    (V m c main_arg1 : Vec Ideal S8192x2048 .f32) (ix2 (⟨512 * (t.val % 16) + r.val, by have := N256 t; omega⟩ : Fin 8192) (⟨128 * (t.val / 16) + d.val, by have := N256 t; omega⟩ : Fin 2048)) := by
  unfold iblk
  rw [View.read_apply]
  show V m c main_arg1 _ = V m c main_arg1 _
  congr 1
  funext a
  apply Fin.ext
  match a with
  | ⟨0, _⟩ => show win0_4.index t 0 * 512 + 1 * r.val = 512 * (t.val % 16) + r.val; rw [(index4 t).1]; omega
  | ⟨1, _⟩ => show win0_4.index t 1 * 128 + 1 * d.val = 128 * (t.val / 16) + d.val; rw [(index4 t).2]; omega

/-- What a point's input blocks hold. -/
theorem Found.pt (h : Found m c X Y s) (t : Fin cfg0.N) :
    Pt (head X Y s (t.val / 16)) (grid0.coords t 1).val (iblk m c 0 t) (iblk m c 4 t) (iblk m c 3 t) (iblk m c 1 t) (iblk m c 2 t) := by
  rw [coords_1]
  refine Pt.mk h.hs (fun r d => (blk0 t r d).trans (h.hX _ _)) (fun r d => (blk4 t r d).trans (h.hY _ _)) (fun r d hd => ?_)
    (fun R d => (blk1 t R d).trans (h.hX _ _)) (fun R d => (blk2 t R d).trans (h.hX _ _))
  have e1 : (128 * (t.val / 16) + d.val) % 128 = d.val := by omega
  have e2 : (128 * (t.val / 16) + d.val) / 128 = t.val / 16 := by omega
  refine ((blk3 t r d).trans (h.hL _ _ (by dsimp only; rw [e1]; exact hd))).trans ?_
  dsimp only
  rw [e1, e2]

/-- What a head's row blocks before `n` add up to. -/
def sumK (I : In) (n R d : ℕ) : ℝ := ∑ i ∈ Finset.range n, shareK I i R d
def sumV (I : In) (n R d : ℕ) : ℝ := ∑ i ∈ Finset.range n, shareV I i R d

theorem sumK_all (I : In) (R d : ℕ) : sumK I 16 R d = I.dk R d :=
  (sum_range_blocks (fun t => I.dz t R * I.s * I.q t d) 16).symm
theorem sumV_all (I : In) (R d : ℕ) : sumV I 16 R d = I.dv R d :=
  (sum_range_blocks (fun t => I.a t R * I.o t d) 16).symm

/-- What point `t` leaves in the stored blocks and in the scratch arrays. -/
structure After (I : In) (n : ℕ) (o : Vec Ideal S512x128 .bf16 × Vec Ideal S8192x128 .bf16 × Vec Ideal S8192x128 .bf16
    × Vec Ideal S8192x128 .f32 × Vec Ideal S8192x128 .f32 × Vec Ideal S8192x128 .bf16 × Vec Ideal S8192x128 .bf16) : Prop where
  dq : ∀ (r : Fin 512) (d : Fin 128), o.1 (ix2 r d) = (I.dq (512 * n + r) d : EReal)
  a10 : ∀ (R : Fin 8192) (d : Fin 128), o.2.2.2.1 (ix2 R d) = (sumK I (n + 1) R d : EReal)
  a11 : ∀ (R : Fin 8192) (d : Fin 128), o.2.2.2.2.1 (ix2 R d) = (sumV I (n + 1) R d : EReal)
  k : ∀ (R : Fin 8192) (d : Fin 128), o.2.2.2.2.2.1 (ix2 R d) = (I.k R d : EReal)
  v : ∀ (R : Fin 8192) (d : Fin 128), o.2.2.2.2.2.2 (ix2 R d) = (I.v R d : EReal)
  dk : n = 15 → ∀ (R : Fin 8192) (d : Fin 128), o.2.1 (ix2 R d) = (I.dk R d : EReal)
  dv : n = 15 → ∀ (R : Fin 8192) (d : Fin 128), o.2.2.1 (ix2 R d) = (I.dv R d : EReal)

/-- The block a point stores, read back. -/
theorem read_blk {κ : Kind} {sp : Space} (v : View sig κ sp S512x128 .bf16) (f : BufTy.Contents (Elt Ideal) v.ty)
    (w : Vec Ideal S512x128 .bf16) (r : Fin 512) (d : Fin 128) :
    v.read (Elt Ideal) (v.writes (Elt Ideal) f [⟨Rect.unit ![0, 0] S512x128.size inb_S512x128_S512x128_0_0, w⟩]) (ix2 r d) = w (ix2 r d) :=
  View.read_writes_cons_unit_of_mem v f inb_S512x128_S512x128_0_0 w [] (ix2 r d) (ix2 r d) rfl
    (Fin.forall_fin_two.mpr ⟨(Nat.zero_add _).symm, (Nat.zero_add _).symm⟩)

end

end Cert.KernelIdeal.Sb
end
end
-- ==== Proof.Points.lean ====
module

public import proofs.«01_k».proof.Proof.Sweep

/-! What each point of the grid leaves, by induction on the point. -/

@[expose] public section

noncomputable section

namespace Cert.KernelIdeal.Sb

open Idealize.ShloMosaic Idealize.ShloMosaic.TcCoe Cert.KernelIdeal.Gen Cert.KernelIdeal
open Idealize.SL Idealize.SL.Sem
open Stick

section
variable {m : (ℓ : Loc nD τ sig) → Buf (Elt Ideal) ℓ} {c : Dev nD} {X Y : ℕ → ℕ → ℝ} {s : ℝ}

theorem sumK_succ (I : In) (n R d : ℕ) : sumK I (n + 1) R d = sumK I n R d + shareK I n R d := Finset.sum_range_succ _ _
theorem sumV_succ (I : In) (n R d : ℕ) : sumV I (n + 1) R d = sumV I n R d + shareV I n R d := Finset.sum_range_succ _ _

/-- The same point's results, named otherwise. -/
theorem After.of_eq {I : In} {n : ℕ} {o o'} (e : o = o') (h : After I n o') : After I n o := e ▸ h

/-- A head's first point. -/
theorem after_A (h : Found m c X Y s) (t : Fin cfg0.N) (h0 : t.val % 16 = 0) :
    After (head X Y s (t.val / 16)) (t.val % 16) (outsAt0 m c t.val t.isLt) := by
  have h1 : ¬t.val % 16 = 15 := by omega
  refine (doneA c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) ((hcond0_0 t).mpr h0) (fun h => h1 ((hcond0_1 t).mp h)) (h.pt t) rfl).elim fun w5 hd => ?_
  have hdone := hd.2.1
  rw [coords_1] at hdone
  refine After.of_eq (outsAt0_A m c t h0 h1) ?_
  refine After.mk (fun r d => ?_) (fun R d => ?_) (fun R d => ?_) (fun R d => ?_) (fun R d => ?_) (fun e => absurd e h1) (fun e => absurd e h1)
  · dsimp only
    unfold out0_A_5
    exact (congrArg (fun L => VO0_5.read (Elt Ideal) (VO0_5.writes (Elt Ideal) VO0_5.junk L) (ix2 r d)) hd.1).trans
      ((read_blk _ _ w5 r d).trans (hdone.dq r d))
  · dsimp only
    unfold sout0_A_0
    exact (hdone.a10 R d).trans (by rw [h0]; simp [sumK])
  · dsimp only
    unfold sout0_A_1
    exact (hdone.a11 R d).trans (by rw [h0]; simp [sumV])
  · dsimp only
    unfold sout0_A_2
    exact hd.2.2.1 R d
  · dsimp only
    unfold sout0_A_3
    exact hd.2.2.2 R d

/-- A point inside a head. -/
theorem after_B (h : Found m c X Y s) (t : Fin cfg0.N) (h0 : ¬t.val % 16 = 0) (h1 : ¬t.val % 16 = 15)
    (hp : After (head X Y s (t.val / 16)) (t.val % 16 - 1) (outsAt0 m c (t.val - 1) (lt_of_le_of_lt (Nat.sub_le _ _) t.isLt))) :
    After (head X Y s (t.val / 16)) (t.val % 16) (outsAt0 m c t.val t.isLt) := by
  have e : t.val % 16 - 1 + 1 = t.val % 16 := by omega
  have hpt : Pt (head X Y s (t.val / 16)) (grid0.coords t 1).val (iblk m c 0 t) (iblk m c 4 t) (iblk m c 3 t)
      (outsAt0 m c (t.val - 1) (lt_of_le_of_lt (Nat.sub_le _ _) t.isLt)).2.2.2.2.2.1
      (outsAt0 m c (t.val - 1) (lt_of_le_of_lt (Nat.sub_le _ _) t.isLt)).2.2.2.2.2.2 :=
    { h.pt t with hK := hp.k, hV := hp.v }
  have h10 := hp.a10
  have h11 := hp.a11
  rw [e] at h10 h11
  refine (doneB (x1 := iblk m c 1 t) (x2 := iblk m c 2 t) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) (fun h => h0 ((hcond0_0 t).mp h)) (fun h => h1 ((hcond0_1 t).mp h)) hpt h10 h11 rfl).elim fun w5 hd => ?_
  have hdone := hd.2
  rw [coords_1] at hdone
  refine After.of_eq (outsAt0_B m c t h0 h1) ?_
  refine After.mk (fun r d => ?_) (fun R d => ?_) (fun R d => ?_) (fun R d => ?_) (fun R d => ?_) (fun e => absurd e h1) (fun e => absurd e h1)
  · dsimp only
    unfold out0_B_5
    exact (congrArg (fun L => VO0_5.read (Elt Ideal) (VO0_5.writes (Elt Ideal) VO0_5.junk L) (ix2 r d)) hd.1).trans
      ((read_blk _ _ w5 r d).trans (hdone.dq r d))
  · dsimp only
    unfold sout0_B_0
    exact (hdone.a10 R d).trans (by rw [sumK_succ])
  · dsimp only
    unfold sout0_B_1
    exact (hdone.a11 R d).trans (by rw [sumV_succ])
  · exact hp.k R d
  · exact hp.v R d

/-- A head's last point, which also stores the accumulators. -/
theorem after_C (h : Found m c X Y s) (t : Fin cfg0.N) (h0 : ¬t.val % 16 = 0) (h1 : t.val % 16 = 15)
    (hp : After (head X Y s (t.val / 16)) (t.val % 16 - 1) (outsAt0 m c (t.val - 1) (lt_of_le_of_lt (Nat.sub_le _ _) t.isLt))) :
    After (head X Y s (t.val / 16)) (t.val % 16) (outsAt0 m c t.val t.isLt) := by
  have e : t.val % 16 - 1 + 1 = t.val % 16 := by omega
  have hpt : Pt (head X Y s (t.val / 16)) (grid0.coords t 1).val (iblk m c 0 t) (iblk m c 4 t) (iblk m c 3 t)
      (outsAt0 m c (t.val - 1) (lt_of_le_of_lt (Nat.sub_le _ _) t.isLt)).2.2.2.2.2.1
      (outsAt0 m c (t.val - 1) (lt_of_le_of_lt (Nat.sub_le _ _) t.isLt)).2.2.2.2.2.2 :=
    { h.pt t with hK := hp.k, hV := hp.v }
  have h10 := hp.a10
  have h11 := hp.a11
  rw [e] at h10 h11
  refine (doneC (x1 := iblk m c 1 t) (x2 := iblk m c 2 t) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) scM0_1 (Memref.isWhole_whole _)
    scM0_2 (Memref.isWhole_whole _) scM0_3 (Memref.isWhole_whole _) (fun h => h0 ((hcond0_0 t).mp h)) ((hcond0_1 t).mpr h1) hpt h10 h11 rfl).elim fun w5 hd => ?_
  refine hd.elim fun w6 hd => ?_
  refine hd.elim fun w7 hd => ?_
  have hdone := hd.2.2.2.2.2
  rw [coords_1] at hdone
  refine After.of_eq (outsAt0_C m c t h0 h1) ?_
  refine After.mk (fun r d => ?_) (fun R d => ?_) (fun R d => ?_) (fun R d => ?_) (fun R d => ?_) (fun _ R d => ?_) (fun _ R d => ?_)
  · dsimp only
    unfold out0_C_5
    exact (congrArg (fun L => VO0_5.read (Elt Ideal) (VO0_5.writes (Elt Ideal) VO0_5.junk L) (ix2 r d)) hd.1).trans
      ((read_blk _ _ w5 r d).trans (hdone.dq r d))
  · dsimp only
    unfold sout0_C_0
    exact (hdone.a10 R d).trans (by rw [sumK_succ])
  · dsimp only
    unfold sout0_C_1
    exact (hdone.a11 R d).trans (by rw [sumV_succ])
  · exact hp.k R d
  · exact hp.v R d
  · dsimp only
    unfold out0_C_6
    exact (congrArg (fun L => VO0_6.read (Elt Ideal) (VO0_6.writes (Elt Ideal) VO0_6.junk L) (ix2 R d)) hd.2.1).trans
      ((read_all _ _ w6 R d).trans ((hd.2.2.2.1 R d).trans (by rw [coords_1, ← sumK_succ, h1, sumK_all])))
  · dsimp only
    unfold out0_C_7
    exact (congrArg (fun L => VO0_7.read (Elt Ideal) (VO0_7.writes (Elt Ideal) VO0_7.junk L) (ix2 R d)) hd.2.2.1).trans
      ((read_all _ _ w7 R d).trans ((hd.2.2.2.2.1 R d).trans (by rw [coords_1, ← sumV_succ, h1, sumV_all])))

/-- Every point, by induction. -/
theorem after (h : Found m c X Y s) : ∀ (n : ℕ) (hn : n < cfg0.N), After (head X Y s (n / 16)) (n % 16) (outsAt0 m c n hn)
  | 0, hn => after_A h ⟨0, hn⟩ rfl
  | n + 1, hn => by
    by_cases h0 : (n + 1) % 16 = 0
    · exact after_A h ⟨n + 1, hn⟩ h0
    · have hp := after h n (lt_trans (Nat.lt_succ_self n) hn)
      rw [show n / 16 = (n + 1) / 16 by omega, show n % 16 = (n + 1) % 16 - 1 by omega] at hp
      by_cases h1 : (n + 1) % 16 = 15
      · exact after_C h ⟨n + 1, hn⟩ h0 h1 hp
      · exact after_B h ⟨n + 1, hn⟩ h0 h1 hp
end

end Cert.KernelIdeal.Sb
end
end
-- ==== Proof.Results.lean ====
module

public import proofs.«01_k».proof.Proof.Points

/-! The kernel's three result arrays over the reals. -/

@[expose] public section

noncomputable section

namespace Cert.KernelIdeal.Sb

open Idealize.ShloMosaic Idealize.ShloMosaic.TcCoe Cert.KernelIdeal.Gen Cert.KernelIdeal
open Idealize.SL Idealize.SL.Sem
open Stick Cert.KernelIdeal.Value

section
variable {m : (ℓ : Loc nD τ sig) → Buf (Elt Ideal) ℓ} {c : Dev nD} {X Y : ℕ → ℕ → ℝ} {s : ℝ}

/-- The kernel's first result: the gradient of the queries, heads merged. -/
theorem G5_apply (h : Found m c X Y s) (t : Fin 8192) (w : Fin 2048) :
    (G5 m c : Vec Ideal S8192x2048 .bf16) (ix2 t w) = ((head X Y s (w.val / 128)).dq t (w.val % 128) : EReal) := by
  have hp : pt5Of (ix2 t w) = t.val / 512 + 16 * (w.val / 128) := by
    show 1 * (t.val / 512 - 0) + 16 * (w.val / 128 - 0) = _; omega
  have hN : pt5Of (ix2 t w) < cfg0.N := by rw [hp]; show _ < grid0.N; rw [N_0]; omega
  have hl : loc5Of (ix2 t w) = ix2 (⟨t.val % 512, by omega⟩ : Fin 512) (⟨w.val % 128, by omega⟩ : Fin 128) := by
    funext a
    match a with
    | ⟨0, _⟩ => rfl
    | ⟨1, _⟩ => rfl
  have ha := (after h (pt5Of (ix2 t w)) hN).dq ⟨t.val % 512, by omega⟩ ⟨w.val % 128, by omega⟩
  show G5 m c (ix2 t w) = _
  unfold G5
  rw [dif_pos hN, hl, ← outsAt0_sweep m c _ hN]
  refine ha.trans ?_
  dsimp only
  rw [hp, show (t.val / 512 + 16 * (w.val / 128)) / 16 = w.val / 128 by omega,
    show 512 * ((t.val / 512 + 16 * (w.val / 128)) % 16) + t.val % 512 = t.val by omega]

/-- The second: the gradient of the keys. -/
theorem G6_apply (h : Found m c X Y s) (t : Fin 8192) (w : Fin 2048) :
    (G6 m c : Vec Ideal S8192x2048 .bf16) (ix2 t w) = ((head X Y s (w.val / 128)).dk t (w.val % 128) : EReal) := by
  have hp : pt6Of (ix2 t w) = 16 * (w.val / 128) + 15 := by
    show 16 * (16 * (t.val / 8192 - 0) + 1 * (w.val / 128 - 0)) + 15 = _; omega
  have hN : pt6Of (ix2 t w) < cfg0.N := by rw [hp]; show _ < grid0.N; rw [N_0]; omega
  have hl : loc6Of (ix2 t w) = ix2 t (⟨w.val % 128, by omega⟩ : Fin 128) := by
    funext a
    match a with
    | ⟨0, _⟩ => exact Fin.ext (Nat.mod_eq_of_lt t.isLt)
    | ⟨1, _⟩ => rfl
  have ha := (after h (pt6Of (ix2 t w)) hN).dk (by rw [hp]; omega) t ⟨w.val % 128, by omega⟩
  show G6 m c (ix2 t w) = _
  unfold G6
  rw [dif_pos hN, hl, ← outsAt0_sweep m c _ hN]
  refine ha.trans ?_
  rw [hp, show (16 * (w.val / 128) + 15) / 16 = w.val / 128 by omega]

/-- The third: the gradient of the values. -/
theorem G7_apply (h : Found m c X Y s) (t : Fin 8192) (w : Fin 2048) :
    (G7 m c : Vec Ideal S8192x2048 .bf16) (ix2 t w) = ((head X Y s (w.val / 128)).dv t (w.val % 128) : EReal) := by
  have hp : pt7Of (ix2 t w) = 16 * (w.val / 128) + 15 := by
    show 16 * (16 * (t.val / 8192 - 0) + 1 * (w.val / 128 - 0)) + 15 = _; omega
  have hN : pt7Of (ix2 t w) < cfg0.N := by rw [hp]; show _ < grid0.N; rw [N_0]; omega
  have hl : loc7Of (ix2 t w) = ix2 t (⟨w.val % 128, by omega⟩ : Fin 128) := by
    funext a
    match a with
    | ⟨0, _⟩ => exact Fin.ext (Nat.mod_eq_of_lt t.isLt)
    | ⟨1, _⟩ => rfl
  have ha := (after h (pt7Of (ix2 t w)) hN).dv (by rw [hp]; omega) t ⟨w.val % 128, by omega⟩
  show G7 m c (ix2 t w) = _
  unfold G7
  rw [dif_pos hN, hl, ← outsAt0_sweep m c _ hN]
  refine ha.trans ?_
  rw [hp, show (16 * (w.val / 128) + 15) / 16 = w.val / 128 by omega]
end

end Cert.KernelIdeal.Sb
end
end
-- ==== Proof.Host.lean ====
module

public import proofs.«01_k».proof.Proof.RefValue
public import proofs.«01_k».proof.Proof.Results
public import Idealize.ShloMosaic.Lib.KernelVsHost
public import Idealize.ShloMosaic.Lib.StableHlo.Run

/-! The saved lanes the kernel's host prepares: what comes after each block of 256 columns. -/

@[expose] public section

noncomputable section

namespace Cert.KernelIdeal.Sb

open Idealize.ShloMosaic Idealize.ShloMosaic.TcCoe Cert.KernelIdeal.Gen Cert.KernelIdeal
open Idealize.SL Idealize.SL.Sem Idealize.ShloMosaic.StableHlo
open Stick

/-- The host's last steps: the last column of each block of 256, padded to 128 lanes, heads merged. -/
def savedLanes (later : Vec Ideal S16x8192x8192 .f32) : Vec Ideal S8192x2048 .f32 :=
  shapeCast S8192x2048 (transpose S8192x16x128 [1, 0, 2]
    (pad S16x8192x128 ![0, 0, 0] ![0, 0, 96] ![0, 0, 0]
      (Host.slice S16x8192x32 ![0, 0, 255] ![1, 1, 256] later slicesBy_S16x8192x8192_S16x8192x32_0s1_0s1_255s256)
      (sitofp (F := Ideal) .f32 (constantI S_ 32 0#32)) pads_S16x8192x32_S16x8192x128_000_000_0960 h_S_)
    transposes_S16x8192x128_S8192x16x128_1_0_2) shapeCasts_S8192x16x128_S8192x2048

theorem V_lanes (m : (ℓ : Loc nD τ sig) → Buf (Elt Ideal) ℓ) (c : Dev nD) :
    V m c main_v25 = savedLanes (Cert.ReferenceIdeal.Read.val_main_v24 (F := Ideal) (m ((c : Thread nD τ).loc main_arg0))) := by
  unfold V
  simp only [hostOps0, hostOps0_1, hostOps0_2, hostOps0_3, hostOps0_4, hostOps0_5, hostOps0_6, hostOps0_7, hostOps0_8, hostOps0_9, List.flatten_cons, List.flatten_nil, List.append_nil, List.cons_append,
      List.nil_append, TRef.binary, TRef.nullary, TRef.ternary, TRef.unary, TRef.toBuf, TRef.ofBuf, cast_eq]
  after_results_simp
  rfl

/-- The lane of a block holds the entry of the block's last column. -/
theorem savedLanes_apply (later : Vec Ideal S16x8192x8192 .f32) (t : Fin 8192) (w : Fin 2048) (hw : w.val % 128 < 32) :
    savedLanes later (ix2 t w) = later (ix3 (⟨w.val / 128, by omega⟩ : Fin 16) t (⟨256 * (w.val % 128) + 255, by omega⟩ : Fin 8192)) := by
  unfold savedLanes
  rw [shapeCast_apply _ shapeCasts_S8192x16x128_S8192x2048 (ix2 t w)
      (ix3 t (⟨w.val / 128, by omega⟩ : Fin 16) (⟨w.val % 128, by omega⟩ : Fin 128))
      (by rw [Shape.rowMajor_val_two, Shape.rowMajor_val_three]; show (t.val * 16 + w.val / 128) * 128 + w.val % 128 = t.val * 2048 + w.val; omega),
    transpose_apply [1, 0, 2] _ transposes_S16x8192x128_S8192x16x128_1_0_2 _
      (ix3 (⟨w.val / 128, by omega⟩ : Fin 16) t (⟨w.val % 128, by omega⟩ : Fin 128)) (fun b => match b with
        | ⟨0, _⟩ => rfl
        | ⟨1, _⟩ => rfl
        | ⟨2, _⟩ => rfl),
    pad_apply_of_inside _ _ _ _ _ _ _ _ (ix3 (⟨w.val / 128, by omega⟩ : Fin 16) t (⟨w.val % 128, hw⟩ : Fin 32)) (fun a => match a with
      | ⟨0, _⟩ => show w.val / 128 = 0 + w.val / 128 * (0 + 1) by omega
      | ⟨1, _⟩ => show t.val = 0 + t.val * (0 + 1) by omega
      | ⟨2, _⟩ => show w.val % 128 = 0 + w.val % 128 * (0 + 1) by omega)]
  refine congrArg later (funext fun a => match a with
    | ⟨0, _⟩ => Fin.ext (show 0 + 1 * (w.val / 128) = w.val / 128 by omega)
    | ⟨1, _⟩ => Fin.ext (show 0 + 1 * t.val = t.val by omega)
    | ⟨2, _⟩ => Fin.ext (show 255 + 256 * (w.val % 128) = 256 * (w.val % 128) + 255 by omega))

/-- What the reference finds, the kernel finds too. -/
theorem found_of {m : (ℓ : Loc nD τ sig) → Buf (Elt Ideal) ℓ} {c : Dev nD} {X Y : ℕ → ℕ → ℝ} {s : ℝ}
    (H : Cert.ReferenceIdeal.Sb.Found (m ((c : Thread nD τ).loc main_arg0)) (m ((c : Thread nD τ).loc main_arg1)) X Y s) :
    Found m c X Y s where
  hs := H.hs
  hX t w := by rw [V_main_arg0]; exact H.hX t w
  hY t w := by rw [V_main_arg1]; exact H.hY t w
  hL t w hw := by
    rw [V_lanes]
    exact (savedLanes_apply _ t w hw).trans (Cert.ReferenceIdeal.Sb.later_apply H _ t _)

end Cert.KernelIdeal.Sb
end
end
-- ==== Proof.Agree.lean ====
module

public import proofs.«01_k».proof.Defs
public import proofs.«01_k».proof.Proof.Host
public import proofs.«01_k».proof.Proof.Gen.ReferenceIdeal.Run

/-! Finite arguments are arrays of real numbers, and on those the kernel's three results are the reference's. -/

@[expose] public section

noncomputable section

namespace Cert.Agree

open Idealize.ShloMosaic Idealize.ShloMosaic.TcCoe Idealize.SL.Sem

/-- The side conditions of the precondition: a scalar may be spread over either argument's shape. -/
theorem pre_facts : Cert.Pre_finite.Facts := ⟨by decide, by decide⟩

/-- A value whose absolute value is below infinity is a real number. -/
theorem real_of_abs_lt (x : Ideal .f32)
    (h : FloatOps.cmpf .olt (FloatOps.hostAbsf x) (FloatOps.ofBits (F := Ideal) .f32 0x7F800000#32) = 1#1) :
    x = ((EReal.toReal x : ℝ) : EReal) := by
  have ht : Ideal.ofBits .f32 0x7F800000#32 = ⊤ := by simp [Ideal.ofBits, Ideal.ieee]
  have hlt : max (x : EReal) (-x) < ⊤ := by
    by_contra hc
    have h0 : FloatOps.cmpf .olt (FloatOps.hostAbsf x) (FloatOps.ofBits (F := Ideal) .f32 0x7F800000#32) = 0#1 := by
      rw [Ideal.hostAbsf_def, Ideal.absf_def, Ideal.ofBits_def, Ideal.cmpf_def, ht]
      simp only [Ideal.cmp]
      rw [decide_eq_false hc]
      rfl
    rw [h0] at h
    exact absurd h (by decide)
  refine (EReal.coe_toReal (fun h1 => ?_) (fun h2 => ?_)).symm
  · rw [h1] at hlt
    exact absurd (lt_of_le_of_lt (le_max_left _ _) hlt) (lt_irrefl _)
  · rw [h2] at hlt
    exact absurd (lt_of_le_of_lt (le_max_right _ _) hlt) (by simp)

/-- The kernel's and the reference's scale is a real number. -/
theorem scale_real : ∃ s : ℝ, Ideal.ofBits .f32 0x3DB504F3#32 = (s : EReal) := by
  refine ⟨11863283 * (2 ^ 27)⁻¹, ?_⟩
  rw [EReal.coe_mul]
  simp [Ideal.ofBits, Ideal.ieee]

/-- An array of real numbers, continued by zero. -/
def entries {M N : ℕ} (x : (⟨⟨2, ![M, N]⟩, .f32⟩ : BufTy).Contents (Elt Ideal)) (t w : ℕ) : ℝ :=
  if h : t < M ∧ w < N then EReal.toReal (x (ix2 ⟨t, h.1⟩ ⟨w, h.2⟩)) else 0

theorem entries_apply {M N : ℕ} (x : (⟨⟨2, ![M, N]⟩, .f32⟩ : BufTy).Contents (Elt Ideal)) (t : Fin M) (w : Fin N) :
    entries x t w = EReal.toReal (x (ix2 t w)) := by
  unfold entries
  rw [dif_pos ⟨t.isLt, w.isLt⟩]

/-- What the precondition says of the two arguments of one device: they are arrays of real numbers. -/
theorem found [Cert.Pre_finite.Facts] {s : ℝ} (hs : Ideal.ofBits .f32 0x3DB504F3#32 = (s : EReal))
    (x0 : (⟨⟨2, ![8192, 20480]⟩, .f32⟩ : BufTy).Contents (Elt Ideal)) (x1 : (⟨⟨2, ![8192, 2048]⟩, .f32⟩ : BufTy).Contents (Elt Ideal))
    (h0 : (Cert.Pre_finite.fn (F := Ideal) x0 x1).1 = fun _ => 1#1) (h1 : (Cert.Pre_finite.fn (F := Ideal) x0 x1).2 = fun _ => 1#1) :
    Cert.ReferenceIdeal.Sb.Found x0 x1 (entries x0) (entries x1) s where
  hs := hs
  hX t w := by rw [entries_apply]; exact real_of_abs_lt _ (congrFun h0 (ix2 t w))
  hY t w := by rw [entries_apply]; exact real_of_abs_lt _ (congrFun h1 (ix2 t w))

/-- Two arrays with the same entries are the same. -/
theorem ext2 {M N : ℕ} {α : Type} {x y : (⟨2, ![M, N]⟩ : Shape).Idx → α} (h : ∀ t w, x (ix2 t w) = y (ix2 t w)) : x = y := by
  funext i
  have hi : i = ix2 (i 0) (i 1) := by
    funext a
    match a with
    | ⟨0, _⟩ => rfl
    | ⟨1, _⟩ => rfl
  rw [hi]
  exact h _ _

section
variable {m : (ℓ : Loc Cert.KernelIdeal.nD Cert.KernelIdeal.τ Cert.KernelIdeal.sig) → Buf (Elt Ideal) ℓ} {c : Dev Cert.KernelIdeal.nD}
variable {X Y : ℕ → ℕ → ℝ} {s : ℝ}

/-- The gradient of the queries is the reference's. -/
theorem dq_eq (H : Cert.ReferenceIdeal.Sb.Found (m ((c : Thread Cert.KernelIdeal.nD Cert.KernelIdeal.τ).loc Cert.KernelIdeal.main_arg0))
      (m ((c : Thread Cert.KernelIdeal.nD Cert.KernelIdeal.τ).loc Cert.KernelIdeal.main_arg1)) X Y s) :
    Cert.ReferenceIdeal.Read.val_main_v56 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) = Cert.KernelIdeal.Value.G5 m c :=
  ext2 fun t w => (Cert.ReferenceIdeal.Sb.dq_apply H t w).trans (Cert.KernelIdeal.Sb.G5_apply (Cert.KernelIdeal.Sb.found_of H) t w).symm

/-- The gradient of the keys is the reference's. -/
theorem dk_eq (H : Cert.ReferenceIdeal.Sb.Found (m ((c : Thread Cert.KernelIdeal.nD Cert.KernelIdeal.τ).loc Cert.KernelIdeal.main_arg0))
      (m ((c : Thread Cert.KernelIdeal.nD Cert.KernelIdeal.τ).loc Cert.KernelIdeal.main_arg1)) X Y s) :
    Cert.ReferenceIdeal.Read.val_main_v57 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) = Cert.KernelIdeal.Value.G6 m c :=
  ext2 fun t w => (Cert.ReferenceIdeal.Sb.dk_apply H t w).trans (Cert.KernelIdeal.Sb.G6_apply (Cert.KernelIdeal.Sb.found_of H) t w).symm

/-- The gradient of the values is the reference's. -/
theorem dv_eq (H : Cert.ReferenceIdeal.Sb.Found (m ((c : Thread Cert.KernelIdeal.nD Cert.KernelIdeal.τ).loc Cert.KernelIdeal.main_arg0))
      (m ((c : Thread Cert.KernelIdeal.nD Cert.KernelIdeal.τ).loc Cert.KernelIdeal.main_arg1)) X Y s) :
    Cert.ReferenceIdeal.Read.val_main_v58 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) = Cert.KernelIdeal.Value.G7 m c :=
  ext2 fun t w => (Cert.ReferenceIdeal.Sb.dv_apply H t w).trans (Cert.KernelIdeal.Sb.G7_apply (Cert.KernelIdeal.Sb.found_of H) t w).symm
end

end Cert.Agree
end
end
-- ==== Proof.Products.lean ====
module

public import Idealize.ShloMosaic.PureOps.Ideal.Laws
public import Idealize.ShloMosaic.Lib.Pointwise.Index
public import Idealize.ShloMosaic.Lib.VecWindow
public import Idealize.ShloMosaic.Lib.Pipeline.Value
public import Mathlib.Algebra.BigOperators.Fin

/-! What the tiled matrix products have in common: an accumulator that is set at the first block of a run and added to
    at each later one holds the sum over the blocks, and a sum over blocks is the sum over the whole range. -/

@[expose] public section

noncomputable section

namespace Cert.Mm

open Idealize.ShloMosaic Finset

/-- A matrix's entry at a row and a column given as numbers; zero outside the matrix. -/
def at2 {R C : ℕ} (x : (⟨2, ![R, C]⟩ : Shape).Idx → EReal) (r c : ℕ) : EReal :=
  if h : r < R ∧ c < C then x (ix2 (⟨r, h.1⟩ : Fin R) (⟨c, h.2⟩ : Fin C)) else 0

theorem at2_eq {R C : ℕ} (x : (⟨2, ![R, C]⟩ : Shape).Idx → EReal) (i : (⟨2, ![R, C]⟩ : Shape).Idx) {r c : ℕ}
    (hr : (i 0).val = r) (hc : (i 1).val = c) : x i = at2 x r c := by
  subst hr hc
  unfold at2
  rw [dif_pos ⟨(i 0).isLt, (i 1).isLt⟩]
  congr 1
  funext a
  match a with
  | ⟨0, _⟩ => rfl
  | ⟨1, _⟩ => rfl

theorem at2_of_lt {R C : ℕ} (x : (⟨2, ![R, C]⟩ : Shape).Idx → EReal) {r c : ℕ} (hr : r < R) (hc : c < C) :
    at2 x r c = x (ix2 (⟨r, hr⟩ : Fin R) (⟨c, hc⟩ : Fin C)) := dif_pos ⟨hr, hc⟩

section
variable {sig : RefSig} {κ : Kind} {sp : Space} {e : EltTy} {Val : EltTy → Type} {R C : ℕ}

/-- A matrix stored whole, read. -/
theorem read_stored (v : View sig κ sp ⟨2, ![R, C]⟩ e) (f : v.ty.Contents Val)
    (inb : ∀ a, (![0, 0] : Fin 2 → ℕ) a + (![R, C] : Fin 2 → ℕ) a ≤ (⟨2, ![R, C]⟩ : Shape).size a)
    (w : (Rect.unit (s := ⟨2, ![R, C]⟩) ![0, 0] ![R, C] inb).shape.Idx → Val e) (L : List (View.Piece Val ⟨2, ![R, C]⟩ e)) :
    v.read Val (v.writes Val f (⟨Rect.unit (s := ⟨2, ![R, C]⟩) ![0, 0] ![R, C] inb, w⟩ :: L)) = w :=
  View.read_writes_full v f inb w L

/-- A matrix stored whole, loaded whole. -/
theorem load_stored (v : View sig κ sp ⟨2, ![R, C]⟩ e) (f : v.ty.Contents Val)
    (inb inb' : ∀ a, (![0, 0] : Fin 2 → ℕ) a + (![R, C] : Fin 2 → ℕ) a ≤ (⟨2, ![R, C]⟩ : Shape).size a)
    (w : (Rect.unit (s := ⟨2, ![R, C]⟩) ![0, 0] ![R, C] inb').shape.Idx → Val e) (L : List (View.Piece Val ⟨2, ![R, C]⟩ e)) :
    v.readAt Val (Rect.unit (s := ⟨2, ![R, C]⟩) ![0, 0] ![R, C] inb).toLoadRect
      (v.writes Val f (⟨Rect.unit (s := ⟨2, ![R, C]⟩) ![0, 0] ![R, C] inb', w⟩ :: L)) = w :=
  View.readAt_writes_full v f inb inb' w L

/-- … over the stores alone. -/
theorem cov_stored [∀ e, Nonempty (Val e)] (v : View sig κ sp ⟨2, ![R, C]⟩ e)
    (inb inb' : ∀ a, (![0, 0] : Fin 2 → ℕ) a + (![R, C] : Fin 2 → ℕ) a ≤ (⟨2, ![R, C]⟩ : Shape).size a)
    (w : (Rect.unit (s := ⟨2, ![R, C]⟩) ![0, 0] ![R, C] inb').shape.Idx → Val e) (L : List (View.Piece Val ⟨2, ![R, C]⟩ e)) :
    v.readCov (⟨Rect.unit (s := ⟨2, ![R, C]⟩) ![0, 0] ![R, C] inb', w⟩ :: L)
      (Rect.unit (s := ⟨2, ![R, C]⟩) ![0, 0] ![R, C] inb).toLoadRect = w :=
  View.readCov_full v inb inb' w L

/-- A whole matrix, loaded whole. -/
theorem load_whole {m : Memref sig κ sp ⟨2, ![R, C]⟩ e} (h : m.IsWhole)
    (inb : ∀ a, (![0, 0] : Fin 2 → ℕ) a + (![R, C] : Fin 2 → ℕ) a ≤ (⟨2, ![R, C]⟩ : Shape).size a) (x : (⟨2, ![R, C]⟩ : Shape).Idx → Val e) :
    m.view.readAt Val (Rect.unit (s := ⟨2, ![R, C]⟩) ![0, 0] ![R, C] inb).toLoadRect (h.unread x) = x :=
  (View.readAt_full m.view (h.unread x) inb).trans (h.read_unread x)
end

/-- An accumulator set at the points that are multiples of `K` and added to at the others holds, at each point, the sum
    of what its run's points brought so far. -/
theorem accumulated {N K : ℕ} (S : (n : ℕ) → n < N → EReal) (M : ℕ → EReal)
    (h0 : ∀ n h, n % K = 0 → S n h = M n)
    (hs : ∀ n h, n % K ≠ 0 → S n h = S (n - 1) (by omega) + M n) :
    ∀ n h, S n h = ∑ s ∈ range (n % K + 1), M (K * (n / K) + s) := by
  intro n
  induction n with
  | zero => intro h; rw [h0 0 h (Nat.zero_mod K)]; simp
  | succ n ih =>
    intro h
    rcases Nat.eq_zero_or_pos K with hK | hK
    · subst hK
      rw [hs _ h (by simp)]
      have e := ih (by omega)
      simp only [Nat.mod_zero, Nat.div_zero, Nat.zero_mul, Nat.zero_add, Nat.add_sub_cancel] at e ⊢
      rw [e, sum_range_succ _ (n + 1)]
    by_cases hn : (n + 1) % K = 0
    · rw [h0 _ h hn, hn]
      simp only [Nat.zero_add, range_one, sum_singleton, Nat.add_zero]
      congr 1
      have := Nat.div_add_mod (n + 1) K
      omega
    · rw [hs _ h hn]
      have e := ih (by omega)
      have hd : (n + 1) / K = n / K := by
        rw [Nat.succ_div, if_neg (fun hd => hn (Nat.mod_eq_zero_of_dvd hd)), Nat.add_zero]
      have hm : (n + 1) % K = n % K + 1 := by
        have h1 := Nat.div_add_mod n K
        have h2 := Nat.div_add_mod (n + 1) K
        rw [hd] at h2
        omega
      simp only [Nat.add_sub_cancel]
      rw [e, hm, hd, sum_range_succ _ (n % K + 1)]
      congr 2
      have := Nat.div_add_mod n K
      omega

/-- A sum over blocks of `B` is the sum over the whole range. -/
theorem sum_blocks (B : ℕ) (f : ℕ → EReal) (n : ℕ) :
    ∑ s ∈ range n, ∑ k : Fin B, f (B * s + k) = ∑ u ∈ range (B * n), f u := by
  induction n with
  | zero => simp
  | succ n ih =>
    rw [sum_range_succ, ih, Nat.mul_succ, sum_range_add]
    congr 1
    exact (sum_range fun k => f (B * n + k)).symm

/-! ## The input projection without the small columns -/

/-- The column of the whole input weight that is column `u` once the 32 small columns are taken out. -/
def col (u : ℕ) : ℕ := if u < 16384 then u else u + 32

/-- A slice of a matrix's columns, at an entry. -/
theorem sliced {R C C' o : ℕ} (w : (⟨2, ![R, C]⟩ : Shape).Idx → EReal)
    (h : Shape.Slices (⟨2, ![R, C]⟩ : Shape) ![0, o] ⟨2, ![R, C']⟩) (r : Fin R) (u : Fin C') :
    extractStridedSlice ⟨2, ![R, C']⟩ ![0, o] w h (ix2 r u) = at2 w r (o + u) := by
  have hC : o + C' ≤ C := h.2 1
  have hu : o + u.val < C := by omega
  rw [at2_of_lt w r.isLt hu]
  exact extractStridedSlice_apply _ w h (ix2 r u) (ix2 r (⟨o + u.val, hu⟩ : Fin C)) (fun b => match b with
    | ⟨0, _⟩ => (Nat.zero_add _).symm
    | ⟨1, _⟩ => rfl)

/-- The columns before the small ones joined with those after, at an entry. -/
theorem joined {R : ℕ} (w : (⟨2, ![R, 20512]⟩ : Shape).Idx → EReal)
    (h₁ : Shape.Slices (⟨2, ![R, 20512]⟩ : Shape) ![0, 0] ⟨2, ![R, 16384]⟩) (h₂ : Shape.Slices (⟨2, ![R, 20512]⟩ : Shape) ![0, 16416] ⟨2, ![R, 4096]⟩)
    (h : Shape.Concatenates [(⟨2, ![R, 16384]⟩ : Shape), ⟨2, ![R, 4096]⟩] (⟨2, ![R, 20480]⟩ : Shape) 1) (r : Fin R) (u : Fin 20480) :
    concatenate (⟨2, ![R, 20480]⟩ : Shape) 1 [⟨⟨2, ![R, 16384]⟩, extractStridedSlice ⟨2, ![R, 16384]⟩ ![0, 0] w h₁⟩,
      ⟨⟨2, ![R, 4096]⟩, extractStridedSlice ⟨2, ![R, 4096]⟩ ![0, 16416] w h₂⟩] h (ix2 r u) = at2 w r (col u) := by
  unfold col
  split
  · rename_i hu
    refine (concatenate_pair_apply_left _ _ _ h (ix2 r u) rfl (ix2 r (⟨u.val, hu⟩ : Fin 16384)) (fun b => match b with
        | ⟨0, _⟩ => rfl
        | ⟨1, _⟩ => rfl)).trans ?_
    exact (sliced w h₁ r _).trans (congrArg (at2 w r) (Nat.zero_add _))
  · rename_i hu
    refine (concatenate_pair_apply_right _ _ _ h (ix2 r u) rfl rfl (ix2 r (⟨u.val - 16384, by omega⟩ : Fin 4096)) (fun b => match b with
        | ⟨0, _⟩ => fun _ => rfl
        | ⟨1, _⟩ => fun hb => absurd rfl hb) (Nat.sub_add_cancel (by omega))).trans ?_
    exact (sliced w h₂ r _).trans (congrArg (at2 w r) (by dsimp only; omega))

end Cert.Mm
end
end
-- ==== Proof.Dx.lean ====
module

public import proofs.«01_k».proof.Defs
public import proofs.«01_k».proof.Proof.Products
public import proofs.«01_k».proof.Proof.Gen.DxReferenceIdeal.Run
public import proofs.«01_k».proof.Proof.Gen.DxKernelIdeal.Frame
public import Idealize.ShloMosaic.Lib.Pipeline.Value
public import proofs.«01_k».proof.Proof.Gen.DxReferenceIdeal.Read
public import Idealize.ShloMosaic.Lib.VecWindow
public import Idealize.ShloMosaic.Lib.Pointwise

/-! The gradient of a projection's input: the tiled product of the cotangent with the weight, transposed. -/

@[expose] public section

noncomputable section

namespace Cert.DxKernelIdeal.Mm

open Idealize.ShloMosaic Idealize.ShloMosaic.TcCoe Cert.DxKernelIdeal.Gen Cert.DxKernelIdeal
open Idealize.SL Idealize.SL.Sem
open Cert.Mm Finset

section
variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1024x1024 .f32) (harg6 : arg6.IsWhole)
  (x0 x1 : Vec Ideal S1024x1024 .bf16) (xs0 : Vec Ideal S1024x1024 .f32)

theorem set_A (h0 : cond0_0 i) (h1 : ¬cond0_1 i) :
    sout0_A_0 c i arg3 harg3 arg4 harg4 arg5 harg5 arg6 harg6 h0 h1 x0 x1 = k0_pay2 k0_pay1 x0 x1 := by
  unfold sout0_A_0 kernelRun0_A
  dsimp only
  simp only [kernelRun0_A.sl.v3, kernelRun0_A.sl.HS0_1, read_stored, load_stored, cov_stored, load_whole]

theorem add_B (h0 : ¬cond0_0 i) (h1 : cond0_1 i) :
    sout0_B_0 c i arg3 harg3 arg4 harg4 arg5 harg5 arg6 harg6 h0 h1 x0 x1 xs0 = k0_pay2 xs0 x0 x1 := by
  unfold sout0_B_0 kernelRun0_B
  dsimp only
  simp only [kernelRun0_B.sl.HS0_1, kernelRun0_B.sl.v14, read_stored, load_stored, cov_stored, load_whole]

theorem out_B (h0 : ¬cond0_0 i) (h1 : cond0_1 i) :
    out0_B_2 c i arg3 harg3 arg4 harg4 arg5 harg5 arg6 harg6 h0 h1 x0 x1 xs0 = k0_pay2 xs0 x0 x1 := by
  unfold out0_B_2 kernelRun0_B
  dsimp only
  simp only [kernelRun0_B.sl.HS0_1, kernelRun0_B.sl.v14, read_stored, load_stored, cov_stored, load_whole]

theorem pay2_apply (r q : Fin 1024) :
    k0_pay2 xs0 x0 x1 (ix2 r q) = xs0 (ix2 r q) + ∑ k : Fin 1024, x0 (ix2 r k) * x1 (ix2 q k) := by
  simp only [k0_pay2, shapeCast_self]
  pointwise
  done

theorem pay1_apply (y : S1024x1024.Idx) : k0_pay1 (F := Ideal) y = 0 := by
  simp only [k0_pay1, shapeCast_self]
  pointwise
  done
end

/-! ## At a grid point -/

theorem index0 : ∀ t : Fin grid0.N, win0_0.index t (0 : Fin 2) = t.val / 4 ∧ win0_0.index t (1 : Fin 2) = t.val % 2 := by
  decide +kernel
theorem index1 : ∀ t : Fin grid0.N, win0_1.index t (0 : Fin 2) = t.val / 2 % 2 ∧ win0_1.index t (1 : Fin 2) = t.val % 2 := by
  decide +kernel
theorem index2 : ∀ t : Fin grid0.N, win0_2.index t (0 : Fin 2) = t.val / 4 ∧ win0_2.index t (1 : Fin 2) = t.val / 2 % 2 := by
  decide +kernel

variable (m : (ℓ : Loc nD τ sig) → Buf (Elt Ideal) ℓ) (c : Dev nD)

/-- The cotangent. -/
abbrev X : Vec Ideal S8192x2048 .bf16 := m ((c : Thread nD τ).loc main_arg0)
/-- The weight. -/
abbrev Y : Vec Ideal S2048x2048 .bf16 := m ((c : Thread nD τ).loc main_arg1)

theorem blk0 (t : Fin cfg0.N) (r k : Fin 1024) :
    iblk m c 0 t (ix2 r k) = at2 (X m c) (1024 * (t.val / 4) + r) (1024 * (t.val % 2) + k) := by
  unfold iblk
  rw [View.read_apply]
  refine Eq.trans (at2_eq (V m c main_arg0) _ (r := 1024 * (t.val / 4) + r) (c := 1024 * (t.val % 2) + k) ?_ ?_) ?_
  · show win0_0.index t 0 * 1024 + 1 * r.val = _
    rw [(index0 t).1]; omega
  · show win0_0.index t 1 * 1024 + 1 * k.val = _
    rw [(index0 t).2]; omega
  · rw [V_main_arg0]

theorem blk1 (t : Fin cfg0.N) (q k : Fin 1024) :
    iblk m c 1 t (ix2 q k) = at2 (Y m c) (1024 * (t.val / 2 % 2) + q) (1024 * (t.val % 2) + k) := by
  unfold iblk
  rw [View.read_apply]
  refine Eq.trans (at2_eq (V m c main_arg1) _ (r := 1024 * (t.val / 2 % 2) + q) (c := 1024 * (t.val % 2) + k) ?_ ?_) ?_
  · show win0_1.index t 0 * 1024 + 1 * q.val = _
    rw [(index1 t).1]; omega
  · show win0_1.index t 1 * 1024 + 1 * k.val = _
    rw [(index1 t).2]; omega
  · rw [V_main_arg1]

/-- What the columns `u` bring to the entry at `a`, `b`. -/
def term (a b u : ℕ) : EReal := at2 (X m c) a u * at2 (Y m c) b u

/-- What point `n` adds at `r`, `q` of its block. -/
def brought (r q : Fin 1024) (n : ℕ) : EReal :=
  ∑ k : Fin 1024, term m c (1024 * (n / 4) + r) (1024 * (n / 2 % 2) + q) (1024 * (n % 2) + k)

theorem dot_point (t : Fin cfg0.N) (r q : Fin 1024) :
    ∑ k : Fin 1024, (show EReal from iblk m c 0 t (ix2 r k)) * (show EReal from iblk m c 1 t (ix2 q k)) = brought m c r q t :=
  sum_congr rfl fun k _ => by rw [blk0, blk1]; rfl

theorem acc_first (t : Fin cfg0.N) (h0 : t.val % 2 = 0) (r q : Fin 1024) :
    (outsAt0 m c t.val t.isLt).2 (ix2 r q) = brought m c r q t := by
  rw [outsAt0_A m c t h0 (by omega)]
  dsimp only
  rw [set_A, pay2_apply, pay1_apply, zero_add, dot_point]

theorem acc_next (t : Fin cfg0.N) (h0 : ¬t.val % 2 = 0) (r q : Fin 1024) :
    (outsAt0 m c t.val t.isLt).2 (ix2 r q) = (outsAt0 m c (t.val - 1) (by omega)).2 (ix2 r q) + brought m c r q t := by
  rw [outsAt0_B m c t h0 (by omega)]
  dsimp only
  rw [add_B, pay2_apply, dot_point]

theorem out_last (t : Fin cfg0.N) (h1 : t.val % 2 = 1) : (outsAt0 m c t.val t.isLt).1 = (outsAt0 m c t.val t.isLt).2 := by
  rw [outsAt0_B m c t (by omega) h1]
  dsimp only
  rw [add_B, out_B]

/-- What the last point of a run writes: the sum over all columns. -/
theorem written (t : Fin cfg0.N) (h1 : t.val % 2 = 1) (r q : Fin 1024) :
    (outsAt0 m c t.val t.isLt).1 (ix2 r q)
      = ∑ u ∈ range 2048, term m c (1024 * (t.val / 4) + r) (1024 * (t.val / 2 % 2) + q) u := by
  rw [out_last m c t h1,
    accumulated (K := 2) (fun n h => (outsAt0 m c n h).2 (ix2 r q)) (brought m c r q)
      (fun n h h0 => acc_first m c ⟨n, h⟩ h0 r q) (fun n h h0 => acc_next m c ⟨n, h⟩ h0 r q) t.val t.isLt,
    h1, show (2048 : ℕ) = 1024 * (1 + 1) from rfl, ← sum_blocks]
  refine sum_congr rfl fun s hs => ?_
  have h2 := mem_range.mp hs
  unfold brought
  rw [show (2 * (t.val / 2) + s) / 4 = t.val / 4 by omega, show (2 * (t.val / 2) + s) / 2 % 2 = t.val / 2 % 2 by omega,
    show (2 * (t.val / 2) + s) % 2 = s by omega]

/-! ## The result -/

/-- The gradient: the cotangent times the weight transposed. -/
def grad : Vec Ideal S8192x2048 .f32 := fun i => ∑ u ∈ range 2048, term m c (i 0).val (i 1).val u

theorem flushed (t : Fin cfg0.N) (hf : (cfg0.win 2).flush t = true) :
    (dats m 0 c).flushed 2 t = ((cfg0.win 2).blk t).view.read (Elt Ideal) (grad m c) := by
  show (cfg0.win 2).cut (grid0.coords t) ((dats m 0 c).after 2 t) = _
  rw [after0_2]
  have h1 : t.val % 2 = 1 := (flush0_2 t).mp hf
  funext y
  rw [View.read_apply]
  have h := written m c t h1 (⟨(y 0).val, (y 0).isLt⟩ : Fin 1024) (⟨(y 1).val, (y 1).isLt⟩ : Fin 1024)
  have e0 : (((cfg0.win 2).blk t).view.emb y 0).val = 1024 * (t.val / 4) + (y 0).val := by
    show win0_2.index t 0 * 1024 + 1 * (y 0).val = _
    rw [(index2 t).1]; omega
  have e1 : (((cfg0.win 2).blk t).view.emb y 1).val = 1024 * (t.val / 2 % 2) + (y 1).val := by
    show win0_2.index t 1 * 1024 + 1 * (y 1).val = _
    rw [(index2 t).2]; omega
  have hx : (cfg0.win 2).xinj (grid0.coords t) y = ix2 (⟨(y 0).val, (y 0).isLt⟩ : Fin 1024) (⟨(y 1).val, (y 1).isLt⟩ : Fin 1024) := by
    funext a
    match a with
    | ⟨0, _⟩ => rfl
    | ⟨1, _⟩ => rfl
  have hg : grad m c (((cfg0.win 2).blk t).view.emb y)
      = ∑ u ∈ range 2048, term m c (1024 * (t.val / 4) + (y 0).val) (1024 * (t.val / 2 % 2) + (y 1).val) u := by
    unfold grad
    rw [e0, e1]
  dsimp only at h
  refine (congrArg (outsAt0 m c t.val t.isLt).1 hx).trans ?_
  rw [h, ← hg]
  exact (cast_eq _ _).symm

theorem covered (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 32 := N_0
  refine ⟨⟨4 * ((i 0).val / 1024) + 2 * ((i 1).val / 1024) + 1, by omega⟩, (flush0_2 _).mpr (by dsimp only; omega), ?_⟩
  generalize ht : (⟨4 * ((i 0).val / 1024) + 2 * ((i 1).val / 1024) + 1, _⟩ : Fin cfg0.N) = t
  have htv : t.val = 4 * ((i 0).val / 1024) + 2 * ((i 1).val / 1024) + 1 := by rw [← ht]
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [(index2 t).1]; omega
  | ⟨1, _⟩ =>
    show win0_2.index t (1 : Fin 2) * 1024 ≤ (i 1).val ∧ (i 1).val < win0_2.index t (1 : Fin 2) * 1024 + 1024
    rw [(index2 t).2]; omega

/-- The kernel's run leaves the gradient in its result and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0) = grad m c :=
  (θ_run defs _ _).mono (fun r h c => ((h c).1 2).trans
    ((dats m 0 c).arrAt_eq_of_cover 2 _ (fun t hf => flushed m c t hf) covered)) (run_main m ρ)

/-! ## The reference -/

theorem reference_eq (x : Vec Ideal S8192x2048 .bf16) (y : Vec Ideal S2048x2048 .bf16) (i : S8192x2048.Idx) :
    Cert.DxReferenceIdeal.Read.val_main_v2 (F := Ideal) x y i = ∑ u ∈ range 2048, at2 x (i 0).val u * at2 y (i 1).val u := by
  rw [Cert.DxReferenceIdeal.Read.val_main_v2_apply, sum_range]
  refine sum_congr rfl fun k _ => ?_
  rw [Cert.DxReferenceIdeal.Read.val_main_v0_apply, Cert.DxReferenceIdeal.Read.val_main_v1_apply]
  exact congrArg₂ (· * ·) (at2_eq x _ rfl rfl) (at2_eq y _ rfl rfl)

/-- Over the reals, the kernel's gradient is the reference's. -/
theorem values : Cert.algebraic_DxKernelIdeal_DxReferenceIdeal := fun m g m' g' _ hm =>
  ⟨fun c => grad m c,
    (θ_run defs _ _).mono (fun r h c => ⟨h.1 c, h.2 c⟩) (θ_run_and (run m g) (unchanged m g)),
    (θ_run Cert.DxReferenceIdeal.defs _ _).mono (fun r h c =>
        ⟨(h c).1.trans ((Cert.DxReferenceIdeal.Read.val_main_v2_eq _ _).trans (by
          rw [(hm c).1, (hm c).2]
          exact funext fun i => reference_eq _ _ i)),
          (h c).2⟩)
        (Cert.DxReferenceIdeal.Value.run (F := Ideal) m' g')⟩

end Cert.DxKernelIdeal.Mm
end
end
-- ==== Proof.Dw.lean ====
module

public import proofs.«01_k».proof.Defs
public import proofs.«01_k».proof.Proof.Products
public import proofs.«01_k».proof.Proof.Gen.DwReferenceIdeal.Run
public import proofs.«01_k».proof.Proof.Gen.DwKernelIdeal.Frame
public import Idealize.ShloMosaic.Lib.Pipeline.Value
public import proofs.«01_k».proof.Proof.Gen.DwReferenceIdeal.Read
public import Idealize.ShloMosaic.Lib.VecWindow
public import Idealize.ShloMosaic.Lib.Pointwise

/-! A weight's gradient: the tiled product of the activations, transposed, with the cotangent. -/

@[expose] public section

noncomputable section

namespace Cert.DwKernelIdeal.Mm

open Idealize.ShloMosaic Idealize.ShloMosaic.TcCoe Cert.DwKernelIdeal.Gen Cert.DwKernelIdeal
open Idealize.SL Idealize.SL.Sem
open Cert.Mm Finset

section
variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1024x1024 .f32) (harg6 : arg6.IsWhole)
  (x0 x1 : Vec Ideal S1024x1024 .bf16) (xs0 : Vec Ideal S1024x1024 .f32)

theorem set_A (h0 : cond0_0 i) (h1 : ¬cond0_1 i) :
    sout0_A_0 c i arg3 harg3 arg4 harg4 arg5 harg5 arg6 harg6 h0 h1 x0 x1 = k0_pay2 k0_pay1 x0 x1 := by
  unfold sout0_A_0 kernelRun0_A
  dsimp only
  simp only [kernelRun0_A.sl.v3, kernelRun0_A.sl.HS0_1, read_stored, load_stored, cov_stored, load_whole]

theorem add_B (h0 : ¬cond0_0 i) (h1 : ¬cond0_1 i) :
    sout0_B_0 c i arg3 harg3 arg4 harg4 arg5 harg5 arg6 harg6 h0 h1 x0 x1 xs0 = k0_pay2 xs0 x0 x1 := by
  unfold sout0_B_0 kernelRun0_B
  dsimp only
  simp only [read_stored, load_stored, cov_stored, load_whole]

theorem add_C (h0 : ¬cond0_0 i) (h1 : cond0_1 i) :
    sout0_C_0 c i arg3 harg3 arg4 harg4 arg5 harg5 arg6 harg6 h0 h1 x0 x1 xs0 = k0_pay2 xs0 x0 x1 := by
  unfold sout0_C_0 kernelRun0_C
  dsimp only
  simp only [kernelRun0_C.sl.HS0_1, kernelRun0_C.sl.v14, read_stored, load_stored, cov_stored, load_whole]

theorem out_C (h0 : ¬cond0_0 i) (h1 : cond0_1 i) :
    out0_C_2 c i arg3 harg3 arg4 harg4 arg5 harg5 arg6 harg6 h0 h1 x0 x1 xs0 = k0_pay2 xs0 x0 x1 := by
  unfold out0_C_2 kernelRun0_C
  dsimp only
  simp only [kernelRun0_C.sl.HS0_1, kernelRun0_C.sl.v14, read_stored, load_stored, cov_stored, load_whole]

theorem pay2_apply (r q : Fin 1024) :
    k0_pay2 xs0 x0 x1 (ix2 r q) = xs0 (ix2 r q) + ∑ k : Fin 1024, x0 (ix2 k r) * x1 (ix2 k q) := by
  simp only [k0_pay2, shapeCast_self]
  pointwise
  done

theorem pay1_apply (y : S1024x1024.Idx) : k0_pay1 (F := Ideal) y = 0 := by
  simp only [k0_pay1, shapeCast_self]
  pointwise
  done
end

/-! ## At a grid point -/

theorem index0 : ∀ t : Fin grid0.N, win0_0.index t (0 : Fin 2) = t.val % 8 ∧ win0_0.index t (1 : Fin 2) = t.val / 16 := by
  decide +kernel
theorem index1 : ∀ t : Fin grid0.N, win0_1.index t (0 : Fin 2) = t.val % 8 ∧ win0_1.index t (1 : Fin 2) = t.val / 8 % 2 := by
  decide +kernel
theorem index2 : ∀ t : Fin grid0.N, win0_2.index t (0 : Fin 2) = t.val / 16 ∧ win0_2.index t (1 : Fin 2) = t.val / 8 % 2 := by
  decide +kernel

variable (m : (ℓ : Loc nD τ sig) → Buf (Elt Ideal) ℓ) (c : Dev nD)

/-- The activations. -/
abbrev X : Vec Ideal S8192x2048 .bf16 := m ((c : Thread nD τ).loc main_arg0)
/-- The cotangent. -/
abbrev Y : Vec Ideal S8192x2048 .bf16 := m ((c : Thread nD τ).loc main_arg1)

theorem blk0 (t : Fin cfg0.N) (k r : Fin 1024) :
    iblk m c 0 t (ix2 k r) = at2 (X m c) (1024 * (t.val % 8) + k) (1024 * (t.val / 16) + r) := by
  unfold iblk
  rw [View.read_apply]
  refine Eq.trans (at2_eq (V m c main_arg0) _ (r := 1024 * (t.val % 8) + k) (c := 1024 * (t.val / 16) + r) ?_ ?_) ?_
  · show win0_0.index t 0 * 1024 + 1 * k.val = _
    rw [(index0 t).1]; omega
  · show win0_0.index t 1 * 1024 + 1 * r.val = _
    rw [(index0 t).2]; omega
  · rw [V_main_arg0]

theorem blk1 (t : Fin cfg0.N) (k q : Fin 1024) :
    iblk m c 1 t (ix2 k q) = at2 (Y m c) (1024 * (t.val % 8) + k) (1024 * (t.val / 8 % 2) + q) := by
  unfold iblk
  rw [View.read_apply]
  refine Eq.trans (at2_eq (V m c main_arg1) _ (r := 1024 * (t.val % 8) + k) (c := 1024 * (t.val / 8 % 2) + q) ?_ ?_) ?_
  · show win0_1.index t 0 * 1024 + 1 * k.val = _
    rw [(index1 t).1]; omega
  · show win0_1.index t 1 * 1024 + 1 * q.val = _
    rw [(index1 t).2]; omega
  · rw [V_main_arg1]

/-- What the rows `u` bring to the entry at `a`, `b`. -/
def term (a b u : ℕ) : EReal := at2 (X m c) u a * at2 (Y m c) u b

/-- What point `n` adds at `r`, `q` of its block. -/
def brought (r q : Fin 1024) (n : ℕ) : EReal :=
  ∑ k : Fin 1024, term m c (1024 * (n / 16) + r) (1024 * (n / 8 % 2) + q) (1024 * (n % 8) + k)

theorem dot_point (t : Fin cfg0.N) (r q : Fin 1024) :
    ∑ k : Fin 1024, (show EReal from iblk m c 0 t (ix2 k r)) * (show EReal from iblk m c 1 t (ix2 k q)) = brought m c r q t :=
  sum_congr rfl fun k _ => by rw [blk0, blk1]; rfl

theorem acc_first (t : Fin cfg0.N) (h0 : t.val % 8 = 0) (r q : Fin 1024) :
    (outsAt0 m c t.val t.isLt).2 (ix2 r q) = brought m c r q t := by
  rw [outsAt0_A m c t h0 (by omega)]
  dsimp only
  rw [set_A, pay2_apply, pay1_apply, zero_add, dot_point]

theorem acc_next (t : Fin cfg0.N) (h0 : ¬t.val % 8 = 0) (r q : Fin 1024) :
    (outsAt0 m c t.val t.isLt).2 (ix2 r q) = (outsAt0 m c (t.val - 1) (by omega)).2 (ix2 r q) + brought m c r q t := by
  by_cases h1 : t.val % 8 = 7
  · rw [outsAt0_C m c t h0 h1]
    dsimp only
    rw [add_C, pay2_apply, dot_point]
  · rw [outsAt0_B m c t h0 h1]
    dsimp only
    rw [add_B, pay2_apply, dot_point]

theorem out_last (t : Fin cfg0.N) (h1 : t.val % 8 = 7) : (outsAt0 m c t.val t.isLt).1 = (outsAt0 m c t.val t.isLt).2 := by
  rw [outsAt0_C m c t (by omega) h1]
  dsimp only
  rw [add_C, out_C]

/-- What the last point of a run writes: the sum over all rows. -/
theorem written (t : Fin cfg0.N) (h1 : t.val % 8 = 7) (r q : Fin 1024) :
    (outsAt0 m c t.val t.isLt).1 (ix2 r q)
      = ∑ u ∈ range 8192, term m c (1024 * (t.val / 16) + r) (1024 * (t.val / 8 % 2) + q) u := by
  rw [out_last m c t h1,
    accumulated (K := 8) (fun n h => (outsAt0 m c n h).2 (ix2 r q)) (brought m c r q)
      (fun n h h0 => acc_first m c ⟨n, h⟩ h0 r q) (fun n h h0 => acc_next m c ⟨n, h⟩ h0 r q) t.val t.isLt,
    h1, show (8192 : ℕ) = 1024 * (7 + 1) from rfl, ← sum_blocks]
  refine sum_congr rfl fun s hs => ?_
  have h8 := mem_range.mp hs
  unfold brought
  rw [show (8 * (t.val / 8) + s) / 16 = t.val / 16 by omega, show (8 * (t.val / 8) + s) / 8 % 2 = t.val / 8 % 2 by omega,
    show (8 * (t.val / 8) + s) % 8 = s by omega]

/-! ## The result -/

/-- The gradient: activations transposed times cotangent. -/
def grad : Vec Ideal S2048x2048 .f32 := fun i => ∑ u ∈ range 8192, term m c (i 0).val (i 1).val u

theorem flushed (t : Fin cfg0.N) (hf : (cfg0.win 2).flush t = true) :
    (dats m 0 c).flushed 2 t = ((cfg0.win 2).blk t).view.read (Elt Ideal) (grad m c) := by
  show (cfg0.win 2).cut (grid0.coords t) ((dats m 0 c).after 2 t) = _
  rw [after0_2]
  have h1 : t.val % 8 = 7 := (flush0_2 t).mp hf
  funext y
  rw [View.read_apply]
  have h := written m c t h1 (⟨(y 0).val, (y 0).isLt⟩ : Fin 1024) (⟨(y 1).val, (y 1).isLt⟩ : Fin 1024)
  have e0 : (((cfg0.win 2).blk t).view.emb y 0).val = 1024 * (t.val / 16) + (y 0).val := by
    show win0_2.index t 0 * 1024 + 1 * (y 0).val = _
    rw [(index2 t).1]; omega
  have e1 : (((cfg0.win 2).blk t).view.emb y 1).val = 1024 * (t.val / 8 % 2) + (y 1).val := by
    show win0_2.index t 1 * 1024 + 1 * (y 1).val = _
    rw [(index2 t).2]; omega
  have hx : (cfg0.win 2).xinj (grid0.coords t) y = ix2 (⟨(y 0).val, (y 0).isLt⟩ : Fin 1024) (⟨(y 1).val, (y 1).isLt⟩ : Fin 1024) := by
    funext a
    match a with
    | ⟨0, _⟩ => rfl
    | ⟨1, _⟩ => rfl
  have hg : grad m c (((cfg0.win 2).blk t).view.emb y)
      = ∑ u ∈ range 8192, term m c (1024 * (t.val / 16) + (y 0).val) (1024 * (t.val / 8 % 2) + (y 1).val) u := by
    unfold grad
    rw [e0, e1]
  dsimp only at h
  refine (congrArg (outsAt0 m c t.val t.isLt).1 hx).trans ?_
  rw [h, ← hg]
  exact (cast_eq _ _).symm

theorem covered (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 32 := N_0
  refine ⟨⟨16 * ((i 0).val / 1024) + 8 * ((i 1).val / 1024) + 7, by omega⟩, (flush0_2 _).mpr (by dsimp only; omega), ?_⟩
  generalize ht : (⟨16 * ((i 0).val / 1024) + 8 * ((i 1).val / 1024) + 7, _⟩ : Fin cfg0.N) = t
  have htv : t.val = 16 * ((i 0).val / 1024) + 8 * ((i 1).val / 1024) + 7 := by rw [← ht]
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [(index2 t).1]; omega
  | ⟨1, _⟩ =>
    show win0_2.index t (1 : Fin 2) * 1024 ≤ (i 1).val ∧ (i 1).val < win0_2.index t (1 : Fin 2) * 1024 + 1024
    rw [(index2 t).2]; omega

/-- The kernel's run leaves the gradient in its result and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0) = grad m c :=
  (θ_run defs _ _).mono (fun r h c => ((h c).1 2).trans
    ((dats m 0 c).arrAt_eq_of_cover 2 _ (fun t hf => flushed m c t hf) covered)) (run_main m ρ)

/-! ## The reference -/

theorem reference_eq (x y : Vec Ideal S8192x2048 .bf16) (i : S2048x2048.Idx) :
    Cert.DwReferenceIdeal.Read.val_main_v3 (F := Ideal) x y i = ∑ u ∈ range 8192, at2 x u (i 0).val * at2 y u (i 1).val := by
  rw [Cert.DwReferenceIdeal.Read.val_main_v3_apply, Cert.DwReferenceIdeal.Read.val_main_v2_apply, sum_range]
  refine sum_congr rfl fun k _ => ?_
  rw [mul_comm, Cert.DwReferenceIdeal.Read.val_main_v0_apply, Cert.DwReferenceIdeal.Read.val_main_v1_apply]
  exact congrArg₂ (· * ·) (at2_eq x _ rfl rfl) (at2_eq y _ rfl rfl)

/-- Over the reals, the kernel's gradient is the reference's. -/
theorem values : Cert.algebraic_DwKernelIdeal_DwReferenceIdeal := fun m g m' g' _ hm =>
  ⟨fun c => grad m c,
    (θ_run defs _ _).mono (fun r h c => ⟨h.1 c, h.2 c⟩) (θ_run_and (run m g) (unchanged m g)),
    (θ_run Cert.DwReferenceIdeal.defs _ _).mono (fun r h c =>
        ⟨(h c).1.trans ((Cert.DwReferenceIdeal.Read.val_main_v3_eq _ _).trans (by
          rw [(hm c).1, (hm c).2]
          exact funext fun i => reference_eq _ _ i)),
          (h c).2⟩)
        (Cert.DwReferenceIdeal.Value.run (F := Ideal) m' g')⟩

end Cert.DwKernelIdeal.Mm
end
end
-- ==== Proof.DhRef.lean ====
module

public import proofs.«01_k».proof.Proof.Products
public import proofs.«01_k».proof.Proof.Gen.DhReferenceIdeal.Read
public import Idealize.ShloMosaic.Lib.KernelVsHost

/-! The gradient of the input projection's activations, as the reference computes it: one product of the joined
    cotangents with the whole weight, and how its sum splits into the large and the small columns. -/

@[expose] public section

noncomputable section

namespace Cert.Dh

open Idealize.ShloMosaic Finset Cert.Mm

/-- Matrices joined along their columns, at a column that lies in the piece `k`. -/
theorem piece {R W C : ℕ} (xs : List ((s : Shape) × (s.Idx → EReal))) (h : Shape.Concatenates (xs.map (·.1)) (⟨2, ![R, W]⟩ : Shape) 1)
    (ss : List Shape) (hss : xs.map (·.1) = ss) (k : ℕ) (x : (⟨2, ![R, C]⟩ : Shape).Idx → EReal) (hx : xs[k]? = some ⟨⟨2, ![R, C]⟩, x⟩)
    (pre : ℕ)
    (hpre : ((ss.take k).map fun s => if h : s.rank = (⟨2, ![R, W]⟩ : Shape).rank then s.size ((1 : Fin 2).cast h.symm) else 0).sum = pre)
    (r : Fin R) (u : Fin W) (h₁ : pre ≤ u.val) (h₂ : u.val < pre + C) :
    concatenate (⟨2, ![R, W]⟩ : Shape) 1 xs h (ix2 r u) = at2 x r (u - pre) := by
  rw [at2_of_lt x r.isLt (show u.val - pre < C by omega)]
  obtain ⟨hk, hxk⟩ := List.getElem?_eq_some_iff.mp hx
  exact concatenate_apply_piece (1 : Fin 2) xs h (ix2 r u) k hk _ x hxk rfl pre (by rw [List.map_take, hss]; exact hpre)
    (ix2 r (⟨u.val - pre, by omega⟩ : Fin C))
    (fun b => match b with
      | ⟨0, _⟩ => fun _ => rfl
      | ⟨1, _⟩ => fun hb => absurd rfl hb) (Nat.add_sub_cancel' h₁)

/-- The widths joined by the reference. -/
abbrev widths : List Shape := [⟨2, ![8192, 2048]⟩, ⟨2, ![8192, 2048]⟩, ⟨2, ![8192, 2048]⟩, ⟨2, ![8192, 2048]⟩, ⟨2, ![8192, 6144]⟩,
  ⟨2, ![8192, 2048]⟩, ⟨2, ![8192, 32]⟩, ⟨2, ![8192, 2048]⟩, ⟨2, ![8192, 2048]⟩]

/-- The cotangents of the large columns, joined: the entry at row `r` and column `u`. -/
def joint (x0 x1 x2 x3 : (⟨2, ![8192, 2048]⟩ : Shape).Idx → EReal) (x4 : (⟨2, ![8192, 6144]⟩ : Shape).Idx → EReal)
    (x5 x6 x7 : (⟨2, ![8192, 2048]⟩ : Shape).Idx → EReal) (r u : ℕ) : EReal :=
  if u < 2048 then at2 x0 r u else if u < 4096 then at2 x1 r (u - 2048) else if u < 6144 then at2 x2 r (u - 4096)
  else if u < 8192 then at2 x3 r (u - 6144) else if u < 14336 then at2 x4 r (u - 8192) else if u < 16384 then at2 x5 r (u - 14336)
  else if u < 18432 then at2 x6 r (u - 16384) else at2 x7 r (u - 18432)

variable (x0 x1 x2 x3 : Vec Ideal Cert.DhReferenceIdeal.S8192x2048 .bf16) (x4 : Vec Ideal Cert.DhReferenceIdeal.S8192x6144 .bf16)
  (x5 x6 x7 : Vec Ideal Cert.DhReferenceIdeal.S8192x2048 .bf16) (x8 : Vec Ideal Cert.DhReferenceIdeal.S8192x128 .f32)
  (x9 : Vec Ideal Cert.DhReferenceIdeal.S2048x20512 .bf16)

/-- The reference's joined cotangents: the small columns lie between the large ones. -/
theorem joint_ref (r : Fin 8192) (u : Fin 20512) :
    Cert.DhReferenceIdeal.Read.val_main_v9 (F := Ideal) x0 x1 x2 x3 x4 x5 x6 x7 x8 (ix2 r u)
      = if u.val < 16384 then joint x0 x1 x2 x3 x4 x5 x6 x7 r u
        else if u.val < 16416 then at2 x8 r (u - 16384) else joint x0 x1 x2 x3 x4 x5 x6 x7 r (u - 32) := by
  unfold Cert.DhReferenceIdeal.Read.val_main_v9 joint
  split_ifs
  any_goals omega
  · exact piece _ _ widths rfl 0 _ rfl 0 (by decide +kernel) r u (by omega) (by omega)
  · exact piece _ _ widths rfl 1 _ rfl 2048 (by decide +kernel) r u (by omega) (by omega)
  · exact piece _ _ widths rfl 2 _ rfl 4096 (by decide +kernel) r u (by omega) (by omega)
  · exact piece _ _ widths rfl 3 _ rfl 6144 (by decide +kernel) r u (by omega) (by omega)
  · exact piece _ _ widths rfl 4 _ rfl 8192 (by decide +kernel) r u (by omega) (by omega)
  · exact piece _ _ widths rfl 5 _ rfl 14336 (by decide +kernel) r u (by omega) (by omega)
  · refine (piece _ _ widths rfl 6 _ rfl 16384 (by decide +kernel) r u (by omega) (by omega)).trans ?_
    rw [at2_of_lt _ r.isLt (by omega)]
    exact (sliced x8 _ _ _).trans (congrArg (at2 x8 r) (Nat.zero_add _))
  · refine (piece _ _ widths rfl 7 _ rfl 16416 (by decide +kernel) r u (by omega) (by omega)).trans ?_
    exact congrArg (at2 x6 r) (by omega)
  · refine (piece _ _ widths rfl 8 _ rfl 18464 (by decide +kernel) r u (by omega) (by omega)).trans ?_
    exact congrArg (at2 x7 r) (by omega)

/-- The weight's small columns padded with a value, at an entry. -/
theorem padded {R : ℕ} (w : (⟨2, ![R, 20512]⟩ : Shape).Idx → EReal) (hs : Shape.Slices (⟨2, ![R, 20512]⟩ : Shape) ![0, 16384] ⟨2, ![R, 32]⟩)
    {t : Shape} (v : t.Idx → EReal) (h : Shape.Pads (⟨2, ![R, 32]⟩ : Shape) ![0, 0] ![0, 96] ![0, 0] ⟨2, ![R, 128]⟩) (hu : 0 < t.numel)
    (r : Fin R) (k : Fin 128) :
    pad (⟨2, ![R, 128]⟩ : Shape) ![0, 0] ![0, 96] ![0, 0] (extractStridedSlice ⟨2, ![R, 32]⟩ ![0, 16384] w hs) v h hu (ix2 r k)
      = if k.val < 32 then at2 w r (16384 + k) else v (Shape.Idx.first hu) := by
  split
  · rename_i hk
    refine (pad_apply_of_inside _ _ _ _ v h hu (ix2 r k) (ix2 r (⟨k.val, hk⟩ : Fin 32)) (fun a => match a with
      | ⟨0, _⟩ => ((Nat.zero_add _).trans (Nat.mul_one _)).symm
      | ⟨1, _⟩ => ((Nat.zero_add _).trans (Nat.mul_one _)).symm)).trans ?_
    exact sliced w hs r _
  · rename_i hk
    refine pad_apply_of_not_inside _ _ _ _ v h hu (ix2 r k) 1 fun ha => hk ?_
    have h3 : (k.val - 0) / 1 < 32 := ha.2.2
    omega

/-- A sum over columns, the small ones among them, is the sum over the large ones and the sum over the small ones with
    zeros after them. -/
theorem regroup (a b c d : ℕ) (f g s : ℕ → EReal) (h₁ : ∀ u < a, f u = g u) (h₂ : ∀ u < c, f (a + b + u) = g (a + u))
    (h₃ : ∀ k < b, f (a + k) = s k) (h₄ : ∀ k < d, s (b + k) = 0) :
    ∑ u ∈ range (a + b + c), f u = ∑ u ∈ range (a + c), g u + ∑ k ∈ range (b + d), s k := by
  rw [sum_range_add, sum_range_add, sum_range_add _ a c, sum_range_add _ b d,
    sum_congr rfl fun u hu => h₁ u (mem_range.mp hu), sum_congr rfl fun u hu => h₂ u (mem_range.mp hu),
    sum_congr rfl fun u hu => h₃ u (mem_range.mp hu), sum_eq_zero (s := range d) fun u hu => h₄ u (mem_range.mp hu), add_zero]
  exact add_right_comm _ _ _

end Cert.Dh
end
end
-- ==== Proof.DhBlocks.lean ====
module

public import proofs.«01_k».proof.Proof.DhRef
public import proofs.«01_k».proof.Proof.Gen.DhKernelIdeal.Frame.Runs
public import Idealize.ShloMosaic.Lib.VecWindow
public import Idealize.ShloMosaic.Lib.StableHlo.Run
public import Idealize.ShloMosaic.Lib.Pointwise

/-! The gradient of the input projection's activations: the weight as the host cuts it, and the blocks of the
    cotangents and of the weight that each grid point multiplies. -/

@[expose] public section

noncomputable section

namespace Cert.DhKernelIdeal.Mm

open Idealize.ShloMosaic Idealize.ShloMosaic.TcCoe Cert.DhKernelIdeal.Gen Cert.DhKernelIdeal
open Idealize.SL Idealize.SL.Sem Idealize.ShloMosaic.StableHlo
open Cert.Mm Cert.Dh Finset

variable (m : (ℓ : Loc nD τ sig) → Buf (Elt Ideal) ℓ) (c : Dev nD)

/-! ## The host's part -/

/-- The input weight. -/
abbrev Wt : Vec Ideal S2048x20512 .bf16 := m ((c : Thread nD τ).loc main_arg9)
/-- The cotangents of the small columns. -/
abbrev Sm : Vec Ideal S8192x128 .f32 := m ((c : Thread nD τ).loc main_arg8)
/-- The weight's large columns, as the host joins them. -/
def big : Vec Ideal S2048x20480 .bf16 := V m c main_v2
/-- The weight's small columns, as the host pads them. -/
def small : Vec Ideal S2048x128 .bf16 := V m c main_v4
/-- The cotangents of the large columns, joined. -/
def ct (r u : ℕ) : EReal :=
  joint (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) r u

theorem big_apply (u j : ℕ) (hu : u < 2048) (hj : j < 20480) : at2 (big m c) u j = at2 (Wt m c) u (col j) := by
  rw [at2_of_lt _ hu hj]
  have e : big m c = concatenate S2048x20480 1 [⟨S2048x16384, extractStridedSlice S2048x16384 ![0, 0] (Wt m c) slices_S2048x20512_S2048x16384_0_0⟩,
      ⟨S2048x4096, extractStridedSlice S2048x4096 ![0, 16416] (Wt m c) slices_S2048x20512_S2048x4096_0_16416⟩] concatenates_S2048x16384_S2048x4096_S2048x20480_d1 := by
    unfold big V
    simp only [hostOps0, hostOps0_1, List.flatten_cons, List.flatten_nil, List.append_nil, List.cons_append, List.nil_append]
    after_results_simp
    rfl
  rw [e]
  exact joined (Wt m c) _ _ _ _ _

theorem small_apply (u k : ℕ) (hu : u < 2048) (hk : k < 128) :
    at2 (small m c) u k = if k < 32 then at2 (Wt m c) u (16384 + k) else 0 := by
  rw [at2_of_lt _ hu hk]
  have e : small m c = pad S2048x128 ![0, 0] ![0, 96] ![0, 0]
      (extractStridedSlice S2048x32 ![0, 16384] (Wt m c) slices_S2048x20512_S2048x32_0_16384) (sitofp (F := Ideal) .bf16 (constantI S_ 32 0#32))
      pads_S2048x32_S2048x128_000_0960 h_S_ := by
    unfold small V
    simp only [hostOps0, hostOps0_1, List.flatten_cons, List.flatten_nil, List.append_nil, List.cons_append, List.nil_append]
    after_results_simp
    rfl
  rw [e]
  refine (padded (Wt m c) _ _ _ _ _ _).trans ?_
  dsimp only
  congr 1
  show (((0#32 : BitVec 32).toInt : ℝ) : EReal) = 0
  simp

/-! ## The blocks at a grid point -/

theorem index0 : ∀ t : Fin grid0.N, t.val % 41 ≤ 3 → win0_0.index t (0 : Fin 2) = t.val / 82 ∧ win0_0.index t (1 : Fin 2) = t.val % 41 := by
  decide +kernel
theorem index1 : ∀ t : Fin grid0.N, t.val % 41 ≤ 3 → win0_1.index t (0 : Fin 2) = t.val / 41 % 2 ∧ win0_1.index t (1 : Fin 2) = t.val % 41 := by
  decide +kernel

theorem index2 : ∀ t : Fin grid0.N, 4 ≤ t.val % 41 ∧ t.val % 41 ≤ 7 → win0_2.index t (0 : Fin 2) = t.val / 82 ∧ win0_2.index t (1 : Fin 2) = t.val % 41 - 4 := by
  decide +kernel
theorem index3 : ∀ t : Fin grid0.N, 4 ≤ t.val % 41 ∧ t.val % 41 ≤ 7 → win0_3.index t (0 : Fin 2) = t.val / 41 % 2 ∧ win0_3.index t (1 : Fin 2) = t.val % 41 := by
  decide +kernel

theorem index4 : ∀ t : Fin grid0.N, 8 ≤ t.val % 41 ∧ t.val % 41 ≤ 11 → win0_4.index t (0 : Fin 2) = t.val / 82 ∧ win0_4.index t (1 : Fin 2) = t.val % 41 - 8 := by
  decide +kernel
theorem index5 : ∀ t : Fin grid0.N, 8 ≤ t.val % 41 ∧ t.val % 41 ≤ 11 → win0_5.index t (0 : Fin 2) = t.val / 41 % 2 ∧ win0_5.index t (1 : Fin 2) = t.val % 41 := by
  decide +kernel

theorem index6 : ∀ t : Fin grid0.N, 12 ≤ t.val % 41 ∧ t.val % 41 ≤ 15 → win0_6.index t (0 : Fin 2) = t.val / 82 ∧ win0_6.index t (1 : Fin 2) = t.val % 41 - 12 := by
  decide +kernel
theorem index7 : ∀ t : Fin grid0.N, 12 ≤ t.val % 41 ∧ t.val % 41 ≤ 15 → win0_7.index t (0 : Fin 2) = t.val / 41 % 2 ∧ win0_7.index t (1 : Fin 2) = t.val % 41 := by
  decide +kernel

theorem index8 : ∀ t : Fin grid0.N, 16 ≤ t.val % 41 ∧ t.val % 41 ≤ 27 → win0_8.index t (0 : Fin 2) = t.val / 82 ∧ win0_8.index t (1 : Fin 2) = t.val % 41 - 16 := by
  decide +kernel
theorem index9 : ∀ t : Fin grid0.N, 16 ≤ t.val % 41 ∧ t.val % 41 ≤ 27 → win0_9.index t (0 : Fin 2) = t.val / 41 % 2 ∧ win0_9.index t (1 : Fin 2) = t.val % 41 := by
  decide +kernel

theorem index10 : ∀ t : Fin grid0.N, 28 ≤ t.val % 41 ∧ t.val % 41 ≤ 31 → win0_10.index t (0 : Fin 2) = t.val / 82 ∧ win0_10.index t (1 : Fin 2) = t.val % 41 - 28 := by
  decide +kernel
theorem index11 : ∀ t : Fin grid0.N, 28 ≤ t.val % 41 ∧ t.val % 41 ≤ 31 → win0_11.index t (0 : Fin 2) = t.val / 41 % 2 ∧ win0_11.index t (1 : Fin 2) = t.val % 41 := by
  decide +kernel

theorem index12 : ∀ t : Fin grid0.N, 32 ≤ t.val % 41 ∧ t.val % 41 ≤ 35 → win0_12.index t (0 : Fin 2) = t.val / 82 ∧ win0_12.index t (1 : Fin 2) = t.val % 41 - 32 := by
  decide +kernel
theorem index13 : ∀ t : Fin grid0.N, 32 ≤ t.val % 41 ∧ t.val % 41 ≤ 35 → win0_13.index t (0 : Fin 2) = t.val / 41 % 2 ∧ win0_13.index t (1 : Fin 2) = t.val % 41 := by
  decide +kernel

theorem index14 : ∀ t : Fin grid0.N, 36 ≤ t.val % 41 ∧ t.val % 41 ≤ 39 → win0_14.index t (0 : Fin 2) = t.val / 82 ∧ win0_14.index t (1 : Fin 2) = t.val % 41 - 36 := by
  decide +kernel
theorem index15 : ∀ t : Fin grid0.N, 36 ≤ t.val % 41 ∧ t.val % 41 ≤ 39 → win0_15.index t (0 : Fin 2) = t.val / 41 % 2 ∧ win0_15.index t (1 : Fin 2) = t.val % 41 := by
  decide +kernel

theorem index16 : ∀ t : Fin grid0.N, win0_16.index t (0 : Fin 2) = t.val / 82 ∧ win0_16.index t (1 : Fin 2) = 0 := by
  decide +kernel
theorem index17 : ∀ t : Fin grid0.N, win0_17.index t (0 : Fin 2) = t.val / 41 % 2 ∧ win0_17.index t (1 : Fin 2) = 0 := by
  decide +kernel
theorem index18 : ∀ t : Fin grid0.N, win0_18.index t (0 : Fin 2) = t.val / 82 ∧ win0_18.index t (1 : Fin 2) = t.val / 41 % 2 := by
  decide +kernel

/-- What point `n` adds at `r`, `q` of its block: at the last point of a run the small columns, at the others 512 of
    the large ones. -/
def brought (r q : Fin 1024) (n : ℕ) : EReal :=
  if n % 41 < 40 then ∑ k : Fin 512, ct m c (1024 * (n / 82) + r) (512 * (n % 41) + k) * at2 (big m c) (1024 * (n / 41 % 2) + q) (512 * (n % 41) + k)
  else ∑ k : Fin 128, at2 (Sm m c) (1024 * (n / 82) + r) k * at2 (small m c) (1024 * (n / 41 % 2) + q) k

/-- Pair 0: what its two blocks bring. -/
theorem dot0 (t : Fin cfg0.N) (h : t.val % 41 ≤ 3) (r q : Fin 1024) :
    ∑ k : Fin 512, (show EReal from iblk m c 0 t (ix2 r k)) * (show EReal from iblk m c 1 t (ix2 q k)) = brought m c r q t := by
  unfold brought
  rw [if_pos (by omega)]
  refine sum_congr rfl fun k _ => congrArg₂ (· * ·) ?_ ?_
  · unfold iblk
    rw [View.read_apply]
    refine (at2_eq (V m c main_arg0) _ (r := 1024 * (t.val / 82) + r) (c := 512 * (t.val % 41) + k) ?_ ?_).trans ?_
    · show win0_0.index t 0 * 1024 + 1 * r.val = _
      rw [(index0 t h).1]; omega
    · show win0_0.index t 1 * 512 + 1 * k.val = _
      rw [(index0 t h).2]; omega
    · rw [V_main_arg0]
      unfold ct joint
      have hk := k.isLt
      split_ifs <;> first | omega | exact congrArg (at2 _ _) (by omega)
  · unfold iblk
    rw [View.read_apply]
    refine at2_eq (V m c main_v2) _ ?_ ?_
    · show win0_1.index t 0 * 1024 + 1 * q.val = _
      rw [(index1 t h).1]; omega
    · show win0_1.index t 1 * 512 + 1 * k.val = _
      rw [(index1 t h).2]; omega

/-- Pair 1: what its two blocks bring. -/
theorem dot1 (t : Fin cfg0.N) (h : 4 ≤ t.val % 41 ∧ t.val % 41 ≤ 7) (r q : Fin 1024) :
    ∑ k : Fin 512, (show EReal from iblk m c 2 t (ix2 r k)) * (show EReal from iblk m c 3 t (ix2 q k)) = brought m c r q t := by
  unfold brought
  rw [if_pos (by omega)]
  refine sum_congr rfl fun k _ => congrArg₂ (· * ·) ?_ ?_
  · unfold iblk
    rw [View.read_apply]
    refine (at2_eq (V m c main_arg1) _ (r := 1024 * (t.val / 82) + r) (c := 512 * (t.val % 41 - 4) + k) ?_ ?_).trans ?_
    · show win0_2.index t 0 * 1024 + 1 * r.val = _
      rw [(index2 t h).1]; omega
    · show win0_2.index t 1 * 512 + 1 * k.val = _
      rw [(index2 t h).2]; omega
    · rw [V_main_arg1]
      unfold ct joint
      have hk := k.isLt
      split_ifs <;> first | omega | exact congrArg (at2 _ _) (by omega)
  · unfold iblk
    rw [View.read_apply]
    refine at2_eq (V m c main_v2) _ ?_ ?_
    · show win0_3.index t 0 * 1024 + 1 * q.val = _
      rw [(index3 t h).1]; omega
    · show win0_3.index t 1 * 512 + 1 * k.val = _
      rw [(index3 t h).2]; omega

/-- Pair 2: what its two blocks bring. -/
theorem dot2 (t : Fin cfg0.N) (h : 8 ≤ t.val % 41 ∧ t.val % 41 ≤ 11) (r q : Fin 1024) :
    ∑ k : Fin 512, (show EReal from iblk m c 4 t (ix2 r k)) * (show EReal from iblk m c 5 t (ix2 q k)) = brought m c r q t := by
  unfold brought
  rw [if_pos (by omega)]
  refine sum_congr rfl fun k _ => congrArg₂ (· * ·) ?_ ?_
  · unfold iblk
    rw [View.read_apply]
    refine (at2_eq (V m c main_arg2) _ (r := 1024 * (t.val / 82) + r) (c := 512 * (t.val % 41 - 8) + k) ?_ ?_).trans ?_
    · show win0_4.index t 0 * 1024 + 1 * r.val = _
      rw [(index4 t h).1]; omega
    · show win0_4.index t 1 * 512 + 1 * k.val = _
      rw [(index4 t h).2]; omega
    · rw [V_main_arg2]
      unfold ct joint
      have hk := k.isLt
      split_ifs <;> first | omega | exact congrArg (at2 _ _) (by omega)
  · unfold iblk
    rw [View.read_apply]
    refine at2_eq (V m c main_v2) _ ?_ ?_
    · show win0_5.index t 0 * 1024 + 1 * q.val = _
      rw [(index5 t h).1]; omega
    · show win0_5.index t 1 * 512 + 1 * k.val = _
      rw [(index5 t h).2]; omega

/-- Pair 3: what its two blocks bring. -/
theorem dot3 (t : Fin cfg0.N) (h : 12 ≤ t.val % 41 ∧ t.val % 41 ≤ 15) (r q : Fin 1024) :
    ∑ k : Fin 512, (show EReal from iblk m c 6 t (ix2 r k)) * (show EReal from iblk m c 7 t (ix2 q k)) = brought m c r q t := by
  unfold brought
  rw [if_pos (by omega)]
  refine sum_congr rfl fun k _ => congrArg₂ (· * ·) ?_ ?_
  · unfold iblk
    rw [View.read_apply]
    refine (at2_eq (V m c main_arg3) _ (r := 1024 * (t.val / 82) + r) (c := 512 * (t.val % 41 - 12) + k) ?_ ?_).trans ?_
    · show win0_6.index t 0 * 1024 + 1 * r.val = _
      rw [(index6 t h).1]; omega
    · show win0_6.index t 1 * 512 + 1 * k.val = _
      rw [(index6 t h).2]; omega
    · rw [V_main_arg3]
      unfold ct joint
      have hk := k.isLt
      split_ifs <;> first | omega | exact congrArg (at2 _ _) (by omega)
  · unfold iblk
    rw [View.read_apply]
    refine at2_eq (V m c main_v2) _ ?_ ?_
    · show win0_7.index t 0 * 1024 + 1 * q.val = _
      rw [(index7 t h).1]; omega
    · show win0_7.index t 1 * 512 + 1 * k.val = _
      rw [(index7 t h).2]; omega

/-- Pair 4: what its two blocks bring. -/
theorem dot4 (t : Fin cfg0.N) (h : 16 ≤ t.val % 41 ∧ t.val % 41 ≤ 27) (r q : Fin 1024) :
    ∑ k : Fin 512, (show EReal from iblk m c 8 t (ix2 r k)) * (show EReal from iblk m c 9 t (ix2 q k)) = brought m c r q t := by
  unfold brought
  rw [if_pos (by omega)]
  refine sum_congr rfl fun k _ => congrArg₂ (· * ·) ?_ ?_
  · unfold iblk
    rw [View.read_apply]
    refine (at2_eq (V m c main_arg4) _ (r := 1024 * (t.val / 82) + r) (c := 512 * (t.val % 41 - 16) + k) ?_ ?_).trans ?_
    · show win0_8.index t 0 * 1024 + 1 * r.val = _
      rw [(index8 t h).1]; omega
    · show win0_8.index t 1 * 512 + 1 * k.val = _
      rw [(index8 t h).2]; omega
    · rw [V_main_arg4]
      unfold ct joint
      have hk := k.isLt
      split_ifs <;> first | omega | exact congrArg (at2 _ _) (by omega)
  · unfold iblk
    rw [View.read_apply]
    refine at2_eq (V m c main_v2) _ ?_ ?_
    · show win0_9.index t 0 * 1024 + 1 * q.val = _
      rw [(index9 t h).1]; omega
    · show win0_9.index t 1 * 512 + 1 * k.val = _
      rw [(index9 t h).2]; omega

/-- Pair 5: what its two blocks bring. -/
theorem dot5 (t : Fin cfg0.N) (h : 28 ≤ t.val % 41 ∧ t.val % 41 ≤ 31) (r q : Fin 1024) :
    ∑ k : Fin 512, (show EReal from iblk m c 10 t (ix2 r k)) * (show EReal from iblk m c 11 t (ix2 q k)) = brought m c r q t := by
  unfold brought
  rw [if_pos (by omega)]
  refine sum_congr rfl fun k _ => congrArg₂ (· * ·) ?_ ?_
  · unfold iblk
    rw [View.read_apply]
    refine (at2_eq (V m c main_arg5) _ (r := 1024 * (t.val / 82) + r) (c := 512 * (t.val % 41 - 28) + k) ?_ ?_).trans ?_
    · show win0_10.index t 0 * 1024 + 1 * r.val = _
      rw [(index10 t h).1]; omega
    · show win0_10.index t 1 * 512 + 1 * k.val = _
      rw [(index10 t h).2]; omega
    · rw [V_main_arg5]
      unfold ct joint
      have hk := k.isLt
      split_ifs <;> first | omega | exact congrArg (at2 _ _) (by omega)
  · unfold iblk
    rw [View.read_apply]
    refine at2_eq (V m c main_v2) _ ?_ ?_
    · show win0_11.index t 0 * 1024 + 1 * q.val = _
      rw [(index11 t h).1]; omega
    · show win0_11.index t 1 * 512 + 1 * k.val = _
      rw [(index11 t h).2]; omega

/-- Pair 6: what its two blocks bring. -/
theorem dot6 (t : Fin cfg0.N) (h : 32 ≤ t.val % 41 ∧ t.val % 41 ≤ 35) (r q : Fin 1024) :
    ∑ k : Fin 512, (show EReal from iblk m c 12 t (ix2 r k)) * (show EReal from iblk m c 13 t (ix2 q k)) = brought m c r q t := by
  unfold brought
  rw [if_pos (by omega)]
  refine sum_congr rfl fun k _ => congrArg₂ (· * ·) ?_ ?_
  · unfold iblk
    rw [View.read_apply]
    refine (at2_eq (V m c main_arg6) _ (r := 1024 * (t.val / 82) + r) (c := 512 * (t.val % 41 - 32) + k) ?_ ?_).trans ?_
    · show win0_12.index t 0 * 1024 + 1 * r.val = _
      rw [(index12 t h).1]; omega
    · show win0_12.index t 1 * 512 + 1 * k.val = _
      rw [(index12 t h).2]; omega
    · rw [V_main_arg6]
      unfold ct joint
      have hk := k.isLt
      split_ifs <;> first | omega | exact congrArg (at2 _ _) (by omega)
  · unfold iblk
    rw [View.read_apply]
    refine at2_eq (V m c main_v2) _ ?_ ?_
    · show win0_13.index t 0 * 1024 + 1 * q.val = _
      rw [(index13 t h).1]; omega
    · show win0_13.index t 1 * 512 + 1 * k.val = _
      rw [(index13 t h).2]; omega

/-- Pair 7: what its two blocks bring. -/
theorem dot7 (t : Fin cfg0.N) (h : 36 ≤ t.val % 41 ∧ t.val % 41 ≤ 39) (r q : Fin 1024) :
    ∑ k : Fin 512, (show EReal from iblk m c 14 t (ix2 r k)) * (show EReal from iblk m c 15 t (ix2 q k)) = brought m c r q t := by
  unfold brought
  rw [if_pos (by omega)]
  refine sum_congr rfl fun k _ => congrArg₂ (· * ·) ?_ ?_
  · unfold iblk
    rw [View.read_apply]
    refine (at2_eq (V m c main_arg7) _ (r := 1024 * (t.val / 82) + r) (c := 512 * (t.val % 41 - 36) + k) ?_ ?_).trans ?_
    · show win0_14.index t 0 * 1024 + 1 * r.val = _
      rw [(index14 t h).1]; omega
    · show win0_14.index t 1 * 512 + 1 * k.val = _
      rw [(index14 t h).2]; omega
    · rw [V_main_arg7]
      unfold ct joint
      have hk := k.isLt
      split_ifs <;> first | omega | exact congrArg (at2 _ _) (by omega)
  · unfold iblk
    rw [View.read_apply]
    refine at2_eq (V m c main_v2) _ ?_ ?_
    · show win0_15.index t 0 * 1024 + 1 * q.val = _
      rw [(index15 t h).1]; omega
    · show win0_15.index t 1 * 512 + 1 * k.val = _
      rw [(index15 t h).2]; omega

/-- The last pair: what its two blocks bring. -/
theorem dot8 (t : Fin cfg0.N) (h : t.val % 41 = 40) (r q : Fin 1024) :
    ∑ k : Fin 128, (show EReal from iblk m c 16 t (ix2 r k)) * (show EReal from iblk m c 17 t (ix2 q k)) = brought m c r q t := by
  unfold brought
  rw [if_neg (by omega)]
  refine sum_congr rfl fun k _ => congrArg₂ (· * ·) ?_ ?_
  · unfold iblk
    rw [View.read_apply]
    refine (at2_eq (V m c main_arg8) _ (r := 1024 * (t.val / 82) + r) (c := k) ?_ ?_).trans ?_
    · show win0_16.index t 0 * 1024 + 1 * r.val = _
      rw [(index16 t).1]; omega
    · show win0_16.index t 1 * 128 + 1 * k.val = _
      rw [(index16 t).2]; omega
    · rw [V_main_arg8]
  · unfold iblk
    rw [View.read_apply]
    refine at2_eq (V m c main_v4) _ ?_ ?_
    · show win0_17.index t 0 * 1024 + 1 * q.val = _
      rw [(index17 t).1]; omega
    · show win0_17.index t 1 * 128 + 1 * k.val = _
      rw [(index17 t).2]; omega

end Cert.DhKernelIdeal.Mm
end
end
-- ==== Proof.Dh.lean ====
module

public import proofs.«01_k».proof.Defs
public import proofs.«01_k».proof.Proof.DhBlocks
public import proofs.«01_k».proof.Proof.Gen.DhReferenceIdeal.Run
public import proofs.«01_k».proof.Proof.Gen.DhKernelIdeal.Frame
public import Idealize.ShloMosaic.Lib.Pipeline.Value
public import Idealize.ShloMosaic.Lib.VecWindow
public import Idealize.ShloMosaic.Lib.Pointwise

/-! The gradient of the input projection's activations: nine tiled products, of the nine cotangents with the parts of
    the weight they came through, added up in one accumulator. -/

@[expose] public section

noncomputable section

namespace Cert.DhKernelIdeal.Mm

open Idealize.ShloMosaic Idealize.ShloMosaic.TcCoe Cert.DhKernelIdeal.Gen Cert.DhKernelIdeal
open Idealize.SL Idealize.SL.Sem
open Cert.Mm Cert.Dh Finset

variable (m : (ℓ : Loc nD τ sig) → Buf (Elt Ideal) ℓ) (c : Dev nD)

/-! ## What a point leaves in the accumulator -/

/-- The accumulator after a point. -/
abbrev acc (n : ℕ) (h : n < cfg0.N) : Vec Ideal S1024x1024 .f32 := (outsAt0 m c n h).2

/-- The accumulator before a point that is not the first. -/
abbrev prev (t : Fin cfg0.N) : Vec Ideal S1024x1024 .f32 := (outsAt0 m c (t.val - 1) (Nat.lt_of_le_of_lt (Nat.sub_le _ _) t.isLt)).2

theorem step_apply (x0 x1 : Vec Ideal S1024x512 .bf16) (xs0 : Vec Ideal S1024x1024 .f32) (r q : Fin 1024) :
    k0_pay6 xs0 x0 x1 (ix2 r q) = xs0 (ix2 r q) + ∑ k : Fin 512, x0 (ix2 r k) * x1 (ix2 q k) := by
  simp only [k0_pay6, shapeCast_self]
  pointwise
  done

theorem last_apply (x0 : Vec Ideal S1024x128 .f32) (x1 : Vec Ideal S1024x128 .bf16) (xs0 : Vec Ideal S1024x1024 .f32) (r q : Fin 1024) :
    k0_pay4 xs0 x0 x1 (ix2 r q) = xs0 (ix2 r q) + ∑ k : Fin 128, x0 (ix2 r k) * x1 (ix2 q k) := by
  simp only [k0_pay4, shapeCast_self]
  pointwise
  done

theorem zero_apply (y : S1024x1024.Idx) : k0_pay5 (F := Ideal) y = 0 := by
  simp only [k0_pay5, shapeCast_self]
  pointwise
  done

/-- The accumulator, loaded whole. -/
theorem load_acc (x : Vec Ideal S1024x1024 .f32) :
    View.readAt (Elt Ideal) (View.whole cc0_scratch0)
      (Rect.unit (s := S1024x1024) ![0, 0] ![1024, 1024] inb_S1024x1024_S1024x1024_0_0).toLoadRect
      ((Memref.isWhole_whole cc0_scratch0).unread x) = x :=
  load_whole (Memref.isWhole_whole cc0_scratch0) inb_S1024x1024_S1024x1024_0_0 x

theorem at_A (t : Fin cfg0.N) (h0 : t.val % 41 = 0) : acc m c t.val t.isLt = k0_pay6 k0_pay5 (iblk m c 0 t) (iblk m c 1 t) := by
  unfold acc
  rw [outsAt0_A m c t h0 (by omega) (by omega) (by omega) (by omega) (by omega) (by omega) (by omega) (by omega) (by omega) (by omega)]
  dsimp only
  unfold sout0_A_0 kernelRun0_A
  dsimp only
  simp only [kernelRun0_A.sl.v51, kernelRun0_A.sl.HS0_1, read_stored, load_stored, cov_stored, load_whole]

theorem at_B (t : Fin cfg0.N) (h0 : ¬t.val % 41 = 0) (h1 : t.val % 41 ≤ 3) :
    acc m c t.val t.isLt = k0_pay6 (prev m c t) (iblk m c 0 t) (iblk m c 1 t) := by
  unfold acc
  rw [outsAt0_B m c t h0 h1 (by omega) (by omega) (by omega) (by omega) (by omega) (by omega) (by omega) (by omega) (by omega)]
  dsimp only
  unfold sout0_B_0 kernelRun0_B
  dsimp only
  simp only [read_stored, load_whole, load_acc]

theorem at_C (t : Fin cfg0.N) (h : 4 ≤ t.val % 41 ∧ t.val % 41 ≤ 7) :
    acc m c t.val t.isLt = k0_pay6 (prev m c t) (iblk m c 2 t) (iblk m c 3 t) := by
  unfold acc
  rw [outsAt0_C m c t (by omega) (by omega) h (by omega) (by omega) (by omega) (by omega) (by omega) (by omega) (by omega) (by omega)]
  dsimp only
  unfold sout0_C_0 kernelRun0_C
  dsimp only
  simp only [read_stored, load_whole, load_acc]
  rfl

theorem at_D (t : Fin cfg0.N) (h : 8 ≤ t.val % 41 ∧ t.val % 41 ≤ 11) :
    acc m c t.val t.isLt = k0_pay6 (prev m c t) (iblk m c 4 t) (iblk m c 5 t) := by
  unfold acc
  rw [outsAt0_D m c t (by omega) (by omega) (by omega) h (by omega) (by omega) (by omega) (by omega) (by omega) (by omega) (by omega)]
  dsimp only
  unfold sout0_D_0 kernelRun0_D
  dsimp only
  simp only [read_stored, load_whole, load_acc]
  rfl

theorem at_E (t : Fin cfg0.N) (h : 12 ≤ t.val % 41 ∧ t.val % 41 ≤ 15) :
    acc m c t.val t.isLt = k0_pay6 (prev m c t) (iblk m c 6 t) (iblk m c 7 t) := by
  unfold acc
  rw [outsAt0_E m c t (by omega) (by omega) (by omega) (by omega) h (by omega) (by omega) (by omega) (by omega) (by omega) (by omega)]
  dsimp only
  unfold sout0_E_0 kernelRun0_E
  dsimp only
  simp only [read_stored, load_whole, load_acc]
  rfl

theorem at_F (t : Fin cfg0.N) (h : 16 ≤ t.val % 41 ∧ t.val % 41 ≤ 27) :
    acc m c t.val t.isLt = k0_pay6 (prev m c t) (iblk m c 8 t) (iblk m c 9 t) := by
  unfold acc
  rw [outsAt0_F m c t (by omega) (by omega) (by omega) (by omega) (by omega) h (by omega) (by omega) (by omega) (by omega) (by omega)]
  dsimp only
  unfold sout0_F_0 kernelRun0_F
  dsimp only
  simp only [read_stored, load_whole, load_acc]
  rfl

theorem at_G (t : Fin cfg0.N) (h : 28 ≤ t.val % 41 ∧ t.val % 41 ≤ 31) :
    acc m c t.val t.isLt = k0_pay6 (prev m c t) (iblk m c 10 t) (iblk m c 11 t) := by
  unfold acc
  rw [outsAt0_G m c t (by omega) (by omega) (by omega) (by omega) (by omega) (by omega) h (by omega) (by omega) (by omega) (by omega)]
  dsimp only
  unfold sout0_G_0 kernelRun0_G
  dsimp only
  simp only [read_stored, load_whole, load_acc]
  rfl

theorem at_H (t : Fin cfg0.N) (h : 32 ≤ t.val % 41 ∧ t.val % 41 ≤ 35) :
    acc m c t.val t.isLt = k0_pay6 (prev m c t) (iblk m c 12 t) (iblk m c 13 t) := by
  unfold acc
  rw [outsAt0_H m c t (by omega) (by omega) (by omega) (by omega) (by omega) (by omega) (by omega) h (by omega) (by omega) (by omega)]
  dsimp only
  unfold sout0_H_0 kernelRun0_H
  dsimp only
  simp only [read_stored, load_whole, load_acc]
  rfl

theorem at_I (t : Fin cfg0.N) (h : 36 ≤ t.val % 41 ∧ t.val % 41 ≤ 39) :
    acc m c t.val t.isLt = k0_pay6 (prev m c t) (iblk m c 14 t) (iblk m c 15 t) := by
  unfold acc
  rw [outsAt0_I m c t (by omega) (by omega) (by omega) (by omega) (by omega) (by omega) (by omega) (by omega) h (by omega) (by omega)]
  dsimp only
  unfold sout0_I_0 kernelRun0_I
  dsimp only
  simp only [read_stored, load_whole, load_acc]
  rfl

theorem at_J (t : Fin cfg0.N) (h : t.val % 41 = 40) :
    acc m c t.val t.isLt = k0_pay4 (prev m c t) (iblk m c 16 t) (iblk m c 17 t) := by
  unfold acc
  rw [outsAt0_J m c t (by omega) (by omega) (by omega) (by omega) (by omega) (by omega) (by omega) (by omega) (by omega) h h]
  dsimp only
  unfold sout0_J_0 kernelRun0_J
  dsimp only
  simp only [kernelRun0_J.sl.HS0_1, read_stored, load_stored, cov_stored, load_whole, load_acc]

/-- The last point of a run writes the accumulator. -/
theorem out_last (t : Fin cfg0.N) (h : t.val % 41 = 40) : (outsAt0 m c t.val t.isLt).1 = acc m c t.val t.isLt := by
  rw [at_J m c t h, outsAt0_J m c t (by omega) (by omega) (by omega) (by omega) (by omega) (by omega) (by omega) (by omega) (by omega) h h]
  dsimp only
  unfold out0_J_18 kernelRun0_J
  dsimp only
  simp only [kernelRun0_J.sl.HS0_1, kernelRun0_J.sl.v51, read_stored, load_stored, cov_stored, load_whole, load_acc]

theorem acc_first (t : Fin cfg0.N) (h0 : t.val % 41 = 0) (r q : Fin 1024) :
    acc m c t.val t.isLt (ix2 r q) = brought m c r q t := by
  rw [at_A m c t h0, step_apply, zero_apply, zero_add]
  exact dot0 m c t (by omega) r q

theorem acc_next (t : Fin cfg0.N) (h0 : ¬t.val % 41 = 0) (r q : Fin 1024) :
    acc m c t.val t.isLt (ix2 r q) = prev m c t (ix2 r q) + brought m c r q t := by
  have hlt : t.val % 41 < 41 := Nat.mod_lt _ (by omega)
  by_cases h1 : t.val % 41 ≤ 3
  · rw [at_B m c t h0 h1, step_apply]
    exact congrArg _ (dot0 m c t h1 r q)
  by_cases h2 : t.val % 41 ≤ 7
  · rw [at_C m c t (by omega), step_apply]
    exact congrArg _ (dot1 m c t (by omega) r q)
  by_cases h3 : t.val % 41 ≤ 11
  · rw [at_D m c t (by omega), step_apply]
    exact congrArg _ (dot2 m c t (by omega) r q)
  by_cases h4 : t.val % 41 ≤ 15
  · rw [at_E m c t (by omega), step_apply]
    exact congrArg _ (dot3 m c t (by omega) r q)
  by_cases h5 : t.val % 41 ≤ 27
  · rw [at_F m c t (by omega), step_apply]
    exact congrArg _ (dot4 m c t (by omega) r q)
  by_cases h6 : t.val % 41 ≤ 31
  · rw [at_G m c t (by omega), step_apply]
    exact congrArg _ (dot5 m c t (by omega) r q)
  by_cases h7 : t.val % 41 ≤ 35
  · rw [at_H m c t (by omega), step_apply]
    exact congrArg _ (dot6 m c t (by omega) r q)
  by_cases h8 : t.val % 41 ≤ 39
  · rw [at_I m c t (by omega), step_apply]
    exact congrArg _ (dot7 m c t (by omega) r q)
  rw [at_J m c t (by omega), last_apply]
  exact congrArg _ (dot8 m c t (by omega) r q)

/-- What a large column brings to the entry at `a`, `b`. -/
def term (a b u : ℕ) : EReal := ct m c a u * at2 (big m c) b u
/-- What a small column brings to the entry at `a`, `b`. -/
def term' (a b k : ℕ) : EReal := at2 (Sm m c) a k * at2 (small m c) b k

/-- What the last point of a run writes: the sum over all columns. -/
theorem written (t : Fin cfg0.N) (h : t.val % 41 = 40) (r q : Fin 1024) :
    (outsAt0 m c t.val t.isLt).1 (ix2 r q)
      = ∑ u ∈ range 20480, term m c (1024 * (t.val / 82) + r) (1024 * (t.val / 41 % 2) + q) u
        + ∑ k ∈ range 128, term' m c (1024 * (t.val / 82) + r) (1024 * (t.val / 41 % 2) + q) k := by
  rw [out_last m c t h,
    accumulated (K := 41) (fun n h => acc m c n h (ix2 r q)) (brought m c r q)
      (fun n h h0 => acc_first m c ⟨n, h⟩ h0 r q) (fun n h h0 => acc_next m c ⟨n, h⟩ h0 r q) t.val t.isLt,
    h, sum_range_succ _ 40, show (20480 : ℕ) = 512 * 40 from rfl, ← sum_blocks]
  congr 1
  · refine sum_congr rfl fun s hs => ?_
    have h2 := mem_range.mp hs
    unfold brought
    rw [show (41 * (t.val / 41) + s) / 82 = t.val / 82 by omega, show (41 * (t.val / 41) + s) / 41 % 2 = t.val / 41 % 2 by omega,
      show (41 * (t.val / 41) + s) % 41 = s by omega, if_pos h2]
    rfl
  · unfold brought
    rw [show (41 * (t.val / 41) + 40) / 82 = t.val / 82 by omega, show (41 * (t.val / 41) + 40) / 41 % 2 = t.val / 41 % 2 by omega,
      show (41 * (t.val / 41) + 40) % 41 = 40 by omega, if_neg (by omega), sum_range]
    rfl

/-! ## The result -/

/-- The gradient, entry by entry. -/
def grad : Vec Ideal S8192x2048 .f32 := fun i =>
  ∑ u ∈ range 20480, term m c (i 0).val (i 1).val u + ∑ k ∈ range 128, term' m c (i 0).val (i 1).val k

theorem flushed (t : Fin cfg0.N) (hf : (cfg0.win 18).flush t = true) :
    (dats m 0 c).flushed 18 t = ((cfg0.win 18).blk t).view.read (Elt Ideal) (grad m c) := by
  show (cfg0.win 18).cut (grid0.coords t) ((dats m 0 c).after 18 t) = _
  rw [after0_18]
  have h1 : t.val % 41 = 40 := (flush0_18 t).mp hf
  funext y
  rw [View.read_apply]
  have h := written m c t h1 (⟨(y 0).val, (y 0).isLt⟩ : Fin 1024) (⟨(y 1).val, (y 1).isLt⟩ : Fin 1024)
  have e0 : (((cfg0.win 18).blk t).view.emb y 0).val = 1024 * (t.val / 82) + (y 0).val := by
    show win0_18.index t 0 * 1024 + 1 * (y 0).val = _
    rw [(index18 t).1]; omega
  have e1 : (((cfg0.win 18).blk t).view.emb y 1).val = 1024 * (t.val / 41 % 2) + (y 1).val := by
    show win0_18.index t 1 * 1024 + 1 * (y 1).val = _
    rw [(index18 t).2]; omega
  have hx : (cfg0.win 18).xinj (grid0.coords t) y = ix2 (⟨(y 0).val, (y 0).isLt⟩ : Fin 1024) (⟨(y 1).val, (y 1).isLt⟩ : Fin 1024) := by
    funext a
    match a with
    | ⟨0, _⟩ => rfl
    | ⟨1, _⟩ => rfl
  have hg : grad m c (((cfg0.win 18).blk t).view.emb y)
      = ∑ u ∈ range 20480, term m c (1024 * (t.val / 82) + (y 0).val) (1024 * (t.val / 41 % 2) + (y 1).val) u
        + ∑ k ∈ range 128, term' m c (1024 * (t.val / 82) + (y 0).val) (1024 * (t.val / 41 % 2) + (y 1).val) k := by
    unfold grad
    rw [e0, e1]
  dsimp only at h
  refine (congrArg (outsAt0 m c t.val t.isLt).1 hx).trans ?_
  rw [h, ← hg]
  exact (cast_eq _ _).symm

theorem covered (i : S8192x2048.Idx) : ∃ t : Fin cfg0.N, (cfg0.win 18).flush t = true ∧ i ∈ ((cfg0.win 18).blk t).view.set := by
  have hi0 : (i 0).val < 8192 := (i 0).isLt
  have hi1 : (i 1).val < 2048 := (i 1).isLt
  have hN : cfg0.N = 656 := N_0
  refine ⟨⟨82 * ((i 0).val / 1024) + 41 * ((i 1).val / 1024) + 40, by omega⟩, (flush0_18 _).mpr (by dsimp only; omega), ?_⟩
  generalize ht : (⟨82 * ((i 0).val / 1024) + 41 * ((i 1).val / 1024) + 40, _⟩ : Fin cfg0.N) = t
  have htv : t.val = 82 * ((i 0).val / 1024) + 41 * ((i 1).val / 1024) + 40 := by rw [← ht]
  show i ∈ ((View.whole main_v5).slice (win0_18.rect t)).set
  rw [View.set_slice_whole, Rect.mem_set_unit]
  intro a
  match a with
  | ⟨0, _⟩ =>
    show win0_18.index t (0 : Fin 2) * 1024 ≤ (i 0).val ∧ (i 0).val < win0_18.index t (0 : Fin 2) * 1024 + 1024
    rw [(index18 t).1]; omega
  | ⟨1, _⟩ =>
    show win0_18.index t (1 : Fin 2) * 1024 ≤ (i 1).val ∧ (i 1).val < win0_18.index t (1 : Fin 2) * 1024 + 1024
    rw [(index18 t).2]; omega

/-- The kernel's run leaves the gradient in its result. -/
theorem run (ρ : Dev nD → PrngReg) : θ_run defs (onTc (τ := τ) (main (F := Ideal))) ⟨m, fun _ => 0, ρ⟩ fun r => ∀ c : Dev nD,
    r.2.mem ((c : Thread nD τ).loc main_v5) = grad m c :=
  (θ_run defs _ _).mono (fun r h c => ((h c).1 18).trans
    ((dats m 0 c).arrAt_eq_of_cover 18 _ (fun t hf => flushed m c t hf) covered)) (run_main m ρ)

/-! ## The reference -/

/-- What a column of the whole weight brings to the entry at `a`, `b`. -/
def whole (a b u : ℕ) : EReal :=
  (if u < 16384 then ct m c a u else if u < 16416 then at2 (Sm m c) a (u - 16384) else ct m c a (u - 32)) * at2 (Wt m c) b u

/-- The reference's gradient is the kernel's: its sum over all columns is split into the large and the small ones. -/
theorem reference_eq (i : S8192x2048.Idx) : Cert.DhReferenceIdeal.Read.val_main_v11 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (Sm m c) (Wt m c) i = grad m c i := by
  have hi0 : (i 0).val < 8192 := (i 0).isLt
  have hi1 : (i 1).val < 2048 := (i 1).isLt
  rw [Cert.DhReferenceIdeal.Read.val_main_v11_apply]
  refine Eq.trans (b := ∑ k : Fin 20512, whole m c (i 0).val (i 1).val k) (sum_congr rfl fun k _ => ?_) ?_
  · unfold whole
    refine congrArg₂ (· * ·) ?_ ?_
    · refine (congrArg _ (funext fun a => match a with
        | ⟨0, _⟩ => rfl
        | ⟨1, _⟩ => rfl)).trans (joint_ref _ _ _ _ _ _ _ _ _ (⟨(i 0).val, hi0⟩ : Fin 8192) k)
    · rw [Cert.DhReferenceIdeal.Read.val_main_v10_apply]
      exact at2_eq (Wt m c) _ rfl rfl
  rw [← sum_range (fun u => whole m c (i 0).val (i 1).val u)]
  unfold grad
  have R := regroup 16384 32 4096 96 (whole m c (i 0).val (i 1).val) (term m c (i 0).val (i 1).val) (term' m c (i 0).val (i 1).val)
    (fun u hu => by
      unfold whole term
      rw [if_pos hu, big_apply m c _ u hi1 (by omega), col, if_pos hu])
    (fun u hu => by
      unfold whole term
      rw [if_neg (by omega), if_neg (by omega), big_apply m c _ _ hi1 (by omega), col, if_neg (by omega)]
      exact congrArg₂ (fun a b => ct m c (i 0).val a * at2 (Wt m c) (i 1).val b) (by omega) (by omega))
    (fun k hk => by
      unfold whole term'
      rw [if_neg (by omega), if_pos (by omega), small_apply m c _ k hi1 (by omega), if_pos hk, Nat.add_sub_cancel_left])
    (fun k hk => by
      unfold term'
      rw [small_apply m c _ _ hi1 (by omega), if_neg (by omega), mul_zero])
  exact R

/-- Over the reals, the kernel's gradient is the reference's. -/
theorem values : Cert.algebraic_DhKernelIdeal_DhReferenceIdeal := fun m g m' g' _ hm =>
  ⟨fun c => grad m c,
    (θ_run defs _ _).mono (fun r h c => ⟨h.1 c, h.2 c⟩) (θ_run_and (run m g) (unchanged m g)),
    (θ_run Cert.DhReferenceIdeal.defs _ _).mono (fun r h c =>
        ⟨(h c).1.trans ((Cert.DhReferenceIdeal.Read.val_main_v11_eq _ _ _ _ _ _ _ _ _ _).trans (by
          obtain ⟨e0, e1, e2, e3, e4, e5, e6, e7, e8, e9⟩ := hm c
          rw [e0, e1, e2, e3, e4, e5, e6, e7, e8, e9]
          exact funext fun i => reference_eq m c i)),
          (h c).2⟩)
        (Cert.DhReferenceIdeal.Value.run (F := Ideal) m' g')⟩

end Cert.DhKernelIdeal.Mm
end
end
-- ==== Proof.DwWide.lean ====
module

public import proofs.«01_k».proof.Defs
public import proofs.«01_k».proof.Proof.Products
public import proofs.«01_k».proof.Proof.Gen.DwWideReferenceIdeal.Run
public import proofs.«01_k».proof.Proof.Gen.DwWideKernelIdeal.Frame
public import Idealize.ShloMosaic.Lib.Pipeline.Value
public import proofs.«01_k».proof.Proof.Gen.DwWideReferenceIdeal.Read
public import Idealize.ShloMosaic.Lib.VecWindow
public import Idealize.ShloMosaic.Lib.Pointwise

/-! The gradient of the convolutions' 6144 columns of the input weight: the tiled product of the activations, transposed, with the cotangent. -/

@[expose] public section

noncomputable section

namespace Cert.DwWideKernelIdeal.Mm

open Idealize.ShloMosaic Idealize.ShloMosaic.TcCoe Cert.DwWideKernelIdeal.Gen Cert.DwWideKernelIdeal
open Idealize.SL Idealize.SL.Sem
open Cert.Mm Finset

section
variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1024x1024 .f32) (harg6 : arg6.IsWhole)
  (x0 x1 : Vec Ideal S1024x1024 .bf16) (xs0 : Vec Ideal S1024x1024 .f32)

theorem set_A (h0 : cond0_0 i) (h1 : ¬cond0_1 i) :
    sout0_A_0 c i arg3 harg3 arg4 harg4 arg5 harg5 arg6 harg6 h0 h1 x0 x1 = k0_pay2 k0_pay1 x0 x1 := by
  unfold sout0_A_0 kernelRun0_A
  dsimp only
  simp only [kernelRun0_A.sl.v3, kernelRun0_A.sl.HS0_1, read_stored, load_stored, cov_stored, load_whole]

theorem add_B (h0 : ¬cond0_0 i) (h1 : ¬cond0_1 i) :
    sout0_B_0 c i arg3 harg3 arg4 harg4 arg5 harg5 arg6 harg6 h0 h1 x0 x1 xs0 = k0_pay2 xs0 x0 x1 := by
  unfold sout0_B_0 kernelRun0_B
  dsimp only
  simp only [read_stored, load_stored, cov_stored, load_whole]

theorem add_C (h0 : ¬cond0_0 i) (h1 : cond0_1 i) :
    sout0_C_0 c i arg3 harg3 arg4 harg4 arg5 harg5 arg6 harg6 h0 h1 x0 x1 xs0 = k0_pay2 xs0 x0 x1 := by
  unfold sout0_C_0 kernelRun0_C
  dsimp only
  simp only [kernelRun0_C.sl.HS0_1, kernelRun0_C.sl.v14, read_stored, load_stored, cov_stored, load_whole]

theorem out_C (h0 : ¬cond0_0 i) (h1 : cond0_1 i) :
    out0_C_2 c i arg3 harg3 arg4 harg4 arg5 harg5 arg6 harg6 h0 h1 x0 x1 xs0 = k0_pay2 xs0 x0 x1 := by
  unfold out0_C_2 kernelRun0_C
  dsimp only
  simp only [kernelRun0_C.sl.HS0_1, kernelRun0_C.sl.v14, read_stored, load_stored, cov_stored, load_whole]

theorem pay2_apply (r q : Fin 1024) :
    k0_pay2 xs0 x0 x1 (ix2 r q) = xs0 (ix2 r q) + ∑ k : Fin 1024, x0 (ix2 k r) * x1 (ix2 k q) := by
  simp only [k0_pay2, shapeCast_self]
  pointwise
  done

theorem pay1_apply (y : S1024x1024.Idx) : k0_pay1 (F := Ideal) y = 0 := by
  simp only [k0_pay1, shapeCast_self]
  pointwise
  done
end

/-! ## At a grid point -/

theorem index0 : ∀ t : Fin grid0.N, win0_0.index t (0 : Fin 2) = t.val % 8 ∧ win0_0.index t (1 : Fin 2) = t.val / 48 := by
  decide +kernel
theorem index1 : ∀ t : Fin grid0.N, win0_1.index t (0 : Fin 2) = t.val % 8 ∧ win0_1.index t (1 : Fin 2) = t.val / 8 % 6 := by
  decide +kernel
theorem index2 : ∀ t : Fin grid0.N, win0_2.index t (0 : Fin 2) = t.val / 48 ∧ win0_2.index t (1 : Fin 2) = t.val / 8 % 6 := by
  decide +kernel

variable (m : (ℓ : Loc nD τ sig) → Buf (Elt Ideal) ℓ) (c : Dev nD)

/-- The activations. -/
abbrev X : Vec Ideal S8192x2048 .bf16 := m ((c : Thread nD τ).loc main_arg0)
/-- The cotangent. -/
abbrev Y : Vec Ideal S8192x6144 .bf16 := m ((c : Thread nD τ).loc main_arg1)

theorem blk0 (t : Fin cfg0.N) (k r : Fin 1024) :
    iblk m c 0 t (ix2 k r) = at2 (X m c) (1024 * (t.val % 8) + k) (1024 * (t.val / 48) + r) := by
  unfold iblk
  rw [View.read_apply]
  refine Eq.trans (at2_eq (V m c main_arg0) _ (r := 1024 * (t.val % 8) + k) (c := 1024 * (t.val / 48) + r) ?_ ?_) ?_
  · show win0_0.index t 0 * 1024 + 1 * k.val = _
    rw [(index0 t).1]; omega
  · show win0_0.index t 1 * 1024 + 1 * r.val = _
    rw [(index0 t).2]; omega
  · rw [V_main_arg0]

theorem blk1 (t : Fin cfg0.N) (k q : Fin 1024) :
    iblk m c 1 t (ix2 k q) = at2 (Y m c) (1024 * (t.val % 8) + k) (1024 * (t.val / 8 % 6) + q) := by
  unfold iblk
  rw [View.read_apply]
  refine Eq.trans (at2_eq (V m c main_arg1) _ (r := 1024 * (t.val % 8) + k) (c := 1024 * (t.val / 8 % 6) + q) ?_ ?_) ?_
  · show win0_1.index t 0 * 1024 + 1 * k.val = _
    rw [(index1 t).1]; omega
  · show win0_1.index t 1 * 1024 + 1 * q.val = _
    rw [(index1 t).2]; omega
  · rw [V_main_arg1]

/-- What the rows `u` bring to the entry at `a`, `b`. -/
def term (a b u : ℕ) : EReal := at2 (X m c) u a * at2 (Y m c) u b

/-- What point `n` adds at `r`, `q` of its block. -/
def brought (r q : Fin 1024) (n : ℕ) : EReal :=
  ∑ k : Fin 1024, term m c (1024 * (n / 48) + r) (1024 * (n / 8 % 6) + q) (1024 * (n % 8) + k)

theorem dot_point (t : Fin cfg0.N) (r q : Fin 1024) :
    ∑ k : Fin 1024, (show EReal from iblk m c 0 t (ix2 k r)) * (show EReal from iblk m c 1 t (ix2 k q)) = brought m c r q t :=
  sum_congr rfl fun k _ => by rw [blk0, blk1]; rfl

theorem acc_first (t : Fin cfg0.N) (h0 : t.val % 8 = 0) (r q : Fin 1024) :
    (outsAt0 m c t.val t.isLt).2 (ix2 r q) = brought m c r q t := by
  rw [outsAt0_A m c t h0 (by omega)]
  dsimp only
  rw [set_A, pay2_apply, pay1_apply, zero_add, dot_point]

theorem acc_next (t : Fin cfg0.N) (h0 : ¬t.val % 8 = 0) (r q : Fin 1024) :
    (outsAt0 m c t.val t.isLt).2 (ix2 r q) = (outsAt0 m c (t.val - 1) (by omega)).2 (ix2 r q) + brought m c r q t := by
  by_cases h1 : t.val % 8 = 7
  · rw [outsAt0_C m c t h0 h1]
    dsimp only
    rw [add_C, pay2_apply, dot_point]
  · rw [outsAt0_B m c t h0 h1]
    dsimp only
    rw [add_B, pay2_apply, dot_point]

theorem out_last (t : Fin cfg0.N) (h1 : t.val % 8 = 7) : (outsAt0 m c t.val t.isLt).1 = (outsAt0 m c t.val t.isLt).2 := by
  rw [outsAt0_C m c t (by omega) h1]
  dsimp only
  rw [add_C, out_C]

/-- What the last point of a run writes: the sum over all rows. -/
theorem written (t : Fin cfg0.N) (h1 : t.val % 8 = 7) (r q : Fin 1024) :
    (outsAt0 m c t.val t.isLt).1 (ix2 r q)
      = ∑ u ∈ range 8192, term m c (1024 * (t.val / 48) + r) (1024 * (t.val / 8 % 6) + q) u := by
  rw [out_last m c t h1,
    accumulated (K := 8) (fun n h => (outsAt0 m c n h).2 (ix2 r q)) (brought m c r q)
      (fun n h h0 => acc_first m c ⟨n, h⟩ h0 r q) (fun n h h0 => acc_next m c ⟨n, h⟩ h0 r q) t.val t.isLt,
    h1, show (8192 : ℕ) = 1024 * (7 + 1) from rfl, ← sum_blocks]
  refine sum_congr rfl fun s hs => ?_
  have h8 := mem_range.mp hs
  unfold brought
  rw [show (8 * (t.val / 8) + s) / 48 = t.val / 48 by omega, show (8 * (t.val / 8) + s) / 8 % 6 = t.val / 8 % 6 by omega,
    show (8 * (t.val / 8) + s) % 8 = s by omega]

/-! ## The result -/

/-- The gradient: activations transposed times cotangent. -/
def grad : Vec Ideal S2048x6144 .f32 := fun i => ∑ u ∈ range 8192, term m c (i 0).val (i 1).val u

theorem flushed (t : Fin cfg0.N) (hf : (cfg0.win 2).flush t = true) :
    (dats m 0 c).flushed 2 t = ((cfg0.win 2).blk t).view.read (Elt Ideal) (grad m c) := by
  show (cfg0.win 2).cut (grid0.coords t) ((dats m 0 c).after 2 t) = _
  rw [after0_2]
  have h1 : t.val % 8 = 7 := (flush0_2 t).mp hf
  funext y
  rw [View.read_apply]
  have h := written m c t h1 (⟨(y 0).val, (y 0).isLt⟩ : Fin 1024) (⟨(y 1).val, (y 1).isLt⟩ : Fin 1024)
  have e0 : (((cfg0.win 2).blk t).view.emb y 0).val = 1024 * (t.val / 48) + (y 0).val := by
    show win0_2.index t 0 * 1024 + 1 * (y 0).val = _
    rw [(index2 t).1]; omega
  have e1 : (((cfg0.win 2).blk t).view.emb y 1).val = 1024 * (t.val / 8 % 6) + (y 1).val := by
    show win0_2.index t 1 * 1024 + 1 * (y 1).val = _
    rw [(index2 t).2]; omega
  have hx : (cfg0.win 2).xinj (grid0.coords t) y = ix2 (⟨(y 0).val, (y 0).isLt⟩ : Fin 1024) (⟨(y 1).val, (y 1).isLt⟩ : Fin 1024) := by
    funext a
    match a with
    | ⟨0, _⟩ => rfl
    | ⟨1, _⟩ => rfl
  have hg : grad m c (((cfg0.win 2).blk t).view.emb y)
      = ∑ u ∈ range 8192, term m c (1024 * (t.val / 48) + (y 0).val) (1024 * (t.val / 8 % 6) + (y 1).val) u := by
    unfold grad
    rw [e0, e1]
  dsimp only at h
  refine (congrArg (outsAt0 m c t.val t.isLt).1 hx).trans ?_
  rw [h, ← hg]
  exact (cast_eq _ _).symm

theorem covered (i : S2048x6144.Idx) : ∃ t : Fin cfg0.N, (cfg0.win 2).flush t = true ∧ i ∈ ((cfg0.win 2).blk t).view.set := by
  have hi0 : (i 0).val < 2048 := (i 0).isLt
  have hi1 : (i 1).val < 6144 := (i 1).isLt
  have hN : cfg0.N = 96 := N_0
  refine ⟨⟨48 * ((i 0).val / 1024) + 8 * ((i 1).val / 1024) + 7, by omega⟩, (flush0_2 _).mpr (by dsimp only; omega), ?_⟩
  generalize ht : (⟨48 * ((i 0).val / 1024) + 8 * ((i 1).val / 1024) + 7, _⟩ : Fin cfg0.N) = t
  have htv : t.val = 48 * ((i 0).val / 1024) + 8 * ((i 1).val / 1024) + 7 := by rw [← ht]
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [(index2 t).1]; omega
  | ⟨1, _⟩ =>
    show win0_2.index t (1 : Fin 2) * 1024 ≤ (i 1).val ∧ (i 1).val < win0_2.index t (1 : Fin 2) * 1024 + 1024
    rw [(index2 t).2]; omega

/-- The kernel's run leaves the gradient in its result and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0) = grad m c :=
  (θ_run defs _ _).mono (fun r h c => ((h c).1 2).trans
    ((dats m 0 c).arrAt_eq_of_cover 2 _ (fun t hf => flushed m c t hf) covered)) (run_main m ρ)

/-! ## The reference -/

theorem reference_eq (x : Vec Ideal S8192x2048 .bf16) (y : Vec Ideal S8192x6144 .bf16) (i : S2048x6144.Idx) :
    Cert.DwWideReferenceIdeal.Read.val_main_v3 (F := Ideal) x y i = ∑ u ∈ range 8192, at2 x u (i 0).val * at2 y u (i 1).val := by
  rw [Cert.DwWideReferenceIdeal.Read.val_main_v3_apply, Cert.DwWideReferenceIdeal.Read.val_main_v2_apply, sum_range]
  refine sum_congr rfl fun k _ => ?_
  rw [mul_comm, Cert.DwWideReferenceIdeal.Read.val_main_v0_apply, Cert.DwWideReferenceIdeal.Read.val_main_v1_apply]
  exact congrArg₂ (· * ·) (at2_eq x _ rfl rfl) (at2_eq y _ rfl rfl)

/-- Over the reals, the kernel's gradient is the reference's. -/
theorem values : Cert.algebraic_DwWideKernelIdeal_DwWideReferenceIdeal := fun m g m' g' _ hm =>
  ⟨fun c => grad m c,
    (θ_run defs _ _).mono (fun r h c => ⟨h.1 c, h.2 c⟩) (θ_run_and (run m g) (unchanged m g)),
    (θ_run Cert.DwWideReferenceIdeal.defs _ _).mono (fun r h c =>
        ⟨(h c).1.trans ((Cert.DwWideReferenceIdeal.Read.val_main_v3_eq _ _).trans (by
          rw [(hm c).1, (hm c).2]
          exact funext fun i => reference_eq _ _ i)),
          (h c).2⟩)
        (Cert.DwWideReferenceIdeal.Value.run (F := Ideal) m' g')⟩

end Cert.DwWideKernelIdeal.Mm
end
end
-- ==== Proof.Y.lean ====
module

public import proofs.«01_k».proof.Defs
public import proofs.«01_k».proof.Proof.Products
public import proofs.«01_k».proof.Proof.Gen.YReferenceIdeal.Run
public import proofs.«01_k».proof.Proof.Gen.YKernelIdeal.Frame
public import Idealize.ShloMosaic.Lib.Pipeline.Value
public import proofs.«01_k».proof.Proof.Gen.YReferenceIdeal.Read
public import Idealize.ShloMosaic.Lib.VecWindow
public import Idealize.ShloMosaic.Lib.Pointwise

/-! A projection: the tiled product of the activations with the weight. -/

@[expose] public section

noncomputable section

namespace Cert.YKernelIdeal.Mm

open Idealize.ShloMosaic Idealize.ShloMosaic.TcCoe Cert.YKernelIdeal.Gen Cert.YKernelIdeal
open Idealize.SL Idealize.SL.Sem
open Cert.Mm Finset

section
variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1024x1024 .f32) (harg6 : arg6.IsWhole)
  (x0 x1 : Vec Ideal S1024x1024 .bf16) (xs0 : Vec Ideal S1024x1024 .f32)

theorem set_A (h0 : cond0_0 i) (h1 : ¬cond0_1 i) :
    sout0_A_0 c i arg3 harg3 arg4 harg4 arg5 harg5 arg6 harg6 h0 h1 x0 x1 = k0_pay2 k0_pay1 x0 x1 := by
  unfold sout0_A_0 kernelRun0_A
  dsimp only
  simp only [kernelRun0_A.sl.v3, kernelRun0_A.sl.HS0_1, read_stored, load_stored, cov_stored, load_whole]

theorem add_B (h0 : ¬cond0_0 i) (h1 : cond0_1 i) :
    sout0_B_0 c i arg3 harg3 arg4 harg4 arg5 harg5 arg6 harg6 h0 h1 x0 x1 xs0 = k0_pay2 xs0 x0 x1 := by
  unfold sout0_B_0 kernelRun0_B
  dsimp only
  simp only [kernelRun0_B.sl.HS0_1, kernelRun0_B.sl.v14, read_stored, load_stored, cov_stored, load_whole]

theorem out_B (h0 : ¬cond0_0 i) (h1 : cond0_1 i) :
    out0_B_2 c i arg3 harg3 arg4 harg4 arg5 harg5 arg6 harg6 h0 h1 x0 x1 xs0 = k0_pay2 xs0 x0 x1 := by
  unfold out0_B_2 kernelRun0_B
  dsimp only
  simp only [kernelRun0_B.sl.HS0_1, kernelRun0_B.sl.v14, read_stored, load_stored, cov_stored, load_whole]

theorem pay2_apply (r q : Fin 1024) :
    k0_pay2 xs0 x0 x1 (ix2 r q) = xs0 (ix2 r q) + ∑ k : Fin 1024, x0 (ix2 r k) * x1 (ix2 k q) := by
  simp only [k0_pay2, shapeCast_self]
  pointwise
  done

theorem pay1_apply (y : S1024x1024.Idx) : k0_pay1 (F := Ideal) y = 0 := by
  simp only [k0_pay1, shapeCast_self]
  pointwise
  done
end

/-! ## At a grid point -/

theorem index0 : ∀ t : Fin grid0.N, win0_0.index t (0 : Fin 2) = t.val / 4 ∧ win0_0.index t (1 : Fin 2) = t.val % 2 := by
  decide +kernel
theorem index1 : ∀ t : Fin grid0.N, win0_1.index t (0 : Fin 2) = t.val % 2 ∧ win0_1.index t (1 : Fin 2) = t.val / 2 % 2 := by
  decide +kernel
theorem index2 : ∀ t : Fin grid0.N, win0_2.index t (0 : Fin 2) = t.val / 4 ∧ win0_2.index t (1 : Fin 2) = t.val / 2 % 2 := by
  decide +kernel

variable (m : (ℓ : Loc nD τ sig) → Buf (Elt Ideal) ℓ) (c : Dev nD)

/-- The activations. -/
abbrev X : Vec Ideal S8192x2048 .bf16 := m ((c : Thread nD τ).loc main_arg0)
/-- The weight. -/
abbrev Y : Vec Ideal S2048x2048 .bf16 := m ((c : Thread nD τ).loc main_arg1)

theorem blk0 (t : Fin cfg0.N) (r k : Fin 1024) :
    iblk m c 0 t (ix2 r k) = at2 (X m c) (1024 * (t.val / 4) + r) (1024 * (t.val % 2) + k) := by
  unfold iblk
  rw [View.read_apply]
  refine Eq.trans (at2_eq (V m c main_arg0) _ (r := 1024 * (t.val / 4) + r) (c := 1024 * (t.val % 2) + k) ?_ ?_) ?_
  · show win0_0.index t 0 * 1024 + 1 * r.val = _
    rw [(index0 t).1]; omega
  · show win0_0.index t 1 * 1024 + 1 * k.val = _
    rw [(index0 t).2]; omega
  · rw [V_main_arg0]

theorem blk1 (t : Fin cfg0.N) (k q : Fin 1024) :
    iblk m c 1 t (ix2 k q) = at2 (Y m c) (1024 * (t.val % 2) + k) (1024 * (t.val / 2 % 2) + q) := by
  unfold iblk
  rw [View.read_apply]
  refine Eq.trans (at2_eq (V m c main_arg1) _ (r := 1024 * (t.val % 2) + k) (c := 1024 * (t.val / 2 % 2) + q) ?_ ?_) ?_
  · show win0_1.index t 0 * 1024 + 1 * k.val = _
    rw [(index1 t).1]; omega
  · show win0_1.index t 1 * 1024 + 1 * q.val = _
    rw [(index1 t).2]; omega
  · rw [V_main_arg1]

/-- What position `u` brings to the entry at `a`, `b`. -/
def term (a b u : ℕ) : EReal := at2 (X m c) a u * at2 (Y m c) u b

/-- What point `n` adds at `r`, `q` of its block. -/
def brought (r q : Fin 1024) (n : ℕ) : EReal :=
  ∑ k : Fin 1024, term m c (1024 * (n / 4) + r) (1024 * (n / 2 % 2) + q) (1024 * (n % 2) + k)

theorem dot_point (t : Fin cfg0.N) (r q : Fin 1024) :
    ∑ k : Fin 1024, (show EReal from iblk m c 0 t (ix2 r k)) * (show EReal from iblk m c 1 t (ix2 k q)) = brought m c r q t :=
  sum_congr rfl fun k _ => by rw [blk0, blk1]; rfl

theorem acc_first (t : Fin cfg0.N) (h0 : t.val % 2 = 0) (r q : Fin 1024) :
    (outsAt0 m c t.val t.isLt).2 (ix2 r q) = brought m c r q t := by
  rw [outsAt0_A m c t h0 (by omega)]
  dsimp only
  rw [set_A, pay2_apply, pay1_apply, zero_add, dot_point]

theorem acc_next (t : Fin cfg0.N) (h0 : ¬t.val % 2 = 0) (r q : Fin 1024) :
    (outsAt0 m c t.val t.isLt).2 (ix2 r q) = (outsAt0 m c (t.val - 1) (by omega)).2 (ix2 r q) + brought m c r q t := by
  rw [outsAt0_B m c t h0 (by omega)]
  dsimp only
  rw [add_B, pay2_apply, dot_point]

theorem out_last (t : Fin cfg0.N) (h1 : t.val % 2 = 1) : (outsAt0 m c t.val t.isLt).1 = (outsAt0 m c t.val t.isLt).2 := by
  rw [outsAt0_B m c t (by omega) h1]
  dsimp only
  rw [add_B, out_B]

/-- What the last point of a run writes: the sum over all positions. -/
theorem written (t : Fin cfg0.N) (h1 : t.val % 2 = 1) (r q : Fin 1024) :
    (outsAt0 m c t.val t.isLt).1 (ix2 r q)
      = ∑ u ∈ range 2048, term m c (1024 * (t.val / 4) + r) (1024 * (t.val / 2 % 2) + q) u := by
  rw [out_last m c t h1,
    accumulated (K := 2) (fun n h => (outsAt0 m c n h).2 (ix2 r q)) (brought m c r q)
      (fun n h h0 => acc_first m c ⟨n, h⟩ h0 r q) (fun n h h0 => acc_next m c ⟨n, h⟩ h0 r q) t.val t.isLt,
    h1, show (2048 : ℕ) = 1024 * (1 + 1) from rfl, ← sum_blocks]
  refine sum_congr rfl fun s hs => ?_
  have h2 := mem_range.mp hs
  unfold brought
  rw [show (2 * (t.val / 2) + s) / 4 = t.val / 4 by omega, show (2 * (t.val / 2) + s) / 2 % 2 = t.val / 2 % 2 by omega,
    show (2 * (t.val / 2) + s) % 2 = s by omega]

/-! ## The result -/

/-- The projection: the activations times the weight. -/
def proj : Vec Ideal S8192x2048 .f32 := fun i => ∑ u ∈ range 2048, term m c (i 0).val (i 1).val u

theorem flushed (t : Fin cfg0.N) (hf : (cfg0.win 2).flush t = true) :
    (dats m 0 c).flushed 2 t = ((cfg0.win 2).blk t).view.read (Elt Ideal) (proj m c) := by
  show (cfg0.win 2).cut (grid0.coords t) ((dats m 0 c).after 2 t) = _
  rw [after0_2]
  have h1 : t.val % 2 = 1 := (flush0_2 t).mp hf
  funext y
  rw [View.read_apply]
  have h := written m c t h1 (⟨(y 0).val, (y 0).isLt⟩ : Fin 1024) (⟨(y 1).val, (y 1).isLt⟩ : Fin 1024)
  have e0 : (((cfg0.win 2).blk t).view.emb y 0).val = 1024 * (t.val / 4) + (y 0).val := by
    show win0_2.index t 0 * 1024 + 1 * (y 0).val = _
    rw [(index2 t).1]; omega
  have e1 : (((cfg0.win 2).blk t).view.emb y 1).val = 1024 * (t.val / 2 % 2) + (y 1).val := by
    show win0_2.index t 1 * 1024 + 1 * (y 1).val = _
    rw [(index2 t).2]; omega
  have hx : (cfg0.win 2).xinj (grid0.coords t) y = ix2 (⟨(y 0).val, (y 0).isLt⟩ : Fin 1024) (⟨(y 1).val, (y 1).isLt⟩ : Fin 1024) := by
    funext a
    match a with
    | ⟨0, _⟩ => rfl
    | ⟨1, _⟩ => rfl
  have hg : proj m c (((cfg0.win 2).blk t).view.emb y)
      = ∑ u ∈ range 2048, term m c (1024 * (t.val / 4) + (y 0).val) (1024 * (t.val / 2 % 2) + (y 1).val) u := by
    unfold proj
    rw [e0, e1]
  dsimp only at h
  refine (congrArg (outsAt0 m c t.val t.isLt).1 hx).trans ?_
  rw [h, ← hg]
  exact (cast_eq _ _).symm

theorem covered (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 32 := N_0
  refine ⟨⟨4 * ((i 0).val / 1024) + 2 * ((i 1).val / 1024) + 1, by omega⟩, (flush0_2 _).mpr (by dsimp only; omega), ?_⟩
  generalize ht : (⟨4 * ((i 0).val / 1024) + 2 * ((i 1).val / 1024) + 1, _⟩ : Fin cfg0.N) = t
  have htv : t.val = 4 * ((i 0).val / 1024) + 2 * ((i 1).val / 1024) + 1 := by rw [← ht]
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [(index2 t).1]; omega
  | ⟨1, _⟩ =>
    show win0_2.index t (1 : Fin 2) * 1024 ≤ (i 1).val ∧ (i 1).val < win0_2.index t (1 : Fin 2) * 1024 + 1024
    rw [(index2 t).2]; omega

/-- The kernel's run leaves the projection in its result and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0) = proj m c :=
  (θ_run defs _ _).mono (fun r h c => ((h c).1 2).trans
    ((dats m 0 c).arrAt_eq_of_cover 2 _ (fun t hf => flushed m c t hf) covered)) (run_main m ρ)

/-! ## The reference -/

theorem reference_eq (x : Vec Ideal S8192x2048 .bf16) (y : Vec Ideal S2048x2048 .bf16) (i : S8192x2048.Idx) :
    Cert.YReferenceIdeal.Read.val_main_v2 (F := Ideal) x y i = ∑ u ∈ range 2048, at2 x (i 0).val u * at2 y u (i 1).val := by
  rw [Cert.YReferenceIdeal.Read.val_main_v2_apply, sum_range]
  refine sum_congr rfl fun k _ => ?_
  rw [Cert.YReferenceIdeal.Read.val_main_v0_apply, Cert.YReferenceIdeal.Read.val_main_v1_apply]
  exact congrArg₂ (· * ·) (at2_eq x _ rfl rfl) (at2_eq y _ rfl rfl)

/-- Over the reals, the kernel's projection is the reference's. -/
theorem values : Cert.algebraic_YKernelIdeal_YReferenceIdeal := fun m g m' g' _ hm =>
  ⟨fun c => proj m c,
    (θ_run defs _ _).mono (fun r h c => ⟨h.1 c, h.2 c⟩) (θ_run_and (run m g) (unchanged m g)),
    (θ_run Cert.YReferenceIdeal.defs _ _).mono (fun r h c =>
        ⟨(h c).1.trans ((Cert.YReferenceIdeal.Read.val_main_v2_eq _ _).trans (by
          rw [(hm c).1, (hm c).2]
          exact funext fun i => reference_eq _ _ i)),
          (h c).2⟩)
        (Cert.YReferenceIdeal.Value.run (F := Ideal) m' g')⟩

end Cert.YKernelIdeal.Mm
end
end
-- ==== Proof.Big.lean ====
module

public import proofs.«01_k».proof.Defs
public import proofs.«01_k».proof.Proof.Products
public import proofs.«01_k».proof.Proof.Gen.BigReferenceIdeal.Run
public import proofs.«01_k».proof.Proof.Gen.BigKernelIdeal.Frame
public import Idealize.ShloMosaic.Lib.Pipeline.Value
public import proofs.«01_k».proof.Proof.Gen.BigReferenceIdeal.Read
public import Idealize.ShloMosaic.Lib.VecWindow
public import Idealize.ShloMosaic.Lib.StableHlo.Run
public import Idealize.ShloMosaic.Lib.Pointwise

/-! The input projection without its small columns: the tiled product of the activations with the weight's other columns. -/

@[expose] public section

noncomputable section

namespace Cert.BigKernelIdeal.Mm

open Idealize.ShloMosaic Idealize.ShloMosaic.TcCoe Cert.BigKernelIdeal.Gen Cert.BigKernelIdeal
open Idealize.SL Idealize.SL.Sem Idealize.ShloMosaic.StableHlo
open Cert.Mm Finset

section
variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1024x1024 .f32) (harg6 : arg6.IsWhole)
  (x0 x1 : Vec Ideal S1024x1024 .bf16) (xs0 : Vec Ideal S1024x1024 .f32)

theorem set_A (h0 : cond0_0 i) (h1 : ¬cond0_1 i) :
    sout0_A_0 c i arg3 harg3 arg4 harg4 arg5 harg5 arg6 harg6 h0 h1 x0 x1 = k0_pay2 k0_pay1 x0 x1 := by
  unfold sout0_A_0 kernelRun0_A
  dsimp only
  simp only [kernelRun0_A.sl.v3, kernelRun0_A.sl.HS0_1, read_stored, load_stored, cov_stored, load_whole]

theorem add_B (h0 : ¬cond0_0 i) (h1 : cond0_1 i) :
    sout0_B_0 c i arg3 harg3 arg4 harg4 arg5 harg5 arg6 harg6 h0 h1 x0 x1 xs0 = k0_pay2 xs0 x0 x1 := by
  unfold sout0_B_0 kernelRun0_B
  dsimp only
  simp only [kernelRun0_B.sl.HS0_1, kernelRun0_B.sl.v15, read_stored, load_stored, cov_stored, load_whole]

theorem out_B (h0 : ¬cond0_0 i) (h1 : cond0_1 i) :
    out0_B_2 c i arg3 harg3 arg4 harg4 arg5 harg5 arg6 harg6 h0 h1 x0 x1 xs0 = k0_pay2 xs0 x0 x1 := by
  unfold out0_B_2 kernelRun0_B
  dsimp only
  simp only [kernelRun0_B.sl.HS0_1, kernelRun0_B.sl.v15, read_stored, load_stored, cov_stored, load_whole]

theorem pay2_apply (r q : Fin 1024) :
    k0_pay2 xs0 x0 x1 (ix2 r q) = xs0 (ix2 r q) + ∑ k : Fin 1024, x0 (ix2 r k) * x1 (ix2 k q) := by
  simp only [k0_pay2, shapeCast_self]
  pointwise
  done

theorem pay1_apply (y : S1024x1024.Idx) : k0_pay1 (F := Ideal) y = 0 := by
  simp only [k0_pay1, shapeCast_self]
  pointwise
  done
end

/-! ## At a grid point -/

theorem index0 : ∀ t : Fin grid0.N, win0_0.index t (0 : Fin 2) = t.val / 40 ∧ win0_0.index t (1 : Fin 2) = t.val % 2 := by
  decide +kernel
theorem index1 : ∀ t : Fin grid0.N, win0_1.index t (0 : Fin 2) = t.val % 2 ∧ win0_1.index t (1 : Fin 2) = t.val / 2 % 20 := by
  decide +kernel
theorem index2 : ∀ t : Fin grid0.N, win0_2.index t (0 : Fin 2) = t.val / 40 ∧ win0_2.index t (1 : Fin 2) = t.val / 2 % 20 := by
  decide +kernel

variable (m : (ℓ : Loc nD τ sig) → Buf (Elt Ideal) ℓ) (c : Dev nD)

/-- The activations. -/
abbrev X : Vec Ideal S8192x2048 .bf16 := m ((c : Thread nD τ).loc main_arg0)
/-- The input weight. -/
abbrev Y : Vec Ideal S2048x20512 .bf16 := m ((c : Thread nD τ).loc main_arg1)
/-- The input weight without its small columns, as the host joins it. -/
def big : Vec Ideal S2048x20480 .bf16 := V m c main_v2

theorem big_apply (u j : ℕ) (hu : u < 2048) (hj : j < 20480) : at2 (big m c) u j = at2 (Y m c) u (col j) := by
  rw [at2_of_lt _ hu hj]
  have e : big m c = concatenate S2048x20480 1 [⟨S2048x16384, extractStridedSlice S2048x16384 ![0, 0] (Y m c) slices_S2048x20512_S2048x16384_0_0⟩,
      ⟨S2048x4096, extractStridedSlice S2048x4096 ![0, 16416] (Y m c) slices_S2048x20512_S2048x4096_0_16416⟩] concatenates_S2048x16384_S2048x4096_S2048x20480_d1 := by
    unfold big V
    simp only [hostOps0]
    after_results_simp
    rfl
  rw [e]
  exact joined (Y m c) _ _ _ _ _

theorem blk0 (t : Fin cfg0.N) (r k : Fin 1024) :
    iblk m c 0 t (ix2 r k) = at2 (X m c) (1024 * (t.val / 40) + r) (1024 * (t.val % 2) + k) := by
  unfold iblk
  rw [View.read_apply]
  refine Eq.trans (at2_eq (V m c main_arg0) _ (r := 1024 * (t.val / 40) + r) (c := 1024 * (t.val % 2) + k) ?_ ?_) ?_
  · show win0_0.index t 0 * 1024 + 1 * r.val = _
    rw [(index0 t).1]; omega
  · show win0_0.index t 1 * 1024 + 1 * k.val = _
    rw [(index0 t).2]; omega
  · rw [V_main_arg0]

theorem blk1 (t : Fin cfg0.N) (k q : Fin 1024) :
    iblk m c 1 t (ix2 k q) = at2 (big m c) (1024 * (t.val % 2) + k) (1024 * (t.val / 2 % 20) + q) := by
  unfold iblk
  rw [View.read_apply]
  refine Eq.trans (at2_eq (V m c main_v2) _ (r := 1024 * (t.val % 2) + k) (c := 1024 * (t.val / 2 % 20) + q) ?_ ?_) ?_
  · show win0_1.index t 0 * 1024 + 1 * k.val = _
    rw [(index1 t).1]; omega
  · show win0_1.index t 1 * 1024 + 1 * q.val = _
    rw [(index1 t).2]; omega
  · rfl

/-- What position `u` brings to the entry at `a`, `b`. -/
def term (a b u : ℕ) : EReal := at2 (X m c) a u * at2 (big m c) u b

/-- What point `n` adds at `r`, `q` of its block. -/
def brought (r q : Fin 1024) (n : ℕ) : EReal :=
  ∑ k : Fin 1024, term m c (1024 * (n / 40) + r) (1024 * (n / 2 % 20) + q) (1024 * (n % 2) + k)

theorem dot_point (t : Fin cfg0.N) (r q : Fin 1024) :
    ∑ k : Fin 1024, (show EReal from iblk m c 0 t (ix2 r k)) * (show EReal from iblk m c 1 t (ix2 k q)) = brought m c r q t :=
  sum_congr rfl fun k _ => by rw [blk0, blk1]; rfl

theorem acc_first (t : Fin cfg0.N) (h0 : t.val % 2 = 0) (r q : Fin 1024) :
    (outsAt0 m c t.val t.isLt).2 (ix2 r q) = brought m c r q t := by
  rw [outsAt0_A m c t h0 (by omega)]
  dsimp only
  rw [set_A, pay2_apply, pay1_apply, zero_add, dot_point]

theorem acc_next (t : Fin cfg0.N) (h0 : ¬t.val % 2 = 0) (r q : Fin 1024) :
    (outsAt0 m c t.val t.isLt).2 (ix2 r q) = (outsAt0 m c (t.val - 1) (by omega)).2 (ix2 r q) + brought m c r q t := by
  rw [outsAt0_B m c t h0 (by omega)]
  dsimp only
  rw [add_B, pay2_apply, dot_point]

theorem out_last (t : Fin cfg0.N) (h1 : t.val % 2 = 1) : (outsAt0 m c t.val t.isLt).1 = (outsAt0 m c t.val t.isLt).2 := by
  rw [outsAt0_B m c t (by omega) h1]
  dsimp only
  rw [add_B, out_B]

/-- What the last point of a run writes: the sum over all positions. -/
theorem written (t : Fin cfg0.N) (h1 : t.val % 2 = 1) (r q : Fin 1024) :
    (outsAt0 m c t.val t.isLt).1 (ix2 r q)
      = ∑ u ∈ range 2048, term m c (1024 * (t.val / 40) + r) (1024 * (t.val / 2 % 20) + q) u := by
  rw [out_last m c t h1,
    accumulated (K := 2) (fun n h => (outsAt0 m c n h).2 (ix2 r q)) (brought m c r q)
      (fun n h h0 => acc_first m c ⟨n, h⟩ h0 r q) (fun n h h0 => acc_next m c ⟨n, h⟩ h0 r q) t.val t.isLt,
    h1, show (2048 : ℕ) = 1024 * (1 + 1) from rfl, ← sum_blocks]
  refine sum_congr rfl fun s hs => ?_
  have h2 := mem_range.mp hs
  unfold brought
  rw [show (2 * (t.val / 2) + s) / 40 = t.val / 40 by omega, show (2 * (t.val / 2) + s) / 2 % 20 = t.val / 2 % 20 by omega,
    show (2 * (t.val / 2) + s) % 2 = s by omega]

/-! ## The result -/

/-- The projection: the activations times the weight. -/
def proj : Vec Ideal S8192x20480 .f32 := fun i => ∑ u ∈ range 2048, term m c (i 0).val (i 1).val u

theorem flushed (t : Fin cfg0.N) (hf : (cfg0.win 2).flush t = true) :
    (dats m 0 c).flushed 2 t = ((cfg0.win 2).blk t).view.read (Elt Ideal) (proj m c) := by
  show (cfg0.win 2).cut (grid0.coords t) ((dats m 0 c).after 2 t) = _
  rw [after0_2]
  have h1 : t.val % 2 = 1 := (flush0_2 t).mp hf
  funext y
  rw [View.read_apply]
  have h := written m c t h1 (⟨(y 0).val, (y 0).isLt⟩ : Fin 1024) (⟨(y 1).val, (y 1).isLt⟩ : Fin 1024)
  have e0 : (((cfg0.win 2).blk t).view.emb y 0).val = 1024 * (t.val / 40) + (y 0).val := by
    show win0_2.index t 0 * 1024 + 1 * (y 0).val = _
    rw [(index2 t).1]; omega
  have e1 : (((cfg0.win 2).blk t).view.emb y 1).val = 1024 * (t.val / 2 % 20) + (y 1).val := by
    show win0_2.index t 1 * 1024 + 1 * (y 1).val = _
    rw [(index2 t).2]; omega
  have hx : (cfg0.win 2).xinj (grid0.coords t) y = ix2 (⟨(y 0).val, (y 0).isLt⟩ : Fin 1024) (⟨(y 1).val, (y 1).isLt⟩ : Fin 1024) := by
    funext a
    match a with
    | ⟨0, _⟩ => rfl
    | ⟨1, _⟩ => rfl
  have hg : proj m c (((cfg0.win 2).blk t).view.emb y)
      = ∑ u ∈ range 2048, term m c (1024 * (t.val / 40) + (y 0).val) (1024 * (t.val / 2 % 20) + (y 1).val) u := by
    unfold proj
    rw [e0, e1]
  dsimp only at h
  refine (congrArg (outsAt0 m c t.val t.isLt).1 hx).trans ?_
  rw [h, ← hg]
  exact (cast_eq _ _).symm

theorem covered (i : S8192x20480.Idx) : ∃ t : Fin cfg0.N, (cfg0.win 2).flush t = true ∧ i ∈ ((cfg0.win 2).blk t).view.set := by
  have hi0 : (i 0).val < 8192 := (i 0).isLt
  have hi1 : (i 1).val < 20480 := (i 1).isLt
  have hN : cfg0.N = 320 := N_0
  refine ⟨⟨40 * ((i 0).val / 1024) + 2 * ((i 1).val / 1024) + 1, by omega⟩, (flush0_2 _).mpr (by dsimp only; omega), ?_⟩
  generalize ht : (⟨40 * ((i 0).val / 1024) + 2 * ((i 1).val / 1024) + 1, _⟩ : Fin cfg0.N) = t
  have htv : t.val = 40 * ((i 0).val / 1024) + 2 * ((i 1).val / 1024) + 1 := by rw [← ht]
  show i ∈ ((View.whole main_v3).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [(index2 t).1]; omega
  | ⟨1, _⟩ =>
    show win0_2.index t (1 : Fin 2) * 1024 ≤ (i 1).val ∧ (i 1).val < win0_2.index t (1 : Fin 2) * 1024 + 1024
    rw [(index2 t).2]; omega

/-- The kernel's run leaves the projection in its result and its arguments as they were. -/
theorem run (ρ : Dev nD → PrngReg) : θ_run defs (onTc (τ := τ) (main (F := Ideal))) ⟨m, fun _ => 0, ρ⟩ fun r => ∀ c : Dev nD,
    r.2.mem ((c : Thread nD τ).loc main_v3) = proj m c :=
  (θ_run defs _ _).mono (fun r h c => ((h c).1 2).trans
    ((dats m 0 c).arrAt_eq_of_cover 2 _ (fun t hf => flushed m c t hf) covered)) (run_main m ρ)

/-! ## The reference -/

theorem whole_eq (x : Vec Ideal S8192x2048 .bf16) (y : Vec Ideal S2048x20512 .bf16) (r j : ℕ) (hr : r < 8192) (hj : j < 20512) :
    at2 (Cert.BigReferenceIdeal.Read.val_main_v2 (F := Ideal) x y) r j = ∑ u ∈ range 2048, at2 x r u * at2 y u j := by
  rw [at2_of_lt _ hr hj, Cert.BigReferenceIdeal.Read.val_main_v2_apply, sum_range]
  refine sum_congr rfl fun k _ => ?_
  rw [Cert.BigReferenceIdeal.Read.val_main_v0_apply, Cert.BigReferenceIdeal.Read.val_main_v1_apply]
  exact congrArg₂ (· * ·) (at2_eq x _ rfl rfl) (at2_eq y _ rfl rfl)

theorem reference_eq (i : S8192x20480.Idx) : Cert.BigReferenceIdeal.Read.val_main_v5 (F := Ideal) (X m c) (Y m c) i = proj m c i := by
  have hi1 : (i 1).val < 20480 := (i 1).isLt
  have hi : i = ix2 (⟨(i 0).val, (i 0).isLt⟩ : Fin 8192) (⟨(i 1).val, (i 1).isLt⟩ : Fin 20480) := by
    funext a
    match a with
    | ⟨0, _⟩ => rfl
    | ⟨1, _⟩ => rfl
  refine (congrArg _ hi).trans ((joined (Cert.BigReferenceIdeal.Read.val_main_v2 (F := Ideal) (X m c) (Y m c)) _ _ _ _ _).trans ?_)
  rw [whole_eq _ _ _ _ (i 0).isLt (by unfold col; dsimp only; split <;> omega)]
  unfold proj term
  refine sum_congr rfl fun u hu => ?_
  rw [big_apply m c u (i 1).val (mem_range.mp hu) hi1]

/-- Over the reals, the kernel's projection is the reference's. -/
theorem values : Cert.algebraic_BigKernelIdeal_BigReferenceIdeal := fun m g m' g' _ hm =>
  ⟨fun c => proj m c,
    (θ_run defs _ _).mono (fun r h c => ⟨h.1 c, h.2 c⟩) (θ_run_and (run m g) (unchanged m g)),
    (θ_run Cert.BigReferenceIdeal.defs _ _).mono (fun r h c =>
        ⟨(h c).1.trans ((Cert.BigReferenceIdeal.Read.val_main_v5_eq _ _).trans (by
          rw [(hm c).1, (hm c).2]
          exact funext fun i => reference_eq m c i)),
          (h c).2⟩)
        (Cert.BigReferenceIdeal.Value.run (F := Ideal) m' g')⟩

end Cert.BigKernelIdeal.Mm
end
end
-- ==== Proof.FwdBlock.lean ====
module

public import proofs.«01_k».proof.Proof.Gen.FwdKernelIdeal.Loops
public import proofs.«01_k».proof.Proof.Block

/-! One block of 512 rows and 256 columns of the attention's forward pass: what it adds to the outputs, to what is
    left of the stick and to the saved numbers, as the kernel computes it and over the reals. The weights are computed
    as in the gradient's kernel (`Block`). -/

@[expose] public section

noncomputable section

namespace Cert.FwdKernelIdeal.Sb

open Idealize.ShloMosaic Idealize.ShloMosaic.TcCoe Cert.FwdKernelIdeal.Gen
open Idealize.SL Idealize.SL.Sem
open Cert.KernelIdeal.Sb (aB zB lbB sumB dqB Keeps keepB IsScale)
open Stick

variable {F : FTy → Type} [FloatOps F]

/-- The triangle the later columns are summed with, twice over. -/
abbrev tri : FVec F S512x256 .bf16 := k0_pay28
/-- What the row block carries from one block of columns to the next: the outputs, what is left of the stick, and the
    saved numbers. -/
abbrev Carry (F : FTy → Type) : Type := FVec F S512x128 .f32 × FVec F S512x1 .f32 × FVec F S512x128 .f32
/-- The saved numbers with lane `n` set to what is left of the stick. -/
def saveB (lane : IVec S512x128 32) (n : BitVec 32) (accL : FVec F S512x1 .f32) (saved : FVec F S512x128 .f32) : FVec F S512x128 .f32 :=
  select (cmpi .eq lane (broadcast S512x128 n))
    (broadcastTo S512x128 (shapeCast S512x1 accL shapeCasts_S512x1_S512x1) broadcasts_S512x1_S512x128) saved
/-- One block of columns. -/
def stepB (keep : FVec F S512x256 .f32 → FVec F S512x256 .f32) (q : FVec F S512x128 .bf16) (K V : Vec F S256x128 .bf16)
    (lane : IVec S512x128 32) (n : BitVec 32) (st : Carry F) : Carry F :=
  (dqB st.1 (truncf .bf16 (aB keep q K (tri (F := F)) st.2.1) bitsLt_bf16_f32) V,
    sumB st.2.1 (keep (subf (lbB (zB q K)) (zB q K))), saveB lane n st.2.1 st.2.2)

/-- The lanes' numbers. -/
abbrev lanes : IVec S512x128 32 := iota .tc S512x128 32 [1] iota_S512x128_d1_w32

/-- A sum from block `j` on is the block's and the sum from the next block on. -/
theorem sum_Ico_block {M : Type*} [AddCommMonoid M] (f : ℕ → M) {j : ℕ} (hj : j < 32) :
    ∑ u ∈ Finset.Ico (256 * j) 8192, f u = ∑ c : Fin 256, f (256 * j + c) + ∑ u ∈ Finset.Ico (256 * (j + 1)) 8192, f u := by
  rw [← Finset.sum_Ico_consecutive f (show 256 * j ≤ 256 * (j + 1) by omega) (show 256 * (j + 1) ≤ 8192 by omega),
    Finset.sum_Ico_eq_sum_range, show 256 * (j + 1) - 256 * j = 256 by omega, Finset.sum_range]

/-- What row `t` of the attention's output is in column `d`. -/
def out (I : In) (t d : ℕ) : ℝ := ∑ u ∈ Finset.range 8192, I.a t u * I.v u d

/-- Row block `i` before column block `j - 1`: what is carried counts the columns from `256 j` on. -/
structure Inv (I : In) (i j : ℕ) (st : Carry Ideal) : Prop where
  o : ∀ (r : Fin 512) (d : Fin 128), st.1 (ix2 r d)
    = ((∑ u ∈ Finset.Ico (256 * j) 8192, I.a (512 * i + r) u * I.v u d : ℝ) : EReal)
  l : ∀ r : Fin 512, st.2.1 (ix2 r 0) = ((∑ u ∈ Finset.Ico (256 * j) 8192, I.ln (512 * i + r) u : ℝ) : EReal)
  s : ∀ (r : Fin 512) (m : Fin 128), st.2.2 (ix2 r m)
    = ((if j ≤ m.val then I.later (512 * i + r) (256 * m + 255) else 0 : ℝ) : EReal)

/-- Nothing is carried before the last block of the causal triangle. -/
theorem inv_start (I : In) (i : ℕ) : Inv I i (2 * i + 2) (k0_pay29, k0_pay30, k0_pay31) where
  o r d := by
    rw [Finset.sum_eq_zero fun u hu => by
      rw [I.a_of_le (by have := (Finset.mem_Ico.mp hu).1; omega), zero_mul]]
    show Ideal.ofBits .f32 0x00000000#32 = _
    simp
  l r := by
    rw [Finset.sum_eq_zero fun u hu => by
      rw [In.ln, if_neg (by have := (Finset.mem_Ico.mp hu).1; omega)]]
    show Ideal.ofBits .f32 0x00000000#32 = _
    simp
  s r m := by
    have : (if 2 * i + 2 ≤ m.val then I.later (512 * i + r) (256 * m + 255) else 0 : ℝ) = 0 := by
      split
      · exact Finset.sum_eq_zero fun u hu => by
          rw [In.ln, if_neg (by have := (Finset.mem_Ico.mp hu).1; omega)]
      · rfl
    rw [this]
    show Ideal.ofBits .f32 0x00000000#32 = _
    simp

/-- A block's loaded arrays hold the head's numbers: rows `512 i + r`, columns `256 j + c`. -/
structure Blk (I : In) (i j : ℕ) (keep : FVec Ideal S512x256 .f32 → FVec Ideal S512x256 .f32) (q : FVec Ideal S512x128 .bf16)
    (K V : Vec Ideal S256x128 .bf16) : Prop where
  hs : IsScale I
  hj : j < 32
  hkeep : Keeps i j keep
  hq : ∀ (r : Fin 512) (d : Fin 128), q (ix2 r d) = (I.q (512 * i + r) d : EReal)
  hK : ∀ (c : Fin 256) (d : Fin 128), K (ix2 c d) = (I.k (256 * j + c) d : EReal)
  hV : ∀ (c : Fin 256) (d : Fin 128), V (ix2 c d) = (I.v (256 * j + c) d : EReal)

section
variable {I : In} {i j : ℕ} {keep : FVec Ideal S512x256 .f32 → FVec Ideal S512x256 .f32} {q : FVec Ideal S512x128 .bf16}
  {K V : Vec Ideal S256x128 .bf16} {st : Carry Ideal}

theorem Inv.hL (h : Inv I i (j + 1) st) (r : Fin 512) : st.2.1 (ix2 r 0) = (I.later (512 * i + r) (256 * j + 255) : EReal) := by
  rw [h.l, In.later, show 256 * (j + 1) = 256 * j + 255 + 1 by omega]

theorem saveB_apply (n : ℕ) (hn : n < 128) (accL : FVec Ideal S512x1 .f32) (saved : FVec Ideal S512x128 .f32) (r : Fin 512) (m : Fin 128) :
    saveB lanes (BitVec.ofNat 32 n) accL saved (ix2 r m) = if m.val = n then accL (ix2 r 0) else saved (ix2 r m) := by
  simp only [saveB]
  pointwise
  show Scalar.select (BitVec.ofBool (BitVec.ofNat 32 m.val == BitVec.ofNat 32 n)) _ _ = _
  rw [Cert.KernelIdeal.Sb.select_ofBool]
  have : (BitVec.ofNat 32 m.val == BitVec.ofNat 32 n) = decide (m.val = n) := by
    rw [Bool.eq_iff_iff, beq_iff_eq, decide_eq_true_eq]
    constructor
    · intro h
      have := congrArg BitVec.toNat h
      simp only [BitVec.toNat_ofNat] at this
      omega
    · rintro rfl; rfl
  rw [this]
  simp only [decide_eq_true_eq]

/-- One block carries the invariant on. -/
theorem Inv.step (h : Inv I i (j + 1) st) (hB : Blk I i j keep q K V) :
    Inv I i j (stepB keep q K V lanes (BitVec.ofNat 32 j) st) where
  o r d := by
    have ha := Cert.KernelIdeal.Sb.aB_apply (accL := st.2.1) hB.hj hB.hs hB.hkeep hB.hq hB.hK h.hL
    rw [sum_Ico_block _ hB.hj, add_comm, EReal.coe_add, ← h.o]
    simp only [stepB, dqB]
    pointwise
    congr 1
    refine sum_eq_coe _ fun c _ => ?_
    rw [EReal.coe_mul, ← hB.hV c d]
    exact congrArg (· * V (ix2 c d)) (ha r c)
  l r := by
    have hz := Cert.KernelIdeal.Sb.zB_apply hB.hs hB.hq hB.hK
    rw [sum_Ico_block _ hB.hj, add_comm, EReal.coe_add, ← h.l]
    simp only [stepB, sumB]
    pointwise
    congr 1
    refine sum_eq_coe _ fun c _ => ?_
    rw [hB.hkeep, In.ln]
    split
    · show lbB (zB q K) (ix2 r c) - zB q K (ix2 r c) = _
      rw [Cert.KernelIdeal.Sb.lbB_apply r c (hz r c), hz, EReal.coe_sub]
    · rfl
  s r m := by
    show saveB lanes (BitVec.ofNat 32 j) st.2.1 st.2.2 (ix2 r m) = _
    rw [saveB_apply j (by have := hB.hj; omega)]
    by_cases hm : m.val = j
    · rw [if_pos hm, h.hL, if_pos (by omega), hm]
    · rw [if_neg hm, h.s]
      by_cases h1 : j ≤ m.val
      · rw [if_pos h1, if_pos (by omega)]
      · rw [if_neg h1, if_neg (by omega)]
end

end Cert.FwdKernelIdeal.Sb
end
end
-- ==== Proof.FwdPoint.lean ====
module

public import proofs.«01_k».proof.Proof.Gen.FwdKernelIdeal.Frame
public import proofs.«01_k».proof.Proof.FwdBlock
public import proofs.«01_k».proof.Proof.Products

/-! One grid point of the attention's forward pass: the two masked blocks of columns, then the loop over the earlier
    ones, from the last to the first; and what the point stores. -/

@[expose] public section

noncomputable section

namespace Cert.FwdKernelIdeal.Sb

open Idealize.ShloMosaic Idealize.ShloMosaic.TcCoe Cert.FwdKernelIdeal.Gen
open Idealize.SL Idealize.SL.Sem
open Cert.KernelIdeal.Sb (aB zB lbB sumB dqB Keeps keepB IsScale keeps_id keeps_keepB)
open Stick

variable {F : FTy → Type} [FloatOps F]

/-! ## Where the blocks lie -/

theorem t1_trips (i : grid0.Coords) : (k0_t1_loop i).trips = (i 1).val :=
  (by decide : ∀ n : Fin 16, Scf.trips (0#32) (Scalar.addi 0#32 (Scalar.muli (Scalar.divsi (Scalar.subi (BitVec.ofNat 32 n.val) 0#32) 1#32) 1#32)) 1#32 = n.val) (i 1)

theorem t2_trips (i : grid0.Coords) : (k0_t2_loop i).trips = 0 :=
  (by decide : ∀ n : Fin 16, Scf.trips
    (Scalar.addi 0#32 (Scalar.muli (Scalar.divsi (Scalar.subi (BitVec.ofNat 32 n.val) 0#32) 1#32) 1#32))
    (Scalar.addi 0#32 (Scalar.subi (BitVec.ofNat 32 n.val) 0#32)) 1#32 = 0) (i 1)

/-- The rows of column block `e` of the point's own row block. -/
abbrev rectM (i : grid0.Coords) (e : Fin 2) : Rect S8192x128 :=
  Rect.unit (s := S8192x128) (k0_off1 i (BitVec.ofNat 32 e.val)) S256x128.size (k0_off1_inb i e)
/-- The rows of block `e` of trip `k`. -/
abbrev rectT (i : grid0.Coords) (k : Fin (k0_t1_loop i).trips) (e : Fin 2) : Rect S8192x128 :=
  Rect.unit (s := S8192x128) (k0_off2 i k (BitVec.ofNat 32 e.val)) S256x128.size (k0_off2_inb i k e)
/-- The number of the masked block `e`, as a word. -/
abbrev wordM (i : grid0.Coords) (e : Fin 2) : BitVec 32 :=
  Scalar.addi (Scalar.muli (BitVec.ofNat 32 (i 1).val) 2#32) (BitVec.ofNat 32 e.val)
/-- The number of block `e` of trip `k`, as a word. -/
abbrev wordT (i : grid0.Coords) (k : Fin (k0_t1_loop i).trips) (e : Fin 2) : BitVec 32 :=
  Scalar.addi (Scalar.muli (Scalar.subi (Scalar.subi (BitVec.ofNat 32 (i 1).val) 1#32) (Scf.iv 0#32 1#32 k)) 2#32) (BitVec.ofNat 32 e.val)

theorem off1_eq (i : grid0.Coords) (e : Fin 2) :
    k0_off1 i (BitVec.ofNat 32 e.val) = ![256 * (2 * (i 1).val + e.val), 0] := by
  refine congrArg (fun n : ℕ => (![n, 0] : Fin 2 → ℕ)) ?_
  exact (by decide : ∀ (k : Fin 16) (e : Fin 2), (Scalar.indexCast (Scalar.muli (Scalar.addi (Scalar.muli (BitVec.ofNat 32 k.val) 2#32)
    (BitVec.ofNat 32 e.val)) 256#32) : Index).toNat = 256 * (2 * k.val + e.val)) (i 1) e

theorem off2_eq (i : grid0.Coords) (k : Fin (k0_t1_loop i).trips) (e : Fin 2) :
    k0_off2 i k (BitVec.ofNat 32 e.val) = ![256 * (2 * ((i 1).val - 1 - k.val) + e.val), 0] := by
  have hk : k.val < (i 1).val := k.isLt.trans_eq (t1_trips i)
  have hi : (i 1).val < 16 := (i 1).isLt
  refine congrArg (fun n : ℕ => (![n, 0] : Fin 2 → ℕ)) ?_
  exact (by decide : ∀ (n k : Fin 16) (e : Fin 2), k.val < n.val → (Scalar.indexCast (Scalar.muli (Scalar.addi (Scalar.muli
    (Scalar.subi (Scalar.subi (BitVec.ofNat 32 n.val) 1#32) (Scf.iv 0#32 1#32 k.val)) 2#32)
    (BitVec.ofNat 32 e.val)) 256#32) : Index).toNat = 256 * (2 * (n.val - 1 - k.val) + e.val)) (i 1) ⟨k.val, hk.trans hi⟩ e hk

theorem wordM_eq (i : grid0.Coords) (e : Fin 2) : wordM i e = BitVec.ofNat 32 (2 * (i 1).val + e.val) :=
  (by decide : ∀ (k : Fin 16) (e : Fin 2), Scalar.addi (Scalar.muli (BitVec.ofNat 32 k.val) 2#32)
    (BitVec.ofNat 32 e.val) = BitVec.ofNat 32 (2 * k.val + e.val)) (i 1) e

theorem wordT_eq (i : grid0.Coords) (k : Fin (k0_t1_loop i).trips) (e : Fin 2) :
    wordT i k e = BitVec.ofNat 32 (2 * ((i 1).val - 1 - k.val) + e.val) := by
  have hk : k.val < (i 1).val := k.isLt.trans_eq (t1_trips i)
  have hi : (i 1).val < 16 := (i 1).isLt
  exact (by decide : ∀ (n k : Fin 16) (e : Fin 2), k.val < n.val → Scalar.addi (Scalar.muli
    (Scalar.subi (Scalar.subi (BitVec.ofNat 32 n.val) 1#32) (Scf.iv 0#32 1#32 k.val)) 2#32)
    (BitVec.ofNat 32 e.val) = BitVec.ofNat 32 (2 * (n.val - 1 - k.val) + e.val)) (i 1) ⟨k.val, hk.trans hi⟩ e hk

/-! ## The point's steps -/

section
variable (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S8192x128 .bf16) (harg7 : arg7.IsWhole)
  (arg8 : Memref sig .tc .vmem S8192x128 .bf16) (harg8 : arg8.IsWhole)
  (v3 : Vec F S512x128 .f32)
  (X7 : BufTy.Contents (Elt F) arg7.view.ty) (X8 : BufTy.Contents (Elt F) arg8.view.ty)

/-- 256 rows of a scratch array. -/
abbrev rowsAt (b : Memref sig .tc .vmem S8192x128 .bf16) (X : BufTy.Contents (Elt F) b.view.ty) {off : Fin 2 → ℕ}
    (inb : ∀ a : Fin 2, off a + S256x128.size a ≤ S8192x128.size a) : Vec F S256x128 .bf16 :=
  View.readAt (Elt F) b.view (Rect.unit (s := S8192x128) off S256x128.size inb).toLoadRect X

/-- The masked block `e`. -/
abbrev stM (e : Fin 2) (st : Carry F) : Carry F :=
  stepB (keepB (BitVec.ofNat 32 (i 1).val) (wordM i e)) (k0_pay27 v3) (rowsAt arg7 X7 (k0_off1_inb i e))
    (rowsAt arg8 X8 (k0_off1_inb i e)) lanes (wordM i e) st
/-- Block `e` of trip `k`. -/
abbrev stT (k : Fin (k0_t1_loop i).trips) (e : Fin 2) (st : Carry F) : Carry F :=
  stepB id (k0_pay27 v3) (rowsAt arg7 X7 (k0_off2_inb i k e)) (rowsAt arg8 X8 (k0_off2_inb i k e)) lanes (wordT i k e) st

/-- What a trip carries on: its two blocks, the later first. -/
theorem tripR_eq (k : Fin (k0_t1_loop i).trips) (st : Carry F) :
    tripR_k0_t1 Variants.none c none i arg2 harg2 arg3 harg3 arg4 harg4 arg5 harg5 arg6 harg6 arg7 harg7 arg8 harg8
        (BitVec.ofNat 32 (i 1).val) (k0_pay27 v3) (k0_pay28 (F := F)) lanes 0#32 1#32 X7 X8 k st
      = stT i arg7 arg8 v3 X7 X8 k 0 (stT i arg7 arg8 v3 X7 X8 k 1 st) := by
  unfold tripR_k0_t1 trip_k0_t1
  dsimp only
  rfl

/-- What the loop over the earlier column blocks carries before trip `k`. -/
abbrev loop1 (k : ℕ) : Carry F :=
  st_k0_t1 Variants.none c none i arg2 harg2 arg3 harg3 arg4 harg4 arg5 harg5 arg6 harg6 arg7 harg7 arg8 harg8
    (BitVec.ofNat 32 (i 1).val) (k0_pay27 v3) (k0_pay28 (F := F)) lanes 0#32 1#32 X7 X8
    (stM i arg7 arg8 v3 X7 X8 0 (stM i arg7 arg8 v3 X7 X8 1 (k0_pay29, k0_pay30, k0_pay31))) k

/-- What the point carries at its end; the last loop makes no trip. -/
def ptAll : Carry F :=
  st_k0_t2 Variants.none c none i arg2 harg2 arg3 harg3 arg4 harg4 arg5 harg5 arg6 harg6 arg7 harg7 arg8 harg8
    (BitVec.ofNat 32 (i 1).val) (k0_pay27 v3) (k0_pay28 (F := F)) lanes
    (Scalar.addi 0#32 (Scalar.muli (Scalar.divsi (Scalar.subi (BitVec.ofNat 32 (i 1).val) 0#32) 1#32) 1#32)) X7 X8
    (loop1 c i arg2 harg2 arg3 harg3 arg4 harg4 arg5 harg5 arg6 harg6 arg7 harg7 arg8 harg8 v3 X7 X8 (k0_t1_loop i).trips) (k0_t2_loop i).trips

theorem ptAll_eq : ptAll c i arg2 harg2 arg3 harg3 arg4 harg4 arg5 harg5 arg6 harg6 arg7 harg7 arg8 harg8 v3 X7 X8
    = loop1 c i arg2 harg2 arg3 harg3 arg4 harg4 arg5 harg5 arg6 harg6 arg7 harg7 arg8 harg8 v3 X7 X8 (i 1).val := by
  unfold ptAll
  rw [t2_trips, t1_trips]
  rfl
end

section
variable (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S8192x128 .bf16) (harg7 : arg7.IsWhole)
  (arg8 : Memref sig .tc .vmem S8192x128 .bf16) (harg8 : arg8.IsWhole)
  (x0 : Vec F S512x128 .f32) (x1 x2 : Vec F S8192x128 .f32) (xs0 xs1 : Vec F S8192x128 .bf16)

/-- The whole of a block of rows. -/
abbrev rowR : Rect S512x128 := Rect.unit ![0, 0] S512x128.size inb_S512x128_S512x128_0_0
/-- The whole of a scratch array. -/
abbrev allR : Rect S8192x128 := Rect.unit ![0, 0] S8192x128.size inb_S8192x128_S8192x128_0_0

/-- A point inside a head: what it stores. -/
theorem runB (hc0 : ¬cond0_0 i) {r}
    (hr : r = kernelRun0_B c i arg2 harg2 arg3 harg3 arg4 harg4 arg5 harg5 arg6 harg6 arg7 harg7 arg8 harg8 hc0 x0 x1 x2 xs0 xs1) :
    ∃ w, w = ptAll c i arg2 harg2 arg3 harg3 arg4 harg4 arg5 harg5 arg6 harg6 arg7 harg7 arg8 harg8
        (View.readAt (Elt F) arg2.view rowR.toLoadRect (harg2.unread x0)) (harg7.unread xs0) (harg8.unread xs1) ∧
      r.1 = [⟨rowR, w.1⟩] ∧ r.2.1 = [⟨rowR, w.2.2⟩] := by
  subst hr
  unfold kernelRun0_B
  dsimp only [ptAll]
  exact ⟨_, rfl, rfl, rfl⟩

/-- A head's first point: what it stores, the keys and values being kept first. -/
theorem runA (hc0 : cond0_0 i) {r}
    (hr : r = kernelRun0_A c i arg2 harg2 arg3 harg3 arg4 harg4 arg5 harg5 arg6 harg6 arg7 harg7 arg8 harg8 hc0 x0 x1 x2) :
    ∃ w, w = ptAll c i arg2 harg2 arg3 harg3 arg4 harg4 arg5 harg5 arg6 harg6 arg7 harg7 arg8 harg8
        (View.readAt (Elt F) arg2.view rowR.toLoadRect (harg2.unread x0))
        (arg7.view.writes (Elt F) arg7.view.junk [⟨allR, k0_pay25 (View.readAt (Elt F) arg3.view allR.toLoadRect (harg3.unread x1))⟩])
        (arg8.view.writes (Elt F) arg8.view.junk [⟨allR, k0_pay26 (View.readAt (Elt F) arg4.view allR.toLoadRect (harg4.unread x2))⟩]) ∧
      r.1 = [⟨rowR, w.1⟩] ∧ r.2.1 = [⟨rowR, w.2.2⟩] ∧
      r.2.2.1 = [⟨allR, k0_pay25 (View.readAt (Elt F) arg3.view allR.toLoadRect (harg3.unread x1))⟩] ∧
      r.2.2.2.1 = [⟨allR, k0_pay26 (View.readAt (Elt F) arg4.view allR.toLoadRect (harg4.unread x2))⟩] := by
  subst hr
  unfold kernelRun0_A
  dsimp only [ptAll]
  exact ⟨_, rfl, rfl, rfl, rfl, rfl⟩
end

/-! ## Over the reals -/

/-- A load of 256 rows from row `256 j` reads those rows. -/
theorem readAt_rows (b : Memref sig .tc .vmem S8192x128 .bf16) (X : BufTy.Contents (Elt Ideal) b.view.ty) {off : Fin 2 → ℕ} (j : ℕ) (hj : j < 32)
    (hoff : off = ![256 * j, 0]) (inb : ∀ a : Fin 2, off a + S256x128.size a ≤ S8192x128.size a) (c : Fin 256) (d : Fin 128) :
    rowsAt b X inb (ix2 c d) = b.view.read (Elt Ideal) X (ix2 (⟨256 * j + c.val, by omega⟩ : Fin 8192) d) := by
  subst hoff
  refine congrArg (b.view.read (Elt Ideal) X) (funext fun a => Fin.ext ?_)
  revert a
  refine Fin.forall_fin_two.mpr ⟨?_, ?_⟩
  · show 256 * j + 1 * c.val = 256 * j + c.val; omega
  · show 0 + 1 * d.val = d.val; omega

/-- What a grid point finds: the queries of its 512 rows, and the head's keys and values. -/
structure Pt (I : In) (n : ℕ) (v3 : Vec Ideal S512x128 .f32) (kk vv : Vec Ideal S8192x128 .bf16) : Prop where
  hs : IsScale I
  hq : ∀ (r : Fin 512) (d : Fin 128), v3 (ix2 r d) = (I.q (512 * n + r) d : EReal)
  hK : ∀ (R : Fin 8192) (d : Fin 128), kk (ix2 R d) = (I.k R d : EReal)
  hV : ∀ (R : Fin 8192) (d : Fin 128), vv (ix2 R d) = (I.v R d : EReal)

section
variable {I : In} (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S8192x128 .bf16) (harg7 : arg7.IsWhole)
  (arg8 : Memref sig .tc .vmem S8192x128 .bf16) (harg8 : arg8.IsWhole)
  {v3 : Vec Ideal S512x128 .f32}
  {X7 : BufTy.Contents (Elt Ideal) arg7.view.ty} {X8 : BufTy.Contents (Elt Ideal) arg8.view.ty}

/-- The masked blocks. -/
theorem Pt.blkM (h : Pt I (i 1).val v3 (arg7.view.read (Elt Ideal) X7) (arg8.view.read (Elt Ideal) X8)) (e : Fin 2) :
    Blk I (i 1).val (2 * (i 1).val + e.val) (keepB (BitVec.ofNat 32 (i 1).val) (wordM i e)) (k0_pay27 v3)
      (rowsAt arg7 X7 (k0_off1_inb i e)) (rowsAt arg8 X8 (k0_off1_inb i e)) := by
  have hi : (i 1).val < 16 := (i 1).isLt
  exact {
    hs := h.hs
    hj := by omega
    hkeep := by rw [wordM_eq]; exact keeps_keepB hi (by omega)
    hq := h.hq
    hK := fun c d => (readAt_rows arg7 X7 _ (by omega) (off1_eq i e) _ c d).trans (h.hK _ d)
    hV := fun c d => (readAt_rows arg8 X8 _ (by omega) (off1_eq i e) _ c d).trans (h.hV _ d) }

/-- The blocks of a trip. -/
theorem Pt.blkT (h : Pt I (i 1).val v3 (arg7.view.read (Elt Ideal) X7) (arg8.view.read (Elt Ideal) X8))
    (k : Fin (k0_t1_loop i).trips) (e : Fin 2) :
    Blk I (i 1).val (2 * ((i 1).val - 1 - k.val) + e.val) id (k0_pay27 v3)
      (rowsAt arg7 X7 (k0_off2_inb i k e)) (rowsAt arg8 X8 (k0_off2_inb i k e)) := by
  have hk : k.val < (i 1).val := k.isLt.trans_eq (t1_trips i)
  have hi : (i 1).val < 16 := (i 1).isLt
  exact {
    hs := h.hs
    hj := by omega
    hkeep := keeps_id (by omega)
    hq := h.hq
    hK := fun c d => (readAt_rows arg7 X7 _ (by omega) (off2_eq i k e) _ c d).trans (h.hK _ d)
    hV := fun c d => (readAt_rows arg8 X8 _ (by omega) (off2_eq i k e) _ c d).trans (h.hV _ d) }

theorem Pt.stepM (h : Pt I (i 1).val v3 (arg7.view.read (Elt Ideal) X7) (arg8.view.read (Elt Ideal) X8)) (e : Fin 2) {st : Carry Ideal}
    (hI : Inv I (i 1).val (2 * (i 1).val + e.val + 1) st) :
    Inv I (i 1).val (2 * (i 1).val + e.val) (stM i arg7 arg8 v3 X7 X8 e st) := by
  have := hI.step (h.blkM i arg7 arg8 e)
  rw [← wordM_eq] at this
  exact this

theorem Pt.stepT (h : Pt I (i 1).val v3 (arg7.view.read (Elt Ideal) X7) (arg8.view.read (Elt Ideal) X8))
    (k : Fin (k0_t1_loop i).trips) (e : Fin 2) {st : Carry Ideal}
    (hI : Inv I (i 1).val (2 * ((i 1).val - 1 - k.val) + e.val + 1) st) :
    Inv I (i 1).val (2 * ((i 1).val - 1 - k.val) + e.val) (stT i arg7 arg8 v3 X7 X8 k e st) := by
  have := hI.step (h.blkT i arg7 arg8 k e)
  rw [← wordT_eq] at this
  exact this

/-- The invariant before trip `k`. -/
theorem loop_inv (h : Pt I (i 1).val v3 (arg7.view.read (Elt Ideal) X7) (arg8.view.read (Elt Ideal) X8)) :
    ∀ k : ℕ, k ≤ (i 1).val → Inv I (i 1).val (2 * ((i 1).val - k)) (loop1 c i arg2 harg2 arg3 harg3 arg4 harg4 arg5 harg5 arg6 harg6 arg7 harg7 arg8 harg8 v3 X7 X8 k)
  | 0, _ => h.stepM i arg7 arg8 0 (h.stepM i arg7 arg8 1 (inv_start I (i 1).val))
  | k + 1, hk => by
    have ih := loop_inv h k (by omega)
    have hk' : k < (k0_t1_loop i).trips := by rw [t1_trips]; omega
    unfold loop1 at ih ⊢
    rw [st_k0_t1_succ Variants.none c none i arg2 harg2 arg3 harg3 arg4 harg4 arg5 harg5 arg6 harg6 arg7 harg7 arg8 harg8
      (BitVec.ofNat 32 (i 1).val) (k0_pay27 v3) (k0_pay28 (F := Ideal)) lanes 0#32 1#32 X7 X8 _ ⟨k, hk'⟩, tripR_eq]
    have s1 := h.stepT i arg7 arg8 ⟨k, hk'⟩ 1 (st := loop1 c i arg2 harg2 arg3 harg3 arg4 harg4 arg5 harg5 arg6 harg6 arg7 harg7 arg8 harg8 v3 X7 X8 k)
      (by rw [show 2 * ((i 1).val - 1 - (⟨k, hk'⟩ : Fin (k0_t1_loop i).trips).val) + (1 : Fin 2).val + 1 = 2 * ((i 1).val - k) by
            show 2 * ((i 1).val - 1 - k) + 1 + 1 = 2 * ((i 1).val - k); omega]; exact ih)
    have s0 := h.stepT i arg7 arg8 ⟨k, hk'⟩ 0 s1
    rw [show 2 * ((i 1).val - (k + 1)) = 2 * ((i 1).val - 1 - (⟨k, hk'⟩ : Fin (k0_t1_loop i).trips).val) + (0 : Fin 2).val by
            show 2 * ((i 1).val - (k + 1)) = 2 * ((i 1).val - 1 - k) + 0; omega]
    exact s0

/-- What a point leaves: the attention's rows, and what is left of the stick after each block of columns. -/
structure Done (I : In) (n : ℕ) (w : Vec Ideal S512x128 .f32 × Vec Ideal S512x128 .f32) : Prop where
  o : ∀ (r : Fin 512) (d : Fin 128), w.1 (ix2 r d) = (out I (512 * n + r) d : EReal)
  l : ∀ (r : Fin 512) (m : Fin 128), w.2 (ix2 r m) = (I.later (512 * n + r) (256 * m + 255) : EReal)

theorem point_done (h : Pt I (i 1).val v3 (arg7.view.read (Elt Ideal) X7) (arg8.view.read (Elt Ideal) X8)) {w}
    (hw : w = ptAll c i arg2 harg2 arg3 harg3 arg4 harg4 arg5 harg5 arg6 harg6 arg7 harg7 arg8 harg8 v3 X7 X8) :
    Done I (i 1).val (w.1, w.2.2) := by
  subst hw
  have hi := loop_inv c i arg2 harg2 arg3 harg3 arg4 harg4 arg5 harg5 arg6 harg6 arg7 harg7 arg8 harg8 h (i 1).val le_rfl
  rw [Nat.sub_self, Nat.mul_zero] at hi
  rw [ptAll_eq]
  exact {
    o := fun r d => (hi.o r d).trans (by rw [out, Finset.range_eq_Ico, Nat.mul_zero])
    l := fun r m => (hi.s r m).trans (by rw [if_pos (Nat.zero_le _)]) }
end

section
variable {I : In} (c : Dev nD) (i : grid0.Coords)
  (arg2 : Memref sig .tc .vmem S512x128 .f32) (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S8192x128 .bf16) (harg7 : arg7.IsWhole)
  (arg8 : Memref sig .tc .vmem S8192x128 .bf16) (harg8 : arg8.IsWhole)
  {x0 : Vec Ideal S512x128 .f32} {x1 x2 : Vec Ideal S8192x128 .f32} {xs0 xs1 : Vec Ideal S8192x128 .bf16}

theorem pay25_eq (v : Vec Ideal S8192x128 .f32) : k0_pay25 v = v := by
  refine funext fun y => ?_
  simp only [k0_pay25]
  pointwise
theorem pay26_eq (v : Vec Ideal S8192x128 .f32) : k0_pay26 v = v := by
  refine funext fun y => ?_
  simp only [k0_pay26]
  pointwise

/-- A point inside a head. -/
theorem doneB (hc0 : ¬cond0_0 i) (h : Pt I (i 1).val x0 xs0 xs1) {r}
    (hr : r = kernelRun0_B c i arg2 harg2 arg3 harg3 arg4 harg4 arg5 harg5 arg6 harg6 arg7 harg7 arg8 harg8 hc0 x0 x1 x2 xs0 xs1) :
    ∃ w, r.1 = [⟨rowR, w.1⟩] ∧ r.2.1 = [⟨rowR, w.2⟩] ∧ Done I (i 1).val w := by
  obtain ⟨w, hw, e0, e1⟩ := runB (F := Ideal) c i arg2 harg2 arg3 harg3 arg4 harg4 arg5 harg5 arg6 harg6 arg7 harg7 arg8 harg8 x0 x1 x2 xs0 xs1 hc0 hr
  have hp := point_done c i arg2 harg2 arg3 harg3 arg4 harg4 arg5 harg5 arg6 harg6 arg7 harg7 arg8 harg8 (I := I)
    (by rw [Cert.Mm.load_whole harg2, harg7.read_unread, harg8.read_unread]; exact h) hw
  exact ⟨_, e0, e1, hp⟩

/-- A head's first point. -/
theorem doneA (hc0 : cond0_0 i) (h : Pt I (i 1).val x0 x1 x2) {r}
    (hr : r = kernelRun0_A c i arg2 harg2 arg3 harg3 arg4 harg4 arg5 harg5 arg6 harg6 arg7 harg7 arg8 harg8 hc0 x0 x1 x2) :
    (∃ w, r.1 = [⟨rowR, w.1⟩] ∧ r.2.1 = [⟨rowR, w.2⟩] ∧ Done I (i 1).val w) ∧
      r.2.2.1 = [⟨allR, x1⟩] ∧ r.2.2.2.1 = [⟨allR, x2⟩] := by
  obtain ⟨w, hw, e0, e1, e2, e3⟩ := runA (F := Ideal) c i arg2 harg2 arg3 harg3 arg4 harg4 arg5 harg5 arg6 harg6 arg7 harg7 arg8 harg8 x0 x1 x2 hc0 hr
  rw [Cert.Mm.load_whole harg2, Cert.Mm.load_whole harg3, Cert.Mm.load_whole harg4, pay25_eq, pay26_eq] at hw
  rw [Cert.Mm.load_whole harg3, pay25_eq] at e2
  rw [Cert.Mm.load_whole harg4, pay26_eq] at e3
  have hp := point_done c i arg2 harg2 arg3 harg3 arg4 harg4 arg5 harg5 arg6 harg6 arg7 harg7 arg8 harg8 (I := I)
    (by rw [Cert.Mm.read_stored, Cert.Mm.read_stored]; exact h) hw
  exact ⟨⟨_, e0, e1, hp⟩, e2, e3⟩
end

end Cert.FwdKernelIdeal.Sb
end
end
-- ==== Proof.FwdSweep.lean ====
module

public import proofs.«01_k».proof.Proof.FwdPoint
public import Idealize.ShloMosaic.Lib.Pipeline.Value

/-! The forward pass's whole grid over the reals: point `16 h + n` runs row block `n` of head `h`, and every point writes
    its rows of the two results. -/

@[expose] public section

noncomputable section

namespace Cert.FwdKernelIdeal.Sb

open Idealize.ShloMosaic Idealize.ShloMosaic.TcCoe Cert.FwdKernelIdeal.Gen Cert.FwdKernelIdeal
open Idealize.SL Idealize.SL.Sem
open Stick

theorem coords_1 : ∀ t : Fin cfg0.N, (grid0.coords t 1).val = t.val % 16 :=
  (by decide +kernel : ∀ t : Fin grid0.N, (grid0.coords t 1).val = t.val % 16)

theorem index0 : ∀ t : Fin cfg0.N, win0_0.index t (0 : Fin 2) = t.val % 16 ∧ win0_0.index t (1 : Fin 2) = t.val / 16 :=
  (by decide +kernel : ∀ t : Fin grid0.N, _)
theorem index1 : ∀ t : Fin cfg0.N, win0_1.index t (0 : Fin 2) = 0 ∧ win0_1.index t (1 : Fin 2) = 16 + t.val / 16 :=
  (by decide +kernel : ∀ t : Fin grid0.N, _)
theorem index2 : ∀ t : Fin cfg0.N, win0_2.index t (0 : Fin 2) = 0 ∧ win0_2.index t (1 : Fin 2) = 32 + t.val / 16 :=
  (by decide +kernel : ∀ t : Fin grid0.N, _)
theorem index3 : ∀ t : Fin cfg0.N, win0_3.index t (0 : Fin 2) = t.val % 16 ∧ win0_3.index t (1 : Fin 2) = t.val / 16 :=
  (by decide +kernel : ∀ t : Fin grid0.N, _)
theorem index4 : ∀ t : Fin cfg0.N, win0_4.index t (0 : Fin 2) = t.val % 16 ∧ win0_4.index t (1 : Fin 2) = t.val / 16 :=
  (by decide +kernel : ∀ t : Fin grid0.N, _)

/-- What the kernel finds: a finite projection. -/
structure Found (m : (ℓ : Loc nD τ sig) → Buf (Elt Ideal) ℓ) (c : Dev nD) (X Y : ℕ → ℕ → ℝ) (s : ℝ) : Prop where
  hs : Ideal.ofBits .f32 0x3DB504F3#32 = (s : EReal)
  hX : ∀ (t : Fin 8192) (w : Fin 20480), (V m c main_arg0 : Vec Ideal S8192x20480 .f32) (ix2 t w) = (X t w : EReal)

section
variable {m : (ℓ : Loc nD τ sig) → Buf (Elt Ideal) ℓ} {c : Dev nD} {X Y : ℕ → ℕ → ℝ} {s : ℝ}

theorem N256 (t : Fin cfg0.N) : t.val < 256 := lt_of_lt_of_eq t.isLt N_0

/-! Entries of a point's input blocks. -/

theorem blk0 (t : Fin cfg0.N) (r : Fin 512) (d : Fin 128) : (iblk m c 0 t : Vec Ideal S512x128 .f32) (ix2 r d) =
    (V m c main_arg0 : Vec Ideal S8192x20480 .f32) (ix2 (⟨512 * (t.val % 16) + r.val, by have := N256 t; omega⟩ : Fin 8192) (⟨128 * (t.val / 16) + d.val, by have := N256 t; omega⟩ : Fin 20480)) := by
  unfold iblk
  rw [View.read_apply]
  show V m c main_arg0 _ = V m c main_arg0 _
  congr 1
  funext a
  apply Fin.ext
  match a with
  | ⟨0, _⟩ => show win0_0.index t 0 * 512 + 1 * r.val = 512 * (t.val % 16) + r.val; rw [(index0 t).1]; omega
  | ⟨1, _⟩ => show win0_0.index t 1 * 128 + 1 * d.val = 128 * (t.val / 16) + d.val; rw [(index0 t).2]; omega

theorem blk1 (t : Fin cfg0.N) (r : Fin 8192) (d : Fin 128) : (iblk m c 1 t : Vec Ideal S8192x128 .f32) (ix2 r d) =
    (V m c main_arg0 : Vec Ideal S8192x20480 .f32) (ix2 (⟨r.val, by have := N256 t; omega⟩ : Fin 8192) (⟨2048 + 128 * (t.val / 16) + d.val, by have := N256 t; omega⟩ : Fin 20480)) := by
  unfold iblk
  rw [View.read_apply]
  show V m c main_arg0 _ = V m c main_arg0 _
  congr 1
  funext a
  apply Fin.ext
  match a with
  | ⟨0, _⟩ => show win0_1.index t 0 * 8192 + 1 * r.val = r.val; rw [(index1 t).1]; omega
  | ⟨1, _⟩ => show win0_1.index t 1 * 128 + 1 * d.val = 2048 + 128 * (t.val / 16) + d.val; rw [(index1 t).2]; omega

theorem blk2 (t : Fin cfg0.N) (r : Fin 8192) (d : Fin 128) : (iblk m c 2 t : Vec Ideal S8192x128 .f32) (ix2 r d) =
    (V m c main_arg0 : Vec Ideal S8192x20480 .f32) (ix2 (⟨r.val, by have := N256 t; omega⟩ : Fin 8192) (⟨4096 + 128 * (t.val / 16) + d.val, by have := N256 t; omega⟩ : Fin 20480)) := by
  unfold iblk
  rw [View.read_apply]
  show V m c main_arg0 _ = V m c main_arg0 _
  congr 1
  funext a
  apply Fin.ext
  match a with
  | ⟨0, _⟩ => show win0_2.index t 0 * 8192 + 1 * r.val = r.val; rw [(index2 t).1]; omega
  | ⟨1, _⟩ => show win0_2.index t 1 * 128 + 1 * d.val = 4096 + 128 * (t.val / 16) + d.val; rw [(index2 t).2]; omega

/-- What a point leaves in the stored blocks, and in the head's kept keys and values. -/
structure After (I : In) (n : ℕ) (w : Vec Ideal S512x128 .f32 × Vec Ideal S512x128 .f32 × Vec Ideal S8192x128 .bf16
    × Vec Ideal S8192x128 .bf16) : Prop where
  o : ∀ (r : Fin 512) (d : Fin 128), w.1 (ix2 r d) = (out I (512 * n + r) d : EReal)
  l : ∀ (r : Fin 512) (m : Fin 128), w.2.1 (ix2 r m) = (I.later (512 * n + r) (256 * m + 255) : EReal)
  k : ∀ (R : Fin 8192) (d : Fin 128), w.2.2.1 (ix2 R d) = (I.k R d : EReal)
  v : ∀ (R : Fin 8192) (d : Fin 128), w.2.2.2 (ix2 R d) = (I.v R d : EReal)

theorem After.of_eq {I : In} {n : ℕ} {a b} (e : a = b) (h : After I n b) : After I n a := e ▸ h

/-- The block a point stores, read back. -/
theorem read_blk {κ : Kind} {sp : Space} (v : View sig κ sp S512x128 .f32) (f : BufTy.Contents (Elt Ideal) v.ty)
    {L : List (View.Piece (Elt Ideal) S512x128 .f32)} {w : Vec Ideal S512x128 .f32} (hL : L = [⟨rowR, w⟩]) :
    v.read (Elt Ideal) (v.writes (Elt Ideal) f L) = w := by
  subst hL
  exact Cert.Mm.read_stored v f _ w []
/-- A kept array, read back. -/
theorem read_kept {κ : Kind} {sp : Space} (v : View sig κ sp S8192x128 .bf16) (f : BufTy.Contents (Elt Ideal) v.ty)
    {L : List (View.Piece (Elt Ideal) S8192x128 .bf16)} {w : Vec Ideal S8192x128 .bf16} (hL : L = [⟨allR, w⟩]) :
    v.read (Elt Ideal) (v.writes (Elt Ideal) f L) = w := by
  subst hL
  exact Cert.Mm.read_stored v f _ w []

theorem Found.q (h : Found m c X Y s) (t : Fin cfg0.N) (r : Fin 512) (d : Fin 128) :
    (iblk m c 0 t : Vec Ideal S512x128 .f32) (ix2 r d) = ((head X Y s (t.val / 16)).q (512 * (t.val % 16) + r) d : EReal) :=
  (blk0 t r d).trans (h.hX _ _)
theorem Found.k (h : Found m c X Y s) (t : Fin cfg0.N) (R : Fin 8192) (d : Fin 128) :
    (iblk m c 1 t : Vec Ideal S8192x128 .f32) (ix2 R d) = ((head X Y s (t.val / 16)).k R d : EReal) :=
  (blk1 t R d).trans (h.hX _ _)
theorem Found.v (h : Found m c X Y s) (t : Fin cfg0.N) (R : Fin 8192) (d : Fin 128) :
    (iblk m c 2 t : Vec Ideal S8192x128 .f32) (ix2 R d) = ((head X Y s (t.val / 16)).v R d : EReal) :=
  (blk2 t R d).trans (h.hX _ _)

/-- A head's first point. -/
theorem after_first (h : Found m c X Y s) (t : Fin cfg0.N) (h0 : t.val % 16 = 0) :
    After (head X Y s (t.val / 16)) (t.val % 16) (outsAt0 m c t.val t.isLt) := by
  have hpt : Pt (head X Y s (t.val / 16)) (grid0.coords t 1).val (iblk m c 0 t) (iblk m c 1 t) (iblk m c 2 t) :=
    Pt.mk h.hs (fun r d => by rw [coords_1]; exact h.q t r d) (h.k t) (h.v t)
  refine (doneA c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) ((hcond0_0 t).mpr h0) hpt rfl).elim fun hd hs => hd.elim fun w hd => ?_
  have hdone := hd.2.2
  rw [coords_1] at hdone
  refine After.of_eq (outsAt0_A m c t h0) ?_
  refine After.mk (fun r d => ?_) (fun r d => ?_) (fun R d => ?_) (fun R d => ?_)
  · dsimp only
    unfold out0_A_3
    exact (congrFun (read_blk VO0_3 _ hd.1) _).trans (hdone.o r d)
  · dsimp only
    unfold out0_A_4
    exact (congrFun (read_blk VO0_4 _ hd.2.1) _).trans (hdone.l r d)
  · dsimp only
    unfold sout0_A_0
    exact (congrFun (read_kept VS0_0 _ hs.1) _).trans (h.k t R d)
  · dsimp only
    unfold sout0_A_1
    exact (congrFun (read_kept VS0_1 _ hs.2) _).trans (h.v t R d)

/-- A later point of a head. -/
theorem after_next (h : Found m c X Y s) (t : Fin cfg0.N) (h0 : ¬t.val % 16 = 0) {n : ℕ}
    (hp : After (head X Y s (t.val / 16)) n (outsAt0 m c (t.val - 1) (lt_of_le_of_lt (Nat.sub_le _ _) t.isLt))) :
    After (head X Y s (t.val / 16)) (t.val % 16) (outsAt0 m c t.val t.isLt) := by
  have hpt : Pt (head X Y s (t.val / 16)) (grid0.coords t 1).val (iblk m c 0 t)
      (outsAt0 m c (t.val - 1) (lt_of_le_of_lt (Nat.sub_le _ _) t.isLt)).2.2.1
      (outsAt0 m c (t.val - 1) (lt_of_le_of_lt (Nat.sub_le _ _) t.isLt)).2.2.2 :=
    Pt.mk h.hs (fun r d => by rw [coords_1]; exact h.q t r d) hp.k hp.v
  refine (doneB (x1 := iblk m c 1 t) (x2 := iblk m c 2 t) c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (fun h => h0 ((hcond0_0 t).mp h)) hpt rfl).elim fun w hd => ?_
  have hdone := hd.2.2
  rw [coords_1] at hdone
  refine After.of_eq (outsAt0_B m c t h0) ?_
  refine After.mk (fun r d => ?_) (fun r d => ?_) (fun R d => ?_) (fun R d => ?_)
  · dsimp only
    unfold out0_B_3
    exact (congrFun (read_blk VO0_3 _ hd.1) _).trans (hdone.o r d)
  · dsimp only
    unfold out0_B_4
    exact (congrFun (read_blk VO0_4 _ hd.2.1) _).trans (hdone.l r d)
  · exact hp.k R d
  · exact hp.v R d

/-- What every point leaves. -/
theorem after (h : Found m c X Y s) : ∀ (n : ℕ) (hn : n < cfg0.N), After (head X Y s (n / 16)) (n % 16) (outsAt0 m c n hn)
  | 0, hn => after_first h ⟨0, hn⟩ rfl
  | n + 1, hn => by
    by_cases h0 : (n + 1) % 16 = 0
    · exact after_first h ⟨n + 1, hn⟩ h0
    · refine after_next h ⟨n + 1, hn⟩ h0 (n := n % 16) ?_
      have hp := after h n (by omega)
      rw [show n / 16 = (n + 1) / 16 by omega] at hp
      exact hp

/-! ## The results -/

/-- The attention's output, heads side by side. -/
def outs (X Y : ℕ → ℕ → ℝ) (s : ℝ) : Vec Ideal S8192x2048 .f32 := fun i =>
  (out (head X Y s ((i 1).val / 128)) (i 0).val ((i 1).val % 128) : EReal)
/-- The saved numbers, heads side by side. -/
def saves (X Y : ℕ → ℕ → ℝ) (s : ℝ) : Vec Ideal S8192x2048 .f32 := fun i =>
  ((head X Y s ((i 1).val / 128)).later (i 0).val (256 * ((i 1).val % 128) + 255) : EReal)

theorem flushed3 (h : Found m c X Y s) (t : Fin cfg0.N) :
    (dats m 0 c).flushed 3 t = ((cfg0.win 3).blk t).view.read (Elt Ideal) (outs X Y s) := by
  show (cfg0.win 3).cut (grid0.coords t) ((dats m 0 c).after 3 t) = _
  rw [after0_3]
  funext y
  rw [View.read_apply]
  have hy0 : (y 0).val < 512 := (y 0).isLt
  have hy1 : (y 1).val < 128 := (y 1).isLt
  have ha := (after h t.val t.isLt).o (⟨(y 0).val, hy0⟩ : Fin 512) (⟨(y 1).val, hy1⟩ : Fin 128)
  have e0 : (((cfg0.win 3).blk t).view.emb y 0).val = 512 * (t.val % 16) + (y 0).val := by
    show win0_3.index t 0 * 512 + 1 * (y 0).val = _
    rw [(index3 t).1]; omega
  have e1 : (((cfg0.win 3).blk t).view.emb y 1).val = 128 * (t.val / 16) + (y 1).val := by
    show win0_3.index t 1 * 128 + 1 * (y 1).val = _
    rw [(index3 t).2]; omega
  have hx : (cfg0.win 3).xinj (grid0.coords t) y = ix2 (⟨(y 0).val, hy0⟩ : Fin 512) (⟨(y 1).val, hy1⟩ : Fin 128) := by
    funext a
    match a with
    | ⟨0, _⟩ => rfl
    | ⟨1, _⟩ => rfl
  have hg : outs X Y s (((cfg0.win 3).blk t).view.emb y)
      = (out (head X Y s (t.val / 16)) (512 * (t.val % 16) + (y 0).val) (y 1).val : EReal) := by
    unfold outs
    rw [e0, e1, show (128 * (t.val / 16) + (y 1).val) / 128 = t.val / 16 by omega,
      show (128 * (t.val / 16) + (y 1).val) % 128 = (y 1).val by omega]
  refine (congrArg (outsAt0 m c t.val t.isLt).1 hx).trans ?_
  rw [ha, ← hg]
  exact (cast_eq _ _).symm

theorem flushed4 (h : Found m c X Y s) (t : Fin cfg0.N) :
    (dats m 0 c).flushed 4 t = ((cfg0.win 4).blk t).view.read (Elt Ideal) (saves X Y s) := by
  show (cfg0.win 4).cut (grid0.coords t) ((dats m 0 c).after 4 t) = _
  rw [after0_4]
  funext y
  rw [View.read_apply]
  have hy0 : (y 0).val < 512 := (y 0).isLt
  have hy1 : (y 1).val < 128 := (y 1).isLt
  have ha := (after h t.val t.isLt).l (⟨(y 0).val, hy0⟩ : Fin 512) (⟨(y 1).val, hy1⟩ : Fin 128)
  have e0 : (((cfg0.win 4).blk t).view.emb y 0).val = 512 * (t.val % 16) + (y 0).val := by
    show win0_4.index t 0 * 512 + 1 * (y 0).val = _
    rw [(index4 t).1]; omega
  have e1 : (((cfg0.win 4).blk t).view.emb y 1).val = 128 * (t.val / 16) + (y 1).val := by
    show win0_4.index t 1 * 128 + 1 * (y 1).val = _
    rw [(index4 t).2]; omega
  have hx : (cfg0.win 4).xinj (grid0.coords t) y = ix2 (⟨(y 0).val, hy0⟩ : Fin 512) (⟨(y 1).val, hy1⟩ : Fin 128) := by
    funext a
    match a with
    | ⟨0, _⟩ => rfl
    | ⟨1, _⟩ => rfl
  have hg : saves X Y s (((cfg0.win 4).blk t).view.emb y)
      = ((head X Y s (t.val / 16)).later (512 * (t.val % 16) + (y 0).val) (256 * (y 1).val + 255) : EReal) := by
    unfold saves
    rw [e0, e1, show (128 * (t.val / 16) + (y 1).val) / 128 = t.val / 16 by omega,
      show (128 * (t.val / 16) + (y 1).val) % 128 = (y 1).val by omega]
  refine (congrArg (outsAt0 m c t.val t.isLt).2.1 hx).trans ?_
  rw [ha, ← hg]
  exact (cast_eq _ _).symm

theorem covered3 (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 256 := N_0
  refine ⟨⟨16 * ((i 1).val / 128) + (i 0).val / 512, by omega⟩, flush0_3 _, ?_⟩
  generalize ht : (⟨16 * ((i 1).val / 128) + (i 0).val / 512, _⟩ : Fin cfg0.N) = t
  have htv : t.val = 16 * ((i 1).val / 128) + (i 0).val / 512 := by rw [← ht]
  show i ∈ ((View.whole main_v0_0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [(index3 t).1]; omega
  | ⟨1, _⟩ =>
    show win0_3.index t (1 : Fin 2) * 128 ≤ (i 1).val ∧ (i 1).val < win0_3.index t (1 : Fin 2) * 128 + 128
    rw [(index3 t).2]; omega

theorem covered4 (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 256 := N_0
  refine ⟨⟨16 * ((i 1).val / 128) + (i 0).val / 512, by omega⟩, flush0_4 _, ?_⟩
  generalize ht : (⟨16 * ((i 1).val / 128) + (i 0).val / 512, _⟩ : Fin cfg0.N) = t
  have htv : t.val = 16 * ((i 1).val / 128) + (i 0).val / 512 := by rw [← ht]
  show i ∈ ((View.whole main_v0_1).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [(index4 t).1]; omega
  | ⟨1, _⟩ =>
    show win0_4.index t (1 : Fin 2) * 128 ≤ (i 1).val ∧ (i 1).val < win0_4.index t (1 : Fin 2) * 128 + 128
    rw [(index4 t).2]; omega
end

/-- The kernel's run leaves the attention's output in its first result and the saved numbers in its second. -/
theorem run (m : (ℓ : Loc nD τ sig) → Buf (Elt Ideal) ℓ) (ρ : Dev nD → PrngReg) (X Y : Dev nD → ℕ → ℕ → ℝ) (s : ℝ)
    (h : ∀ c, Found m c (X c) (Y c) s) :
    θ_run defs (onTc (τ := τ) (main (F := Ideal))) ⟨m, fun _ => 0, ρ⟩ fun r => ∀ c : Dev nD,
      r.2.mem ((c : Thread nD τ).loc main_v0_0) = outs (X c) (Y c) s ∧ r.2.mem ((c : Thread nD τ).loc main_v0_1) = saves (X c) (Y c) s :=
  (θ_run defs _ _).mono (fun r hr c =>
      ⟨((hr c).1 3).trans ((dats m 0 c).arrAt_eq_of_cover 3 _ (fun t _ => flushed3 (h c) t) covered3),
        ((hr c).1 4).trans ((dats m 0 c).arrAt_eq_of_cover 4 _ (fun t _ => flushed4 (h c) t) covered4)⟩)
    (run_main m ρ)

end Cert.FwdKernelIdeal.Sb
end
end
-- ==== Proof.FwdValues.lean ====
module

public import proofs.«01_k».proof.Defs
public import proofs.«01_k».proof.Proof.FwdSweep
public import proofs.«01_k».proof.Proof.Agree
public import proofs.«01_k».proof.Proof.Gen.FwdReferenceIdeal.Run
public import proofs.«01_k».proof.Proof.Gen.FwdReferenceIdeal.Read

/-! The forward pass's reference over the reals, and the kernel's two results as the reference's. The weights and the
    sums over later columns are written as in the gradient's reference, and are read off there. -/

@[expose] public section

noncomputable section

namespace Cert.FwdReferenceIdeal.Sb

open Idealize.ShloMosaic Idealize.ShloMosaic.TcCoe Cert.FwdReferenceIdeal.Gen Cert.FwdReferenceIdeal Cert.FwdReferenceIdeal.Read
open Stick
open Cert.ReferenceIdeal.Sb (Found at3)

variable {x0 : (⟨S8192x20480, .f32⟩ : BufTy).Contents (Elt Ideal)} {x1 : (⟨S8192x2048, .f32⟩ : BufTy).Contents (Elt Ideal)}
  {X Y : ℕ → ℕ → ℝ} {s : ℝ}

/-- The values, the weights and what comes after a column are the gradient's reference's. -/
theorem v_eq : val_main_v31 (F := Ideal) x0 = Cert.ReferenceIdeal.Read.val_main_v8 (F := Ideal) x0 := rfl
theorem a_eq : val_main_v50 (F := Ideal) x0 = Cert.ReferenceIdeal.Read.val_main_v27_0 (F := Ideal) x0 := rfl
theorem later_eq : val_main_v22 (F := Ideal) x0 = Cert.ReferenceIdeal.Read.val_main_v24 (F := Ideal) x0 := rfl

/-- One head's output. -/
theorem out3_apply (H : Found x0 x1 X Y s) (h : Fin 16) (t : Fin 8192) (d : Fin 128) :
    val_main_v51 (F := Ideal) x0 (ix3 h t d) = (Cert.FwdKernelIdeal.Sb.out (head X Y s h) t d : EReal) := by
  rw [val_main_v51_apply, a_eq, v_eq, sum_eq_coe (fun u : Fin 8192 => (head X Y s h).a t u * (head X Y s h).v u d),
    Cert.FwdKernelIdeal.Sb.out, Finset.sum_range]
  intro u _
  rw [at3 (Cert.ReferenceIdeal.Read.val_main_v27_0 x0) _ h t u rfl rfl rfl, at3 (Cert.ReferenceIdeal.Read.val_main_v8 x0) _ h u d rfl rfl rfl,
    Cert.ReferenceIdeal.Sb.a_apply H, Cert.ReferenceIdeal.Sb.v_apply H, ← EReal.coe_mul]

/-- The first result: the output, heads merged. -/
theorem out_apply (H : Found x0 x1 X Y s) (t : Fin 8192) (w : Fin 2048) :
    val_main_v53 (F := Ideal) x0 (ix2 t w) = Cert.FwdKernelIdeal.Sb.outs X Y s (ix2 t w) := by
  have e : val_main_v53 (F := Ideal) x0 (ix2 t w) = val_main_v52 (F := Ideal) x0 (ix3 t (⟨w.val / 128, by omega⟩ : Fin 16) (⟨w.val % 128, by omega⟩ : Fin 128)) := by
    rw [val_main_v53_apply]
    exact at3 (val_main_v52 (F := Ideal) x0) _ _ _ _ (show (t.val * 2048 + w.val) / 2048 = t.val by omega)
      (show (t.val * 2048 + w.val) / 128 % 16 = w.val / 128 by omega) (show (t.val * 2048 + w.val) % 128 = w.val % 128 by omega)
  rw [e, val_main_v52_apply]
  exact (at3 (val_main_v51 (F := Ideal) x0) _ (⟨w.val / 128, by omega⟩ : Fin 16) t (⟨w.val % 128, by omega⟩ : Fin 128) rfl rfl rfl).trans
    (out3_apply H _ t _)

/-- One head's saved numbers: a lane for each block of columns, the others zero, as nothing comes after them. -/
theorem saved3_apply (H : Found x0 x1 X Y s) (h : Fin 16) (t : Fin 8192) (j : Fin 128) :
    val_main_v25 (F := Ideal) x0 (ix3 h t j) = ((head X Y s h).later t (256 * j.val + 255) : EReal) := by
  unfold val_main_v25
  by_cases hj : j.val < 32
  · rw [concatenate_pair_apply_left 2 _ _ concatenates_S16x8192x32_S16x8192x96_S16x8192x128_d2 (ix3 h t j) rfl (ix3 h t (⟨j.val, hj⟩ : Fin 32))
      (fun b => match b with
        | ⟨0, _⟩ => rfl
        | ⟨1, _⟩ => rfl
        | ⟨2, _⟩ => rfl)]
    unfold val_main_v23
    rw [later_eq]
    exact (at3 (Cert.ReferenceIdeal.Read.val_main_v24 (F := Ideal) x0) _ h t (⟨256 * j.val + 255, by omega⟩ : Fin 8192)
      (show 0 + 1 * h.val = h.val by omega) (show 0 + 1 * t.val = t.val by omega) (show 255 + 256 * j.val = 256 * j.val + 255 by omega)).trans
      (Cert.ReferenceIdeal.Sb.later_apply H _ t _)
  · rw [concatenate_pair_apply_right 2 _ _ concatenates_S16x8192x32_S16x8192x96_S16x8192x128_d2 (ix3 h t j) rfl rfl (ix3 h t (⟨j.val - 32, by omega⟩ : Fin 96))
      (fun b => match b with
        | ⟨0, _⟩ => fun _ => rfl
        | ⟨1, _⟩ => fun _ => rfl
        | ⟨2, _⟩ => fun hb => absurd rfl hb) (show j.val - 32 + 32 = j.val by omega),
      val_main_v24_apply]
    unfold In.later
    rw [Finset.Ico_eq_empty (by omega), Finset.sum_empty]
    exact Ideal.ofBits_zero_f32

/-- The second result: the saved numbers, heads merged. -/
theorem saved_apply (H : Found x0 x1 X Y s) (t : Fin 8192) (w : Fin 2048) :
    val_main_v55 (F := Ideal) x0 (ix2 t w) = Cert.FwdKernelIdeal.Sb.saves X Y s (ix2 t w) := by
  have e : val_main_v55 (F := Ideal) x0 (ix2 t w) = val_main_v54 (F := Ideal) x0 (ix3 t (⟨w.val / 128, by omega⟩ : Fin 16) (⟨w.val % 128, by omega⟩ : Fin 128)) := by
    rw [val_main_v55_apply]
    exact at3 (val_main_v54 (F := Ideal) x0) _ _ _ _ (show (t.val * 2048 + w.val) / 2048 = t.val by omega)
      (show (t.val * 2048 + w.val) / 128 % 16 = w.val / 128 by omega) (show (t.val * 2048 + w.val) % 128 = w.val % 128 by omega)
  rw [e, val_main_v54_apply]
  exact (at3 (val_main_v25 (F := Ideal) x0) _ (⟨w.val / 128, by omega⟩ : Fin 16) t (⟨w.val % 128, by omega⟩ : Fin 128) rfl rfl rfl).trans
    (saved3_apply H _ t _)

end Cert.FwdReferenceIdeal.Sb

namespace Cert.FwdKernelIdeal.Sb

open Idealize.ShloMosaic Idealize.ShloMosaic.TcCoe Cert.FwdKernelIdeal.Gen Cert.FwdKernelIdeal
open Idealize.SL Idealize.SL.Sem

/-- The side condition of the precondition: a scalar may be spread over the projection's shape. -/
theorem pre_facts : Cert.Pre_finite_proj.Facts := ⟨by decide⟩

/-- What the precondition says of the projection: it is an array of real numbers. The attention reads no other. -/
theorem found_proj [Cert.Pre_finite_proj.Facts] {s : ℝ} (hs : Ideal.ofBits .f32 0x3DB504F3#32 = (s : EReal))
    (x0 : (⟨⟨2, ![8192, 20480]⟩, .f32⟩ : BufTy).Contents (Elt Ideal)) (h0 : Cert.Pre_finite_proj.fn (F := Ideal) x0 = fun _ => 1#1) :
    Cert.ReferenceIdeal.Sb.Found x0 (fun _ => (0 : EReal)) (Cert.Agree.entries x0) (fun _ _ => 0) s where
  hs := hs
  hX t w := by rw [Cert.Agree.entries_apply]; exact Cert.Agree.real_of_abs_lt _ (congrFun h0 (ix2 t w))
  hY t w := EReal.coe_zero.symm

/-- Over the reals, at a finite projection, the kernel's output and saved numbers are the reference's. -/
theorem values [Cert.Pre_finite_proj.Facts] : Cert.algebraic_FwdKernelIdeal_FwdReferenceIdeal_pre_finite_proj := fun m g m' g' hpre hm =>
  Cert.Agree.scale_real.elim fun s hs =>
    have H := fun c => found_proj hs _ (hpre c)
    ⟨fun c => outs (Cert.Agree.entries (m ((c : Thread nD τ).loc main_arg0))) (fun _ _ => 0) s,
      fun c => saves (Cert.Agree.entries (m ((c : Thread nD τ).loc main_arg0))) (fun _ _ => 0) s,
      (θ_run defs _ _).mono (fun r h c => ⟨(h.1 c).1, (h.1 c).2, h.2 c⟩)
        (θ_run_and (run m g _ _ s fun c => ⟨hs, fun t w => by rw [V_main_arg0]; exact (H c).hX t w⟩) (unchanged m g)),
      (θ_run Cert.FwdReferenceIdeal.defs _ _).mono (fun r h c =>
        ⟨(h c).1.trans ((Cert.FwdReferenceIdeal.Read.val_main_v53_eq m' c).trans (by
            rw [hm c]; exact Cert.Agree.ext2 fun t w => Cert.FwdReferenceIdeal.Sb.out_apply (H c) t w)),
          (h c).2.1.trans ((Cert.FwdReferenceIdeal.Read.val_main_v55_eq m' c).trans (by
            rw [hm c]; exact Cert.Agree.ext2 fun t w => Cert.FwdReferenceIdeal.Sb.saved_apply (H c) t w)),
          (h c).2.2⟩)
        (Cert.FwdReferenceIdeal.Value.run (F := Ideal) m' g')⟩

end Cert.FwdKernelIdeal.Sb
end
end
-- ==== Proof.AdaPoint.lean ====
module

public import proofs.«01_k».proof.Proof.Products
public import proofs.«01_k».proof.Proof.Gen.AdaKernelIdeal.Frame
public import Idealize.ShloMosaic.Lib.VecWindow
public import Idealize.ShloMosaic.Lib.Pointwise

/-! The gradient of the modulated root-mean-square norm, row by row: the formulas, and what one block of 256 rows of the
    kernel computes by them. -/

@[expose] public section

noncomputable section

namespace Cert.Ada

open Idealize.ShloMosaic

/-! ## A row's numbers

`x` is the row, `g` the gradient of its modulated norm, `b` what comes to its gradient from elsewhere; `w` are the norm's
weights and `s` the scales. -/

section
variable (x g b w s : ℕ → EReal) (d : ℕ)

/-- The mean of the squares, a little more. -/
def ms : EReal := Ideal.div (∑ k : Fin 2048, x k * x k) (Ideal.ofBits .f32 0x45000000#32) + Ideal.ofBits .f32 0x358637BD#32
/-- What the row is multiplied by. -/
def inv : EReal := Ideal.rsqrt (ms x)
/-- The gradient before the scales. -/
def gs : EReal := g d * (1 + s d)
/-- The gradient before the weights too: that of the normed row. -/
def gn : EReal := gs g s d * w d
/-- The gradient of the sum of the squares. -/
def dms : EReal :=
  Ideal.div ((∑ k : Fin 2048, x k * gn g w s k) * (Ideal.ofBits .f32 0xBF000000#32 * Ideal.div (inv x) (ms x)))
    (Ideal.ofBits .f32 0x45000000#32)
/-- The row's gradient. -/
def dx : EReal := gn g w s d * inv x + x d * dms x g w s + dms x g w s * x d + b d
/-- What the row brings to the weights' gradient. -/
def tw : EReal := x d * inv x * gs g s d
/-- What the row brings to the scales' gradient. -/
def ts : EReal := x d * inv x * w d * g d
end

end Cert.Ada

namespace Cert.AdaKernelIdeal.Norm

open Idealize.ShloMosaic Idealize.ShloMosaic.TcCoe Cert.AdaKernelIdeal.Gen Cert.AdaKernelIdeal
open Cert.Mm Cert.Ada Finset

/-! ## A block of 256 rows -/

section
variable {x g b : Vec Ideal S256x2048 .f32} {w s : Vec Ideal S1x2048 .f32} {X G B : ℕ → ℕ → EReal} {W S : ℕ → EReal} {n : ℕ}
  (hx : ∀ (r : Fin 256) (k : Fin 2048), x (ix2 r k) = X (n + r) k)
  (hg : ∀ (r : Fin 256) (k : Fin 2048), g (ix2 r k) = G (n + r) k)
  (hb : ∀ (r : Fin 256) (k : Fin 2048), b (ix2 r k) = B (n + r) k)
  (hw : ∀ k : Fin 2048, w (ix2 0 k) = W k) (hs : ∀ k : Fin 2048, s (ix2 0 k) = S k)
  (r : Fin 256) (d : Fin 2048)

include hx in
theorem pay5_apply : k0_pay5 x (ix2 r 0) = ms (X (n + r)) := by
  simp only [k0_pay5, shapeCast_self]
  pointwise
  simp only [hx]
  rfl

include hx in
theorem pay6_apply : k0_pay6 x (ix2 r 0) = inv (X (n + r)) := congrArg Ideal.rsqrt (pay5_apply hx r)

include hx in
theorem pay7_apply : k0_pay7 x (ix2 r 0) = Ideal.ofBits .f32 0xBF000000#32 * Ideal.div (inv (X (n + r))) (ms (X (n + r))) := by
  rw [← pay6_apply hx r, ← pay5_apply hx r]
  rfl

include hx in
theorem pay8_apply : k0_pay8 x (ix2 r d) = X (n + r) d * inv (X (n + r)) := by
  rw [← pay6_apply hx r, ← hx]
  simp only [k0_pay8]
  pointwise
  done

include hg hs in
theorem pay12_apply : k0_pay12 s g (ix2 r d) = gs (G (n + r)) S d := by
  simp only [k0_pay12, k0_pay9, shapeCast_self]
  pointwise
  rw [hg, hs]
  rfl

include hg hw hs in
theorem pay14_apply : k0_pay14 w s g (ix2 r d) = gn (G (n + r)) W S d := by
  rw [gn, ← pay12_apply hg hs, ← hw]
  simp only [k0_pay14]
  pointwise
  done

include hx hg hw hs in
theorem pay15_apply : k0_pay15 x w s g (ix2 r 0) = ∑ k : Fin 2048, X (n + r) k * gn (G (n + r)) W S k := by
  simp only [k0_pay15]
  pointwise
  exact sum_congr rfl fun k _ => by rw [hx, pay14_apply hg hw hs]

include hx hg hw hs in
theorem pay16_apply : k0_pay16 x w s g (ix2 r d) = gn (G (n + r)) W S d * inv (X (n + r)) := by
  rw [← pay14_apply hg hw hs, ← pay6_apply hx r]
  simp only [k0_pay16]
  pointwise
  done

/-- The rows' gradients. -/
abbrev dxB (x g b : Vec Ideal S256x2048 .f32) (w s : Vec Ideal S1x2048 .f32) : Vec Ideal S256x2048 .f32 :=
  k0_pay1 x b (k0_pay7 x) (k0_pay15 x w s g) (k0_pay16 x w s g)

include hx hg hb hw hs in
theorem dxB_apply : dxB x g b w s (ix2 r d) = dx (X (n + r)) (G (n + r)) (B (n + r)) W S d := by
  rw [dx, dms, ← pay16_apply hx hg hw hs, ← pay15_apply hx hg hw hs, ← pay7_apply hx, ← hx, ← hb]
  simp only [dxB, k0_pay1]
  pointwise
  rw [Fin.sum_univ_one]

include hg in
theorem pay10_apply : k0_pay10 g (ix2 0 d) = ∑ r : Fin 256, G (n + r) d := by
  simp only [k0_pay10]
  pointwise
  exact sum_congr rfl fun r _ => hg r d

include hx hg hw in
theorem pay11_apply : k0_pay11 x w g (ix2 0 d) = ∑ r : Fin 256, ts (X (n + r)) (G (n + r)) W d := by
  simp only [k0_pay11, k0_pay9, shapeCast_self]
  pointwise
  exact sum_congr rfl fun r _ => by rw [pay8_apply hx, hw, hg]; rfl

include hx hg hs in
theorem pay13_apply : k0_pay13 x s g (ix2 0 d) = ∑ r : Fin 256, tw (X (n + r)) (G (n + r)) S d := by
  simp only [k0_pay13]
  pointwise
  exact sum_congr rfl fun r _ => by rw [pay8_apply hx, pay12_apply hg hs]; rfl

theorem pay2_apply (a v : FVec Ideal S1x2048 .f32) : k0_pay2 a v (ix2 0 d) = v (ix2 0 d) + a (ix2 0 d) := by
  simp only [k0_pay2, shapeCast_self]
  rfl
theorem pay3_apply (a v : FVec Ideal S1x2048 .f32) : k0_pay3 a v (ix2 0 d) = v (ix2 0 d) + a (ix2 0 d) := pay2_apply d a v
theorem pay4_apply (a v : FVec Ideal S1x2048 .f32) : k0_pay4 a v (ix2 0 d) = v (ix2 0 d) + a (ix2 0 d) := pay2_apply d a v
end

/-! ## What a point leaves -/

section
variable (c : Dev nD) (i : grid0.Coords)
  (arg1 : Memref sig .tc .vmem S256x2048 .f32) (harg1 : arg1.IsWhole) (arg2 : Memref sig .tc .vmem S1x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S256x2048 .f32) (harg5 : arg5.IsWhole) (arg6 : Memref sig .tc .vmem S256x2048 .f32) (harg6 : arg6.IsWhole)
  (arg7 : Memref sig .tc .vmem S256x2048 .f32) (harg7 : arg7.IsWhole) (arg8 : Memref sig .tc .vmem S1x2048 .f32) (harg8 : arg8.IsWhole)
  (arg9 : Memref sig .tc .vmem S1x2048 .f32) (harg9 : arg9.IsWhole) (arg10 : Memref sig .tc .vmem S1x2048 .f32) (harg10 : arg10.IsWhole)
  (x0 : Vec Ideal S256x2048 .f32) (x1 x2 x3 : Vec Ideal S1x2048 .f32) (x4 x5 : Vec Ideal S256x2048 .f32) (y7 y8 y9 : Vec Ideal S1x2048 .f32)

section
variable (hc0 : cond0_0 i) (hc1 : ¬cond0_1 i) (hc2 : cond0_2 i) (hc3 : ¬cond0_3 i) (hc4 : cond0_4 i) (hc5 : ¬cond0_5 i)

theorem first_6 : out0_A_6 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 = dxB x0 x4 x5 x1 x2 := by
  unfold out0_A_6 kernelRun0_A
  dsimp only
  simp only [kernelRun0_A.sl.r, kernelRun0_A.sl.r_1, kernelRun0_A.sl.r_2, kernelRun0_A.sl.r_6, kernelRun0_A.sl.r_7, read_stored, load_stored, cov_stored, load_whole]

theorem first_7 : out0_A_7 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 = k0_pay13 x0 x2 x4 := by
  unfold out0_A_7 kernelRun0_A
  dsimp only
  simp only [kernelRun0_A.sl.r_5, read_stored, load_stored, cov_stored, load_whole]

theorem first_8 : out0_A_8 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 = k0_pay11 x0 x1 x4 := by
  unfold out0_A_8 kernelRun0_A
  dsimp only
  simp only [kernelRun0_A.sl.r_4, read_stored, load_stored, cov_stored, load_whole]

theorem first_9 : out0_A_9 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 = k0_pay10 x4 := by
  unfold out0_A_9 kernelRun0_A
  dsimp only
  simp only [kernelRun0_A.sl.r_3, read_stored, load_stored, cov_stored, load_whole]

end

section
variable (hc0 : ¬cond0_0 i) (hc1 : cond0_1 i) (hc2 : ¬cond0_2 i) (hc3 : cond0_3 i) (hc4 : ¬cond0_4 i) (hc5 : cond0_5 i)

theorem next_6 : out0_B_6 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 y7 y8 y9 = dxB x0 x4 x5 x1 x2 := by
  unfold out0_B_6 kernelRun0_B
  dsimp only
  simp only [kernelRun0_B.sl.r, kernelRun0_B.sl.r_1, kernelRun0_B.sl.r_2, kernelRun0_B.sl.r_6, kernelRun0_B.sl.r_7, read_stored, load_stored, cov_stored, load_whole]

theorem next_7 : out0_B_7 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 y7 y8 y9 = k0_pay2 (k0_pay13 x0 x2 x4) y7 := by
  unfold out0_B_7 kernelRun0_B
  dsimp only
  simp only [kernelRun0_B.sl.r_5, read_stored, load_stored, cov_stored, load_whole]

theorem next_8 : out0_B_8 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 y7 y8 y9 = k0_pay3 (k0_pay11 x0 x1 x4) y8 := by
  unfold out0_B_8 kernelRun0_B
  dsimp only
  simp only [kernelRun0_B.sl.r_4, read_stored, load_stored, cov_stored, load_whole]

theorem next_9 : out0_B_9 c i arg1 harg1 arg2 harg2 arg3 harg3 arg4 harg4 arg5 harg5 arg6 harg6 arg7 harg7 arg8 harg8 arg9 harg9 arg10 harg10
    hc0 hc1 hc2 hc3 hc4 hc5 x0 x1 x2 x3 x4 x5 y7 y8 y9 = k0_pay4 (k0_pay10 x4) y9 := by
  unfold out0_B_9 kernelRun0_B
  dsimp only
  simp only [kernelRun0_B.sl.r_3, read_stored, load_stored, cov_stored, load_whole]

end
end

/-! ## At a grid point -/

theorem index0 : ∀ t : Fin grid0.N, win0_0.index t (0 : Fin 2) = t.val ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = 0 := by decide +kernel
theorem index4 : ∀ t : Fin grid0.N, win0_4.index t (0 : Fin 2) = t.val ∧ win0_4.index t (1 : Fin 2) = 0 := by decide +kernel
theorem index5 : ∀ t : Fin grid0.N, win0_5.index t (0 : Fin 2) = t.val ∧ win0_5.index t (1 : Fin 2) = 0 := by decide +kernel

variable (m : (ℓ : Loc nD τ sig) → Buf (Elt Ideal) ℓ) (c : Dev nD)

/-- The rows. -/
abbrev X : Vec Ideal S8192x2048 .f32 := m ((c : Thread nD τ).loc main_arg0)
/-- The norm's weights. -/
abbrev W : Vec Ideal S1x2048 .f32 := m ((c : Thread nD τ).loc main_arg1)
/-- The scales. -/
abbrev S : Vec Ideal S1x2048 .f32 := m ((c : Thread nD τ).loc main_arg2)
/-- The gradient of the modulated norm. -/
abbrev G : Vec Ideal S8192x2048 .f32 := m ((c : Thread nD τ).loc main_arg4)
/-- What comes to the rows' gradient from elsewhere. -/
abbrev B : Vec Ideal S8192x2048 .f32 := m ((c : Thread nD τ).loc main_arg5)

section
variable (t : Fin cfg0.N)

theorem blk0 (r : Fin 256) (k : Fin 2048) : iblk m c 0 t (ix2 r k) = at2 (X m c) (256 * t.val + r) k := by
  unfold iblk
  rw [View.read_apply]
  refine Eq.trans (at2_eq (V m c main_arg0) _ (r := 256 * t.val + r) (c := k) ?_ ?_) ?_
  · show win0_0.index t 0 * 256 + 1 * r.val = _
    rw [(index0 t).1]; omega
  · show win0_0.index t 1 * 2048 + 1 * k.val = _
    rw [(index0 t).2]; omega
  · rw [V_main_arg0]

theorem blk1 (k : Fin 2048) : iblk m c 1 t (ix2 (0 : Fin 1) k) = at2 (W m c) 0 k := by
  unfold iblk
  rw [View.read_apply]
  refine Eq.trans (at2_eq (V m c main_arg1) _ (r := 0) (c := k) ?_ ?_) ?_
  · show win0_1.index t 0 * 1 + 1 * 0 = _
    rw [(index1 t).1]
  · show win0_1.index t 1 * 2048 + 1 * k.val = _
    rw [(index1 t).2]; omega
  · rw [V_main_arg1]

theorem blk2 (k : Fin 2048) : iblk m c 2 t (ix2 (0 : Fin 1) k) = at2 (S m c) 0 k := by
  unfold iblk
  rw [View.read_apply]
  refine Eq.trans (at2_eq (V m c main_arg2) _ (r := 0) (c := k) ?_ ?_) ?_
  · show win0_2.index t 0 * 1 + 1 * 0 = _
    rw [(index2 t).1]
  · show win0_2.index t 1 * 2048 + 1 * k.val = _
    rw [(index2 t).2]; omega
  · rw [V_main_arg2]

theorem blk4 (r : Fin 256) (k : Fin 2048) : iblk m c 4 t (ix2 r k) = at2 (G m c) (256 * t.val + r) k := by
  unfold iblk
  rw [View.read_apply]
  refine Eq.trans (at2_eq (V m c main_arg4) _ (r := 256 * t.val + r) (c := k) ?_ ?_) ?_
  · show win0_4.index t 0 * 256 + 1 * r.val = _
    rw [(index4 t).1]; omega
  · show win0_4.index t 1 * 2048 + 1 * k.val = _
    rw [(index4 t).2]; omega
  · rw [V_main_arg4]

theorem blk5 (r : Fin 256) (k : Fin 2048) : iblk m c 5 t (ix2 r k) = at2 (B m c) (256 * t.val + r) k := by
  unfold iblk
  rw [View.read_apply]
  refine Eq.trans (at2_eq (V m c main_arg5) _ (r := 256 * t.val + r) (c := k) ?_ ?_) ?_
  · show win0_5.index t 0 * 256 + 1 * r.val = _
    rw [(index5 t).1]; omega
  · show win0_5.index t 1 * 2048 + 1 * k.val = _
    rw [(index5 t).2]; omega
  · rw [V_main_arg5]

/-- The gradient of row `a` at column `d`. -/
def rowGrad (a d : ℕ) : EReal := dx (at2 (X m c) a) (at2 (G m c) a) (at2 (B m c) a) (at2 (W m c) 0) (at2 (S m c) 0) d
/-- What row `a` brings to the weights' gradient at column `d`. -/
def rowW (d a : ℕ) : EReal := tw (at2 (X m c) a) (at2 (G m c) a) (at2 (S m c) 0) d
/-- What row `a` brings to the scales' gradient at column `d`. -/
def rowS (d a : ℕ) : EReal := ts (at2 (X m c) a) (at2 (G m c) a) (at2 (W m c) 0) d
/-- What row `a` brings to the shifts' gradient at column `d`. -/
def rowG (d a : ℕ) : EReal := at2 (G m c) a d

variable (d : Fin 2048)

theorem w_point : k0_pay13 (iblk m c 0 t) (iblk m c 2 t) (iblk m c 4 t) (ix2 0 d) = ∑ r : Fin 256, rowW m c d (256 * t.val + r) :=
  pay13_apply (X := at2 (X m c)) (G := at2 (G m c)) (S := at2 (S m c) 0) (blk0 m c t) (blk4 m c t) (blk2 m c t) d
theorem s_point : k0_pay11 (iblk m c 0 t) (iblk m c 1 t) (iblk m c 4 t) (ix2 0 d) = ∑ r : Fin 256, rowS m c d (256 * t.val + r) :=
  pay11_apply (X := at2 (X m c)) (G := at2 (G m c)) (W := at2 (W m c) 0) (blk0 m c t) (blk4 m c t) (blk1 m c t) d
theorem g_point : k0_pay10 (iblk m c 4 t) (ix2 0 d) = ∑ r : Fin 256, rowG m c d (256 * t.val + r) :=
  pay10_apply (G := at2 (G m c)) (blk4 m c t) d

/-- The rows' gradients as a point leaves them. -/
theorem x_point (r : Fin 256) : (outsAt0 m c t.val t.isLt).1 (ix2 r d) = rowGrad m c (256 * t.val + r) d := by
  have h : (outsAt0 m c t.val t.isLt).1 = dxB (iblk m c 0 t) (iblk m c 4 t) (iblk m c 5 t) (iblk m c 1 t) (iblk m c 2 t) := by
    have hN : t.val < 32 := N_0 ▸ t.isLt
    by_cases h0 : t.val % 32 = 0
    · rw [outsAt0_A m c t h0 (by omega) h0 (by omega) h0 (by omega)]
      dsimp only
      rw [first_6]
    · rw [outsAt0_B m c t h0 (by omega) h0 (by omega) h0 (by omega)]
      dsimp only
      rw [next_6]
  rw [h]
  exact dxB_apply (X := at2 (X m c)) (G := at2 (G m c)) (B := at2 (B m c)) (W := at2 (W m c) 0) (S := at2 (S m c) 0)
    (blk0 m c t) (blk4 m c t) (blk5 m c t) (blk1 m c t) (blk2 m c t) r d
end

variable (d : Fin 2048)

/-- An accumulator's sum after the last point runs over all the rows. -/
theorem all_rows (A : (n : ℕ) → n < cfg0.N → EReal) (f : ℕ → EReal)
    (h0 : ∀ n h, n % 32 = 0 → A n h = ∑ r : Fin 256, f (256 * n + r))
    (hs : ∀ n h, n % 32 ≠ 0 → A n h = A (n - 1) (by omega) + ∑ r : Fin 256, f (256 * n + r)) (n : ℕ) (h : n < cfg0.N) (hn : n % 32 = 31) :
    A n h = ∑ a ∈ range 8192, f a := by
  have hN : n < 32 := N_0 ▸ h
  rw [accumulated A (fun n => ∑ r : Fin 256, f (256 * n + r)) h0 hs n h, hn, show (8192 : ℕ) = 256 * (31 + 1) from rfl, ← sum_blocks]
  exact sum_congr rfl fun s _ => by rw [show n / 32 = 0 by omega, Nat.mul_zero, Nat.zero_add]

theorem start7 (t : Fin cfg0.N) (h0 : t.val % 32 = 0) :
    (outsAt0 m c t.val t.isLt).2.1 (ix2 0 d) = ∑ r : Fin 256, rowW m c d (256 * t.val + r) := by
  have hN : t.val < 32 := N_0 ▸ t.isLt
  rw [outsAt0_A m c t h0 (by omega) h0 (by omega) h0 (by omega)]
  dsimp only
  rw [first_7, w_point]

theorem added7 (t : Fin cfg0.N) (h0 : ¬t.val % 32 = 0) : (outsAt0 m c t.val t.isLt).2.1 (ix2 0 d)
    = (outsAt0 m c (t.val - 1) (by omega)).2.1 (ix2 0 d) + ∑ r : Fin 256, rowW m c d (256 * t.val + r) := by
  have hN : t.val < 32 := N_0 ▸ t.isLt
  rw [outsAt0_B m c t h0 (by omega) h0 (by omega) h0 (by omega)]
  dsimp only
  rw [next_7, pay2_apply, w_point]

theorem written7 (t : Fin cfg0.N) (ht : t.val % 32 = 31) : (outsAt0 m c t.val t.isLt).2.1 (ix2 0 d) = ∑ a ∈ range 8192, rowW m c d a :=
  all_rows (fun n h => (outsAt0 m c n h).2.1 (ix2 0 d)) (rowW m c d) (fun n h h0 => start7 m c d ⟨n, h⟩ h0)
    (fun n h h0 => added7 m c d ⟨n, h⟩ h0) t.val t.isLt ht

theorem start8 (t : Fin cfg0.N) (h0 : t.val % 32 = 0) :
    (outsAt0 m c t.val t.isLt).2.2.1 (ix2 0 d) = ∑ r : Fin 256, rowS m c d (256 * t.val + r) := by
  have hN : t.val < 32 := N_0 ▸ t.isLt
  rw [outsAt0_A m c t h0 (by omega) h0 (by omega) h0 (by omega)]
  dsimp only
  rw [first_8, s_point]

theorem added8 (t : Fin cfg0.N) (h0 : ¬t.val % 32 = 0) : (outsAt0 m c t.val t.isLt).2.2.1 (ix2 0 d)
    = (outsAt0 m c (t.val - 1) (by omega)).2.2.1 (ix2 0 d) + ∑ r : Fin 256, rowS m c d (256 * t.val + r) := by
  have hN : t.val < 32 := N_0 ▸ t.isLt
  rw [outsAt0_B m c t h0 (by omega) h0 (by omega) h0 (by omega)]
  dsimp only
  rw [next_8, pay3_apply, s_point]

theorem written8 (t : Fin cfg0.N) (ht : t.val % 32 = 31) : (outsAt0 m c t.val t.isLt).2.2.1 (ix2 0 d) = ∑ a ∈ range 8192, rowS m c d a :=
  all_rows (fun n h => (outsAt0 m c n h).2.2.1 (ix2 0 d)) (rowS m c d) (fun n h h0 => start8 m c d ⟨n, h⟩ h0)
    (fun n h h0 => added8 m c d ⟨n, h⟩ h0) t.val t.isLt ht

theorem start9 (t : Fin cfg0.N) (h0 : t.val % 32 = 0) :
    (outsAt0 m c t.val t.isLt).2.2.2 (ix2 0 d) = ∑ r : Fin 256, rowG m c d (256 * t.val + r) := by
  have hN : t.val < 32 := N_0 ▸ t.isLt
  rw [outsAt0_A m c t h0 (by omega) h0 (by omega) h0 (by omega)]
  dsimp only
  rw [first_9, g_point]

theorem added9 (t : Fin cfg0.N) (h0 : ¬t.val % 32 = 0) : (outsAt0 m c t.val t.isLt).2.2.2 (ix2 0 d)
    = (outsAt0 m c (t.val - 1) (by omega)).2.2.2 (ix2 0 d) + ∑ r : Fin 256, rowG m c d (256 * t.val + r) := by
  have hN : t.val < 32 := N_0 ▸ t.isLt
  rw [outsAt0_B m c t h0 (by omega) h0 (by omega) h0 (by omega)]
  dsimp only
  rw [next_9, pay4_apply, g_point]

theorem written9 (t : Fin cfg0.N) (ht : t.val % 32 = 31) : (outsAt0 m c t.val t.isLt).2.2.2 (ix2 0 d) = ∑ a ∈ range 8192, rowG m c d a :=
  all_rows (fun n h => (outsAt0 m c n h).2.2.2 (ix2 0 d)) (rowG m c d) (fun n h h0 => start9 m c d ⟨n, h⟩ h0)
    (fun n h h0 => added9 m c d ⟨n, h⟩ h0) t.val t.isLt ht

end Cert.AdaKernelIdeal.Norm
end
end
-- ==== Proof.Ada.lean ====
module

public import proofs.«01_k».proof.Defs
public import proofs.«01_k».proof.Proof.AdaPoint
public import proofs.«01_k».proof.Proof.Gen.AdaReferenceIdeal.Run
public import proofs.«01_k».proof.Proof.Gen.AdaReferenceIdeal.Read
public import Idealize.ShloMosaic.Lib.Pipeline.Value

/-! The gradient of the modulated root-mean-square norm: the kernel's four results and the reference's. -/

@[expose] public section

noncomputable section

namespace Cert.AdaKernelIdeal.Norm

open Idealize.ShloMosaic Idealize.ShloMosaic.TcCoe Cert.AdaKernelIdeal.Gen Cert.AdaKernelIdeal
open Idealize.SL Idealize.SL.Sem
open Cert.Mm Cert.Ada Finset

/-! ## The kernel's results -/

theorem index6 : ∀ t : Fin grid0.N, win0_6.index t (0 : Fin 2) = t.val ∧ win0_6.index t (1 : Fin 2) = 0 := by decide +kernel
theorem index7 : ∀ t : Fin grid0.N, win0_7.index t (0 : Fin 2) = 0 ∧ win0_7.index t (1 : Fin 2) = 0 := by decide +kernel
theorem index8 : ∀ t : Fin grid0.N, win0_8.index t (0 : Fin 2) = 0 ∧ win0_8.index t (1 : Fin 2) = 0 := by decide +kernel
theorem index9 : ∀ t : Fin grid0.N, win0_9.index t (0 : Fin 2) = 0 ∧ win0_9.index t (1 : Fin 2) = 0 := by decide +kernel

section
variable (m : (ℓ : Loc nD τ sig) → Buf (Elt Ideal) ℓ) (c : Dev nD)

/-- The rows' gradients. -/
def gradX : Vec Ideal S8192x2048 .f32 := fun i => rowGrad m c (i 0).val (i 1).val
/-- The weights' gradient. -/
def gradW : Vec Ideal S1x2048 .f32 := fun i => ∑ a ∈ range 8192, rowW m c (i 1).val a
/-- The scales' gradient. -/
def gradS : Vec Ideal S1x2048 .f32 := fun i => ∑ a ∈ range 8192, rowS m c (i 1).val a
/-- The shifts' gradient. -/
def gradB : Vec Ideal S1x2048 .f32 := fun i => ∑ a ∈ range 8192, rowG m c (i 1).val a

theorem flushed6 (t : Fin cfg0.N) (_ : (cfg0.win 6).flush t = true) :
    (dats m 0 c).flushed 6 t = ((cfg0.win 6).blk t).view.read (Elt Ideal) (gradX m c) := by
  show (cfg0.win 6).cut (grid0.coords t) ((dats m 0 c).after 6 t) = _
  rw [after0_6]
  funext y
  rw [View.read_apply]
  have h := x_point m c t (⟨(y 1).val, (y 1).isLt⟩ : Fin 2048) (⟨(y 0).val, (y 0).isLt⟩ : Fin 256)
  have e0 : (((cfg0.win 6).blk t).view.emb y 0).val = 256 * t.val + (y 0).val := by
    show win0_6.index t 0 * 256 + 1 * (y 0).val = _
    rw [(index6 t).1]; omega
  have e1 : (((cfg0.win 6).blk t).view.emb y 1).val = (y 1).val := by
    show win0_6.index t 1 * 2048 + 1 * (y 1).val = _
    rw [(index6 t).2]; omega
  have hx : (cfg0.win 6).xinj (grid0.coords t) y = ix2 (⟨(y 0).val, (y 0).isLt⟩ : Fin 256) (⟨(y 1).val, (y 1).isLt⟩ : Fin 2048) := by
    funext a
    match a with
    | ⟨0, _⟩ => rfl
    | ⟨1, _⟩ => rfl
  have hg : gradX m c (((cfg0.win 6).blk t).view.emb y) = rowGrad m c (256 * t.val + (y 0).val) (y 1).val := by
    unfold gradX
    rw [e0, e1]
  dsimp only at h
  refine (congrArg (outsAt0 m c t.val t.isLt).1 hx).trans ?_
  rw [h, ← hg]
  exact (cast_eq _ _).symm

theorem covered6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 32 := N_0
  refine ⟨⟨(i 0).val / 256, by omega⟩, flush0_6 _, ?_⟩
  generalize ht : (⟨(i 0).val / 256, _⟩ : Fin cfg0.N) = t
  have htv : t.val = (i 0).val / 256 := by rw [← ht]
  show i ∈ ((View.whole main_v0_0).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [(index6 t).1]; omega
  | ⟨1, _⟩ =>
    show win0_6.index t (1 : Fin 2) * 2048 ≤ (i 1).val ∧ (i 1).val < win0_6.index t (1 : Fin 2) * 2048 + 2048
    rw [(index6 t).2]; omega

theorem flushed7 (t : Fin cfg0.N) (hf : (cfg0.win 7).flush t = true) :
    (dats m 0 c).flushed 7 t = ((cfg0.win 7).blk t).view.read (Elt Ideal) (gradW m c) := by
  show (cfg0.win 7).cut (grid0.coords t) ((dats m 0 c).after 7 t) = _
  rw [after0_7]
  funext y
  rw [View.read_apply]
  have h := written7 m c (⟨(y 1).val, (y 1).isLt⟩ : Fin 2048) t ((flush0_7 t).mp hf)
  have e1 : (((cfg0.win 7).blk t).view.emb y 1).val = (y 1).val := by
    show win0_7.index t 1 * 2048 + 1 * (y 1).val = _
    rw [(index7 t).2]; omega
  have hx : (cfg0.win 7).xinj (grid0.coords t) y = ix2 (0 : Fin 1) (⟨(y 1).val, (y 1).isLt⟩ : Fin 2048) := by
    funext a
    match a with
    | ⟨0, _⟩ => exact Fin.ext (Nat.lt_one_iff.mp (show (y 0).val < 1 from (y 0).isLt))
    | ⟨1, _⟩ => rfl
  refine (congrArg (outsAt0 m c t.val t.isLt).2.1 hx).trans (h.trans ?_)
  refine Eq.trans ?_ (cast_eq _ _).symm
  unfold gradW
  rw [e1]

theorem covered7 (i : S1x2048.Idx) : ∃ t : Fin cfg0.N, (cfg0.win 7).flush t = true ∧ i ∈ ((cfg0.win 7).blk t).view.set := by
  have hi0 : (i 0).val < 1 := (i 0).isLt
  have hi1 : (i 1).val < 2048 := (i 1).isLt
  have hN : cfg0.N = 32 := N_0
  refine ⟨⟨31, by omega⟩, (flush0_7 _).mpr rfl, ?_⟩
  generalize (⟨31, _⟩ : Fin cfg0.N) = t
  show i ∈ ((View.whole main_v0_1).slice (win0_7.rect t)).set
  rw [View.set_slice_whole, Rect.mem_set_unit]
  intro a
  match a with
  | ⟨0, _⟩ =>
    show win0_7.index t (0 : Fin 2) * 1 ≤ (i 0).val ∧ (i 0).val < win0_7.index t (0 : Fin 2) * 1 + 1
    rw [(index7 t).1]; omega
  | ⟨1, _⟩ =>
    show win0_7.index t (1 : Fin 2) * 2048 ≤ (i 1).val ∧ (i 1).val < win0_7.index t (1 : Fin 2) * 2048 + 2048
    rw [(index7 t).2]; omega

theorem flushed8 (t : Fin cfg0.N) (hf : (cfg0.win 8).flush t = true) :
    (dats m 0 c).flushed 8 t = ((cfg0.win 8).blk t).view.read (Elt Ideal) (gradS m c) := by
  show (cfg0.win 8).cut (grid0.coords t) ((dats m 0 c).after 8 t) = _
  rw [after0_8]
  funext y
  rw [View.read_apply]
  have h := written8 m c (⟨(y 1).val, (y 1).isLt⟩ : Fin 2048) t ((flush0_8 t).mp hf)
  have e1 : (((cfg0.win 8).blk t).view.emb y 1).val = (y 1).val := by
    show win0_8.index t 1 * 2048 + 1 * (y 1).val = _
    rw [(index8 t).2]; omega
  have hx : (cfg0.win 8).xinj (grid0.coords t) y = ix2 (0 : Fin 1) (⟨(y 1).val, (y 1).isLt⟩ : Fin 2048) := by
    funext a
    match a with
    | ⟨0, _⟩ => exact Fin.ext (Nat.lt_one_iff.mp (show (y 0).val < 1 from (y 0).isLt))
    | ⟨1, _⟩ => rfl
  refine (congrArg (outsAt0 m c t.val t.isLt).2.2.1 hx).trans (h.trans ?_)
  refine Eq.trans ?_ (cast_eq _ _).symm
  unfold gradS
  rw [e1]

theorem covered8 (i : S1x2048.Idx) : ∃ t : Fin cfg0.N, (cfg0.win 8).flush t = true ∧ i ∈ ((cfg0.win 8).blk t).view.set := by
  have hi0 : (i 0).val < 1 := (i 0).isLt
  have hi1 : (i 1).val < 2048 := (i 1).isLt
  have hN : cfg0.N = 32 := N_0
  refine ⟨⟨31, by omega⟩, (flush0_8 _).mpr rfl, ?_⟩
  generalize (⟨31, _⟩ : Fin cfg0.N) = t
  show i ∈ ((View.whole main_v0_2).slice (win0_8.rect t)).set
  rw [View.set_slice_whole, Rect.mem_set_unit]
  intro a
  match a with
  | ⟨0, _⟩ =>
    show win0_8.index t (0 : Fin 2) * 1 ≤ (i 0).val ∧ (i 0).val < win0_8.index t (0 : Fin 2) * 1 + 1
    rw [(index8 t).1]; omega
  | ⟨1, _⟩ =>
    show win0_8.index t (1 : Fin 2) * 2048 ≤ (i 1).val ∧ (i 1).val < win0_8.index t (1 : Fin 2) * 2048 + 2048
    rw [(index8 t).2]; omega

theorem flushed9 (t : Fin cfg0.N) (hf : (cfg0.win 9).flush t = true) :
    (dats m 0 c).flushed 9 t = ((cfg0.win 9).blk t).view.read (Elt Ideal) (gradB m c) := by
  show (cfg0.win 9).cut (grid0.coords t) ((dats m 0 c).after 9 t) = _
  rw [after0_9]
  funext y
  rw [View.read_apply]
  have h := written9 m c (⟨(y 1).val, (y 1).isLt⟩ : Fin 2048) t ((flush0_9 t).mp hf)
  have e1 : (((cfg0.win 9).blk t).view.emb y 1).val = (y 1).val := by
    show win0_9.index t 1 * 2048 + 1 * (y 1).val = _
    rw [(index9 t).2]; omega
  have hx : (cfg0.win 9).xinj (grid0.coords t) y = ix2 (0 : Fin 1) (⟨(y 1).val, (y 1).isLt⟩ : Fin 2048) := by
    funext a
    match a with
    | ⟨0, _⟩ => exact Fin.ext (Nat.lt_one_iff.mp (show (y 0).val < 1 from (y 0).isLt))
    | ⟨1, _⟩ => rfl
  refine (congrArg (outsAt0 m c t.val t.isLt).2.2.2 hx).trans (h.trans ?_)
  refine Eq.trans ?_ (cast_eq _ _).symm
  unfold gradB
  rw [e1]

theorem covered9 (i : S1x2048.Idx) : ∃ t : Fin cfg0.N, (cfg0.win 9).flush t = true ∧ i ∈ ((cfg0.win 9).blk t).view.set := by
  have hi0 : (i 0).val < 1 := (i 0).isLt
  have hi1 : (i 1).val < 2048 := (i 1).isLt
  have hN : cfg0.N = 32 := N_0
  refine ⟨⟨31, by omega⟩, (flush0_9 _).mpr rfl, ?_⟩
  generalize (⟨31, _⟩ : Fin cfg0.N) = t
  show i ∈ ((View.whole main_v0_3).slice (win0_9.rect t)).set
  rw [View.set_slice_whole, Rect.mem_set_unit]
  intro a
  match a with
  | ⟨0, _⟩ =>
    show win0_9.index t (0 : Fin 2) * 1 ≤ (i 0).val ∧ (i 0).val < win0_9.index t (0 : Fin 2) * 1 + 1
    rw [(index9 t).1]; omega
  | ⟨1, _⟩ =>
    show win0_9.index t (1 : Fin 2) * 2048 ≤ (i 1).val ∧ (i 1).val < win0_9.index t (1 : Fin 2) * 2048 + 2048
    rw [(index9 t).2]; omega

/-- The kernel's run leaves the four gradients in its results. -/
theorem run (ρ : Dev nD → PrngReg) : θ_run defs (onTc (τ := τ) (main (F := Ideal))) ⟨m, fun _ => 0, ρ⟩ fun r => ∀ c : Dev nD,
    r.2.mem ((c : Thread nD τ).loc main_v0_0) = gradX m c ∧ r.2.mem ((c : Thread nD τ).loc main_v0_1) = gradW m c
      ∧ r.2.mem ((c : Thread nD τ).loc main_v0_2) = gradS m c ∧ r.2.mem ((c : Thread nD τ).loc main_v0_3) = gradB m c :=
  (θ_run defs _ _).mono (fun r h c =>
    ⟨((h c).1 6).trans ((dats m 0 c).arrAt_eq_of_cover 6 _ (fun t hf => flushed6 m c t hf) covered6),
      ((h c).1 7).trans ((dats m 0 c).arrAt_eq_of_cover 7 _ (fun t hf => flushed7 m c t hf) covered7),
      ((h c).1 8).trans ((dats m 0 c).arrAt_eq_of_cover 8 _ (fun t hf => flushed8 m c t hf) covered8),
      ((h c).1 9).trans ((dats m 0 c).arrAt_eq_of_cover 9 _ (fun t hf => flushed9 m c t hf) covered9)⟩) (run_main m ρ)
end

/-! ## The reference -/

section
open Cert.AdaReferenceIdeal.Read

variable (x g b : Vec Ideal S8192x2048 .f32) (w s : Vec Ideal S1x2048 .f32)

theorem zero_first (f : Cert.AdaReferenceIdeal.S_.Idx → EReal) (h : ∀ i, f i = Ideal.ofBits .f32 0x00000000#32) (i) (a : EReal) : f i + a = a := by
  rw [h]
  simp

theorem ref_ms (i : Cert.AdaReferenceIdeal.S8192x1.Idx) : val_main_v7 (F := Ideal) x i = ms (at2 x (i 0).val) := by
  rw [val_main_v7_apply, val_main_v5_apply, val_main_v3_apply, val_main_v2_apply, val_main_v4_apply, val_main_v6_apply,
    zero_first _ val_main_cst_apply]
  refine congrArg (fun u => Ideal.div u (Ideal.ofBits .f32 0x45000000#32) + Ideal.ofBits .f32 0x358637BD#32)
    (sum_congr rfl fun k _ => ?_)
  rw [val_main_v1_apply]
  exact congrArg₂ (· * ·) (at2_eq x _ rfl rfl) (at2_eq x _ rfl rfl)

theorem ref_inv (i : Cert.AdaReferenceIdeal.S8192x1.Idx) : val_main_v8 (F := Ideal) x i = inv (at2 x (i 0).val) := by
  rw [val_main_v8_apply, ref_ms]
  rfl

theorem ref_norm (i : S8192x2048.Idx) : val_main_v13 (F := Ideal) x i = at2 x (i 0).val (i 1).val * inv (at2 x (i 0).val) := by
  rw [val_main_v13_apply, val_main_v12_apply, ref_inv]
  exact congrArg (· * _) (at2_eq x _ rfl rfl)

theorem ref_w (i : Cert.AdaReferenceIdeal.S1x2048.Idx) : val_main_v14 (F := Ideal) w i = at2 w 0 (i 1).val := by
  rw [val_main_v14_apply, val_main_v0_apply]
  exact at2_eq w _ rfl (Nat.mod_eq_of_lt (i 1).isLt)

theorem ref_g (i : S8192x2048.Idx) : val_main_v23 (F := Ideal) g i = at2 g (i 0).val (i 1).val := by
  rw [val_main_v23_apply]
  have h1 : (i 1).val < 2048 := (i 1).isLt
  exact at2_eq g _ (show ((i 0).val * 2048 + (i 1).val) / 2048 = _ by omega) (show ((i 0).val * 2048 + (i 1).val) % 2048 = _ by omega)

theorem ref_gs (i : S8192x2048.Idx) : val_main_v30 (F := Ideal) s g i = gs (at2 g (i 0).val) (at2 s 0) (i 1).val := by
  rw [val_main_v30_apply, ref_g, val_main_v29_apply, val_main_v18_apply, val_main_v17_apply, val_main_cst_3_apply]
  refine congrArg (_ * ·) (congrArg₂ (· + ·) ?_ (at2_eq s _ rfl rfl))
  show Ideal.ofBits .f32 0x3F800000#32 = 1
  simp

theorem ref_gn (i : S8192x2048.Idx) : val_main_v35 (F := Ideal) w s g i = gn (at2 g (i 0).val) (at2 w 0) (at2 s 0) (i 1).val := by
  rw [val_main_v35_apply, ref_gs, val_main_v34_apply, ref_w]
  rfl

theorem ref_dms (i : Cert.AdaReferenceIdeal.S8192x1.Idx) :
    val_main_v44 (F := Ideal) x w s g i = dms (at2 x (i 0).val) (at2 g (i 0).val) (at2 w 0) (at2 s 0) := by
  rw [val_main_v44_apply, val_main_v42_apply, val_main_v39_apply, val_main_v38_apply, val_main_v11_apply, val_main_v9_apply,
    val_main_v10_apply, val_main_v43_apply, zero_first _ val_main_cst_8_apply, ref_inv, ref_ms]
  refine congrArg (fun u => Ideal.div (u * (Ideal.ofBits .f32 0xBF000000#32 * Ideal.div (inv (at2 x (i 0).val)) (ms (at2 x (i 0).val))))
    (Ideal.ofBits .f32 0x45000000#32)) (sum_congr rfl fun k _ => ?_)
  rw [val_main_v37_apply, ref_gn, at2_eq x (idx_main_v38 (idx_main_v39 i) k) rfl rfl]
  have hi : (idx_main_v38 (idx_main_v39 i) k 0).val = (i 0).val := by
    have h1 : (i 1).val < 1 := (i 1).isLt
    show (i 0).val * 1 + (i 1).val = _
    omega
  rw [hi]
  rfl

theorem reference_x (i : S8192x2048.Idx) : val_main_v52 (F := Ideal) x w s g b i
    = dx (at2 x (i 0).val) (at2 g (i 0).val) (at2 b (i 0).val) (at2 w 0) (at2 s 0) (i 1).val := by
  have h46 : val_main_v46 (F := Ideal) x w s g i = dms (at2 x (i 0).val) (at2 g (i 0).val) (at2 w 0) (at2 s 0) := by
    rw [val_main_v46_apply, val_main_v45_apply, zero_first _ val_main_cst_10_apply, Fin.sum_univ_one, ref_dms]
  rw [val_main_v52_apply, val_main_v50_apply, val_main_v48_apply, val_main_v49_apply, val_main_v47_apply, val_main_v41_apply,
    val_main_v40_apply, ref_gn, ref_inv, h46, at2_eq x i rfl rfl, at2_eq b i rfl rfl]
  rfl

theorem reference_w (i : S1x2048.Idx) : val_main_v51 (F := Ideal) x s g i
    = ∑ a ∈ range 8192, tw (at2 x a) (at2 g a) (at2 s 0) (i 1).val := by
  rw [val_main_v51_apply, val_main_v36_apply, zero_first _ val_main_cst_7_apply, Fin.sum_univ_one, val_main_v33_apply, val_main_v32_apply,
    zero_first _ val_main_cst_6_apply, sum_range]
  refine sum_congr rfl fun k _ => ?_
  rw [val_main_v31_apply, ref_norm, ref_gs]
  rw [tw]
  have e : ∀ j, j = (i 1).val → FloatOps.mulf (F := Ideal) (φ := .f32) (at2 x k.val j * inv (at2 x k.val)) (gs (at2 g k.val) (at2 s 0) j)
      = at2 x k.val (i 1).val * inv (at2 x k.val) * gs (at2 g k.val) (at2 s 0) (i 1).val := by
    rintro j rfl; rfl
  exact e _ (by show 0 * 2048 + (i 1).val = (i 1).val; omega)

theorem reference_s (i : S1x2048.Idx) : val_main_v28 (F := Ideal) x w g i
    = ∑ a ∈ range 8192, ts (at2 x a) (at2 g a) (at2 w 0) (i 1).val := by
  rw [val_main_v28_apply, val_main_v27_apply, zero_first _ val_main_cst_5_apply, sum_range]
  refine sum_congr rfl fun k _ => ?_
  rw [val_main_v26_apply, val_main_v16_apply, ref_norm, val_main_v15_apply, ref_w, ref_g]
  rw [ts]
  have e : ∀ j, j = (i 1).val → FloatOps.mulf (F := Ideal) (φ := .f32) (FloatOps.mulf (F := Ideal) (φ := .f32)
      (at2 x k.val j * inv (at2 x k.val)) (at2 w 0 j)) (at2 g k.val j)
      = at2 x k.val (i 1).val * inv (at2 x k.val) * at2 w 0 (i 1).val * at2 g k.val (i 1).val := by
    rintro j rfl; rfl
  exact e _ (by have h0 : (i 0).val < 1 := (i 0).isLt; show (i 0).val * 2048 + (i 1).val = (i 1).val; omega)

theorem reference_b (i : S1x2048.Idx) : val_main_v25 (F := Ideal) g i = ∑ a ∈ range 8192, at2 g a (i 1).val := by
  rw [val_main_v25_apply, val_main_v24_apply, zero_first _ val_main_cst_4_apply, sum_range]
  have h0 : (i 0).val < 1 := (i 0).isLt
  exact sum_congr rfl fun k _ => at2_eq g _ rfl (show (i 0).val * 2048 + (i 1).val = (i 1).val by omega)
end

/-- Over the reals, the kernel's four gradients are the reference's. -/
theorem values : Cert.algebraic_AdaKernelIdeal_AdaReferenceIdeal := fun m g m' g' _ hm =>
  ⟨fun c => gradX m c, fun c => gradW m c, fun c => gradS m c, fun c => gradB m c,
    (θ_run defs _ _).mono (fun r h c => ⟨(h.1 c).1, (h.1 c).2.1, (h.1 c).2.2.1, (h.1 c).2.2.2, h.2 c⟩) (θ_run_and (run m g) (unchanged m g)),
    (θ_run Cert.AdaReferenceIdeal.defs _ _).mono (fun r h c =>
        have e := hm c
        ⟨(h c).1.trans ((Cert.AdaReferenceIdeal.Read.val_main_v52_eq _ _).trans (by
          rw [e.1, e.2.1, e.2.2.1, e.2.2.2.2.1, e.2.2.2.2.2]
          exact funext fun i => reference_x _ _ _ _ _ i)),
          (h c).2.1.trans ((Cert.AdaReferenceIdeal.Read.val_main_v51_eq _ _ _).trans (by
            rw [e.1, e.2.2.1, e.2.2.2.2.1]
            exact funext fun i => reference_w _ _ _ i)),
          (h c).2.2.1.trans ((Cert.AdaReferenceIdeal.Read.val_main_v28_eq _ _ _).trans (by
            rw [e.1, e.2.1, e.2.2.2.2.1]
            exact funext fun i => reference_s _ _ _ i)),
          (h c).2.2.2.1.trans ((Cert.AdaReferenceIdeal.Read.val_main_v25_eq _).trans (by
            rw [e.2.2.2.2.1]
            exact funext fun i => reference_b _ i)),
          (h c).2.2.2.2⟩)
        (Cert.AdaReferenceIdeal.Value.run (F := Ideal) m' g')⟩

end Cert.AdaKernelIdeal.Norm
end
end
-- ==== Proof.ConvPoint.lean ====
module

public import proofs.«01_k».proof.Proof.Products
public import proofs.«01_k».proof.Proof.Gen.ConvKernelIdeal.Frame
public import Idealize.ShloMosaic.Lib.VecWindow
public import Idealize.ShloMosaic.Lib.WritesUnit
public import Idealize.ShloMosaic.Lib.Pointwise

/-! The gradient of the causal short convolution: the formulas, and what one block of 512 steps by 512 channels of the kernel
    computes by them. -/

@[expose] public section

noncomputable section

namespace Cert.Conv

open Idealize.ShloMosaic

/-- The value of channel `d` so many steps `j` before step `t`; nothing before the first step. -/
def late (X : ℕ → ℕ → EReal) (j t d : ℕ) : EReal := if j ≤ t then X (t - j) d else 0
/-- The gradient of channel `d` at step `t`: a step feeds itself and the three after it. -/
def dx (W G : ℕ → ℕ → EReal) (t d : ℕ) : EReal := W 3 d * G t d + W 2 d * G (t + 1) d + W 1 d * G (t + 2) d + W 0 d * G (t + 3) d
/-- What step `t` brings to the gradient of channel `d`'s weight of `j` steps before. -/
def tap (X G : ℕ → ℕ → EReal) (j d t : ℕ) : EReal := G t d * late X j t d

end Cert.Conv

namespace Cert.ConvKernelIdeal.Conv

open Idealize.ShloMosaic Idealize.ShloMosaic.TcCoe Cert.ConvKernelIdeal.Gen Cert.ConvKernelIdeal
open Cert.Mm Cert.Conv Finset

/-! ## A block of 512 steps -/

theorem select_first {α : Type} (a : Fin 16) (x y : α) :
    Scalar.select (Scalar.cmpi .eq (BitVec.ofNat 32 a.val) 0#32) x y = if a.val = 0 then x else y := by
  have h : Scalar.cmpi .eq (BitVec.ofNat 32 a.val) 0#32 = if a.val = 0 then 1#1 else 0#1 := by revert a; decide
  rw [h]
  split_ifs <;> rfl

theorem select_last {α : Type} (a : Fin 16) (x y : α) :
    Scalar.select (Scalar.cmpi .eq (BitVec.ofNat 32 a.val) 15#32) x y = if a.val = 15 then x else y := by
  have h : Scalar.cmpi .eq (BitVec.ofNat 32 a.val) 15#32 = if a.val = 15 then 1#1 else 0#1 := by revert a; decide
  rw [h]
  split_ifs <;> rfl

section
variable {x g : Vec Ideal S512x512 .f32} {w : Vec Ideal S4x512 .f32} {h n : Vec Ideal S8x512 .f32} {X G W : ℕ → ℕ → EReal}
  {i : grid0.Coords}
  (hx : ∀ r d : Fin 512, x (ix2 r d) = X (512 * (i 1).val + r) d)
  (hh : (i 1).val ≠ 0 → ∀ (r : Fin 8) (d : Fin 512), h (ix2 r d) = X (512 * (i 1).val - 8 + r) d)
  (hg : ∀ r d : Fin 512, g (ix2 r d) = G (512 * (i 1).val + r) d)
  (hn : (i 1).val ≠ 15 → ∀ (r : Fin 8) (d : Fin 512), n (ix2 r d) = G (512 * (i 1).val + 512 + r) d)
  (ho : ∀ t d, 8192 ≤ t → G t d = 0)
  (hw : ∀ (r : Fin 4) (d : Fin 512), w (ix2 r d) = W r d)
  (r d : Fin 512)

include hg hn ho in
/-- The steps of the block and the eight after it. -/
theorem after_apply (j : Fin 520) : k0_pay2 i g n (ix2 j d) = G (512 * (i 1).val + j) d := by
  simp only [k0_pay2]
  pointwise
  by_cases hj : j.val < 512
  · rw [dif_pos hj, hg]
  · rw [dif_neg hj]
    refine (select_last (i 1) _ _).trans ?_
    by_cases h15 : (i 1).val = 15
    · rw [if_pos h15, ho _ _ (by omega)]
    · rw [if_neg h15, hn h15]
      congr 1
      show _ + 512 + (j.val - 512) = _
      omega

include hx hh in
/-- The eight steps before the block and those of the block. -/
theorem before_apply (j : ℕ) (hj : j < 520) (k t : ℕ) (ht : 512 * (i 1).val + j + k = t + 8) :
    (if hl : j < 8 then Scalar.select (Scalar.cmpi .eq (BitVec.ofNat 32 (i 1).val) 0#32) 0 (h (ix2 ⟨j, hl⟩ d))
      else x (ix2 ⟨j - 8, by omega⟩ d)) = late X k t d := by
  rw [late]
  by_cases hl : j < 8
  · rw [dif_pos hl]
    refine (select_first (i 1) _ _).trans ?_
    by_cases h0 : (i 1).val = 0
    · rw [if_pos h0, if_neg (by omega)]
    · rw [if_neg h0, hh h0, if_pos (by omega)]
      congr 1
      show _ - 8 + j = _
      omega
  · rw [dif_neg hl, hx, if_pos (by omega)]
    congr 1
    show _ + (j - 8) = _
    omega

/-- The block's gradients. -/
abbrev dxB (i : grid0.Coords) (w : Vec Ideal S4x512 .f32) (g : Vec Ideal S512x512 .f32) (n : Vec Ideal S8x512 .f32) : Vec Ideal S512x512 .bf16 :=
  k0_pay8 w (k0_pay2 i g n) (k0_pay5 i w g n)

include hg hn ho hw in
theorem dxB_apply : dxB i w g n (ix2 r d) = dx W G (512 * (i 1).val + r) d := by
  have e : ∀ (k : ℕ) (hk : k < 520), k < r.val + 4 → r.val ≤ k → k0_pay2 i g n (ix2 ⟨k, hk⟩ d) = G (512 * (i 1).val + r + (k - r.val)) d :=
    fun k hk _ h2 => (after_apply hg hn ho d ⟨k, hk⟩).trans (congrArg (G · d) (by show _ + k = _; omega))
  have e1 : (r.val + 520 - 519) % 520 = r.val + 1 := by omega
  have e2 : (r.val + 520 - 518) % 520 = r.val + 2 := by omega
  have e3 : (r.val + 520 - 517) % 520 = r.val + 3 := by omega
  simp only [dxB, k0_pay8, k0_pay5]
  pointwise
  simp only [e1, e2, e3]
  rw [e _ _ (by omega) (by omega), e _ _ (by omega) (by omega), e _ _ (by omega) (by omega), hg, hw, hw, hw, hw]
  simp only [Nat.add_sub_cancel_left]
  rfl

include hx hg in
theorem tap0 : k0_pay3 x g (ix2 0 d) = ∑ r : Fin 512, tap X G 0 d (512 * (i 1).val + r) := by
  simp only [k0_pay3]
  pointwise
  exact sum_congr rfl fun r _ => by rw [hg, hx, tap, late, if_pos (Nat.zero_le _)]; rfl

include hx hh hg in
theorem tap1 : k0_pay4 i x h g (ix2 0 d) = ∑ r : Fin 512, tap X G 1 d (512 * (i 1).val + r) := by
  simp only [k0_pay4]
  pointwise
  exact sum_congr rfl fun r _ => by rw [hg, before_apply hx hh d _ (by omega) 1 (512 * (i 1).val + r) (by omega)]; rfl

include hx hh hg in
theorem tap2 : k0_pay12 x g (k0_pay6 i h) (fun _ => 0) (ix2 0 d) = ∑ r : Fin 512, tap X G 2 d (512 * (i 1).val + r) := by
  simp only [k0_pay12, k0_pay6, shapeCast_self]
  pointwise
  exact sum_congr rfl fun r _ => by rw [hg, before_apply hx hh d _ (by omega) 2 (512 * (i 1).val + r) (by omega)]; rfl

include hx hh hg in
theorem tap3 : k0_pay7 (Scalar.cmpi .eq (BitVec.ofNat 32 (i 1).val) 0#32) x h g (ix2 0 d) = ∑ r : Fin 512, tap X G 3 d (512 * (i 1).val + r) := by
  simp only [k0_pay7]
  pointwise
  exact sum_congr rfl fun r _ => by rw [hg, before_apply hx hh d _ (by omega) 3 (512 * (i 1).val + r) (by omega)]; rfl

theorem pay1_apply (a v : FVec Ideal S1x512 .f32) : k0_pay1 a v (ix2 0 d) = v (ix2 0 d) + a (ix2 0 d) := by
  simp only [k0_pay1, shapeCast_self]
  rfl
theorem pay12_apply (v : FVec Ideal S8x512 .f32) (a : FVec Ideal S1x512 .f32) :
    k0_pay12 x g v a (ix2 0 d) = a (ix2 0 d) + k0_pay12 x g v (fun _ => 0) (ix2 0 d) := by
  simp only [k0_pay12, shapeCast_self]
  exact congrArg (a (ix2 0 d) + ·) (zero_add _).symm
theorem pay10_apply (a v : FVec Ideal S1x512 .f32) : k0_pay10 a v (ix2 0 d) = v (ix2 0 d) + a (ix2 0 d) := pay1_apply d a v
theorem pay11_apply (a v : FVec Ideal S1x512 .f32) : k0_pay11 a v (ix2 0 d) = v (ix2 0 d) + a (ix2 0 d) := pay1_apply d a v
theorem pay9_apply (r : Fin 4) : k0_pay9 (F := Ideal) (ix2 r d) = 0 := by
  simp only [k0_pay9]
  pointwise
  done
end

/-! ## What a point leaves -/

section
variable {sig : RefSig} {κ : Kind} {sp : Space} {Val : EltTy → Type} {e : EltTy}

/-- A row loaded is read in the matrix. -/
theorem load_row (v : View sig κ sp ⟨2, ![4, 512]⟩ e) (f : v.ty.Contents Val) (o : Fin 4)
    (inb : ∀ a, (![o.val, 0] : Fin 2 → ℕ) a + (![1, 512] : Fin 2 → ℕ) a ≤ (⟨2, ![4, 512]⟩ : Shape).size a) (d : Fin 512) :
    v.readAt Val (Rect.unit (s := ⟨2, ![4, 512]⟩) ![o.val, 0] ![1, 512] inb).toLoadRect f (ix2 (0 : Fin 1) d) = v.read Val f (ix2 o d) := by
  rw [View.readAt_apply]
  refine congrArg (v.read Val f) (funext fun a => Fin.ext ?_)
  fin_cases a
  · show o.val + 1 * 0 = o.val; omega
  · show 0 + 1 * d.val = d.val; omega

/-- The row stored last. -/
theorem stored_row (v : View sig κ sp ⟨2, ![4, 512]⟩ e) (f : v.ty.Contents Val) (o : Fin 4)
    (inb : ∀ a, (![o.val, 0] : Fin 2 → ℕ) a + (![1, 512] : Fin 2 → ℕ) a ≤ (⟨2, ![4, 512]⟩ : Shape).size a)
    (w : (Rect.unit (s := ⟨2, ![4, 512]⟩) ![o.val, 0] ![1, 512] inb).shape.Idx → Val e) (L : List (View.Piece Val ⟨2, ![4, 512]⟩ e)) (d : Fin 512) :
    v.read Val (v.writes Val f (⟨Rect.unit (s := ⟨2, ![4, 512]⟩) ![o.val, 0] ![1, 512] inb, w⟩ :: L)) (ix2 o d) = w (ix2 (0 : Fin 1) d) :=
  View.read_writes_cons_rows_of_mem v f inb w L (ix2 o d) (ix2 (0 : Fin 1) d) rfl rfl rfl

/-- Another row than the one stored last. -/
theorem other_row (v : View sig κ sp ⟨2, ![4, 512]⟩ e) (f : v.ty.Contents Val) (o p : Fin 4) (hp : p ≠ o)
    (inb : ∀ a, (![o.val, 0] : Fin 2 → ℕ) a + (![1, 512] : Fin 2 → ℕ) a ≤ (⟨2, ![4, 512]⟩ : Shape).size a)
    (w : (Rect.unit (s := ⟨2, ![4, 512]⟩) ![o.val, 0] ![1, 512] inb).shape.Idx → Val e) (L : List (View.Piece Val ⟨2, ![4, 512]⟩ e)) (d : Fin 512) :
    v.read Val (v.writes Val f (⟨Rect.unit (s := ⟨2, ![4, 512]⟩) ![o.val, 0] ![1, 512] inb, w⟩ :: L)) (ix2 p d)
      = v.read Val (v.writes Val f L) (ix2 p d) :=
  View.read_writes_cons_rows_of_not_mem (o := o.val) (W := 1) v f inb w L (ix2 p d) rfl rfl (by show p.val < o.val ∨ o.val + 1 ≤ p.val; omega)
end

section
variable (c : Dev nD) (i : grid0.Coords)
  (arg2 : Memref sig .tc .vmem S512x512 .f32) (harg2 : arg2.IsWhole) (arg3 : Memref sig .tc .vmem S8x512 .f32) (harg3 : arg3.IsWhole)
  (arg4 : Memref sig .tc .vmem S4x512 .f32) (harg4 : arg4.IsWhole) (arg5 : Memref sig .tc .vmem S512x512 .f32) (harg5 : arg5.IsWhole)
  (arg6 : Memref sig .tc .vmem S8x512 .f32) (harg6 : arg6.IsWhole) (arg7 : Memref sig .tc .vmem S512x512 .bf16) (harg7 : arg7.IsWhole)
  (arg8 : Memref sig .tc .vmem S4x512 .f32) (harg8 : arg8.IsWhole)
  (x0 : Vec Ideal S512x512 .f32) (x1 : Vec Ideal S8x512 .f32) (x2 : Vec Ideal S4x512 .f32) (x3 : Vec Ideal S512x512 .f32) (x4 : Vec Ideal S8x512 .f32)
  (y6 : Vec Ideal S4x512 .f32)

theorem first_5 (hc0 : cond0_0 i) : out0_A_5 c i arg2 harg2 arg3 harg3 arg4 harg4 arg5 harg5 arg6 harg6 arg7 harg7 arg8 harg8 hc0 x0 x1 x2 x3 x4 = dxB i x2 x3 x4 := by
  unfold out0_A_5 kernelRun0_A
  dsimp only
  simp only [kernelRun0_A.sl.r_2, kernelRun0_A.sl.r_4, kernelRun0_A.sl.r_7, read_stored, load_stored, cov_stored, load_whole]

theorem next_5 (hc0 : ¬cond0_0 i) : out0_B_5 c i arg2 harg2 arg3 harg3 arg4 harg4 arg5 harg5 arg6 harg6 arg7 harg7 arg8 harg8 hc0 x0 x1 x2 x3 x4 y6 = dxB i x2 x3 x4 := by
  unfold out0_B_5 kernelRun0_B
  dsimp only
  simp only [kernelRun0_B.sl.r_2, kernelRun0_B.sl.r_4, kernelRun0_B.sl.r_7, read_stored, load_stored, cov_stored, load_whole]

variable (d : Fin 512)

theorem next_6_3 (hc0 : ¬cond0_0 i) : out0_B_6 c i arg2 harg2 arg3 harg3 arg4 harg4 arg5 harg5 arg6 harg6 arg7 harg7 arg8 harg8 hc0 x0 x1 x2 x3 x4 y6 (ix2 3 d)
    = y6 (ix2 3 d) + k0_pay3 x0 x3 (ix2 0 d) := by
  unfold out0_B_6 kernelRun0_B
  dsimp only
  refine (other_row _ _ 0 3 (by decide) _ _ _ d).trans ?_
  refine (other_row _ _ 1 3 (by decide) _ _ _ d).trans ?_
  refine (other_row _ _ 2 3 (by decide) _ _ _ d).trans ?_
  refine (stored_row _ _ 3 _ _ _ d).trans ?_
  rw [pay10_apply]
  refine congrArg₂ (· + ·) ?_ ?_
  · refine (load_row _ _ 3 _ d).trans ?_
    rw [harg8.read_unread]
  · simp only [kernelRun0_B.sl.r_5, load_whole]

theorem next_6_0 (hc0 : ¬cond0_0 i) : out0_B_6 c i arg2 harg2 arg3 harg3 arg4 harg4 arg5 harg5 arg6 harg6 arg7 harg7 arg8 harg8 hc0 x0 x1 x2 x3 x4 y6 (ix2 0 d)
    = y6 (ix2 0 d) + k0_pay7 (Scalar.cmpi .eq (BitVec.ofNat 32 (i 1).val) 0#32) x0 x1 x3 (ix2 0 d) := by
  unfold out0_B_6 kernelRun0_B
  dsimp only
  refine (stored_row _ _ 0 _ _ _ d).trans ?_
  rw [pay1_apply]
  refine congrArg₂ (· + ·) ?_ ?_
  · unfold kernelRun0_B.sl.v74
    refine (load_row _ _ 0 _ d).trans ?_
    rw [harg8.read_unread]
  · simp only [kernelRun0_B.sl.r_9, kernelRun0_B.sl.v0, kernelRun0_B.sl.r, kernelRun0_B.sl.r_1, kernelRun0_B.sl.r_3, load_whole]

theorem next_6_1 (hc0 : ¬cond0_0 i) : out0_B_6 c i arg2 harg2 arg3 harg3 arg4 harg4 arg5 harg5 arg6 harg6 arg7 harg7 arg8 harg8 hc0 x0 x1 x2 x3 x4 y6 (ix2 1 d)
    = y6 (ix2 1 d) + k0_pay12 x0 x3 (k0_pay6 i x1) (fun _ => 0) (ix2 0 d) := by
  unfold out0_B_6 kernelRun0_B
  dsimp only
  refine (other_row _ _ 0 1 (by decide) _ _ _ d).trans ?_
  refine (stored_row _ _ 1 _ _ _ d).trans ?_
  unfold kernelRun0_B.sl.r_10
  rw [pay12_apply]
  refine congrArg₂ (· + ·) ?_ ?_
  · unfold kernelRun0_B.sl.v70
    refine (load_row _ _ 1 _ d).trans ?_
    rw [harg8.read_unread]
  · simp only [kernelRun0_B.sl.r, kernelRun0_B.sl.r_3, kernelRun0_B.sl.r_8, kernelRun0_B.sl.r_1, load_whole]

theorem next_6_2 (hc0 : ¬cond0_0 i) : out0_B_6 c i arg2 harg2 arg3 harg3 arg4 harg4 arg5 harg5 arg6 harg6 arg7 harg7 arg8 harg8 hc0 x0 x1 x2 x3 x4 y6 (ix2 2 d)
    = y6 (ix2 2 d) + k0_pay4 i x0 x1 x3 (ix2 0 d) := by
  unfold out0_B_6 kernelRun0_B
  dsimp only
  refine (other_row _ _ 0 2 (by decide) _ _ _ d).trans ?_
  refine (other_row _ _ 1 2 (by decide) _ _ _ d).trans ?_
  refine (stored_row _ _ 2 _ _ _ d).trans ?_
  rw [pay11_apply]
  refine congrArg₂ (· + ·) ?_ ?_
  · unfold kernelRun0_B.sl.v66
    refine (load_row _ _ 2 _ d).trans ?_
    rw [harg8.read_unread]
  · simp only [kernelRun0_B.sl.r_6, load_whole]

/-- A row read after the zeros are stored and before it is stored itself. -/
theorem zero_row (v : View sig .tc .vmem S4x512 .f32) (f : v.ty.Contents (Elt Ideal)) (p : Fin 4)
    (inb : ∀ a, (![0, 0] : Fin 2 → ℕ) a + (![4, 512] : Fin 2 → ℕ) a ≤ (⟨2, ![4, 512]⟩ : Shape).size a) :
    v.read (Elt Ideal) (v.writes (Elt Ideal) f [⟨Rect.unit (s := S4x512) ![0, 0] ![4, 512] inb, k0_pay9 (F := Ideal)⟩]) (ix2 p d) = 0 :=
  (congrFun (read_stored v f inb _ _) _).trans (pay9_apply d p)

theorem first_6_3 (hc0 : cond0_0 i) : out0_A_6 c i arg2 harg2 arg3 harg3 arg4 harg4 arg5 harg5 arg6 harg6 arg7 harg7 arg8 harg8 hc0 x0 x1 x2 x3 x4 (ix2 3 d)
    = k0_pay3 x0 x3 (ix2 0 d) := by
  unfold out0_A_6 kernelRun0_A
  dsimp only
  unfold kernelRun0_A.sl.H6_4 kernelRun0_A.sl.H6_3 kernelRun0_A.sl.H6_2
  refine (other_row _ _ 0 3 (by decide) _ _ _ d).trans ?_
  refine (other_row _ _ 1 3 (by decide) _ _ _ d).trans ?_
  refine (other_row _ _ 2 3 (by decide) _ _ _ d).trans ?_
  refine (stored_row _ _ 3 _ _ _ d).trans ?_
  rw [pay10_apply]
  refine Eq.trans (congrArg₂ (· + ·) ?_ ?_) (zero_add _)
  · unfold kernelRun0_A.sl.v62 kernelRun0_A.sl.H6_1
    refine (load_row _ _ 3 _ d).trans ?_
    exact zero_row d _ _ 3 _
  · simp only [kernelRun0_A.sl.r_5, load_whole]

theorem first_6_2 (hc0 : cond0_0 i) : out0_A_6 c i arg2 harg2 arg3 harg3 arg4 harg4 arg5 harg5 arg6 harg6 arg7 harg7 arg8 harg8 hc0 x0 x1 x2 x3 x4 (ix2 2 d)
    = k0_pay4 i x0 x1 x3 (ix2 0 d) := by
  unfold out0_A_6 kernelRun0_A
  dsimp only
  unfold kernelRun0_A.sl.H6_4 kernelRun0_A.sl.H6_3
  refine (other_row _ _ 0 2 (by decide) _ _ _ d).trans ?_
  refine (other_row _ _ 1 2 (by decide) _ _ _ d).trans ?_
  refine (stored_row _ _ 2 _ _ _ d).trans ?_
  rw [pay11_apply]
  refine Eq.trans (congrArg₂ (· + ·) ?_ ?_) (zero_add _)
  · unfold kernelRun0_A.sl.v66 kernelRun0_A.sl.H6_2 kernelRun0_A.sl.H6_1
    refine (load_row _ _ 2 _ d).trans ?_
    refine (other_row _ _ 3 2 (by decide) _ _ _ d).trans ?_
    exact zero_row d _ _ 2 _
  · simp only [kernelRun0_A.sl.r_6, load_whole]

theorem first_6_1 (hc0 : cond0_0 i) : out0_A_6 c i arg2 harg2 arg3 harg3 arg4 harg4 arg5 harg5 arg6 harg6 arg7 harg7 arg8 harg8 hc0 x0 x1 x2 x3 x4 (ix2 1 d)
    = k0_pay12 x0 x3 (k0_pay6 i x1) (fun _ => 0) (ix2 0 d) := by
  unfold out0_A_6 kernelRun0_A
  dsimp only
  unfold kernelRun0_A.sl.H6_4
  refine (other_row _ _ 0 1 (by decide) _ _ _ d).trans ?_
  refine (stored_row _ _ 1 _ _ _ d).trans ?_
  unfold kernelRun0_A.sl.r_10
  rw [pay12_apply]
  refine Eq.trans (congrArg₂ (· + ·) ?_ ?_) (zero_add _)
  · unfold kernelRun0_A.sl.v70 kernelRun0_A.sl.H6_3 kernelRun0_A.sl.H6_2 kernelRun0_A.sl.H6_1
    refine (load_row _ _ 1 _ d).trans ?_
    refine (other_row _ _ 2 1 (by decide) _ _ _ d).trans ?_
    refine (other_row _ _ 3 1 (by decide) _ _ _ d).trans ?_
    exact zero_row d _ _ 1 _
  · simp only [kernelRun0_A.sl.r, kernelRun0_A.sl.r_3, kernelRun0_A.sl.r_8, kernelRun0_A.sl.r_1, load_whole]

theorem first_6_0 (hc0 : cond0_0 i) : out0_A_6 c i arg2 harg2 arg3 harg3 arg4 harg4 arg5 harg5 arg6 harg6 arg7 harg7 arg8 harg8 hc0 x0 x1 x2 x3 x4 (ix2 0 d)
    = k0_pay7 (Scalar.cmpi .eq (BitVec.ofNat 32 (i 1).val) 0#32) x0 x1 x3 (ix2 0 d) := by
  unfold out0_A_6 kernelRun0_A
  dsimp only
  refine (stored_row _ _ 0 _ _ _ d).trans ?_
  rw [pay1_apply]
  refine Eq.trans (congrArg₂ (· + ·) ?_ ?_) (zero_add _)
  · unfold kernelRun0_A.sl.v74 kernelRun0_A.sl.H6_4 kernelRun0_A.sl.H6_3 kernelRun0_A.sl.H6_2 kernelRun0_A.sl.H6_1
    refine (load_row _ _ 0 _ d).trans ?_
    refine (other_row _ _ 1 0 (by decide) _ _ _ d).trans ?_
    refine (other_row _ _ 2 0 (by decide) _ _ _ d).trans ?_
    refine (other_row _ _ 3 0 (by decide) _ _ _ d).trans ?_
    exact zero_row d _ _ 0 _
  · simp only [kernelRun0_A.sl.r_9, kernelRun0_A.sl.v0, kernelRun0_A.sl.r, kernelRun0_A.sl.r_1, kernelRun0_A.sl.r_3, load_whole]

variable {X G : ℕ → ℕ → EReal}
  (hx : ∀ r d : Fin 512, x0 (ix2 r d) = X (512 * (i 1).val + r) d)
  (hh : (i 1).val ≠ 0 → ∀ (r : Fin 8) (d : Fin 512), x1 (ix2 r d) = X (512 * (i 1).val - 8 + r) d)
  (hg : ∀ r d : Fin 512, x3 (ix2 r d) = G (512 * (i 1).val + r) d)

include hx hh hg in
/-- A run's first point sets the weights' gradients. -/
theorem first_6 (hc0 : cond0_0 i) (p : Fin 4) :
    out0_A_6 c i arg2 harg2 arg3 harg3 arg4 harg4 arg5 harg5 arg6 harg6 arg7 harg7 arg8 harg8 hc0 x0 x1 x2 x3 x4 (ix2 p d)
      = ∑ r : Fin 512, tap X G (3 - p.val) d (512 * (i 1).val + r) := by
  fin_cases p
  · exact (first_6_0 c i arg2 harg2 arg3 harg3 arg4 harg4 arg5 harg5 arg6 harg6 arg7 harg7 arg8 harg8 x0 x1 x2 x3 x4 d hc0).trans (tap3 hx hh hg d)
  · exact (first_6_1 c i arg2 harg2 arg3 harg3 arg4 harg4 arg5 harg5 arg6 harg6 arg7 harg7 arg8 harg8 x0 x1 x2 x3 x4 d hc0).trans (tap2 hx hh hg d)
  · exact (first_6_2 c i arg2 harg2 arg3 harg3 arg4 harg4 arg5 harg5 arg6 harg6 arg7 harg7 arg8 harg8 x0 x1 x2 x3 x4 d hc0).trans (tap1 hx hh hg d)
  · exact (first_6_3 c i arg2 harg2 arg3 harg3 arg4 harg4 arg5 harg5 arg6 harg6 arg7 harg7 arg8 harg8 x0 x1 x2 x3 x4 d hc0).trans (tap0 hx hg d)

include hx hh hg in
/-- The other points add to them. -/
theorem next_6 (hc0 : ¬cond0_0 i) (p : Fin 4) :
    out0_B_6 c i arg2 harg2 arg3 harg3 arg4 harg4 arg5 harg5 arg6 harg6 arg7 harg7 arg8 harg8 hc0 x0 x1 x2 x3 x4 y6 (ix2 p d)
      = y6 (ix2 p d) + ∑ r : Fin 512, tap X G (3 - p.val) d (512 * (i 1).val + r) := by
  fin_cases p
  · exact (next_6_0 c i arg2 harg2 arg3 harg3 arg4 harg4 arg5 harg5 arg6 harg6 arg7 harg7 arg8 harg8 x0 x1 x2 x3 x4 y6 d hc0).trans
      (congrArg (y6 (ix2 0 d) + ·) (tap3 hx hh hg d))
  · exact (next_6_1 c i arg2 harg2 arg3 harg3 arg4 harg4 arg5 harg5 arg6 harg6 arg7 harg7 arg8 harg8 x0 x1 x2 x3 x4 y6 d hc0).trans
      (congrArg (y6 (ix2 1 d) + ·) (tap2 hx hh hg d))
  · exact (next_6_2 c i arg2 harg2 arg3 harg3 arg4 harg4 arg5 harg5 arg6 harg6 arg7 harg7 arg8 harg8 x0 x1 x2 x3 x4 y6 d hc0).trans
      (congrArg (y6 (ix2 2 d) + ·) (tap1 hx hh hg d))
  · exact (next_6_3 c i arg2 harg2 arg3 harg3 arg4 harg4 arg5 harg5 arg6 harg6 arg7 harg7 arg8 harg8 x0 x1 x2 x3 x4 y6 d hc0).trans
      (congrArg (y6 (ix2 3 d) + ·) (tap0 hx hg d))
end

end Cert.ConvKernelIdeal.Conv
end
end
-- ==== Proof.Conv.lean ====
module

public import proofs.«01_k».proof.Defs
public import proofs.«01_k».proof.Proof.ConvPoint
public import proofs.«01_k».proof.Proof.Gen.ConvReferenceIdeal.Run
public import proofs.«01_k».proof.Proof.Gen.ConvReferenceIdeal.Read
public import Idealize.ShloMosaic.Lib.Pipeline.Value
public import Idealize.ShloMosaic.Lib.KernelVsHost

/-! The gradient of the causal short convolution: the kernel's two results and the reference's. -/

@[expose] public section

noncomputable section

namespace Cert.ConvKernelIdeal.Conv

open Idealize.ShloMosaic Idealize.ShloMosaic.TcCoe Cert.ConvKernelIdeal.Gen Cert.ConvKernelIdeal
open Idealize.SL Idealize.SL.Sem
open Cert.Mm Cert.Conv Finset

/-! ## At a grid point -/

theorem coord1 : ∀ t : Fin grid0.N, (grid0.coords t 1).val = t.val % 16 := by decide +kernel
theorem index0 : ∀ t : Fin grid0.N, win0_0.index t (0 : Fin 2) = t.val % 16 ∧ win0_0.index t (1 : Fin 2) = 16 + t.val / 16 := by decide +kernel
theorem index1 : ∀ t : Fin grid0.N, win0_1.index t (0 : Fin 2) = 64 * (t.val % 16) - 1 ∧ win0_1.index t (1 : Fin 2) = 16 + t.val / 16 := by decide +kernel
theorem index2 : ∀ t : Fin grid0.N, win0_2.index t (0 : Fin 2) = 0 ∧ win0_2.index t (1 : Fin 2) = t.val / 16 := by decide +kernel
theorem index3 : ∀ t : Fin grid0.N, win0_3.index t (0 : Fin 2) = t.val % 16 ∧ win0_3.index t (1 : Fin 2) = t.val / 16 := by decide +kernel
theorem index4 : ∀ t : Fin grid0.N, win0_4.index t (0 : Fin 2) = min (64 * (t.val % 16) + 64) 1023 ∧ win0_4.index t (1 : Fin 2) = t.val / 16 := by decide +kernel
theorem index5 : ∀ t : Fin grid0.N, win0_5.index t (0 : Fin 2) = t.val % 16 ∧ win0_5.index t (1 : Fin 2) = t.val / 16 := by decide +kernel
theorem index6 : ∀ t : Fin grid0.N, win0_6.index t (0 : Fin 2) = 0 ∧ win0_6.index t (1 : Fin 2) = t.val / 16 := by decide +kernel

variable (m : (ℓ : Loc nD τ sig) → Buf (Elt Ideal) ℓ) (c : Dev nD)

/-- The projections, of which the convolution reads 6144 columns from column 8192 on. -/
abbrev P : Vec Ideal S8192x20480 .f32 := m ((c : Thread nD τ).loc main_arg0)
/-- The convolution's weights. -/
abbrev W : Vec Ideal S4x6144 .f32 := m ((c : Thread nD τ).loc main_arg1)
/-- The gradient of the convolution. -/
abbrev G : Vec Ideal S8192x6144 .f32 := m ((c : Thread nD τ).loc main_arg2)

/-- What the convolution reads at a step and a channel. -/
def input (p : Vec Ideal S8192x20480 .f32) (t d : ℕ) : EReal := at2 p t (8192 + d)

/-- The gradients. -/
def gradX : Vec Ideal S8192x6144 .bf16 := fun i => dx (at2 (W m c)) (at2 (G m c)) (i 0).val (i 1).val
/-- The weights' gradients. -/
def gradW : Vec Ideal S4x6144 .f32 := fun i => ∑ a ∈ range 8192, tap (input (P m c)) (at2 (G m c)) (3 - (i 0).val) (i 1).val a

section
variable (t : Fin cfg0.N)

/-- The projections as the channels of a point's block number them. -/
def blockX (a d : ℕ) : EReal := input (P m c) a (512 * (t.val / 16) + d)
/-- The gradient of the convolution as they do. -/
def blockG (a d : ℕ) : EReal := at2 (G m c) a (512 * (t.val / 16) + d)
/-- The weights as they do. -/
def blockW (a d : ℕ) : EReal := at2 (W m c) a (512 * (t.val / 16) + d)

theorem blk0 (r k : Fin 512) : iblk m c 0 t (ix2 r k) = blockX m c t (512 * (grid0.coords t 1).val + r) k := by
  rw [coord1]
  unfold iblk
  rw [View.read_apply]
  refine Eq.trans (at2_eq (V m c main_arg0) _ (r := 512 * (t.val % 16) + r) (c := 8192 + (512 * (t.val / 16) + k)) ?_ ?_) ?_
  · show win0_0.index t 0 * 512 + 1 * r.val = _
    rw [(index0 t).1]; omega
  · show win0_0.index t 1 * 512 + 1 * k.val = _
    rw [(index0 t).2]; omega
  · rw [V_main_arg0]; rfl

theorem blk1 (h : (grid0.coords t 1).val ≠ 0) (r : Fin 8) (k : Fin 512) :
    iblk m c 1 t (ix2 r k) = blockX m c t (512 * (grid0.coords t 1).val - 8 + r) k := by
  rw [coord1] at h ⊢
  unfold iblk
  rw [View.read_apply]
  refine Eq.trans (at2_eq (V m c main_arg0) _ (r := 512 * (t.val % 16) - 8 + r) (c := 8192 + (512 * (t.val / 16) + k)) ?_ ?_) ?_
  · show win0_1.index t 0 * 8 + 1 * r.val = _
    rw [(index1 t).1]; omega
  · show win0_1.index t 1 * 512 + 1 * k.val = _
    rw [(index1 t).2]; omega
  · rw [V_main_arg0]; rfl

theorem blk2 (r : Fin 4) (k : Fin 512) : iblk m c 2 t (ix2 r k) = blockW m c t r k := by
  unfold iblk
  rw [View.read_apply]
  refine Eq.trans (at2_eq (V m c main_arg1) _ (r := r) (c := 512 * (t.val / 16) + k) ?_ ?_) ?_
  · show win0_2.index t 0 * 4 + 1 * r.val = _
    rw [(index2 t).1]; omega
  · show win0_2.index t 1 * 512 + 1 * k.val = _
    rw [(index2 t).2]; omega
  · rw [V_main_arg1]; rfl

theorem blk3 (r k : Fin 512) : iblk m c 3 t (ix2 r k) = blockG m c t (512 * (grid0.coords t 1).val + r) k := by
  rw [coord1]
  unfold iblk
  rw [View.read_apply]
  refine Eq.trans (at2_eq (V m c main_arg2) _ (r := 512 * (t.val % 16) + r) (c := 512 * (t.val / 16) + k) ?_ ?_) ?_
  · show win0_3.index t 0 * 512 + 1 * r.val = _
    rw [(index3 t).1]; omega
  · show win0_3.index t 1 * 512 + 1 * k.val = _
    rw [(index3 t).2]; omega
  · rw [V_main_arg2]; rfl

theorem blk4 (h : (grid0.coords t 1).val ≠ 15) (r : Fin 8) (k : Fin 512) :
    iblk m c 4 t (ix2 r k) = blockG m c t (512 * (grid0.coords t 1).val + 512 + r) k := by
  rw [coord1] at h ⊢
  unfold iblk
  rw [View.read_apply]
  refine Eq.trans (at2_eq (V m c main_arg2) _ (r := 512 * (t.val % 16) + 512 + r) (c := 512 * (t.val / 16) + k) ?_ ?_) ?_
  · show win0_4.index t 0 * 8 + 1 * r.val = _
    rw [(index4 t).1]; omega
  · show win0_4.index t 1 * 512 + 1 * k.val = _
    rw [(index4 t).2]; omega
  · rw [V_main_arg2]; rfl

theorem blockG_after (a d : ℕ) (h : 8192 ≤ a) : blockG m c t a d = 0 := dif_neg fun hl => absurd hl.1 (by omega)

variable (r d : Fin 512)

/-- The gradients as a point leaves them. -/
theorem x_point : (outsAt0 m c t.val t.isLt).1 (ix2 r d) = dx (at2 (W m c)) (at2 (G m c)) (512 * (t.val % 16) + r) (512 * (t.val / 16) + d) := by
  have h : (outsAt0 m c t.val t.isLt).1 = dxB (grid0.coords t) (iblk m c 2 t) (iblk m c 3 t) (iblk m c 4 t) := by
    by_cases h0 : t.val % 16 = 0
    · rw [outsAt0_A m c t h0]
      dsimp only
      rw [first_5]
    · rw [outsAt0_B m c t h0]
      dsimp only
      rw [next_5]
  rw [h, ← coord1]
  exact dxB_apply (G := blockG m c t) (W := blockW m c t) (blk3 m c t) (blk4 m c t) (blockG_after m c t) (blk2 m c t) r d
end

/-- What a point brings to the gradient of a weight. -/
def brought (p : Fin 4) (d : Fin 512) (n : ℕ) : EReal :=
  ∑ r : Fin 512, tap (input (P m c)) (at2 (G m c)) (3 - p.val) (512 * (n / 16) + d) (512 * (n % 16) + r)

variable (p : Fin 4) (d : Fin 512)

theorem start6 (t : Fin cfg0.N) (h0 : t.val % 16 = 0) : (outsAt0 m c t.val t.isLt).2 (ix2 p d) = brought m c p d t.val := by
  rw [outsAt0_A m c t h0]
  dsimp only
  rw [first_6 (X := blockX m c t) (G := blockG m c t) (hx := blk0 m c t) (hh := blk1 m c t) (hg := blk3 m c t), coord1]
  rfl

theorem added6 (t : Fin cfg0.N) (h0 : ¬t.val % 16 = 0) :
    (outsAt0 m c t.val t.isLt).2 (ix2 p d) = (outsAt0 m c (t.val - 1) (by omega)).2 (ix2 p d) + brought m c p d t.val := by
  rw [outsAt0_B m c t h0]
  dsimp only
  rw [next_6 (X := blockX m c t) (G := blockG m c t) (hx := blk0 m c t) (hh := blk1 m c t) (hg := blk3 m c t), coord1]
  rfl

theorem written6 (t : Fin cfg0.N) (ht : t.val % 16 = 15) : (outsAt0 m c t.val t.isLt).2 (ix2 p d)
    = ∑ a ∈ range 8192, tap (input (P m c)) (at2 (G m c)) (3 - p.val) (512 * (t.val / 16) + d) a := by
  have h := accumulated (K := 16) (fun n h => (outsAt0 m c n h).2 (ix2 p d)) (brought m c p d) (fun n h h0 => start6 m c p d ⟨n, h⟩ h0)
    (fun n h h0 => added6 m c p d ⟨n, h⟩ h0) t.val t.isLt
  rw [ht] at h
  refine (h.trans (sum_congr rfl fun s hs => ?_)).trans
    (sum_blocks 512 (tap (input (P m c)) (at2 (G m c)) (3 - p.val) (512 * (t.val / 16) + d)) (15 + 1))
  have hs' := mem_range.mp hs
  unfold brought
  rw [show (16 * (t.val / 16) + s) / 16 = t.val / 16 by omega, show (16 * (t.val / 16) + s) % 16 = s by omega]

/-! ## The kernel's results -/

theorem flushed5 (t : Fin cfg0.N) (_ : (cfg0.win 5).flush t = true) :
    (dats m 0 c).flushed 5 t = ((cfg0.win 5).blk t).view.read (Elt Ideal) (gradX m c) := by
  show (cfg0.win 5).cut (grid0.coords t) ((dats m 0 c).after 5 t) = _
  rw [after0_5]
  funext y
  rw [View.read_apply]
  have h := x_point m c t (⟨(y 0).val, (y 0).isLt⟩ : Fin 512) (⟨(y 1).val, (y 1).isLt⟩ : Fin 512)
  have e0 : (((cfg0.win 5).blk t).view.emb y 0).val = 512 * (t.val % 16) + (y 0).val := by
    show win0_5.index t 0 * 512 + 1 * (y 0).val = _
    rw [(index5 t).1]; omega
  have e1 : (((cfg0.win 5).blk t).view.emb y 1).val = 512 * (t.val / 16) + (y 1).val := by
    show win0_5.index t 1 * 512 + 1 * (y 1).val = _
    rw [(index5 t).2]; omega
  have hx : (cfg0.win 5).xinj (grid0.coords t) y = ix2 (⟨(y 0).val, (y 0).isLt⟩ : Fin 512) (⟨(y 1).val, (y 1).isLt⟩ : Fin 512) := by
    funext a
    match a with
    | ⟨0, _⟩ => rfl
    | ⟨1, _⟩ => rfl
  have hg : gradX m c (((cfg0.win 5).blk t).view.emb y)
      = dx (at2 (W m c)) (at2 (G m c)) (512 * (t.val % 16) + (y 0).val) (512 * (t.val / 16) + (y 1).val) := by
    unfold gradX
    rw [e0, e1]
  dsimp only at h
  refine (congrArg (outsAt0 m c t.val t.isLt).1 hx).trans ?_
  rw [h, ← hg]
  exact (cast_eq _ _).symm

theorem covered5 (i : S8192x6144.Idx) : ∃ t : Fin cfg0.N, (cfg0.win 5).flush t = true ∧ i ∈ ((cfg0.win 5).blk t).view.set := by
  have hi0 : (i 0).val < 8192 := (i 0).isLt
  have hi1 : (i 1).val < 6144 := (i 1).isLt
  have hN : cfg0.N = 192 := N_0
  refine ⟨⟨16 * ((i 1).val / 512) + (i 0).val / 512, by omega⟩, flush0_5 _, ?_⟩
  generalize ht : (⟨16 * ((i 1).val / 512) + (i 0).val / 512, _⟩ : Fin cfg0.N) = t
  have htv : t.val = 16 * ((i 1).val / 512) + (i 0).val / 512 := by rw [← ht]
  show i ∈ ((View.whole main_v0_0).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [(index5 t).1]; omega
  | ⟨1, _⟩ =>
    show win0_5.index t (1 : Fin 2) * 512 ≤ (i 1).val ∧ (i 1).val < win0_5.index t (1 : Fin 2) * 512 + 512
    rw [(index5 t).2]; omega

theorem flushed6 (t : Fin cfg0.N) (hf : (cfg0.win 6).flush t = true) :
    (dats m 0 c).flushed 6 t = ((cfg0.win 6).blk t).view.read (Elt Ideal) (gradW m c) := by
  show (cfg0.win 6).cut (grid0.coords t) ((dats m 0 c).after 6 t) = _
  rw [after0_6]
  funext y
  rw [View.read_apply]
  have h := written6 m c (⟨(y 0).val, (y 0).isLt⟩ : Fin 4) (⟨(y 1).val, (y 1).isLt⟩ : Fin 512) t ((flush0_6 t).mp hf)
  have e0 : (((cfg0.win 6).blk t).view.emb y 0).val = (y 0).val := by
    show win0_6.index t 0 * 4 + 1 * (y 0).val = _
    rw [(index6 t).1]; omega
  have e1 : (((cfg0.win 6).blk t).view.emb y 1).val = 512 * (t.val / 16) + (y 1).val := by
    show win0_6.index t 1 * 512 + 1 * (y 1).val = _
    rw [(index6 t).2]; omega
  have hx : (cfg0.win 6).xinj (grid0.coords t) y = ix2 (⟨(y 0).val, (y 0).isLt⟩ : Fin 4) (⟨(y 1).val, (y 1).isLt⟩ : Fin 512) := by
    funext a
    match a with
    | ⟨0, _⟩ => rfl
    | ⟨1, _⟩ => rfl
  refine (congrArg (outsAt0 m c t.val t.isLt).2 hx).trans (h.trans ?_)
  refine Eq.trans ?_ (cast_eq _ _).symm
  unfold gradW
  rw [e0, e1]

theorem covered6 (i : S4x6144.Idx) : ∃ t : Fin cfg0.N, (cfg0.win 6).flush t = true ∧ i ∈ ((cfg0.win 6).blk t).view.set := by
  have hi0 : (i 0).val < 4 := (i 0).isLt
  have hi1 : (i 1).val < 6144 := (i 1).isLt
  have hN : cfg0.N = 192 := N_0
  refine ⟨⟨16 * ((i 1).val / 512) + 15, by omega⟩, (flush0_6 _).mpr (by show (16 * ((i 1).val / 512) + 15) % 16 = 15; omega), ?_⟩
  generalize ht : (⟨16 * ((i 1).val / 512) + 15, _⟩ : Fin cfg0.N) = t
  have htv : t.val = 16 * ((i 1).val / 512) + 15 := by rw [← ht]
  show i ∈ ((View.whole main_v0_1).slice (win0_6.rect t)).set
  rw [View.set_slice_whole, Rect.mem_set_unit]
  intro a
  match a with
  | ⟨0, _⟩ =>
    show win0_6.index t (0 : Fin 2) * 4 ≤ (i 0).val ∧ (i 0).val < win0_6.index t (0 : Fin 2) * 4 + 4
    rw [(index6 t).1]; omega
  | ⟨1, _⟩ =>
    show win0_6.index t (1 : Fin 2) * 512 ≤ (i 1).val ∧ (i 1).val < win0_6.index t (1 : Fin 2) * 512 + 512
    rw [(index6 t).2]; omega

/-- The kernel's run leaves the gradients in its results. -/
theorem run (ρ : Dev nD → PrngReg) : θ_run defs (onTc (τ := τ) (main (F := Ideal))) ⟨m, fun _ => 0, ρ⟩ fun r => ∀ c : Dev nD,
    r.2.mem ((c : Thread nD τ).loc main_v0_0) = gradX m c ∧ r.2.mem ((c : Thread nD τ).loc main_v0_1) = gradW m c :=
  (θ_run defs _ _).mono (fun r h c =>
    ⟨((h c).1 5).trans ((dats m 0 c).arrAt_eq_of_cover 5 _ (fun t hf => flushed5 m c t hf) covered5),
      ((h c).1 6).trans ((dats m 0 c).arrAt_eq_of_cover 6 _ (fun t hf => flushed6 m c t hf) covered6)⟩) (run_main m ρ)

/-! ## The reference -/

section
open Cert.ConvReferenceIdeal.Read

theorem zero_first (f : Cert.ConvReferenceIdeal.S_.Idx → EReal) (h : ∀ i, f i = Ideal.ofBits .f32 0x00000000#32) (i) : f i = 0 := by
  rw [h]
  simp

/-- Rows put before and after a matrix. -/
theorem pad_rows {R R' C lo hi : ℕ} (x : (⟨2, ![R, C]⟩ : Shape).Idx → EReal) (z : Cert.ConvReferenceIdeal.S_.Idx → EReal)
    (h : (⟨2, ![R, C]⟩ : Shape).Pads ![lo, 0] ![hi, 0] ![0, 0] ⟨2, ![R', C]⟩) (hu : 0 < Cert.ConvReferenceIdeal.S_.numel)
    (hz : ∀ i, z i = Ideal.ofBits .f32 0x00000000#32) (j : (⟨2, ![R', C]⟩ : Shape).Idx) :
    pad ⟨2, ![R', C]⟩ ![lo, 0] ![hi, 0] ![0, 0] x z h hu j = if lo ≤ (j 0).val then at2 x ((j 0).val - lo) (j 1).val else 0 := by
  have h1 : (j 1).val < C := (j 1).isLt
  by_cases hl : lo ≤ (j 0).val
  · rw [if_pos hl]
    by_cases hr : (j 0).val - lo < R
    · rw [at2_of_lt x hr h1]
      refine pad_apply_of_inside _ _ _ x z h hu j _ fun a => ?_
      match a with
      | ⟨0, _⟩ => show (j 0).val = lo + ((j 0).val - lo) * (0 + 1); omega
      | ⟨1, _⟩ => show (j 1).val = 0 + (j 1).val * (0 + 1); omega
    · rw [at2, dif_neg fun hl => hr hl.1]
      refine (pad_apply_of_not_inside _ _ _ x z h hu j (0 : Fin 2) fun hin => hr ?_).trans (zero_first z hz _)
      have := hin.2.2
      rwa [show ((![0, 0] : Fin 2 → ℕ) 0 + 1) = 1 from rfl, Nat.div_one] at this
  · rw [if_neg hl]
    exact (pad_apply_of_not_inside _ _ _ x z h hu j (0 : Fin 2) fun hin => hl hin.1).trans (zero_first z hz _)

variable (p : Vec Ideal S8192x20480 .f32) (w : Vec Ideal S4x6144 .f32) (g : Vec Ideal S8192x6144 .f32)

theorem ref_g (i : S8192x6144.Idx) : val_main_v33 (F := Ideal) g i = at2 g (i 0).val (i 1).val := by
  rw [val_main_v33_apply]
  have h1 : (i 1).val < 6144 := (i 1).isLt
  exact at2_eq g _ (show ((i 0).val * 6144 + (i 1).val) / 6144 = _ by omega) (show ((i 0).val * 6144 + (i 1).val) % 6144 = _ by omega)

/-- The three zero rows and the projections after them. -/
theorem ref_x (i : Cert.ConvReferenceIdeal.S8195x6144.Idx) (t j : ℕ) (h : (i 0).val + j = t + 3) (hj : j ≤ 3) :
    val_main_v2 (F := Ideal) p i = late (input p) j t (i 1).val := by
  have h0 : (i 0).val < 8195 := (i 0).isLt
  have h1 : (i 1).val < 6144 := (i 1).isLt
  unfold val_main_v2
  by_cases hl : (i 0).val < 3
  · rw [late, if_neg (by omega)]
    refine (concatenate_pair_apply_left (s₁ := Cert.ConvReferenceIdeal.S3x6144) _ _ _ _ i rfl
      (ix2 (⟨(i 0).val, hl⟩ : Fin 3) (⟨(i 1).val, h1⟩ : Fin 6144)) fun b => ?_).trans ?_
    · match b with
      | ⟨0, _⟩ => rfl
      | ⟨1, _⟩ => rfl
    · rw [val_main_v1_apply]
      exact zero_first _ val_main_cst_apply _
  · rw [late, if_pos (by omega)]
    refine (concatenate_pair_apply_right (s₁ := Cert.ConvReferenceIdeal.S3x6144) (s₂ := S8192x6144) _ _ _ _ i rfl rfl
      (ix2 (⟨(i 0).val - 3, by omega⟩ : Fin 8192) (⟨(i 1).val, h1⟩ : Fin 6144))
      (fun b hb => ?_) ?_).trans ?_
    · match b with
      | ⟨0, _⟩ => exact absurd rfl hb
      | ⟨1, _⟩ => rfl
    · show (i 0).val - 3 + 3 = (i 0).val
      omega
    · rw [val_main_v0_apply]
      exact at2_eq p _ (show (i 0).val - 3 = _ by omega) rfl

theorem ref_w3 (i : S8192x6144.Idx) : val_main_v35 (F := Ideal) w i = at2 w 3 (i 1).val := by
  rw [val_main_v35_apply, val_main_v29_apply, val_main_v27_apply, val_main_v26_apply]
  exact at2_eq w _ rfl (Nat.mod_eq_of_lt (i 1).isLt)
theorem ref_w2 (i : S8192x6144.Idx) : val_main_v44 (F := Ideal) w i = at2 w 2 (i 1).val := by
  rw [val_main_v44_apply, val_main_v22_apply, val_main_v20_apply, val_main_v19_apply]
  exact at2_eq w _ rfl (Nat.mod_eq_of_lt (i 1).isLt)
theorem ref_w1 (i : S8192x6144.Idx) : val_main_v55 (F := Ideal) w i = at2 w 1 (i 1).val := by
  rw [val_main_v55_apply, val_main_v15_apply, val_main_v13_apply, val_main_v12_apply]
  exact at2_eq w _ rfl (Nat.mod_eq_of_lt (i 1).isLt)
theorem ref_w0 (i : S8192x6144.Idx) : val_main_v66 (F := Ideal) w i = at2 w 0 (i 1).val := by
  rw [val_main_v66_apply, val_main_v7_apply, val_main_v5_apply, val_main_v4_apply]
  exact at2_eq w _ rfl (Nat.mod_eq_of_lt (i 1).isLt)

/-- A product of a weight and the gradients is zero where the gradients end. -/
theorem at2_product (x : Vec Ideal S8192x6144 .f32) (k : ℕ) (hx : ∀ i, x i = at2 w k (i 1).val * at2 g (i 0).val (i 1).val) (t d : ℕ) (hd : d < 6144) :
    at2 x t d = at2 w k d * at2 g t d := by
  by_cases ht : t < 8192
  · rw [at2_of_lt x ht hd, hx]
    rfl
  · rw [at2, dif_neg fun h => ht h.1, show at2 g t d = 0 from dif_neg fun h => ht h.1, mul_zero]

theorem reference_x (i : S8192x6144.Idx) : val_main_v79 (F := Ideal) w g i = dx (at2 w) (at2 g) (i 0).val (i 1).val := by
  have h1 : (i 1).val < 6144 := (i 1).isLt
  rw [val_main_v79_apply, val_main_v78_apply, val_main_v73_apply, val_main_v62_apply, val_main_v51_apply]
  unfold val_main_v41 val_main_v50 val_main_v61 val_main_v72
  rw [pad_rows _ _ _ _ val_main_cst_4_apply, pad_rows _ _ _ _ val_main_cst_8_apply, pad_rows _ _ _ _ val_main_cst_12_apply, pad_rows _ _ _ _ val_main_cst_16_apply]
  have e0 : (idx_main_v78 i 0).val = (i 0).val + 3 := Nat.add_comm _ _
  have e1 : (idx_main_v78 i 1).val = (i 1).val := rfl
  rw [e0, e1, if_pos (by omega), if_pos (by omega), if_pos (by omega), if_pos (by omega),
    at2_product w g (val_main_v36 w g) 3 (fun i => (congrArg₂ (· * ·) (ref_w3 w i) (ref_g g i) :)) _ _ h1,
    at2_product w g (val_main_v45 w g) 2 (fun i => (congrArg₂ (· * ·) (ref_w2 w i) (ref_g g i) :)) _ _ h1,
    at2_product w g (val_main_v56 w g) 1 (fun i => (congrArg₂ (· * ·) (ref_w1 w i) (ref_g g i) :)) _ _ h1,
    at2_product w g (val_main_v67 w g) 0 (fun i => (congrArg₂ (· * ·) (ref_w0 w i) (ref_g g i) :)) _ _ h1]
  rfl

/-- The sum over the steps for the weight of `j` steps before. -/
abbrev tapSum (j d : ℕ) : EReal := ∑ a ∈ range 8192, tap (input p) (at2 g) j d a

theorem zero_bits : FloatOps.ofBits (F := Ideal) .f32 0x00000000#32 = 0 := zero_first (fun _ => _) (fun _ => rfl) (fun a => a.elim0)

/-- The reference's products of the gradients and the earlier steps, for each weight. -/
theorem ref_tap0 (i : S8192x6144.Idx) : val_main_v37 (F := Ideal) p g i = tap (input p) (at2 g) 0 (i 1).val (i 0).val :=
  congrArg₂ (· * ·) (ref_g g i) ((val_main_v28_apply p i).trans (ref_x p _ (i 0).val 0 (by show 3 + (i 0).val + 0 = _; omega) (by omega)))
theorem ref_tap1 (i : S8192x6144.Idx) : val_main_v46 (F := Ideal) p g i = tap (input p) (at2 g) 1 (i 1).val (i 0).val :=
  congrArg₂ (· * ·) (ref_g g i) ((val_main_v21_apply p i).trans (ref_x p _ (i 0).val 1 (by show 2 + (i 0).val + 1 = _; omega) (by omega)))
theorem ref_tap2 (i : S8192x6144.Idx) : val_main_v57 (F := Ideal) p g i = tap (input p) (at2 g) 2 (i 1).val (i 0).val :=
  congrArg₂ (· * ·) (ref_g g i) ((val_main_v14_apply p i).trans (ref_x p _ (i 0).val 2 (by show 1 + (i 0).val + 2 = _; omega) (by omega)))
theorem ref_tap3 (i : S8192x6144.Idx) : val_main_v68 (F := Ideal) p g i = tap (input p) (at2 g) 3 (i 1).val (i 0).val :=
  congrArg₂ (· * ·) (ref_g g i) ((val_main_v6_apply p i).trans (ref_x p _ (i 0).val 3 (by show (i 0).val + 3 = _; omega) (by omega)))

/-- A sum over the steps, numbered by the channel's place in one row. -/
theorem row_sum (j d : ℕ) : ∑ k : Fin 8192, tap (input p) (at2 g) j (0 * 6144 + d) k.val = tapSum p g j d := by
  rw [Nat.zero_mul, Nat.zero_add, tapSum, sum_range]

theorem ref_row0 (i : Cert.ConvReferenceIdeal.S1x6144.Idx) : val_main_v42 (F := Ideal) p g i = tapSum p g 0 (i 1).val := by
  rw [val_main_v42_apply, val_main_v40_apply, val_main_cst_3_apply, zero_bits, zero_add, Fin.sum_univ_one, val_main_v39_apply, val_main_v38_apply,
    val_main_cst_2_apply, zero_bits, zero_add]
  exact (sum_congr rfl fun k _ => ref_tap0 p g _).trans (row_sum p g 0 _)
theorem ref_row1 (i : Cert.ConvReferenceIdeal.S1x6144.Idx) : val_main_v52 (F := Ideal) p g i = tapSum p g 1 (i 1).val := by
  rw [val_main_v52_apply, val_main_v49_apply, val_main_cst_7_apply, zero_bits, zero_add, Fin.sum_univ_one, val_main_v48_apply, val_main_v47_apply,
    val_main_cst_6_apply, zero_bits, zero_add]
  exact (sum_congr rfl fun k _ => ref_tap1 p g _).trans (row_sum p g 1 _)
theorem ref_row2 (i : Cert.ConvReferenceIdeal.S1x6144.Idx) : val_main_v63 (F := Ideal) p g i = tapSum p g 2 (i 1).val := by
  rw [val_main_v63_apply, val_main_v60_apply, val_main_cst_11_apply, zero_bits, zero_add, Fin.sum_univ_one, val_main_v59_apply, val_main_v58_apply,
    val_main_cst_10_apply, zero_bits, zero_add]
  exact (sum_congr rfl fun k _ => ref_tap2 p g _).trans (row_sum p g 2 _)
theorem ref_row3 (i : Cert.ConvReferenceIdeal.S1x6144.Idx) : val_main_v74 (F := Ideal) p g i = tapSum p g 3 (i 1).val := by
  rw [val_main_v74_apply, val_main_v71_apply, val_main_cst_15_apply, zero_bits, zero_add, Fin.sum_univ_one, val_main_v70_apply, val_main_v69_apply,
    val_main_cst_14_apply, zero_bits, zero_add]
  exact (sum_congr rfl fun k _ => ref_tap3 p g _).trans (row_sum p g 3 _)

theorem at2_row (x : Vec Ideal Cert.ConvReferenceIdeal.S1x6144 .f32) (f : ℕ → EReal) (hx : ∀ i, x i = f (i 1).val) (a d : ℕ) (hd : d < 6144) :
    at2 x a d = if a = 0 then f d else 0 := by
  by_cases ha : a = 0
  · subst ha
    rw [if_pos rfl, at2_of_lt x Nat.one_pos hd, hx]
    rfl
  · rw [if_neg ha, at2, dif_neg fun h => ha (by omega)]

theorem reference_w (i : S4x6144.Idx) : val_main_v76 (F := Ideal) p g i = tapSum p g (3 - (i 0).val) (i 1).val := by
  have h0 : (i 0).val < 4 := (i 0).isLt
  have h1 : (i 1).val < 6144 := (i 1).isLt
  rw [val_main_v76_apply, val_main_v65_apply, val_main_v54_apply]
  unfold val_main_v43 val_main_v53 val_main_v64 val_main_v75
  rw [pad_rows _ _ _ _ val_main_cst_5_apply, pad_rows _ _ _ _ val_main_cst_9_apply, pad_rows _ _ _ _ val_main_cst_13_apply, pad_rows _ _ _ _ val_main_cst_17_apply,
    at2_row _ _ (ref_row0 p g) _ _ h1, at2_row _ _ (ref_row1 p g) _ _ h1, at2_row _ _ (ref_row2 p g) _ _ h1, at2_row _ _ (ref_row3 p g) _ _ h1]
  generalize (i 0).val = a at h0 ⊢
  generalize (i 1).val = d
  interval_cases a <;> simp
end

/-- Over the reals, the kernel's gradients are the reference's. -/
theorem values : Cert.algebraic_ConvKernelIdeal_ConvReferenceIdeal := fun m g m' g' _ hm =>
  ⟨fun c => gradX m c, fun c => gradW m c,
    (θ_run defs _ _).mono (fun r h c => ⟨(h.1 c).1, (h.1 c).2, h.2 c⟩) (θ_run_and (run m g) (unchanged m g)),
    (θ_run Cert.ConvReferenceIdeal.defs _ _).mono (fun r h c =>
        have e := hm c
        ⟨(h c).1.trans ((Cert.ConvReferenceIdeal.Read.val_main_v79_eq _ _).trans (by
          rw [e.2.1, e.2.2]
          exact funext fun i => reference_x _ _ i)),
          (h c).2.1.trans ((Cert.ConvReferenceIdeal.Read.val_main_v76_eq _ _).trans (by
            rw [e.1, e.2.2]
            exact funext fun i => reference_w _ _ i)),
          (h c).2.2⟩)
        (Cert.ConvReferenceIdeal.Value.run (F := Ideal) m' g')⟩

end Cert.ConvKernelIdeal.Conv
end
end
-- ==== Proof.Adam.lean ====
module

public import proofs.«01_k».proof.Defs
public import proofs.«01_k».proof.Proof.Gen.AdamAdaKernelIdeal.Value
public import proofs.«01_k».proof.Proof.Gen.AdamAdaReferenceIdeal.Run
public import proofs.«01_k».proof.Proof.Gen.AdamAdaReferenceIdeal.Read
public import proofs.«01_k».proof.Proof.Gen.AdamInKernelIdeal.Value
public import proofs.«01_k».proof.Proof.Gen.AdamInReferenceIdeal.Run
public import proofs.«01_k».proof.Proof.Gen.AdamInReferenceIdeal.Read
public import proofs.«01_k».proof.Proof.Gen.AdamConvKernelIdeal.Value
public import proofs.«01_k».proof.Proof.Gen.AdamConvReferenceIdeal.Run
public import proofs.«01_k».proof.Proof.Gen.AdamConvReferenceIdeal.Read
public import proofs.«01_k».proof.Proof.Gen.AdamProjKernelIdeal.Value
public import proofs.«01_k».proof.Proof.Gen.AdamProjReferenceIdeal.Run
public import proofs.«01_k».proof.Proof.Gen.AdamProjReferenceIdeal.Read
public import proofs.«01_k».proof.Proof.Gen.AdamSmallKernelIdeal.Value
public import proofs.«01_k».proof.Proof.Gen.AdamSmallReferenceIdeal.Run
public import proofs.«01_k».proof.Proof.Gen.AdamSmallReferenceIdeal.Read

/-! One AdamW step. Kernel and reference apply the same operations to every entry, so that each result is the same
function of the parameter, its gradient and the two moments. -/

@[expose] public section

noncomputable section

namespace Cert.Adam

open Idealize.ShloMosaic Idealize.ShloMosaic.TcCoe Idealize.SL Idealize.SL.Sem

/-- Over the reals, the step of the modulation weight and its two new moments are the reference's. -/
theorem values_ada : Cert.algebraic_AdamAdaKernelIdeal_AdamAdaReferenceIdeal := fun m g m' g' _ hm =>
  ⟨_, _, _, Cert.AdamAdaKernelIdeal.Value.run m g, (θ_run Cert.AdamAdaReferenceIdeal.defs _ _).mono (fun r h c =>
      have e := hm c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩)
    (Cert.AdamAdaReferenceIdeal.Value.run (F := Ideal) m' g')⟩

/-- Over the reals, the step of the input projection's weight and its two new moments are the reference's. -/
theorem values_in : Cert.algebraic_AdamInKernelIdeal_AdamInReferenceIdeal := fun m g m' g' _ hm =>
  ⟨_, _, _, Cert.AdamInKernelIdeal.Value.run m g, (θ_run Cert.AdamInReferenceIdeal.defs _ _).mono (fun r h c =>
      have e := hm c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩)
    (Cert.AdamInReferenceIdeal.Value.run (F := Ideal) m' g')⟩

/-- Over the reals, the step of the convolution's weight and its two new moments are the reference's. -/
theorem values_conv : Cert.algebraic_AdamConvKernelIdeal_AdamConvReferenceIdeal := fun m g m' g' _ hm =>
  ⟨_, _, _, Cert.AdamConvKernelIdeal.Value.run m g, (θ_run Cert.AdamConvReferenceIdeal.defs _ _).mono (fun r h c =>
      have e := hm c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩)
    (Cert.AdamConvReferenceIdeal.Value.run (F := Ideal) m' g')⟩

/-- Over the reals, the step of a square projection's weight and its two new moments are the reference's. -/
theorem values_proj : Cert.algebraic_AdamProjKernelIdeal_AdamProjReferenceIdeal := fun m g m' g' _ hm =>
  ⟨_, _, _, Cert.AdamProjKernelIdeal.Value.run m g, (θ_run Cert.AdamProjReferenceIdeal.defs _ _).mono (fun r h c =>
      have e := hm c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩)
    (Cert.AdamProjReferenceIdeal.Value.run (F := Ideal) m' g')⟩

/-- Over the reals, the step of the small parameters, packed in eight rows and its two new moments are the reference's. -/
theorem values_small : Cert.algebraic_AdamSmallKernelIdeal_AdamSmallReferenceIdeal := fun m g m' g' _ hm =>
  ⟨_, _, _, Cert.AdamSmallKernelIdeal.Value.run m g, (θ_run Cert.AdamSmallReferenceIdeal.defs _ _).mono (fun r h c =>
      have e := hm c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩)
    (Cert.AdamSmallReferenceIdeal.Value.run (F := Ideal) m' g')⟩

end Cert.Adam
end
end
-- ==== Proof.Small.lean ====
module

public import proofs.«01_k».proof.Defs
public import proofs.«01_k».proof.Proof.Products
public import proofs.«01_k».proof.Proof.Gen.SmallReferenceIdeal.Run
public import proofs.«01_k».proof.Proof.Gen.SmallKernelIdeal.Frame
public import Idealize.ShloMosaic.Lib.Pipeline.Value
public import proofs.«01_k».proof.Proof.Gen.SmallReferenceIdeal.Read
public import Idealize.ShloMosaic.Lib.VecWindow
public import Idealize.ShloMosaic.Lib.Pointwise

/-! The small projection: the tiled product of the activations with the weight's 128 columns. -/

@[expose] public section

noncomputable section

namespace Cert.SmallKernelIdeal.Mm

open Idealize.ShloMosaic Idealize.ShloMosaic.TcCoe Cert.SmallKernelIdeal.Gen Cert.SmallKernelIdeal
open Idealize.SL Idealize.SL.Sem
open Cert.Mm Finset

section
variable (c : Dev nD) (i : grid0.Coords)
  (arg3 : Memref sig .tc .vmem S1024x1024 .bf16) (harg3 : arg3.IsWhole) (arg4 : Memref sig .tc .vmem S1024x128 .bf16) (harg4 : arg4.IsWhole)
  (arg5 : Memref sig .tc .vmem S1024x128 .f32) (harg5 : arg5.IsWhole) (arg6 : Memref sig .tc .vmem S1024x128 .f32) (harg6 : arg6.IsWhole)
  (x0 : Vec Ideal S1024x1024 .bf16) (x1 : Vec Ideal S1024x128 .bf16) (xs0 : Vec Ideal S1024x128 .f32)

theorem set_A (h0 : cond0_0 i) (h1 : ¬cond0_1 i) :
    sout0_A_0 c i arg3 harg3 arg4 harg4 arg5 harg5 arg6 harg6 h0 h1 x0 x1 = k0_pay2 k0_pay1 x0 x1 := by
  unfold sout0_A_0 kernelRun0_A
  dsimp only
  simp only [kernelRun0_A.sl.v3, kernelRun0_A.sl.HS0_1, read_stored, load_stored, cov_stored, load_whole]

theorem add_B (h0 : ¬cond0_0 i) (h1 : cond0_1 i) :
    sout0_B_0 c i arg3 harg3 arg4 harg4 arg5 harg5 arg6 harg6 h0 h1 x0 x1 xs0 = k0_pay2 xs0 x0 x1 := by
  unfold sout0_B_0 kernelRun0_B
  dsimp only
  simp only [kernelRun0_B.sl.HS0_1, kernelRun0_B.sl.v14, read_stored, load_stored, cov_stored, load_whole]

theorem out_B (h0 : ¬cond0_0 i) (h1 : cond0_1 i) :
    out0_B_2 c i arg3 harg3 arg4 harg4 arg5 harg5 arg6 harg6 h0 h1 x0 x1 xs0 = k0_pay2 xs0 x0 x1 := by
  unfold out0_B_2 kernelRun0_B
  dsimp only
  simp only [kernelRun0_B.sl.HS0_1, kernelRun0_B.sl.v14, read_stored, load_stored, cov_stored, load_whole]

theorem pay2_apply (r : Fin 1024) (q : Fin 128) :
    k0_pay2 xs0 x0 x1 (ix2 r q) = xs0 (ix2 r q) + ∑ k : Fin 1024, x0 (ix2 r k) * x1 (ix2 k q) := by
  simp only [k0_pay2, shapeCast_self]
  pointwise
  done

theorem pay1_apply (y : S1024x128.Idx) : k0_pay1 (F := Ideal) y = 0 := by
  simp only [k0_pay1, shapeCast_self]
  pointwise
  done
end

/-! ## At a grid point -/

theorem index0 : ∀ t : Fin grid0.N, win0_0.index t (0 : Fin 2) = t.val / 2 ∧ win0_0.index t (1 : Fin 2) = t.val % 2 := by
  decide +kernel
theorem index1 : ∀ t : Fin grid0.N, win0_1.index t (0 : Fin 2) = t.val % 2 ∧ win0_1.index t (1 : Fin 2) = 0 := by
  decide +kernel
theorem index2 : ∀ t : Fin grid0.N, win0_2.index t (0 : Fin 2) = t.val / 2 ∧ win0_2.index t (1 : Fin 2) = 0 := by
  decide +kernel

variable (m : (ℓ : Loc nD τ sig) → Buf (Elt Ideal) ℓ) (c : Dev nD)

/-- The activations. -/
abbrev X : Vec Ideal S8192x2048 .bf16 := m ((c : Thread nD τ).loc main_arg0)
/-- The weight. -/
abbrev Y : Vec Ideal S2048x128 .bf16 := m ((c : Thread nD τ).loc main_arg1)

theorem blk0 (t : Fin cfg0.N) (r k : Fin 1024) :
    iblk m c 0 t (ix2 r k) = at2 (X m c) (1024 * (t.val / 2) + r) (1024 * (t.val % 2) + k) := by
  unfold iblk
  rw [View.read_apply]
  refine Eq.trans (at2_eq (V m c main_arg0) _ (r := 1024 * (t.val / 2) + r) (c := 1024 * (t.val % 2) + k) ?_ ?_) ?_
  · show win0_0.index t 0 * 1024 + 1 * r.val = _
    rw [(index0 t).1]; omega
  · show win0_0.index t 1 * 1024 + 1 * k.val = _
    rw [(index0 t).2]; omega
  · rw [V_main_arg0]

theorem blk1 (t : Fin cfg0.N) (k : Fin 1024) (q : Fin 128) :
    iblk m c 1 t (ix2 k q) = at2 (Y m c) (1024 * (t.val % 2) + k) q := by
  unfold iblk
  rw [View.read_apply]
  refine Eq.trans (at2_eq (V m c main_arg1) _ (r := 1024 * (t.val % 2) + k) (c := q.val) ?_ ?_) ?_
  · show win0_1.index t 0 * 1024 + 1 * k.val = _
    rw [(index1 t).1]; omega
  · show win0_1.index t 1 * 128 + 1 * q.val = _
    rw [(index1 t).2]; omega
  · rw [V_main_arg1]

/-- What position `u` brings to the entry at `a`, `b`. -/
def term (a b u : ℕ) : EReal := at2 (X m c) a u * at2 (Y m c) u b

/-- What point `n` adds at `r`, `q` of its block. -/
def brought (r : Fin 1024) (q : Fin 128) (n : ℕ) : EReal :=
  ∑ k : Fin 1024, term m c (1024 * (n / 2) + r) q (1024 * (n % 2) + k)

theorem dot_point (t : Fin cfg0.N) (r : Fin 1024) (q : Fin 128) :
    ∑ k : Fin 1024, (show EReal from iblk m c 0 t (ix2 r k)) * (show EReal from iblk m c 1 t (ix2 k q)) = brought m c r q t :=
  sum_congr rfl fun k _ => by rw [blk0, blk1]; rfl

theorem acc_first (t : Fin cfg0.N) (h0 : t.val % 2 = 0) (r : Fin 1024) (q : Fin 128) :
    (outsAt0 m c t.val t.isLt).2 (ix2 r q) = brought m c r q t := by
  rw [outsAt0_A m c t h0 (by omega)]
  dsimp only
  rw [set_A, pay2_apply, pay1_apply, zero_add, dot_point]

theorem acc_next (t : Fin cfg0.N) (h0 : ¬t.val % 2 = 0) (r : Fin 1024) (q : Fin 128) :
    (outsAt0 m c t.val t.isLt).2 (ix2 r q) = (outsAt0 m c (t.val - 1) (by omega)).2 (ix2 r q) + brought m c r q t := by
  rw [outsAt0_B m c t h0 (by omega)]
  dsimp only
  rw [add_B, pay2_apply, dot_point]

theorem out_last (t : Fin cfg0.N) (h1 : t.val % 2 = 1) : (outsAt0 m c t.val t.isLt).1 = (outsAt0 m c t.val t.isLt).2 := by
  rw [outsAt0_B m c t (by omega) h1]
  dsimp only
  rw [add_B, out_B]

/-- What the last point of a run writes: the sum over all positions. -/
theorem written (t : Fin cfg0.N) (h1 : t.val % 2 = 1) (r : Fin 1024) (q : Fin 128) :
    (outsAt0 m c t.val t.isLt).1 (ix2 r q)
      = ∑ u ∈ range 2048, term m c (1024 * (t.val / 2) + r) q u := by
  rw [out_last m c t h1,
    accumulated (K := 2) (fun n h => (outsAt0 m c n h).2 (ix2 r q)) (brought m c r q)
      (fun n h h0 => acc_first m c ⟨n, h⟩ h0 r q) (fun n h h0 => acc_next m c ⟨n, h⟩ h0 r q) t.val t.isLt,
    h1, show (2048 : ℕ) = 1024 * (1 + 1) from rfl, ← sum_blocks]
  refine sum_congr rfl fun s hs => ?_
  have h2 := mem_range.mp hs
  unfold brought
  rw [show (2 * (t.val / 2) + s) / 2 = t.val / 2 by omega, show (2 * (t.val / 2) + s) % 2 = s by omega]

/-! ## The result -/

/-- The projection: the activations times the weight. -/
def proj : Vec Ideal S8192x128 .f32 := fun i => ∑ u ∈ range 2048, term m c (i 0).val (i 1).val u

theorem flushed (t : Fin cfg0.N) (hf : (cfg0.win 2).flush t = true) :
    (dats m 0 c).flushed 2 t = ((cfg0.win 2).blk t).view.read (Elt Ideal) (proj m c) := by
  show (cfg0.win 2).cut (grid0.coords t) ((dats m 0 c).after 2 t) = _
  rw [after0_2]
  have h1 : t.val % 2 = 1 := (flush0_2 t).mp hf
  funext y
  rw [View.read_apply]
  have h := written m c t h1 (⟨(y 0).val, (y 0).isLt⟩ : Fin 1024) (⟨(y 1).val, (y 1).isLt⟩ : Fin 128)
  have e0 : (((cfg0.win 2).blk t).view.emb y 0).val = 1024 * (t.val / 2) + (y 0).val := by
    show win0_2.index t 0 * 1024 + 1 * (y 0).val = _
    rw [(index2 t).1]; omega
  have e1 : (((cfg0.win 2).blk t).view.emb y 1).val = (y 1).val := by
    show win0_2.index t 1 * 128 + 1 * (y 1).val = _
    rw [(index2 t).2]; omega
  have hx : (cfg0.win 2).xinj (grid0.coords t) y = ix2 (⟨(y 0).val, (y 0).isLt⟩ : Fin 1024) (⟨(y 1).val, (y 1).isLt⟩ : Fin 128) := by
    funext a
    match a with
    | ⟨0, _⟩ => rfl
    | ⟨1, _⟩ => rfl
  have hg : proj m c (((cfg0.win 2).blk t).view.emb y)
      = ∑ u ∈ range 2048, term m c (1024 * (t.val / 2) + (y 0).val) (y 1).val u := by
    unfold proj
    rw [e0, e1]
  dsimp only at h
  refine (congrArg (outsAt0 m c t.val t.isLt).1 hx).trans ?_
  rw [h, ← hg]
  exact (cast_eq _ _).symm

theorem covered (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 16 := N_0
  refine ⟨⟨2 * ((i 0).val / 1024) + 1, by omega⟩, (flush0_2 _).mpr (by dsimp only; omega), ?_⟩
  generalize ht : (⟨2 * ((i 0).val / 1024) + 1, _⟩ : Fin cfg0.N) = t
  have htv : t.val = 2 * ((i 0).val / 1024) + 1 := by rw [← ht]
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [(index2 t).1]; omega
  | ⟨1, _⟩ =>
    show win0_2.index t (1 : Fin 2) * 128 ≤ (i 1).val ∧ (i 1).val < win0_2.index t (1 : Fin 2) * 128 + 128
    rw [(index2 t).2]; omega

/-- The kernel's run leaves the projection in its result and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0) = proj m c :=
  (θ_run defs _ _).mono (fun r h c => ((h c).1 2).trans
    ((dats m 0 c).arrAt_eq_of_cover 2 _ (fun t hf => flushed m c t hf) covered)) (run_main m ρ)

/-! ## The reference -/

theorem reference_eq (x : Vec Ideal S8192x2048 .bf16) (y : Vec Ideal S2048x128 .bf16) (i : S8192x128.Idx) :
    Cert.SmallReferenceIdeal.Read.val_main_v2 (F := Ideal) x y i = ∑ u ∈ range 2048, at2 x (i 0).val u * at2 y u (i 1).val := by
  rw [Cert.SmallReferenceIdeal.Read.val_main_v2_apply, sum_range]
  refine sum_congr rfl fun k _ => ?_
  rw [Cert.SmallReferenceIdeal.Read.val_main_v0_apply, Cert.SmallReferenceIdeal.Read.val_main_v1_apply]
  exact congrArg₂ (· * ·) (at2_eq x _ rfl rfl) (at2_eq y _ rfl rfl)

/-- Over the reals, the kernel's projection is the reference's. -/
theorem values : Cert.algebraic_SmallKernelIdeal_SmallReferenceIdeal := fun m g m' g' _ hm =>
  ⟨fun c => proj m c,
    (θ_run defs _ _).mono (fun r h c => ⟨h.1 c, h.2 c⟩) (θ_run_and (run m g) (unchanged m g)),
    (θ_run Cert.SmallReferenceIdeal.defs _ _).mono (fun r h c =>
        ⟨(h c).1.trans ((Cert.SmallReferenceIdeal.Read.val_main_v2_eq _ _).trans (by
          rw [(hm c).1, (hm c).2]
          exact funext fun i => reference_eq _ _ i)),
          (h c).2⟩)
        (Cert.SmallReferenceIdeal.Value.run (F := Ideal) m' g')⟩

end Cert.SmallKernelIdeal.Mm
end
end
-- ==== Proof.DwSmall.lean ====
module

public import proofs.«01_k».proof.Defs
public import proofs.«01_k».proof.Proof.Products
public import proofs.«01_k».proof.Proof.Gen.DwSmallReferenceIdeal.Run
public import proofs.«01_k».proof.Proof.Gen.DwSmallKernelIdeal.Frame
public import Idealize.ShloMosaic.Lib.Pipeline.Value
public import proofs.«01_k».proof.Proof.Gen.DwSmallReferenceIdeal.Read
public import Idealize.ShloMosaic.Lib.VecWindow
public import Idealize.ShloMosaic.Lib.Pointwise

/-! The small projection's weight gradient: the tiled product of the activations, transposed, with 128 columns of cotangents. -/

@[expose] public section

noncomputable section

namespace Cert.DwSmallKernelIdeal.Mm

open Idealize.ShloMosaic Idealize.ShloMosaic.TcCoe Cert.DwSmallKernelIdeal.Gen Cert.DwSmallKernelIdeal
open Idealize.SL Idealize.SL.Sem
open Cert.Mm Finset

section
variable (c : Dev nD) (i : grid0.Coords)
  (arg3 : Memref sig .tc .vmem S1024x1024 .bf16) (harg3 : arg3.IsWhole) (arg4 : Memref sig .tc .vmem S1024x128 .bf16) (harg4 : arg4.IsWhole)
  (arg5 : Memref sig .tc .vmem S1024x128 .f32) (harg5 : arg5.IsWhole) (arg6 : Memref sig .tc .vmem S1024x128 .f32) (harg6 : arg6.IsWhole)
  (x0 : Vec Ideal S1024x1024 .bf16) (x1 : Vec Ideal S1024x128 .bf16) (xs0 : Vec Ideal S1024x128 .f32)

theorem set_A (h0 : cond0_0 i) (h1 : ¬cond0_1 i) :
    sout0_A_0 c i arg3 harg3 arg4 harg4 arg5 harg5 arg6 harg6 h0 h1 x0 x1 = k0_pay2 k0_pay1 x0 x1 := by
  unfold sout0_A_0 kernelRun0_A
  dsimp only
  simp only [kernelRun0_A.sl.v3, kernelRun0_A.sl.HS0_1, read_stored, load_stored, cov_stored, load_whole]

theorem add_B (h0 : ¬cond0_0 i) (h1 : ¬cond0_1 i) :
    sout0_B_0 c i arg3 harg3 arg4 harg4 arg5 harg5 arg6 harg6 h0 h1 x0 x1 xs0 = k0_pay2 xs0 x0 x1 := by
  unfold sout0_B_0 kernelRun0_B
  dsimp only
  simp only [read_stored, load_stored, cov_stored, load_whole]

theorem add_C (h0 : ¬cond0_0 i) (h1 : cond0_1 i) :
    sout0_C_0 c i arg3 harg3 arg4 harg4 arg5 harg5 arg6 harg6 h0 h1 x0 x1 xs0 = k0_pay2 xs0 x0 x1 := by
  unfold sout0_C_0 kernelRun0_C
  dsimp only
  simp only [kernelRun0_C.sl.HS0_1, kernelRun0_C.sl.v14, read_stored, load_stored, cov_stored, load_whole]

theorem out_C (h0 : ¬cond0_0 i) (h1 : cond0_1 i) :
    out0_C_2 c i arg3 harg3 arg4 harg4 arg5 harg5 arg6 harg6 h0 h1 x0 x1 xs0 = k0_pay2 xs0 x0 x1 := by
  unfold out0_C_2 kernelRun0_C
  dsimp only
  simp only [kernelRun0_C.sl.HS0_1, kernelRun0_C.sl.v14, read_stored, load_stored, cov_stored, load_whole]

theorem pay2_apply (r : Fin 1024) (q : Fin 128) :
    k0_pay2 xs0 x0 x1 (ix2 r q) = xs0 (ix2 r q) + ∑ k : Fin 1024, x0 (ix2 k r) * x1 (ix2 k q) := by
  simp only [k0_pay2, shapeCast_self]
  pointwise
  done

theorem pay1_apply (y : S1024x128.Idx) : k0_pay1 (F := Ideal) y = 0 := by
  simp only [k0_pay1, shapeCast_self]
  pointwise
  done
end

/-! ## At a grid point -/

theorem index0 : ∀ t : Fin grid0.N, win0_0.index t (0 : Fin 2) = t.val % 8 ∧ win0_0.index t (1 : Fin 2) = t.val / 8 := by
  decide +kernel
theorem index1 : ∀ t : Fin grid0.N, win0_1.index t (0 : Fin 2) = t.val % 8 ∧ win0_1.index t (1 : Fin 2) = 0 := by
  decide +kernel
theorem index2 : ∀ t : Fin grid0.N, win0_2.index t (0 : Fin 2) = t.val / 8 ∧ win0_2.index t (1 : Fin 2) = 0 := by
  decide +kernel

variable (m : (ℓ : Loc nD τ sig) → Buf (Elt Ideal) ℓ) (c : Dev nD)

/-- The activations. -/
abbrev X : Vec Ideal S8192x2048 .bf16 := m ((c : Thread nD τ).loc main_arg0)
/-- The cotangent. -/
abbrev Y : Vec Ideal S8192x128 .bf16 := m ((c : Thread nD τ).loc main_arg1)

theorem blk0 (t : Fin cfg0.N) (k r : Fin 1024) :
    iblk m c 0 t (ix2 k r) = at2 (X m c) (1024 * (t.val % 8) + k) (1024 * (t.val / 8) + r) := by
  unfold iblk
  rw [View.read_apply]
  refine Eq.trans (at2_eq (V m c main_arg0) _ (r := 1024 * (t.val % 8) + k) (c := 1024 * (t.val / 8) + r) ?_ ?_) ?_
  · show win0_0.index t 0 * 1024 + 1 * k.val = _
    rw [(index0 t).1]; omega
  · show win0_0.index t 1 * 1024 + 1 * r.val = _
    rw [(index0 t).2]; omega
  · rw [V_main_arg0]

theorem blk1 (t : Fin cfg0.N) (k : Fin 1024) (q : Fin 128) :
    iblk m c 1 t (ix2 k q) = at2 (Y m c) (1024 * (t.val % 8) + k) q := by
  unfold iblk
  rw [View.read_apply]
  refine Eq.trans (at2_eq (V m c main_arg1) _ (r := 1024 * (t.val % 8) + k) (c := q.val) ?_ ?_) ?_
  · show win0_1.index t 0 * 1024 + 1 * k.val = _
    rw [(index1 t).1]; omega
  · show win0_1.index t 1 * 128 + 1 * q.val = _
    rw [(index1 t).2]; omega
  · rw [V_main_arg1]

/-- What the rows `u` bring to the entry at `a`, `b`. -/
def term (a b u : ℕ) : EReal := at2 (X m c) u a * at2 (Y m c) u b

/-- What point `n` adds at `r`, `q` of its block. -/
def brought (r : Fin 1024) (q : Fin 128) (n : ℕ) : EReal :=
  ∑ k : Fin 1024, term m c (1024 * (n / 8) + r) q (1024 * (n % 8) + k)

theorem dot_point (t : Fin cfg0.N) (r : Fin 1024) (q : Fin 128) :
    ∑ k : Fin 1024, (show EReal from iblk m c 0 t (ix2 k r)) * (show EReal from iblk m c 1 t (ix2 k q)) = brought m c r q t :=
  sum_congr rfl fun k _ => by rw [blk0, blk1]; rfl

theorem acc_first (t : Fin cfg0.N) (h0 : t.val % 8 = 0) (r : Fin 1024) (q : Fin 128) :
    (outsAt0 m c t.val t.isLt).2 (ix2 r q) = brought m c r q t := by
  rw [outsAt0_A m c t h0 (by omega)]
  dsimp only
  rw [set_A, pay2_apply, pay1_apply, zero_add, dot_point]

theorem acc_next (t : Fin cfg0.N) (h0 : ¬t.val % 8 = 0) (r : Fin 1024) (q : Fin 128) :
    (outsAt0 m c t.val t.isLt).2 (ix2 r q) = (outsAt0 m c (t.val - 1) (by omega)).2 (ix2 r q) + brought m c r q t := by
  by_cases h1 : t.val % 8 = 7
  · rw [outsAt0_C m c t h0 h1]
    dsimp only
    rw [add_C, pay2_apply, dot_point]
  · rw [outsAt0_B m c t h0 h1]
    dsimp only
    rw [add_B, pay2_apply, dot_point]

theorem out_last (t : Fin cfg0.N) (h1 : t.val % 8 = 7) : (outsAt0 m c t.val t.isLt).1 = (outsAt0 m c t.val t.isLt).2 := by
  rw [outsAt0_C m c t (by omega) h1]
  dsimp only
  rw [add_C, out_C]

/-- What the last point of a run writes: the sum over all rows. -/
theorem written (t : Fin cfg0.N) (h1 : t.val % 8 = 7) (r : Fin 1024) (q : Fin 128) :
    (outsAt0 m c t.val t.isLt).1 (ix2 r q)
      = ∑ u ∈ range 8192, term m c (1024 * (t.val / 8) + r) q u := by
  rw [out_last m c t h1,
    accumulated (K := 8) (fun n h => (outsAt0 m c n h).2 (ix2 r q)) (brought m c r q)
      (fun n h h0 => acc_first m c ⟨n, h⟩ h0 r q) (fun n h h0 => acc_next m c ⟨n, h⟩ h0 r q) t.val t.isLt,
    h1, show (8192 : ℕ) = 1024 * (7 + 1) from rfl, ← sum_blocks]
  refine sum_congr rfl fun s hs => ?_
  have h8 := mem_range.mp hs
  unfold brought
  rw [show (8 * (t.val / 8) + s) / 8 = t.val / 8 by omega, show (8 * (t.val / 8) + s) % 8 = s by omega]

/-! ## The result -/

/-- The gradient: activations transposed times cotangent. -/
def grad : Vec Ideal S2048x128 .f32 := fun i => ∑ u ∈ range 8192, term m c (i 0).val (i 1).val u

theorem flushed (t : Fin cfg0.N) (hf : (cfg0.win 2).flush t = true) :
    (dats m 0 c).flushed 2 t = ((cfg0.win 2).blk t).view.read (Elt Ideal) (grad m c) := by
  show (cfg0.win 2).cut (grid0.coords t) ((dats m 0 c).after 2 t) = _
  rw [after0_2]
  have h1 : t.val % 8 = 7 := (flush0_2 t).mp hf
  funext y
  rw [View.read_apply]
  have h := written m c t h1 (⟨(y 0).val, (y 0).isLt⟩ : Fin 1024) (⟨(y 1).val, (y 1).isLt⟩ : Fin 128)
  have e0 : (((cfg0.win 2).blk t).view.emb y 0).val = 1024 * (t.val / 8) + (y 0).val := by
    show win0_2.index t 0 * 1024 + 1 * (y 0).val = _
    rw [(index2 t).1]; omega
  have e1 : (((cfg0.win 2).blk t).view.emb y 1).val = (y 1).val := by
    show win0_2.index t 1 * 128 + 1 * (y 1).val = _
    rw [(index2 t).2]; omega
  have hx : (cfg0.win 2).xinj (grid0.coords t) y = ix2 (⟨(y 0).val, (y 0).isLt⟩ : Fin 1024) (⟨(y 1).val, (y 1).isLt⟩ : Fin 128) := by
    funext a
    match a with
    | ⟨0, _⟩ => rfl
    | ⟨1, _⟩ => rfl
  have hg : grad m c (((cfg0.win 2).blk t).view.emb y)
      = ∑ u ∈ range 8192, term m c (1024 * (t.val / 8) + (y 0).val) (y 1).val u := by
    unfold grad
    rw [e0, e1]
  dsimp only at h
  refine (congrArg (outsAt0 m c t.val t.isLt).1 hx).trans ?_
  rw [h, ← hg]
  exact (cast_eq _ _).symm

theorem covered (i : S2048x128.Idx) : ∃ t : Fin cfg0.N, (cfg0.win 2).flush t = true ∧ i ∈ ((cfg0.win 2).blk t).view.set := by
  have hi0 : (i 0).val < 2048 := (i 0).isLt
  have hi1 : (i 1).val < 128 := (i 1).isLt
  have hN : cfg0.N = 16 := N_0
  refine ⟨⟨8 * ((i 0).val / 1024) + 7, by omega⟩, (flush0_2 _).mpr (by dsimp only; omega), ?_⟩
  generalize ht : (⟨8 * ((i 0).val / 1024) + 7, _⟩ : Fin cfg0.N) = t
  have htv : t.val = 8 * ((i 0).val / 1024) + 7 := by rw [← ht]
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [(index2 t).1]; omega
  | ⟨1, _⟩ =>
    show win0_2.index t (1 : Fin 2) * 128 ≤ (i 1).val ∧ (i 1).val < win0_2.index t (1 : Fin 2) * 128 + 128
    rw [(index2 t).2]; omega

/-- The kernel's run leaves the gradient in its result and its arguments as they were. -/
theorem run (ρ : Dev nD → PrngReg) : θ_run defs (onTc (τ := τ) (main (F := Ideal))) ⟨m, fun _ => 0, ρ⟩ fun r => ∀ c : Dev nD,
    r.2.mem ((c : Thread nD τ).loc main_v0) = grad m c :=
  (θ_run defs _ _).mono (fun r h c => ((h c).1 2).trans
    ((dats m 0 c).arrAt_eq_of_cover 2 _ (fun t hf => flushed m c t hf) covered)) (run_main m ρ)

/-! ## The reference -/

theorem reference_eq (x : Vec Ideal S8192x2048 .bf16) (y : Vec Ideal S8192x128 .bf16) (i : S2048x128.Idx) :
    Cert.DwSmallReferenceIdeal.Read.val_main_v3 (F := Ideal) x y i = ∑ u ∈ range 8192, at2 x u (i 0).val * at2 y u (i 1).val := by
  rw [Cert.DwSmallReferenceIdeal.Read.val_main_v3_apply, Cert.DwSmallReferenceIdeal.Read.val_main_v2_apply, sum_range]
  refine sum_congr rfl fun k _ => ?_
  rw [mul_comm, Cert.DwSmallReferenceIdeal.Read.val_main_v0_apply, Cert.DwSmallReferenceIdeal.Read.val_main_v1_apply]
  exact congrArg₂ (· * ·) (at2_eq x _ rfl rfl) (at2_eq y _ rfl rfl)

/-- Over the reals, the kernel's gradient is the reference's. -/
theorem values : Cert.algebraic_DwSmallKernelIdeal_DwSmallReferenceIdeal := fun m g m' g' _ hm =>
  ⟨fun c => grad m c,
    (θ_run defs _ _).mono (fun r h c => ⟨h.1 c, h.2 c⟩) (θ_run_and (run m g) (unchanged m g)),
    (θ_run Cert.DwSmallReferenceIdeal.defs _ _).mono (fun r h c =>
        ⟨(h c).1.trans ((Cert.DwSmallReferenceIdeal.Read.val_main_v3_eq _ _).trans (by
          rw [(hm c).1, (hm c).2]
          exact funext fun i => reference_eq _ _ i)),
          (h c).2⟩)
        (Cert.DwSmallReferenceIdeal.Value.run (F := Ideal) m' g')⟩

end Cert.DwSmallKernelIdeal.Mm
end
end
-- ==== Proof.Sum.lean ====
module

public import proofs.«01_k».proof.Defs
public import proofs.«01_k».proof.Proof.Products
public import proofs.«01_k».proof.Proof.Gen.SumKernelIdeal.Value
public import proofs.«01_k».proof.Proof.Gen.SumReferenceIdeal.Run
public import proofs.«01_k».proof.Proof.Gen.SumReferenceIdeal.Read
public import Idealize.ShloMosaic.Lib.VecWindow
public import Idealize.ShloMosaic.Lib.Pointwise

/-! The sum of the eight devices' packs: eight row blocks added one after the other, and the reference's sum over them. -/

@[expose] public section

noncomputable section

namespace Cert.SumKernelIdeal.Packs

open Idealize.ShloMosaic Idealize.ShloMosaic.TcCoe Cert.SumKernelIdeal.Gen Cert.SumKernelIdeal
open Idealize.SL Idealize.SL.Sem
open Cert.Mm Finset

variable (x : Vec Ideal S64x6144 .f32)

/-- The sum at a row and a column of the packs. -/
theorem packs_apply (r : Fin 8) (d : Fin 6144) : k0_pay1 x (ix2 r d) = ∑ k : Fin 8, at2 x (8 * k.val + r.val) d.val := by
  rw [Fin.sum_univ_eight]
  simp only [k0_pay1]
  pointwise
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;> refine at2_eq x _ ?_ ?_ <;> simp [ix2] <;> omega

theorem reference_eq (i : S8x6144.Idx) : Cert.SumReferenceIdeal.Read.val_main_v1 (F := Ideal) x i = k0_pay1 x i := by
  have hi : i = ix2 (⟨(i 0).val, (i 0).isLt⟩ : Fin 8) (⟨(i 1).val, (i 1).isLt⟩ : Fin 6144) := funext fun a => match a with
    | ⟨0, _⟩ => rfl
    | ⟨1, _⟩ => rfl
  have h1 : (i 1).val < 6144 := (i 1).isLt
  rw [Cert.SumReferenceIdeal.Read.val_main_v1_apply, Cert.SumReferenceIdeal.Read.val_main_cst_apply,
    show FloatOps.ofBits (F := Ideal) .f32 0x00000000#32 = 0 by simp, zero_add]
  refine Eq.trans (sum_congr rfl fun k _ => ?_) ((congrArg (k0_pay1 x) hi).trans (packs_apply x _ _)).symm
  rw [Cert.SumReferenceIdeal.Read.val_main_v0_apply]
  refine at2_eq x _ ?_ ?_
  · show ((k.val * 8 + (i 0).val) * 6144 + (i 1).val) / 6144 = 8 * k.val + (i 0).val
    omega
  · show ((k.val * 8 + (i 0).val) * 6144 + (i 1).val) % 6144 = (i 1).val
    omega

/-- Over the reals, the kernel's sum is the reference's. -/
theorem values : Cert.algebraic_SumKernelIdeal_SumReferenceIdeal := fun m g m' g' _ hm =>
  ⟨_, Cert.SumKernelIdeal.Value.run m g, (θ_run Cert.SumReferenceIdeal.defs _ _).mono (fun r h c =>
      ⟨(h c).1.trans ((Cert.SumReferenceIdeal.Read.val_main_v1_eq _).trans (by
        rw [hm c]
        exact funext fun i => reference_eq _ i)), (h c).2⟩)
    (Cert.SumReferenceIdeal.Value.run (F := Ideal) m' g')⟩

end Cert.SumKernelIdeal.Packs
end
end
-- ==== Proof.DwAda.lean ====
module

public import proofs.«01_k».proof.Defs
public import proofs.«01_k».proof.Proof.Reals
public import proofs.«01_k».proof.Proof.Products
public import proofs.«01_k».proof.Proof.Gen.DwAdaKernelIdeal.Value
public import proofs.«01_k».proof.Proof.Gen.DwAdaReferenceIdeal.Run
public import proofs.«01_k».proof.Proof.Gen.DwAdaReferenceIdeal.Read
public import Idealize.ShloMosaic.Lib.Pipeline.Value
public import Idealize.ShloMosaic.Lib.VecWindow
public import Idealize.ShloMosaic.Lib.Pointwise

/-! The gradient of the modulation's weight: the eight devices' conditions, through the SiLU and transposed, times the
    gradients of their modulations. -/

@[expose] public section

noncomputable section

namespace Cert.DwAdaKernelIdeal.Mm

open Idealize.ShloMosaic Idealize.ShloMosaic.TcCoe Cert.DwAdaKernelIdeal.Gen Cert.DwAdaKernelIdeal
open Idealize.SL Idealize.SL.Sem
open Cert.Mm Finset

/-- The kernel's sigmoid, written so that the exponential never grows, is the logistic function. -/
theorem sigmoid_eq (x : EReal) : (if 0 ≤ x then Ideal.div 1 (1 + Ideal.exp (-max x (-x)))
    else Ideal.div (Ideal.exp (-max x (-x))) (1 + Ideal.exp (-max x (-x)))) = Ideal.logistic x := by
  induction x with
  | bot => simp [Ideal.div]
  | top => simp [Ideal.div]
  | coe r =>
    rw [Ideal.logistic_coe, Stick.abs_coe, ← EReal.coe_zero, ← EReal.coe_neg, Stick.exp_coe, ← EReal.coe_one, ← EReal.coe_add]
    have hd : ∀ a b : ℝ, 0 < b → Ideal.div (a : EReal) (b : EReal) = ((a * b⁻¹ : ℝ) : EReal) := fun a b hb => by
      rw [Ideal.div, if_neg (by exact_mod_cast hb.ne'), ← EReal.coe_inv, ← EReal.coe_mul]
    have hp : 0 < 1 + Real.exp (-|r|) := by positivity
    rw [hd _ _ hp, hd _ _ hp]
    by_cases h : 0 ≤ r
    · rw [if_pos (by exact_mod_cast h), abs_of_nonneg h, one_mul]
    · have hr : r < 0 := not_le.mp h
      rw [if_neg (by exact_mod_cast h), abs_of_neg hr, neg_neg]
      congr 1
      have he := Real.exp_pos r
      rw [Real.exp_neg]
      field_simp
      ring

/-- The SiLU. -/
def silu (x : EReal) : EReal := x * Ideal.logistic x

theorem pay_apply (x : Vec Ideal S8x2048 .f32) (y : Vec Ideal S8x512 .f32) (r : Fin 2048) (q : Fin 512) :
    k0_pay1 x y (ix2 r q) = ∑ k : Fin 8, silu (x (ix2 k r)) * y (ix2 k q) := by
  simp only [k0_pay1]
  pointwise
  refine sum_congr rfl fun k _ => ?_
  rw [silu, ← sigmoid_eq]
  by_cases h : 0 ≤ x (ix2 k r) <;> simp [h] <;> rfl

/-! ## The kernel's result -/

theorem index0 : ∀ t : Fin grid0.N, win0_0.index t (0 : Fin 2) = 0 ∧ win0_0.index t (1 : Fin 2) = 0 := by decide +kernel
theorem index1 : ∀ t : Fin grid0.N, win0_1.index t (0 : Fin 2) = 0 ∧ win0_1.index t (1 : Fin 2) = t.val := by decide +kernel
theorem index2 : ∀ t : Fin grid0.N, win0_2.index t (0 : Fin 2) = 0 ∧ win0_2.index t (1 : Fin 2) = t.val := by decide +kernel

section
variable (m : (ℓ : Loc nD τ sig) → Buf (Elt Ideal) ℓ) (c : Dev nD)

/-- The conditions. -/
abbrev X : Vec Ideal S8x2048 .f32 := m ((c : Thread nD τ).loc main_arg0)
/-- The modulations' gradients. -/
abbrev Y : Vec Ideal S8x1536 .f32 := m ((c : Thread nD τ).loc main_arg1)

theorem blk0 (t : Fin cfg0.N) (k : Fin 8) (r : Fin 2048) : iblk m c 0 t (ix2 k r) = at2 (X m c) k r := by
  unfold iblk
  rw [View.read_apply]
  refine Eq.trans (at2_eq (V m c main_arg0) _ (r := k) (c := r.val) ?_ ?_) ?_
  · show win0_0.index t 0 * 8 + 1 * k.val = _
    rw [(index0 t).1]; omega
  · show win0_0.index t 1 * 2048 + 1 * r.val = _
    rw [(index0 t).2]; omega
  · rw [V_main_arg0]

theorem blk1 (t : Fin cfg0.N) (k : Fin 8) (q : Fin 512) : iblk m c 1 t (ix2 k q) = at2 (Y m c) k (512 * t.val + q) := by
  unfold iblk
  rw [View.read_apply]
  refine Eq.trans (at2_eq (V m c main_arg1) _ (r := k) (c := 512 * t.val + q) ?_ ?_) ?_
  · show win0_1.index t 0 * 8 + 1 * k.val = _
    rw [(index1 t).1]; omega
  · show win0_1.index t 1 * 512 + 1 * q.val = _
    rw [(index1 t).2]; omega
  · rw [V_main_arg1]

/-- The gradient. -/
def grad : Vec Ideal S2048x1536 .f32 := fun i => ∑ k : Fin 8, silu (at2 (X m c) k (i 0).val) * at2 (Y m c) k (i 1).val

theorem zeros : (![0, 0] : Fin 2 → ℕ) = fun _ => 0 := funext fun a => match a with
  | ⟨0, _⟩ => rfl
  | ⟨1, _⟩ => rfl

/-- The one store of a point leaves its payload, and its loads read whole blocks. -/
theorem out_eq (x : Vec Ideal S8x2048 .f32) (y : Vec Ideal S8x512 .f32) : out0_2 x y = k0_pay1 x y := by
  unfold out0_2
  rw [View.canon_unit_zero zeros, View.ld_unit_zero (S := S8x2048) zeros _ x, View.ld_unit_zero (S := S8x512) zeros _ y]

theorem flushed (t : Fin cfg0.N) (_ : (cfg0.win 2).flush t = true) :
    (dats m 0 c).flushed 2 t = ((cfg0.win 2).blk t).view.read (Elt Ideal) (grad m c) := by
  rw [Cert.DwAdaKernelIdeal.Value.flushed2, out_eq]
  funext y
  rw [View.read_apply]
  have h := pay_apply (iblk m c 0 t) (iblk m c 1 t) (⟨(y 0).val, (y 0).isLt⟩ : Fin 2048) (⟨(y 1).val, (y 1).isLt⟩ : Fin 512)
  have e0 : (((cfg0.win 2).blk t).view.emb y 0).val = (y 0).val := by
    show win0_2.index t 0 * 2048 + 1 * (y 0).val = _
    rw [(index2 t).1]; omega
  have e1 : (((cfg0.win 2).blk t).view.emb y 1).val = 512 * t.val + (y 1).val := by
    show win0_2.index t 1 * 512 + 1 * (y 1).val = _
    rw [(index2 t).2]; omega
  have hx : (cfg0.win 2).xinj (grid0.coords t) y = ix2 (⟨(y 0).val, (y 0).isLt⟩ : Fin 2048) (⟨(y 1).val, (y 1).isLt⟩ : Fin 512) := by
    funext a
    match a with
    | ⟨0, _⟩ => rfl
    | ⟨1, _⟩ => rfl
  refine (congrArg (k0_pay1 (iblk m c 0 t) (iblk m c 1 t)) hx).trans (h.trans ?_)
  refine Eq.trans ?_ (cast_eq _ _).symm
  unfold grad
  rw [e0, e1]
  exact sum_congr rfl fun k _ => by rw [blk0, blk1]

theorem covered (i : S2048x1536.Idx) : ∃ t : Fin cfg0.N, (cfg0.win 2).flush t = true ∧ i ∈ ((cfg0.win 2).blk t).view.set := by
  have hi0 : (i 0).val < 2048 := (i 0).isLt
  have hi1 : (i 1).val < 1536 := (i 1).isLt
  have hN : cfg0.N = 3 := N_0
  refine ⟨⟨(i 1).val / 512, by omega⟩, flush0_2 _, ?_⟩
  generalize ht : (⟨(i 1).val / 512, _⟩ : Fin cfg0.N) = t
  have htv : t.val = (i 1).val / 512 := by rw [← ht]
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [(index2 t).1]; omega
  | ⟨1, _⟩ =>
    show win0_2.index t (1 : Fin 2) * 512 ≤ (i 1).val ∧ (i 1).val < win0_2.index t (1 : Fin 2) * 512 + 512
    rw [(index2 t).2]; omega

/-- The kernel's run leaves the gradient in its result. -/
theorem run (ρ : Dev nD → PrngReg) : θ_run defs (onTc (τ := τ) (main (F := Ideal))) ⟨m, fun _ => 0, ρ⟩ fun r => ∀ c : Dev nD,
    r.2.mem ((c : Thread nD τ).loc main_v0) = grad m c :=
  (θ_run defs _ _).mono (fun r h c => ((h c).1 2).trans
    ((dats m 0 c).arrAt_eq_of_cover 2 _ (fun t hf => flushed m c t hf) covered)) (run_main m ρ)
end

/-! ## The reference -/

section
open Cert.DwAdaReferenceIdeal.Read

variable (x : Vec Ideal S8x2048 .f32) (y : Vec Ideal S8x1536 .f32)

theorem ref_silu (i : S8x2048.Idx) : val_main_v0 (F := Ideal) x i = silu (x i) := by
  rw [val_main_v0_apply, val_main_call0_v5_apply, val_main_call0_v4_apply, val_main_call0_cst_0_apply, val_main_call0_v3_apply,
    val_main_call0_v2_apply, val_main_call0_cst_apply, show FloatOps.ofBits (F := Ideal) .f32 0x3F800000#32 = 1 by simp]
  rfl

theorem reference_eq (i : S2048x1536.Idx) : val_main_v2 (F := Ideal) x y i
    = ∑ k : Fin 8, silu (at2 x k (i 0).val) * at2 y k (i 1).val := by
  rw [val_main_v2_apply, val_main_v1_apply]
  refine sum_congr rfl fun k _ => ?_
  rw [mul_comm, ref_silu, at2_eq x _ rfl rfl, at2_eq y _ rfl rfl]
end

/-- Over the reals, the kernel's gradient is the reference's. -/
theorem values : Cert.algebraic_DwAdaKernelIdeal_DwAdaReferenceIdeal := fun m g m' g' _ hm =>
  ⟨fun c => grad m c,
    (θ_run defs _ _).mono (fun r h c => ⟨h.1 c, h.2 c⟩) (θ_run_and (run m g) (unchanged m g)),
    (θ_run Cert.DwAdaReferenceIdeal.defs _ _).mono (fun r h c =>
        ⟨(h c).1.trans ((Cert.DwAdaReferenceIdeal.Read.val_main_v2_eq _ _).trans (by
          rw [(hm c).1, (hm c).2]
          exact funext fun i => reference_eq _ _ i)), (h c).2⟩)
        (Cert.DwAdaReferenceIdeal.Value.run (F := Ideal) m' g')⟩

end Cert.DwAdaKernelIdeal.Mm
end
end
-- ==== Proof.Norm.lean ====
module

public import proofs.«01_k».proof.Defs
public import proofs.«01_k».proof.Proof.AdaPoint
public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pipeline.Value

/-! The modulated root-mean-square norm: what the kernel does to a block of 256 rows, and the reference. -/

@[expose] public section

noncomputable section

namespace Cert.NormKernelIdeal.Norm

open Idealize.ShloMosaic Idealize.ShloMosaic.TcCoe Cert.NormKernelIdeal.Gen Cert.NormKernelIdeal
open Idealize.SL Idealize.SL.Sem
open Cert.Mm Cert.Ada Finset

/-- A row, normed and modulated: `x` the row, `w` the norm's weights, `s` the scales, `b` the shifts. -/
def modulated (x w s b : ℕ → EReal) (d : ℕ) : EReal := x d * inv x * w d * (1 + s d) + b d

theorem pay_apply {x : Vec Ideal S256x2048 .f32} {w s b : Vec Ideal S1x2048 .f32} {X : ℕ → ℕ → EReal} {W S B : ℕ → EReal} {n : ℕ}
    (hx : ∀ (r : Fin 256) (k : Fin 2048), x (ix2 r k) = X (n + r) k) (hw : ∀ k : Fin 2048, w (ix2 0 k) = W k)
    (hs : ∀ k : Fin 2048, s (ix2 0 k) = S k) (hb : ∀ k : Fin 2048, b (ix2 0 k) = B k) (r : Fin 256) (d : Fin 2048) :
    k0_pay1 x w s b (ix2 r d) = modulated (X (n + r)) W S B d := by
  rw [modulated, ← hw, ← hs, ← hb]
  simp only [k0_pay1]
  pointwise
  simp only [hx]
  rfl

/-! ## The kernel's result -/

theorem index0 : ∀ t : Fin grid0.N, win0_0.index t (0 : Fin 2) = t.val ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = t.val ∧ win0_4.index t (1 : Fin 2) = 0 := by decide +kernel

section
variable (m : (ℓ : Loc nD τ sig) → Buf (Elt Ideal) ℓ) (c : Dev nD)

/-- The rows. -/
abbrev X : Vec Ideal S8192x2048 .f32 := m ((c : Thread nD τ).loc main_arg0)
/-- The norm's weights. -/
abbrev W : Vec Ideal S1x2048 .f32 := m ((c : Thread nD τ).loc main_arg1)
/-- The scales. -/
abbrev S : Vec Ideal S1x2048 .f32 := m ((c : Thread nD τ).loc main_arg2)
/-- The shifts. -/
abbrev B : Vec Ideal S1x2048 .f32 := m ((c : Thread nD τ).loc main_arg3)

theorem blk0 (t : Fin cfg0.N) (r : Fin 256) (k : Fin 2048) : iblk m c 0 t (ix2 r k) = at2 (X m c) (256 * t.val + r) k := by
  unfold iblk
  rw [View.read_apply]
  refine Eq.trans (at2_eq (V m c main_arg0) _ (r := 256 * t.val + r) (c := k.val) ?_ ?_) ?_
  · show win0_0.index t 0 * 256 + 1 * r.val = _
    rw [(index0 t).1]; omega
  · show win0_0.index t 1 * 2048 + 1 * k.val = _
    rw [(index0 t).2]; omega
  · rw [V_main_arg0]

theorem blk1 (t : Fin cfg0.N) (k : Fin 2048) : iblk m c 1 t (ix2 (0 : Fin 1) k) = at2 (W m c) 0 k := by
  unfold iblk
  rw [View.read_apply]
  refine Eq.trans (at2_eq (V m c main_arg1) _ (r := 0) (c := k.val) ?_ ?_) ?_
  · show win0_1.index t 0 * 1 + 1 * 0 = _
    rw [(index1 t).1]
  · show win0_1.index t 1 * 2048 + 1 * k.val = _
    rw [(index1 t).2]; omega
  · rw [V_main_arg1]

theorem blk2 (t : Fin cfg0.N) (k : Fin 2048) : iblk m c 2 t (ix2 (0 : Fin 1) k) = at2 (S m c) 0 k := by
  unfold iblk
  rw [View.read_apply]
  refine Eq.trans (at2_eq (V m c main_arg2) _ (r := 0) (c := k.val) ?_ ?_) ?_
  · show win0_2.index t 0 * 1 + 1 * 0 = _
    rw [(index2 t).1]
  · show win0_2.index t 1 * 2048 + 1 * k.val = _
    rw [(index2 t).2]; omega
  · rw [V_main_arg2]

theorem blk3 (t : Fin cfg0.N) (k : Fin 2048) : iblk m c 3 t (ix2 (0 : Fin 1) k) = at2 (B m c) 0 k := by
  unfold iblk
  rw [View.read_apply]
  refine Eq.trans (at2_eq (V m c main_arg3) _ (r := 0) (c := k.val) ?_ ?_) ?_
  · show win0_3.index t 0 * 1 + 1 * 0 = _
    rw [(index3 t).1]
  · show win0_3.index t 1 * 2048 + 1 * k.val = _
    rw [(index3 t).2]; omega
  · rw [V_main_arg3]

/-- The rows, normed and modulated. -/
def normed : Vec Ideal S8192x2048 .bf16 := fun i =>
  modulated (at2 (X m c) (i 0).val) (at2 (W m c) 0) (at2 (S m c) 0) (at2 (B m c) 0) (i 1).val

theorem zeros : (![0, 0] : Fin 2 → ℕ) = fun _ => 0 := funext fun a => match a with
  | ⟨0, _⟩ => rfl
  | ⟨1, _⟩ => rfl

/-- The one store of a point leaves its payload, and its loads read whole blocks. -/
theorem out_eq (x : Vec Ideal S256x2048 .f32) (w s b : Vec Ideal S1x2048 .f32) : out0_4 x w s b = k0_pay1 x w s b := by
  unfold out0_4
  rw [View.canon_unit_zero zeros, View.ld_unit_zero (S := S256x2048) zeros _ x, View.ld_unit_zero (S := S1x2048) zeros _ w,
    View.ld_unit_zero (S := S1x2048) zeros _ s, View.ld_unit_zero (S := S1x2048) zeros _ b]

theorem flushed (t : Fin cfg0.N) (_ : (cfg0.win 4).flush t = true) :
    (dats m 0 c).flushed 4 t = ((cfg0.win 4).blk t).view.read (Elt Ideal) (normed m c) := by
  rw [Cert.NormKernelIdeal.Value.flushed4, out_eq]
  funext y
  rw [View.read_apply]
  have h := pay_apply (X := at2 (X m c)) (n := 256 * t.val) (blk0 m c t) (blk1 m c t) (blk2 m c t) (blk3 m c t)
    (⟨(y 0).val, (y 0).isLt⟩ : Fin 256) (⟨(y 1).val, (y 1).isLt⟩ : Fin 2048)
  have e0 : (((cfg0.win 4).blk t).view.emb y 0).val = 256 * t.val + (y 0).val := by
    show win0_4.index t 0 * 256 + 1 * (y 0).val = _
    rw [(index4 t).1]; omega
  have e1 : (((cfg0.win 4).blk t).view.emb y 1).val = (y 1).val := by
    show win0_4.index t 1 * 2048 + 1 * (y 1).val = _
    rw [(index4 t).2]; omega
  have hx : (cfg0.win 4).xinj (grid0.coords t) y = ix2 (⟨(y 0).val, (y 0).isLt⟩ : Fin 256) (⟨(y 1).val, (y 1).isLt⟩ : Fin 2048) := by
    funext a
    match a with
    | ⟨0, _⟩ => rfl
    | ⟨1, _⟩ => rfl
  refine (congrArg (k0_pay1 (iblk m c 0 t) (iblk m c 1 t) (iblk m c 2 t) (iblk m c 3 t)) hx).trans (h.trans ?_)
  refine Eq.trans ?_ (cast_eq _ _).symm
  unfold normed
  rw [e0, e1]

theorem covered (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 32 := N_0
  refine ⟨⟨(i 0).val / 256, by omega⟩, flush0_4 _, ?_⟩
  generalize ht : (⟨(i 0).val / 256, _⟩ : Fin cfg0.N) = t
  have htv : t.val = (i 0).val / 256 := by rw [← ht]
  show i ∈ ((View.whole main_v0).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    rw [(index4 t).1]; omega
  | ⟨1, _⟩ =>
    show win0_4.index t (1 : Fin 2) * 2048 ≤ (i 1).val ∧ (i 1).val < win0_4.index t (1 : Fin 2) * 2048 + 2048
    rw [(index4 t).2]; omega

/-- The kernel's run leaves the modulated rows in its result. -/
theorem run (ρ : Dev nD → PrngReg) : θ_run defs (onTc (τ := τ) (main (F := Ideal))) ⟨m, fun _ => 0, ρ⟩ fun r => ∀ c : Dev nD,
    r.2.mem ((c : Thread nD τ).loc main_v0) = normed m c :=
  (θ_run defs _ _).mono (fun r h c => ((h c).1 4).trans
    ((dats m 0 c).arrAt_eq_of_cover 4 _ (fun t hf => flushed m c t hf) covered)) (run_main m ρ)
end

/-! ## The reference -/

section
open Cert.NormReferenceIdeal.Read

variable (x : Vec Ideal S8192x2048 .f32) (w s b : Vec Ideal S1x2048 .f32)

theorem zero_bits : FloatOps.ofBits (F := Ideal) .f32 0x00000000#32 = 0 := by simp

theorem ref_ms (i : Cert.NormReferenceIdeal.S8192x1.Idx) : val_main_v7 (F := Ideal) x i = ms (at2 x (i 0).val) := by
  rw [val_main_v7_apply, val_main_v5_apply, val_main_v3_apply, val_main_v2_apply, val_main_v4_apply, val_main_v6_apply,
    val_main_cst_apply, zero_bits, zero_add]
  refine congrArg (fun u => Ideal.div u (Ideal.ofBits .f32 0x45000000#32) + Ideal.ofBits .f32 0x358637BD#32)
    (sum_congr rfl fun k _ => ?_)
  rw [val_main_v1_apply]
  exact congrArg₂ (· * ·) (at2_eq x _ rfl rfl) (at2_eq x _ rfl rfl)

theorem ref_inv (i : Cert.NormReferenceIdeal.S8192x1.Idx) : val_main_v8 (F := Ideal) x i = inv (at2 x (i 0).val) := by
  rw [val_main_v8_apply, ref_ms]
  rfl

theorem reference_eq (i : S8192x2048.Idx) : val_main_v20 (F := Ideal) x w s b i
    = modulated (at2 x (i 0).val) (at2 w 0) (at2 s 0) (at2 b 0) (i 1).val := by
  rw [val_main_v20_apply, val_main_v19_apply, val_main_v17_apply, val_main_v13_apply, val_main_v10_apply, val_main_v9_apply, ref_inv,
    val_main_v12_apply, val_main_v11_apply, val_main_v0_apply, val_main_v16_apply, val_main_v15_apply, val_main_v14_apply,
    val_main_cst_2_apply, val_main_v18_apply, at2_eq x i rfl rfl, at2_eq w _ rfl (Nat.mod_eq_of_lt (i 1).isLt), at2_eq s _ rfl rfl, at2_eq b _ rfl rfl,
    show FloatOps.ofBits (F := Ideal) .f32 0x3F800000#32 = 1 by simp]
  rfl
end

/-- Over the reals, the kernel's modulated rows are the reference's. -/
theorem values : Cert.algebraic_NormKernelIdeal_NormReferenceIdeal := fun m g m' g' _ hm =>
  ⟨fun c => normed m c,
    (θ_run defs _ _).mono (fun r h c => ⟨h.1 c, h.2 c⟩) (θ_run_and (run m g) (unchanged m g)),
    (θ_run Cert.NormReferenceIdeal.defs _ _).mono (fun r h c =>
        have e := hm c
        ⟨(h c).1.trans ((Cert.NormReferenceIdeal.Read.val_main_v20_eq _ _ _ _).trans (by
          rw [e.1, e.2.1, e.2.2.1, e.2.2.2]
          exact funext fun i => reference_eq _ _ _ _ i)), (h c).2⟩)
        (Cert.NormReferenceIdeal.Value.run (F := Ideal) m' g')⟩

end Cert.NormKernelIdeal.Norm
end
end
-- ==== Proof.ConvFwd.lean ====
module

public import proofs.«01_k».proof.Defs
public import proofs.«01_k».proof.Proof.Conv
public import proofs.«01_k».proof.Proof.Gen.ConvFwdKernelIdeal.Value
public import proofs.«01_k».proof.Proof.Gen.ConvFwdReferenceIdeal.Run
public import proofs.«01_k».proof.Proof.Gen.ConvFwdReferenceIdeal.Read

/-! The causal short convolution: what one block of 512 steps by 512 channels of the kernel computes, and the reference. -/

@[expose] public section

noncomputable section

namespace Cert.ConvFwdKernelIdeal.Conv

open Idealize.ShloMosaic Idealize.ShloMosaic.TcCoe Cert.ConvFwdKernelIdeal.Gen Cert.ConvFwdKernelIdeal
open Idealize.SL Idealize.SL.Sem
open Cert.Mm Cert.Conv Finset

/-- The convolution of channel `d` at step `t`. -/
def conv (W X : ℕ → ℕ → EReal) (t d : ℕ) : EReal := W 3 d * late X 0 t d + W 2 d * late X 1 t d + W 1 d * late X 2 t d + W 0 d * late X 3 t d

/-! ## A block of 512 steps -/

section
variable {x : Vec Ideal S512x512 .f32} {w : Vec Ideal S4x512 .f32} {h : Vec Ideal S8x512 .f32} {X W : ℕ → ℕ → EReal} {i : grid0.Coords}
  (hx : ∀ r d : Fin 512, x (ix2 r d) = X (512 * (i 1).val + r) d)
  (hh : (i 1).val ≠ 0 → ∀ (r : Fin 8) (d : Fin 512), h (ix2 r d) = X (512 * (i 1).val - 8 + r) d)
  (hw : ∀ (r : Fin 4) (d : Fin 512), w (ix2 r d) = W r d)
  (r d : Fin 512)

include hx hh hw in
theorem pay_apply : k0_pay1 i x h w (ix2 r d) = conv W X (512 * (i 1).val + r) d := by
  have b := fun (j : ℕ) (hj : j < 520) (k : ℕ) => Cert.ConvKernelIdeal.Conv.before_apply (i := i) (x := x) (h := h) (X := X) hx hh d j hj k (512 * (i 1).val + r)
  simp only [k0_pay1]
  pointwise
  rw [hw, hw, hw, hw, hx]
  have e0 : late X 0 (512 * (i 1).val + r) d = X (512 * (i 1).val + r) d := if_pos (Nat.zero_le _)
  rw [conv, e0]
  refine congrArg₂ (· + ·) (congrArg₂ (· + ·) (congrArg₂ (· + ·) rfl ?_) ?_) ?_
  · exact congrArg (W 2 d * ·) (b _ (by omega) 1 (by omega))
  · exact congrArg (W 1 d * ·) (b _ (by omega) 2 (by omega))
  · exact congrArg (W 0 d * ·) (b _ (by omega) 3 (by omega))
end

/-! ## At a grid point -/

theorem coord1 : ∀ t : Fin grid0.N, (grid0.coords t 1).val = t.val % 16 := by decide +kernel
theorem index0 : ∀ t : Fin grid0.N, win0_0.index t (0 : Fin 2) = t.val % 16 ∧ win0_0.index t (1 : Fin 2) = 16 + t.val / 16 := by decide +kernel
theorem index1 : ∀ t : Fin grid0.N, win0_1.index t (0 : Fin 2) = 64 * (t.val % 16) - 1 ∧ win0_1.index t (1 : Fin 2) = 16 + t.val / 16 := by decide +kernel
theorem index2 : ∀ t : Fin grid0.N, win0_2.index t (0 : Fin 2) = 0 ∧ win0_2.index t (1 : Fin 2) = t.val / 16 := by decide +kernel
theorem index3 : ∀ t : Fin grid0.N, win0_3.index t (0 : Fin 2) = t.val % 16 ∧ win0_3.index t (1 : Fin 2) = t.val / 16 := by decide +kernel

section
variable (m : (ℓ : Loc nD τ sig) → Buf (Elt Ideal) ℓ) (c : Dev nD)

/-- The projections, of which the convolution reads 6144 columns from column 8192 on. -/
abbrev P : Vec Ideal S8192x20480 .f32 := m ((c : Thread nD τ).loc main_arg0)
/-- The convolution's weights. -/
abbrev W : Vec Ideal S4x6144 .f32 := m ((c : Thread nD τ).loc main_arg1)

/-- What the convolution reads at a step and a channel. -/
def input (p : Vec Ideal S8192x20480 .f32) (t d : ℕ) : EReal := at2 p t (8192 + d)

/-- The convolution. -/
def convolved : Vec Ideal S8192x6144 .f32 := fun i => conv (at2 (W m c)) (input (P m c)) (i 0).val (i 1).val

section
variable (t : Fin cfg0.N)

/-- The projections as the channels of a point's block number them. -/
def blockX (a d : ℕ) : EReal := input (P m c) a (512 * (t.val / 16) + d)
/-- The weights as they do. -/
def blockW (a d : ℕ) : EReal := at2 (W m c) a (512 * (t.val / 16) + d)

theorem blk0 (r k : Fin 512) : iblk m c 0 t (ix2 r k) = blockX m c t (512 * (grid0.coords t 1).val + r) k := by
  rw [coord1]
  unfold iblk
  rw [View.read_apply]
  refine Eq.trans (at2_eq (V m c main_arg0) _ (r := 512 * (t.val % 16) + r) (c := 8192 + (512 * (t.val / 16) + k)) ?_ ?_) ?_
  · show win0_0.index t 0 * 512 + 1 * r.val = _
    rw [(index0 t).1]; omega
  · show win0_0.index t 1 * 512 + 1 * k.val = _
    rw [(index0 t).2]; omega
  · rw [V_main_arg0]; rfl

theorem blk1 (h : (grid0.coords t 1).val ≠ 0) (r : Fin 8) (k : Fin 512) :
    iblk m c 1 t (ix2 r k) = blockX m c t (512 * (grid0.coords t 1).val - 8 + r) k := by
  rw [coord1] at h ⊢
  unfold iblk
  rw [View.read_apply]
  refine Eq.trans (at2_eq (V m c main_arg0) _ (r := 512 * (t.val % 16) - 8 + r) (c := 8192 + (512 * (t.val / 16) + k)) ?_ ?_) ?_
  · show win0_1.index t 0 * 8 + 1 * r.val = _
    rw [(index1 t).1]; omega
  · show win0_1.index t 1 * 512 + 1 * k.val = _
    rw [(index1 t).2]; omega
  · rw [V_main_arg0]; rfl

theorem blk2 (r : Fin 4) (k : Fin 512) : iblk m c 2 t (ix2 r k) = blockW m c t r k := by
  unfold iblk
  rw [View.read_apply]
  refine Eq.trans (at2_eq (V m c main_arg1) _ (r := r) (c := 512 * (t.val / 16) + k) ?_ ?_) ?_
  · show win0_2.index t 0 * 4 + 1 * r.val = _
    rw [(index2 t).1]; omega
  · show win0_2.index t 1 * 512 + 1 * k.val = _
    rw [(index2 t).2]; omega
  · rw [V_main_arg1]; rfl
end

theorem zeros : (![0, 0] : Fin 2 → ℕ) = fun _ => 0 := funext fun a => match a with
  | ⟨0, _⟩ => rfl
  | ⟨1, _⟩ => rfl

/-- The one store of a point leaves its payload, and its loads read whole blocks. -/
theorem out_eq (i : grid0.Coords) (x : Vec Ideal S512x512 .f32) (h : Vec Ideal S8x512 .f32) (w : Vec Ideal S4x512 .f32) :
    out0_3 i x h w = k0_pay1 i x h w := by
  unfold out0_3
  rw [View.canon_unit_zero zeros, View.ld_unit_zero (S := S512x512) zeros _ x, View.ld_unit_zero (S := S8x512) zeros _ h,
    View.ld_unit_zero (S := S4x512) zeros _ w]

theorem flushed (t : Fin cfg0.N) (_ : (cfg0.win 3).flush t = true) :
    (dats m 0 c).flushed 3 t = ((cfg0.win 3).blk t).view.read (Elt Ideal) (convolved m c) := by
  rw [Cert.ConvFwdKernelIdeal.Value.flushed3, out_eq]
  funext y
  rw [View.read_apply]
  have h := pay_apply (X := blockX m c t) (W := blockW m c t) (blk0 m c t) (blk1 m c t) (blk2 m c t)
    (⟨(y 0).val, (y 0).isLt⟩ : Fin 512) (⟨(y 1).val, (y 1).isLt⟩ : Fin 512)
  rw [coord1] at h
  have e0 : (((cfg0.win 3).blk t).view.emb y 0).val = 512 * (t.val % 16) + (y 0).val := by
    show win0_3.index t 0 * 512 + 1 * (y 0).val = _
    rw [(index3 t).1]; omega
  have e1 : (((cfg0.win 3).blk t).view.emb y 1).val = 512 * (t.val / 16) + (y 1).val := by
    show win0_3.index t 1 * 512 + 1 * (y 1).val = _
    rw [(index3 t).2]; omega
  have hx : (cfg0.win 3).xinj (grid0.coords t) y = ix2 (⟨(y 0).val, (y 0).isLt⟩ : Fin 512) (⟨(y 1).val, (y 1).isLt⟩ : Fin 512) := by
    funext a
    match a with
    | ⟨0, _⟩ => rfl
    | ⟨1, _⟩ => rfl
  refine (congrArg (k0_pay1 (grid0.coords t) (iblk m c 0 t) (iblk m c 1 t) (iblk m c 2 t)) hx).trans (h.trans ?_)
  refine Eq.trans ?_ (cast_eq _ _).symm
  unfold convolved
  rw [e0, e1]
  rfl

theorem covered (i : S8192x6144.Idx) : ∃ t : Fin cfg0.N, (cfg0.win 3).flush t = true ∧ i ∈ ((cfg0.win 3).blk t).view.set := by
  have hi0 : (i 0).val < 8192 := (i 0).isLt
  have hi1 : (i 1).val < 6144 := (i 1).isLt
  have hN : cfg0.N = 192 := N_0
  refine ⟨⟨16 * ((i 1).val / 512) + (i 0).val / 512, by omega⟩, flush0_3 _, ?_⟩
  generalize ht : (⟨16 * ((i 1).val / 512) + (i 0).val / 512, _⟩ : Fin cfg0.N) = t
  have htv : t.val = 16 * ((i 1).val / 512) + (i 0).val / 512 := by rw [← ht]
  show i ∈ ((View.whole main_v0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [(index3 t).1]; omega
  | ⟨1, _⟩ =>
    show win0_3.index t (1 : Fin 2) * 512 ≤ (i 1).val ∧ (i 1).val < win0_3.index t (1 : Fin 2) * 512 + 512
    rw [(index3 t).2]; omega

/-- The kernel's run leaves the convolution in its result. -/
theorem run (ρ : Dev nD → PrngReg) : θ_run defs (onTc (τ := τ) (main (F := Ideal))) ⟨m, fun _ => 0, ρ⟩ fun r => ∀ c : Dev nD,
    r.2.mem ((c : Thread nD τ).loc main_v0) = convolved m c :=
  (θ_run defs _ _).mono (fun r h c => ((h c).1 3).trans
    ((dats m 0 c).arrAt_eq_of_cover 3 _ (fun t hf => flushed m c t hf) covered)) (run_main m ρ)
end

/-! ## The reference -/

section
open Cert.ConvFwdReferenceIdeal.Read

variable (p : Vec Ideal S8192x20480 .f32) (w : Vec Ideal S4x6144 .f32)

theorem zero_bits : FloatOps.ofBits (F := Ideal) .f32 0x00000000#32 = 0 := by simp

/-- The three zero rows and the projections after them. -/
theorem ref_x (i : Cert.ConvFwdReferenceIdeal.S8195x6144.Idx) (t j : ℕ) (h : (i 0).val + j = t + 3) (hj : j ≤ 3) :
    val_main_v2 (F := Ideal) p i = late (input p) j t (i 1).val := Cert.ConvKernelIdeal.Conv.ref_x p i t j h hj

theorem reference_eq (i : S8192x6144.Idx) : val_main_v31 (F := Ideal) p w i = conv (at2 w) (input p) (i 0).val (i 1).val := by
  have w0 : val_main_v7 (F := Ideal) w i = at2 w 0 (i 1).val := by
    rw [val_main_v7_apply, val_main_v6_apply, val_main_v4_apply, val_main_v3_apply]
    exact at2_eq w _ rfl (Nat.mod_eq_of_lt (i 1).isLt)
  have w1 : val_main_v15 (F := Ideal) w i = at2 w 1 (i 1).val := by
    rw [val_main_v15_apply, val_main_v14_apply, val_main_v12_apply, val_main_v11_apply]
    exact at2_eq w _ rfl (Nat.mod_eq_of_lt (i 1).isLt)
  have w2 : val_main_v22 (F := Ideal) w i = at2 w 2 (i 1).val := by
    rw [val_main_v22_apply, val_main_v21_apply, val_main_v19_apply, val_main_v18_apply]
    exact at2_eq w _ rfl (Nat.mod_eq_of_lt (i 1).isLt)
  have w3 : val_main_v29 (F := Ideal) w i = at2 w 3 (i 1).val := by
    rw [val_main_v29_apply, val_main_v28_apply, val_main_v26_apply, val_main_v25_apply]
    exact at2_eq w _ rfl (Nat.mod_eq_of_lt (i 1).isLt)
  have x0 := (val_main_v27_apply p i).trans (ref_x p _ (i 0).val 0 (by show 3 + (i 0).val + 0 = _; omega) (by omega))
  have x1 := (val_main_v20_apply p i).trans (ref_x p _ (i 0).val 1 (by show 2 + (i 0).val + 1 = _; omega) (by omega))
  have x2 := (val_main_v13_apply p i).trans (ref_x p _ (i 0).val 2 (by show 1 + (i 0).val + 2 = _; omega) (by omega))
  have x3 := (val_main_v5_apply p i).trans (ref_x p _ (i 0).val 3 (by show (i 0).val + 3 = _; omega) (by omega))
  rw [val_main_v31_apply, val_main_v24_apply, val_main_v17_apply, val_main_v10_apply, val_main_v9_apply, val_main_cst_0_apply,
    val_main_v8_apply, val_main_v16_apply, val_main_v23_apply, val_main_v30_apply, w0, w1, w2, w3, x0, x1, x2, x3, zero_bits, conv]
  show 0 + at2 w 0 (i 1).val * late (input p) 3 (i 0).val (i 1).val + at2 w 1 (i 1).val * late (input p) 2 (i 0).val (i 1).val
    + at2 w 2 (i 1).val * late (input p) 1 (i 0).val (i 1).val + at2 w 3 (i 1).val * late (input p) 0 (i 0).val (i 1).val = _
  rw [zero_add]
  ac_rfl
end

/-- Over the reals, the kernel's convolution is the reference's. -/
theorem values : Cert.algebraic_ConvFwdKernelIdeal_ConvFwdReferenceIdeal := fun m g m' g' _ hm =>
  ⟨fun c => convolved m c,
    (θ_run defs _ _).mono (fun r h c => ⟨h.1 c, h.2 c⟩) (θ_run_and (run m g) (unchanged m g)),
    (θ_run Cert.ConvFwdReferenceIdeal.defs _ _).mono (fun r h c =>
        ⟨(h c).1.trans ((Cert.ConvFwdReferenceIdeal.Read.val_main_v31_eq _ _).trans (by
          rw [(hm c).1, (hm c).2]
          exact funext fun i => reference_eq _ _ i)), (h c).2⟩)
        (Cert.ConvFwdReferenceIdeal.Value.run (F := Ideal) m' g')⟩

end Cert.ConvFwdKernelIdeal.Conv
end
end
-- ==== Proof.Mod.lean ====
module

public import proofs.«01_k».proof.Defs
public import proofs.«01_k».proof.Proof.Reals
public import proofs.«01_k».proof.Proof.Products
public import proofs.«01_k».proof.Proof.DwAda
public import proofs.«01_k».proof.Proof.Gen.ModKernelIdeal.Value
public import proofs.«01_k».proof.Proof.Gen.ModReferenceIdeal.Run
public import proofs.«01_k».proof.Proof.Gen.ModReferenceIdeal.Read
public import Idealize.ShloMosaic.Lib.Pipeline.Value
public import Idealize.ShloMosaic.Lib.VecWindow
public import Idealize.ShloMosaic.Lib.Pointwise

/-! The modulation: the eight devices' conditions, through the SiLU, times the weight, and the bias. -/

@[expose] public section

noncomputable section

namespace Cert.ModKernelIdeal.Modulation

open Idealize.ShloMosaic Idealize.ShloMosaic.TcCoe Cert.ModKernelIdeal.Gen Cert.ModKernelIdeal
open Idealize.SL Idealize.SL.Sem
open Cert.Mm Cert.DwAdaKernelIdeal.Mm Finset

theorem pay_apply (x : Vec Ideal S8x2048 .f32) (w : Vec Ideal S2048x512 .f32) (b : Vec Ideal S1x512 .f32) (r : Fin 8) (q : Fin 512) :
    k0_pay1 x w b (ix2 r q) = (∑ k : Fin 2048, silu (x (ix2 r k)) * w (ix2 k q)) + b (ix2 0 q) := by
  simp only [k0_pay1]
  pointwise
  refine congrArg₂ (· + ·) (sum_congr rfl fun k _ => ?_) rfl
  rw [silu, ← sigmoid_eq]
  by_cases h : 0 ≤ x (ix2 r k) <;> simp [h] <;> rfl

/-! ## The kernel's result -/

theorem index0 : ∀ t : Fin grid0.N, win0_0.index t (0 : Fin 2) = 0 ∧ win0_0.index t (1 : Fin 2) = 0 := by decide +kernel
theorem index1 : ∀ t : Fin grid0.N, win0_1.index t (0 : Fin 2) = 0 ∧ win0_1.index t (1 : Fin 2) = t.val := by decide +kernel
theorem index2 : ∀ t : Fin grid0.N, win0_2.index t (0 : Fin 2) = 0 ∧ win0_2.index t (1 : Fin 2) = t.val := by decide +kernel
theorem index3 : ∀ t : Fin grid0.N, win0_3.index t (0 : Fin 2) = 0 ∧ win0_3.index t (1 : Fin 2) = t.val := by decide +kernel

section
variable (m : (ℓ : Loc nD τ sig) → Buf (Elt Ideal) ℓ) (c : Dev nD)

/-- The conditions. -/
abbrev X : Vec Ideal S8x2048 .f32 := m ((c : Thread nD τ).loc main_arg0)
/-- The weight. -/
abbrev W : Vec Ideal S2048x1536 .f32 := m ((c : Thread nD τ).loc main_arg1)
/-- The bias. -/
abbrev B : Vec Ideal S1x1536 .f32 := m ((c : Thread nD τ).loc main_arg2)

theorem blk0 (t : Fin cfg0.N) (r : Fin 8) (k : Fin 2048) : iblk m c 0 t (ix2 r k) = at2 (X m c) r k := by
  unfold iblk
  rw [View.read_apply]
  refine Eq.trans (at2_eq (V m c main_arg0) _ (r := r) (c := k.val) ?_ ?_) ?_
  · show win0_0.index t 0 * 8 + 1 * r.val = _
    rw [(index0 t).1]; omega
  · show win0_0.index t 1 * 2048 + 1 * k.val = _
    rw [(index0 t).2]; omega
  · rw [V_main_arg0]

theorem blk1 (t : Fin cfg0.N) (k : Fin 2048) (q : Fin 512) : iblk m c 1 t (ix2 k q) = at2 (W m c) k (512 * t.val + q) := by
  unfold iblk
  rw [View.read_apply]
  refine Eq.trans (at2_eq (V m c main_arg1) _ (r := k) (c := 512 * t.val + q) ?_ ?_) ?_
  · show win0_1.index t 0 * 2048 + 1 * k.val = _
    rw [(index1 t).1]; omega
  · show win0_1.index t 1 * 512 + 1 * q.val = _
    rw [(index1 t).2]; omega
  · rw [V_main_arg1]

theorem blk2 (t : Fin cfg0.N) (q : Fin 512) : iblk m c 2 t (ix2 (0 : Fin 1) q) = at2 (B m c) 0 (512 * t.val + q) := by
  unfold iblk
  rw [View.read_apply]
  refine Eq.trans (at2_eq (V m c main_arg2) _ (r := 0) (c := 512 * t.val + q) ?_ ?_) ?_
  · show win0_2.index t 0 * 1 + 1 * 0 = _
    rw [(index2 t).1]
  · show win0_2.index t 1 * 512 + 1 * q.val = _
    rw [(index2 t).2]; omega
  · rw [V_main_arg2]

/-- The modulations. -/
def modulation : Vec Ideal S8x1536 .f32 := fun i =>
  (∑ k : Fin 2048, silu (at2 (X m c) (i 0).val k) * at2 (W m c) k (i 1).val) + at2 (B m c) 0 (i 1).val

theorem zeros : (![0, 0] : Fin 2 → ℕ) = fun _ => 0 := funext fun a => match a with
  | ⟨0, _⟩ => rfl
  | ⟨1, _⟩ => rfl

/-- The one store of a point leaves its payload, and its loads read whole blocks. -/
theorem out_eq (x : Vec Ideal S8x2048 .f32) (w : Vec Ideal S2048x512 .f32) (b : Vec Ideal S1x512 .f32) : out0_3 x w b = k0_pay1 x w b := by
  unfold out0_3
  rw [View.canon_unit_zero zeros, View.ld_unit_zero (S := S8x2048) zeros _ x, View.ld_unit_zero (S := S2048x512) zeros _ w,
    View.ld_unit_zero (S := S1x512) zeros _ b]

theorem flushed (t : Fin cfg0.N) (_ : (cfg0.win 3).flush t = true) :
    (dats m 0 c).flushed 3 t = ((cfg0.win 3).blk t).view.read (Elt Ideal) (modulation m c) := by
  rw [Cert.ModKernelIdeal.Value.flushed3, out_eq]
  funext y
  rw [View.read_apply]
  have h := pay_apply (iblk m c 0 t) (iblk m c 1 t) (iblk m c 2 t) (⟨(y 0).val, (y 0).isLt⟩ : Fin 8) (⟨(y 1).val, (y 1).isLt⟩ : Fin 512)
  have e0 : (((cfg0.win 3).blk t).view.emb y 0).val = (y 0).val := by
    show win0_3.index t 0 * 8 + 1 * (y 0).val = _
    rw [(index3 t).1]; omega
  have e1 : (((cfg0.win 3).blk t).view.emb y 1).val = 512 * t.val + (y 1).val := by
    show win0_3.index t 1 * 512 + 1 * (y 1).val = _
    rw [(index3 t).2]; omega
  have hx : (cfg0.win 3).xinj (grid0.coords t) y = ix2 (⟨(y 0).val, (y 0).isLt⟩ : Fin 8) (⟨(y 1).val, (y 1).isLt⟩ : Fin 512) := by
    funext a
    match a with
    | ⟨0, _⟩ => rfl
    | ⟨1, _⟩ => rfl
  refine (congrArg (k0_pay1 (iblk m c 0 t) (iblk m c 1 t) (iblk m c 2 t)) hx).trans (h.trans ?_)
  refine Eq.trans ?_ (cast_eq _ _).symm
  unfold modulation
  rw [e0, e1, blk2]
  exact congrArg₂ (· + ·) (sum_congr rfl fun k _ => by rw [blk0, blk1]) rfl

theorem covered (i : S8x1536.Idx) : ∃ t : Fin cfg0.N, (cfg0.win 3).flush t = true ∧ i ∈ ((cfg0.win 3).blk t).view.set := by
  have hi0 : (i 0).val < 8 := (i 0).isLt
  have hi1 : (i 1).val < 1536 := (i 1).isLt
  have hN : cfg0.N = 3 := N_0
  refine ⟨⟨(i 1).val / 512, by omega⟩, flush0_3 _, ?_⟩
  generalize ht : (⟨(i 1).val / 512, _⟩ : Fin cfg0.N) = t
  have htv : t.val = (i 1).val / 512 := by rw [← ht]
  show i ∈ ((View.whole main_v0).slice (win0_3.rect t)).set
  rw [View.set_slice_whole, Rect.mem_set_unit]
  intro a
  match a with
  | ⟨0, _⟩ =>
    show win0_3.index t (0 : Fin 2) * 8 ≤ (i 0).val ∧ (i 0).val < win0_3.index t (0 : Fin 2) * 8 + 8
    rw [(index3 t).1]; omega
  | ⟨1, _⟩ =>
    show win0_3.index t (1 : Fin 2) * 512 ≤ (i 1).val ∧ (i 1).val < win0_3.index t (1 : Fin 2) * 512 + 512
    rw [(index3 t).2]; omega

/-- The kernel's run leaves the modulations in its result. -/
theorem run (ρ : Dev nD → PrngReg) : θ_run defs (onTc (τ := τ) (main (F := Ideal))) ⟨m, fun _ => 0, ρ⟩ fun r => ∀ c : Dev nD,
    r.2.mem ((c : Thread nD τ).loc main_v0) = modulation m c :=
  (θ_run defs _ _).mono (fun r h c => ((h c).1 3).trans
    ((dats m 0 c).arrAt_eq_of_cover 3 _ (fun t hf => flushed m c t hf) covered)) (run_main m ρ)
end

/-! ## The reference -/

section
open Cert.ModReferenceIdeal.Read

variable (x : Vec Ideal S8x2048 .f32) (w : Vec Ideal S2048x1536 .f32) (b : Vec Ideal S1x1536 .f32)

theorem ref_silu (i : S8x2048.Idx) : val_main_v0 (F := Ideal) x i = silu (x i) := by
  rw [val_main_v0_apply, val_main_call0_v5_apply, val_main_call0_v4_apply, val_main_call0_cst_0_apply, val_main_call0_v3_apply,
    val_main_call0_v2_apply, val_main_call0_cst_apply, show FloatOps.ofBits (F := Ideal) .f32 0x3F800000#32 = 1 by simp]
  rfl

theorem reference_eq (i : S8x1536.Idx) : val_main_v5 (F := Ideal) x w b i
    = (∑ k : Fin 2048, silu (at2 x (i 0).val k) * at2 w k (i 1).val) + at2 b 0 (i 1).val := by
  rw [val_main_v5_apply, val_main_v1_apply, val_main_v4_apply, val_main_v3_apply, val_main_v2_apply]
  refine congrArg₂ (· + ·) (sum_congr rfl fun k _ => ?_) (at2_eq b _ rfl (Nat.mod_eq_of_lt (i 1).isLt))
  rw [ref_silu, at2_eq x _ rfl rfl, at2_eq w _ rfl rfl]
end

/-- Over the reals, the kernel's modulations are the reference's. -/
theorem values : Cert.algebraic_ModKernelIdeal_ModReferenceIdeal := fun m g m' g' _ hm =>
  ⟨fun c => modulation m c,
    (θ_run defs _ _).mono (fun r h c => ⟨h.1 c, h.2 c⟩) (θ_run_and (run m g) (unchanged m g)),
    (θ_run Cert.ModReferenceIdeal.defs _ _).mono (fun r h c =>
        ⟨(h c).1.trans ((Cert.ModReferenceIdeal.Read.val_main_v5_eq _ _ _).trans (by
          rw [(hm c).1, (hm c).2.1, (hm c).2.2]
          exact funext fun i => reference_eq _ _ _ i)), (h c).2⟩)
        (Cert.ModReferenceIdeal.Value.run (F := Ideal) m' g')⟩

end Cert.ModKernelIdeal.Modulation
end
end
-- ==== Proof.Merge.lean ====
module

public import proofs.«01_k».proof.Defs
public import proofs.«01_k».proof.Proof.DwAda
public import proofs.«01_k».proof.Proof.Gen.MergeKernelIdeal.Value
public import proofs.«01_k».proof.Proof.Gen.MergeReferenceIdeal.Run
public import proofs.«01_k».proof.Proof.Gen.MergeReferenceIdeal.Read

/-! The merge of the two branches by their gates: entry by entry, the logistic function of a gate times its branch. -/

@[expose] public section

noncomputable section

namespace Cert.MergeKernelIdeal.Merge

open Idealize.ShloMosaic Idealize.ShloMosaic.TcCoe Cert.MergeKernelIdeal
open Idealize.SL Idealize.SL.Sem
open Cert.DwAdaKernelIdeal.Mm

/-- The kernel's gate, as its operations are read over the reals. -/
theorem gate_eq (x : Ideal .f32) :
    Scalar.select (FloatOps.cmpf .oge x (Scalar.ofBits (F := Ideal) .f32 0x00000000#32))
      (FloatOps.divf (Scalar.ofBits .f32 0x3F800000#32) (FloatOps.addf (Scalar.ofBits .f32 0x3F800000#32)
        (FloatOps.exp (FloatOps.subf (Scalar.ofBits .f32 0x00000000#32) (FloatOps.absf x)))))
      (FloatOps.divf (FloatOps.exp (FloatOps.subf (Scalar.ofBits .f32 0x00000000#32) (FloatOps.absf x)))
        (FloatOps.addf (Scalar.ofBits .f32 0x3F800000#32)
          (FloatOps.exp (FloatOps.subf (Scalar.ofBits .f32 0x00000000#32) (FloatOps.absf x))))) = Ideal.logistic x := by
  rw [show Scalar.ofBits (F := Ideal) .f32 0x00000000#32 = (0 : EReal) by simp,
    show Scalar.ofBits (F := Ideal) .f32 0x3F800000#32 = (1 : EReal) by simp, ← sigmoid_eq]
  show Scalar.select (Ideal.cmp .oge x 0) (Ideal.div 1 (1 + Ideal.exp (0 - max (x : EReal) (-x))))
    (Ideal.div (Ideal.exp (0 - max (x : EReal) (-x))) (1 + Ideal.exp (0 - max (x : EReal) (-x)))) = _
  rw [zero_sub]
  by_cases h : (0 : EReal) ≤ x <;> simp [h, Ideal.cmp, Scalar.select]

/-- The reference's gate. -/
theorem ref_gate (x : Ideal .f32) :
    FloatOps.hostDivf (FloatOps.ofBits (F := Ideal) .f32 0x3F800000#32) (FloatOps.addf (FloatOps.ofBits .f32 0x3F800000#32)
      (FloatOps.hostUnary .exp (FloatOps.hostNegf x))) = Ideal.logistic x := by
  rw [show FloatOps.ofBits (F := Ideal) .f32 0x3F800000#32 = 1 by simp]
  rfl

section
open Cert.MergeReferenceIdeal.Read

theorem reference_eq (x : Vec Ideal S8192x20480 .f32) (p q : Vec Ideal S8192x2048 .f32) :
    val_main_v17 (F := Ideal) x p q = Value.G4 x x p q := by
  funext i
  rw [val_main_v17_apply, val_main_v16_apply, val_main_v8_apply, val_main_v7_apply, val_main_v6_apply, val_main_cst_0_apply,
    val_main_v5_apply, val_main_v4_apply, val_main_cst_apply, val_main_v3_apply, val_main_v2_apply, val_main_v0_apply, ref_gate,
    val_main_v15_apply, val_main_v14_apply, val_main_v13_apply, val_main_cst_2_apply, val_main_v12_apply, val_main_v11_apply,
    val_main_cst_1_apply, val_main_v10_apply, val_main_v9_apply, val_main_v1_apply, ref_gate]
  have h0 : idx_main_v0 i = Value.inIdx4_0 i := by
    funext a
    match a with
    | ⟨0, _⟩ => apply Fin.ext; simp
    | ⟨1, _⟩ => apply Fin.ext; simp; omega
  have h1 : idx_main_v1 i = Value.inIdx4_1 i := by
    funext a
    match a with
    | ⟨0, _⟩ => apply Fin.ext; simp
    | ⟨1, _⟩ => apply Fin.ext; simp; omega
  rw [h0, h1, ← gate_eq, ← gate_eq]
end

/-- Over the reals, the kernel's merge is the reference's. -/
theorem values : Cert.algebraic_MergeKernelIdeal_MergeReferenceIdeal := fun m g m' g' _ hm =>
  ⟨_, Value.run m g, (θ_run Cert.MergeReferenceIdeal.defs _ _).mono (fun r h c =>
      have e := hm c
      ⟨(h c).1.trans ((Cert.MergeReferenceIdeal.Read.val_main_v17_eq _ _ _).trans (by
        rw [e.1, e.2.1, e.2.2]
        exact reference_eq _ _ _)), (h c).2⟩)
    (Cert.MergeReferenceIdeal.Value.run (F := Ideal) m' g')⟩

end Cert.MergeKernelIdeal.Merge
end
end
-- ==== Proof.MergeBwd.lean ====
module

public import proofs.«01_k».proof.Defs
public import proofs.«01_k».proof.Proof.Agree
public import proofs.«01_k».proof.Proof.Merge
public import proofs.«01_k».proof.Proof.Gen.MergeBwdKernelIdeal.Value
public import proofs.«01_k».proof.Proof.Gen.MergeBwdReferenceIdeal.Run
public import proofs.«01_k».proof.Proof.Gen.MergeBwdReferenceIdeal.Read
public import Idealize.ShloMosaic.Lib.Pipeline.Value
public import Idealize.ShloMosaic.Lib.VecWindow
public import Idealize.ShloMosaic.Lib.Pointwise

/-! The merge's gradient: the gates' and the branches' gradients, entry by entry. -/

@[expose] public section

noncomputable section

namespace Cert.MergeBwdKernelIdeal.Merge

open Idealize.ShloMosaic Idealize.ShloMosaic.TcCoe Cert.MergeBwdKernelIdeal.Gen Cert.MergeBwdKernelIdeal
open Idealize.SL Idealize.SL.Sem
open Cert.Mm Cert.MergeKernelIdeal.Merge

/-! ## The gate's gradient -/

/-- The gradient of the gate's exponential: `e` is the exponential, `c` the gradient that reaches the gate, split by the gate's sign. -/
def expGrad (z o e u v : Ideal .f32) : Ideal .f32 :=
  FloatOps.addf (FloatOps.addf
      (FloatOps.subf z (FloatOps.mulf (FloatOps.mulf u (FloatOps.divf o (FloatOps.mulf (FloatOps.addf o e) (FloatOps.addf o e)))) e))
      (FloatOps.divf u (FloatOps.addf o e)))
    (FloatOps.subf z (FloatOps.mulf (FloatOps.mulf v (FloatOps.divf o (FloatOps.mulf (FloatOps.addf o e) (FloatOps.addf o e)))) o))

/-- The gradient the kernel's operations give a gate of sign bit `b`. -/
def signGrad (b : BitVec 1) (z o e c : Ideal .f32) : Ideal .f32 :=
  FloatOps.addf
    (Scalar.select b (FloatOps.subf z (FloatOps.mulf (expGrad z o e (Scalar.select b z c) (Scalar.select b c z)) e)) z)
    (FloatOps.subf z (Scalar.select b z
      (FloatOps.subf z (FloatOps.mulf (expGrad z o e (Scalar.select b z c) (Scalar.select b c z)) e))))

/-- The kernel's gradient of a gate `x`, where `c` reaches it. -/
def gateGrad (x c : Ideal .f32) : Ideal .f32 :=
  signGrad (FloatOps.cmpf .oge x (Scalar.ofBits (F := Ideal) .f32 0x00000000#32)) (Scalar.ofBits (F := Ideal) .f32 0x00000000#32)
    (Scalar.ofBits (F := Ideal) .f32 0x3F800000#32)
    (FloatOps.exp (FloatOps.subf (Scalar.ofBits (F := Ideal) .f32 0x00000000#32) (FloatOps.absf x))) c

theorem div_coe (a b : ℝ) (hb : 0 < b) : Ideal.div (a : EReal) (b : EReal) = ((a * b⁻¹ : ℝ) : EReal) := by
  rw [Ideal.div, if_neg (by exact_mod_cast hb.ne'), ← EReal.coe_inv, ← EReal.coe_mul]

/-- The exponential's gradient at real numbers. -/
theorem expGrad_coe (e u v : ℝ) (he : 0 ≤ e) : expGrad (0 : EReal) (1 : EReal) (e : EReal) (u : EReal) (v : EReal)
    = (((0 - u * (1 * ((1 + e) * (1 + e))⁻¹) * e + u * (1 + e)⁻¹) + (0 - v * (1 * ((1 + e) * (1 + e))⁻¹) * 1) : ℝ) : EReal) := by
  show ((0 : EReal) - (u : EReal) * Ideal.div 1 ((1 + (e : EReal)) * (1 + (e : EReal))) * (e : EReal)
    + Ideal.div (u : EReal) (1 + (e : EReal)))
    + (0 - (v : EReal) * Ideal.div 1 ((1 + (e : EReal)) * (1 + (e : EReal))) * 1) = _
  have hp : 0 < 1 + e := by positivity
  rw [← EReal.coe_zero, ← EReal.coe_one, ← EReal.coe_add, ← EReal.coe_mul, div_coe _ _ (mul_pos hp hp), div_coe _ _ hp]
  simp only [← EReal.coe_mul, ← EReal.coe_sub, ← EReal.coe_add]

/-- The gate's gradient at real numbers: the same whatever the gate's sign. -/
theorem signGrad_coe (b : BitVec 1) (e c : ℝ) (he : 0 ≤ e) : signGrad b (0 : EReal) (1 : EReal) (e : EReal) (c : EReal)
    = ((c * (e * ((1 + e) * (1 + e))⁻¹) : ℝ) : EReal) := by
  have hp : 1 + e ≠ 0 := by positivity
  have neg : ∀ a b : ℝ, FloatOps.subf (F := Ideal) (φ := .f32) (0 : EReal) (FloatOps.mulf (F := Ideal) (φ := .f32) (a : EReal) (b : EReal))
      = ((0 - a * b : ℝ) : EReal) := fun a b => by
    show (0 : EReal) - (a : EReal) * (b : EReal) = _
    rw [← EReal.coe_mul, ← EReal.coe_zero, ← EReal.coe_sub]
  unfold signGrad
  by_cases hb : b = 1#1
  · have s : ∀ x y : Ideal .f32, Scalar.select b x y = x := fun x y => if_pos hb
    simp only [s]
    have h := expGrad_coe e 0 c he
    rw [EReal.coe_zero] at h
    rw [h, neg]
    show (((0 - _ * e : ℝ)) : EReal) + ((0 : EReal) - 0) = _
    rw [sub_zero, add_zero]
    congr 1
    field_simp
    ring
  · have s : ∀ x y : Ideal .f32, Scalar.select b x y = y := fun x y => if_neg hb
    simp only [s]
    have h := expGrad_coe e c 0 he
    rw [EReal.coe_zero] at h
    rw [h, neg]
    show (0 : EReal) + ((0 : EReal) - ((0 - _ * e : ℝ) : EReal)) = _
    rw [zero_add, ← EReal.coe_zero, ← EReal.coe_sub]
    congr 1
    field_simp
    ring

/-- The kernel's gradient of a gate is the logistic function's derivative times what reaches it, a real number. -/
theorem gateGrad_eq (x : Ideal .f32) (c : ℝ) : gateGrad x (c : EReal) = (c : EReal) * (Ideal.logistic x * (1 - Ideal.logistic x)) := by
  unfold gateGrad
  rw [show Scalar.ofBits (F := Ideal) .f32 0x00000000#32 = (0 : EReal) by simp,
    show Scalar.ofBits (F := Ideal) .f32 0x3F800000#32 = (1 : EReal) by simp]
  show signGrad (Ideal.cmp .oge x 0) (0 : EReal) (1 : EReal) (Ideal.exp (0 - max (x : EReal) (-x))) c = _
  rw [zero_sub]
  generalize Ideal.cmp .oge x 0 = b
  induction x using EReal.rec with
  | bot =>
    rw [show Ideal.exp (-max (⊥ : EReal) (-⊥)) = ((0 : ℝ) : EReal) by simp, signGrad_coe _ _ _ le_rfl]
    simp
  | top =>
    have h : (1 : EReal) - 1 = 0 := by rw [← EReal.coe_one, ← EReal.coe_sub, sub_self, EReal.coe_zero]
    rw [show Ideal.exp (-max (⊤ : EReal) (-⊤)) = ((0 : ℝ) : EReal) by simp, signGrad_coe _ _ _ le_rfl]
    simp [h]
  | coe r =>
    rw [Stick.abs_coe, ← EReal.coe_neg, Stick.exp_coe, signGrad_coe _ _ _ (Real.exp_pos _).le, Ideal.logistic_coe,
      ← EReal.coe_one, ← EReal.coe_sub, ← EReal.coe_mul, ← EReal.coe_mul]
    congr 2
    have he := Real.exp_pos r
    by_cases h : 0 ≤ r
    · rw [abs_of_nonneg h, Real.exp_neg]
      field_simp
      ring
    · rw [abs_of_neg (not_le.mp h), neg_neg, Real.exp_neg]
      field_simp
      ring

/-- A branch's gradient: its gate times what reaches the merge. -/
def branchGrad (x y : EReal) : EReal := Ideal.logistic x * y

theorem pay5_apply (x p y : Vec Ideal S512x512 .f32) (i : S512x512.Idx) :
    k0_pay1 (k0_pay5 x) (k0_pay6 x) (k0_pay9 x) (k0_pay10 x) (k0_pay26 p y (k0_pay7 x)) (k0_pay27 p y (k0_pay7 x))
      (k0_pay28 p y (k0_pay6 x) (k0_pay7 x) (k0_pay11 x)) i = gateGrad (x i) (FloatOps.mulf (y i) (p i)) := by
  simp only [k0_pay26, k0_pay27, k0_pay28, k0_pay24, k0_pay19, shapeCast_id]
  rfl

theorem pay6_apply (x p y : Vec Ideal S512x512 .f32) (i : S512x512.Idx) :
    k0_pay2 (k0_pay22 p y (k0_pay13 x) (k0_pay14 x) (k0_pay15 x) k0_pay16) i = gateGrad (x i) (FloatOps.mulf (y i) (p i)) := by
  simp only [k0_pay22, k0_pay20, shapeCast_id]
  rfl

theorem pay7_apply (x y : Vec Ideal S512x512 .f32) (i : S512x512.Idx) :
    k0_pay3 (k0_pay23 y (k0_pay12 x)) i = branchGrad (x i) (y i) := by
  rw [branchGrad, ← gate_eq]
  simp only [k0_pay23, k0_pay19, shapeCast_id]
  rfl

theorem pay8_apply (x y : Vec Ideal S512x512 .f32) (i : S512x512.Idx) :
    k0_pay4 (k0_pay21 y (k0_pay14 x) (k0_pay15 x) k0_pay16) i = branchGrad (x i) (y i) := by
  rw [branchGrad, ← gate_eq]
  simp only [k0_pay21, k0_pay20, shapeCast_id]
  rfl

/-! ## The kernel's results -/

theorem zeros : (![0, 0] : Fin 2 → ℕ) = fun _ => 0 := funext fun a => match a with
  | ⟨0, _⟩ => rfl
  | ⟨1, _⟩ => rfl

section
variable (x0 x1 x2 x3 x4 : Vec Ideal S512x512 .f32) (i : S512x512.Idx)

theorem out5_apply : out0_5 x0 x1 x2 x3 x4 i = gateGrad (x0 i) (FloatOps.mulf (x4 i) (x2 i)) := by
  unfold_out out0_5
  rw [View.canon_unit_zero zeros]
  simp only [View.ld_unit_zero (S := S512x512) zeros]
  exact pay5_apply _ _ _ _

theorem out6_apply : out0_6 x0 x1 x2 x3 x4 i = gateGrad (x1 i) (FloatOps.mulf (x4 i) (x3 i)) := by
  unfold_out out0_6
  rw [View.canon_unit_zero zeros]
  simp only [View.ld_unit_zero (S := S512x512) zeros]
  exact pay6_apply _ _ _ _

theorem out7_apply : out0_7 x0 x1 x2 x3 x4 i = branchGrad (x0 i) (x4 i) := by
  unfold_out out0_7
  rw [View.canon_unit_zero zeros]
  simp only [View.ld_unit_zero (S := S512x512) zeros]
  exact pay7_apply _ _ _

theorem out8_apply : out0_8 x0 x1 x2 x3 x4 i = branchGrad (x1 i) (x4 i) := by
  unfold_out out0_8
  rw [View.canon_unit_zero zeros]
  simp only [View.ld_unit_zero (S := S512x512) zeros]
  exact pay8_apply _ _ _
end

/-- A window over one of the arrays of 2048 columns holds a block of 512 rows and 512 columns. -/
theorem index : ∀ t : Fin grid0.N, (win0_2.index t (0 : Fin 2) = t.val / 4 ∧ win0_2.index t (1 : Fin 2) = t.val % 4)
    ∧ (win0_3.index t (0 : Fin 2) = t.val / 4 ∧ win0_3.index t (1 : Fin 2) = t.val % 4)
    ∧ (win0_4.index t (0 : Fin 2) = t.val / 4 ∧ win0_4.index t (1 : Fin 2) = t.val % 4) := by decide +kernel
theorem indexGate : ∀ t : Fin grid0.N, (win0_0.index t (0 : Fin 2) = t.val / 4 ∧ win0_0.index t (1 : Fin 2) = t.val % 4 + 32)
    ∧ (win0_1.index t (0 : Fin 2) = t.val / 4 ∧ win0_1.index t (1 : Fin 2) = t.val % 4 + 36) := by decide +kernel
theorem index5 : ∀ t : Fin grid0.N, win0_5.index t (0 : Fin 2) = t.val / 4 ∧ win0_5.index t (1 : Fin 2) = t.val % 4 := by decide +kernel
theorem index6 : ∀ t : Fin grid0.N, win0_6.index t (0 : Fin 2) = t.val / 4 ∧ win0_6.index t (1 : Fin 2) = t.val % 4 := by decide +kernel
theorem index7 : ∀ t : Fin grid0.N, win0_7.index t (0 : Fin 2) = t.val / 4 ∧ win0_7.index t (1 : Fin 2) = t.val % 4 := by decide +kernel
theorem index8 : ∀ t : Fin grid0.N, win0_8.index t (0 : Fin 2) = t.val / 4 ∧ win0_8.index t (1 : Fin 2) = t.val % 4 := by decide +kernel

section
variable (m : (ℓ : Loc nD τ sig) → Buf (Elt Ideal) ℓ) (c : Dev nD)

/-- The projection, whose columns from 16384 are the gates. -/
abbrev X : Vec Ideal S8192x20480 .f32 := m ((c : Thread nD τ).loc main_arg0)
/-- The attention's branch. -/
abbrev P : Vec Ideal S8192x2048 .f32 := m ((c : Thread nD τ).loc main_arg1)
/-- The other branch. -/
abbrev Q : Vec Ideal S8192x2048 .f32 := m ((c : Thread nD τ).loc main_arg2)
/-- The merge's gradient. -/
abbrev Y : Vec Ideal S8192x2048 .f32 := m ((c : Thread nD τ).loc main_arg3)

theorem blk0 (t : Fin cfg0.N) (y : S512x512.Idx) :
    iblk m c 0 t y = at2 (X m c) (512 * (t.val / 4) + (y 0).val) (16384 + (512 * (t.val % 4) + (y 1).val)) := by
  unfold iblk
  rw [View.read_apply]
  refine Eq.trans (at2_eq (V m c main_arg0) _ (r := 512 * (t.val / 4) + (y 0).val) (c := 16384 + (512 * (t.val % 4) + (y 1).val)) ?_ ?_) ?_
  · show win0_0.index t 0 * 512 + 1 * (y 0).val = _
    rw [(indexGate t).1.1]; omega
  · show win0_0.index t 1 * 512 + 1 * (y 1).val = _
    rw [(indexGate t).1.2]; omega
  · rw [V_main_arg0]

theorem blk1 (t : Fin cfg0.N) (y : S512x512.Idx) :
    iblk m c 1 t y = at2 (X m c) (512 * (t.val / 4) + (y 0).val) (18432 + (512 * (t.val % 4) + (y 1).val)) := by
  unfold iblk
  rw [View.read_apply]
  refine Eq.trans (at2_eq (V m c main_arg0) _ (r := 512 * (t.val / 4) + (y 0).val) (c := 18432 + (512 * (t.val % 4) + (y 1).val)) ?_ ?_) ?_
  · show win0_1.index t 0 * 512 + 1 * (y 0).val = _
    rw [(indexGate t).2.1]; omega
  · show win0_1.index t 1 * 512 + 1 * (y 1).val = _
    rw [(indexGate t).2.2]; omega
  · rw [V_main_arg0]

theorem blk2 (t : Fin cfg0.N) (y : S512x512.Idx) :
    iblk m c 2 t y = at2 (P m c) (512 * (t.val / 4) + (y 0).val) (512 * (t.val % 4) + (y 1).val) := by
  unfold iblk
  rw [View.read_apply]
  refine Eq.trans (at2_eq (V m c main_arg1) _ (r := 512 * (t.val / 4) + (y 0).val) (c := 512 * (t.val % 4) + (y 1).val) ?_ ?_) ?_
  · show win0_2.index t 0 * 512 + 1 * (y 0).val = _
    rw [(index t).1.1]; omega
  · show win0_2.index t 1 * 512 + 1 * (y 1).val = _
    rw [(index t).1.2]; omega
  · rw [V_main_arg1]

theorem blk3 (t : Fin cfg0.N) (y : S512x512.Idx) :
    iblk m c 3 t y = at2 (Q m c) (512 * (t.val / 4) + (y 0).val) (512 * (t.val % 4) + (y 1).val) := by
  unfold iblk
  rw [View.read_apply]
  refine Eq.trans (at2_eq (V m c main_arg2) _ (r := 512 * (t.val / 4) + (y 0).val) (c := 512 * (t.val % 4) + (y 1).val) ?_ ?_) ?_
  · show win0_3.index t 0 * 512 + 1 * (y 0).val = _
    rw [(index t).2.1.1]; omega
  · show win0_3.index t 1 * 512 + 1 * (y 1).val = _
    rw [(index t).2.1.2]; omega
  · rw [V_main_arg2]

theorem blk4 (t : Fin cfg0.N) (y : S512x512.Idx) :
    iblk m c 4 t y = at2 (Y m c) (512 * (t.val / 4) + (y 0).val) (512 * (t.val % 4) + (y 1).val) := by
  unfold iblk
  rw [View.read_apply]
  refine Eq.trans (at2_eq (V m c main_arg3) _ (r := 512 * (t.val / 4) + (y 0).val) (c := 512 * (t.val % 4) + (y 1).val) ?_ ?_) ?_
  · show win0_4.index t 0 * 512 + 1 * (y 0).val = _
    rw [(index t).2.2.1]; omega
  · show win0_4.index t 1 * 512 + 1 * (y 1).val = _
    rw [(index t).2.2.2]; omega
  · rw [V_main_arg3]

/-- A gate's gradient, from the gates at columns `g` of the projection and the branch `p`. -/
def gates (g : ℕ) (x : Vec Ideal S8192x20480 .f32) (p y : Vec Ideal S8192x2048 .f32) : Vec Ideal S8192x2048 .bf16 := fun i =>
  gateGrad (at2 x (i 0).val (g + (i 1).val)) (FloatOps.mulf (φ := .f32) (at2 y (i 0).val (i 1).val) (at2 p (i 0).val (i 1).val))

/-- A branch's gradient, from the gates at columns `g` of the projection. -/
def branch (g : ℕ) (x : Vec Ideal S8192x20480 .f32) (y : Vec Ideal S8192x2048 .f32) : Vec Ideal S8192x2048 .bf16 := fun i =>
  branchGrad (at2 x (i 0).val (g + (i 1).val)) (at2 y (i 0).val (i 1).val)

theorem flush5 (t : Fin cfg0.N) (_ : (cfg0.win 5).flush t = true) :
    (dats m 0 c).flushed 5 t = ((cfg0.win 5).blk t).view.read (Elt Ideal) (gates 16384 (X m c) (P m c) (Y m c)) := by
  rw [Cert.MergeBwdKernelIdeal.Value.flushed5]
  funext y
  rw [View.read_apply]
  have e0 : (((cfg0.win 5).blk t).view.emb y 0).val = 512 * (t.val / 4) + (y 0).val := by
    show win0_5.index t 0 * 512 + 1 * (y 0).val = _
    rw [(index5 t).1]; omega
  have e1 : (((cfg0.win 5).blk t).view.emb y 1).val = 512 * (t.val % 4) + (y 1).val := by
    show win0_5.index t 1 * 512 + 1 * (y 1).val = _
    rw [(index5 t).2]; omega
  refine (out5_apply _ _ _ _ _ ((cfg0.win 5).xinj (grid0.coords t) y)).trans (Eq.trans ?_ (cast_eq _ _).symm)
  rw [blk0, blk2, blk4]
  unfold gates
  rw [e0, e1]

theorem flush6 (t : Fin cfg0.N) (_ : (cfg0.win 6).flush t = true) :
    (dats m 0 c).flushed 6 t = ((cfg0.win 6).blk t).view.read (Elt Ideal) (gates 18432 (X m c) (Q m c) (Y m c)) := by
  rw [Cert.MergeBwdKernelIdeal.Value.flushed6]
  funext y
  rw [View.read_apply]
  have e0 : (((cfg0.win 6).blk t).view.emb y 0).val = 512 * (t.val / 4) + (y 0).val := by
    show win0_6.index t 0 * 512 + 1 * (y 0).val = _
    rw [(index6 t).1]; omega
  have e1 : (((cfg0.win 6).blk t).view.emb y 1).val = 512 * (t.val % 4) + (y 1).val := by
    show win0_6.index t 1 * 512 + 1 * (y 1).val = _
    rw [(index6 t).2]; omega
  refine (out6_apply _ _ _ _ _ ((cfg0.win 6).xinj (grid0.coords t) y)).trans (Eq.trans ?_ (cast_eq _ _).symm)
  rw [blk1, blk3, blk4]
  unfold gates
  rw [e0, e1]

theorem flush7 (t : Fin cfg0.N) (_ : (cfg0.win 7).flush t = true) :
    (dats m 0 c).flushed 7 t = ((cfg0.win 7).blk t).view.read (Elt Ideal) (branch 16384 (X m c) (Y m c)) := by
  rw [Cert.MergeBwdKernelIdeal.Value.flushed7]
  funext y
  rw [View.read_apply]
  have e0 : (((cfg0.win 7).blk t).view.emb y 0).val = 512 * (t.val / 4) + (y 0).val := by
    show win0_7.index t 0 * 512 + 1 * (y 0).val = _
    rw [(index7 t).1]; omega
  have e1 : (((cfg0.win 7).blk t).view.emb y 1).val = 512 * (t.val % 4) + (y 1).val := by
    show win0_7.index t 1 * 512 + 1 * (y 1).val = _
    rw [(index7 t).2]; omega
  refine (out7_apply _ _ _ _ _ ((cfg0.win 7).xinj (grid0.coords t) y)).trans (Eq.trans ?_ (cast_eq _ _).symm)
  rw [blk0, blk4]
  unfold branch
  rw [e0, e1]

theorem flush8 (t : Fin cfg0.N) (_ : (cfg0.win 8).flush t = true) :
    (dats m 0 c).flushed 8 t = ((cfg0.win 8).blk t).view.read (Elt Ideal) (branch 18432 (X m c) (Y m c)) := by
  rw [Cert.MergeBwdKernelIdeal.Value.flushed8]
  funext y
  rw [View.read_apply]
  have e0 : (((cfg0.win 8).blk t).view.emb y 0).val = 512 * (t.val / 4) + (y 0).val := by
    show win0_8.index t 0 * 512 + 1 * (y 0).val = _
    rw [(index8 t).1]; omega
  have e1 : (((cfg0.win 8).blk t).view.emb y 1).val = 512 * (t.val % 4) + (y 1).val := by
    show win0_8.index t 1 * 512 + 1 * (y 1).val = _
    rw [(index8 t).2]; omega
  refine (out8_apply _ _ _ _ _ ((cfg0.win 8).xinj (grid0.coords t) y)).trans (Eq.trans ?_ (cast_eq _ _).symm)
  rw [blk1, blk4]
  unfold branch
  rw [e0, e1]

/-- The grid point whose block holds an entry. -/
def point (i : S8192x2048.Idx) : Fin cfg0.N := ⟨(i 0).val / 512 * 4 + (i 1).val / 512, by
  have hi0 : (i 0).val < 8192 := (i 0).isLt
  have hi1 : (i 1).val < 2048 := (i 1).isLt
  have hN : cfg0.N = 64 := N_0
  omega⟩

/-- The entry lies in that point's block. -/
theorem point_bounds (i : S8192x2048.Idx) : ((point i).val / 4 * 512 ≤ (i 0).val ∧ (i 0).val < (point i).val / 4 * 512 + 512)
    ∧ ((point i).val % 4 * 512 ≤ (i 1).val ∧ (i 1).val < (point i).val % 4 * 512 + 512) := by
  have hi0 : (i 0).val < 8192 := (i 0).isLt
  have hi1 : (i 1).val < 2048 := (i 1).isLt
  show (((i 0).val / 512 * 4 + (i 1).val / 512) / 4 * 512 ≤ (i 0).val ∧ (i 0).val < ((i 0).val / 512 * 4 + (i 1).val / 512) / 4 * 512 + 512)
    ∧ (((i 0).val / 512 * 4 + (i 1).val / 512) % 4 * 512 ≤ (i 1).val ∧ (i 1).val < ((i 0).val / 512 * 4 + (i 1).val / 512) % 4 * 512 + 512)
  omega

theorem covered5 (i : S8192x2048.Idx) : ∃ t : Fin cfg0.N, (cfg0.win 5).flush t = true ∧ i ∈ ((cfg0.win 5).blk t).view.set := by
  refine ⟨point i, flush0_5 _, ?_⟩
  show i ∈ ((View.whole main_v0_0).slice (win0_5.rect (point i))).set
  rw [View.set_slice_whole, Rect.mem_set_unit]
  intro a
  match a with
  | ⟨0, _⟩ =>
    show win0_5.index (point i) (0 : Fin 2) * 512 ≤ (i 0).val ∧ (i 0).val < win0_5.index (point i) (0 : Fin 2) * 512 + 512
    rw [(index5 _).1]; exact (point_bounds i).1
  | ⟨1, _⟩ =>
    show win0_5.index (point i) (1 : Fin 2) * 512 ≤ (i 1).val ∧ (i 1).val < win0_5.index (point i) (1 : Fin 2) * 512 + 512
    rw [(index5 _).2]; exact (point_bounds i).2

theorem covered6 (i : S8192x2048.Idx) : ∃ t : Fin cfg0.N, (cfg0.win 6).flush t = true ∧ i ∈ ((cfg0.win 6).blk t).view.set := by
  refine ⟨point i, flush0_6 _, ?_⟩
  show i ∈ ((View.whole main_v0_1).slice (win0_6.rect (point i))).set
  rw [View.set_slice_whole, Rect.mem_set_unit]
  intro a
  match a with
  | ⟨0, _⟩ =>
    show win0_6.index (point i) (0 : Fin 2) * 512 ≤ (i 0).val ∧ (i 0).val < win0_6.index (point i) (0 : Fin 2) * 512 + 512
    rw [(index6 _).1]; exact (point_bounds i).1
  | ⟨1, _⟩ =>
    show win0_6.index (point i) (1 : Fin 2) * 512 ≤ (i 1).val ∧ (i 1).val < win0_6.index (point i) (1 : Fin 2) * 512 + 512
    rw [(index6 _).2]; exact (point_bounds i).2

theorem covered7 (i : S8192x2048.Idx) : ∃ t : Fin cfg0.N, (cfg0.win 7).flush t = true ∧ i ∈ ((cfg0.win 7).blk t).view.set := by
  refine ⟨point i, flush0_7 _, ?_⟩
  show i ∈ ((View.whole main_v0_2).slice (win0_7.rect (point i))).set
  rw [View.set_slice_whole, Rect.mem_set_unit]
  intro a
  match a with
  | ⟨0, _⟩ =>
    show win0_7.index (point i) (0 : Fin 2) * 512 ≤ (i 0).val ∧ (i 0).val < win0_7.index (point i) (0 : Fin 2) * 512 + 512
    rw [(index7 _).1]; exact (point_bounds i).1
  | ⟨1, _⟩ =>
    show win0_7.index (point i) (1 : Fin 2) * 512 ≤ (i 1).val ∧ (i 1).val < win0_7.index (point i) (1 : Fin 2) * 512 + 512
    rw [(index7 _).2]; exact (point_bounds i).2

theorem covered8 (i : S8192x2048.Idx) : ∃ t : Fin cfg0.N, (cfg0.win 8).flush t = true ∧ i ∈ ((cfg0.win 8).blk t).view.set := by
  refine ⟨point i, flush0_8 _, ?_⟩
  show i ∈ ((View.whole main_v0_3).slice (win0_8.rect (point i))).set
  rw [View.set_slice_whole, Rect.mem_set_unit]
  intro a
  match a with
  | ⟨0, _⟩ =>
    show win0_8.index (point i) (0 : Fin 2) * 512 ≤ (i 0).val ∧ (i 0).val < win0_8.index (point i) (0 : Fin 2) * 512 + 512
    rw [(index8 _).1]; exact (point_bounds i).1
  | ⟨1, _⟩ =>
    show win0_8.index (point i) (1 : Fin 2) * 512 ≤ (i 1).val ∧ (i 1).val < win0_8.index (point i) (1 : Fin 2) * 512 + 512
    rw [(index8 _).2]; exact (point_bounds i).2

/-- The kernel's run leaves the four gradients in its results. -/
theorem run (ρ : Dev nD → PrngReg) : θ_run defs (onTc (τ := τ) (main (F := Ideal))) ⟨m, fun _ => 0, ρ⟩ fun r => ∀ c : Dev nD,
    r.2.mem ((c : Thread nD τ).loc main_v0_0) = gates 16384 (X m c) (P m c) (Y m c)
    ∧ r.2.mem ((c : Thread nD τ).loc main_v0_1) = gates 18432 (X m c) (Q m c) (Y m c)
    ∧ r.2.mem ((c : Thread nD τ).loc main_v0_2) = branch 16384 (X m c) (Y m c)
    ∧ r.2.mem ((c : Thread nD τ).loc main_v0_3) = branch 18432 (X m c) (Y m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨
    (h c).1.trans ((dats m 0 c).arrAt_eq_of_cover 5 _ (fun t hf => flush5 m c t hf) covered5),
    (h c).2.1.trans ((dats m 0 c).arrAt_eq_of_cover 6 _ (fun t hf => flush6 m c t hf) covered6),
    (h c).2.2.1.trans ((dats m 0 c).arrAt_eq_of_cover 7 _ (fun t hf => flush7 m c t hf) covered7),
    (h c).2.2.2.1.trans ((dats m 0 c).arrAt_eq_of_cover 8 _ (fun t hf => flush8 m c t hf) covered8),
    (h c).2.2.2.2⟩) (Cert.MergeBwdKernelIdeal.Value.run_blocks m ρ)
end

/-! ## The reference -/

section
open Cert.MergeBwdReferenceIdeal.Read

variable (x : Vec Ideal S8192x20480 .f32) (p q y : Vec Ideal S8192x2048 .f32)

theorem one : FloatOps.ofBits (F := Ideal) .f32 0x3F800000#32 = (1 : EReal) := by simp

theorem gate0 (i : S8192x2048.Idx) : val_main_v7 (F := Ideal) x i = Ideal.logistic (at2 x (i 0).val (16384 + (i 1).val)) := by
  rw [val_main_v7_apply, val_main_v6_apply, val_main_cst_0_apply, val_main_v5_apply, val_main_v4_apply, val_main_cst_apply,
    val_main_v3_apply, val_main_v2_apply, val_main_v0_apply, ref_gate]
  exact congrArg Ideal.logistic (at2_eq x _ rfl rfl)

theorem gate1 (i : S8192x2048.Idx) : val_main_v17 (F := Ideal) x i = Ideal.logistic (at2 x (i 0).val (18432 + (i 1).val)) := by
  rw [val_main_v17_apply, val_main_v16_apply, val_main_cst_3_apply, val_main_v15_apply, val_main_v14_apply, val_main_cst_2_apply,
    val_main_v13_apply, val_main_v12_apply, val_main_v1_apply, ref_gate]
  exact congrArg Ideal.logistic (at2_eq x _ rfl rfl)

theorem reached0 (i : S8192x2048.Idx) : val_main_v23 (F := Ideal) y i = y i := by
  unfold val_main_v23
  rw [shapeCast_id]

theorem reached1 (i : S8192x2048.Idx) : val_main_v24 (F := Ideal) y i = y i := by
  unfold val_main_v24
  rw [shapeCast_id]

theorem ref7 : val_main_v33 (F := Ideal) x y = branch 16384 x y := funext fun i => by
  rw [val_main_v33_apply, val_main_v28_apply, gate0, reached0]
  exact congrArg (Ideal.logistic _ * ·) (at2_eq y i rfl rfl)

theorem ref8 : val_main_v34 (F := Ideal) x y = branch 18432 x y := funext fun i => by
  rw [val_main_v34_apply, val_main_v25_apply, gate1, reached1]
  exact congrArg (Ideal.logistic _ * ·) (at2_eq y i rfl rfl)

/-- The gradients of gates at columns `g`, where the branch and what reaches the merge are real. -/
theorem gates_eq (g : ℕ) {P Y : S8192x2048.Idx → ℝ} (hp : ∀ i, p i = (P i : EReal)) (hy : ∀ i, y i = (Y i : EReal)) (i : S8192x2048.Idx) :
    gates g x p y i = (y i : EReal) * p i
      * (Ideal.logistic (at2 x (i 0).val (g + (i 1).val)) * (1 - Ideal.logistic (at2 x (i 0).val (g + (i 1).val)))) := by
  unfold gates
  rw [← at2_eq y i rfl rfl, ← at2_eq p i rfl rfl, hp, hy]
  show gateGrad _ ((Y i : EReal) * (P i : EReal)) = _
  rw [← EReal.coe_mul, gateGrad_eq]

theorem ref5 {P Y : S8192x2048.Idx → ℝ} (hp : ∀ i, p i = (P i : EReal)) (hy : ∀ i, y i = (Y i : EReal)) :
    val_main_v31 (F := Ideal) x p y = gates 16384 x p y := funext fun i => by
  rw [gates_eq x p y 16384 hp hy, val_main_v31_apply, val_main_v30_apply, val_main_v29_apply, val_main_v10_apply, val_main_v9_apply,
    val_main_v8_apply, val_main_cst_1_apply, gate0, reached0, one]
  rfl

theorem ref6 {Q Y : S8192x2048.Idx → ℝ} (hq : ∀ i, q i = (Q i : EReal)) (hy : ∀ i, y i = (Y i : EReal)) :
    val_main_v32 (F := Ideal) x q y = gates 18432 x q y := funext fun i => by
  rw [gates_eq x q y 18432 hq hy, val_main_v32_apply, val_main_v27_apply, val_main_v26_apply, val_main_v20_apply, val_main_v19_apply,
    val_main_v18_apply, val_main_cst_4_apply, gate1, reached1, one]
  rfl
end

/-- The side condition of the precondition: a scalar may be spread over a branch's shape. -/
theorem pre_facts : Cert.Pre_finite_branches.Facts := ⟨by decide⟩

/-- Over the reals, where the branches and the gradient that reaches the merge are finite, the kernel's four gradients are the reference's. -/
theorem values [Cert.Pre_finite_branches.Facts] :
    Cert.algebraic_MergeBwdKernelIdeal_MergeBwdReferenceIdeal_pre_finite_branches := fun m g m' g' hpre hm =>
  have hp := fun c i => Cert.Agree.real_of_abs_lt (P m c i) (congrFun (hpre c).1 i)
  have hq := fun c i => Cert.Agree.real_of_abs_lt (Q m c i) (congrFun (hpre c).2.1 i)
  have hy := fun c i => Cert.Agree.real_of_abs_lt (Y m c i) (congrFun (hpre c).2.2 i)
  ⟨fun c => gates 16384 (X m c) (P m c) (Y m c), fun c => gates 18432 (X m c) (Q m c) (Y m c),
    fun c => branch 16384 (X m c) (Y m c), fun c => branch 18432 (X m c) (Y m c), run m g,
    (θ_run Cert.MergeBwdReferenceIdeal.defs _ _).mono (fun r h c =>
      have e := hm c
      ⟨(h c).1.trans ((Cert.MergeBwdReferenceIdeal.Read.val_main_v31_eq _ _ _).trans (by
          rw [e.1, e.2.1, e.2.2.2]; exact ref5 _ _ _ (hp c) (hy c))),
        (h c).2.1.trans ((Cert.MergeBwdReferenceIdeal.Read.val_main_v32_eq _ _ _).trans (by
          rw [e.1, e.2.2.1, e.2.2.2]; exact ref6 _ _ _ (hq c) (hy c))),
        (h c).2.2.1.trans ((Cert.MergeBwdReferenceIdeal.Read.val_main_v33_eq _ _).trans (by
          rw [e.1, e.2.2.2]; exact ref7 _ _)),
        (h c).2.2.2.1.trans ((Cert.MergeBwdReferenceIdeal.Read.val_main_v34_eq _ _).trans (by
          rw [e.1, e.2.2.2]; exact ref8 _ _)),
        (h c).2.2.2.2⟩) (Cert.MergeBwdReferenceIdeal.Value.run (F := Ideal) m' g')⟩

end Cert.MergeBwdKernelIdeal.Merge
end
end
-- ==== Proof.LossPoint.lean ====
module

public import proofs.«01_k».proof.Proof.AdaPoint
public import proofs.«01_k».proof.Proof.Gen.LossKernelIdeal.Frame
public import Idealize.ShloMosaic.Lib.VecWindow
public import Idealize.ShloMosaic.Lib.Pointwise

/-! The loss and its gradients, row by row: the formulas, and what one block of 256 rows of the kernel computes by them. -/

@[expose] public section

noncomputable section

namespace Cert.Loss

open Idealize.ShloMosaic
open Cert.Ada (ms inv)

/-! ## A row's numbers

`x` is the row of the stream, `u` the branch's, `g` the gate, `w` the last norm's weights, `t` the row's target; `h` is the
row the loss is taken of. -/

/-- A half, as the program writes it. -/
abbrev half : EReal := Ideal.ofBits .f32 0x3F000000#32

section
variable (x u g h w t : ℕ → EReal) (d : ℕ)

/-- The row the loss is taken of: the stream and the gated branch. -/
def hid : EReal := x d + g d * u d
/-- The normed row's distance from its target. -/
def err : EReal := h d * inv h * w d - t d
/-- What the row brings to the loss, before the half. -/
def sq : EReal := Ideal.div (∑ k : Fin 2048, err h w t k * err h w t k) (Ideal.ofBits .f32 0x45000000#32)
/-- The gradient of the normed row. -/
def gy : EReal := Ideal.div (half * Ideal.ofBits .f32 0x3F800000#32) (Ideal.ofBits .f32 0x45000000#32)
  * (Ideal.ofBits .f32 0x40000000#32 * err h w t d)
/-- The gradient before the weights. -/
def gn : EReal := gy h w t d * w d
/-- The gradient of the sum of the squares. -/
def dms : EReal :=
  Ideal.div ((∑ k : Fin 2048, h k * gn h w t k) * (Ideal.ofBits .f32 0xBF000000#32 * Ideal.div (inv h) (ms h)))
    (Ideal.ofBits .f32 0x45000000#32)
/-- The row's gradient. -/
def dx : EReal := gn h w t d * inv h + h d * dms h w t + dms h w t * h d
/-- What the row brings to the weights' gradient. -/
def tw : EReal := h d * inv h * gy h w t d
end

/-- A finite factor that is not negative goes into a sum. -/
theorem mul_sum_nonneg {ι : Type*} {c : EReal} (h0 : 0 ≤ c) (ht : c ≠ ⊤) (s : Finset ι) (f : ι → EReal) :
    c * ∑ k ∈ s, f k = ∑ k ∈ s, c * f k := by
  induction s using Finset.cons_induction with
  | empty => simp
  | cons a s ha ih => rw [Finset.sum_cons, Finset.sum_cons, EReal.left_distrib_of_nonneg_of_ne_top h0 ht, ih]

theorem half_eq : half = (((1 : ℝ) / 2 : ℝ) : EReal) := by
  show Ideal.ofBits .f32 0x3F000000#32 = _
  simp [Ideal.ofBits, Ideal.ieee, -EReal.coe_mul]
  norm_num

theorem half_sum {ι : Type*} (s : Finset ι) (f : ι → EReal) : half * ∑ k ∈ s, f k = ∑ k ∈ s, half * f k := by
  refine mul_sum_nonneg ?_ ?_ s f
  · rw [half_eq]; exact EReal.coe_nonneg.mpr (by norm_num)
  · rw [half_eq]; exact EReal.coe_ne_top _

end Cert.Loss

namespace Cert.LossKernelIdeal.Head

open Idealize.ShloMosaic Idealize.ShloMosaic.TcCoe Cert.LossKernelIdeal.Gen Cert.LossKernelIdeal
open Cert.Ada (ms inv)
open Cert.Mm Cert.Loss Finset

/-! ## A block of 256 rows -/

section
variable {x u t : Vec Ideal S256x2048 .f32} {g w : Vec Ideal S1x2048 .f32} {X U T : ℕ → ℕ → EReal} {G W : ℕ → EReal} {n : ℕ}
  (hx : ∀ (r : Fin 256) (k : Fin 2048), x (ix2 r k) = X (n + r) k)
  (hu : ∀ (r : Fin 256) (k : Fin 2048), u (ix2 r k) = U (n + r) k)
  (ht : ∀ (r : Fin 256) (k : Fin 2048), t (ix2 r k) = T (n + r) k)
  (hg : ∀ k : Fin 2048, g (ix2 0 k) = G k) (hw : ∀ k : Fin 2048, w (ix2 0 k) = W k)
  (r : Fin 256) (d : Fin 2048)

include hx hu hg in
theorem pay3_apply : k0_pay3 x u g (ix2 r d) = hid (X (n + r)) (U (n + r)) G d := by
  simp only [k0_pay3]
  pointwise
  rw [hx, hu, hg]
  rfl

include hx hu hg in
theorem pay4_apply : k0_pay4 x u g (ix2 r 0) = ms (hid (X (n + r)) (U (n + r)) G) := by
  simp only [k0_pay4]
  pointwise
  simp only [pay3_apply hx hu hg]
  rfl

include hx hu hg in
theorem pay5_apply : k0_pay5 x u g (ix2 r 0) = inv (hid (X (n + r)) (U (n + r)) G) := congrArg Ideal.rsqrt (pay4_apply hx hu hg r)

include hx hu hg in
theorem pay6_apply : k0_pay6 x u g (ix2 r 0) = Ideal.ofBits .f32 0xBF000000#32
    * Ideal.div (inv (hid (X (n + r)) (U (n + r)) G)) (ms (hid (X (n + r)) (U (n + r)) G)) := by
  rw [← pay5_apply hx hu hg r, ← pay4_apply hx hu hg r]
  rfl

include hx hu hg in
theorem pay7_apply : k0_pay7 x u g (ix2 r d) = hid (X (n + r)) (U (n + r)) G d * inv (hid (X (n + r)) (U (n + r)) G) := by
  rw [← pay5_apply hx hu hg r, ← pay3_apply hx hu hg]
  simp only [k0_pay7]
  pointwise
  done

include hx hu ht hg hw in
theorem pay8_apply : k0_pay8 x u g w t (ix2 r d) = err (hid (X (n + r)) (U (n + r)) G) W (T (n + r)) d := by
  rw [err, ← pay7_apply hx hu hg, ← hw, ← ht]
  simp only [k0_pay8]
  pointwise
  done

include hx hu ht hg hw in
theorem pay10_apply : k0_pay10 x u g w t = half * ∑ r : Fin 256, sq (hid (X (n + r)) (U (n + r)) G) W (T (n + r)) := by
  simp only [k0_pay10, extractAt]
  pointwise
  refine congrArg (half * ·) (sum_congr rfl fun r _ => ?_)
  simp only [pay8_apply hx hu ht hg hw]
  rfl

/-- The gradients of the normed rows. -/
abbrev gyB (x u : Vec Ideal S256x2048 .f32) (g w : Vec Ideal S1x2048 .f32) (t : Vec Ideal S256x2048 .f32) : FVec Ideal S256x2048 .f32 :=
  k0_pay12 (k0_pay9 x u g w t) (k0_pay11 (F := Ideal)) (Scalar.ofBits .f32 0x45000000#32)

include hx hu ht hg hw in
theorem gyB_apply : gyB x u g w t (ix2 r d) = gy (hid (X (n + r)) (U (n + r)) G) W (T (n + r)) d := by
  rw [gy, ← pay8_apply hx hu ht hg hw]
  simp only [gyB, k0_pay12, k0_pay11, k0_pay9]
  pointwise
  done

/-- What the rows bring to the weights' gradient. -/
abbrev twB (x u : Vec Ideal S256x2048 .f32) (g w : Vec Ideal S1x2048 .f32) (t : Vec Ideal S256x2048 .f32) : FVec Ideal S1x2048 .f32 :=
  k0_pay13 (k0_pay7 x u g) (k0_pay9 x u g w t) (k0_pay11 (F := Ideal)) (Scalar.ofBits .f32 0x45000000#32)

include hx hu ht hg hw in
theorem twB_apply : twB x u g w t (ix2 0 d) = ∑ r : Fin 256, tw (hid (X (n + r)) (U (n + r)) G) W (T (n + r)) d := by
  simp only [twB, k0_pay13]
  pointwise
  exact sum_congr rfl fun r _ => by rw [tw, ← pay7_apply hx hu hg, ← gyB_apply hx hu ht hg hw]; rfl

/-- The rows' gradients. -/
abbrev dxB (x u : Vec Ideal S256x2048 .f32) (g w : Vec Ideal S1x2048 .f32) (t : Vec Ideal S256x2048 .f32) : FVec Ideal S256x2048 .f32 :=
  k0_pay14 w (k0_pay3 x u g) (k0_pay5 x u g) (k0_pay6 x u g) (k0_pay9 x u g w t) (k0_pay11 (F := Ideal)) (Scalar.ofBits .f32 0x45000000#32)

include hx hu ht hg hw in
theorem dxB_apply : dxB x u g w t (ix2 r d) = dx (hid (X (n + r)) (U (n + r)) G) W (T (n + r)) d := by
  have hn : ∀ k : Fin 2048, gyB x u g w t (ix2 r k) * w (ix2 0 k) = gn (hid (X (n + r)) (U (n + r)) G) W (T (n + r)) k := fun k => by
    rw [gyB_apply hx hu ht hg hw, hw]; rfl
  rw [dx, dms, ← pay6_apply hx hu hg, ← pay5_apply hx hu hg, ← pay3_apply hx hu hg, ← hn]
  simp only [← hn, ← pay3_apply hx hu hg]
  simp only [dxB, k0_pay14]
  pointwise
  rw [Fin.sum_univ_one]
  rfl

/-- What the rows bring to the gate's gradient. -/
abbrev tgB (x u : Vec Ideal S256x2048 .f32) (g w : Vec Ideal S1x2048 .f32) (t : Vec Ideal S256x2048 .f32) : FVec Ideal S1x2048 .f32 :=
  k0_pay15 u w (k0_pay3 x u g) (k0_pay5 x u g) (k0_pay6 x u g) (k0_pay9 x u g w t) (k0_pay11 (F := Ideal)) (Scalar.ofBits .f32 0x45000000#32)

include hx hu ht hg hw in
theorem tgB_apply : tgB x u g w t (ix2 0 d)
    = ∑ r : Fin 256, dx (hid (X (n + r)) (U (n + r)) G) W (T (n + r)) d * U (n + r) d := by
  simp only [tgB, k0_pay15]
  pointwise
  exact sum_congr rfl fun r _ => by rw [← dxB_apply hx hu ht hg hw, ← hu]; rfl

/-- The branch's gradients. -/
abbrev duB (x u : Vec Ideal S256x2048 .f32) (g w : Vec Ideal S1x2048 .f32) (t : Vec Ideal S256x2048 .f32) : FVec Ideal S256x2048 .bf16 :=
  k0_pay18 g w (k0_pay3 x u g) (k0_pay5 x u g) (k0_pay6 x u g) (k0_pay9 x u g w t) (k0_pay11 (F := Ideal)) (Scalar.ofBits .f32 0x45000000#32)

include hx hu ht hg hw in
theorem duB_apply : duB x u g w t (ix2 r d) = G d * dx (hid (X (n + r)) (U (n + r)) G) W (T (n + r)) d := by
  rw [← dxB_apply hx hu ht hg hw, ← hg]
  simp only [duB, k0_pay18]
  pointwise
  rfl

theorem pay1_apply (a v : FVec Ideal S1x2048 .f32) : k0_pay1 a v (ix2 0 d) = v (ix2 0 d) + a (ix2 0 d) := by
  simp only [k0_pay1, shapeCast_self]
  rfl
theorem pay2_apply (a v : FVec Ideal S1x2048 .f32) : k0_pay2 a v (ix2 0 d) = v (ix2 0 d) + a (ix2 0 d) := pay1_apply d a v
theorem pay17_apply (a : Ideal .f32) (v : FVec Ideal S1x128 .f32) (i : S1x128.Idx) : k0_pay17 a v i = v i + a := by
  simp only [k0_pay17, shapeCast_self]
  rfl
end

/-! ## What a point leaves -/

section
variable (c : Dev nD) (i : grid0.Coords)
  (arg1 : Memref sig .tc .vmem S256x2048 .f32) (harg1 : arg1.IsWhole) (arg2 : Memref sig .tc .vmem S256x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S256x2048 .f32) (harg5 : arg5.IsWhole) (arg6 : Memref sig .tc .vmem S1x128 .f32) (harg6 : arg6.IsWhole)
  (arg7 : Memref sig .tc .vmem S256x2048 .f32) (harg7 : arg7.IsWhole) (arg8 : Memref sig .tc .vmem S256x2048 .bf16) (harg8 : arg8.IsWhole)
  (arg9 : Memref sig .tc .vmem S1x2048 .f32) (harg9 : arg9.IsWhole) (arg10 : Memref sig .tc .vmem S1x2048 .f32) (harg10 : arg10.IsWhole)
  (x0 x1 : Vec Ideal S256x2048 .f32) (x2 x3 : Vec Ideal S1x2048 .f32) (x4 : Vec Ideal S256x2048 .f32)
  (y5 : Vec Ideal S1x128 .f32) (y8 y9 : Vec Ideal S1x2048 .f32)

section
variable (hc0 : cond0_0 i) (hc1 : ¬cond0_1 i) (hc2 : cond0_2 i) (hc3 : ¬cond0_3 i) (hc4 : cond0_4 i) (hc5 : ¬cond0_5 i)

theorem first_5 : out0_A_5 c i arg1 harg1 arg2 harg2 arg3 harg3 arg4 harg4 arg5 harg5 arg6 harg6 arg7 harg7 arg8 harg8 arg9 harg9 arg10 harg10
    hc0 hc1 hc2 hc3 hc4 hc5 x0 x1 x2 x3 x4 = k0_pay16 (k0_pay10 x0 x1 x2 x3 x4) := by
  unfold out0_A_5 kernelRun0_A
  dsimp only
  simp only [kernelRun0_A.sl.cst_19, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, read_stored, load_stored, cov_stored, load_whole]

theorem first_6 : out0_A_6 c i arg1 harg1 arg2 harg2 arg3 harg3 arg4 harg4 arg5 harg5 arg6 harg6 arg7 harg7 arg8 harg8 arg9 harg9 arg10 harg10
    hc0 hc1 hc2 hc3 hc4 hc5 x0 x1 x2 x3 x4 = dxB x0 x1 x2 x3 x4 := by
  unfold out0_A_6 kernelRun0_A
  dsimp only
  simp only [kernelRun0_A.sl.cst_19, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, read_stored, load_stored, cov_stored, load_whole]

theorem first_7 : out0_A_7 c i arg1 harg1 arg2 harg2 arg3 harg3 arg4 harg4 arg5 harg5 arg6 harg6 arg7 harg7 arg8 harg8 arg9 harg9 arg10 harg10
    hc0 hc1 hc2 hc3 hc4 hc5 x0 x1 x2 x3 x4 = duB x0 x1 x2 x3 x4 := by
  unfold out0_A_7 kernelRun0_A
  dsimp only
  simp only [kernelRun0_A.sl.cst_19, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, read_stored, load_stored, cov_stored, load_whole]

theorem first_8 : out0_A_8 c i arg1 harg1 arg2 harg2 arg3 harg3 arg4 harg4 arg5 harg5 arg6 harg6 arg7 harg7 arg8 harg8 arg9 harg9 arg10 harg10
    hc0 hc1 hc2 hc3 hc4 hc5 x0 x1 x2 x3 x4 = tgB x0 x1 x2 x3 x4 := by
  unfold out0_A_8 kernelRun0_A
  dsimp only
  simp only [kernelRun0_A.sl.cst_19, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, read_stored, load_stored, cov_stored, load_whole]

theorem first_9 : out0_A_9 c i arg1 harg1 arg2 harg2 arg3 harg3 arg4 harg4 arg5 harg5 arg6 harg6 arg7 harg7 arg8 harg8 arg9 harg9 arg10 harg10
    hc0 hc1 hc2 hc3 hc4 hc5 x0 x1 x2 x3 x4 = twB x0 x1 x2 x3 x4 := by
  unfold out0_A_9 kernelRun0_A
  dsimp only
  simp only [kernelRun0_A.sl.cst_19, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, read_stored, load_stored, cov_stored, load_whole]

end

section
variable (hc0 : ¬cond0_0 i) (hc1 : cond0_1 i) (hc2 : ¬cond0_2 i) (hc3 : cond0_3 i) (hc4 : ¬cond0_4 i) (hc5 : cond0_5 i)

theorem next_5 : out0_B_5 c i arg1 harg1 arg2 harg2 arg3 harg3 arg4 harg4 arg5 harg5 arg6 harg6 arg7 harg7 arg8 harg8 arg9 harg9 arg10 harg10
    hc0 hc1 hc2 hc3 hc4 hc5 x0 x1 x2 x3 x4 y5 y8 y9 = k0_pay17 (k0_pay10 x0 x1 x2 x3 x4) y5 := by
  unfold out0_B_5 kernelRun0_B
  dsimp only
  simp only [kernelRun0_B.sl.cst_19, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, read_stored, load_stored, cov_stored, load_whole]

theorem next_6 : out0_B_6 c i arg1 harg1 arg2 harg2 arg3 harg3 arg4 harg4 arg5 harg5 arg6 harg6 arg7 harg7 arg8 harg8 arg9 harg9 arg10 harg10
    hc0 hc1 hc2 hc3 hc4 hc5 x0 x1 x2 x3 x4 y5 y8 y9 = dxB x0 x1 x2 x3 x4 := by
  unfold out0_B_6 kernelRun0_B
  dsimp only
  simp only [kernelRun0_B.sl.cst_19, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, read_stored, load_stored, cov_stored, load_whole]

theorem next_7 : out0_B_7 c i arg1 harg1 arg2 harg2 arg3 harg3 arg4 harg4 arg5 harg5 arg6 harg6 arg7 harg7 arg8 harg8 arg9 harg9 arg10 harg10
    hc0 hc1 hc2 hc3 hc4 hc5 x0 x1 x2 x3 x4 y5 y8 y9 = duB x0 x1 x2 x3 x4 := by
  unfold out0_B_7 kernelRun0_B
  dsimp only
  simp only [kernelRun0_B.sl.cst_19, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, read_stored, load_stored, cov_stored, load_whole]

theorem next_8 : out0_B_8 c i arg1 harg1 arg2 harg2 arg3 harg3 arg4 harg4 arg5 harg5 arg6 harg6 arg7 harg7 arg8 harg8 arg9 harg9 arg10 harg10
    hc0 hc1 hc2 hc3 hc4 hc5 x0 x1 x2 x3 x4 y5 y8 y9 = k0_pay1 (tgB x0 x1 x2 x3 x4) y8 := by
  unfold out0_B_8 kernelRun0_B
  dsimp only
  simp only [kernelRun0_B.sl.cst_19, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, read_stored, load_stored, cov_stored, load_whole]

theorem next_9 : out0_B_9 c i arg1 harg1 arg2 harg2 arg3 harg3 arg4 harg4 arg5 harg5 arg6 harg6 arg7 harg7 arg8 harg8 arg9 harg9 arg10 harg10
    hc0 hc1 hc2 hc3 hc4 hc5 x0 x1 x2 x3 x4 y5 y8 y9 = k0_pay2 (twB x0 x1 x2 x3 x4) y9 := by
  unfold out0_B_9 kernelRun0_B
  dsimp only
  simp only [kernelRun0_B.sl.cst_19, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, read_stored, load_stored, cov_stored, load_whole]

end

end

/-! ## At a grid point -/

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = t.val ∧ win0_4.index t (1 : Fin 2) = 0 := by decide +kernel

variable (m : (ℓ : Loc nD τ sig) → Buf (Elt Ideal) ℓ) (c : Dev nD)

/-- The stream's rows. -/
abbrev X : Vec Ideal S8192x2048 .f32 := m ((c : Thread nD τ).loc main_arg0)
/-- The branch's rows. -/
abbrev U : Vec Ideal S8192x2048 .f32 := m ((c : Thread nD τ).loc main_arg1)
/-- The gate. -/
abbrev G : Vec Ideal S1x2048 .f32 := m ((c : Thread nD τ).loc main_arg2)
/-- The last norm's weights. -/
abbrev W : Vec Ideal S1x2048 .f32 := m ((c : Thread nD τ).loc main_arg3)
/-- The targets. -/
abbrev T : Vec Ideal S8192x2048 .f32 := m ((c : Thread nD τ).loc main_arg4)

section
variable (t : Fin cfg0.N)

theorem blk0 (r : Fin 256) (k : Fin 2048) : iblk m c 0 t (ix2 r k) = at2 (X m c) (256 * t.val + r) k := by
  unfold iblk
  rw [View.read_apply]
  refine Eq.trans (at2_eq (V m c main_arg0) _ (r := 256 * t.val + r) (c := k) ?_ ?_) ?_
  · show win0_0.index t 0 * 256 + 1 * r.val = _
    rw [(index0 t).1]; omega
  · show win0_0.index t 1 * 2048 + 1 * k.val = _
    rw [(index0 t).2]; omega
  · rw [V_main_arg0]

theorem blk1 (r : Fin 256) (k : Fin 2048) : iblk m c 1 t (ix2 r k) = at2 (U m c) (256 * t.val + r) k := by
  unfold iblk
  rw [View.read_apply]
  refine Eq.trans (at2_eq (V m c main_arg1) _ (r := 256 * t.val + r) (c := k) ?_ ?_) ?_
  · show win0_1.index t 0 * 256 + 1 * r.val = _
    rw [(index1 t).1]; omega
  · show win0_1.index t 1 * 2048 + 1 * k.val = _
    rw [(index1 t).2]; omega
  · rw [V_main_arg1]

theorem blk2 (k : Fin 2048) : iblk m c 2 t (ix2 (0 : Fin 1) k) = at2 (G m c) 0 k := by
  unfold iblk
  rw [View.read_apply]
  refine Eq.trans (at2_eq (V m c main_arg2) _ (r := 0) (c := k) ?_ ?_) ?_
  · show win0_2.index t 0 * 1 + 1 * 0 = _
    rw [(index2 t).1]
  · show win0_2.index t 1 * 2048 + 1 * k.val = _
    rw [(index2 t).2]; omega
  · rw [V_main_arg2]

theorem blk3 (k : Fin 2048) : iblk m c 3 t (ix2 (0 : Fin 1) k) = at2 (W m c) 0 k := by
  unfold iblk
  rw [View.read_apply]
  refine Eq.trans (at2_eq (V m c main_arg3) _ (r := 0) (c := k) ?_ ?_) ?_
  · show win0_3.index t 0 * 1 + 1 * 0 = _
    rw [(index3 t).1]
  · show win0_3.index t 1 * 2048 + 1 * k.val = _
    rw [(index3 t).2]; omega
  · rw [V_main_arg3]

theorem blk4 (r : Fin 256) (k : Fin 2048) : iblk m c 4 t (ix2 r k) = at2 (T m c) (256 * t.val + r) k := by
  unfold iblk
  rw [View.read_apply]
  refine Eq.trans (at2_eq (V m c main_arg4) _ (r := 256 * t.val + r) (c := k) ?_ ?_) ?_
  · show win0_4.index t 0 * 256 + 1 * r.val = _
    rw [(index4 t).1]; omega
  · show win0_4.index t 1 * 2048 + 1 * k.val = _
    rw [(index4 t).2]; omega
  · rw [V_main_arg4]

/-- Row `a` of what the loss is taken of. -/
def hidden (a : ℕ) : ℕ → EReal := hid (at2 (X m c) a) (at2 (U m c) a) (at2 (G m c) 0)
/-- The gradient of row `a` at column `d`. -/
def rowX (a d : ℕ) : EReal := dx (hidden m c a) (at2 (W m c) 0) (at2 (T m c) a) d
/-- The gradient of the branch's row `a` at column `d`. -/
def rowU (a d : ℕ) : EReal := at2 (G m c) 0 d * rowX m c a d
/-- What row `a` brings to the loss. -/
def rowL (a : ℕ) : EReal := half * sq (hidden m c a) (at2 (W m c) 0) (at2 (T m c) a)
/-- What row `a` brings to the gate's gradient at column `d`. -/
def rowG (d a : ℕ) : EReal := rowX m c a d * at2 (U m c) a d
/-- What row `a` brings to the weights' gradient at column `d`. -/
def rowW (d a : ℕ) : EReal := tw (hidden m c a) (at2 (W m c) 0) (at2 (T m c) a) d

variable (d : Fin 2048)

theorem l_point : k0_pay10 (iblk m c 0 t) (iblk m c 1 t) (iblk m c 2 t) (iblk m c 3 t) (iblk m c 4 t) = ∑ r : Fin 256, rowL m c (256 * t.val + r) :=
  (pay10_apply (X := at2 (X m c)) (U := at2 (U m c)) (T := at2 (T m c)) (G := at2 (G m c) 0) (W := at2 (W m c) 0)
    (blk0 m c t) (blk1 m c t) (blk4 m c t) (blk2 m c t) (blk3 m c t)).trans (half_sum _ _)
theorem g_point : tgB (iblk m c 0 t) (iblk m c 1 t) (iblk m c 2 t) (iblk m c 3 t) (iblk m c 4 t) (ix2 0 d) = ∑ r : Fin 256, rowG m c d (256 * t.val + r) :=
  tgB_apply (X := at2 (X m c)) (U := at2 (U m c)) (T := at2 (T m c)) (G := at2 (G m c) 0) (W := at2 (W m c) 0)
    (blk0 m c t) (blk1 m c t) (blk4 m c t) (blk2 m c t) (blk3 m c t) d
theorem w_point : twB (iblk m c 0 t) (iblk m c 1 t) (iblk m c 2 t) (iblk m c 3 t) (iblk m c 4 t) (ix2 0 d) = ∑ r : Fin 256, rowW m c d (256 * t.val + r) :=
  twB_apply (X := at2 (X m c)) (U := at2 (U m c)) (T := at2 (T m c)) (G := at2 (G m c) 0) (W := at2 (W m c) 0)
    (blk0 m c t) (blk1 m c t) (blk4 m c t) (blk2 m c t) (blk3 m c t) d

/-- The rows' gradients as a point leaves them. -/
theorem point6 (r : Fin 256) : (outsAt0 m c t.val t.isLt).2.1 (ix2 r d) = rowX m c (256 * t.val + r) d := by
  have h : (outsAt0 m c t.val t.isLt).2.1 = dxB (iblk m c 0 t) (iblk m c 1 t) (iblk m c 2 t) (iblk m c 3 t) (iblk m c 4 t) := by
    have hN : t.val < 32 := N_0 ▸ t.isLt
    by_cases h0 : t.val % 32 = 0
    · rw [outsAt0_A m c t h0 (by omega) h0 (by omega) h0 (by omega)]
      dsimp only
      rw [first_6]
    · rw [outsAt0_B m c t h0 (by omega) h0 (by omega) h0 (by omega)]
      dsimp only
      rw [next_6]
  rw [h]
  exact dxB_apply (X := at2 (X m c)) (U := at2 (U m c)) (T := at2 (T m c)) (G := at2 (G m c) 0) (W := at2 (W m c) 0)
    (blk0 m c t) (blk1 m c t) (blk4 m c t) (blk2 m c t) (blk3 m c t) r d

/-- The branch's gradients as a point leaves them. -/
theorem point7 (r : Fin 256) : (outsAt0 m c t.val t.isLt).2.2.1 (ix2 r d) = rowU m c (256 * t.val + r) d := by
  have h : (outsAt0 m c t.val t.isLt).2.2.1 = duB (iblk m c 0 t) (iblk m c 1 t) (iblk m c 2 t) (iblk m c 3 t) (iblk m c 4 t) := by
    have hN : t.val < 32 := N_0 ▸ t.isLt
    by_cases h0 : t.val % 32 = 0
    · rw [outsAt0_A m c t h0 (by omega) h0 (by omega) h0 (by omega)]
      dsimp only
      rw [first_7]
    · rw [outsAt0_B m c t h0 (by omega) h0 (by omega) h0 (by omega)]
      dsimp only
      rw [next_7]
  rw [h]
  exact duB_apply (X := at2 (X m c)) (U := at2 (U m c)) (T := at2 (T m c)) (G := at2 (G m c) 0) (W := at2 (W m c) 0)
    (blk0 m c t) (blk1 m c t) (blk4 m c t) (blk2 m c t) (blk3 m c t) r d
end

/-- An accumulator's sum after the last point runs over all the rows. -/
theorem all_rows (A : (n : ℕ) → n < cfg0.N → EReal) (f : ℕ → EReal)
    (h0 : ∀ n h, n % 32 = 0 → A n h = ∑ r : Fin 256, f (256 * n + r))
    (hs : ∀ n h, n % 32 ≠ 0 → A n h = A (n - 1) (by omega) + ∑ r : Fin 256, f (256 * n + r)) (n : ℕ) (h : n < cfg0.N) (hn : n % 32 = 31) :
    A n h = ∑ a ∈ range 8192, f a := by
  have hN : n < 32 := N_0 ▸ h
  rw [accumulated A (fun n => ∑ r : Fin 256, f (256 * n + r)) h0 hs n h, hn, show (8192 : ℕ) = 256 * (31 + 1) from rfl, ← sum_blocks]
  exact sum_congr rfl fun s _ => by rw [show n / 32 = 0 by omega, Nat.mul_zero, Nat.zero_add]

variable (d : Fin 2048)

theorem start5 (i : S1x128.Idx) (t : Fin cfg0.N) (h0 : t.val % 32 = 0) :
    (outsAt0 m c t.val t.isLt).1 i = ∑ r : Fin 256, rowL m c (256 * t.val + r) := by
  have hN : t.val < 32 := N_0 ▸ t.isLt
  rw [outsAt0_A m c t h0 (by omega) h0 (by omega) h0 (by omega)]
  dsimp only
  rw [first_5]
  exact l_point m c t

theorem added5 (i : S1x128.Idx) (t : Fin cfg0.N) (h0 : ¬t.val % 32 = 0) : (outsAt0 m c t.val t.isLt).1 i
    = (outsAt0 m c (t.val - 1) (by omega)).1 i + ∑ r : Fin 256, rowL m c (256 * t.val + r) := by
  have hN : t.val < 32 := N_0 ▸ t.isLt
  rw [outsAt0_B m c t h0 (by omega) h0 (by omega) h0 (by omega)]
  dsimp only
  rw [next_5, pay17_apply, l_point]

theorem written5 (i : S1x128.Idx) (t : Fin cfg0.N) (ht : t.val % 32 = 31) : (outsAt0 m c t.val t.isLt).1 i = ∑ a ∈ range 8192, rowL m c a :=
  all_rows (fun n h => (outsAt0 m c n h).1 i) (rowL m c) (fun n h h0 => start5 m c i ⟨n, h⟩ h0)
    (fun n h h0 => added5 m c i ⟨n, h⟩ h0) t.val t.isLt ht

theorem start8 (t : Fin cfg0.N) (h0 : t.val % 32 = 0) :
    (outsAt0 m c t.val t.isLt).2.2.2.1 (ix2 0 d) = ∑ r : Fin 256, rowG m c d (256 * t.val + r) := by
  have hN : t.val < 32 := N_0 ▸ t.isLt
  rw [outsAt0_A m c t h0 (by omega) h0 (by omega) h0 (by omega)]
  dsimp only
  rw [first_8, g_point]

theorem added8 (t : Fin cfg0.N) (h0 : ¬t.val % 32 = 0) : (outsAt0 m c t.val t.isLt).2.2.2.1 (ix2 0 d)
    = (outsAt0 m c (t.val - 1) (by omega)).2.2.2.1 (ix2 0 d) + ∑ r : Fin 256, rowG m c d (256 * t.val + r) := by
  have hN : t.val < 32 := N_0 ▸ t.isLt
  rw [outsAt0_B m c t h0 (by omega) h0 (by omega) h0 (by omega)]
  dsimp only
  rw [next_8, pay1_apply, g_point]

theorem written8 (t : Fin cfg0.N) (ht : t.val % 32 = 31) : (outsAt0 m c t.val t.isLt).2.2.2.1 (ix2 0 d) = ∑ a ∈ range 8192, rowG m c d a :=
  all_rows (fun n h => (outsAt0 m c n h).2.2.2.1 (ix2 0 d)) (rowG m c d) (fun n h h0 => start8 m c d ⟨n, h⟩ h0)
    (fun n h h0 => added8 m c d ⟨n, h⟩ h0) t.val t.isLt ht

theorem start9 (t : Fin cfg0.N) (h0 : t.val % 32 = 0) :
    (outsAt0 m c t.val t.isLt).2.2.2.2 (ix2 0 d) = ∑ r : Fin 256, rowW m c d (256 * t.val + r) := by
  have hN : t.val < 32 := N_0 ▸ t.isLt
  rw [outsAt0_A m c t h0 (by omega) h0 (by omega) h0 (by omega)]
  dsimp only
  rw [first_9, w_point]

theorem added9 (t : Fin cfg0.N) (h0 : ¬t.val % 32 = 0) : (outsAt0 m c t.val t.isLt).2.2.2.2 (ix2 0 d)
    = (outsAt0 m c (t.val - 1) (by omega)).2.2.2.2 (ix2 0 d) + ∑ r : Fin 256, rowW m c d (256 * t.val + r) := by
  have hN : t.val < 32 := N_0 ▸ t.isLt
  rw [outsAt0_B m c t h0 (by omega) h0 (by omega) h0 (by omega)]
  dsimp only
  rw [next_9, pay2_apply, w_point]

theorem written9 (t : Fin cfg0.N) (ht : t.val % 32 = 31) : (outsAt0 m c t.val t.isLt).2.2.2.2 (ix2 0 d) = ∑ a ∈ range 8192, rowW m c d a :=
  all_rows (fun n h => (outsAt0 m c n h).2.2.2.2 (ix2 0 d)) (rowW m c d) (fun n h h0 => start9 m c d ⟨n, h⟩ h0)
    (fun n h h0 => added9 m c d ⟨n, h⟩ h0) t.val t.isLt ht

end Cert.LossKernelIdeal.Head
end
end
-- ==== Proof.Loss.lean ====
module

public import proofs.«01_k».proof.Defs
public import proofs.«01_k».proof.Proof.LossPoint
public import proofs.«01_k».proof.Proof.Gen.LossReferenceIdeal.Run
public import proofs.«01_k».proof.Proof.Gen.LossReferenceIdeal.Read
public import Idealize.ShloMosaic.Lib.Pipeline.Value
public import Idealize.ShloMosaic.Lib.Pointwise

/-! The loss and its gradients: the kernel's five results and the reference's. -/

@[expose] public section

noncomputable section

namespace Cert.LossKernelIdeal.Head

open Idealize.ShloMosaic Idealize.ShloMosaic.TcCoe Cert.LossKernelIdeal.Gen Cert.LossKernelIdeal
open Idealize.SL Idealize.SL.Sem
open Cert.Ada (ms inv)
open Cert.Mm Cert.Loss Finset

/-! ## The kernel's results -/

theorem index5 : ∀ t : Fin grid0.N, win0_5.index t (0 : Fin 2) = 0 ∧ win0_5.index t (1 : Fin 2) = 0 := by decide +kernel
theorem index6 : ∀ t : Fin grid0.N, win0_6.index t (0 : Fin 2) = t.val ∧ win0_6.index t (1 : Fin 2) = 0 := by decide +kernel
theorem index7 : ∀ t : Fin grid0.N, win0_7.index t (0 : Fin 2) = t.val ∧ win0_7.index t (1 : Fin 2) = 0 := by decide +kernel
theorem index8 : ∀ t : Fin grid0.N, win0_8.index t (0 : Fin 2) = 0 ∧ win0_8.index t (1 : Fin 2) = 0 := by decide +kernel
theorem index9 : ∀ t : Fin grid0.N, win0_9.index t (0 : Fin 2) = 0 ∧ win0_9.index t (1 : Fin 2) = 0 := by decide +kernel

section
variable (m : (ℓ : Loc nD τ sig) → Buf (Elt Ideal) ℓ) (c : Dev nD)

/-- The loss, in every lane. -/
def lossAll : Vec Ideal S1x128 .f32 := fun _ => ∑ a ∈ range 8192, rowL m c a
/-- The rows' gradients. -/
def gradX : Vec Ideal S8192x2048 .f32 := fun i => rowX m c (i 0).val (i 1).val
/-- The branch's gradients. -/
def gradU : Vec Ideal S8192x2048 .bf16 := fun i => rowU m c (i 0).val (i 1).val
/-- The gate's gradient. -/
def gradG : Vec Ideal S1x2048 .f32 := fun i => ∑ a ∈ range 8192, rowG m c (i 1).val a
/-- The weights' gradient. -/
def gradW : Vec Ideal S1x2048 .f32 := fun i => ∑ a ∈ range 8192, rowW m c (i 1).val a

theorem flushed5 (t : Fin cfg0.N) (hf : (cfg0.win 5).flush t = true) :
    (dats m 0 c).flushed 5 t = ((cfg0.win 5).blk t).view.read (Elt Ideal) (lossAll m c) := by
  show (cfg0.win 5).cut (grid0.coords t) ((dats m 0 c).after 5 t) = _
  rw [after0_5]
  funext y
  rw [View.read_apply]
  refine (written5 m c _ t ((flush0_5 t).mp hf)).trans ?_
  exact (cast_eq _ _).symm

theorem covered5 (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 32 := N_0
  refine ⟨⟨31, by omega⟩, (flush0_5 _).mpr rfl, ?_⟩
  generalize (⟨31, _⟩ : Fin cfg0.N) = t
  show i ∈ ((View.whole main_v0_0).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    rw [(index5 t).1]; omega
  | ⟨1, _⟩ =>
    show win0_5.index t (1 : Fin 2) * 128 ≤ (i 1).val ∧ (i 1).val < win0_5.index t (1 : Fin 2) * 128 + 128
    rw [(index5 t).2]; omega

theorem flushed6 (t : Fin cfg0.N) (_ : (cfg0.win 6).flush t = true) :
    (dats m 0 c).flushed 6 t = ((cfg0.win 6).blk t).view.read (Elt Ideal) (gradX m c) := by
  show (cfg0.win 6).cut (grid0.coords t) ((dats m 0 c).after 6 t) = _
  rw [after0_6]
  funext y
  rw [View.read_apply]
  have h := point6 m c t (⟨(y 1).val, (y 1).isLt⟩ : Fin 2048) (⟨(y 0).val, (y 0).isLt⟩ : Fin 256)
  have e0 : (((cfg0.win 6).blk t).view.emb y 0).val = 256 * t.val + (y 0).val := by
    show win0_6.index t 0 * 256 + 1 * (y 0).val = _
    rw [(index6 t).1]; omega
  have e1 : (((cfg0.win 6).blk t).view.emb y 1).val = (y 1).val := by
    show win0_6.index t 1 * 2048 + 1 * (y 1).val = _
    rw [(index6 t).2]; omega
  have hx : (cfg0.win 6).xinj (grid0.coords t) y = ix2 (⟨(y 0).val, (y 0).isLt⟩ : Fin 256) (⟨(y 1).val, (y 1).isLt⟩ : Fin 2048) := by
    funext a
    match a with
    | ⟨0, _⟩ => rfl
    | ⟨1, _⟩ => rfl
  have hg : gradX m c (((cfg0.win 6).blk t).view.emb y) = rowX m c (256 * t.val + (y 0).val) (y 1).val := by
    unfold gradX
    rw [e0, e1]
  dsimp only at h
  refine (congrArg (outsAt0 m c t.val t.isLt).2.1 hx).trans ?_
  rw [h, ← hg]
  exact (cast_eq _ _).symm

theorem covered6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 32 := N_0
  refine ⟨⟨(i 0).val / 256, by omega⟩, flush0_6 _, ?_⟩
  generalize ht : (⟨(i 0).val / 256, _⟩ : Fin cfg0.N) = t
  have htv : t.val = (i 0).val / 256 := by rw [← ht]
  show i ∈ ((View.whole main_v0_1).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [(index6 t).1]; omega
  | ⟨1, _⟩ =>
    show win0_6.index t (1 : Fin 2) * 2048 ≤ (i 1).val ∧ (i 1).val < win0_6.index t (1 : Fin 2) * 2048 + 2048
    rw [(index6 t).2]; omega

theorem flushed7 (t : Fin cfg0.N) (_ : (cfg0.win 7).flush t = true) :
    (dats m 0 c).flushed 7 t = ((cfg0.win 7).blk t).view.read (Elt Ideal) (gradU m c) := by
  show (cfg0.win 7).cut (grid0.coords t) ((dats m 0 c).after 7 t) = _
  rw [after0_7]
  funext y
  rw [View.read_apply]
  have h := point7 m c t (⟨(y 1).val, (y 1).isLt⟩ : Fin 2048) (⟨(y 0).val, (y 0).isLt⟩ : Fin 256)
  have e0 : (((cfg0.win 7).blk t).view.emb y 0).val = 256 * t.val + (y 0).val := by
    show win0_7.index t 0 * 256 + 1 * (y 0).val = _
    rw [(index7 t).1]; omega
  have e1 : (((cfg0.win 7).blk t).view.emb y 1).val = (y 1).val := by
    show win0_7.index t 1 * 2048 + 1 * (y 1).val = _
    rw [(index7 t).2]; omega
  have hx : (cfg0.win 7).xinj (grid0.coords t) y = ix2 (⟨(y 0).val, (y 0).isLt⟩ : Fin 256) (⟨(y 1).val, (y 1).isLt⟩ : Fin 2048) := by
    funext a
    match a with
    | ⟨0, _⟩ => rfl
    | ⟨1, _⟩ => rfl
  have hg : gradU m c (((cfg0.win 7).blk t).view.emb y) = rowU m c (256 * t.val + (y 0).val) (y 1).val := by
    unfold gradU
    rw [e0, e1]
  dsimp only at h
  refine (congrArg (outsAt0 m c t.val t.isLt).2.2.1 hx).trans ?_
  rw [h, ← hg]
  exact (cast_eq _ _).symm

theorem covered7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  have hN : cfg0.N = 32 := N_0
  refine ⟨⟨(i 0).val / 256, by omega⟩, flush0_7 _, ?_⟩
  generalize ht : (⟨(i 0).val / 256, _⟩ : Fin cfg0.N) = t
  have htv : t.val = (i 0).val / 256 := by rw [← ht]
  show i ∈ ((View.whole main_v0_2).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    rw [(index7 t).1]; omega
  | ⟨1, _⟩ =>
    show win0_7.index t (1 : Fin 2) * 2048 ≤ (i 1).val ∧ (i 1).val < win0_7.index t (1 : Fin 2) * 2048 + 2048
    rw [(index7 t).2]; omega

theorem flushed8 (t : Fin cfg0.N) (hf : (cfg0.win 8).flush t = true) :
    (dats m 0 c).flushed 8 t = ((cfg0.win 8).blk t).view.read (Elt Ideal) (gradG m c) := by
  show (cfg0.win 8).cut (grid0.coords t) ((dats m 0 c).after 8 t) = _
  rw [after0_8]
  funext y
  rw [View.read_apply]
  have h := written8 m c (⟨(y 1).val, (y 1).isLt⟩ : Fin 2048) t ((flush0_8 t).mp hf)
  have e1 : (((cfg0.win 8).blk t).view.emb y 1).val = (y 1).val := by
    show win0_8.index t 1 * 2048 + 1 * (y 1).val = _
    rw [(index8 t).2]; omega
  have hx : (cfg0.win 8).xinj (grid0.coords t) y = ix2 (0 : Fin 1) (⟨(y 1).val, (y 1).isLt⟩ : Fin 2048) := by
    funext a
    match a with
    | ⟨0, _⟩ => exact Fin.ext (Nat.lt_one_iff.mp (show (y 0).val < 1 from (y 0).isLt))
    | ⟨1, _⟩ => rfl
  refine (congrArg (outsAt0 m c t.val t.isLt).2.2.2.1 hx).trans (h.trans ?_)
  refine Eq.trans ?_ (cast_eq _ _).symm
  unfold gradG
  rw [e1]

theorem covered8 (i : S1x2048.Idx) : ∃ t : Fin cfg0.N, (cfg0.win 8).flush t = true ∧ i ∈ ((cfg0.win 8).blk t).view.set := by
  have hi0 : (i 0).val < 1 := (i 0).isLt
  have hi1 : (i 1).val < 2048 := (i 1).isLt
  have hN : cfg0.N = 32 := N_0
  refine ⟨⟨31, by omega⟩, (flush0_8 _).mpr rfl, ?_⟩
  generalize (⟨31, _⟩ : Fin cfg0.N) = t
  show i ∈ ((View.whole main_v0_3).slice (win0_8.rect t)).set
  rw [View.set_slice_whole, Rect.mem_set_unit]
  intro a
  match a with
  | ⟨0, _⟩ =>
    show win0_8.index t (0 : Fin 2) * 1 ≤ (i 0).val ∧ (i 0).val < win0_8.index t (0 : Fin 2) * 1 + 1
    rw [(index8 t).1]; omega
  | ⟨1, _⟩ =>
    show win0_8.index t (1 : Fin 2) * 2048 ≤ (i 1).val ∧ (i 1).val < win0_8.index t (1 : Fin 2) * 2048 + 2048
    rw [(index8 t).2]; omega

theorem flushed9 (t : Fin cfg0.N) (hf : (cfg0.win 9).flush t = true) :
    (dats m 0 c).flushed 9 t = ((cfg0.win 9).blk t).view.read (Elt Ideal) (gradW m c) := by
  show (cfg0.win 9).cut (grid0.coords t) ((dats m 0 c).after 9 t) = _
  rw [after0_9]
  funext y
  rw [View.read_apply]
  have h := written9 m c (⟨(y 1).val, (y 1).isLt⟩ : Fin 2048) t ((flush0_9 t).mp hf)
  have e1 : (((cfg0.win 9).blk t).view.emb y 1).val = (y 1).val := by
    show win0_9.index t 1 * 2048 + 1 * (y 1).val = _
    rw [(index9 t).2]; omega
  have hx : (cfg0.win 9).xinj (grid0.coords t) y = ix2 (0 : Fin 1) (⟨(y 1).val, (y 1).isLt⟩ : Fin 2048) := by
    funext a
    match a with
    | ⟨0, _⟩ => exact Fin.ext (Nat.lt_one_iff.mp (show (y 0).val < 1 from (y 0).isLt))
    | ⟨1, _⟩ => rfl
  refine (congrArg (outsAt0 m c t.val t.isLt).2.2.2.2 hx).trans (h.trans ?_)
  refine Eq.trans ?_ (cast_eq _ _).symm
  unfold gradW
  rw [e1]

theorem covered9 (i : S1x2048.Idx) : ∃ t : Fin cfg0.N, (cfg0.win 9).flush t = true ∧ i ∈ ((cfg0.win 9).blk t).view.set := by
  have hi0 : (i 0).val < 1 := (i 0).isLt
  have hi1 : (i 1).val < 2048 := (i 1).isLt
  have hN : cfg0.N = 32 := N_0
  refine ⟨⟨31, by omega⟩, (flush0_9 _).mpr rfl, ?_⟩
  generalize (⟨31, _⟩ : Fin cfg0.N) = t
  show i ∈ ((View.whole main_v0_4).slice (win0_9.rect t)).set
  rw [View.set_slice_whole, Rect.mem_set_unit]
  intro a
  match a with
  | ⟨0, _⟩ =>
    show win0_9.index t (0 : Fin 2) * 1 ≤ (i 0).val ∧ (i 0).val < win0_9.index t (0 : Fin 2) * 1 + 1
    rw [(index9 t).1]; omega
  | ⟨1, _⟩ =>
    show win0_9.index t (1 : Fin 2) * 2048 ≤ (i 1).val ∧ (i 1).val < win0_9.index t (1 : Fin 2) * 2048 + 2048
    rw [(index9 t).2]; omega

/-- The kernel's run leaves the loss and the four gradients in its results. -/
theorem run (ρ : Dev nD → PrngReg) : θ_run defs (onTc (τ := τ) (main (F := Ideal))) ⟨m, fun _ => 0, ρ⟩ fun r => ∀ c : Dev nD,
    r.2.mem ((c : Thread nD τ).loc main_v0_0) = lossAll m c ∧ r.2.mem ((c : Thread nD τ).loc main_v0_1) = gradX m c
      ∧ r.2.mem ((c : Thread nD τ).loc main_v0_2) = gradU m c ∧ r.2.mem ((c : Thread nD τ).loc main_v0_3) = gradG m c
      ∧ r.2.mem ((c : Thread nD τ).loc main_v0_4) = gradW m c :=
  (θ_run defs _ _).mono (fun r h c =>
    ⟨((h c).1 5).trans ((dats m 0 c).arrAt_eq_of_cover 5 _ (fun t hf => flushed5 m c t hf) covered5),
      ((h c).1 6).trans ((dats m 0 c).arrAt_eq_of_cover 6 _ (fun t hf => flushed6 m c t hf) covered6),
      ((h c).1 7).trans ((dats m 0 c).arrAt_eq_of_cover 7 _ (fun t hf => flushed7 m c t hf) covered7),
      ((h c).1 8).trans ((dats m 0 c).arrAt_eq_of_cover 8 _ (fun t hf => flushed8 m c t hf) covered8),
      ((h c).1 9).trans ((dats m 0 c).arrAt_eq_of_cover 9 _ (fun t hf => flushed9 m c t hf) covered9)⟩) (run_main m ρ)
end

/-! ## The reference -/

section
open Cert.LossReferenceIdeal.Read

variable (x u : Vec Ideal S8192x2048 .f32) (g w : Vec Ideal S1x2048 .f32) (t : Vec Ideal S8192x2048 .f32)

/-- The row the loss is taken of. -/
abbrev hr (a : ℕ) : ℕ → EReal := hid (at2 x a) (at2 u a) (at2 g 0)

theorem zero_first (f : Cert.LossReferenceIdeal.S_.Idx → EReal) (h : ∀ i, f i = Ideal.ofBits .f32 0x00000000#32) (i) (a : EReal) :
    f i + a = a := by
  rw [h]
  simp

theorem ref_h (i : S8192x2048.Idx) : val_main_v2 (F := Ideal) x u g i = hr x u g (i 0).val (i 1).val := by
  rw [val_main_v2_apply, val_main_v1_apply, val_main_v0_apply, at2_eq x i rfl rfl, at2_eq u i rfl rfl,
    at2_eq g (idx_main_v0 i) (r := 0) (c := (i 1).val) rfl rfl]
  rfl

theorem ref_ms (i : Cert.LossReferenceIdeal.S8192x1.Idx) : val_main_v10 (F := Ideal) x u g i = ms (hr x u g (i 0).val) := by
  rw [val_main_v10_apply, val_main_v8_apply, val_main_v6_apply, val_main_v5_apply, val_main_v7_apply, val_main_v9_apply,
    zero_first _ val_main_cst_apply]
  refine congrArg (fun u => Ideal.div u (Ideal.ofBits .f32 0x45000000#32) + Ideal.ofBits .f32 0x358637BD#32)
    (sum_congr rfl fun k _ => ?_)
  rw [val_main_v4_apply, ref_h]
  rfl

theorem ref_inv (i : Cert.LossReferenceIdeal.S8192x1.Idx) : val_main_v11 (F := Ideal) x u g i = inv (hr x u g (i 0).val) := by
  rw [val_main_v11_apply, ref_ms]
  rfl

theorem ref_norm (i : S8192x2048.Idx) :
    val_main_v16 (F := Ideal) x u g i = hr x u g (i 0).val (i 1).val * inv (hr x u g (i 0).val) := by
  rw [val_main_v16_apply, val_main_v15_apply, ref_inv, ref_h]
  rfl

theorem ref_w (i : Cert.LossReferenceIdeal.S1x2048.Idx) : val_main_v17 (F := Ideal) w i = at2 w 0 (i 1).val := by
  rw [val_main_v17_apply, val_main_v3_apply]
  exact at2_eq w _ rfl (Nat.mod_eq_of_lt (i 1).isLt)

theorem ref_err (i : S8192x2048.Idx) :
    val_main_v20 (F := Ideal) x u g w t i = err (hr x u g (i 0).val) (at2 w 0) (at2 t (i 0).val) (i 1).val := by
  rw [val_main_v20_apply, val_main_v19_apply, ref_norm, val_main_v18_apply, ref_w, at2_eq t i rfl rfl]
  rfl

theorem ref_sq (a : Fin 8192) :
    val_main_v26 (F := Ideal) x u g w t (ix1 a) = sq (hr x u g a.val) (at2 w 0) (at2 t a.val) := by
  rw [val_main_v26_apply, val_main_v24_apply, val_main_v25_apply, zero_first _ val_main_cst_4_apply]
  refine congrArg (fun u => Ideal.div u (Ideal.ofBits .f32 0x45000000#32)) (sum_congr rfl fun k _ => ?_)
  rw [val_main_v21_apply, ref_err]
  rfl

theorem ref_gy (i : S8192x2048.Idx) :
    val_main_v34 (F := Ideal) x u g w t i = gy (hr x u g (i 0).val) (at2 w 0) (at2 t (i 0).val) (i 1).val := by
  rw [val_main_v34_apply, val_main_v33_apply, val_main_v32_apply, val_main_v30_apply, val_main_v31_apply, val_main_v29_apply,
    val_main_v23_apply, val_main_v22_apply, ref_err]
  rfl

theorem ref_gn (i : S8192x2048.Idx) :
    val_main_v39 (F := Ideal) x u g w t i = gn (hr x u g (i 0).val) (at2 w 0) (at2 t (i 0).val) (i 1).val := by
  rw [val_main_v39_apply, ref_gy, val_main_v38_apply, ref_w]
  rfl

theorem ref_dms (i : Cert.LossReferenceIdeal.S8192x1.Idx) :
    val_main_v48 (F := Ideal) x u g w t i = dms (hr x u g (i 0).val) (at2 w 0) (at2 t (i 0).val) := by
  rw [val_main_v48_apply, val_main_v46_apply, val_main_v43_apply, val_main_v42_apply, val_main_v14_apply, val_main_v12_apply,
    val_main_v13_apply, val_main_v47_apply, zero_first _ val_main_cst_13_apply, ref_inv, ref_ms]
  refine congrArg (fun v => Ideal.div (v * (Ideal.ofBits .f32 0xBF000000#32
    * Ideal.div (inv (hr x u g (i 0).val)) (ms (hr x u g (i 0).val)))) (Ideal.ofBits .f32 0x45000000#32)) (sum_congr rfl fun k _ => ?_)
  rw [val_main_v41_apply, ref_gn, ref_h]
  have hi : (idx_main_v42 (idx_main_v43 i) k 0).val = (i 0).val := by
    have h1 : (i 1).val < 1 := (i 1).isLt
    show (i 0).val * 1 + (i 1).val = _
    omega
  rw [hi]
  rfl

theorem reference_x (i : S8192x2048.Idx) : val_main_v54 (F := Ideal) x u g w t i
    = dx (hr x u g (i 0).val) (at2 w 0) (at2 t (i 0).val) (i 1).val := by
  have h50 : val_main_v50 (F := Ideal) x u g w t i = dms (hr x u g (i 0).val) (at2 w 0) (at2 t (i 0).val) := by
    rw [val_main_v50_apply, val_main_v49_apply, zero_first _ val_main_cst_15_apply, Fin.sum_univ_one, ref_dms]
  rw [val_main_v54_apply, val_main_v52_apply, val_main_v53_apply, val_main_v51_apply, val_main_v45_apply, val_main_v44_apply,
    ref_gn, ref_inv, h50, ref_h]
  rfl

theorem reference_u (i : S8192x2048.Idx) : val_main_v62 (F := Ideal) x u g w t i
    = at2 g 0 (i 1).val * dx (hr x u g (i 0).val) (at2 w 0) (at2 t (i 0).val) (i 1).val := by
  rw [val_main_v62_apply, val_main_v57_apply, val_main_v56_apply, reference_x,
    at2_eq g (idx_main_v56 i) (r := 0) (c := (i 1).val) rfl rfl]
  rfl

theorem reference_l (i : S1x128.Idx) : val_main_v61 (F := Ideal) x u g w t i
    = ∑ a ∈ range 8192, half * sq (hr x u g a) (at2 w 0) (at2 t a) := by
  rw [val_main_v61_apply, val_main_v28_apply, val_main_v27_apply, zero_first _ val_main_cst_6_apply, sum_idx1, ← half_sum, sum_range]
  refine congrArg (half * ·) (sum_congr rfl fun k _ => ?_)
  exact ref_sq x u g w t k

theorem reference_g (i : S1x2048.Idx) : val_main_v60 (F := Ideal) x u g w t i
    = ∑ a ∈ range 8192, dx (hr x u g a) (at2 w 0) (at2 t a) (i 1).val * at2 u a (i 1).val := by
  have h0 : (i 0).val < 1 := (i 0).isLt
  rw [val_main_v60_apply, val_main_v59_apply, zero_first _ val_main_cst_16_apply, sum_range]
  refine sum_congr rfl fun k _ => ?_
  have e : ∀ j, j = (i 1).val → FloatOps.mulf (F := Ideal) (φ := .f32) (dx (hr x u g k.val) (at2 w 0) (at2 t k.val) j) (at2 u k.val j)
      = dx (hr x u g k.val) (at2 w 0) (at2 t k.val) (i 1).val * at2 u k.val (i 1).val := by
    rintro j rfl; rfl
  rw [val_main_v58_apply, reference_x, at2_eq u (idx_main_v59 (idx_main_v60 i) k) rfl rfl]
  exact e _ (by show (i 0).val * 2048 + (i 1).val = (i 1).val; omega)

theorem reference_w (i : S1x2048.Idx) : val_main_v55 (F := Ideal) x u g w t i
    = ∑ a ∈ range 8192, tw (hr x u g a) (at2 w 0) (at2 t a) (i 1).val := by
  rw [val_main_v55_apply, val_main_v40_apply, zero_first _ val_main_cst_12_apply, Fin.sum_univ_one, val_main_v37_apply, val_main_v36_apply,
    zero_first _ val_main_cst_11_apply, sum_range]
  refine sum_congr rfl fun k _ => ?_
  rw [val_main_v35_apply, ref_norm, ref_gy, tw]
  have e : ∀ j, j = (i 1).val → FloatOps.mulf (F := Ideal) (φ := .f32) (hr x u g k.val j * inv (hr x u g k.val))
      (gy (hr x u g k.val) (at2 w 0) (at2 t k.val) j)
      = hr x u g k.val (i 1).val * inv (hr x u g k.val) * gy (hr x u g k.val) (at2 w 0) (at2 t k.val) (i 1).val := by
    rintro j rfl; rfl
  exact e _ (by show 0 * 2048 + (i 1).val = (i 1).val; omega)
end

/-- Over the reals, the kernel's loss and its four gradients are the reference's. -/
theorem values : Cert.algebraic_LossKernelIdeal_LossReferenceIdeal := fun m g m' g' _ hm =>
  ⟨fun c => lossAll m c, fun c => gradX m c, fun c => gradU m c, fun c => gradG m c, fun c => gradW m c,
    (θ_run defs _ _).mono (fun r h c => ⟨(h.1 c).1, (h.1 c).2.1, (h.1 c).2.2.1, (h.1 c).2.2.2.1, (h.1 c).2.2.2.2, h.2 c⟩)
      (θ_run_and (run m g) (unchanged m g)),
    (θ_run Cert.LossReferenceIdeal.defs _ _).mono (fun r h c =>
        have e := hm c
        ⟨(h c).1.trans ((Cert.LossReferenceIdeal.Read.val_main_v61_eq _ _ _ _ _).trans (by
            rw [e.1, e.2.1, e.2.2.1, e.2.2.2.1, e.2.2.2.2]
            exact funext fun i => reference_l _ _ _ _ _ i)),
          (h c).2.1.trans ((Cert.LossReferenceIdeal.Read.val_main_v54_eq _ _).trans (by
            rw [e.1, e.2.1, e.2.2.1, e.2.2.2.1, e.2.2.2.2]
            exact funext fun i => reference_x _ _ _ _ _ i)),
          (h c).2.2.1.trans ((Cert.LossReferenceIdeal.Read.val_main_v62_eq _ _).trans (by
            rw [e.1, e.2.1, e.2.2.1, e.2.2.2.1, e.2.2.2.2]
            exact funext fun i => reference_u _ _ _ _ _ i)),
          (h c).2.2.2.1.trans ((Cert.LossReferenceIdeal.Read.val_main_v60_eq _ _).trans (by
            rw [e.1, e.2.1, e.2.2.1, e.2.2.2.1, e.2.2.2.2]
            exact funext fun i => reference_g _ _ _ _ _ i)),
          (h c).2.2.2.2.1.trans ((Cert.LossReferenceIdeal.Read.val_main_v55_eq _ _ _ _ _).trans (by
            rw [e.1, e.2.1, e.2.2.1, e.2.2.2.1, e.2.2.2.2]
            exact funext fun i => reference_w _ _ _ _ _ i)),
          (h c).2.2.2.2.2⟩)
        (Cert.LossReferenceIdeal.Value.run (F := Ideal) m' g')⟩

end Cert.LossKernelIdeal.Head
end
end
-- ==== Proof.lean ====
/- The stick-breaking attention, its gradient, the matrix products of the step and the gradients of its norm and of its
   convolution: their frames, and their results over the reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Agree
public import proofs.«01_k».proof.Proof.Dx
public import proofs.«01_k».proof.Proof.Dw
public import proofs.«01_k».proof.Proof.Dh
public import proofs.«01_k».proof.Proof.DwWide
public import proofs.«01_k».proof.Proof.Y
public import proofs.«01_k».proof.Proof.Big
public import proofs.«01_k».proof.Proof.FwdValues
public import proofs.«01_k».proof.Proof.Ada
public import proofs.«01_k».proof.Proof.Conv
public import proofs.«01_k».proof.Proof.Adam
public import proofs.«01_k».proof.Proof.Small
public import proofs.«01_k».proof.Proof.DwSmall
public import proofs.«01_k».proof.Proof.Sum
public import proofs.«01_k».proof.Proof.DwAda
public import proofs.«01_k».proof.Proof.Norm
public import proofs.«01_k».proof.Proof.ConvFwd
public import proofs.«01_k».proof.Proof.Mod
public import proofs.«01_k».proof.Proof.Merge
public import proofs.«01_k».proof.Proof.MergeBwd
public import proofs.«01_k».proof.Proof.Loss
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxReferenceIdeal
public import proofs.«01_k».proof.Proof.Gen.DxReferenceIdeal.Run
public import proofs.«01_k».proof.Proof.Gen.DxReferenceIdeal.Read
public import proofs.«01_k».proof.Proof.Gen.DwWideKernel
public import proofs.«01_k».proof.Proof.Gen.DwWideKernel.Skeleton
public import proofs.«01_k».proof.Proof.Gen.DwWideKernel.Launch
public import proofs.«01_k».proof.Proof.Gen.DwWideKernel.Points
public import proofs.«01_k».proof.Proof.Gen.DwWideKernel.Frame
public import proofs.«01_k».proof.Proof.Gen.DwWideKernelIdeal
public import proofs.«01_k».proof.Proof.Gen.DwWideKernelIdeal.Skeleton
public import proofs.«01_k».proof.Proof.Gen.DwWideKernelIdeal.Launch
public import proofs.«01_k».proof.Proof.Gen.DwWideKernelIdeal.Points
public import proofs.«01_k».proof.Proof.Gen.DwWideKernelIdeal.Frame
public import proofs.«01_k».proof.Proof.Gen.DwWideReferenceIdeal
public import proofs.«01_k».proof.Proof.Gen.DwWideReferenceIdeal.Run
public import proofs.«01_k».proof.Proof.Gen.DwWideReferenceIdeal.Read
public import proofs.«01_k».proof.Proof.Gen.YKernel
public import proofs.«01_k».proof.Proof.Gen.YKernel.Skeleton
public import proofs.«01_k».proof.Proof.Gen.YKernel.Launch
public import proofs.«01_k».proof.Proof.Gen.YKernel.Points
public import proofs.«01_k».proof.Proof.Gen.YKernel.Frame
public import proofs.«01_k».proof.Proof.Gen.YKernelIdeal
public import proofs.«01_k».proof.Proof.Gen.YKernelIdeal.Skeleton
public import proofs.«01_k».proof.Proof.Gen.YKernelIdeal.Launch
public import proofs.«01_k».proof.Proof.Gen.YKernelIdeal.Points
public import proofs.«01_k».proof.Proof.Gen.YKernelIdeal.Frame
public import proofs.«01_k».proof.Proof.Gen.YReferenceIdeal
public import proofs.«01_k».proof.Proof.Gen.YReferenceIdeal.Run
public import proofs.«01_k».proof.Proof.Gen.YReferenceIdeal.Read
public import proofs.«01_k».proof.Proof.Gen.BigKernel
public import proofs.«01_k».proof.Proof.Gen.BigKernel.Skeleton
public import proofs.«01_k».proof.Proof.Gen.BigKernel.Launch
public import proofs.«01_k».proof.Proof.Gen.BigKernel.Points
public import proofs.«01_k».proof.Proof.Gen.BigKernel.Frame
public import proofs.«01_k».proof.Proof.Gen.BigKernelIdeal
public import proofs.«01_k».proof.Proof.Gen.BigKernelIdeal.Skeleton
public import proofs.«01_k».proof.Proof.Gen.BigKernelIdeal.Launch
public import proofs.«01_k».proof.Proof.Gen.BigKernelIdeal.Points
public import proofs.«01_k».proof.Proof.Gen.BigKernelIdeal.Frame
public import proofs.«01_k».proof.Proof.Gen.BigReferenceIdeal
public import proofs.«01_k».proof.Proof.Gen.BigReferenceIdeal.Run
public import proofs.«01_k».proof.Proof.Gen.BigReferenceIdeal.Read
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.DwReferenceIdeal.Run
public import proofs.«01_k».proof.Proof.Gen.DwReferenceIdeal.Read
public import proofs.«01_k».proof.Proof.Gen.DhKernel
public import proofs.«01_k».proof.Proof.Gen.DhKernel.Skeleton
public import proofs.«01_k».proof.Proof.Gen.DhKernel.Launch
public import proofs.«01_k».proof.Proof.Gen.DhKernel.Points
public import proofs.«01_k».proof.Proof.Gen.DhKernel.Frame
public import proofs.«01_k».proof.Proof.Gen.DhKernelIdeal
public import proofs.«01_k».proof.Proof.Gen.DhKernelIdeal.Skeleton
public import proofs.«01_k».proof.Proof.Gen.DhKernelIdeal.Launch
public import proofs.«01_k».proof.Proof.Gen.DhKernelIdeal.Points
public import proofs.«01_k».proof.Proof.Gen.DhKernelIdeal.Frame
public import proofs.«01_k».proof.Proof.Gen.DhReferenceIdeal
public import proofs.«01_k».proof.Proof.Gen.DhReferenceIdeal.Run
public import proofs.«01_k».proof.Proof.Gen.DhReferenceIdeal.Read
public import proofs.«01_k».proof.Proof.Gen.FwdKernel
public import proofs.«01_k».proof.Proof.Gen.FwdKernel.Skeleton
public import proofs.«01_k».proof.Proof.Gen.FwdKernel.Loops
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Loops
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.AdamAdaKernel
public import proofs.«01_k».proof.Proof.Gen.AdamAdaKernel.Skeleton
public import proofs.«01_k».proof.Proof.Gen.AdamAdaKernel.Launch
public import proofs.«01_k».proof.Proof.Gen.AdamAdaKernel.Points
public import proofs.«01_k».proof.Proof.Gen.AdamAdaKernel.Frame
public import proofs.«01_k».proof.Proof.Gen.AdamAdaKernelIdeal
public import proofs.«01_k».proof.Proof.Gen.AdamAdaKernelIdeal.Skeleton
public import proofs.«01_k».proof.Proof.Gen.AdamAdaKernelIdeal.Launch
public import proofs.«01_k».proof.Proof.Gen.AdamAdaKernelIdeal.Points
public import proofs.«01_k».proof.Proof.Gen.AdamAdaKernelIdeal.Frame
public import proofs.«01_k».proof.Proof.Gen.AdamAdaKernelIdeal.Value
public import proofs.«01_k».proof.Proof.Gen.AdamAdaReferenceIdeal
public import proofs.«01_k».proof.Proof.Gen.AdamAdaReferenceIdeal.Run
public import proofs.«01_k».proof.Proof.Gen.AdamAdaReferenceIdeal.Read
public import proofs.«01_k».proof.Proof.Gen.AdamInKernel
public import proofs.«01_k».proof.Proof.Gen.AdamInKernel.Skeleton
public import proofs.«01_k».proof.Proof.Gen.AdamInKernel.Launch
public import proofs.«01_k».proof.Proof.Gen.AdamInKernel.Points
public import proofs.«01_k».proof.Proof.Gen.AdamInKernel.Frame
public import proofs.«01_k».proof.Proof.Gen.AdamInKernelIdeal
public import proofs.«01_k».proof.Proof.Gen.AdamInKernelIdeal.Skeleton
public import proofs.«01_k».proof.Proof.Gen.AdamInKernelIdeal.Launch
public import proofs.«01_k».proof.Proof.Gen.AdamInKernelIdeal.Points
public import proofs.«01_k».proof.Proof.Gen.AdamInKernelIdeal.Frame
public import proofs.«01_k».proof.Proof.Gen.AdamInKernelIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamConvKernel
public import proofs.«01_k».proof.Proof.Gen.AdamConvKernel.Skeleton
public import proofs.«01_k».proof.Proof.Gen.AdamConvKernel.Launch
public import proofs.«01_k».proof.Proof.Gen.AdamConvKernel.Points
public import proofs.«01_k».proof.Proof.Gen.AdamConvKernel.Frame
public import proofs.«01_k».proof.Proof.Gen.AdamConvKernelIdeal
public import proofs.«01_k».proof.Proof.Gen.AdamConvKernelIdeal.Skeleton
public import proofs.«01_k».proof.Proof.Gen.AdamConvKernelIdeal.Launch
public import proofs.«01_k».proof.Proof.Gen.AdamConvKernelIdeal.Points
public import proofs.«01_k».proof.Proof.Gen.AdamConvKernelIdeal.Frame
public import proofs.«01_k».proof.Proof.Gen.AdamConvKernelIdeal.Value
public import proofs.«01_k».proof.Proof.Gen.AdamConvReferenceIdeal
public import proofs.«01_k».proof.Proof.Gen.AdamConvReferenceIdeal.Run
public import proofs.«01_k».proof.Proof.Gen.AdamConvReferenceIdeal.Read
public import proofs.«01_k».proof.Proof.Gen.AdamProjKernel
public import proofs.«01_k».proof.Proof.Gen.AdamProjKernel.Skeleton
public import proofs.«01_k».proof.Proof.Gen.AdamProjKernel.Launch
public import proofs.«01_k».proof.Proof.Gen.AdamProjKernel.Points
public import proofs.«01_k».proof.Proof.Gen.AdamProjKernel.Frame
public import proofs.«01_k».proof.Proof.Gen.AdamProjKernelIdeal
public import proofs.«01_k».proof.Proof.Gen.AdamProjKernelIdeal.Skeleton
public import proofs.«01_k».proof.Proof.Gen.AdamProjKernelIdeal.Launch
public import proofs.«01_k».proof.Proof.Gen.AdamProjKernelIdeal.Points
public import proofs.«01_k».proof.Proof.Gen.AdamProjKernelIdeal.Frame
public import proofs.«01_k».proof.Proof.Gen.AdamProjKernelIdeal.Value
public import proofs.«01_k».proof.Proof.Gen.AdamProjReferenceIdeal
public import proofs.«01_k».proof.Proof.Gen.AdamProjReferenceIdeal.Run
public import proofs.«01_k».proof.Proof.Gen.AdamProjReferenceIdeal.Read
public import proofs.«01_k».proof.Proof.Gen.AdamSmallKernel
public import proofs.«01_k».proof.Proof.Gen.AdamSmallKernel.Skeleton
public import proofs.«01_k».proof.Proof.Gen.AdamSmallKernel.Launch
public import proofs.«01_k».proof.Proof.Gen.AdamSmallKernel.Points
public import proofs.«01_k».proof.Proof.Gen.AdamSmallKernel.Frame
public import proofs.«01_k».proof.Proof.Gen.AdamSmallKernelIdeal
public import proofs.«01_k».proof.Proof.Gen.AdamSmallKernelIdeal.Skeleton
public import proofs.«01_k».proof.Proof.Gen.AdamSmallKernelIdeal.Launch
public import proofs.«01_k».proof.Proof.Gen.AdamSmallKernelIdeal.Points
public import proofs.«01_k».proof.Proof.Gen.AdamSmallKernelIdeal.Frame
public import proofs.«01_k».proof.Proof.Gen.AdamSmallKernelIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Gen.SmallKernel
public import proofs.«01_k».proof.Proof.Gen.SmallKernel.Skeleton
public import proofs.«01_k».proof.Proof.Gen.SmallKernel.Launch
public import proofs.«01_k».proof.Proof.Gen.SmallKernel.Points
public import proofs.«01_k».proof.Proof.Gen.SmallKernel.Frame
public import proofs.«01_k».proof.Proof.Gen.SmallKernelIdeal
public import proofs.«01_k».proof.Proof.Gen.SmallKernelIdeal.Skeleton
public import proofs.«01_k».proof.Proof.Gen.SmallKernelIdeal.Launch
public import proofs.«01_k».proof.Proof.Gen.SmallKernelIdeal.Points
public import proofs.«01_k».proof.Proof.Gen.SmallKernelIdeal.Frame
public import proofs.«01_k».proof.Proof.Gen.SmallReferenceIdeal
public import proofs.«01_k».proof.Proof.Gen.SmallReferenceIdeal.Run
public import proofs.«01_k».proof.Proof.Gen.SmallReferenceIdeal.Read
public import proofs.«01_k».proof.Proof.Gen.DwSmallKernel
public import proofs.«01_k».proof.Proof.Gen.DwSmallKernel.Skeleton
public import proofs.«01_k».proof.Proof.Gen.DwSmallKernel.Launch
public import proofs.«01_k».proof.Proof.Gen.DwSmallKernel.Points
public import proofs.«01_k».proof.Proof.Gen.DwSmallKernel.Frame
public import proofs.«01_k».proof.Proof.Gen.DwSmallKernelIdeal
public import proofs.«01_k».proof.Proof.Gen.DwSmallKernelIdeal.Skeleton
public import proofs.«01_k».proof.Proof.Gen.DwSmallKernelIdeal.Launch
public import proofs.«01_k».proof.Proof.Gen.DwSmallKernelIdeal.Points
public import proofs.«01_k».proof.Proof.Gen.DwSmallKernelIdeal.Frame
public import proofs.«01_k».proof.Proof.Gen.DwSmallReferenceIdeal
public import proofs.«01_k».proof.Proof.Gen.DwSmallReferenceIdeal.Run
public import proofs.«01_k».proof.Proof.Gen.DwSmallReferenceIdeal.Read
public import proofs.«01_k».proof.Proof.Gen.SumKernel
public import proofs.«01_k».proof.Proof.Gen.SumKernel.Skeleton
public import proofs.«01_k».proof.Proof.Gen.SumKernel.Launch
public import proofs.«01_k».proof.Proof.Gen.SumKernel.Points
public import proofs.«01_k».proof.Proof.Gen.SumKernel.Frame
public import proofs.«01_k».proof.Proof.Gen.SumKernelIdeal
public import proofs.«01_k».proof.Proof.Gen.SumKernelIdeal.Skeleton
public import proofs.«01_k».proof.Proof.Gen.SumKernelIdeal.Launch
public import proofs.«01_k».proof.Proof.Gen.SumKernelIdeal.Points
public import proofs.«01_k».proof.Proof.Gen.SumKernelIdeal.Frame
public import proofs.«01_k».proof.Proof.Gen.SumKernelIdeal.Value
public import proofs.«01_k».proof.Proof.Gen.SumReferenceIdeal
public import proofs.«01_k».proof.Proof.Gen.SumReferenceIdeal.Run
public import proofs.«01_k».proof.Proof.Gen.SumReferenceIdeal.Read
public import proofs.«01_k».proof.Proof.Gen.DwAdaKernel
public import proofs.«01_k».proof.Proof.Gen.DwAdaKernel.Skeleton
public import proofs.«01_k».proof.Proof.Gen.DwAdaKernel.Launch
public import proofs.«01_k».proof.Proof.Gen.DwAdaKernel.Points
public import proofs.«01_k».proof.Proof.Gen.DwAdaKernel.Frame
public import proofs.«01_k».proof.Proof.Gen.DwAdaKernelIdeal
public import proofs.«01_k».proof.Proof.Gen.DwAdaKernelIdeal.Skeleton
public import proofs.«01_k».proof.Proof.Gen.DwAdaKernelIdeal.Launch
public import proofs.«01_k».proof.Proof.Gen.DwAdaKernelIdeal.Points
public import proofs.«01_k».proof.Proof.Gen.DwAdaKernelIdeal.Frame
public import proofs.«01_k».proof.Proof.Gen.DwAdaKernelIdeal.Value
public import proofs.«01_k».proof.Proof.Gen.DwAdaReferenceIdeal
public import proofs.«01_k».proof.Proof.Gen.DwAdaReferenceIdeal.Run
public import proofs.«01_k».proof.Proof.Gen.DwAdaReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.ConvFwdKernel
public import proofs.«01_k».proof.Proof.Gen.ConvFwdKernel.Skeleton
public import proofs.«01_k».proof.Proof.Gen.ConvFwdKernel.Launch
public import proofs.«01_k».proof.Proof.Gen.ConvFwdKernel.Points
public import proofs.«01_k».proof.Proof.Gen.ConvFwdKernel.Frame
public import proofs.«01_k».proof.Proof.Gen.ConvFwdKernelIdeal
public import proofs.«01_k».proof.Proof.Gen.ConvFwdKernelIdeal.Skeleton
public import proofs.«01_k».proof.Proof.Gen.ConvFwdKernelIdeal.Launch
public import proofs.«01_k».proof.Proof.Gen.ConvFwdKernelIdeal.Points
public import proofs.«01_k».proof.Proof.Gen.ConvFwdKernelIdeal.Frame
public import proofs.«01_k».proof.Proof.Gen.ConvFwdKernelIdeal.Value
public import proofs.«01_k».proof.Proof.Gen.ConvFwdReferenceIdeal
public import proofs.«01_k».proof.Proof.Gen.ConvFwdReferenceIdeal.Run
public import proofs.«01_k».proof.Proof.Gen.ConvFwdReferenceIdeal.Read
public import proofs.«01_k».proof.Proof.Gen.ModKernel
public import proofs.«01_k».proof.Proof.Gen.ModKernel.Skeleton
public import proofs.«01_k».proof.Proof.Gen.ModKernel.Launch
public import proofs.«01_k».proof.Proof.Gen.ModKernel.Points
public import proofs.«01_k».proof.Proof.Gen.ModKernel.Frame
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Points
public import proofs.«01_k».proof.Proof.Gen.ModKernelIdeal.Frame
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.MergeBwdKernel
public import proofs.«01_k».proof.Proof.Gen.MergeBwdKernel.Skeleton
public import proofs.«01_k».proof.Proof.Gen.MergeBwdKernel.Launch
public import proofs.«01_k».proof.Proof.Gen.MergeBwdKernel.Points
public import proofs.«01_k».proof.Proof.Gen.MergeBwdKernel.Frame
public import proofs.«01_k».proof.Proof.Gen.MergeBwdKernelIdeal
public import proofs.«01_k».proof.Proof.Gen.MergeBwdKernelIdeal.Skeleton
public import proofs.«01_k».proof.Proof.Gen.MergeBwdKernelIdeal.Launch
public import proofs.«01_k».proof.Proof.Gen.MergeBwdKernelIdeal.Points
public import proofs.«01_k».proof.Proof.Gen.MergeBwdKernelIdeal.Frame
public import proofs.«01_k».proof.Proof.Gen.MergeBwdReferenceIdeal
public import proofs.«01_k».proof.Proof.Gen.MergeBwdReferenceIdeal.Run
public import proofs.«01_k».proof.Proof.Gen.MergeBwdReferenceIdeal.Read
public import proofs.«01_k».proof.Proof.Gen.ModKernelIdeal.Value
public import proofs.«01_k».proof.Proof.Gen.MergeKernelIdeal.Value
public import proofs.«01_k».proof.Proof.Gen.MergeBwdKernelIdeal.Value
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossReferenceIdeal.Run
public import proofs.«01_k».proof.Proof.Gen.LossReferenceIdeal.Read
public import Idealize.ShloMosaic.Adequacy
public import Idealize.ShloMosaic.Init

@[expose] public section

noncomputable section

namespace Cert.Proof

open Idealize.ShloMosaic Idealize.SL.Sem

/-- The reference is host operations alone: its run keeps the arguments, and it has no semaphore. -/
theorem frame_reference : Cert.quiescent_ReferenceIdeal := fun m ρ _ =>
  (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Value.run (F := Ideal) m ρ)

/-- The same of the reference of a projection's input gradient. -/
theorem frame_dx : Cert.quiescent_DxReferenceIdeal := fun m ρ _ =>
  (θ_run Cert.DxReferenceIdeal.defs _ _).mono (fun r h => ⟨fun c => (h c).2, Idealize.ShloMosaic.sem_eq_zero_of_no_sems (by decide) r.2⟩)
    (Cert.DxReferenceIdeal.Value.run (F := Ideal) m ρ)

/-- The same of the reference of a weight's gradient. -/
theorem frame_dw : Cert.quiescent_DwReferenceIdeal := fun m ρ _ =>
  (θ_run Cert.DwReferenceIdeal.defs _ _).mono (fun r h => ⟨fun c => (h c).2, Idealize.ShloMosaic.sem_eq_zero_of_no_sems (by decide) r.2⟩)
    (Cert.DwReferenceIdeal.Value.run (F := Ideal) m ρ)

/-- The same of the reference of the activations' gradient. -/
theorem frame_dh : Cert.quiescent_DhReferenceIdeal := fun m ρ _ =>
  (θ_run Cert.DhReferenceIdeal.defs _ _).mono (fun r h => ⟨fun c => (h c).2, Idealize.ShloMosaic.sem_eq_zero_of_no_sems (by decide) r.2⟩)
    (Cert.DhReferenceIdeal.Value.run (F := Ideal) m ρ)

/-- The same of the reference of the wide weight's gradient. -/
theorem frame_dwWide : Cert.quiescent_DwWideReferenceIdeal := fun m ρ _ =>
  (θ_run Cert.DwWideReferenceIdeal.defs _ _).mono (fun r h => ⟨fun c => (h c).2, Idealize.ShloMosaic.sem_eq_zero_of_no_sems (by decide) r.2⟩)
    (Cert.DwWideReferenceIdeal.Value.run (F := Ideal) m ρ)

/-- The same of the reference of a projection. -/
theorem frame_y : Cert.quiescent_YReferenceIdeal := fun m ρ _ =>
  (θ_run Cert.YReferenceIdeal.defs _ _).mono (fun r h => ⟨fun c => (h c).2, Idealize.ShloMosaic.sem_eq_zero_of_no_sems (by decide) r.2⟩)
    (Cert.YReferenceIdeal.Value.run (F := Ideal) m ρ)

/-- The same of the reference of the input projection. -/
theorem frame_big : Cert.quiescent_BigReferenceIdeal := fun m ρ _ =>
  (θ_run Cert.BigReferenceIdeal.defs _ _).mono (fun r h => ⟨fun c => (h c).2, Idealize.ShloMosaic.sem_eq_zero_of_no_sems (by decide) r.2⟩)
    (Cert.BigReferenceIdeal.Value.run (F := Ideal) m ρ)

attribute [local instance] Cert.Agree.pre_facts

/-- The same of the attention's forward reference. -/
theorem frame_fwd : Cert.quiescent_FwdReferenceIdeal := fun m ρ _ =>
  (θ_run Cert.FwdReferenceIdeal.defs _ _).mono (fun r h => ⟨fun c => (h c).2.2, Idealize.ShloMosaic.sem_eq_zero_of_no_sems (by decide) r.2⟩)
    (Cert.FwdReferenceIdeal.Value.run (F := Ideal) m ρ)

/-- The same of the reference of the norm's gradient. -/
theorem frame_ada : Cert.quiescent_AdaReferenceIdeal := fun m ρ _ =>
  (θ_run Cert.AdaReferenceIdeal.defs _ _).mono (fun r h => ⟨fun c => (h c).2.2.2.2, Idealize.ShloMosaic.sem_eq_zero_of_no_sems (by decide) r.2⟩)
    (Cert.AdaReferenceIdeal.Value.run (F := Ideal) m ρ)

/-- The same of the reference of the convolution's gradient. -/
theorem frame_conv : Cert.quiescent_ConvReferenceIdeal := fun m ρ _ =>
  (θ_run Cert.ConvReferenceIdeal.defs _ _).mono (fun r h => ⟨fun c => (h c).2.2, Idealize.ShloMosaic.sem_eq_zero_of_no_sems (by decide) r.2⟩)
    (Cert.ConvReferenceIdeal.Value.run (F := Ideal) m ρ)

/-- The same of the reference of the modulation weight's optimiser step. -/
theorem frame_adamAda : Cert.quiescent_AdamAdaReferenceIdeal := fun m ρ _ =>
  (θ_run Cert.AdamAdaReferenceIdeal.defs _ _).mono (fun r h => ⟨fun c => (h c).2.2.2, Idealize.ShloMosaic.sem_eq_zero_of_no_sems (by decide) r.2⟩)
    (Cert.AdamAdaReferenceIdeal.Value.run (F := Ideal) m ρ)

/-- The same of the reference of the input weight's optimiser step. -/
theorem frame_adamIn : Cert.quiescent_AdamInReferenceIdeal := fun m ρ _ =>
  (θ_run Cert.AdamInReferenceIdeal.defs _ _).mono (fun r h => ⟨fun c => (h c).2.2.2, Idealize.ShloMosaic.sem_eq_zero_of_no_sems (by decide) r.2⟩)
    (Cert.AdamInReferenceIdeal.Value.run (F := Ideal) m ρ)

/-- The same of the reference of the convolution weight's optimiser step. -/
theorem frame_adamConv : Cert.quiescent_AdamConvReferenceIdeal := fun m ρ _ =>
  (θ_run Cert.AdamConvReferenceIdeal.defs _ _).mono (fun r h => ⟨fun c => (h c).2.2.2, Idealize.ShloMosaic.sem_eq_zero_of_no_sems (by decide) r.2⟩)
    (Cert.AdamConvReferenceIdeal.Value.run (F := Ideal) m ρ)

/-- The same of the reference of an output weight's optimiser step. -/
theorem frame_adamProj : Cert.quiescent_AdamProjReferenceIdeal := fun m ρ _ =>
  (θ_run Cert.AdamProjReferenceIdeal.defs _ _).mono (fun r h => ⟨fun c => (h c).2.2.2, Idealize.ShloMosaic.sem_eq_zero_of_no_sems (by decide) r.2⟩)
    (Cert.AdamProjReferenceIdeal.Value.run (F := Ideal) m ρ)

/-- The same of the reference of the optimiser step of the packed small parameters. -/
theorem frame_adamSmall : Cert.quiescent_AdamSmallReferenceIdeal := fun m ρ _ =>
  (θ_run Cert.AdamSmallReferenceIdeal.defs _ _).mono (fun r h => ⟨fun c => (h c).2.2.2, Idealize.ShloMosaic.sem_eq_zero_of_no_sems (by decide) r.2⟩)
    (Cert.AdamSmallReferenceIdeal.Value.run (F := Ideal) m ρ)

/-- The same of the reference of the input projection's last columns. -/
theorem frame_small : Cert.quiescent_SmallReferenceIdeal := fun m ρ _ =>
  (θ_run Cert.SmallReferenceIdeal.defs _ _).mono (fun r h => ⟨fun c => (h c).2, Idealize.ShloMosaic.sem_eq_zero_of_no_sems (by decide) r.2⟩)
    (Cert.SmallReferenceIdeal.Value.run (F := Ideal) m ρ)

/-- The same of the reference of the gradient of the input weight's last columns. -/
theorem frame_dwSmall : Cert.quiescent_DwSmallReferenceIdeal := fun m ρ _ =>
  (θ_run Cert.DwSmallReferenceIdeal.defs _ _).mono (fun r h => ⟨fun c => (h c).2, Idealize.ShloMosaic.sem_eq_zero_of_no_sems (by decide) r.2⟩)
    (Cert.DwSmallReferenceIdeal.Value.run (F := Ideal) m ρ)

/-- The same of the reference of the sum of the packs. -/
theorem frame_sum : Cert.quiescent_SumReferenceIdeal := fun m ρ _ =>
  (θ_run Cert.SumReferenceIdeal.defs _ _).mono (fun r h => ⟨fun c => (h c).2, Idealize.ShloMosaic.sem_eq_zero_of_no_sems (by decide) r.2⟩)
    (Cert.SumReferenceIdeal.Value.run (F := Ideal) m ρ)

/-- The same of the reference of the modulation weight's gradient. -/
theorem frame_dwAda : Cert.quiescent_DwAdaReferenceIdeal := fun m ρ _ =>
  (θ_run Cert.DwAdaReferenceIdeal.defs _ _).mono (fun r h => ⟨fun c => (h c).2, Idealize.ShloMosaic.sem_eq_zero_of_no_sems (by decide) r.2⟩)
    (Cert.DwAdaReferenceIdeal.Value.run (F := Ideal) m ρ)

/-- The same of the reference of the adaptive norm. -/
theorem frame_norm : Cert.quiescent_NormReferenceIdeal := fun m ρ _ =>
  (θ_run Cert.NormReferenceIdeal.defs _ _).mono (fun r h => ⟨fun c => (h c).2, Idealize.ShloMosaic.sem_eq_zero_of_no_sems (by decide) r.2⟩)
    (Cert.NormReferenceIdeal.Value.run (F := Ideal) m ρ)

/-- The same of the reference of the convolution. -/
theorem frame_convFwd : Cert.quiescent_ConvFwdReferenceIdeal := fun m ρ _ =>
  (θ_run Cert.ConvFwdReferenceIdeal.defs _ _).mono (fun r h => ⟨fun c => (h c).2, Idealize.ShloMosaic.sem_eq_zero_of_no_sems (by decide) r.2⟩)
    (Cert.ConvFwdReferenceIdeal.Value.run (F := Ideal) m ρ)

/-- The frame of the reference of the modulation. -/
theorem frame_mod : Cert.quiescent_ModReferenceIdeal := fun m ρ _ =>
  (θ_run Cert.ModReferenceIdeal.defs _ _).mono (fun r h => ⟨fun c => (h c).2, Idealize.ShloMosaic.sem_eq_zero_of_no_sems (by decide) r.2⟩)
    (Cert.ModReferenceIdeal.Value.run (F := Ideal) m ρ)

/-- The frame of the reference of the merge. -/
theorem frame_merge : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

/-- The frame of the reference of the merge's gradient. -/
theorem frame_mergeBwd : Cert.quiescent_MergeBwdReferenceIdeal := fun m ρ _ =>
  (θ_run Cert.MergeBwdReferenceIdeal.defs _ _).mono (fun r h => ⟨fun c => (h c).2.2.2.2, Idealize.ShloMosaic.sem_eq_zero_of_no_sems (by decide) r.2⟩)
    (Cert.MergeBwdReferenceIdeal.Value.run (F := Ideal) m ρ)

/-- The frame of the reference of the loss and its gradients. -/
theorem frame_loss : Cert.quiescent_LossReferenceIdeal := fun m ρ _ =>
  (θ_run Cert.LossReferenceIdeal.defs _ _).mono (fun r h => ⟨fun c => (h c).2.2.2.2.2, Idealize.ShloMosaic.sem_eq_zero_of_no_sems (by decide) r.2⟩)
    (Cert.LossReferenceIdeal.Value.run (F := Ideal) m ρ)

/-- Over the reals, at finite arguments, the kernel's three gradients are the reference's. -/
theorem values : Cert.algebraic_KernelIdeal_ReferenceIdeal_pre_finite := fun m g m' g' hpre hm =>
  Cert.Agree.scale_real.elim fun _ hs =>
    ⟨fun c => Cert.KernelIdeal.Value.G5 m c, fun c => Cert.KernelIdeal.Value.G6 m c, fun c => Cert.KernelIdeal.Value.G7 m c,
      Cert.KernelIdeal.Value.run m g,
      (θ_run Cert.ReferenceIdeal.defs _ _).mono (fun r h c =>
        have H := Cert.Agree.found hs _ _ (hpre c).1 (hpre c).2
        ⟨(h c).1.trans ((Cert.ReferenceIdeal.Read.val_main_v56_eq m' c).trans (by rw [(hm c).1, (hm c).2]; exact Cert.Agree.dq_eq H)),
          (h c).2.1.trans ((Cert.ReferenceIdeal.Read.val_main_v57_eq m' c).trans (by rw [(hm c).1, (hm c).2]; exact Cert.Agree.dk_eq H)),
          (h c).2.2.1.trans ((Cert.ReferenceIdeal.Read.val_main_v58_eq m' c).trans (by rw [(hm c).1, (hm c).2]; exact Cert.Agree.dv_eq H)),
          (h c).2.2.2⟩)
        (Cert.ReferenceIdeal.Value.run (F := Ideal) m' g')⟩

/-- All that is claimed. -/
theorem claim : Cert.Claim := ⟨Cert.Kernel.Gen.facts, Cert.KernelIdeal.Gen.facts, Cert.ReferenceIdeal.Gen.facts,
  Cert.DxKernel.Gen.facts, Cert.DxKernelIdeal.Gen.facts, Cert.DxReferenceIdeal.Gen.facts,
  Cert.DwKernel.Gen.facts, Cert.DwKernelIdeal.Gen.facts, Cert.DwReferenceIdeal.Gen.facts,
  Cert.DhKernel.Gen.facts, Cert.DhKernelIdeal.Gen.facts, Cert.DhReferenceIdeal.Gen.facts,
  Cert.DwWideKernel.Gen.facts, Cert.DwWideKernelIdeal.Gen.facts, Cert.DwWideReferenceIdeal.Gen.facts,
  Cert.YKernel.Gen.facts, Cert.YKernelIdeal.Gen.facts, Cert.YReferenceIdeal.Gen.facts,
  Cert.BigKernel.Gen.facts, Cert.BigKernelIdeal.Gen.facts, Cert.BigReferenceIdeal.Gen.facts,
  Cert.FwdKernel.Gen.facts, Cert.FwdKernelIdeal.Gen.facts, Cert.FwdReferenceIdeal.Gen.facts,
  Cert.AdaKernel.Gen.facts, Cert.AdaKernelIdeal.Gen.facts, Cert.AdaReferenceIdeal.Gen.facts,
  Cert.ConvKernel.Gen.facts, Cert.ConvKernelIdeal.Gen.facts, Cert.ConvReferenceIdeal.Gen.facts,
  Cert.AdamAdaKernel.Gen.facts, Cert.AdamAdaKernelIdeal.Gen.facts, Cert.AdamAdaReferenceIdeal.Gen.facts,
  Cert.AdamInKernel.Gen.facts, Cert.AdamInKernelIdeal.Gen.facts, Cert.AdamInReferenceIdeal.Gen.facts,
  Cert.AdamConvKernel.Gen.facts, Cert.AdamConvKernelIdeal.Gen.facts, Cert.AdamConvReferenceIdeal.Gen.facts,
  Cert.AdamProjKernel.Gen.facts, Cert.AdamProjKernelIdeal.Gen.facts, Cert.AdamProjReferenceIdeal.Gen.facts,
  Cert.AdamSmallKernel.Gen.facts, Cert.AdamSmallKernelIdeal.Gen.facts, Cert.AdamSmallReferenceIdeal.Gen.facts,
  Cert.SmallKernel.Gen.facts, Cert.SmallKernelIdeal.Gen.facts, Cert.SmallReferenceIdeal.Gen.facts,
  Cert.DwSmallKernel.Gen.facts, Cert.DwSmallKernelIdeal.Gen.facts, Cert.DwSmallReferenceIdeal.Gen.facts,
  Cert.SumKernel.Gen.facts, Cert.SumKernelIdeal.Gen.facts, Cert.SumReferenceIdeal.Gen.facts,
  Cert.DwAdaKernel.Gen.facts, Cert.DwAdaKernelIdeal.Gen.facts, Cert.DwAdaReferenceIdeal.Gen.facts,
  Cert.NormKernel.Gen.facts, Cert.NormKernelIdeal.Gen.facts, Cert.NormReferenceIdeal.Gen.facts,
  Cert.ConvFwdKernel.Gen.facts, Cert.ConvFwdKernelIdeal.Gen.facts, Cert.ConvFwdReferenceIdeal.Gen.facts,
  Cert.ModKernel.Gen.facts, Cert.ModKernelIdeal.Gen.facts, Cert.ModReferenceIdeal.Gen.facts,
  Cert.MergeKernel.Gen.facts, Cert.MergeKernelIdeal.Gen.facts, Cert.MergeReferenceIdeal.Gen.facts,
  Cert.MergeBwdKernel.Gen.facts, Cert.MergeBwdKernelIdeal.Gen.facts, Cert.MergeBwdReferenceIdeal.Gen.facts,
  Cert.LossKernel.Gen.facts, Cert.LossKernelIdeal.Gen.facts, Cert.LossReferenceIdeal.Gen.facts,
  Cert.Agree.pre_facts, Cert.FwdKernelIdeal.Sb.pre_facts, Cert.MergeBwdKernelIdeal.Merge.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.DxKernel.Gen.frame m ρ, fun m ρ _ => Cert.DxKernelIdeal.Gen.frame m ρ, frame_dx,
  fun m ρ _ => Cert.DwKernel.Gen.frame m ρ, fun m ρ _ => Cert.DwKernelIdeal.Gen.frame m ρ, frame_dw,
  fun m ρ _ => Cert.DhKernel.Gen.frame m ρ, fun m ρ _ => Cert.DhKernelIdeal.Gen.frame m ρ, frame_dh,
  fun m ρ _ => Cert.DwWideKernel.Gen.frame m ρ, fun m ρ _ => Cert.DwWideKernelIdeal.Gen.frame m ρ, frame_dwWide,
  fun m ρ _ => Cert.YKernel.Gen.frame m ρ, fun m ρ _ => Cert.YKernelIdeal.Gen.frame m ρ, frame_y,
  fun m ρ _ => Cert.BigKernel.Gen.frame m ρ, fun m ρ _ => Cert.BigKernelIdeal.Gen.frame m ρ, frame_big,
  fun m ρ _ => Cert.FwdKernel.Gen.frame m ρ, fun m ρ _ => Cert.FwdKernelIdeal.Gen.frame m ρ, fun m ρ _ => Cert.FwdKernelIdeal.Gen.frame m ρ,
  frame_fwd, fun m ρ _ => frame_fwd m ρ trivial,
  fun m ρ _ => Cert.AdaKernel.Gen.frame m ρ, fun m ρ _ => Cert.AdaKernelIdeal.Gen.frame m ρ, frame_ada,
  fun m ρ _ => Cert.ConvKernel.Gen.frame m ρ, fun m ρ _ => Cert.ConvKernelIdeal.Gen.frame m ρ, frame_conv,
  fun m ρ _ => Cert.AdamAdaKernel.Gen.frame m ρ, fun m ρ _ => Cert.AdamAdaKernelIdeal.Gen.frame m ρ, frame_adamAda,
  fun m ρ _ => Cert.AdamInKernel.Gen.frame m ρ, fun m ρ _ => Cert.AdamInKernelIdeal.Gen.frame m ρ, frame_adamIn,
  fun m ρ _ => Cert.AdamConvKernel.Gen.frame m ρ, fun m ρ _ => Cert.AdamConvKernelIdeal.Gen.frame m ρ, frame_adamConv,
  fun m ρ _ => Cert.AdamProjKernel.Gen.frame m ρ, fun m ρ _ => Cert.AdamProjKernelIdeal.Gen.frame m ρ, frame_adamProj,
  fun m ρ _ => Cert.AdamSmallKernel.Gen.frame m ρ, fun m ρ _ => Cert.AdamSmallKernelIdeal.Gen.frame m ρ, frame_adamSmall,
  fun m ρ _ => Cert.SmallKernel.Gen.frame m ρ, fun m ρ _ => Cert.SmallKernelIdeal.Gen.frame m ρ, frame_small,
  fun m ρ _ => Cert.DwSmallKernel.Gen.frame m ρ, fun m ρ _ => Cert.DwSmallKernelIdeal.Gen.frame m ρ, frame_dwSmall,
  fun m ρ _ => Cert.SumKernel.Gen.frame m ρ, fun m ρ _ => Cert.SumKernelIdeal.Gen.frame m ρ, frame_sum,
  fun m ρ _ => Cert.DwAdaKernel.Gen.frame m ρ, fun m ρ _ => Cert.DwAdaKernelIdeal.Gen.frame m ρ, frame_dwAda,
  fun m ρ _ => Cert.NormKernel.Gen.frame m ρ, fun m ρ _ => Cert.NormKernelIdeal.Gen.frame m ρ, frame_norm,
  fun m ρ _ => Cert.ConvFwdKernel.Gen.frame m ρ, fun m ρ _ => Cert.ConvFwdKernelIdeal.Gen.frame m ρ, frame_convFwd,
  fun m ρ _ => Cert.ModKernel.Gen.frame m ρ, fun m ρ _ => Cert.ModKernelIdeal.Gen.frame m ρ, frame_mod,
  fun m ρ _ => Cert.MergeKernel.Gen.frame m ρ, fun m ρ _ => Cert.MergeKernelIdeal.Gen.frame m ρ, frame_merge,
  fun m ρ _ => Cert.MergeBwdKernel.Gen.frame m ρ, fun m ρ _ => Cert.MergeBwdKernelIdeal.Gen.frame m ρ, fun m ρ _ => Cert.MergeBwdKernelIdeal.Gen.frame m ρ,
  frame_mergeBwd, fun m ρ _ => frame_mergeBwd m ρ trivial,
  fun m ρ _ => Cert.LossKernel.Gen.frame m ρ, fun m ρ _ => Cert.LossKernelIdeal.Gen.frame m ρ, frame_loss,
  trivial, values,
  trivial, Cert.DxKernelIdeal.Mm.values,
  trivial, Cert.DwKernelIdeal.Mm.values,
  trivial, Cert.DhKernelIdeal.Mm.values,
  trivial, Cert.DwWideKernelIdeal.Mm.values,
  trivial, Cert.YKernelIdeal.Mm.values,
  trivial, Cert.BigKernelIdeal.Mm.values,
  trivial, @Cert.FwdKernelIdeal.Sb.values Cert.FwdKernelIdeal.Sb.pre_facts,
  trivial, Cert.AdaKernelIdeal.Norm.values,
  trivial, Cert.ConvKernelIdeal.Conv.values,
  trivial, Cert.Adam.values_ada,
  trivial, Cert.Adam.values_in,
  trivial, Cert.Adam.values_conv,
  trivial, Cert.Adam.values_proj,
  trivial, Cert.Adam.values_small,
  trivial, Cert.SmallKernelIdeal.Mm.values,
  trivial, Cert.DwSmallKernelIdeal.Mm.values,
  trivial, Cert.SumKernelIdeal.Packs.values,
  trivial, Cert.DwAdaKernelIdeal.Mm.values,
  trivial, Cert.NormKernelIdeal.Norm.values,
  trivial, Cert.ConvFwdKernelIdeal.Conv.values,
  trivial, Cert.ModKernelIdeal.Modulation.values,
  trivial, Cert.MergeKernelIdeal.Merge.values,
  trivial, @Cert.MergeBwdKernelIdeal.Merge.values Cert.MergeBwdKernelIdeal.Merge.pre_facts,
  trivial, Cert.LossKernelIdeal.Head.values⟩

end Cert.Proof

end
